-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qkv [hPre_finite_qkv : Cert.Pre_finite_qkv.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qkv.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qkv [hPre_finite_qkv : Cert.Pre_finite_qkv.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qkv.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_mla_finite [hPre_mla_finite : Cert.Pre_mla_finite.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_mla_finite.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_mla_finite [hPre_mla_finite : Cert.Pre_mla_finite.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_mla_finite.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_mla_finite_rows [hPre_mla_finite_rows : Cert.Pre_mla_finite_rows.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_mla_finite_rows.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_mla_finite_rows [hPre_mla_finite_rows : Cert.Pre_mla_finite_rows.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_mla_finite_rows.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qkv [hKernel2Ideal : Cert.Kernel2Ideal.Facts] [hPre_finite_qkv : Cert.Pre_finite_qkv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qkv m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qkv [hReference2Ideal : Cert.Reference2Ideal.Facts] [hPre_finite_qkv : Cert.Pre_finite_qkv.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qkv m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Kernel27Ideal_pre_mla_finite [hKernel27Ideal : Cert.Kernel27Ideal.Facts] [hPre_mla_finite : Cert.Pre_mla_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_mla_finite m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Reference27Ideal_pre_mla_finite [hReference27Ideal : Cert.Reference27Ideal.Facts] [hPre_mla_finite : Cert.Pre_mla_finite.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_mla_finite m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_mla_finite_rows [hKernel28Ideal : Cert.Kernel28Ideal.Facts] [hPre_mla_finite_rows : Cert.Pre_mla_finite_rows.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_mla_finite_rows m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_mla_finite_rows [hReference28Ideal : Cert.Reference28Ideal.Facts] [hPre_mla_finite_rows : Cert.Pre_mla_finite_rows.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_mla_finite_rows m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1))
      ∧ r.2.sem = fun _ => 0)

def preserves_Kernel_KernelIdeal : Prop :=
  IdealRules.named_const.Statement Cert.KernelIdeal.κ "log2e_scale" .f32 0x3E38AA3B#32 (((Real.log 2)⁻¹ * 8⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "log2e_scale" .f32 0x3E38AA3B#32 (((Real.log 2)⁻¹ * 8⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite_qkv [hKernel2Ideal : Cert.Kernel2Ideal.Facts] [hReference2Ideal : Cert.Reference2Ideal.Facts] [hPre_finite_qkv : Cert.Pre_finite_qkv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qkv m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)) (v3 : (c : Dev Cert.Kernel15Ideal.nD) → Buf (Elt Ideal) ((c.tc : Thread Cert.Kernel15Ideal.nD Cert.Kernel15Ideal.τ).loc Cert.Kernel15Ideal.main_v5_3)) (v4 : (c : Dev Cert.Kernel15Ideal.nD) → Buf (Elt Ideal) ((c.tc : Thread Cert.Kernel15Ideal.nD Cert.Kernel15Ideal.τ).loc Cert.Kernel15Ideal.main_v5_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_v5_2) = v2 c
          ∧ r.2.mem ((c.tc : Thread Cert.Kernel15Ideal.nD Cert.Kernel15Ideal.τ).loc Cert.Kernel15Ideal.main_v5_3) = v3 c
          ∧ r.2.mem ((c.tc : Thread Cert.Kernel15Ideal.nD Cert.Kernel15Ideal.τ).loc Cert.Kernel15Ideal.main_v5_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v6) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v8) = v3 c
          ∧ r.2.mem ((c.tc : Thread Cert.Reference15Ideal.nD Cert.Reference15Ideal.τ).loc Cert.Reference15Ideal.main_v9) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)) (v3 : (c : Dev Cert.Kernel17Ideal.nD) → Buf (Elt Ideal) ((c.tc : Thread Cert.Kernel17Ideal.nD Cert.Kernel17Ideal.τ).loc Cert.Kernel17Ideal.main_v5_3)) (v4 : (c : Dev Cert.Kernel17Ideal.nD) → Buf (Elt Ideal) ((c.tc : Thread Cert.Kernel17Ideal.nD Cert.Kernel17Ideal.τ).loc Cert.Kernel17Ideal.main_v5_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_v5_3) = v3 c
          ∧ r.2.mem ((c.tc : Thread Cert.Kernel17Ideal.nD Cert.Kernel17Ideal.τ).loc Cert.Kernel17Ideal.main_v5_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_v19) = v3 c
          ∧ r.2.mem ((c.tc : Thread Cert.Reference17Ideal.nD Cert.Reference17Ideal.τ).loc Cert.Reference17Ideal.main_v20) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)) (v4 : (c : Dev Cert.Kernel18Ideal.nD) → Buf (Elt Ideal) ((c.tc : Thread Cert.Kernel18Ideal.nD Cert.Kernel18Ideal.τ).loc Cert.Kernel18Ideal.main_v6_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_v6_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_v6) = v1 c
          ∧ r.2.mem ((c.tc : Thread Cert.Reference18Ideal.nD Cert.Reference18Ideal.τ).loc Cert.Reference18Ideal.main_v12) = v2 c
          ∧ r.2.mem ((c.tc : Thread Cert.Reference18Ideal.nD Cert.Reference18Ideal.τ).loc Cert.Reference18Ideal.main_v8) = v3 c
          ∧ r.2.mem ((c.tc : Thread Cert.Reference18Ideal.nD Cert.Reference18Ideal.τ).loc Cert.Reference18Ideal.main_v9) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)) (v4 : (c : Dev Cert.Kernel20Ideal.nD) → Buf (Elt Ideal) ((c.tc : Thread Cert.Kernel20Ideal.nD Cert.Kernel20Ideal.τ).loc Cert.Kernel20Ideal.main_v5_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_v5_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v16) = v0 c
          ∧ r.2.mem ((c.tc : Thread Cert.Reference20Ideal.nD Cert.Reference20Ideal.τ).loc Cert.Reference20Ideal.main_v17) = v1 c
          ∧ r.2.mem ((c.tc : Thread Cert.Reference20Ideal.nD Cert.Reference20Ideal.τ).loc Cert.Reference20Ideal.main_v18) = v2 c
          ∧ r.2.mem ((c.tc : Thread Cert.Reference20Ideal.nD Cert.Reference20Ideal.τ).loc Cert.Reference20Ideal.main_v19) = v3 c
          ∧ r.2.mem ((c.tc : Thread Cert.Reference20Ideal.nD Cert.Reference20Ideal.τ).loc Cert.Reference20Ideal.main_v20) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_v10) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v2_0)) (v1 : (c : Dev Cert.Kernel23Ideal.nD) → Buf (Elt Ideal) ((c.tc : Thread Cert.Kernel23Ideal.nD Cert.Kernel23Ideal.τ).loc Cert.Kernel23Ideal.main_v2_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2_0) = v0 c
          ∧ r.2.mem ((c.tc : Thread Cert.Kernel23Ideal.nD Cert.Kernel23Ideal.τ).loc Cert.Kernel23Ideal.main_v2_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_v10) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2_0)) (v1 : (c : Dev Cert.Kernel25Ideal.nD) → Buf (Elt Ideal) ((c.tc : Thread Cert.Kernel25Ideal.nD Cert.Kernel25Ideal.τ).loc Cert.Kernel25Ideal.main_v2_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2_0) = v0 c
          ∧ r.2.mem ((c.tc : Thread Cert.Kernel25Ideal.nD Cert.Kernel25Ideal.τ).loc Cert.Kernel25Ideal.main_v2_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_v10) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v2_0)) (v1 : (c : Dev Cert.Kernel26Ideal.nD) → Buf (Elt Ideal) ((c.tc : Thread Cert.Kernel26Ideal.nD Cert.Kernel26Ideal.τ).loc Cert.Kernel26Ideal.main_v2_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2_0) = v0 c
          ∧ r.2.mem ((c.tc : Thread Cert.Kernel26Ideal.nD Cert.Kernel26Ideal.τ).loc Cert.Kernel26Ideal.main_v2_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_v10) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "log2e_scale96" .f32 0x3E16C740#32 (((Real.log 2)⁻¹ * (3424635 * 33554432⁻¹) : ℝ) : EReal)
  ∧ IdealRules.named_const.Statement Cert.Kernel27Ideal.κ "ln2" .f32 0x3F317218#32 ((Real.log 2 : ℝ) : EReal)

def algebraic_Kernel27Ideal_Reference27Ideal_pre_mla_finite [hKernel27Ideal : Cert.Kernel27Ideal.Facts] [hReference27Ideal : Cert.Reference27Ideal.Facts] [hPre_mla_finite : Cert.Pre_mla_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_mla_finite m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v37_0)) (v1 : (c : Dev Cert.Kernel27Ideal.nD) → Buf (Elt Ideal) ((c.tc : Thread Cert.Kernel27Ideal.nD Cert.Kernel27Ideal.τ).loc Cert.Kernel27Ideal.main_v37_1)) (v2 : (c : Dev Cert.Kernel27Ideal.nD) → Buf (Elt Ideal) ((c.tc : Thread Cert.Kernel27Ideal.nD Cert.Kernel27Ideal.τ).loc Cert.Kernel27Ideal.main_v37_2)) (v3 : (c : Dev Cert.Kernel27Ideal.nD) → Buf (Elt Ideal) ((c.tc : Thread Cert.Kernel27Ideal.nD Cert.Kernel27Ideal.τ).loc Cert.Kernel27Ideal.main_v37_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v37_0) = v0 c
          ∧ r.2.mem ((c.tc : Thread Cert.Kernel27Ideal.nD Cert.Kernel27Ideal.τ).loc Cert.Kernel27Ideal.main_v37_1) = v1 c
          ∧ r.2.mem ((c.tc : Thread Cert.Kernel27Ideal.nD Cert.Kernel27Ideal.τ).loc Cert.Kernel27Ideal.main_v37_2) = v2 c
          ∧ r.2.mem ((c.tc : Thread Cert.Kernel27Ideal.nD Cert.Kernel27Ideal.τ).loc Cert.Kernel27Ideal.main_v37_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v88) = v0 c
          ∧ r.2.mem ((c.tc : Thread Cert.Reference27Ideal.nD Cert.Reference27Ideal.τ).loc Cert.Reference27Ideal.main_v87) = v1 c
          ∧ r.2.mem ((c.tc : Thread Cert.Reference27Ideal.nD Cert.Reference27Ideal.τ).loc Cert.Reference27Ideal.main_v86) = v2 c
          ∧ r.2.mem ((c.tc : Thread Cert.Reference27Ideal.nD Cert.Reference27Ideal.τ).loc Cert.Reference27Ideal.main_v85) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  IdealRules.named_const.Statement Cert.Kernel28Ideal.κ "log2e_scale96" .f32 0x3E16C740#32 (((Real.log 2)⁻¹ * (3424635 * 33554432⁻¹) : ℝ) : EReal)
  ∧ IdealRules.named_const.Statement Cert.Kernel28Ideal.κ "log2e" .f32 0x3FB8AA3B#32 (((Real.log 2)⁻¹ : ℝ) : EReal)

def algebraic_Kernel28Ideal_Reference28Ideal_pre_mla_finite_rows [hKernel28Ideal : Cert.Kernel28Ideal.Facts] [hReference28Ideal : Cert.Reference28Ideal.Facts] [hPre_mla_finite_rows : Cert.Pre_mla_finite_rows.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_mla_finite_rows m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v30) = v0 c
          ∧ r.2.mem ((c.tc : Thread Cert.Reference28Ideal.nD Cert.Reference28Ideal.τ).loc Cert.Reference28Ideal.main_v36) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v7_0)) (v1 : (c : Dev Cert.Kernel32Ideal.nD) → Buf (Elt Ideal) ((c.tc : Thread Cert.Kernel32Ideal.nD Cert.Kernel32Ideal.τ).loc Cert.Kernel32Ideal.main_v7_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v7_0) = v0 c
          ∧ r.2.mem ((c.tc : Thread Cert.Kernel32Ideal.nD Cert.Kernel32Ideal.τ).loc Cert.Kernel32Ideal.main_v7_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v10) = v0 c
          ∧ r.2.mem ((c.tc : Thread Cert.Reference32Ideal.nD Cert.Reference32Ideal.τ).loc Cert.Reference32Ideal.main_v13) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v7)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v7) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v27) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v17) = v0 c
          ∧ r.2.mem ((c.tc : Thread Cert.Reference34Ideal.nD Cert.Reference34Ideal.τ).loc Cert.Reference34Ideal.main_v18) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v24) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v4_0)) (v1 : (c : Dev Cert.Kernel40Ideal.nD) → Buf (Elt Ideal) ((c.tc : Thread Cert.Kernel40Ideal.nD Cert.Kernel40Ideal.τ).loc Cert.Kernel40Ideal.main_v4_1)) (v2 : (c : Dev Cert.Kernel40Ideal.nD) → Buf (Elt Ideal) ((c.tc : Thread Cert.Kernel40Ideal.nD Cert.Kernel40Ideal.τ).loc Cert.Kernel40Ideal.main_v4_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v4_0) = v0 c
          ∧ r.2.mem ((c.tc : Thread Cert.Kernel40Ideal.nD Cert.Kernel40Ideal.τ).loc Cert.Kernel40Ideal.main_v4_1) = v1 c
          ∧ r.2.mem ((c.tc : Thread Cert.Kernel40Ideal.nD Cert.Kernel40Ideal.τ).loc Cert.Kernel40Ideal.main_v4_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v24) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v26) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v4_0)) (v1 : (c : Dev Cert.Kernel41Ideal.nD) → Buf (Elt Ideal) ((c.tc : Thread Cert.Kernel41Ideal.nD Cert.Kernel41Ideal.τ).loc Cert.Kernel41Ideal.main_v4_1)) (v2 : (c : Dev Cert.Kernel41Ideal.nD) → Buf (Elt Ideal) ((c.tc : Thread Cert.Kernel41Ideal.nD Cert.Kernel41Ideal.τ).loc Cert.Kernel41Ideal.main_v4_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v4_0) = v0 c
          ∧ r.2.mem ((c.tc : Thread Cert.Kernel41Ideal.nD Cert.Kernel41Ideal.τ).loc Cert.Kernel41Ideal.main_v4_1) = v1 c
          ∧ r.2.mem ((c.tc : Thread Cert.Kernel41Ideal.nD Cert.Kernel41Ideal.τ).loc Cert.Kernel41Ideal.main_v4_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v24) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v26) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v4_0)) (v1 : (c : Dev Cert.Kernel42Ideal.nD) → Buf (Elt Ideal) ((c.tc : Thread Cert.Kernel42Ideal.nD Cert.Kernel42Ideal.τ).loc Cert.Kernel42Ideal.main_v4_1)) (v2 : (c : Dev Cert.Kernel42Ideal.nD) → Buf (Elt Ideal) ((c.tc : Thread Cert.Kernel42Ideal.nD Cert.Kernel42Ideal.τ).loc Cert.Kernel42Ideal.main_v4_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v4_0) = v0 c
          ∧ r.2.mem ((c.tc : Thread Cert.Kernel42Ideal.nD Cert.Kernel42Ideal.τ).loc Cert.Kernel42Ideal.main_v4_1) = v1 c
          ∧ r.2.mem ((c.tc : Thread Cert.Kernel42Ideal.nD Cert.Kernel42Ideal.τ).loc Cert.Kernel42Ideal.main_v4_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v24) = v0 c
          ∧ r.2.mem ((c.tc : Thread Cert.Reference42Ideal.nD Cert.Reference42Ideal.τ).loc Cert.Reference42Ideal.main_v25) = v1 c
          ∧ r.2.mem ((c.tc : Thread Cert.Reference42Ideal.nD Cert.Reference42Ideal.τ).loc Cert.Reference42Ideal.main_v26) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v23) = v0 c
          ∧ r.2.mem ((c.tc : Thread Cert.Reference43Ideal.nD Cert.Reference43Ideal.τ).loc Cert.Reference43Ideal.main_v4) = v1 c
          ∧ r.2.mem ((c.tc : Thread Cert.Reference43Ideal.nD Cert.Reference43Ideal.τ).loc Cert.Reference43Ideal.main_v10) = v2 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v4_0)) (v1 : (c : Dev Cert.Kernel44Ideal.nD) → Buf (Elt Ideal) ((c.tc : Thread Cert.Kernel44Ideal.nD Cert.Kernel44Ideal.τ).loc Cert.Kernel44Ideal.main_v4_1)) (v2 : (c : Dev Cert.Kernel44Ideal.nD) → Buf (Elt Ideal) ((c.tc : Thread Cert.Kernel44Ideal.nD Cert.Kernel44Ideal.τ).loc Cert.Kernel44Ideal.main_v4_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v4_0) = v0 c
          ∧ r.2.mem ((c.tc : Thread Cert.Kernel44Ideal.nD Cert.Kernel44Ideal.τ).loc Cert.Kernel44Ideal.main_v4_1) = v1 c
          ∧ r.2.mem ((c.tc : Thread Cert.Kernel44Ideal.nD Cert.Kernel44Ideal.τ).loc Cert.Kernel44Ideal.main_v4_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v24) = v0 c
          ∧ r.2.mem ((c.tc : Thread Cert.Reference44Ideal.nD Cert.Reference44Ideal.τ).loc Cert.Reference44Ideal.main_v25) = v1 c
          ∧ r.2.mem ((c.tc : Thread Cert.Reference44Ideal.nD Cert.Reference44Ideal.τ).loc Cert.Reference44Ideal.main_v26) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v4_0)) (v1 : (c : Dev Cert.Kernel45Ideal.nD) → Buf (Elt Ideal) ((c.tc : Thread Cert.Kernel45Ideal.nD Cert.Kernel45Ideal.τ).loc Cert.Kernel45Ideal.main_v4_1)) (v2 : (c : Dev Cert.Kernel45Ideal.nD) → Buf (Elt Ideal) ((c.tc : Thread Cert.Kernel45Ideal.nD Cert.Kernel45Ideal.τ).loc Cert.Kernel45Ideal.main_v4_2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v4_0) = v0 c
          ∧ r.2.mem ((c.tc : Thread Cert.Kernel45Ideal.nD Cert.Kernel45Ideal.τ).loc Cert.Kernel45Ideal.main_v4_1) = v1 c
          ∧ r.2.mem ((c.tc : Thread Cert.Kernel45Ideal.nD Cert.Kernel45Ideal.τ).loc Cert.Kernel45Ideal.main_v4_2) = v2 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v24) = v0 c
          ∧ r.2.mem ((c.tc : Thread Cert.Reference45Ideal.nD Cert.Reference45Ideal.τ).loc Cert.Reference45Ideal.main_v25) = v1 c
          ∧ r.2.mem ((c.tc : Thread Cert.Reference45Ideal.nD Cert.Reference45Ideal.τ).loc Cert.Reference45Ideal.main_v26) = v2 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v4_0)) (v1 : (c : Dev Cert.Kernel46Ideal.nD) → Buf (Elt Ideal) ((c.tc : Thread Cert.Kernel46Ideal.nD Cert.Kernel46Ideal.τ).loc Cert.Kernel46Ideal.main_v4_1)) (v2 : (c : Dev Cert.Kernel46Ideal.nD) → Buf (Elt Ideal) ((c.tc : Thread Cert.Kernel46Ideal.nD Cert.Kernel46Ideal.τ).loc Cert.Kernel46Ideal.main_v4_2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v4_0) = v0 c
          ∧ r.2.mem ((c.tc : Thread Cert.Kernel46Ideal.nD Cert.Kernel46Ideal.τ).loc Cert.Kernel46Ideal.main_v4_1) = v1 c
          ∧ r.2.mem ((c.tc : Thread Cert.Kernel46Ideal.nD Cert.Kernel46Ideal.τ).loc Cert.Kernel46Ideal.main_v4_2) = v2 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v24) = v0 c
          ∧ r.2.mem ((c.tc : Thread Cert.Reference46Ideal.nD Cert.Reference46Ideal.τ).loc Cert.Reference46Ideal.main_v25) = v1 c
          ∧ r.2.mem ((c.tc : Thread Cert.Reference46Ideal.nD Cert.Reference46Ideal.τ).loc Cert.Reference46Ideal.main_v26) = v2 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)) →
    ∃ (v0 : (c : Dev Cert.Kernel47Ideal.nD) → Buf (Elt Ideal) ((c.tc : Thread Cert.Kernel47Ideal.nD Cert.Kernel47Ideal.τ).loc Cert.Kernel47Ideal.main_v4_0)) (v1 : (c : Dev Cert.Kernel47Ideal.nD) → Buf (Elt Ideal) ((c.tc : Thread Cert.Kernel47Ideal.nD Cert.Kernel47Ideal.τ).loc Cert.Kernel47Ideal.main_v4_1)) (v2 : (c : Dev Cert.Kernel47Ideal.nD) → Buf (Elt Ideal) ((c.tc : Thread Cert.Kernel47Ideal.nD Cert.Kernel47Ideal.τ).loc Cert.Kernel47Ideal.main_v4_2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v4_0) = v0 c
          ∧ r.2.mem ((c.tc : Thread Cert.Kernel47Ideal.nD Cert.Kernel47Ideal.τ).loc Cert.Kernel47Ideal.main_v4_1) = v1 c
          ∧ r.2.mem ((c.tc : Thread Cert.Kernel47Ideal.nD Cert.Kernel47Ideal.τ).loc Cert.Kernel47Ideal.main_v4_2) = v2 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v24) = v0 c
          ∧ r.2.mem ((c.tc : Thread Cert.Reference47Ideal.nD Cert.Reference47Ideal.τ).loc Cert.Reference47Ideal.main_v25) = v1 c
          ∧ r.2.mem ((c.tc : Thread Cert.Reference47Ideal.nD Cert.Reference47Ideal.τ).loc Cert.Reference47Ideal.main_v26) = v2 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)) (v2 : (c : Dev Cert.Kernel48Ideal.nD) → Buf (Elt Ideal) ((c.tc : Thread Cert.Kernel48Ideal.nD Cert.Kernel48Ideal.τ).loc Cert.Kernel48Ideal.main_v0_2)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_v0_2) = v2 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v23) = v0 c
          ∧ r.2.mem ((c.tc : Thread Cert.Reference48Ideal.nD Cert.Reference48Ideal.τ).loc Cert.Reference48Ideal.main_v4) = v1 c
          ∧ r.2.mem ((c.tc : Thread Cert.Reference48Ideal.nD Cert.Reference48Ideal.τ).loc Cert.Reference48Ideal.main_v10) = v2 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v23) = v0 c
          ∧ r.2.mem ((c.tc : Thread Cert.Reference49Ideal.nD Cert.Reference49Ideal.τ).loc Cert.Reference49Ideal.main_v4) = v1 c
          ∧ r.2.mem ((c.tc : Thread Cert.Reference49Ideal.nD Cert.Reference49Ideal.τ).loc Cert.Reference49Ideal.main_v10) = v2 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)) →
    ∃ (v0 : (c : Dev Cert.Kernel50Ideal.nD) → Buf (Elt Ideal) ((c.tc : Thread Cert.Kernel50Ideal.nD Cert.Kernel50Ideal.τ).loc Cert.Kernel50Ideal.main_v4_0)) (v1 : (c : Dev Cert.Kernel50Ideal.nD) → Buf (Elt Ideal) ((c.tc : Thread Cert.Kernel50Ideal.nD Cert.Kernel50Ideal.τ).loc Cert.Kernel50Ideal.main_v4_1)) (v2 : (c : Dev Cert.Kernel50Ideal.nD) → Buf (Elt Ideal) ((c.tc : Thread Cert.Kernel50Ideal.nD Cert.Kernel50Ideal.τ).loc Cert.Kernel50Ideal.main_v4_2)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v4_0) = v0 c
          ∧ r.2.mem ((c.tc : Thread Cert.Kernel50Ideal.nD Cert.Kernel50Ideal.τ).loc Cert.Kernel50Ideal.main_v4_1) = v1 c
          ∧ r.2.mem ((c.tc : Thread Cert.Kernel50Ideal.nD Cert.Kernel50Ideal.τ).loc Cert.Kernel50Ideal.main_v4_2) = v2 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v24) = v0 c
          ∧ r.2.mem ((c.tc : Thread Cert.Reference50Ideal.nD Cert.Reference50Ideal.τ).loc Cert.Reference50Ideal.main_v25) = v1 c
          ∧ r.2.mem ((c.tc : Thread Cert.Reference50Ideal.nD Cert.Reference50Ideal.τ).loc Cert.Reference50Ideal.main_v26) = v2 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)) →
    ∃ (v0 : (c : Dev Cert.Kernel51Ideal.nD) → Buf (Elt Ideal) ((c.tc : Thread Cert.Kernel51Ideal.nD Cert.Kernel51Ideal.τ).loc Cert.Kernel51Ideal.main_v4_0)) (v1 : (c : Dev Cert.Kernel51Ideal.nD) → Buf (Elt Ideal) ((c.tc : Thread Cert.Kernel51Ideal.nD Cert.Kernel51Ideal.τ).loc Cert.Kernel51Ideal.main_v4_1)) (v2 : (c : Dev Cert.Kernel51Ideal.nD) → Buf (Elt Ideal) ((c.tc : Thread Cert.Kernel51Ideal.nD Cert.Kernel51Ideal.τ).loc Cert.Kernel51Ideal.main_v4_2)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v4_0) = v0 c
          ∧ r.2.mem ((c.tc : Thread Cert.Kernel51Ideal.nD Cert.Kernel51Ideal.τ).loc Cert.Kernel51Ideal.main_v4_1) = v1 c
          ∧ r.2.mem ((c.tc : Thread Cert.Kernel51Ideal.nD Cert.Kernel51Ideal.τ).loc Cert.Kernel51Ideal.main_v4_2) = v2 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v24) = v0 c
          ∧ r.2.mem ((c.tc : Thread Cert.Reference51Ideal.nD Cert.Reference51Ideal.τ).loc Cert.Reference51Ideal.main_v25) = v1 c
          ∧ r.2.mem ((c.tc : Thread Cert.Reference51Ideal.nD Cert.Reference51Ideal.τ).loc Cert.Reference51Ideal.main_v26) = v2 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)) →
    ∃ (v0 : (c : Dev Cert.Kernel52Ideal.nD) → Buf (Elt Ideal) ((c.tc : Thread Cert.Kernel52Ideal.nD Cert.Kernel52Ideal.τ).loc Cert.Kernel52Ideal.main_v4_0)) (v1 : (c : Dev Cert.Kernel52Ideal.nD) → Buf (Elt Ideal) ((c.tc : Thread Cert.Kernel52Ideal.nD Cert.Kernel52Ideal.τ).loc Cert.Kernel52Ideal.main_v4_1)) (v2 : (c : Dev Cert.Kernel52Ideal.nD) → Buf (Elt Ideal) ((c.tc : Thread Cert.Kernel52Ideal.nD Cert.Kernel52Ideal.τ).loc Cert.Kernel52Ideal.main_v4_2)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v4_0) = v0 c
          ∧ r.2.mem ((c.tc : Thread Cert.Kernel52Ideal.nD Cert.Kernel52Ideal.τ).loc Cert.Kernel52Ideal.main_v4_1) = v1 c
          ∧ r.2.mem ((c.tc : Thread Cert.Kernel52Ideal.nD Cert.Kernel52Ideal.τ).loc Cert.Kernel52Ideal.main_v4_2) = v2 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v24) = v0 c
          ∧ r.2.mem ((c.tc : Thread Cert.Reference52Ideal.nD Cert.Reference52Ideal.τ).loc Cert.Reference52Ideal.main_v25) = v1 c
          ∧ r.2.mem ((c.tc : Thread Cert.Reference52Ideal.nD Cert.Reference52Ideal.τ).loc Cert.Reference52Ideal.main_v26) = v2 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)) →
    ∃ (v0 : (c : Dev Cert.Kernel53Ideal.nD) → Buf (Elt Ideal) ((c.tc : Thread Cert.Kernel53Ideal.nD Cert.Kernel53Ideal.τ).loc Cert.Kernel53Ideal.main_v1)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v1) = v0 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v224) = v0 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)) →
    ∃ (v0 : (c : Dev Cert.Kernel54Ideal.nD) → Buf (Elt Ideal) ((c.tc : Thread Cert.Kernel54Ideal.nD Cert.Kernel54Ideal.τ).loc Cert.Kernel54Ideal.main_v6)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v6) = v0 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v354) = v0 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts) (hPre_finite : Cert.Pre_finite.Facts) (hPre_finite_qkv : Cert.Pre_finite_qkv.Facts) (hPre_mla_finite : Cert.Pre_mla_finite.Facts) (hPre_mla_finite_rows : Cert.Pre_mla_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_qkv (hKernel2Ideal := hKernel2Ideal) (hPre_finite_qkv := hPre_finite_qkv)
    ∧ quiescent_Reference2Ideal (hReference2Ideal := hReference2Ideal)
    ∧ quiescent_Reference2Ideal_pre_finite_qkv (hReference2Ideal := hReference2Ideal) (hPre_finite_qkv := hPre_finite_qkv)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_mla_finite (hKernel27Ideal := hKernel27Ideal) (hPre_mla_finite := hPre_mla_finite)
    ∧ quiescent_Reference27Ideal (hReference27Ideal := hReference27Ideal)
    ∧ quiescent_Reference27Ideal_pre_mla_finite (hReference27Ideal := hReference27Ideal) (hPre_mla_finite := hPre_mla_finite)
    ∧ quiescent_Kernel28 (hKernel28 := hKernel28)
    ∧ quiescent_Kernel28Ideal (hKernel28Ideal := hKernel28Ideal)
    ∧ quiescent_Kernel28Ideal_pre_mla_finite_rows (hKernel28Ideal := hKernel28Ideal) (hPre_mla_finite_rows := hPre_mla_finite_rows)
    ∧ quiescent_Reference28Ideal (hReference28Ideal := hReference28Ideal)
    ∧ quiescent_Reference28Ideal_pre_mla_finite_rows (hReference28Ideal := hReference28Ideal) (hPre_mla_finite_rows := hPre_mla_finite_rows)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_qkv (hKernel2Ideal := hKernel2Ideal) (hReference2Ideal := hReference2Ideal) (hPre_finite_qkv := hPre_finite_qkv)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_mla_finite (hKernel27Ideal := hKernel27Ideal) (hReference27Ideal := hReference27Ideal) (hPre_mla_finite := hPre_mla_finite)
    ∧ preserves_Kernel28_Kernel28Ideal
    ∧ algebraic_Kernel28Ideal_Reference28Ideal_pre_mla_finite_rows (hKernel28Ideal := hKernel28Ideal) (hReference28Ideal := hReference28Ideal) (hPre_mla_finite_rows := hPre_mla_finite_rows)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
-- ==== Pre_finite.lean ====
abbrev S2x2304x512 : Shape := ⟨3, ![2, 2304, 512]⟩
abbrev S2x2304x128 : Shape := ⟨3, ![2, 2304, 128]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S2x2304x128 : S_.BroadcastsInDim S2x2304x128 (![] : Fin 0 → Fin S2x2304x128.rank)
  reducesTo_S2x2304x128_S_d0_1_2 : S2x2304x128.ReducesTo [0, 1, 2] S_

variable [Facts]

def fn_part1 {F : FTy → Type} [FloatOps F] (main_v13 : IVec S_ 1) (main_v16 : IVec S2x2304x512 1) : IVec S_ 1 :=
  let main_c_5 : IVec S_ 1 := constantI S_ 1 1#1
  let main_v17 : IVec S_ 1 := (fun x v => Host.reduce IntOp.andi x v reducesTo_S2x2304x512_S_d0_1_2 h_S_) main_v16 main_c_5
  let main_v18 : IVec S_ 1 := andi main_v13 main_v17
  main_v18

def fn {F : FTy → Type} [FloatOps F] (main_arg0 : FVec F S2x2304x512 .bf16) (main_arg1 : FVec F S2x2304x128 .bf16) (main_arg2 : FVec F S2x2304x128 .bf16) (main_arg3 : FVec F S2x2304x512 .bf16) : IVec S_ 1 :=
  let main_v0 : FVec F S2x2304x512 .bf16 := Host.absf main_arg0
  let main_cst : FVec F S_ .bf16 := constant S_ .bf16 0x7F80#16
  let main_v1 : FVec F S2x2304x512 .bf16 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x128 .bf16 := Host.absf main_arg1
  let main_cst_0 : FVec F S_ .bf16 := constant S_ .bf16 0x7F80#16
  let main_v5 : FVec F S2x2304x128 .bf16 := broadcastInDim S2x2304x128 ![] bcast_S_S2x2304x128 main_cst_0
  let main_v6 : IVec S2x2304x128 1 := cmpf .olt main_v4 main_v5
  let main_c_1 : IVec S_ 1 := constantI S_ 1 1#1
  let main_v7 : IVec S_ 1 := (fun x v => Host.reduce IntOp.andi x v reducesTo_S2x2304x128_S_d0_1_2 h_S_) main_v6 main_c_1
  let main_v8 : IVec S_ 1 := andi main_v3 main_v7
  let main_v9 : FVec F S2x2304x128 .bf16 := Host.absf main_arg2
  let main_cst_2 : FVec F S_ .bf16 := constant S_ .bf16 0x7F80#16
  let main_v10 : FVec F S2x2304x128 .bf16 := broadcastInDim S2x2304x128 ![] bcast_S_S2x2304x128 main_cst_2
  let main_v11 : IVec S2x2304x128 1 := cmpf .olt main_v9 main_v10
  let main_c_3 : IVec S_ 1 := constantI S_ 1 1#1
  let main_v12 : IVec S_ 1 := (fun x v => Host.reduce IntOp.andi x v reducesTo_S2x2304x128_S_d0_1_2 h_S_) main_v11 main_c_3
  let main_v13 : IVec S_ 1 := andi main_v8 main_v12
  let main_v14 : FVec F S2x2304x512 .bf16 := Host.absf main_arg3
  let main_cst_4 : FVec F S_ .bf16 := constant S_ .bf16 0x7F80#16
  let main_v15 : FVec F S2x2304x512 .bf16 := broadcastInDim S2x2304x512 ![] bcast_S_S2x2304x512 main_cst_4
  let main_v16 : IVec S2x2304x512 1 := cmpf .olt main_v14 main_v15
  fn_part1 (F := F) main_v13 main_v16
-- ==== Pre_finite_qkv.lean ====
abbrev S2x2304x512 : Shape := ⟨3, ![2, 2304, 512]⟩
abbrev S2x2304x128 : Shape := ⟨3, ![2, 2304, 128]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S2x2304x128 : S_.BroadcastsInDim S2x2304x128 (![] : Fin 0 → Fin S2x2304x128.rank)
  reducesTo_S2x2304x128_S_d0_1_2 : S2x2304x128.ReducesTo [0, 1, 2] S_

variable [Facts]

def fn {F : FTy → Type} [FloatOps F] (main_arg0 : FVec F S2x2304x512 .bf16) (main_arg1 : FVec F S2x2304x128 .bf16) (main_arg2 : FVec F S2x2304x128 .bf16) : IVec S_ 1 :=
  let main_v0 : FVec F S2x2304x512 .bf16 := Host.absf main_arg0
  let main_cst : FVec F S_ .bf16 := constant S_ .bf16 0x7F80#16
  let main_v1 : FVec F S2x2304x512 .bf16 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x128 .bf16 := Host.absf main_arg1
  let main_cst_0 : FVec F S_ .bf16 := constant S_ .bf16 0x7F80#16
  let main_v5 : FVec F S2x2304x128 .bf16 := broadcastInDim S2x2304x128 ![] bcast_S_S2x2304x128 main_cst_0
  let main_v6 : IVec S2x2304x128 1 := cmpf .olt main_v4 main_v5
  let main_c_1 : IVec S_ 1 := constantI S_ 1 1#1
  let main_v7 : IVec S_ 1 := (fun x v => Host.reduce IntOp.andi x v reducesTo_S2x2304x128_S_d0_1_2 h_S_) main_v6 main_c_1
  let main_v8 : IVec S_ 1 := andi main_v3 main_v7
  let main_v9 : FVec F S2x2304x128 .bf16 := Host.absf main_arg2
  let main_cst_2 : FVec F S_ .bf16 := constant S_ .bf16 0x7F80#16
  let main_v10 : FVec F S2x2304x128 .bf16 := broadcastInDim S2x2304x128 ![] bcast_S_S2x2304x128 main_cst_2
  let main_v11 : IVec S2x2304x128 1 := cmpf .olt main_v9 main_v10
  let main_c_3 : IVec S_ 1 := constantI S_ 1 1#1
  let main_v12 : IVec S_ 1 := (fun x v => Host.reduce IntOp.andi x v reducesTo_S2x2304x128_S_d0_1_2 h_S_) main_v11 main_c_3
  let main_v13 : IVec S_ 1 := andi main_v8 main_v12
  main_v13
-- ==== Pre_mla_finite.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S2x2048x512 : Shape := ⟨3, ![2, 2048, 512]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2304x1024 : S_.BroadcastsInDim S2x2304x1024 (![] : Fin 0 → Fin S2x2304x1024.rank)
  reducesTo_S2x2304x1024_S_d0_1_2 : S2x2304x1024.ReducesTo [0, 1, 2] S_
  bcast_S_S2x2304x128 : S_.BroadcastsInDim S2x2304x128 (![] : Fin 0 → Fin S2x2304x128.rank)
  reducesTo_S2x2304x128_S_d0_1_2 : S2x2304x128.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_arg4 : FVec F S2x2048x512 .bf16) (main_v13 : IVec S_ 1) (main_v16 : IVec S2x2304x1024 1) : IVec S_ 1 :=
  let main_c_5 : IVec S_ 1 := constantI S_ 1 1#1
  let main_v17 : IVec S_ 1 := (fun x v => Host.reduce IntOp.andi x v reducesTo_S2x2304x1024_S_d0_1_2 h_S_) main_v16 main_c_5
  let main_v18 : IVec S_ 1 := andi main_v13 main_v17
  let main_v19 : FVec F S2x2048x512 .bf16 := Host.absf main_arg4
  let main_cst_6 : FVec F S_ .bf16 := constant S_ .bf16 0x7F80#16
  let main_v20 : FVec F S2x2048x512 .bf16 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  main_v23

def fn {F : FTy → Type} [FloatOps F] (main_arg0 : FVec F S2x2048x1024 .bf16) (main_arg1 : FVec F S2x2304x1024 .bf16) (main_arg2 : FVec F S2x2304x128 .bf16) (main_arg3 : FVec F S2x2304x1024 .bf16) (main_arg4 : FVec F S2x2048x512 .bf16) : IVec S_ 1 :=
  let main_v0 : FVec F S2x2048x1024 .bf16 := Host.absf main_arg0
  let main_cst : FVec F S_ .bf16 := constant S_ .bf16 0x7F80#16
  let main_v1 : FVec F S2x2048x1024 .bf16 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2304x1024 .bf16 := Host.absf main_arg1
  let main_cst_0 : FVec F S_ .bf16 := constant S_ .bf16 0x7F80#16
  let main_v5 : FVec F S2x2304x1024 .bf16 := broadcastInDim S2x2304x1024 ![] bcast_S_S2x2304x1024 main_cst_0
  let main_v6 : IVec S2x2304x1024 1 := cmpf .olt main_v4 main_v5
  let main_c_1 : IVec S_ 1 := constantI S_ 1 1#1
  let main_v7 : IVec S_ 1 := (fun x v => Host.reduce IntOp.andi x v reducesTo_S2x2304x1024_S_d0_1_2 h_S_) main_v6 main_c_1
  let main_v8 : IVec S_ 1 := andi main_v3 main_v7
  let main_v9 : FVec F S2x2304x128 .bf16 := Host.absf main_arg2
  let main_cst_2 : FVec F S_ .bf16 := constant S_ .bf16 0x7F80#16
  let main_v10 : FVec F S2x2304x128 .bf16 := broadcastInDim S2x2304x128 ![] bcast_S_S2x2304x128 main_cst_2
  let main_v11 : IVec S2x2304x128 1 := cmpf .olt main_v9 main_v10
  let main_c_3 : IVec S_ 1 := constantI S_ 1 1#1
  let main_v12 : IVec S_ 1 := (fun x v => Host.reduce IntOp.andi x v reducesTo_S2x2304x128_S_d0_1_2 h_S_) main_v11 main_c_3
  let main_v13 : IVec S_ 1 := andi main_v8 main_v12
  let main_v14 : FVec F S2x2304x1024 .bf16 := Host.absf main_arg3
  let main_cst_4 : FVec F S_ .bf16 := constant S_ .bf16 0x7F80#16
  let main_v15 : FVec F S2x2304x1024 .bf16 := broadcastInDim S2x2304x1024 ![] bcast_S_S2x2304x1024 main_cst_4
  let main_v16 : IVec S2x2304x1024 1 := cmpf .olt main_v14 main_v15
  fn_part1 (F := F) main_arg4 main_v13 main_v16
-- ==== Pre_mla_finite_rows.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2304x1024 : S_.BroadcastsInDim S2x2304x1024 (![] : Fin 0 → Fin S2x2304x1024.rank)
  reducesTo_S2x2304x1024_S_d0_1_2 : S2x2304x1024.ReducesTo [0, 1, 2] S_
  bcast_S_S2x2304x128 : S_.BroadcastsInDim S2x2304x128 (![] : Fin 0 → Fin S2x2304x128.rank)
  reducesTo_S2x2304x128_S_d0_1_2 : S2x2304x128.ReducesTo [0, 1, 2] S_

variable [Facts]

def fn_part1 {F : FTy → Type} [FloatOps F] (main_v13 : IVec S_ 1) (main_v16 : IVec S2x2304x1024 1) : IVec S_ 1 :=
  let main_c_5 : IVec S_ 1 := constantI S_ 1 1#1
  let main_v17 : IVec S_ 1 := (fun x v => Host.reduce IntOp.andi x v reducesTo_S2x2304x1024_S_d0_1_2 h_S_) main_v16 main_c_5
  let main_v18 : IVec S_ 1 := andi main_v13 main_v17
  main_v18

def fn {F : FTy → Type} [FloatOps F] (main_arg0 : FVec F S2x2048x1024 .bf16) (main_arg1 : FVec F S2x2304x1024 .bf16) (main_arg2 : FVec F S2x2304x128 .bf16) (main_arg3 : FVec F S2x2304x1024 .bf16) : IVec S_ 1 :=
  let main_v0 : FVec F S2x2048x1024 .bf16 := Host.absf main_arg0
  let main_cst : FVec F S_ .bf16 := constant S_ .bf16 0x7F80#16
  let main_v1 : FVec F S2x2048x1024 .bf16 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2304x1024 .bf16 := Host.absf main_arg1
  let main_cst_0 : FVec F S_ .bf16 := constant S_ .bf16 0x7F80#16
  let main_v5 : FVec F S2x2304x1024 .bf16 := broadcastInDim S2x2304x1024 ![] bcast_S_S2x2304x1024 main_cst_0
  let main_v6 : IVec S2x2304x1024 1 := cmpf .olt main_v4 main_v5
  let main_c_1 : IVec S_ 1 := constantI S_ 1 1#1
  let main_v7 : IVec S_ 1 := (fun x v => Host.reduce IntOp.andi x v reducesTo_S2x2304x1024_S_d0_1_2 h_S_) main_v6 main_c_1
  let main_v8 : IVec S_ 1 := andi main_v3 main_v7
  let main_v9 : FVec F S2x2304x128 .bf16 := Host.absf main_arg2
  let main_cst_2 : FVec F S_ .bf16 := constant S_ .bf16 0x7F80#16
  let main_v10 : FVec F S2x2304x128 .bf16 := broadcastInDim S2x2304x128 ![] bcast_S_S2x2304x128 main_cst_2
  let main_v11 : IVec S2x2304x128 1 := cmpf .olt main_v9 main_v10
  let main_c_3 : IVec S_ 1 := constantI S_ 1 1#1
  let main_v12 : IVec S_ 1 := (fun x v => Host.reduce IntOp.andi x v reducesTo_S2x2304x128_S_d0_1_2 h_S_) main_v11 main_c_3
  let main_v13 : IVec S_ 1 := andi main_v8 main_v12
  let main_v14 : FVec F S2x2304x1024 .bf16 := Host.absf main_arg3
  let main_cst_4 : FVec F S_ .bf16 := constant S_ .bf16 0x7F80#16
  let main_v15 : FVec F S2x2304x1024 .bf16 := broadcastInDim S2x2304x1024 ![] bcast_S_S2x2304x1024 main_cst_4
  let main_v16 : IVec S2x2304x1024 1 := cmpf .olt main_v14 main_v15
  fn_part1 (F := F) main_v13 main_v16
-- ==== Kernel.lean ====
abbrev S2x2304x512 : Shape := ⟨3, ![2, 2304, 512]⟩
abbrev S2x2304x128 : Shape := ⟨3, ![2, 2304, 128]⟩
abbrev S2x2304x2x4x64 : Shape := ⟨5, ![2, 2304, 2, 4, 64]⟩
abbrev S2x2x4x2304x64 : Shape := ⟨5, ![2, 2, 4, 2304, 64]⟩
abbrev S2x2304x2x64 : Shape := ⟨4, ![2, 2304, 2, 64]⟩
abbrev S2x2x2304x64 : Shape := ⟨4, ![2, 2, 2304, 64]⟩
abbrev S2x2x4x256x64 : Shape := ⟨5, ![2, 2, 4, 256, 64]⟩
abbrev S2x2x256x64 : Shape := ⟨4, ![2, 2, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x2048x64 : Shape := ⟨5, ![2, 2, 4, 2048, 64]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x4x2304x1 : Shape := ⟨5, ![2, 2, 4, 2304, 1]⟩
abbrev S2x8x2304x1 : Shape := ⟨4, ![2, 8, 2304, 1]⟩
abbrev S1x256x512 : Shape := ⟨3, ![1, 256, 512]⟩
abbrev S1x2304x128 : Shape := ⟨3, ![1, 2304, 128]⟩
abbrev S1x8x256x1 : Shape := ⟨4, ![1, 8, 256, 1]⟩
abbrev S2304x128 : Shape := ⟨2, ![2304, 128]⟩
abbrev S1x256x128 : Shape := ⟨3, ![1, 256, 128]⟩
abbrev S256x128 : Shape := ⟨2, ![256, 128]⟩
abbrev S256x64 : Shape := ⟨2, ![256, 64]⟩
abbrev S1x256x64 : Shape := ⟨3, ![1, 256, 64]⟩
abbrev S256x256 : Shape := ⟨2, ![256, 256]⟩
abbrev S1x1x256x1 : Shape := ⟨4, ![1, 1, 256, 1]⟩
abbrev S256x1 : Shape := ⟨2, ![256, 1]⟩
abbrev S256 : Shape := ⟨1, ![256]⟩
abbrev S256x512 : Shape := ⟨2, ![256, 512]⟩
abbrev S2304x64 : Shape := ⟨2, ![2304, 64]⟩
abbrev S256x2304 : Shape := ⟨2, ![256, 2304]⟩

abbrev nBuf : Space → Nat
  | .hbm => 66
  | .vmem => 20
  | .smem => 0
  | _ => 0

abbrev bufTy : (tb : Table) → Fin (tcTables nBuf tb) → BufTy
  | .hbm, ⟨0, _⟩ => ⟨S2x2304x512, .bf16⟩
  | .hbm, ⟨1, _⟩ => ⟨S2x2304x128, .bf16⟩
  | .hbm, ⟨2, _⟩ => ⟨S2x2304x128, .bf16⟩
  | .hbm, ⟨3, _⟩ => ⟨S2x2304x512, .bf16⟩
  | .hbm, ⟨4, _⟩ => ⟨S2x2304x2x4x64, .bf16⟩
  | .hbm, ⟨5, _⟩ => ⟨S2x2x4x2304x64, .bf16⟩
  | .hbm, ⟨6, _⟩ => ⟨S2x2304x2x64, .bf16⟩
  | .hbm, ⟨7, _⟩ => ⟨S2x2x2304x64, .bf16⟩
  | .hbm, ⟨8, _⟩ => ⟨S2x2304x2x64, .bf16⟩
  | .hbm, ⟨9, _⟩ => ⟨S2x2x2304x64, .bf16⟩
  | .hbm, ⟨10, _⟩ => ⟨S2x2x4x256x64, .bf16⟩
  | .hbm, ⟨11, _⟩ => ⟨S2x2x256x64, .bf16⟩
  | .hbm, ⟨12, _⟩ => ⟨S2x2x256x64, .bf16⟩
  | .hbm, ⟨13, _⟩ => ⟨S2x2x4x256x256, .f32⟩
  | .hbm, ⟨14, _⟩ => ⟨S_, .f32⟩
  | .hbm, ⟨15, _⟩ => ⟨S2x2x4x256x256, .f32⟩
  | .hbm, ⟨16, _⟩ => ⟨S2x2x4x256x256, .f32⟩
  | .hbm, ⟨17, _⟩ => ⟨S_, .f32⟩
  | .hbm, ⟨18, _⟩ => ⟨S2x2x4x256, .f32⟩
  | .hbm, ⟨19, _⟩ => ⟨S2x2x4x256x1, .f32⟩
  | .hbm, ⟨20, _⟩ => ⟨S2x2x4x256x256, .f32⟩
  | .hbm, ⟨21, _⟩ => ⟨S2x2x4x256x256, .f32⟩
  | .hbm, ⟨22, _⟩ => ⟨S2x2x4x256x256, .f32⟩
  | .hbm, ⟨23, _⟩ => ⟨S_, .f32⟩
  | .hbm, ⟨24, _⟩ => ⟨S2x2x4x256, .f32⟩
  | .hbm, ⟨25, _⟩ => ⟨S2x2x4x256x1, .f32⟩
  | .hbm, ⟨26, _⟩ => ⟨S2x2x4x256x256, .f32⟩
  | .hbm, ⟨27, _⟩ => ⟨S2x2x4x256x256, .f32⟩
  | .hbm, ⟨28, _⟩ => ⟨S2x2x4x256x256, .bf16⟩
  | .hbm, ⟨29, _⟩ => ⟨S2x2x4x256x64, .f32⟩
  | .hbm, ⟨30, _⟩ => ⟨S2x2x4x256x1, .f32⟩
  | .hbm, ⟨31, _⟩ => ⟨S2x2x4x256x1, .f32⟩
  | .hbm, ⟨32, _⟩ => ⟨S2x2x4x2048x64, .bf16⟩
  | .hbm, ⟨33, _⟩ => ⟨S2x2x4x2048x2304, .f32⟩
  | .hbm, ⟨34, _⟩ => ⟨S_, .f32⟩
  | .hbm, ⟨35, _⟩ => ⟨S2x2x4x2048x2304, .f32⟩
  | .hbm, ⟨36, _⟩ => ⟨S2x2x4x2048x2304, .f32⟩
  | .hbm, ⟨37, _⟩ => ⟨S_, .f32⟩
  | .hbm, ⟨38, _⟩ => ⟨S2x2x4x2048, .f32⟩
  | .hbm, ⟨39, _⟩ => ⟨S2x2x4x2048x1, .f32⟩
  | .hbm, ⟨40, _⟩ => ⟨S2x2x4x2048x2304, .f32⟩
  | .hbm, ⟨41, _⟩ => ⟨S2x2x4x2048x2304, .f32⟩
  | .hbm, ⟨42, _⟩ => ⟨S2x2x4x2048x2304, .f32⟩
  | .hbm, ⟨43, _⟩ => ⟨S_, .f32⟩
  | .hbm, ⟨44, _⟩ => ⟨S2x2x4x2048, .f32⟩
  | .hbm, ⟨45, _⟩ => ⟨S2x2x4x2048x1, .f32⟩
  | .hbm, ⟨46, _⟩ => ⟨S2x2x4x2048x2304, .f32⟩
  | .hbm, ⟨47, _⟩ => ⟨S2x2x4x2048x2304, .f32⟩
  | .hbm, ⟨48, _⟩ => ⟨S2x2x4x2048x2304, .bf16⟩
  | .hbm, ⟨49, _⟩ => ⟨S2x2x4x2048x64, .f32⟩
  | .hbm, ⟨50, _⟩ => ⟨S2x2x4x2048x1, .f32⟩
  | .hbm, ⟨51, _⟩ => ⟨S2x2x4x2048x1, .f32⟩
  | .hbm, ⟨52, _⟩ => ⟨S2x2x4x2304x64, .f32⟩
  | .hbm, ⟨53, _⟩ => ⟨S2x2304x2x4x64, .f32⟩
  | .hbm, ⟨54, _⟩ => ⟨S2x2x4x2304x1, .f32⟩
  | .hbm, ⟨55, _⟩ => ⟨S2x8x2304x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x8x2304x1, .f32⟩
  | .hbm, ⟨60, _⟩ => ⟨S2x8x2304x1, .f32⟩
  | .hbm, ⟨61, _⟩ => ⟨S2x2304x512, .f32⟩
  | .hbm, ⟨62, _⟩ => ⟨S2x2304x512, .bf16⟩
  | .hbm, ⟨63, _⟩ => ⟨S2x2304x512, .bf16⟩
  | .hbm, ⟨64, _⟩ => ⟨S2x2304x128, .bf16⟩
  | .hbm, ⟨65, _⟩ => ⟨S2x2304x128, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x8x256x1, .f32⟩
  | .local _ .vmem, ⟨9, _⟩ => ⟨S1x8x256x1, .f32⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x2304x128, .bf16⟩
  | .local _ .vmem, ⟨15, _⟩ => ⟨S1x2304x128, .bf16⟩
  | .local _ .vmem, ⟨16, _⟩ => ⟨S1x2304x128, .bf16⟩
  | .local _ .vmem, ⟨17, _⟩ => ⟨S1x2304x128, .bf16⟩
  | .local _ .vmem, ⟨18, _⟩ => ⟨S2304x128, .f32⟩
  | .local _ .vmem, ⟨19, _⟩ => ⟨S2304x128, .f32⟩
  | _, _ => ⟨S2x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sge arg1 c1_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c8_i32 : BitVec 32 := 8#32
  let v9 : BitVec 1 := Scalar.cmpi .eq arg1 c8_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2304x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_scale" => some (((Real.log 2)⁻¹ * 8⁻¹ : ℝ) : EReal)
  | _ => none
-- ==== ReferenceIdeal.lean ====
abbrev S2x2304x512 : Shape := ⟨3, ![2, 2304, 512]⟩
abbrev S2x2304x128 : Shape := ⟨3, ![2, 2304, 128]⟩
abbrev S2x2304x2x4x64 : Shape := ⟨5, ![2, 2304, 2, 4, 64]⟩
abbrev S2x2x4x2304x64 : Shape := ⟨5, ![2, 2, 4, 2304, 64]⟩
abbrev S2x2304x2x64 : Shape := ⟨4, ![2, 2304, 2, 64]⟩
abbrev S2x2x2304x64 : Shape := ⟨4, ![2, 2, 2304, 64]⟩
abbrev S2x2x4x256x64 : Shape := ⟨5, ![2, 2, 4, 256, 64]⟩
abbrev S2x2x256x64 : Shape := ⟨4, ![2, 2, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x2048x64 : Shape := ⟨5, ![2, 2, 4, 2048, 64]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x64x2304 : Shape := ⟨4, ![2, 2, 64, 2304]⟩
abbrev S2x2x64x256 : Shape := ⟨4, ![2, 2, 64, 256]⟩

abbrev nBuf : Space → Nat
  | .hbm => 184
  | .vmem => 0
  | .smem => 0
  | _ => 0

abbrev hbmTy0_0 (i : Nat) : BufTy := match i % 128 with
  | 0 => ⟨S2x2304x512, .bf16⟩
  | 1 => ⟨S2x2304x128, .bf16⟩
  | 2 => ⟨S2x2304x128, .bf16⟩
  | 3 => ⟨S2x2304x512, .bf16⟩
  | 4 => ⟨S2x2304x512, .f32⟩
  | 5 => ⟨S2x2304x128, .f32⟩
  | 6 => ⟨S2x2304x128, .f32⟩
  | 7 => ⟨S2x2304x2x4x64, .f32⟩
  | 8 => ⟨S2x2x4x2304x64, .f32⟩
  | 9 => ⟨S2x2304x2x64, .f32⟩
  | 10 => ⟨S2x2x2304x64, .f32⟩
  | 11 => ⟨S2x2304x2x64, .f32⟩
  | 12 => ⟨S2x2x2304x64, .f32⟩
  | 13 => ⟨S2x2x4x256x64, .f32⟩
  | 14 => ⟨S2x2x256x64, .f32⟩
  | 15 => ⟨S2x2x256x64, .f32⟩
  | 16 => ⟨S2x2x4x256x256, .f32⟩
  | 17 => ⟨S_, .f32⟩
  | 18 => ⟨S2x2x4x256x256, .f32⟩
  | 19 => ⟨S2x2x4x256x256, .f32⟩
  | 20 => ⟨S_, .f32⟩
  | 21 => ⟨S2x2x4x256, .f32⟩
  | 22 => ⟨S2x2x4x256x1, .f32⟩
  | 23 => ⟨S2x2x4x256x256, .f32⟩
  | 24 => ⟨S2x2x4x256x256, .i1⟩
  | 25 => ⟨S2x2x4x256x256, .f32⟩
  | 26 => ⟨S_, .f32⟩
  | 27 => ⟨S2x2x4x256, .f32⟩
  | 28 => ⟨S_, .f32⟩
  | 29 => ⟨S2x2x4x256, .f32⟩
  | 30 => ⟨S2x2x4x256, .f32⟩
  | 31 => ⟨S_, .f32⟩
  | 32 => ⟨S2x2x4x256, .f32⟩
  | 33 => ⟨S2x2x4x256, .i1⟩
  | 34 => ⟨S_, .f32⟩
  | 35 => ⟨S2x2x4x256, .f32⟩
  | 36 => ⟨S2x2x4x256, .i1⟩
  | 37 => ⟨S_, .f32⟩
  | 38 => ⟨S2x2x4x256, .f32⟩
  | 39 => ⟨S_, .f32⟩
  | 40 => ⟨S2x2x4x256, .f32⟩
  | 41 => ⟨S_, .f32⟩
  | 42 => ⟨S2x2x4x256, .f32⟩
  | 43 => ⟨S2x2x4x256, .f32⟩
  | 44 => ⟨S2x2x4x256, .f32⟩
  | 45 => ⟨S2x2x4x256x1, .f32⟩
  | 46 => ⟨S2x2x4x256x256, .f32⟩
  | 47 => ⟨S2x2x4x256x256, .f32⟩
  | 48 => ⟨S2x2x4x256x256, .f32⟩
  | 49 => ⟨S_, .f32⟩
  | 50 => ⟨S2x2x4x256, .f32⟩
  | 51 => ⟨S2x2x4x256x1, .f32⟩
  | 52 => ⟨S2x2x4x256x256, .f32⟩
  | 53 => ⟨S2x2x4x256x256, .f32⟩
  | 54 => ⟨S2x2x4x256x1, .f32⟩
  | 55 => ⟨S_, .f32⟩
  | 56 => ⟨S2x2x4x256x1, .f32⟩
  | 57 => ⟨S2x2x4x256x1, .f32⟩
  | 58 => ⟨S2x2x4x256x256, .bf16⟩
  | 59 => ⟨S2x2x4x256x256, .f32⟩
  | 60 => ⟨S2x2x4x256x64, .f32⟩
  | 61 => ⟨S2x2x4x2048x64, .f32⟩
  | 62 => ⟨S2x2x4x2048x2304, .f32⟩
  | 63 => ⟨S_, .f32⟩
  | 64 => ⟨S2x2x4x2048x2304, .f32⟩
  | 65 => ⟨S2x2x4x2048x2304, .f32⟩
  | 66 => ⟨S_, .f32⟩
  | 67 => ⟨S2x2x4x2048, .f32⟩
  | 68 => ⟨S2x2x4x2048x1, .f32⟩
  | 69 => ⟨S2x2x4x2048x2304, .f32⟩
  | 70 => ⟨S2x2x4x2048x2304, .i1⟩
  | 71 => ⟨S2x2x4x2048x2304, .f32⟩
  | 72 => ⟨S_, .f32⟩
  | 73 => ⟨S2x2x4x2048, .f32⟩
  | 74 => ⟨S_, .f32⟩
  | 75 => ⟨S2x2x4x2048, .f32⟩
  | 76 => ⟨S2x2x4x2048, .f32⟩
  | 77 => ⟨S_, .f32⟩
  | 78 => ⟨S2x2x4x2048, .f32⟩
  | 79 => ⟨S2x2x4x2048, .i1⟩
  | 80 => ⟨S_, .f32⟩
  | 81 => ⟨S2x2x4x2048, .f32⟩
  | 82 => ⟨S2x2x4x2048, .i1⟩
  | 83 => ⟨S_, .f32⟩
  | 84 => ⟨S2x2x4x2048, .f32⟩
  | 85 => ⟨S_, .f32⟩
  | 86 => ⟨S2x2x4x2048, .f32⟩
  | 87 => ⟨S_, .f32⟩
  | 88 => ⟨S2x2x4x2048, .f32⟩
  | 89 => ⟨S2x2x4x2048, .f32⟩
  | 90 => ⟨S2x2x4x2048, .f32⟩
  | 91 => ⟨S2x2x4x2048x1, .f32⟩
  | 92 => ⟨S2x2x4x2048x2304, .f32⟩
  | 93 => ⟨S2x2x4x2048x2304, .f32⟩
  | 94 => ⟨S2x2x4x2048x2304, .f32⟩
  | 95 => ⟨S_, .f32⟩
  | 96 => ⟨S2x2x4x2048, .f32⟩
  | 97 => ⟨S2x2x4x2048x1, .f32⟩
  | 98 => ⟨S2x2x4x2048x2304, .f32⟩
  | 99 => ⟨S2x2x4x2048x2304, .f32⟩
  | 100 => ⟨S2x2x4x2048x1, .f32⟩
  | 101 => ⟨S_, .f32⟩
  | 102 => ⟨S2x2x4x2048x1, .f32⟩
  | 103 => ⟨S2x2x4x2048x1, .f32⟩
  | 104 => ⟨S2x2x4x2048x2304, .bf16⟩
  | 105 => ⟨S2x2x4x2048x2304, .f32⟩
  | 106 => ⟨S2x2x4x2048x64, .f32⟩
  | 107 => ⟨S2x2x4x2304x64, .f32⟩
  | 108 => ⟨S2x2304x2x4x64, .f32⟩
  | 109 => ⟨S2x2304x512, .f32⟩
  | 110 => ⟨S2x2304x512, .bf16⟩
  | 111 => ⟨S2x2304x512, .f32⟩
  | 112 => ⟨S2x2304x2x4x64, .f32⟩
  | 113 => ⟨S2x2x4x2304x64, .f32⟩
  | 114 => ⟨S2x2x4x256x64, .f32⟩
  | 115 => ⟨S2x2x4x2048x64, .f32⟩
  | 116 => ⟨S2x2x64x2304, .f32⟩
  | 117 => ⟨S2x2x2304x64, .f32⟩
  | 118 => ⟨S2x2x4x2048x2304, .f32⟩
  | 119 => ⟨S2x2x4x2048x2304, .bf16⟩
  | 120 => ⟨S2x2x4x2048x2304, .f32⟩
  | 121 => ⟨S2x2x4x2048x2304, .f32⟩
  | 122 => ⟨S2x2x4x2048x2304, .f32⟩
  | 123 => ⟨S2x2x4x2048x2304, .f32⟩
  | 124 => ⟨S_, .f32⟩
  | 125 => ⟨S2x2x4x2048, .f32⟩
  | 126 => ⟨S2x2x4x2048x1, .f32⟩
  | 127 => ⟨S2x2x4x2048x1, .f32⟩
  | _ => ⟨S2x2304x512, .bf16⟩

abbrev hbmTy0_1 (i : Nat) : BufTy := match i % 128 with
  | 0 => ⟨S2x2x4x2048x2304, .f32⟩
  | 1 => ⟨S2x2x4x2048x2304, .f32⟩
  | 2 => ⟨S_, .f32⟩
  | 3 => ⟨S2x2x4x2048, .f32⟩
  | 4 => ⟨S2x2x4x2048x2304, .f32⟩
  | 5 => ⟨S2x2x4x2048x2304, .f32⟩
  | 6 => ⟨S2x2x4x2048x2304, .f32⟩
  | 7 => ⟨S_, .f32⟩
  | 8 => ⟨S2x2x4x2048x2304, .f32⟩
  | 9 => ⟨S2x2x4x2048x2304, .f32⟩
  | 10 => ⟨S2x2x2304x64, .f32⟩
  | 11 => ⟨S2x2x4x2048x64, .f32⟩
  | 12 => ⟨S_, .f32⟩
  | 13 => ⟨S2x2x4x2304x64, .f32⟩
  | 14 => ⟨S2x2x64x256, .f32⟩
  | 15 => ⟨S2x2x256x64, .f32⟩
  | 16 => ⟨S2x2x4x256x256, .f32⟩
  | 17 => ⟨S2x2x4x256x256, .bf16⟩
  | 18 => ⟨S2x2x4x256x256, .f32⟩
  | 19 => ⟨S2x2x4x256x256, .f32⟩
  | 20 => ⟨S2x2x4x256x256, .f32⟩
  | 21 => ⟨S2x2x4x256x256, .f32⟩
  | 22 => ⟨S_, .f32⟩
  | 23 => ⟨S2x2x4x256, .f32⟩
  | 24 => ⟨S2x2x4x256x1, .f32⟩
  | 25 => ⟨S2x2x4x256x1, .f32⟩
  | 26 => ⟨S2x2x4x256x256, .f32⟩
  | 27 => ⟨S2x2x4x256x256, .f32⟩
  | 28 => ⟨S_, .f32⟩
  | 29 => ⟨S2x2x4x256, .f32⟩
  | 30 => ⟨S2x2x4x256x256, .f32⟩
  | 31 => ⟨S2x2x4x256x256, .f32⟩
  | 32 => ⟨S2x2x4x256x256, .f32⟩
  | 33 => ⟨S_, .f32⟩
  | 34 => ⟨S2x2x4x256x256, .f32⟩
  | 35 => ⟨S2x2x4x256x256, .f32⟩
  | 36 => ⟨S2x2x256x64, .f32⟩
  | 37 => ⟨S2x2x4x256x64, .f32⟩
  | 38 => ⟨S_, .f32⟩
  | 39 => ⟨S2x2x2304x64, .f32⟩
  | 40 => ⟨S2x2x2304x64, .f32⟩
  | 41 => ⟨S_, .f32⟩
  | 42 => ⟨S2x2x2304x64, .f32⟩
  | 43 => ⟨S2x2x2304x64, .f32⟩
  | 44 => ⟨S_, .f32⟩
  | 45 => ⟨S2x2x4x2304x64, .f32⟩
  | 46 => ⟨S2x2x4x2304x64, .f32⟩
  | 47 => ⟨S2x2304x2x64, .f32⟩
  | 48 => ⟨S2x2304x128, .f32⟩
  | 49 => ⟨S2x2304x2x64, .f32⟩
  | 50 => ⟨S2x2304x128, .f32⟩
  | 51 => ⟨S2x2304x2x4x64, .f32⟩
  | 52 => ⟨S2x2304x512, .f32⟩
  | 53 => ⟨S2x2304x128, .bf16⟩
  | 54 => ⟨S2x2304x128, .bf16⟩
  | 55 => ⟨S2x2304x512, .bf16⟩
  | _ => ⟨S2x2304x512, .bf16⟩

abbrev hbmTy (i : Nat) : BufTy := match i / 128 with
  | 0 => hbmTy0_0 i
  | 1 => hbmTy0_1 i
  | _ => ⟨S2x2304x512, .bf16⟩

abbrev bufTy : (tb : Table) → Fin (tcTables nBuf tb) → BufTy
  | .hbm, ⟨i, _⟩ => hbmTy i
  | _, _ => ⟨S2x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_19 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_21 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_22 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_23 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_24 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_25 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_26 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_27 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_28 : Ref sig .tc := ⟨.hbm, 166, rfl⟩
abbrev main_v133 : Ref sig .tc := ⟨.hbm, 167, rfl⟩
abbrev main_v134 : Ref sig .tc := ⟨.hbm, 168, rfl⟩
abbrev main_cst_29 : Ref sig .tc := ⟨.hbm, 169, rfl⟩
abbrev main_v135 : Ref sig .tc := ⟨.hbm, 170, rfl⟩
abbrev main_v136 : Ref sig .tc := ⟨.hbm, 171, rfl⟩
abbrev main_cst_30 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩

abbrev nD : Nat := 1
abbrev τ : Topo := Topo.v7x

variable {F : FTy → Type} [FloatOps F]
-- ==== Kernel2.lean ====
abbrev S2x2304x512 : Shape := ⟨3, ![2, 2304, 512]⟩
abbrev S2x2304x128 : Shape := ⟨3, ![2, 2304, 128]⟩
abbrev S2x8x2304x1 : Shape := ⟨4, ![2, 8, 2304, 1]⟩
abbrev S1x256x512 : Shape := ⟨3, ![1, 256, 512]⟩
abbrev S1x2304x128 : Shape := ⟨3, ![1, 2304, 128]⟩
abbrev S1x8x256x1 : Shape := ⟨4, ![1, 8, 256, 1]⟩
abbrev S1x256x128 : Shape := ⟨3, ![1, 256, 128]⟩
abbrev S256x128 : Shape := ⟨2, ![256, 128]⟩
abbrev S256x64 : Shape := ⟨2, ![256, 64]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩
abbrev S1x1x256x1 : Shape := ⟨4, ![1, 1, 256, 1]⟩
abbrev S256x512 : Shape := ⟨2, ![256, 512]⟩
abbrev S2304x128 : Shape := ⟨2, ![2304, 128]⟩
abbrev S2304x64 : Shape := ⟨2, ![2304, 64]⟩
abbrev S256x2304 : Shape := ⟨2, ![256, 2304]⟩

abbrev nBuf : Space → Nat
  | .hbm => 5
  | .vmem => 10
  | .smem => 0
  | _ => 0

abbrev bufTy : (tb : Table) → Fin (tcTables nBuf tb) → BufTy
  | .hbm, ⟨0, _⟩ => ⟨S2x2304x512, .bf16⟩
  | .hbm, ⟨1, _⟩ => ⟨S2x2304x128, .bf16⟩
  | .hbm, ⟨2, _⟩ => ⟨S2x2304x128, .bf16⟩
  | .hbm, ⟨3, _⟩ => ⟨S2x2304x512, .bf16⟩
  | .hbm, ⟨4, _⟩ => ⟨S2x8x2304x1, .f32⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x8x256x1, .f32⟩
  | .local _ .vmem, ⟨9, _⟩ => ⟨S1x8x256x1, .f32⟩
  | _, _ => ⟨S2x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "ln2" => some ((Real.log 2 : ℝ) : EReal)
  | "log2e" => some (((Real.log 2)⁻¹ : ℝ) : EReal)
  | "log2e_scale" => some (((Real.log 2)⁻¹ * 8⁻¹ : ℝ) : EReal)
  | _ => none
-- ==== Reference2Ideal.lean ====
abbrev S2x2304x512 : Shape := ⟨3, ![2, 2304, 512]⟩
abbrev S2x2304x128 : Shape := ⟨3, ![2, 2304, 128]⟩
abbrev S2x2304x2x4x64 : Shape := ⟨5, ![2, 2304, 2, 4, 64]⟩
abbrev S2x2x4x2304x64 : Shape := ⟨5, ![2, 2, 4, 2304, 64]⟩
abbrev S2x2304x2x64 : Shape := ⟨4, ![2, 2304, 2, 64]⟩
abbrev S2x2x2304x64 : Shape := ⟨4, ![2, 2, 2304, 64]⟩
abbrev S2x2x4x256x64 : Shape := ⟨5, ![2, 2, 4, 256, 64]⟩
abbrev S2x2x256x64 : Shape := ⟨4, ![2, 2, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x2048x64 : Shape := ⟨5, ![2, 2, 4, 2048, 64]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x4x2304x1 : Shape := ⟨5, ![2, 2, 4, 2304, 1]⟩
abbrev S2x8x2304x1 : Shape := ⟨4, ![2, 8, 2304, 1]⟩

abbrev nBuf : Space → Nat
  | .hbm => 62
  | .vmem => 0
  | .smem => 0
  | _ => 0

abbrev bufTy : (tb : Table) → Fin (tcTables nBuf tb) → BufTy
  | .hbm, ⟨0, _⟩ => ⟨S2x2304x512, .bf16⟩
  | .hbm, ⟨1, _⟩ => ⟨S2x2304x128, .bf16⟩
  | .hbm, ⟨2, _⟩ => ⟨S2x2304x128, .bf16⟩
  | .hbm, ⟨3, _⟩ => ⟨S2x2304x2x4x64, .bf16⟩
  | .hbm, ⟨4, _⟩ => ⟨S2x2x4x2304x64, .bf16⟩
  | .hbm, ⟨5, _⟩ => ⟨S2x2304x2x64, .bf16⟩
  | .hbm, ⟨6, _⟩ => ⟨S2x2x2304x64, .bf16⟩
  | .hbm, ⟨7, _⟩ => ⟨S2x2304x2x64, .bf16⟩
  | .hbm, ⟨8, _⟩ => ⟨S2x2x2304x64, .bf16⟩
  | .hbm, ⟨9, _⟩ => ⟨S2x2x4x256x64, .bf16⟩
  | .hbm, ⟨10, _⟩ => ⟨S2x2x256x64, .bf16⟩
  | .hbm, ⟨11, _⟩ => ⟨S2x2x256x64, .bf16⟩
  | .hbm, ⟨12, _⟩ => ⟨S2x2x4x256x256, .f32⟩
  | .hbm, ⟨13, _⟩ => ⟨S_, .f32⟩
  | .hbm, ⟨14, _⟩ => ⟨S2x2x4x256x256, .f32⟩
  | .hbm, ⟨15, _⟩ => ⟨S2x2x4x256x256, .f32⟩
  | .hbm, ⟨16, _⟩ => ⟨S_, .f32⟩
  | .hbm, ⟨17, _⟩ => ⟨S2x2x4x256, .f32⟩
  | .hbm, ⟨18, _⟩ => ⟨S2x2x4x256x1, .f32⟩
  | .hbm, ⟨19, _⟩ => ⟨S2x2x4x256x256, .f32⟩
  | .hbm, ⟨20, _⟩ => ⟨S2x2x4x256x256, .f32⟩
  | .hbm, ⟨21, _⟩ => ⟨S2x2x4x256x256, .f32⟩
  | .hbm, ⟨22, _⟩ => ⟨S_, .f32⟩
  | .hbm, ⟨23, _⟩ => ⟨S2x2x4x256, .f32⟩
  | .hbm, ⟨24, _⟩ => ⟨S2x2x4x256x1, .f32⟩
  | .hbm, ⟨25, _⟩ => ⟨S2x2x4x256x256, .f32⟩
  | .hbm, ⟨26, _⟩ => ⟨S2x2x4x256x256, .f32⟩
  | .hbm, ⟨27, _⟩ => ⟨S2x2x4x256x256, .bf16⟩
  | .hbm, ⟨28, _⟩ => ⟨S2x2x4x256x64, .f32⟩
  | .hbm, ⟨29, _⟩ => ⟨S2x2x4x256x1, .f32⟩
  | .hbm, ⟨30, _⟩ => ⟨S2x2x4x256x1, .f32⟩
  | .hbm, ⟨31, _⟩ => ⟨S2x2x4x2048x64, .bf16⟩
  | .hbm, ⟨32, _⟩ => ⟨S2x2x4x2048x2304, .f32⟩
  | .hbm, ⟨33, _⟩ => ⟨S_, .f32⟩
  | .hbm, ⟨34, _⟩ => ⟨S2x2x4x2048x2304, .f32⟩
  | .hbm, ⟨35, _⟩ => ⟨S2x2x4x2048x2304, .f32⟩
  | .hbm, ⟨36, _⟩ => ⟨S_, .f32⟩
  | .hbm, ⟨37, _⟩ => ⟨S2x2x4x2048, .f32⟩
  | .hbm, ⟨38, _⟩ => ⟨S2x2x4x2048x1, .f32⟩
  | .hbm, ⟨39, _⟩ => ⟨S2x2x4x2048x2304, .f32⟩
  | .hbm, ⟨40, _⟩ => ⟨S2x2x4x2048x2304, .f32⟩
  | .hbm, ⟨41, _⟩ => ⟨S2x2x4x2048x2304, .f32⟩
  | .hbm, ⟨42, _⟩ => ⟨S_, .f32⟩
  | .hbm, ⟨43, _⟩ => ⟨S2x2x4x2048, .f32⟩
  | .hbm, ⟨44, _⟩ => ⟨S2x2x4x2048x1, .f32⟩
  | .hbm, ⟨45, _⟩ => ⟨S2x2x4x2048x2304, .f32⟩
  | .hbm, ⟨46, _⟩ => ⟨S2x2x4x2048x2304, .f32⟩
  | .hbm, ⟨47, _⟩ => ⟨S2x2x4x2048x2304, .bf16⟩
  | .hbm, ⟨48, _⟩ => ⟨S2x2x4x2048x64, .f32⟩
  | .hbm, ⟨49, _⟩ => ⟨S2x2x4x2048x1, .f32⟩
  | .hbm, ⟨50, _⟩ => ⟨S2x2x4x2048x1, .f32⟩
  | .hbm, ⟨51, _⟩ => ⟨S2x2x4x2304x64, .f32⟩
  | .hbm, ⟨52, _⟩ => ⟨S2x2304x2x4x64, .f32⟩
  | .hbm, ⟨53, _⟩ => ⟨S2x2x4x2304x1, .f32⟩
  | .hbm, ⟨54, _⟩ => ⟨S2x8x2304x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x8x2304x1, .f32⟩
  | .hbm, ⟨59, _⟩ => ⟨S2x8x2304x1, .f32⟩
  | .hbm, ⟨60, _⟩ => ⟨S2x2304x512, .f32⟩
  | .hbm, ⟨61, _⟩ => ⟨S2x2304x512, .bf16⟩
  | _, _ => ⟨S2x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel3.lean ====
abbrev S4608x1024 : Shape := ⟨2, ![4608, 1024]⟩
abbrev S4096x1024 : Shape := ⟨2, ![4096, 1024]⟩
abbrev S4608x4096 : Shape := ⟨2, ![4608, 4096]⟩
abbrev S1152x1024 : Shape := ⟨2, ![1152, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x4096, .bf16⟩
  | .hbm, ⟨3, _⟩ => ⟨S4608x4096, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel3Ideal.lean ====
abbrev S4608x1024 : Shape := ⟨2, ![4608, 1024]⟩
abbrev S4096x1024 : Shape := ⟨2, ![4096, 1024]⟩
abbrev S4608x4096 : Shape := ⟨2, ![4608, 4096]⟩
abbrev S1152x1024 : Shape := ⟨2, ![1152, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x4096, .bf16⟩
  | .hbm, ⟨3, _⟩ => ⟨S4608x4096, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4608x1024 : Shape := ⟨2, ![4608, 1024]⟩
abbrev S4096x1024 : Shape := ⟨2, ![4096, 1024]⟩
abbrev S4608x4096 : Shape := ⟨2, ![4608, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x4096, .bf16⟩
  | .hbm, ⟨3, _⟩ => ⟨S4608x4096, .f32⟩
  | .hbm, ⟨4, _⟩ => ⟨S_, .f32⟩
  | .hbm, ⟨5, _⟩ => ⟨S4608x4096, .f32⟩
  | .hbm, ⟨6, _⟩ => ⟨S4608x4096, .f32⟩
  | .hbm, ⟨7, _⟩ => ⟨S_, .f32⟩
  | .hbm, ⟨8, _⟩ => ⟨S4608x4096, .f32⟩
  | .hbm, ⟨9, _⟩ => ⟨S4608x4096, .i1⟩
  | .hbm, ⟨10, _⟩ => ⟨S_, .f32⟩
  | .hbm, ⟨11, _⟩ => ⟨S4608x4096, .f32⟩
  | .hbm, ⟨12, _⟩ => ⟨S4608x4096, .f32⟩
  | .hbm, ⟨13, _⟩ => ⟨S_, .f32⟩
  | .hbm, ⟨14, _⟩ => ⟨S4608x4096, .f32⟩
  | .hbm, ⟨15, _⟩ => ⟨S4608x4096, .f32⟩
  | .hbm, ⟨16, _⟩ => ⟨S4096x1024, .f32⟩
  | .hbm, ⟨17, _⟩ => ⟨S4608x1024, .f32⟩
  | .hbm, ⟨18, _⟩ => ⟨S4608x1024, .bf16⟩
  | .hbm, ⟨19, _⟩ => ⟨S4608x1024, .f32⟩
  | .hbm, ⟨20, _⟩ => ⟨S4608x4096, .f32⟩
  | .hbm, ⟨21, _⟩ => ⟨S4608x4096, .f32⟩
  | .hbm, ⟨22, _⟩ => ⟨S_, .f32⟩
  | .hbm, ⟨23, _⟩ => ⟨S4608x4096, .f32⟩
  | .hbm, ⟨24, _⟩ => ⟨S4608x4096, .f32⟩
  | .hbm, ⟨25, _⟩ => ⟨S4608x4096, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S4608x4096 : Shape := ⟨2, ![4608, 4096]⟩
abbrev S4608x1024 : Shape := ⟨2, ![4608, 1024]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4608x4096 : Shape := ⟨2, ![4608, 4096]⟩
abbrev S4608x1024 : Shape := ⟨2, ![4608, 1024]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4608x4096 : Shape := ⟨2, ![4608, 4096]⟩
abbrev S4608x1024 : Shape := ⟨2, ![4608, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S_, .bf16⟩
  | .hbm, ⟨3, _⟩ => ⟨S4096x1024, .bf16⟩
  | .hbm, ⟨4, _⟩ => ⟨S4608x4096, .f32⟩
  | .hbm, ⟨5, _⟩ => ⟨S4096x1024, .f32⟩
  | .hbm, ⟨6, _⟩ => ⟨S4608x1024, .f32⟩
  | .hbm, ⟨7, _⟩ => ⟨S4608x1024, .bf16⟩
  | .hbm, ⟨8, _⟩ => ⟨S4608x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4608x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4608x4096 : Shape := ⟨2, ![4608, 4096]⟩
abbrev S4608x1024 : Shape := ⟨2, ![4608, 1024]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4608x4096 : Shape := ⟨2, ![4608, 4096]⟩
abbrev S4608x1024 : Shape := ⟨2, ![4608, 1024]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4608x4096 : Shape := ⟨2, ![4608, 4096]⟩
abbrev S4608x1024 : Shape := ⟨2, ![4608, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x4096, .bf16⟩
  | .hbm, ⟨1, _⟩ => ⟨S4608x1024, .bf16⟩
  | .hbm, ⟨2, _⟩ => ⟨S_, .bf16⟩
  | .hbm, ⟨3, _⟩ => ⟨S1024x4096, .bf16⟩
  | .hbm, ⟨4, _⟩ => ⟨S4608x1024, .f32⟩
  | .hbm, ⟨5, _⟩ => ⟨S1024x4096, .f32⟩
  | .hbm, ⟨6, _⟩ => ⟨S4608x4096, .f32⟩
  | .hbm, ⟨7, _⟩ => ⟨S4608x4096, .bf16⟩
  | .hbm, ⟨8, _⟩ => ⟨S4608x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S4096x1024, .bf16⟩
  | _, _ => ⟨S4608x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4608x4096 : Shape := ⟨2, ![4608, 4096]⟩
abbrev S4096x1024 : Shape := ⟨2, ![4096, 1024]⟩
abbrev S4608x1024 : Shape := ⟨2, ![4608, 1024]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S4608x1024, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4608x4096 : Shape := ⟨2, ![4608, 4096]⟩
abbrev S4096x1024 : Shape := ⟨2, ![4096, 1024]⟩
abbrev S4608x1024 : Shape := ⟨2, ![4608, 1024]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S4608x1024, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4608x4096 : Shape := ⟨2, ![4608, 4096]⟩
abbrev S4096x1024 : Shape := ⟨2, ![4096, 1024]⟩
abbrev S_ : Shape := ⟨0, ![]⟩
abbrev S4608x1024 : Shape := ⟨2, ![4608, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S_, .bf16⟩
  | .hbm, ⟨3, _⟩ => ⟨S4608x1024, .bf16⟩
  | .hbm, ⟨4, _⟩ => ⟨S1024x4096, .bf16⟩
  | .hbm, ⟨5, _⟩ => ⟨S4608x1024, .f32⟩
  | .hbm, ⟨6, _⟩ => ⟨S1024x4096, .f32⟩
  | .hbm, ⟨7, _⟩ => ⟨S4608x4096, .f32⟩
  | .hbm, ⟨8, _⟩ => ⟨S4608x4096, .bf16⟩
  | .hbm, ⟨9, _⟩ => ⟨S4608x4096, .f32⟩
  | .hbm, ⟨10, _⟩ => ⟨S4608x1024, .f32⟩
  | .hbm, ⟨11, _⟩ => ⟨S4608x1024, .bf16⟩
  | _, _ => ⟨S4608x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4608x1024 : Shape := ⟨2, ![4608, 1024]⟩
abbrev S4096x1024 : Shape := ⟨2, ![4096, 1024]⟩
abbrev S4608x4096 : Shape := ⟨2, ![4608, 4096]⟩
abbrev S1152x1024 : Shape := ⟨2, ![1152, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x4096, .bf16⟩
  | .hbm, ⟨3, _⟩ => ⟨S4608x4096, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel7Ideal.lean ====
abbrev S4608x1024 : Shape := ⟨2, ![4608, 1024]⟩
abbrev S4096x1024 : Shape := ⟨2, ![4096, 1024]⟩
abbrev S4608x4096 : Shape := ⟨2, ![4608, 4096]⟩
abbrev S1152x1024 : Shape := ⟨2, ![1152, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x4096, .bf16⟩
  | .hbm, ⟨3, _⟩ => ⟨S4608x4096, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4608x1024 : Shape := ⟨2, ![4608, 1024]⟩
abbrev S4096x1024 : Shape := ⟨2, ![4096, 1024]⟩
abbrev S1024x4096 : Shape := ⟨2, ![1024, 4096]⟩
abbrev S4608x4096 : Shape := ⟨2, ![4608, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S4608x1024, .f32⟩
  | .hbm, ⟨3, _⟩ => ⟨S1024x4096, .bf16⟩
  | .hbm, ⟨4, _⟩ => ⟨S1024x4096, .f32⟩
  | .hbm, ⟨5, _⟩ => ⟨S4608x4096, .f32⟩
  | .hbm, ⟨6, _⟩ => ⟨S_, .f32⟩
  | .hbm, ⟨7, _⟩ => ⟨S4608x4096, .f32⟩
  | .hbm, ⟨8, _⟩ => ⟨S4608x4096, .f32⟩
  | .hbm, ⟨9, _⟩ => ⟨S4608x4096, .f32⟩
  | .hbm, ⟨10, _⟩ => ⟨S4608x4096, .bf16⟩
  | .hbm, ⟨11, _⟩ => ⟨S4608x4096, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4608x4096 : Shape := ⟨2, ![4608, 4096]⟩
abbrev S4096x1024 : Shape := ⟨2, ![4096, 1024]⟩
abbrev S4608x1024 : Shape := ⟨2, ![4608, 1024]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S4608x1024, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4608x4096 : Shape := ⟨2, ![4608, 4096]⟩
abbrev S4096x1024 : Shape := ⟨2, ![4096, 1024]⟩
abbrev S4608x1024 : Shape := ⟨2, ![4608, 1024]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S4608x1024, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4608x4096 : Shape := ⟨2, ![4608, 4096]⟩
abbrev S4096x1024 : Shape := ⟨2, ![4096, 1024]⟩
abbrev S4608x1024 : Shape := ⟨2, ![4608, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4608x4096, .bf16⟩
  | .hbm, ⟨1, _⟩ => ⟨S4096x1024, .bf16⟩
  | .hbm, ⟨2, _⟩ => ⟨S4608x4096, .f32⟩
  | .hbm, ⟨3, _⟩ => ⟨S4096x1024, .f32⟩
  | .hbm, ⟨4, _⟩ => ⟨S4608x1024, .f32⟩
  | .hbm, ⟨5, _⟩ => ⟨S4608x1024, .bf16⟩
  | _, _ => ⟨S4608x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .bf16⟩
  | .hbm, ⟨3, _⟩ => ⟨S4096x1024, .bf16⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .bf16⟩
  | .hbm, ⟨3, _⟩ => ⟨S4096x1024, .bf16⟩
  | .hbm, ⟨4, _⟩ => ⟨S1024x4096, .bf16⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .bf16⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4608x1024 : Shape := ⟨2, ![4608, 1024]⟩
abbrev S1792x1024 : Shape := ⟨2, ![1792, 1024]⟩
abbrev S512x1024 : Shape := ⟨2, ![512, 1024]⟩
abbrev S128x1024 : Shape := ⟨2, ![128, 1024]⟩
abbrev S4608x512 : Shape := ⟨2, ![4608, 512]⟩
abbrev S4608x128 : Shape := ⟨2, ![4608, 128]⟩
abbrev S1152x1024 : Shape := ⟨2, ![1152, 1024]⟩
abbrev S1152x512 : Shape := ⟨2, ![1152, 512]⟩
abbrev S1152x128 : Shape := ⟨2, ![1152, 128]⟩

abbrev nBuf : Space → Nat
  | .hbm => 12
  | .vmem => 17
  | .smem => 0
  | _ => 0

abbrev bufTy : (tb : Table) → Fin (tcTables nBuf tb) → BufTy
  | .hbm, ⟨0, _⟩ => ⟨S4608x1024, .bf16⟩
  | .hbm, ⟨1, _⟩ => ⟨S1792x1024, .bf16⟩
  | .hbm, ⟨2, _⟩ => ⟨S512x1024, .bf16⟩
  | .hbm, ⟨3, _⟩ => ⟨S128x1024, .bf16⟩
  | .hbm, ⟨4, _⟩ => ⟨S128x1024, .bf16⟩
  | .hbm, ⟨5, _⟩ => ⟨S512x1024, .bf16⟩
  | .hbm, ⟨6, _⟩ => ⟨S512x1024, .bf16⟩
  | .hbm, ⟨7, _⟩ => ⟨S4608x512, .bf16⟩
  | .hbm, ⟨8, _⟩ => ⟨S4608x128, .bf16⟩
  | .hbm, ⟨9, _⟩ => ⟨S4608x128, .bf16⟩
  | .hbm, ⟨10, _⟩ => ⟨S4608x512, .bf16⟩
  | .hbm, ⟨11, _⟩ => ⟨S4608x512, .bf16⟩
  | .local _ .vmem, ⟨0, _⟩ => ⟨S1152x1024, .bf16⟩
  | .local _ .vmem, ⟨1, _⟩ => ⟨S1152x1024, .bf16⟩
  | .local _ .vmem, ⟨2, _⟩ => ⟨S512x1024, .bf16⟩
  | .local _ .vmem, ⟨3, _⟩ => ⟨S128x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S1152x512, .bf16⟩
  | .local _ .vmem, ⟨8, _⟩ => ⟨S1152x512, .bf16⟩
  | .local _ .vmem, ⟨9, _⟩ => ⟨S1152x128, .bf16⟩
  | .local _ .vmem, ⟨10, _⟩ => ⟨S1152x128, .bf16⟩
  | .local _ .vmem, ⟨11, _⟩ => ⟨S1152x128, .bf16⟩
  | .local _ .vmem, ⟨12, _⟩ => ⟨S1152x128, .bf16⟩
  | .local _ .vmem, ⟨13, _⟩ => ⟨S1152x512, .bf16⟩
  | .local _ .vmem, ⟨14, _⟩ => ⟨S1152x512, .bf16⟩
  | .local _ .vmem, ⟨15, _⟩ => ⟨S1152x512, .bf16⟩
  | .local _ .vmem, ⟨16, _⟩ => ⟨S1152x512, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev main_v5_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S4608x1024 : Shape := ⟨2, ![4608, 1024]⟩
abbrev S1792x1024 : Shape := ⟨2, ![1792, 1024]⟩
abbrev S1024x1792 : Shape := ⟨2, ![1024, 1792]⟩
abbrev S4608x1792 : Shape := ⟨2, ![4608, 1792]⟩
abbrev S4608x512 : Shape := ⟨2, ![4608, 512]⟩
abbrev S4608x128 : Shape := ⟨2, ![4608, 128]⟩

abbrev nBuf : Space → Nat
  | .hbm => 12
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1792x1024, .bf16⟩
  | .hbm, ⟨2, _⟩ => ⟨S1024x1792, .bf16⟩
  | .hbm, ⟨3, _⟩ => ⟨S4608x1024, .f32⟩
  | .hbm, ⟨4, _⟩ => ⟨S1024x1792, .f32⟩
  | .hbm, ⟨5, _⟩ => ⟨S4608x1792, .f32⟩
  | .hbm, ⟨6, _⟩ => ⟨S4608x1792, .bf16⟩
  | .hbm, ⟨7, _⟩ => ⟨S4608x512, .bf16⟩
  | .hbm, ⟨8, _⟩ => ⟨S4608x128, .bf16⟩
  | .hbm, ⟨9, _⟩ => ⟨S4608x128, .bf16⟩
  | .hbm, ⟨10, _⟩ => ⟨S4608x512, .bf16⟩
  | .hbm, ⟨11, _⟩ => ⟨S4608x512, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel16.lean ====
abbrev S4608x512 : Shape := ⟨2, ![4608, 512]⟩
abbrev S4608x128 : Shape := ⟨2, ![4608, 128]⟩
abbrev S1792x1024 : Shape := ⟨2, ![1792, 1024]⟩
abbrev S512x1024 : Shape := ⟨2, ![512, 1024]⟩
abbrev S128x1024 : Shape := ⟨2, ![128, 1024]⟩
abbrev S4608x1024 : Shape := ⟨2, ![4608, 1024]⟩
abbrev S1152x512 : Shape := ⟨2, ![1152, 512]⟩
abbrev S1152x128 : Shape := ⟨2, ![1152, 128]⟩
abbrev S1152x1024 : Shape := ⟨2, ![1152, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4608x512, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S1792x1024, .bf16⟩
  | .hbm, ⟨6, _⟩ => ⟨S512x1024, .bf16⟩
  | .hbm, ⟨7, _⟩ => ⟨S128x1024, .bf16⟩
  | .hbm, ⟨8, _⟩ => ⟨S128x1024, .bf16⟩
  | .hbm, ⟨9, _⟩ => ⟨S512x1024, .bf16⟩
  | .hbm, ⟨10, _⟩ => ⟨S512x1024, .bf16⟩
  | .hbm, ⟨11, _⟩ => ⟨S4608x1024, .bf16⟩
  | .local _ .vmem, ⟨0, _⟩ => ⟨S1152x512, .bf16⟩
  | .local _ .vmem, ⟨1, _⟩ => ⟨S1152x512, .bf16⟩
  | .local _ .vmem, ⟨2, _⟩ => ⟨S1152x128, .bf16⟩
  | .local _ .vmem, ⟨3, _⟩ => ⟨S1152x128, .bf16⟩
  | .local _ .vmem, ⟨4, _⟩ => ⟨S1152x128, .bf16⟩
  | .local _ .vmem, ⟨5, _⟩ => ⟨S1152x128, .bf16⟩
  | .local _ .vmem, ⟨6, _⟩ => ⟨S1152x512, .bf16⟩
  | .local _ .vmem, ⟨7, _⟩ => ⟨S1152x512, .bf16⟩
  | .local _ .vmem, ⟨8, _⟩ => ⟨S1152x512, .bf16⟩
  | .local _ .vmem, ⟨9, _⟩ => ⟨S1152x512, .bf16⟩
  | .local _ .vmem, ⟨10, _⟩ => ⟨S512x1024, .bf16⟩
  | .local _ .vmem, ⟨11, _⟩ => ⟨S128x1024, .bf16⟩
  | .local _ .vmem, ⟨12, _⟩ => ⟨S128x1024, .bf16⟩
  | .local _ .vmem, ⟨13, _⟩ => ⟨S512x1024, .bf16⟩
  | .local _ .vmem, ⟨14, _⟩ => ⟨S512x1024, .bf16⟩
  | .local _ .vmem, ⟨15, _⟩ => ⟨S1152x1024, .bf16⟩
  | .local _ .vmem, ⟨16, _⟩ => ⟨S1152x1024, .bf16⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1152x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference16Ideal.lean ====
abbrev S4608x512 : Shape := ⟨2, ![4608, 512]⟩
abbrev S4608x128 : Shape := ⟨2, ![4608, 128]⟩
abbrev S1792x1024 : Shape := ⟨2, ![1792, 1024]⟩
abbrev S_ : Shape := ⟨0, ![]⟩
abbrev S4608x1024 : Shape := ⟨2, ![4608, 1024]⟩
abbrev S1024x1792 : Shape := ⟨2, ![1024, 1792]⟩
abbrev S4608x1792 : Shape := ⟨2, ![4608, 1792]⟩

abbrev nBuf : Space → Nat
  | .hbm => 22
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S1792x1024, .bf16⟩
  | .hbm, ⟨6, _⟩ => ⟨S_, .bf16⟩
  | .hbm, ⟨7, _⟩ => ⟨S4608x1024, .bf16⟩
  | .hbm, ⟨8, _⟩ => ⟨S1024x1792, .bf16⟩
  | .hbm, ⟨9, _⟩ => ⟨S4608x1024, .f32⟩
  | .hbm, ⟨10, _⟩ => ⟨S1024x1792, .f32⟩
  | .hbm, ⟨11, _⟩ => ⟨S4608x1792, .f32⟩
  | .hbm, ⟨12, _⟩ => ⟨S4608x1792, .bf16⟩
  | .hbm, ⟨13, _⟩ => ⟨S4608x512, .bf16⟩
  | .hbm, ⟨14, _⟩ => ⟨S4608x128, .bf16⟩
  | .hbm, ⟨15, _⟩ => ⟨S4608x128, .bf16⟩
  | .hbm, ⟨16, _⟩ => ⟨S4608x512, .bf16⟩
  | .hbm, ⟨17, _⟩ => ⟨S4608x512, .bf16⟩
  | .hbm, ⟨18, _⟩ => ⟨S4608x1792, .bf16⟩
  | .hbm, ⟨19, _⟩ => ⟨S4608x1792, .f32⟩
  | .hbm, ⟨20, _⟩ => ⟨S4608x1024, .f32⟩
  | .hbm, ⟨21, _⟩ => ⟨S4608x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel17.lean ====
abbrev S4608x512 : Shape := ⟨2, ![4608, 512]⟩
abbrev S4608x128 : Shape := ⟨2, ![4608, 128]⟩
abbrev S4608x1024 : Shape := ⟨2, ![4608, 1024]⟩
abbrev S1792x1024 : Shape := ⟨2, ![1792, 1024]⟩
abbrev S512x1024 : Shape := ⟨2, ![512, 1024]⟩
abbrev S128x1024 : Shape := ⟨2, ![128, 1024]⟩
abbrev S768x1024 : Shape := ⟨2, ![768, 1024]⟩
abbrev S768x512 : Shape := ⟨2, ![768, 512]⟩
abbrev S768x128 : Shape := ⟨2, ![768, 128]⟩

abbrev nBuf : Space → Nat
  | .hbm => 17
  | .vmem => 22
  | .smem => 0
  | _ => 0

abbrev bufTy : (tb : Table) → Fin (tcTables nBuf tb) → BufTy
  | .hbm, ⟨0, _⟩ => ⟨S4608x512, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S4608x1024, .bf16⟩
  | .hbm, ⟨6, _⟩ => ⟨S1792x1024, .bf16⟩
  | .hbm, ⟨7, _⟩ => ⟨S512x1024, .bf16⟩
  | .hbm, ⟨8, _⟩ => ⟨S128x1024, .bf16⟩
  | .hbm, ⟨9, _⟩ => ⟨S128x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S128x1024, .bf16⟩
  | .hbm, ⟨14, _⟩ => ⟨S128x1024, .bf16⟩
  | .hbm, ⟨15, _⟩ => ⟨S512x1024, .bf16⟩
  | .hbm, ⟨16, _⟩ => ⟨S512x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S768x128, .bf16⟩
  | .local _ .vmem, ⟨5, _⟩ => ⟨S768x128, .bf16⟩
  | .local _ .vmem, ⟨6, _⟩ => ⟨S768x128, .bf16⟩
  | .local _ .vmem, ⟨7, _⟩ => ⟨S768x128, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S512x1024, .bf16⟩
  | .local _ .vmem, ⟨13, _⟩ => ⟨S128x1024, .bf16⟩
  | .local _ .vmem, ⟨14, _⟩ => ⟨S128x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S128x1024, .f32⟩
  | .local _ .vmem, ⟨19, _⟩ => ⟨S128x1024, .f32⟩
  | .local _ .vmem, ⟨20, _⟩ => ⟨S512x1024, .f32⟩
  | .local _ .vmem, ⟨21, _⟩ => ⟨S512x1024, .f32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c5_i32_14 : BitVec 32 := 5#32
  let v20 : BitVec 1 := Scalar.cmpi .eq arg0 c5_i32_14
  let v21 : BitVec 32 := Scalar.extui v20
  let c0_i32_15 : BitVec 32 := 0#32
  let v22 : BitVec 1 := Scalar.cmpi .ne v21 c0_i32_15
  v22

def k0_cond9 (i : grid0.Coords) : BitVec 1 :=
  let arg0 : BitVec 32 := BitVec.ofNat 32 (i 0).val
  let c5_i32_23 : BitVec 32 := 5#32
  let v31 : BitVec 1 := Scalar.cmpi .eq arg0 c5_i32_23
  let v32 : BitVec 32 := Scalar.extui v31
  let c0_i32_24 : BitVec 32 := 0#32
  let v33 : BitVec 1 := Scalar.cmpi .ne v32 c0_i32_24
  v33

def k0_cond12 (i : grid0.Coords) : BitVec 1 :=
  let arg0 : BitVec 32 := BitVec.ofNat 32 (i 0).val
  let c5_i32_32 : BitVec 32 := 5#32
  let v42 : BitVec 1 := Scalar.cmpi .eq arg0 c5_i32_32
  let v43 : BitVec 32 := Scalar.extui v42
  let c0_i32_33 : BitVec 32 := 0#32
  let v44 : BitVec 1 := Scalar.cmpi .ne v43 c0_i32_33
  v44

def k0_cond15 (i : grid0.Coords) : BitVec 1 :=
  let arg0 : BitVec 32 := BitVec.ofNat 32 (i 0).val
  let c5_i32_41 : BitVec 32 := 5#32
  let v53 : BitVec 1 := Scalar.cmpi .eq arg0 c5_i32_41
  let v54 : BitVec 32 := Scalar.extui v53
  let c0_i32_42 : BitVec 32 := 0#32
  let v55 : BitVec 1 := Scalar.cmpi .ne v54 c0_i32_42
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference17Ideal.lean ====
abbrev S4608x512 : Shape := ⟨2, ![4608, 512]⟩
abbrev S4608x128 : Shape := ⟨2, ![4608, 128]⟩
abbrev S4608x1024 : Shape := ⟨2, ![4608, 1024]⟩
abbrev S1792x1024 : Shape := ⟨2, ![1792, 1024]⟩
abbrev S1024x1792 : Shape := ⟨2, ![1024, 1792]⟩
abbrev S4608x1792 : Shape := ⟨2, ![4608, 1792]⟩
abbrev S512x1024 : Shape := ⟨2, ![512, 1024]⟩
abbrev S128x1024 : Shape := ⟨2, ![128, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S4608x1024, .bf16⟩
  | .hbm, ⟨6, _⟩ => ⟨S1792x1024, .bf16⟩
  | .hbm, ⟨7, _⟩ => ⟨S1024x1792, .bf16⟩
  | .hbm, ⟨8, _⟩ => ⟨S4608x1024, .f32⟩
  | .hbm, ⟨9, _⟩ => ⟨S1024x1792, .f32⟩
  | .hbm, ⟨10, _⟩ => ⟨S4608x1792, .f32⟩
  | .hbm, ⟨11, _⟩ => ⟨S4608x1792, .bf16⟩
  | .hbm, ⟨12, _⟩ => ⟨S4608x512, .bf16⟩
  | .hbm, ⟨13, _⟩ => ⟨S4608x128, .bf16⟩
  | .hbm, ⟨14, _⟩ => ⟨S4608x128, .bf16⟩
  | .hbm, ⟨15, _⟩ => ⟨S4608x512, .bf16⟩
  | .hbm, ⟨16, _⟩ => ⟨S4608x512, .bf16⟩
  | .hbm, ⟨17, _⟩ => ⟨S4608x1792, .bf16⟩
  | .hbm, ⟨18, _⟩ => ⟨S4608x1792, .f32⟩
  | .hbm, ⟨19, _⟩ => ⟨S1792x1024, .f32⟩
  | .hbm, ⟨20, _⟩ => ⟨S1024x1792, .f32⟩
  | .hbm, ⟨21, _⟩ => ⟨S1024x1792, .bf16⟩
  | .hbm, ⟨22, _⟩ => ⟨S1792x1024, .bf16⟩
  | .hbm, ⟨23, _⟩ => ⟨S512x1024, .bf16⟩
  | .hbm, ⟨24, _⟩ => ⟨S128x1024, .bf16⟩
  | .hbm, ⟨25, _⟩ => ⟨S128x1024, .bf16⟩
  | .hbm, ⟨26, _⟩ => ⟨S512x1024, .bf16⟩
  | .hbm, ⟨27, _⟩ => ⟨S512x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel18.lean ====
abbrev S4608x1024 : Shape := ⟨2, ![4608, 1024]⟩
abbrev S1440x1024 : Shape := ⟨2, ![1440, 1024]⟩
abbrev S256x1024 : Shape := ⟨2, ![256, 1024]⟩
abbrev S128x1024 : Shape := ⟨2, ![128, 1024]⟩
abbrev S32x1024 : Shape := ⟨2, ![32, 1024]⟩
abbrev S512x1024 : Shape := ⟨2, ![512, 1024]⟩
abbrev S_ : Shape := ⟨0, ![]⟩
abbrev S4608x256 : Shape := ⟨2, ![4608, 256]⟩
abbrev S4608x128 : Shape := ⟨2, ![4608, 128]⟩
abbrev S4608x512 : Shape := ⟨2, ![4608, 512]⟩
abbrev S1152x1024 : Shape := ⟨2, ![1152, 1024]⟩
abbrev S1152x256 : Shape := ⟨2, ![1152, 256]⟩
abbrev S1152x128 : Shape := ⟨2, ![1152, 128]⟩
abbrev S1152x512 : Shape := ⟨2, ![1152, 512]⟩

abbrev nBuf : Space → Nat
  | .hbm => 15
  | .vmem => 17
  | .smem => 0
  | _ => 0

abbrev bufTy : (tb : Table) → Fin (tcTables nBuf tb) → BufTy
  | .hbm, ⟨0, _⟩ => ⟨S4608x1024, .bf16⟩
  | .hbm, ⟨1, _⟩ => ⟨S1440x1024, .bf16⟩
  | .hbm, ⟨2, _⟩ => ⟨S256x1024, .bf16⟩
  | .hbm, ⟨3, _⟩ => ⟨S128x1024, .bf16⟩
  | .hbm, ⟨4, _⟩ => ⟨S32x1024, .bf16⟩
  | .hbm, ⟨5, _⟩ => ⟨S512x1024, .bf16⟩
  | .hbm, ⟨6, _⟩ => ⟨S512x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S4608x256, .bf16⟩
  | .hbm, ⟨11, _⟩ => ⟨S4608x128, .bf16⟩
  | .hbm, ⟨12, _⟩ => ⟨S4608x128, .bf16⟩
  | .hbm, ⟨13, _⟩ => ⟨S4608x512, .bf16⟩
  | .hbm, ⟨14, _⟩ => ⟨S4608x512, .bf16⟩
  | .local _ .vmem, ⟨0, _⟩ => ⟨S1152x1024, .bf16⟩
  | .local _ .vmem, ⟨1, _⟩ => ⟨S1152x1024, .bf16⟩
  | .local _ .vmem, ⟨2, _⟩ => ⟨S256x1024, .bf16⟩
  | .local _ .vmem, ⟨3, _⟩ => ⟨S128x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S1152x256, .bf16⟩
  | .local _ .vmem, ⟨8, _⟩ => ⟨S1152x256, .bf16⟩
  | .local _ .vmem, ⟨9, _⟩ => ⟨S1152x128, .bf16⟩
  | .local _ .vmem, ⟨10, _⟩ => ⟨S1152x128, .bf16⟩
  | .local _ .vmem, ⟨11, _⟩ => ⟨S1152x128, .bf16⟩
  | .local _ .vmem, ⟨12, _⟩ => ⟨S1152x128, .bf16⟩
  | .local _ .vmem, ⟨13, _⟩ => ⟨S1152x512, .bf16⟩
  | .local _ .vmem, ⟨14, _⟩ => ⟨S1152x512, .bf16⟩
  | .local _ .vmem, ⟨15, _⟩ => ⟨S1152x512, .bf16⟩
  | .local _ .vmem, ⟨16, _⟩ => ⟨S1152x512, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1152x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S4608x1024 : Shape := ⟨2, ![4608, 1024]⟩
abbrev S1440x1024 : Shape := ⟨2, ![1440, 1024]⟩
abbrev S1024x1440 : Shape := ⟨2, ![1024, 1440]⟩
abbrev S4608x1440 : Shape := ⟨2, ![4608, 1440]⟩
abbrev S4608x256 : Shape := ⟨2, ![4608, 256]⟩
abbrev S4608x128 : Shape := ⟨2, ![4608, 128]⟩
abbrev S4608x32 : Shape := ⟨2, ![4608, 32]⟩
abbrev S4608x512 : Shape := ⟨2, ![4608, 512]⟩
abbrev S_ : Shape := ⟨0, ![]⟩
abbrev S4608x64 : Shape := ⟨2, ![4608, 64]⟩

abbrev nBuf : Space → Nat
  | .hbm => 17
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1440x1024, .bf16⟩
  | .hbm, ⟨2, _⟩ => ⟨S1024x1440, .bf16⟩
  | .hbm, ⟨3, _⟩ => ⟨S4608x1024, .f32⟩
  | .hbm, ⟨4, _⟩ => ⟨S1024x1440, .f32⟩
  | .hbm, ⟨5, _⟩ => ⟨S4608x1440, .f32⟩
  | .hbm, ⟨6, _⟩ => ⟨S4608x1440, .bf16⟩
  | .hbm, ⟨7, _⟩ => ⟨S4608x256, .bf16⟩
  | .hbm, ⟨8, _⟩ => ⟨S4608x128, .bf16⟩
  | .hbm, ⟨9, _⟩ => ⟨S4608x32, .bf16⟩
  | .hbm, ⟨10, _⟩ => ⟨S4608x512, .bf16⟩
  | .hbm, ⟨11, _⟩ => ⟨S4608x512, .bf16⟩
  | .hbm, ⟨12, _⟩ => ⟨S_, .bf16⟩
  | .hbm, ⟨13, _⟩ => ⟨S4608x64, .bf16⟩
  | .hbm, ⟨14, _⟩ => ⟨S_, .bf16⟩
  | .hbm, ⟨15, _⟩ => ⟨S4608x32, .bf16⟩
  | .hbm, ⟨16, _⟩ => ⟨S4608x128, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel19.lean ====
abbrev S4608x256 : Shape := ⟨2, ![4608, 256]⟩
abbrev S4608x128 : Shape := ⟨2, ![4608, 128]⟩
abbrev S4608x512 : Shape := ⟨2, ![4608, 512]⟩
abbrev S1440x1024 : Shape := ⟨2, ![1440, 1024]⟩
abbrev S256x1024 : Shape := ⟨2, ![256, 1024]⟩
abbrev S128x1024 : Shape := ⟨2, ![128, 1024]⟩
abbrev S32x1024 : Shape := ⟨2, ![32, 1024]⟩
abbrev S512x1024 : Shape := ⟨2, ![512, 1024]⟩
abbrev S_ : Shape := ⟨0, ![]⟩
abbrev S4608x1024 : Shape := ⟨2, ![4608, 1024]⟩
abbrev S1152x256 : Shape := ⟨2, ![1152, 256]⟩
abbrev S1152x128 : Shape := ⟨2, ![1152, 128]⟩
abbrev S1152x512 : Shape := ⟨2, ![1152, 512]⟩
abbrev S1152x1024 : Shape := ⟨2, ![1152, 1024]⟩

abbrev nBuf : Space → Nat
  | .hbm => 15
  | .vmem => 17
  | .smem => 0
  | _ => 0

abbrev bufTy : (tb : Table) → Fin (tcTables nBuf tb) → BufTy
  | .hbm, ⟨0, _⟩ => ⟨S4608x256, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S1440x1024, .bf16⟩
  | .hbm, ⟨6, _⟩ => ⟨S256x1024, .bf16⟩
  | .hbm, ⟨7, _⟩ => ⟨S128x1024, .bf16⟩
  | .hbm, ⟨8, _⟩ => ⟨S32x1024, .bf16⟩
  | .hbm, ⟨9, _⟩ => ⟨S512x1024, .bf16⟩
  | .hbm, ⟨10, _⟩ => ⟨S512x1024, .bf16⟩
  | .hbm, ⟨11, _⟩ => ⟨S_, .i32⟩
  | .hbm, ⟨12, _⟩ => ⟨S_, .bf16⟩
  | .hbm, ⟨13, _⟩ => ⟨S128x1024, .bf16⟩
  | .hbm, ⟨14, _⟩ => ⟨S4608x1024, .bf16⟩
  | .local _ .vmem, ⟨0, _⟩ => ⟨S1152x256, .bf16⟩
  | .local _ .vmem, ⟨1, _⟩ => ⟨S1152x256, .bf16⟩
  | .local _ .vmem, ⟨2, _⟩ => ⟨S1152x128, .bf16⟩
  | .local _ .vmem, ⟨3, _⟩ => ⟨S1152x128, .bf16⟩
  | .local _ .vmem, ⟨4, _⟩ => ⟨S1152x128, .bf16⟩
  | .local _ .vmem, ⟨5, _⟩ => ⟨S1152x128, .bf16⟩
  | .local _ .vmem, ⟨6, _⟩ => ⟨S1152x512, .bf16⟩
  | .local _ .vmem, ⟨7, _⟩ => ⟨S1152x512, .bf16⟩
  | .local _ .vmem, ⟨8, _⟩ => ⟨S1152x512, .bf16⟩
  | .local _ .vmem, ⟨9, _⟩ => ⟨S1152x512, .bf16⟩
  | .local _ .vmem, ⟨10, _⟩ => ⟨S256x1024, .bf16⟩
  | .local _ .vmem, ⟨11, _⟩ => ⟨S128x1024, .bf16⟩
  | .local _ .vmem, ⟨12, _⟩ => ⟨S128x1024, .bf16⟩
  | .local _ .vmem, ⟨13, _⟩ => ⟨S512x1024, .bf16⟩
  | .local _ .vmem, ⟨14, _⟩ => ⟨S512x1024, .bf16⟩
  | .local _ .vmem, ⟨15, _⟩ => ⟨S1152x1024, .bf16⟩
  | .local _ .vmem, ⟨16, _⟩ => ⟨S1152x1024, .bf16⟩
  | _, _ => ⟨S4608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1152x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference19Ideal.lean ====
abbrev S4608x256 : Shape := ⟨2, ![4608, 256]⟩
abbrev S4608x128 : Shape := ⟨2, ![4608, 128]⟩
abbrev S4608x512 : Shape := ⟨2, ![4608, 512]⟩
abbrev S1440x1024 : Shape := ⟨2, ![1440, 1024]⟩
abbrev S_ : Shape := ⟨0, ![]⟩
abbrev S4608x1024 : Shape := ⟨2, ![4608, 1024]⟩
abbrev S1024x1440 : Shape := ⟨2, ![1024, 1440]⟩
abbrev S4608x1440 : Shape := ⟨2, ![4608, 1440]⟩
abbrev S4608x32 : Shape := ⟨2, ![4608, 32]⟩
abbrev S4608x64 : Shape := ⟨2, ![4608, 64]⟩

abbrev nBuf : Space → Nat
  | .hbm => 34
  | .vmem => 0
  | .smem => 0
  | _ => 0

abbrev bufTy : (tb : Table) → Fin (tcTables nBuf tb) → BufTy
  | .hbm, ⟨0, _⟩ => ⟨S4608x256, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S1440x1024, .bf16⟩
  | .hbm, ⟨6, _⟩ => ⟨S_, .bf16⟩
  | .hbm, ⟨7, _⟩ => ⟨S4608x1024, .bf16⟩
  | .hbm, ⟨8, _⟩ => ⟨S1024x1440, .bf16⟩
  | .hbm, ⟨9, _⟩ => ⟨S4608x1024, .f32⟩
  | .hbm, ⟨10, _⟩ => ⟨S1024x1440, .f32⟩
  | .hbm, ⟨11, _⟩ => ⟨S4608x1440, .f32⟩
  | .hbm, ⟨12, _⟩ => ⟨S4608x1440, .bf16⟩
  | .hbm, ⟨13, _⟩ => ⟨S4608x256, .bf16⟩
  | .hbm, ⟨14, _⟩ => ⟨S4608x128, .bf16⟩
  | .hbm, ⟨15, _⟩ => ⟨S4608x32, .bf16⟩
  | .hbm, ⟨16, _⟩ => ⟨S4608x512, .bf16⟩
  | .hbm, ⟨17, _⟩ => ⟨S4608x512, .bf16⟩
  | .hbm, ⟨18, _⟩ => ⟨S_, .bf16⟩
  | .hbm, ⟨19, _⟩ => ⟨S4608x64, .bf16⟩
  | .hbm, ⟨20, _⟩ => ⟨S_, .bf16⟩
  | .hbm, ⟨21, _⟩ => ⟨S4608x32, .bf16⟩
  | .hbm, ⟨22, _⟩ => ⟨S4608x128, .bf16⟩
  | .hbm, ⟨23, _⟩ => ⟨S_, .bf16⟩
  | .hbm, ⟨24, _⟩ => ⟨S4608x64, .bf16⟩
  | .hbm, ⟨25, _⟩ => ⟨S_, .bf16⟩
  | .hbm, ⟨26, _⟩ => ⟨S4608x32, .bf16⟩
  | .hbm, ⟨27, _⟩ => ⟨S4608x64, .bf16⟩
  | .hbm, ⟨28, _⟩ => ⟨S4608x32, .bf16⟩
  | .hbm, ⟨29, _⟩ => ⟨S4608x32, .bf16⟩
  | .hbm, ⟨30, _⟩ => ⟨S4608x1440, .bf16⟩
  | .hbm, ⟨31, _⟩ => ⟨S4608x1440, .f32⟩
  | .hbm, ⟨32, _⟩ => ⟨S4608x1024, .f32⟩
  | .hbm, ⟨33, _⟩ => ⟨S4608x1024, .bf16⟩
  | _, _ => ⟨S4608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel20.lean ====
abbrev S4608x256 : Shape := ⟨2, ![4608, 256]⟩
abbrev S4608x128 : Shape := ⟨2, ![4608, 128]⟩
abbrev S4608x512 : Shape := ⟨2, ![4608, 512]⟩
abbrev S4608x1024 : Shape := ⟨2, ![4608, 1024]⟩
abbrev S1536x1024 : Shape := ⟨2, ![1536, 1024]⟩
abbrev S256x1024 : Shape := ⟨2, ![256, 1024]⟩
abbrev S128x1024 : Shape := ⟨2, ![128, 1024]⟩
abbrev S512x1024 : Shape := ⟨2, ![512, 1024]⟩
abbrev S768x1024 : Shape := ⟨2, ![768, 1024]⟩
abbrev S768x256 : Shape := ⟨2, ![768, 256]⟩
abbrev S768x128 : Shape := ⟨2, ![768, 128]⟩
abbrev S768x512 : Shape := ⟨2, ![768, 512]⟩

abbrev nBuf : Space → Nat
  | .hbm => 17
  | .vmem => 22
  | .smem => 0
  | _ => 0

abbrev bufTy : (tb : Table) → Fin (tcTables nBuf tb) → BufTy
  | .hbm, ⟨0, _⟩ => ⟨S4608x256, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S4608x1024, .bf16⟩
  | .hbm, ⟨6, _⟩ => ⟨S1536x1024, .bf16⟩
  | .hbm, ⟨7, _⟩ => ⟨S256x1024, .bf16⟩
  | .hbm, ⟨8, _⟩ => ⟨S128x1024, .bf16⟩
  | .hbm, ⟨9, _⟩ => ⟨S128x1024, .bf16⟩
  | .hbm, ⟨10, _⟩ => ⟨S512x1024, .bf16⟩
  | .hbm, ⟨11, _⟩ => ⟨S512x1024, .bf16⟩
  | .hbm, ⟨12, _⟩ => ⟨S256x1024, .bf16⟩
  | .hbm, ⟨13, _⟩ => ⟨S128x1024, .bf16⟩
  | .hbm, ⟨14, _⟩ => ⟨S128x1024, .bf16⟩
  | .hbm, ⟨15, _⟩ => ⟨S512x1024, .bf16⟩
  | .hbm, ⟨16, _⟩ => ⟨S512x1024, .bf16⟩
  | .local _ .vmem, ⟨0, _⟩ => ⟨S768x1024, .bf16⟩
  | .local _ .vmem, ⟨1, _⟩ => ⟨S768x1024, .bf16⟩
  | .local _ .vmem, ⟨2, _⟩ => ⟨S768x256, .bf16⟩
  | .local _ .vmem, ⟨3, _⟩ => ⟨S768x256, .bf16⟩
  | .local _ .vmem, ⟨4, _⟩ => ⟨S768x128, .bf16⟩
  | .local _ .vmem, ⟨5, _⟩ => ⟨S768x128, .bf16⟩
  | .local _ .vmem, ⟨6, _⟩ => ⟨S768x128, .bf16⟩
  | .local _ .vmem, ⟨7, _⟩ => ⟨S768x128, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S256x1024, .bf16⟩
  | .local _ .vmem, ⟨13, _⟩ => ⟨S128x1024, .bf16⟩
  | .local _ .vmem, ⟨14, _⟩ => ⟨S128x1024, .bf16⟩
  | .local _ .vmem, ⟨15, _⟩ => ⟨S512x1024, .bf16⟩
  | .local _ .vmem, ⟨16, _⟩ => ⟨S512x1024, .bf16⟩
  | .local _ .vmem, ⟨17, _⟩ => ⟨S256x1024, .f32⟩
  | .local _ .vmem, ⟨18, _⟩ => ⟨S128x1024, .f32⟩
  | .local _ .vmem, ⟨19, _⟩ => ⟨S128x1024, .f32⟩
  | .local _ .vmem, ⟨20, _⟩ => ⟨S512x1024, .f32⟩
  | .local _ .vmem, ⟨21, _⟩ => ⟨S512x1024, .f32⟩
  | _, _ => ⟨S4608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c5_i32_14 : BitVec 32 := 5#32
  let v20 : BitVec 1 := Scalar.cmpi .eq arg0 c5_i32_14
  let v21 : BitVec 32 := Scalar.extui v20
  let c0_i32_15 : BitVec 32 := 0#32
  let v22 : BitVec 1 := Scalar.cmpi .ne v21 c0_i32_15
  v22

def k0_cond9 (i : grid0.Coords) : BitVec 1 :=
  let arg0 : BitVec 32 := BitVec.ofNat 32 (i 0).val
  let c5_i32_23 : BitVec 32 := 5#32
  let v31 : BitVec 1 := Scalar.cmpi .eq arg0 c5_i32_23
  let v32 : BitVec 32 := Scalar.extui v31
  let c0_i32_24 : BitVec 32 := 0#32
  let v33 : BitVec 1 := Scalar.cmpi .ne v32 c0_i32_24
  v33

def k0_cond12 (i : grid0.Coords) : BitVec 1 :=
  let arg0 : BitVec 32 := BitVec.ofNat 32 (i 0).val
  let c5_i32_32 : BitVec 32 := 5#32
  let v42 : BitVec 1 := Scalar.cmpi .eq arg0 c5_i32_32
  let v43 : BitVec 32 := Scalar.extui v42
  let c0_i32_33 : BitVec 32 := 0#32
  let v44 : BitVec 1 := Scalar.cmpi .ne v43 c0_i32_33
  v44

def k0_cond15 (i : grid0.Coords) : BitVec 1 :=
  let arg0 : BitVec 32 := BitVec.ofNat 32 (i 0).val
  let c5_i32_41 : BitVec 32 := 5#32
  let v53 : BitVec 1 := Scalar.cmpi .eq arg0 c5_i32_41
  let v54 : BitVec 32 := Scalar.extui v53
  let c0_i32_42 : BitVec 32 := 0#32
  let v55 : BitVec 1 := Scalar.cmpi .ne v54 c0_i32_42
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference20Ideal.lean ====
abbrev S4608x256 : Shape := ⟨2, ![4608, 256]⟩
abbrev S4608x128 : Shape := ⟨2, ![4608, 128]⟩
abbrev S4608x512 : Shape := ⟨2, ![4608, 512]⟩
abbrev S4608x1024 : Shape := ⟨2, ![4608, 1024]⟩
abbrev S1536x1024 : Shape := ⟨2, ![1536, 1024]⟩
abbrev S1024x1536 : Shape := ⟨2, ![1024, 1536]⟩
abbrev S4608x1536 : Shape := ⟨2, ![4608, 1536]⟩
abbrev S256x1024 : Shape := ⟨2, ![256, 1024]⟩
abbrev S128x1024 : Shape := ⟨2, ![128, 1024]⟩
abbrev S512x1024 : Shape := ⟨2, ![512, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4608x256, .bf16⟩
  | .hbm, ⟨1, _⟩ => ⟨S4608x128, .bf16⟩
  | .hbm, ⟨2, _⟩ => ⟨S4608x128, .bf16⟩
  | .hbm, ⟨3, _⟩ => ⟨S4608x512, .bf16⟩
  | .hbm, ⟨4, _⟩ => ⟨S4608x512, .bf16⟩
  | .hbm, ⟨5, _⟩ => ⟨S4608x1024, .bf16⟩
  | .hbm, ⟨6, _⟩ => ⟨S1536x1024, .bf16⟩
  | .hbm, ⟨7, _⟩ => ⟨S1024x1536, .bf16⟩
  | .hbm, ⟨8, _⟩ => ⟨S4608x1024, .f32⟩
  | .hbm, ⟨9, _⟩ => ⟨S1024x1536, .f32⟩
  | .hbm, ⟨10, _⟩ => ⟨S4608x1536, .f32⟩
  | .hbm, ⟨11, _⟩ => ⟨S4608x1536, .bf16⟩
  | .hbm, ⟨12, _⟩ => ⟨S4608x256, .bf16⟩
  | .hbm, ⟨13, _⟩ => ⟨S4608x128, .bf16⟩
  | .hbm, ⟨14, _⟩ => ⟨S4608x128, .bf16⟩
  | .hbm, ⟨15, _⟩ => ⟨S4608x512, .bf16⟩
  | .hbm, ⟨16, _⟩ => ⟨S4608x512, .bf16⟩
  | .hbm, ⟨17, _⟩ => ⟨S4608x1536, .bf16⟩
  | .hbm, ⟨18, _⟩ => ⟨S4608x1536, .f32⟩
  | .hbm, ⟨19, _⟩ => ⟨S1536x1024, .f32⟩
  | .hbm, ⟨20, _⟩ => ⟨S1024x1536, .f32⟩
  | .hbm, ⟨21, _⟩ => ⟨S1024x1536, .bf16⟩
  | .hbm, ⟨22, _⟩ => ⟨S1536x1024, .bf16⟩
  | .hbm, ⟨23, _⟩ => ⟨S256x1024, .bf16⟩
  | .hbm, ⟨24, _⟩ => ⟨S128x1024, .bf16⟩
  | .hbm, ⟨25, _⟩ => ⟨S128x1024, .bf16⟩
  | .hbm, ⟨26, _⟩ => ⟨S512x1024, .bf16⟩
  | .hbm, ⟨27, _⟩ => ⟨S512x1024, .bf16⟩
  | _, _ => ⟨S4608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel21.lean ====
abbrev S4608x512 : Shape := ⟨2, ![4608, 512]⟩
abbrev S1024x1024 : Shape := ⟨2, ![1024, 1024]⟩
abbrev S512x1024 : Shape := ⟨2, ![512, 1024]⟩
abbrev S4608x1024 : Shape := ⟨2, ![4608, 1024]⟩
abbrev S1152x512 : Shape := ⟨2, ![1152, 512]⟩
abbrev S1152x1024 : Shape := ⟨2, ![1152, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S1024x1024, .bf16⟩
  | .hbm, ⟨3, _⟩ => ⟨S512x1024, .bf16⟩
  | .hbm, ⟨4, _⟩ => ⟨S512x1024, .bf16⟩
  | .hbm, ⟨5, _⟩ => ⟨S4608x1024, .bf16⟩
  | .local _ .vmem, ⟨0, _⟩ => ⟨S1152x512, .bf16⟩
  | .local _ .vmem, ⟨1, _⟩ => ⟨S1152x512, .bf16⟩
  | .local _ .vmem, ⟨2, _⟩ => ⟨S1152x512, .bf16⟩
  | .local _ .vmem, ⟨3, _⟩ => ⟨S1152x512, .bf16⟩
  | .local _ .vmem, ⟨4, _⟩ => ⟨S512x1024, .bf16⟩
  | .local _ .vmem, ⟨5, _⟩ => ⟨S512x1024, .bf16⟩
  | .local _ .vmem, ⟨6, _⟩ => ⟨S1152x1024, .bf16⟩
  | .local _ .vmem, ⟨7, _⟩ => ⟨S1152x1024, .bf16⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel21Ideal.lean ====
abbrev S4608x512 : Shape := ⟨2, ![4608, 512]⟩
abbrev S1024x1024 : Shape := ⟨2, ![1024, 1024]⟩
abbrev S512x1024 : Shape := ⟨2, ![512, 1024]⟩
abbrev S4608x1024 : Shape := ⟨2, ![4608, 1024]⟩
abbrev S1152x512 : Shape := ⟨2, ![1152, 512]⟩
abbrev S1152x1024 : Shape := ⟨2, ![1152, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S1024x1024, .bf16⟩
  | .hbm, ⟨3, _⟩ => ⟨S512x1024, .bf16⟩
  | .hbm, ⟨4, _⟩ => ⟨S512x1024, .bf16⟩
  | .hbm, ⟨5, _⟩ => ⟨S4608x1024, .bf16⟩
  | .local _ .vmem, ⟨0, _⟩ => ⟨S1152x512, .bf16⟩
  | .local _ .vmem, ⟨1, _⟩ => ⟨S1152x512, .bf16⟩
  | .local _ .vmem, ⟨2, _⟩ => ⟨S1152x512, .bf16⟩
  | .local _ .vmem, ⟨3, _⟩ => ⟨S1152x512, .bf16⟩
  | .local _ .vmem, ⟨4, _⟩ => ⟨S512x1024, .bf16⟩
  | .local _ .vmem, ⟨5, _⟩ => ⟨S512x1024, .bf16⟩
  | .local _ .vmem, ⟨6, _⟩ => ⟨S1152x1024, .bf16⟩
  | .local _ .vmem, ⟨7, _⟩ => ⟨S1152x1024, .bf16⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S4608x512 : Shape := ⟨2, ![4608, 512]⟩
abbrev S1024x1024 : Shape := ⟨2, ![1024, 1024]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S1024x1024, .bf16⟩
  | .hbm, ⟨3, _⟩ => ⟨S4608x1024, .bf16⟩
  | .hbm, ⟨4, _⟩ => ⟨S4608x1024, .f32⟩
  | .hbm, ⟨5, _⟩ => ⟨S1024x1024, .f32⟩
  | .hbm, ⟨6, _⟩ => ⟨S4608x1024, .f32⟩
  | .hbm, ⟨7, _⟩ => ⟨S4608x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4608x1024 : Shape := ⟨2, ![4608, 1024]⟩
abbrev S1024x1024 : Shape := ⟨2, ![1024, 1024]⟩
abbrev S512x1024 : Shape := ⟨2, ![512, 1024]⟩
abbrev S4608x512 : Shape := ⟨2, ![4608, 512]⟩
abbrev S1152x1024 : Shape := ⟨2, ![1152, 1024]⟩
abbrev S1152x512 : Shape := ⟨2, ![1152, 512]⟩

abbrev nBuf : Space → Nat
  | .hbm => 6
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4608x512, .bf16⟩
  | .hbm, ⟨5, _⟩ => ⟨S4608x512, .bf16⟩
  | .local _ .vmem, ⟨0, _⟩ => ⟨S1152x1024, .bf16⟩
  | .local _ .vmem, ⟨1, _⟩ => ⟨S1152x1024, .bf16⟩
  | .local _ .vmem, ⟨2, _⟩ => ⟨S512x1024, .bf16⟩
  | .local _ .vmem, ⟨3, _⟩ => ⟨S512x1024, .bf16⟩
  | .local _ .vmem, ⟨4, _⟩ => ⟨S1152x512, .bf16⟩
  | .local _ .vmem, ⟨5, _⟩ => ⟨S1152x512, .bf16⟩
  | .local _ .vmem, ⟨6, _⟩ => ⟨S1152x512, .bf16⟩
  | .local _ .vmem, ⟨7, _⟩ => ⟨S1152x512, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel22Ideal.lean ====
abbrev S4608x1024 : Shape := ⟨2, ![4608, 1024]⟩
abbrev S1024x1024 : Shape := ⟨2, ![1024, 1024]⟩
abbrev S512x1024 : Shape := ⟨2, ![512, 1024]⟩
abbrev S4608x512 : Shape := ⟨2, ![4608, 512]⟩
abbrev S1152x1024 : Shape := ⟨2, ![1152, 1024]⟩
abbrev S1152x512 : Shape := ⟨2, ![1152, 512]⟩

abbrev nBuf : Space → Nat
  | .hbm => 6
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4608x512, .bf16⟩
  | .hbm, ⟨5, _⟩ => ⟨S4608x512, .bf16⟩
  | .local _ .vmem, ⟨0, _⟩ => ⟨S1152x1024, .bf16⟩
  | .local _ .vmem, ⟨1, _⟩ => ⟨S1152x1024, .bf16⟩
  | .local _ .vmem, ⟨2, _⟩ => ⟨S512x1024, .bf16⟩
  | .local _ .vmem, ⟨3, _⟩ => ⟨S512x1024, .bf16⟩
  | .local _ .vmem, ⟨4, _⟩ => ⟨S1152x512, .bf16⟩
  | .local _ .vmem, ⟨5, _⟩ => ⟨S1152x512, .bf16⟩
  | .local _ .vmem, ⟨6, _⟩ => ⟨S1152x512, .bf16⟩
  | .local _ .vmem, ⟨7, _⟩ => ⟨S1152x512, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4608x1024 : Shape := ⟨2, ![4608, 1024]⟩
abbrev S1024x1024 : Shape := ⟨2, ![1024, 1024]⟩
abbrev S_ : Shape := ⟨0, ![]⟩
abbrev S4608x512 : Shape := ⟨2, ![4608, 512]⟩

abbrev nBuf : Space → Nat
  | .hbm => 14
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S_, .bf16⟩
  | .hbm, ⟨3, _⟩ => ⟨S4608x512, .bf16⟩
  | .hbm, ⟨4, _⟩ => ⟨S4608x1024, .bf16⟩
  | .hbm, ⟨5, _⟩ => ⟨S4608x1024, .f32⟩
  | .hbm, ⟨6, _⟩ => ⟨S1024x1024, .f32⟩
  | .hbm, ⟨7, _⟩ => ⟨S4608x1024, .f32⟩
  | .hbm, ⟨8, _⟩ => ⟨S4608x1024, .bf16⟩
  | .hbm, ⟨9, _⟩ => ⟨S4608x1024, .f32⟩
  | .hbm, ⟨10, _⟩ => ⟨S4608x1024, .f32⟩
  | .hbm, ⟨11, _⟩ => ⟨S4608x1024, .bf16⟩
  | .hbm, ⟨12, _⟩ => ⟨S4608x512, .bf16⟩
  | .hbm, ⟨13, _⟩ => ⟨S4608x512, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel23.lean ====
abbrev S4608x512 : Shape := ⟨2, ![4608, 512]⟩
abbrev S4608x1024 : Shape := ⟨2, ![4608, 1024]⟩
abbrev S1024x1024 : Shape := ⟨2, ![1024, 1024]⟩
abbrev S512x1024 : Shape := ⟨2, ![512, 1024]⟩
abbrev S768x1024 : Shape := ⟨2, ![768, 1024]⟩
abbrev S768x512 : Shape := ⟨2, ![768, 512]⟩

abbrev nBuf : Space → Nat
  | .hbm => 8
  | .vmem => 10
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .bf16⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c5_i32_14 : BitVec 32 := 5#32
  let v20 : BitVec 1 := Scalar.cmpi .eq arg0 c5_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Kernel23Ideal.lean ====
abbrev S4608x512 : Shape := ⟨2, ![4608, 512]⟩
abbrev S4608x1024 : Shape := ⟨2, ![4608, 1024]⟩
abbrev S1024x1024 : Shape := ⟨2, ![1024, 1024]⟩
abbrev S512x1024 : Shape := ⟨2, ![512, 1024]⟩
abbrev S768x1024 : Shape := ⟨2, ![768, 1024]⟩
abbrev S768x512 : Shape := ⟨2, ![768, 512]⟩

abbrev nBuf : Space → Nat
  | .hbm => 8
  | .vmem => 10
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .bf16⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c5_i32_14 : BitVec 32 := 5#32
  let v20 : BitVec 1 := Scalar.cmpi .eq arg0 c5_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference23Ideal.lean ====
abbrev S4608x512 : Shape := ⟨2, ![4608, 512]⟩
abbrev S4608x1024 : Shape := ⟨2, ![4608, 1024]⟩
abbrev S1024x1024 : Shape := ⟨2, ![1024, 1024]⟩
abbrev S512x1024 : Shape := ⟨2, ![512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .bf16⟩
  | .hbm, ⟨3, _⟩ => ⟨S1024x1024, .bf16⟩
  | .hbm, ⟨4, _⟩ => ⟨S4608x1024, .bf16⟩
  | .hbm, ⟨5, _⟩ => ⟨S4608x1024, .f32⟩
  | .hbm, ⟨6, _⟩ => ⟨S1024x1024, .f32⟩
  | .hbm, ⟨7, _⟩ => ⟨S4608x1024, .f32⟩
  | .hbm, ⟨8, _⟩ => ⟨S4608x1024, .bf16⟩
  | .hbm, ⟨9, _⟩ => ⟨S4608x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S512x1024, .bf16⟩
  | .hbm, ⟨14, _⟩ => ⟨S512x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel24.lean ====
abbrev S4096x512 : Shape := ⟨2, ![4096, 512]⟩
abbrev S1024x1024 : Shape := ⟨2, ![1024, 1024]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S512x1024, .bf16⟩
  | .hbm, ⟨4, _⟩ => ⟨S512x1024, .bf16⟩
  | .hbm, ⟨5, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x512 : Shape := ⟨2, ![4096, 512]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩
abbrev S512x1024 : Shape := ⟨2, ![512, 1024]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4096x512, .bf16⟩
  | .hbm, ⟨5, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .bf16⟩
  | .hbm, ⟨3, _⟩ => ⟨S4096x512, .bf16⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x512, .bf16⟩
  | .hbm, ⟨13, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel26.lean ====
abbrev S4096x512 : Shape := ⟨2, ![4096, 512]⟩
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c7_i32_14 : BitVec 32 := 7#32
  let v20 : BitVec 1 := Scalar.cmpi .eq arg0 c7_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S4096x512 : Shape := ⟨2, ![4096, 512]⟩
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S512x1024, .bf16⟩
  | .hbm, ⟨14, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel27.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S2x2048x512 : Shape := ⟨3, ![2, 2048, 512]⟩
abbrev S2x2304x8x128 : Shape := ⟨4, ![2, 2304, 8, 128]⟩
abbrev S2x8x2304x128 : Shape := ⟨4, ![2, 8, 2304, 128]⟩
abbrev S2x1x2304x128 : Shape := ⟨4, ![2, 1, 2304, 128]⟩
abbrev S2x2048x8x128 : Shape := ⟨4, ![2, 2048, 8, 128]⟩
abbrev S2x8x2048x128 : Shape := ⟨4, ![2, 8, 2048, 128]⟩
abbrev S2x8x2304x64 : Shape := ⟨4, ![2, 8, 2304, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x2048x64 : Shape := ⟨4, ![2, 8, 2048, 64]⟩
abbrev S2x2048x8x64 : Shape := ⟨4, ![2, 2048, 8, 64]⟩
abbrev S1x256x256 : Shape := ⟨3, ![1, 256, 256]⟩
abbrev S1x2304x256 : Shape := ⟨3, ![1, 2304, 256]⟩
abbrev S1x2304x128 : Shape := ⟨3, ![1, 2304, 128]⟩
abbrev S1x256x128 : Shape := ⟨3, ![1, 256, 128]⟩
abbrev S1x2x256x1 : Shape := ⟨4, ![1, 2, 256, 1]⟩
abbrev S2304x256 : Shape := ⟨2, ![2304, 256]⟩
abbrev S2304x128 : Shape := ⟨2, ![2304, 128]⟩
abbrev S1x2304x64 : Shape := ⟨3, ![1, 2304, 64]⟩
abbrev S2304x64 : Shape := ⟨2, ![2304, 64]⟩
abbrev S1x256x64 : Shape := ⟨3, ![1, 256, 64]⟩
abbrev S256x64 : Shape := ⟨2, ![256, 64]⟩
abbrev S256x128 : Shape := ⟨2, ![256, 128]⟩
abbrev S256x2304 : Shape := ⟨2, ![256, 2304]⟩
abbrev S1x1x256x1 : Shape := ⟨4, ![1, 1, 256, 1]⟩
abbrev S256x1 : Shape := ⟨2, ![256, 1]⟩
abbrev S256 : Shape := ⟨1, ![256]⟩
abbrev S256x256 : Shape := ⟨2, ![256, 256]⟩

abbrev nBuf : Space → Nat
  | .hbm => 50
  | .vmem => 25
  | .smem => 0
  | _ => 0

abbrev bufTy : (tb : Table) → Fin (tcTables nBuf tb) → BufTy
  | .hbm, ⟨0, _⟩ => ⟨S2x2048x1024, .bf16⟩
  | .hbm, ⟨1, _⟩ => ⟨S2x2304x1024, .bf16⟩
  | .hbm, ⟨2, _⟩ => ⟨S2x2304x128, .bf16⟩
  | .hbm, ⟨3, _⟩ => ⟨S2x2304x1024, .bf16⟩
  | .hbm, ⟨4, _⟩ => ⟨S2x2048x512, .bf16⟩
  | .hbm, ⟨5, _⟩ => ⟨S2x2048x1024, .f32⟩
  | .hbm, ⟨6, _⟩ => ⟨S2x2304x1024, .f32⟩
  | .hbm, ⟨7, _⟩ => ⟨S2x2304x128, .f32⟩
  | .hbm, ⟨8, _⟩ => ⟨S2x2304x1024, .f32⟩
  | .hbm, ⟨9, _⟩ => ⟨S2x2304x8x128, .f32⟩
  | .hbm, ⟨10, _⟩ => ⟨S2x8x2304x128, .f32⟩
  | .hbm, ⟨11, _⟩ => ⟨S2x1x2304x128, .f32⟩
  | .hbm, ⟨12, _⟩ => ⟨S2x8x2304x128, .f32⟩
  | .hbm, ⟨13, _⟩ => ⟨S2x8x2304x128, .f32⟩
  | .hbm, ⟨14, _⟩ => ⟨S2x2048x8x128, .f32⟩
  | .hbm, ⟨15, _⟩ => ⟨S2x8x2048x128, .f32⟩
  | .hbm, ⟨16, _⟩ => ⟨S2x2304x8x128, .f32⟩
  | .hbm, ⟨17, _⟩ => ⟨S2x8x2304x128, .f32⟩
  | .hbm, ⟨18, _⟩ => ⟨S2x8x2304x64, .f32⟩
  | .hbm, ⟨19, _⟩ => ⟨S2x8x2048x2304, .f32⟩
  | .hbm, ⟨20, _⟩ => ⟨S_, .f32⟩
  | .hbm, ⟨21, _⟩ => ⟨S2x8x2048x2304, .f32⟩
  | .hbm, ⟨22, _⟩ => ⟨S2x8x2048x2304, .f32⟩
  | .hbm, ⟨23, _⟩ => ⟨S_, .f32⟩
  | .hbm, ⟨24, _⟩ => ⟨S2x8x2048, .f32⟩
  | .hbm, ⟨25, _⟩ => ⟨S2x8x2048x1, .f32⟩
  | .hbm, ⟨26, _⟩ => ⟨S2x8x2048x2304, .f32⟩
  | .hbm, ⟨27, _⟩ => ⟨S2x8x2048x2304, .f32⟩
  | .hbm, ⟨28, _⟩ => ⟨S2x8x2048x2304, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x2304, .f32⟩
  | .hbm, ⟨33, _⟩ => ⟨S2x8x2048x2304, .f32⟩
  | .hbm, ⟨34, _⟩ => ⟨S2x8x2048x2304, .bf16⟩
  | .hbm, ⟨35, _⟩ => ⟨S2x8x2048x64, .f32⟩
  | .hbm, ⟨36, _⟩ => ⟨S2x2048x8x64, .f32⟩
  | .hbm, ⟨37, _⟩ => ⟨S2x2048x512, .f32⟩
  | .hbm, ⟨38, _⟩ => ⟨S2x2048x512, .bf16⟩
  | .hbm, ⟨39, _⟩ => ⟨S2x8x2048x1, .f32⟩
  | .hbm, ⟨40, _⟩ => ⟨S2x8x2048x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x8x2048x1, .f32⟩
  | .hbm, ⟨45, _⟩ => ⟨S2x8x2048x1, .f32⟩
  | .hbm, ⟨46, _⟩ => ⟨S2x2048x1024, .bf16⟩
  | .hbm, ⟨47, _⟩ => ⟨S2x2304x1024, .bf16⟩
  | .hbm, ⟨48, _⟩ => ⟨S2x2304x128, .bf16⟩
  | .hbm, ⟨49, _⟩ => ⟨S2x2304x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2304x256, .bf16⟩
  | .local _ .vmem, ⟨7, _⟩ => ⟨S1x2304x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x2x256x1, .f32⟩
  | .local _ .vmem, ⟨11, _⟩ => ⟨S1x2x256x1, .f32⟩
  | .local _ .vmem, ⟨12, _⟩ => ⟨S1x256x128, .bf16⟩
  | .local _ .vmem, ⟨13, _⟩ => ⟨S1x256x128, .bf16⟩
  | .local _ .vmem, ⟨14, _⟩ => ⟨S1x256x256, .bf16⟩
  | .local _ .vmem, ⟨15, _⟩ => ⟨S1x256x256, .bf16⟩
  | .local _ .vmem, ⟨16, _⟩ => ⟨S1x2304x256, .bf16⟩
  | .local _ .vmem, ⟨17, _⟩ => ⟨S1x2304x256, .bf16⟩
  | .local _ .vmem, ⟨18, _⟩ => ⟨S1x2304x128, .bf16⟩
  | .local _ .vmem, ⟨19, _⟩ => ⟨S1x2304x128, .bf16⟩
  | .local _ .vmem, ⟨20, _⟩ => ⟨S1x2304x256, .bf16⟩
  | .local _ .vmem, ⟨21, _⟩ => ⟨S1x2304x256, .bf16⟩
  | .local _ .vmem, ⟨22, _⟩ => ⟨S2304x256, .f32⟩
  | .local _ .vmem, ⟨23, _⟩ => ⟨S2304x128, .f32⟩
  | .local _ .vmem, ⟨24, _⟩ => ⟨S2304x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev main_v37_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v0 : BitVec 1 := Scalar.cmpi .eq arg2 c7_i32
  let v119 : BitVec 32 := Scalar.extui v0
  let c0_i32_78 : BitVec 32 := 0#32
  let v120 : BitVec 1 := Scalar.cmpi .ne v119 c0_i32_78
  v120

def k0_cond4 (i : grid0.Coords) : BitVec 1 :=
  let arg2 : BitVec 32 := BitVec.ofNat 32 (i 2).val
  let c7_i32 : BitVec 32 := 7#32
  let v0 : BitVec 1 := Scalar.cmpi .eq arg2 c7_i32
  let arg1 : BitVec 32 := BitVec.ofNat 32 (i 1).val
  let c3_i32 : BitVec 32 := 3#32
  let v121 : BitVec 1 := Scalar.cmpi .eq arg1 c3_i32
  let v122 : BitVec 1 := Scalar.andi v0 v121
  let v123 : BitVec 32 := Scalar.extui v122
  let c0_i32_79 : BitVec 32 := 0#32
  let v124 : BitVec 1 := Scalar.cmpi .ne v123 c0_i32_79
  v124

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2304x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x2304x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Kernel27Ideal.lean ====
variable {F : FTy → Type} [FloatOps F] [Named F]
def κ : String → Option EReal := fun
  | "ln2" => some ((Real.log 2 : ℝ) : EReal)
  | "log2e" => some (((Real.log 2)⁻¹ : ℝ) : EReal)
  | "log2e_scale96" => some (((Real.log 2)⁻¹ * (3424635 * 33554432⁻¹) : ℝ) : EReal)
  | _ => none
-- ==== Reference27Ideal.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S2x2048x512 : Shape := ⟨3, ![2, 2048, 512]⟩
abbrev S2x2304x8x128 : Shape := ⟨4, ![2, 2304, 8, 128]⟩
abbrev S2x8x2304x128 : Shape := ⟨4, ![2, 8, 2304, 128]⟩
abbrev S2x1x2304x128 : Shape := ⟨4, ![2, 1, 2304, 128]⟩
abbrev S2x2048x8x128 : Shape := ⟨4, ![2, 2048, 8, 128]⟩
abbrev S2x8x2048x128 : Shape := ⟨4, ![2, 8, 2048, 128]⟩
abbrev S2x8x2304x64 : Shape := ⟨4, ![2, 8, 2304, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x2048x64 : Shape := ⟨4, ![2, 8, 2048, 64]⟩
abbrev S2x2048x8x64 : Shape := ⟨4, ![2, 2048, 8, 64]⟩
abbrev S2x8x64x2304 : Shape := ⟨4, ![2, 8, 64, 2304]⟩

abbrev nBuf : Space → Nat
  | .hbm => 111
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2304x1024, .bf16⟩
  | .hbm, ⟨2, _⟩ => ⟨S2x2304x128, .bf16⟩
  | .hbm, ⟨3, _⟩ => ⟨S2x2304x1024, .bf16⟩
  | .hbm, ⟨4, _⟩ => ⟨S2x2048x512, .bf16⟩
  | .hbm, ⟨5, _⟩ => ⟨S2x2048x1024, .f32⟩
  | .hbm, ⟨6, _⟩ => ⟨S2x2304x1024, .f32⟩
  | .hbm, ⟨7, _⟩ => ⟨S2x2304x128, .f32⟩
  | .hbm, ⟨8, _⟩ => ⟨S2x2304x1024, .f32⟩
  | .hbm, ⟨9, _⟩ => ⟨S2x2304x8x128, .f32⟩
  | .hbm, ⟨10, _⟩ => ⟨S2x8x2304x128, .f32⟩
  | .hbm, ⟨11, _⟩ => ⟨S2x1x2304x128, .f32⟩
  | .hbm, ⟨12, _⟩ => ⟨S2x8x2304x128, .f32⟩
  | .hbm, ⟨13, _⟩ => ⟨S2x8x2304x128, .f32⟩
  | .hbm, ⟨14, _⟩ => ⟨S2x2048x8x128, .f32⟩
  | .hbm, ⟨15, _⟩ => ⟨S2x8x2048x128, .f32⟩
  | .hbm, ⟨16, _⟩ => ⟨S2x2304x8x128, .f32⟩
  | .hbm, ⟨17, _⟩ => ⟨S2x8x2304x128, .f32⟩
  | .hbm, ⟨18, _⟩ => ⟨S2x8x2304x64, .f32⟩
  | .hbm, ⟨19, _⟩ => ⟨S2x8x2048x2304, .f32⟩
  | .hbm, ⟨20, _⟩ => ⟨S_, .f32⟩
  | .hbm, ⟨21, _⟩ => ⟨S2x8x2048x2304, .f32⟩
  | .hbm, ⟨22, _⟩ => ⟨S2x8x2048x2304, .f32⟩
  | .hbm, ⟨23, _⟩ => ⟨S_, .f32⟩
  | .hbm, ⟨24, _⟩ => ⟨S2x8x2048, .f32⟩
  | .hbm, ⟨25, _⟩ => ⟨S2x8x2048x1, .f32⟩
  | .hbm, ⟨26, _⟩ => ⟨S2x8x2048x2304, .f32⟩
  | .hbm, ⟨27, _⟩ => ⟨S2x8x2048x2304, .i1⟩
  | .hbm, ⟨28, _⟩ => ⟨S2x8x2048x2304, .f32⟩
  | .hbm, ⟨29, _⟩ => ⟨S_, .f32⟩
  | .hbm, ⟨30, _⟩ => ⟨S2x8x2048, .f32⟩
  | .hbm, ⟨31, _⟩ => ⟨S_, .f32⟩
  | .hbm, ⟨32, _⟩ => ⟨S2x8x2048, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S2x8x2048, .i1⟩
  | .hbm, ⟨37, _⟩ => ⟨S_, .f32⟩
  | .hbm, ⟨38, _⟩ => ⟨S2x8x2048, .f32⟩
  | .hbm, ⟨39, _⟩ => ⟨S2x8x2048, .i1⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S2x8x2048, .f32⟩
  | .hbm, ⟨47, _⟩ => ⟨S2x8x2048, .f32⟩
  | .hbm, ⟨48, _⟩ => ⟨S2x8x2048x1, .f32⟩
  | .hbm, ⟨49, _⟩ => ⟨S2x8x2048x2304, .f32⟩
  | .hbm, ⟨50, _⟩ => ⟨S2x8x2048x2304, .f32⟩
  | .hbm, ⟨51, _⟩ => ⟨S2x8x2048x2304, .f32⟩
  | .hbm, ⟨52, _⟩ => ⟨S_, .f32⟩
  | .hbm, ⟨53, _⟩ => ⟨S2x8x2048, .f32⟩
  | .hbm, ⟨54, _⟩ => ⟨S2x8x2048x1, .f32⟩
  | .hbm, ⟨55, _⟩ => ⟨S2x8x2048x2304, .f32⟩
  | .hbm, ⟨56, _⟩ => ⟨S2x8x2048x2304, .f32⟩
  | .hbm, ⟨57, _⟩ => ⟨S2x8x2048x1, .f32⟩
  | .hbm, ⟨58, _⟩ => ⟨S_, .f32⟩
  | .hbm, ⟨59, _⟩ => ⟨S2x8x2048x1, .f32⟩
  | .hbm, ⟨60, _⟩ => ⟨S2x8x2048x1, .f32⟩
  | .hbm, ⟨61, _⟩ => ⟨S2x8x2048x2304, .bf16⟩
  | .hbm, ⟨62, _⟩ => ⟨S2x8x2048x2304, .f32⟩
  | .hbm, ⟨63, _⟩ => ⟨S2x8x2048x64, .f32⟩
  | .hbm, ⟨64, _⟩ => ⟨S2x2048x8x64, .f32⟩
  | .hbm, ⟨65, _⟩ => ⟨S2x2048x512, .f32⟩
  | .hbm, ⟨66, _⟩ => ⟨S2x2048x512, .bf16⟩
  | .hbm, ⟨67, _⟩ => ⟨S2x2048x512, .f32⟩
  | .hbm, ⟨68, _⟩ => ⟨S2x2048x8x64, .f32⟩
  | .hbm, ⟨69, _⟩ => ⟨S2x8x2048x64, .f32⟩
  | .hbm, ⟨70, _⟩ => ⟨S2x8x64x2304, .f32⟩
  | .hbm, ⟨71, _⟩ => ⟨S2x8x2304x64, .f32⟩
  | .hbm, ⟨72, _⟩ => ⟨S2x8x2048x2304, .f32⟩
  | .hbm, ⟨73, _⟩ => ⟨S2x8x2048x2304, .bf16⟩
  | .hbm, ⟨74, _⟩ => ⟨S2x8x2048x2304, .f32⟩
  | .hbm, ⟨75, _⟩ => ⟨S2x8x2048x2304, .f32⟩
  | .hbm, ⟨76, _⟩ => ⟨S2x8x2048x2304, .f32⟩
  | .hbm, ⟨77, _⟩ => ⟨S2x8x2048x2304, .f32⟩
  | .hbm, ⟨78, _⟩ => ⟨S_, .f32⟩
  | .hbm, ⟨79, _⟩ => ⟨S2x8x2048, .f32⟩
  | .hbm, ⟨80, _⟩ => ⟨S2x8x2048x1, .f32⟩
  | .hbm, ⟨81, _⟩ => ⟨S2x8x2048x1, .f32⟩
  | .hbm, ⟨82, _⟩ => ⟨S2x8x2048x2304, .f32⟩
  | .hbm, ⟨83, _⟩ => ⟨S2x8x2048x2304, .f32⟩
  | .hbm, ⟨84, _⟩ => ⟨S_, .f32⟩
  | .hbm, ⟨85, _⟩ => ⟨S2x8x2048, .f32⟩
  | .hbm, ⟨86, _⟩ => ⟨S2x8x2048x2304, .f32⟩
  | .hbm, ⟨87, _⟩ => ⟨S2x8x2048x2304, .f32⟩
  | .hbm, ⟨88, _⟩ => ⟨S2x8x2048x2304, .f32⟩
  | .hbm, ⟨89, _⟩ => ⟨S_, .f32⟩
  | .hbm, ⟨90, _⟩ => ⟨S2x8x2048x2304, .f32⟩
  | .hbm, ⟨91, _⟩ => ⟨S2x8x2048x2304, .f32⟩
  | .hbm, ⟨92, _⟩ => ⟨S2x8x2304x128, .f32⟩
  | .hbm, ⟨93, _⟩ => ⟨S2x8x2048x128, .f32⟩
  | .hbm, ⟨94, _⟩ => ⟨S_, .f32⟩
  | .hbm, ⟨95, _⟩ => ⟨S2x8x2304x128, .f32⟩
  | .hbm, ⟨96, _⟩ => ⟨S2x2304x8x128, .f32⟩
  | .hbm, ⟨97, _⟩ => ⟨S2x2304x1024, .f32⟩
  | .hbm, ⟨98, _⟩ => ⟨S2x2048x8x128, .f32⟩
  | .hbm, ⟨99, _⟩ => ⟨S2x2048x1024, .f32⟩
  | .hbm, ⟨100, _⟩ => ⟨S_, .f32⟩
  | .hbm, ⟨101, _⟩ => ⟨S2x2304x128, .f32⟩
  | .hbm, ⟨102, _⟩ => ⟨S2x1x2304x128, .f32⟩
  | .hbm, ⟨103, _⟩ => ⟨S_, .f32⟩
  | .hbm, ⟨104, _⟩ => ⟨S2x2304x128, .f32⟩
  | .hbm, ⟨105, _⟩ => ⟨S2x2304x8x128, .f32⟩
  | .hbm, ⟨106, _⟩ => ⟨S2x2304x1024, .f32⟩
  | .hbm, ⟨107, _⟩ => ⟨S2x2304x1024, .bf16⟩
  | .hbm, ⟨108, _⟩ => ⟨S2x2304x128, .bf16⟩
  | .hbm, ⟨109, _⟩ => ⟨S2x2304x1024, .bf16⟩
  | .hbm, ⟨110, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_13 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_v80 : Ref sig .tc := ⟨.hbm, 101, rfl⟩
abbrev main_v81 : Ref sig .tc := ⟨.hbm, 102, rfl⟩
abbrev main_cst_15 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Kernel28.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S2x2048x512 : Shape := ⟨3, ![2, 2048, 512]⟩
abbrev S2x8x2048x1 : Shape := ⟨4, ![2, 8, 2048, 1]⟩
abbrev S1x256x512 : Shape := ⟨3, ![1, 256, 512]⟩
abbrev S1x2304x512 : Shape := ⟨3, ![1, 2304, 512]⟩
abbrev S1x2304x128 : Shape := ⟨3, ![1, 2304, 128]⟩
abbrev S1x256x256 : Shape := ⟨3, ![1, 256, 256]⟩
abbrev S1x4x256x1 : Shape := ⟨4, ![1, 4, 256, 1]⟩
abbrev S2304x128 : Shape := ⟨2, ![2304, 128]⟩
abbrev S1x256x128 : Shape := ⟨3, ![1, 256, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S256x64 : Shape := ⟨2, ![256, 64]⟩
abbrev S1x1x256x1 : Shape := ⟨4, ![1, 1, 256, 1]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S2x2048x1024, .bf16⟩
  | .hbm, ⟨1, _⟩ => ⟨S2x2304x1024, .bf16⟩
  | .hbm, ⟨2, _⟩ => ⟨S2x2304x128, .bf16⟩
  | .hbm, ⟨3, _⟩ => ⟨S2x2304x1024, .bf16⟩
  | .hbm, ⟨4, _⟩ => ⟨S2x2048x512, .bf16⟩
  | .hbm, ⟨5, _⟩ => ⟨S2x8x2048x1, .f32⟩
  | .local _ .vmem, ⟨0, _⟩ => ⟨S1x256x512, .bf16⟩
  | .local _ .vmem, ⟨1, _⟩ => ⟨S1x256x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2304x512, .bf16⟩
  | .local _ .vmem, ⟨7, _⟩ => ⟨S1x2304x512, .bf16⟩
  | .local _ .vmem, ⟨8, _⟩ => ⟨S1x256x256, .bf16⟩
  | .local _ .vmem, ⟨9, _⟩ => ⟨S1x256x256, .bf16⟩
  | .local _ .vmem, ⟨10, _⟩ => ⟨S1x4x256x1, .f32⟩
  | .local _ .vmem, ⟨11, _⟩ => ⟨S1x4x256x1, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel28Ideal.lean ====
variable {F : FTy → Type} [FloatOps F] [Named F]
def κ : String → Option EReal := fun
  | "ln2" => some ((Real.log 2 : ℝ) : EReal)
  | "log2e" => some (((Real.log 2)⁻¹ : ℝ) : EReal)
  | "log2e_scale96" => some (((Real.log 2)⁻¹ * (3424635 * 33554432⁻¹) : ℝ) : EReal)
  | _ => none
-- ==== Reference28Ideal.lean ====
abbrev S2x2048x1024 : Shape := ⟨3, ![2, 2048, 1024]⟩
abbrev S2x2304x1024 : Shape := ⟨3, ![2, 2304, 1024]⟩
abbrev S2x2304x128 : Shape := ⟨3, ![2, 2304, 128]⟩
abbrev S2x2304x8x128 : Shape := ⟨4, ![2, 2304, 8, 128]⟩
abbrev S2x8x2304x128 : Shape := ⟨4, ![2, 8, 2304, 128]⟩
abbrev S2x1x2304x128 : Shape := ⟨4, ![2, 1, 2304, 128]⟩
abbrev S2x2048x8x128 : Shape := ⟨4, ![2, 2048, 8, 128]⟩
abbrev S2x8x2048x128 : Shape := ⟨4, ![2, 8, 2048, 128]⟩
abbrev S2x8x2304x64 : Shape := ⟨4, ![2, 8, 2304, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x2048x64 : Shape := ⟨4, ![2, 8, 2048, 64]⟩
abbrev S2x2048x8x64 : Shape := ⟨4, ![2, 2048, 8, 64]⟩
abbrev S2x2048x512 : Shape := ⟨3, ![2, 2048, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2304x1024, .bf16⟩
  | .hbm, ⟨2, _⟩ => ⟨S2x2304x128, .bf16⟩
  | .hbm, ⟨3, _⟩ => ⟨S2x2304x1024, .bf16⟩
  | .hbm, ⟨4, _⟩ => ⟨S2x2048x1024, .f32⟩
  | .hbm, ⟨5, _⟩ => ⟨S2x2304x1024, .f32⟩
  | .hbm, ⟨6, _⟩ => ⟨S2x2304x128, .f32⟩
  | .hbm, ⟨7, _⟩ => ⟨S2x2304x1024, .f32⟩
  | .hbm, ⟨8, _⟩ => ⟨S2x2304x8x128, .f32⟩
  | .hbm, ⟨9, _⟩ => ⟨S2x8x2304x128, .f32⟩
  | .hbm, ⟨10, _⟩ => ⟨S2x1x2304x128, .f32⟩
  | .hbm, ⟨11, _⟩ => ⟨S2x8x2304x128, .f32⟩
  | .hbm, ⟨12, _⟩ => ⟨S2x8x2304x128, .f32⟩
  | .hbm, ⟨13, _⟩ => ⟨S2x2048x8x128, .f32⟩
  | .hbm, ⟨14, _⟩ => ⟨S2x8x2048x128, .f32⟩
  | .hbm, ⟨15, _⟩ => ⟨S2x2304x8x128, .f32⟩
  | .hbm, ⟨16, _⟩ => ⟨S2x8x2304x128, .f32⟩
  | .hbm, ⟨17, _⟩ => ⟨S2x8x2304x64, .f32⟩
  | .hbm, ⟨18, _⟩ => ⟨S2x8x2048x2304, .f32⟩
  | .hbm, ⟨19, _⟩ => ⟨S_, .f32⟩
  | .hbm, ⟨20, _⟩ => ⟨S2x8x2048x2304, .f32⟩
  | .hbm, ⟨21, _⟩ => ⟨S2x8x2048x2304, .f32⟩
  | .hbm, ⟨22, _⟩ => ⟨S_, .f32⟩
  | .hbm, ⟨23, _⟩ => ⟨S2x8x2048, .f32⟩
  | .hbm, ⟨24, _⟩ => ⟨S2x8x2048x1, .f32⟩
  | .hbm, ⟨25, _⟩ => ⟨S2x8x2048x2304, .f32⟩
  | .hbm, ⟨26, _⟩ => ⟨S2x8x2048x2304, .f32⟩
  | .hbm, ⟨27, _⟩ => ⟨S2x8x2048x2304, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S2x8x2048x2304, .f32⟩
  | .hbm, ⟨32, _⟩ => ⟨S2x8x2048x2304, .f32⟩
  | .hbm, ⟨33, _⟩ => ⟨S2x8x2048x2304, .bf16⟩
  | .hbm, ⟨34, _⟩ => ⟨S2x8x2048x64, .f32⟩
  | .hbm, ⟨35, _⟩ => ⟨S2x2048x8x64, .f32⟩
  | .hbm, ⟨36, _⟩ => ⟨S2x2048x512, .f32⟩
  | .hbm, ⟨37, _⟩ => ⟨S2x2048x512, .bf16⟩
  | .hbm, ⟨38, _⟩ => ⟨S2x8x2048x1, .f32⟩
  | .hbm, ⟨39, _⟩ => ⟨S2x8x2048x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x8x2048x1, .f32⟩
  | .hbm, ⟨44, _⟩ => ⟨S2x8x2048x1, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel29.lean ====
abbrev S4096x256 : Shape := ⟨2, ![4096, 256]⟩
abbrev S768x256 : Shape := ⟨2, ![768, 256]⟩
abbrev S8x96x256 : Shape := ⟨3, ![8, 96, 256]⟩
abbrev S_ : Shape := ⟨0, ![]⟩
abbrev S8x128x256 : Shape := ⟨3, ![8, 128, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S768x256, .bf16⟩
  | .hbm, ⟨2, _⟩ => ⟨S8x96x256, .bf16⟩
  | .hbm, ⟨3, _⟩ => ⟨S_, .i32⟩
  | .hbm, ⟨4, _⟩ => ⟨S_, .bf16⟩
  | .hbm, ⟨5, _⟩ => ⟨S8x128x256, .bf16⟩
  | .hbm, ⟨6, _⟩ => ⟨S1024x256, .bf16⟩
  | .hbm, ⟨7, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x256 : Shape := ⟨2, ![4096, 256]⟩
abbrev S768x256 : Shape := ⟨2, ![768, 256]⟩
abbrev S256x768 : Shape := ⟨2, ![256, 768]⟩
abbrev S4096x768 : Shape := ⟨2, ![4096, 768]⟩
abbrev S4096x8x96 : Shape := ⟨3, ![4096, 8, 96]⟩
abbrev S_ : Shape := ⟨0, ![]⟩
abbrev S4096x8x32 : Shape := ⟨3, ![4096, 8, 32]⟩
abbrev S4096x8x128 : Shape := ⟨3, ![4096, 8, 128]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S768x256, .bf16⟩
  | .hbm, ⟨2, _⟩ => ⟨S256x768, .bf16⟩
  | .hbm, ⟨3, _⟩ => ⟨S4096x256, .f32⟩
  | .hbm, ⟨4, _⟩ => ⟨S256x768, .f32⟩
  | .hbm, ⟨5, _⟩ => ⟨S4096x768, .f32⟩
  | .hbm, ⟨6, _⟩ => ⟨S4096x768, .bf16⟩
  | .hbm, ⟨7, _⟩ => ⟨S4096x8x96, .bf16⟩
  | .hbm, ⟨8, _⟩ => ⟨S_, .bf16⟩
  | .hbm, ⟨9, _⟩ => ⟨S4096x8x32, .bf16⟩
  | .hbm, ⟨10, _⟩ => ⟨S4096x8x128, .bf16⟩
  | .hbm, ⟨11, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel30.lean ====
abbrev S4096x1024 : Shape := ⟨2, ![4096, 1024]⟩
abbrev S768x256 : Shape := ⟨2, ![768, 256]⟩
abbrev S8x96x256 : Shape := ⟨3, ![8, 96, 256]⟩
abbrev S_ : Shape := ⟨0, ![]⟩
abbrev S8x128x256 : Shape := ⟨3, ![8, 128, 256]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S768x256, .bf16⟩
  | .hbm, ⟨2, _⟩ => ⟨S8x96x256, .bf16⟩
  | .hbm, ⟨3, _⟩ => ⟨S_, .i32⟩
  | .hbm, ⟨4, _⟩ => ⟨S_, .bf16⟩
  | .hbm, ⟨5, _⟩ => ⟨S8x128x256, .bf16⟩
  | .hbm, ⟨6, _⟩ => ⟨S1024x256, .bf16⟩
  | .hbm, ⟨7, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S768x256 : Shape := ⟨2, ![768, 256]⟩
abbrev S_ : Shape := ⟨0, ![]⟩
abbrev S4096x256 : Shape := ⟨2, ![4096, 256]⟩
abbrev S256x768 : Shape := ⟨2, ![256, 768]⟩
abbrev S4096x768 : Shape := ⟨2, ![4096, 768]⟩
abbrev S4096x8x96 : Shape := ⟨3, ![4096, 8, 96]⟩
abbrev S4096x8x32 : Shape := ⟨3, ![4096, 8, 32]⟩
abbrev S4096x8x128 : Shape := ⟨3, ![4096, 8, 128]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x256, .bf16⟩
  | .hbm, ⟨2, _⟩ => ⟨S_, .bf16⟩
  | .hbm, ⟨3, _⟩ => ⟨S4096x256, .bf16⟩
  | .hbm, ⟨4, _⟩ => ⟨S256x768, .bf16⟩
  | .hbm, ⟨5, _⟩ => ⟨S4096x256, .f32⟩
  | .hbm, ⟨6, _⟩ => ⟨S256x768, .f32⟩
  | .hbm, ⟨7, _⟩ => ⟨S4096x768, .f32⟩
  | .hbm, ⟨8, _⟩ => ⟨S4096x768, .bf16⟩
  | .hbm, ⟨9, _⟩ => ⟨S4096x8x96, .bf16⟩
  | .hbm, ⟨10, _⟩ => ⟨S_, .bf16⟩
  | .hbm, ⟨11, _⟩ => ⟨S4096x8x32, .bf16⟩
  | .hbm, ⟨12, _⟩ => ⟨S4096x8x128, .bf16⟩
  | .hbm, ⟨13, _⟩ => ⟨S_, .bf16⟩
  | .hbm, ⟨14, _⟩ => ⟨S4096x8x32, .bf16⟩
  | .hbm, ⟨15, _⟩ => ⟨S4096x1024, .bf16⟩
  | .hbm, ⟨16, _⟩ => ⟨S4096x8x128, .bf16⟩
  | .hbm, ⟨17, _⟩ => ⟨S4096x8x96, .bf16⟩
  | .hbm, ⟨18, _⟩ => ⟨S4096x8x32, .bf16⟩
  | .hbm, ⟨19, _⟩ => ⟨S4096x768, .bf16⟩
  | .hbm, ⟨20, _⟩ => ⟨S4096x768, .f32⟩
  | .hbm, ⟨21, _⟩ => ⟨S4096x256, .f32⟩
  | .hbm, ⟨22, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel31.lean ====
abbrev S4096x1024 : Shape := ⟨2, ![4096, 1024]⟩
abbrev S4096x256 : Shape := ⟨2, ![4096, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .bf16⟩
  | .hbm, ⟨3, _⟩ => ⟨S256x1024, .bf16⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x256, .f32⟩
  | .hbm, ⟨10, _⟩ => ⟨S256x1024, .f32⟩
  | .hbm, ⟨11, _⟩ => ⟨S256x1024, .bf16⟩
  | .hbm, ⟨12, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel32.lean ====
abbrev S4608x128 : Shape := ⟨2, ![4608, 128]⟩
abbrev S1024x128 : Shape := ⟨2, ![1024, 128]⟩
abbrev S8x128x128 : Shape := ⟨3, ![8, 128, 128]⟩
abbrev S8x64x128 : Shape := ⟨3, ![8, 64, 128]⟩
abbrev S_ : Shape := ⟨0, ![]⟩
abbrev S4608x1024 : Shape := ⟨2, ![4608, 1024]⟩
abbrev S1152x128 : Shape := ⟨2, ![1152, 128]⟩
abbrev S1152x1024 : Shape := ⟨2, ![1152, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4608x128, .bf16⟩
  | .hbm, ⟨1, _⟩ => ⟨S1024x128, .bf16⟩
  | .hbm, ⟨2, _⟩ => ⟨S8x128x128, .bf16⟩
  | .hbm, ⟨3, _⟩ => ⟨S8x64x128, .bf16⟩
  | .hbm, ⟨4, _⟩ => ⟨S_, .i32⟩
  | .hbm, ⟨5, _⟩ => ⟨S_, .bf16⟩
  | .hbm, ⟨6, _⟩ => ⟨S8x128x128, .bf16⟩
  | .hbm, ⟨7, _⟩ => ⟨S1024x128, .bf16⟩
  | .hbm, ⟨8, _⟩ => ⟨S8x64x128, .bf16⟩
  | .hbm, ⟨9, _⟩ => ⟨S_, .i32⟩
  | .hbm, ⟨10, _⟩ => ⟨S_, .bf16⟩
  | .hbm, ⟨11, _⟩ => ⟨S8x128x128, .bf16⟩
  | .hbm, ⟨12, _⟩ => ⟨S1024x128, .bf16⟩
  | .hbm, ⟨13, _⟩ => ⟨S4608x1024, .bf16⟩
  | .hbm, ⟨14, _⟩ => ⟨S4608x1024, .bf16⟩
  | .local _ .vmem, ⟨0, _⟩ => ⟨S1152x128, .bf16⟩
  | .local _ .vmem, ⟨1, _⟩ => ⟨S1152x128, .bf16⟩
  | .local _ .vmem, ⟨2, _⟩ => ⟨S1024x128, .bf16⟩
  | .local _ .vmem, ⟨3, _⟩ => ⟨S1024x128, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x1024, .bf16⟩
  | _, _ => ⟨S4608x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S4608x128 : Shape := ⟨2, ![4608, 128]⟩
abbrev S1024x128 : Shape := ⟨2, ![1024, 128]⟩
abbrev S128x1024 : Shape := ⟨2, ![128, 1024]⟩
abbrev S4608x1024 : Shape := ⟨2, ![4608, 1024]⟩
abbrev S4608x8x128 : Shape := ⟨3, ![4608, 8, 128]⟩
abbrev S4608x8x64 : Shape := ⟨3, ![4608, 8, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4608x128, .bf16⟩
  | .hbm, ⟨1, _⟩ => ⟨S1024x128, .bf16⟩
  | .hbm, ⟨2, _⟩ => ⟨S128x1024, .bf16⟩
  | .hbm, ⟨3, _⟩ => ⟨S4608x128, .f32⟩
  | .hbm, ⟨4, _⟩ => ⟨S128x1024, .f32⟩
  | .hbm, ⟨5, _⟩ => ⟨S4608x1024, .f32⟩
  | .hbm, ⟨6, _⟩ => ⟨S4608x1024, .bf16⟩
  | .hbm, ⟨7, _⟩ => ⟨S4608x8x128, .bf16⟩
  | .hbm, ⟨8, _⟩ => ⟨S4608x8x64, .bf16⟩
  | .hbm, ⟨9, _⟩ => ⟨S4608x8x64, .bf16⟩
  | .hbm, ⟨10, _⟩ => ⟨S_, .bf16⟩
  | .hbm, ⟨11, _⟩ => ⟨S4608x8x64, .bf16⟩
  | .hbm, ⟨12, _⟩ => ⟨S4608x8x128, .bf16⟩
  | .hbm, ⟨13, _⟩ => ⟨S4608x1024, .bf16⟩
  | .hbm, ⟨14, _⟩ => ⟨S_, .bf16⟩
  | .hbm, ⟨15, _⟩ => ⟨S4608x8x64, .bf16⟩
  | .hbm, ⟨16, _⟩ => ⟨S4608x8x128, .bf16⟩
  | .hbm, ⟨17, _⟩ => ⟨S4608x1024, .bf16⟩
  | _, _ => ⟨S4608x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel33.lean ====
abbrev S4608x1024 : Shape := ⟨2, ![4608, 1024]⟩
abbrev S1024x128 : Shape := ⟨2, ![1024, 128]⟩
abbrev S8x128x128 : Shape := ⟨3, ![8, 128, 128]⟩
abbrev S8x64x128 : Shape := ⟨3, ![8, 64, 128]⟩
abbrev S_ : Shape := ⟨0, ![]⟩
abbrev S4608x128 : Shape := ⟨2, ![4608, 128]⟩
abbrev S1152x1024 : Shape := ⟨2, ![1152, 1024]⟩
abbrev S1152x128 : Shape := ⟨2, ![1152, 128]⟩

abbrev nBuf : Space → Nat
  | .hbm => 15
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S1024x128, .bf16⟩
  | .hbm, ⟨3, _⟩ => ⟨S8x128x128, .bf16⟩
  | .hbm, ⟨4, _⟩ => ⟨S8x64x128, .bf16⟩
  | .hbm, ⟨5, _⟩ => ⟨S_, .i32⟩
  | .hbm, ⟨6, _⟩ => ⟨S_, .bf16⟩
  | .hbm, ⟨7, _⟩ => ⟨S8x128x128, .bf16⟩
  | .hbm, ⟨8, _⟩ => ⟨S1024x128, .bf16⟩
  | .hbm, ⟨9, _⟩ => ⟨S8x64x128, .bf16⟩
  | .hbm, ⟨10, _⟩ => ⟨S_, .i32⟩
  | .hbm, ⟨11, _⟩ => ⟨S_, .bf16⟩
  | .hbm, ⟨12, _⟩ => ⟨S8x128x128, .bf16⟩
  | .hbm, ⟨13, _⟩ => ⟨S1024x128, .bf16⟩
  | .hbm, ⟨14, _⟩ => ⟨S4608x128, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x128, .bf16⟩
  | .local _ .vmem, ⟨5, _⟩ => ⟨S1024x128, .bf16⟩
  | .local _ .vmem, ⟨6, _⟩ => ⟨S1152x128, .bf16⟩
  | .local _ .vmem, ⟨7, _⟩ => ⟨S1152x128, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1152x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S4608x1024 : Shape := ⟨2, ![4608, 1024]⟩
abbrev S1024x128 : Shape := ⟨2, ![1024, 128]⟩
abbrev S_ : Shape := ⟨0, ![]⟩
abbrev S4608x128 : Shape := ⟨2, ![4608, 128]⟩
abbrev S128x1024 : Shape := ⟨2, ![128, 1024]⟩
abbrev S4608x8x128 : Shape := ⟨3, ![4608, 8, 128]⟩
abbrev S4608x8x64 : Shape := ⟨3, ![4608, 8, 64]⟩

abbrev nBuf : Space → Nat
  | .hbm => 36
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S1024x128, .bf16⟩
  | .hbm, ⟨3, _⟩ => ⟨S_, .bf16⟩
  | .hbm, ⟨4, _⟩ => ⟨S4608x128, .bf16⟩
  | .hbm, ⟨5, _⟩ => ⟨S128x1024, .bf16⟩
  | .hbm, ⟨6, _⟩ => ⟨S4608x128, .f32⟩
  | .hbm, ⟨7, _⟩ => ⟨S128x1024, .f32⟩
  | .hbm, ⟨8, _⟩ => ⟨S4608x1024, .f32⟩
  | .hbm, ⟨9, _⟩ => ⟨S4608x1024, .bf16⟩
  | .hbm, ⟨10, _⟩ => ⟨S4608x8x128, .bf16⟩
  | .hbm, ⟨11, _⟩ => ⟨S4608x8x64, .bf16⟩
  | .hbm, ⟨12, _⟩ => ⟨S4608x8x64, .bf16⟩
  | .hbm, ⟨13, _⟩ => ⟨S_, .bf16⟩
  | .hbm, ⟨14, _⟩ => ⟨S4608x8x64, .bf16⟩
  | .hbm, ⟨15, _⟩ => ⟨S4608x8x128, .bf16⟩
  | .hbm, ⟨16, _⟩ => ⟨S_, .bf16⟩
  | .hbm, ⟨17, _⟩ => ⟨S4608x8x64, .bf16⟩
  | .hbm, ⟨18, _⟩ => ⟨S4608x1024, .bf16⟩
  | .hbm, ⟨19, _⟩ => ⟨S_, .bf16⟩
  | .hbm, ⟨20, _⟩ => ⟨S4608x8x64, .bf16⟩
  | .hbm, ⟨21, _⟩ => ⟨S4608x8x128, .bf16⟩
  | .hbm, ⟨22, _⟩ => ⟨S_, .bf16⟩
  | .hbm, ⟨23, _⟩ => ⟨S4608x8x64, .bf16⟩
  | .hbm, ⟨24, _⟩ => ⟨S4608x1024, .bf16⟩
  | .hbm, ⟨25, _⟩ => ⟨S4608x8x128, .bf16⟩
  | .hbm, ⟨26, _⟩ => ⟨S4608x8x64, .bf16⟩
  | .hbm, ⟨27, _⟩ => ⟨S4608x8x64, .bf16⟩
  | .hbm, ⟨28, _⟩ => ⟨S4608x8x128, .bf16⟩
  | .hbm, ⟨29, _⟩ => ⟨S4608x8x64, .bf16⟩
  | .hbm, ⟨30, _⟩ => ⟨S4608x8x64, .bf16⟩
  | .hbm, ⟨31, _⟩ => ⟨S4608x8x128, .bf16⟩
  | .hbm, ⟨32, _⟩ => ⟨S4608x1024, .bf16⟩
  | .hbm, ⟨33, _⟩ => ⟨S4608x1024, .f32⟩
  | .hbm, ⟨34, _⟩ => ⟨S4608x128, .f32⟩
  | .hbm, ⟨35, _⟩ => ⟨S4608x128, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel34.lean ====
abbrev S4608x1024 : Shape := ⟨2, ![4608, 1024]⟩
abbrev S4608x128 : Shape := ⟨2, ![4608, 128]⟩
abbrev S1024x128 : Shape := ⟨2, ![1024, 128]⟩
abbrev S768x128 : Shape := ⟨2, ![768, 128]⟩
abbrev S768x1024 : Shape := ⟨2, ![768, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S4608x128, .bf16⟩
  | .hbm, ⟨3, _⟩ => ⟨S1024x128, .bf16⟩
  | .hbm, ⟨4, _⟩ => ⟨S1024x128, .bf16⟩
  | .local _ .vmem, ⟨0, _⟩ => ⟨S768x128, .bf16⟩
  | .local _ .vmem, ⟨1, _⟩ => ⟨S768x128, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c5_i32_14 : BitVec 32 := 5#32
  let v20 : BitVec 1 := Scalar.cmpi .eq arg0 c5_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference34Ideal.lean ====
abbrev S4608x1024 : Shape := ⟨2, ![4608, 1024]⟩
abbrev S4608x128 : Shape := ⟨2, ![4608, 128]⟩
abbrev S_ : Shape := ⟨0, ![]⟩
abbrev S128x1024 : Shape := ⟨2, ![128, 1024]⟩
abbrev S1024x128 : Shape := ⟨2, ![1024, 128]⟩

abbrev nBuf : Space → Nat
  | .hbm => 23
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S4608x128, .bf16⟩
  | .hbm, ⟨3, _⟩ => ⟨S_, .bf16⟩
  | .hbm, ⟨4, _⟩ => ⟨S128x1024, .bf16⟩
  | .hbm, ⟨5, _⟩ => ⟨S4608x128, .f32⟩
  | .hbm, ⟨6, _⟩ => ⟨S128x1024, .f32⟩
  | .hbm, ⟨7, _⟩ => ⟨S4608x1024, .f32⟩
  | .hbm, ⟨8, _⟩ => ⟨S4608x1024, .bf16⟩
  | .hbm, ⟨9, _⟩ => ⟨S4608x128, .f32⟩
  | .hbm, ⟨10, _⟩ => ⟨S128x1024, .f32⟩
  | .hbm, ⟨11, _⟩ => ⟨S4608x1024, .f32⟩
  | .hbm, ⟨12, _⟩ => ⟨S4608x1024, .bf16⟩
  | .hbm, ⟨13, _⟩ => ⟨S4608x1024, .f32⟩
  | .hbm, ⟨14, _⟩ => ⟨S1024x128, .f32⟩
  | .hbm, ⟨15, _⟩ => ⟨S128x1024, .f32⟩
  | .hbm, ⟨16, _⟩ => ⟨S128x1024, .bf16⟩
  | .hbm, ⟨17, _⟩ => ⟨S4608x1024, .f32⟩
  | .hbm, ⟨18, _⟩ => ⟨S1024x128, .f32⟩
  | .hbm, ⟨19, _⟩ => ⟨S128x1024, .f32⟩
  | .hbm, ⟨20, _⟩ => ⟨S128x1024, .bf16⟩
  | .hbm, ⟨21, _⟩ => ⟨S1024x128, .bf16⟩
  | .hbm, ⟨22, _⟩ => ⟨S1024x128, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel35.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel35Ideal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel36Ideal.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel37Ideal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel38Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel39Ideal.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel40.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel40Ideal.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel41.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel41Ideal.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference41Ideal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel42.lean ====
abbrev S1x1024x224 : Shape := ⟨3, ![1, 1024, 224]⟩
abbrev S1024x224 : Shape := ⟨2, ![1024, 224]⟩
abbrev S512x224 : Shape := ⟨2, ![512, 224]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x224, .f32⟩
  | .hbm, ⟨1, _⟩ => ⟨S1x1024x224, .f32⟩
  | .hbm, ⟨2, _⟩ => ⟨S1x1024x224, .f32⟩
  | .hbm, ⟨3, _⟩ => ⟨S1x1024x224, .f32⟩
  | .hbm, ⟨4, _⟩ => ⟨S1024x224, .f32⟩
  | .hbm, ⟨5, _⟩ => ⟨S1024x224, .f32⟩
  | .hbm, ⟨6, _⟩ => ⟨S1024x224, .f32⟩
  | .hbm, ⟨7, _⟩ => ⟨S1024x224, .f32⟩
  | .hbm, ⟨8, _⟩ => ⟨S1024x224, .f32⟩
  | .hbm, ⟨9, _⟩ => ⟨S1024x224, .f32⟩
  | .hbm, ⟨10, _⟩ => ⟨S1024x224, .f32⟩
  | .local _ .vmem, ⟨0, _⟩ => ⟨S512x224, .f32⟩
  | .local _ .vmem, ⟨1, _⟩ => ⟨S512x224, .f32⟩
  | .local _ .vmem, ⟨2, _⟩ => ⟨S512x224, .f32⟩
  | .local _ .vmem, ⟨3, _⟩ => ⟨S512x224, .f32⟩
  | .local _ .vmem, ⟨4, _⟩ => ⟨S512x224, .f32⟩
  | .local _ .vmem, ⟨5, _⟩ => ⟨S512x224, .f32⟩
  | .local _ .vmem, ⟨6, _⟩ => ⟨S512x224, .f32⟩
  | .local _ .vmem, ⟨7, _⟩ => ⟨S512x224, .f32⟩
  | .local _ .vmem, ⟨8, _⟩ => ⟨S512x224, .f32⟩
  | .local _ .vmem, ⟨9, _⟩ => ⟨S512x224, .f32⟩
  | .local _ .vmem, ⟨10, _⟩ => ⟨S512x224, .f32⟩
  | .local _ .vmem, ⟨11, _⟩ => ⟨S512x224, .f32⟩
  | .local _ .vmem, ⟨12, _⟩ => ⟨S512x224, .f32⟩
  | .local _ .vmem, ⟨13, _⟩ => ⟨S512x224, .f32⟩
  | _, _ => ⟨S1x1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel42Ideal.lean ====
abbrev S1x1024x224 : Shape := ⟨3, ![1, 1024, 224]⟩
abbrev S1024x224 : Shape := ⟨2, ![1024, 224]⟩
abbrev S512x224 : Shape := ⟨2, ![512, 224]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x224, .f32⟩
  | .hbm, ⟨1, _⟩ => ⟨S1x1024x224, .f32⟩
  | .hbm, ⟨2, _⟩ => ⟨S1x1024x224, .f32⟩
  | .hbm, ⟨3, _⟩ => ⟨S1x1024x224, .f32⟩
  | .hbm, ⟨4, _⟩ => ⟨S1024x224, .f32⟩
  | .hbm, ⟨5, _⟩ => ⟨S1024x224, .f32⟩
  | .hbm, ⟨6, _⟩ => ⟨S1024x224, .f32⟩
  | .hbm, ⟨7, _⟩ => ⟨S1024x224, .f32⟩
  | .hbm, ⟨8, _⟩ => ⟨S1024x224, .f32⟩
  | .hbm, ⟨9, _⟩ => ⟨S1024x224, .f32⟩
  | .hbm, ⟨10, _⟩ => ⟨S1024x224, .f32⟩
  | .local _ .vmem, ⟨0, _⟩ => ⟨S512x224, .f32⟩
  | .local _ .vmem, ⟨1, _⟩ => ⟨S512x224, .f32⟩
  | .local _ .vmem, ⟨2, _⟩ => ⟨S512x224, .f32⟩
  | .local _ .vmem, ⟨3, _⟩ => ⟨S512x224, .f32⟩
  | .local _ .vmem, ⟨4, _⟩ => ⟨S512x224, .f32⟩
  | .local _ .vmem, ⟨5, _⟩ => ⟨S512x224, .f32⟩
  | .local _ .vmem, ⟨6, _⟩ => ⟨S512x224, .f32⟩
  | .local _ .vmem, ⟨7, _⟩ => ⟨S512x224, .f32⟩
  | .local _ .vmem, ⟨8, _⟩ => ⟨S512x224, .f32⟩
  | .local _ .vmem, ⟨9, _⟩ => ⟨S512x224, .f32⟩
  | .local _ .vmem, ⟨10, _⟩ => ⟨S512x224, .f32⟩
  | .local _ .vmem, ⟨11, _⟩ => ⟨S512x224, .f32⟩
  | .local _ .vmem, ⟨12, _⟩ => ⟨S512x224, .f32⟩
  | .local _ .vmem, ⟨13, _⟩ => ⟨S512x224, .f32⟩
  | _, _ => ⟨S1x1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S1x1024x224 : Shape := ⟨3, ![1, 1024, 224]⟩
abbrev S_ : Shape := ⟨0, ![]⟩
abbrev S1024x224 : Shape := ⟨2, ![1024, 224]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x224, .f32⟩
  | .hbm, ⟨1, _⟩ => ⟨S1x1024x224, .f32⟩
  | .hbm, ⟨2, _⟩ => ⟨S1x1024x224, .f32⟩
  | .hbm, ⟨3, _⟩ => ⟨S1x1024x224, .f32⟩
  | .hbm, ⟨4, _⟩ => ⟨S_, .f32⟩
  | .hbm, ⟨5, _⟩ => ⟨S1x1024x224, .f32⟩
  | .hbm, ⟨6, _⟩ => ⟨S1x1024x224, .f32⟩
  | .hbm, ⟨7, _⟩ => ⟨S_, .f32⟩
  | .hbm, ⟨8, _⟩ => ⟨S1x1024x224, .f32⟩
  | .hbm, ⟨9, _⟩ => ⟨S1x1024x224, .f32⟩
  | .hbm, ⟨10, _⟩ => ⟨S1x1024x224, .f32⟩
  | .hbm, ⟨11, _⟩ => ⟨S_, .f32⟩
  | .hbm, ⟨12, _⟩ => ⟨S1x1024x224, .f32⟩
  | .hbm, ⟨13, _⟩ => ⟨S1x1024x224, .f32⟩
  | .hbm, ⟨14, _⟩ => ⟨S1x1024x224, .f32⟩
  | .hbm, ⟨15, _⟩ => ⟨S_, .f32⟩
  | .hbm, ⟨16, _⟩ => ⟨S1x1024x224, .f32⟩
  | .hbm, ⟨17, _⟩ => ⟨S1x1024x224, .f32⟩
  | .hbm, ⟨18, _⟩ => ⟨S1x1024x224, .f32⟩
  | .hbm, ⟨19, _⟩ => ⟨S_, .f32⟩
  | .hbm, ⟨20, _⟩ => ⟨S1x1024x224, .f32⟩
  | .hbm, ⟨21, _⟩ => ⟨S1x1024x224, .f32⟩
  | .hbm, ⟨22, _⟩ => ⟨S_, .f32⟩
  | .hbm, ⟨23, _⟩ => ⟨S1x1024x224, .f32⟩
  | .hbm, ⟨24, _⟩ => ⟨S1x1024x224, .f32⟩
  | .hbm, ⟨25, _⟩ => ⟨S1x1024x224, .f32⟩
  | .hbm, ⟨26, _⟩ => ⟨S_, .f32⟩
  | .hbm, ⟨27, _⟩ => ⟨S1x1024x224, .f32⟩
  | .hbm, ⟨28, _⟩ => ⟨S1x1024x224, .f32⟩
  | .hbm, ⟨29, _⟩ => ⟨S1x1024x224, .f32⟩
  | .hbm, ⟨30, _⟩ => ⟨S_, .f32⟩
  | .hbm, ⟨31, _⟩ => ⟨S1x1024x224, .f32⟩
  | .hbm, ⟨32, _⟩ => ⟨S1x1024x224, .f32⟩
  | .hbm, ⟨33, _⟩ => ⟨S1x1024x224, .f32⟩
  | .hbm, ⟨34, _⟩ => ⟨S_, .f32⟩
  | .hbm, ⟨35, _⟩ => ⟨S1x1024x224, .f32⟩
  | .hbm, ⟨36, _⟩ => ⟨S1x1024x224, .f32⟩
  | .hbm, ⟨37, _⟩ => ⟨S1024x224, .f32⟩
  | .hbm, ⟨38, _⟩ => ⟨S1024x224, .f32⟩
  | .hbm, ⟨39, _⟩ => ⟨S1024x224, .f32⟩
  | _, _ => ⟨S1x1024x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel43.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel43Ideal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference43Ideal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel44.lean ====
abbrev S1x8x64 : Shape := ⟨3, ![1, 8, 64]⟩
abbrev S8x64 : Shape := ⟨2, ![8, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel44Ideal.lean ====
abbrev S1x8x64 : Shape := ⟨3, ![1, 8, 64]⟩
abbrev S8x64 : Shape := ⟨2, ![8, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference44Ideal.lean ====
abbrev S1x8x64 : Shape := ⟨3, ![1, 8, 64]⟩
abbrev S_ : Shape := ⟨0, ![]⟩
abbrev S8x64 : Shape := ⟨2, ![8, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x8x64, .f32⟩
  | .hbm, ⟨1, _⟩ => ⟨S1x8x64, .f32⟩
  | .hbm, ⟨2, _⟩ => ⟨S1x8x64, .f32⟩
  | .hbm, ⟨3, _⟩ => ⟨S1x8x64, .f32⟩
  | .hbm, ⟨4, _⟩ => ⟨S_, .f32⟩
  | .hbm, ⟨5, _⟩ => ⟨S1x8x64, .f32⟩
  | .hbm, ⟨6, _⟩ => ⟨S1x8x64, .f32⟩
  | .hbm, ⟨7, _⟩ => ⟨S_, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S_, .f32⟩
  | .hbm, ⟨12, _⟩ => ⟨S1x8x64, .f32⟩
  | .hbm, ⟨13, _⟩ => ⟨S1x8x64, .f32⟩
  | .hbm, ⟨14, _⟩ => ⟨S1x8x64, .f32⟩
  | .hbm, ⟨15, _⟩ => ⟨S_, .f32⟩
  | .hbm, ⟨16, _⟩ => ⟨S1x8x64, .f32⟩
  | .hbm, ⟨17, _⟩ => ⟨S1x8x64, .f32⟩
  | .hbm, ⟨18, _⟩ => ⟨S1x8x64, .f32⟩
  | .hbm, ⟨19, _⟩ => ⟨S_, .f32⟩
  | .hbm, ⟨20, _⟩ => ⟨S1x8x64, .f32⟩
  | .hbm, ⟨21, _⟩ => ⟨S1x8x64, .f32⟩
  | .hbm, ⟨22, _⟩ => ⟨S_, .f32⟩
  | .hbm, ⟨23, _⟩ => ⟨S1x8x64, .f32⟩
  | .hbm, ⟨24, _⟩ => ⟨S1x8x64, .f32⟩
  | .hbm, ⟨25, _⟩ => ⟨S1x8x64, .f32⟩
  | .hbm, ⟨26, _⟩ => ⟨S_, .f32⟩
  | .hbm, ⟨27, _⟩ => ⟨S1x8x64, .f32⟩
  | .hbm, ⟨28, _⟩ => ⟨S1x8x64, .f32⟩
  | .hbm, ⟨29, _⟩ => ⟨S1x8x64, .f32⟩
  | .hbm, ⟨30, _⟩ => ⟨S_, .f32⟩
  | .hbm, ⟨31, _⟩ => ⟨S1x8x64, .f32⟩
  | .hbm, ⟨32, _⟩ => ⟨S1x8x64, .f32⟩
  | .hbm, ⟨33, _⟩ => ⟨S1x8x64, .f32⟩
  | .hbm, ⟨34, _⟩ => ⟨S_, .f32⟩
  | .hbm, ⟨35, _⟩ => ⟨S1x8x64, .f32⟩
  | .hbm, ⟨36, _⟩ => ⟨S1x8x64, .f32⟩
  | .hbm, ⟨37, _⟩ => ⟨S8x64, .f32⟩
  | .hbm, ⟨38, _⟩ => ⟨S8x64, .f32⟩
  | .hbm, ⟨39, _⟩ => ⟨S8x64, .f32⟩
  | _, _ => ⟨S1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel45.lean ====
abbrev S1x8x128x128 : Shape := ⟨4, ![1, 8, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel45Ideal.lean ====
abbrev S1x8x128x128 : Shape := ⟨4, ![1, 8, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference45Ideal.lean ====
abbrev S1x8x128x128 : Shape := ⟨4, ![1, 8, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S_, .f32⟩
  | .hbm, ⟨5, _⟩ => ⟨S1x8x128x128, .f32⟩
  | .hbm, ⟨6, _⟩ => ⟨S1x8x128x128, .f32⟩
  | .hbm, ⟨7, _⟩ => ⟨S_, .f32⟩
  | .hbm, ⟨8, _⟩ => ⟨S1x8x128x128, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel46.lean ====
abbrev S1x8x128 : Shape := ⟨3, ![1, 8, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel46Ideal.lean ====
abbrev S1x8x128 : Shape := ⟨3, ![1, 8, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference46Ideal.lean ====
abbrev S1x8x128 : Shape := ⟨3, ![1, 8, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel47.lean ====
abbrev S1x1024x180 : Shape := ⟨3, ![1, 1024, 180]⟩
abbrev S1024x180 : Shape := ⟨2, ![1024, 180]⟩
abbrev S512x180 : Shape := ⟨2, ![512, 180]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x180, .f32⟩
  | .hbm, ⟨1, _⟩ => ⟨S1x1024x180, .f32⟩
  | .hbm, ⟨2, _⟩ => ⟨S1x1024x180, .f32⟩
  | .hbm, ⟨3, _⟩ => ⟨S1x1024x180, .f32⟩
  | .hbm, ⟨4, _⟩ => ⟨S1024x180, .f32⟩
  | .hbm, ⟨5, _⟩ => ⟨S1024x180, .f32⟩
  | .hbm, ⟨6, _⟩ => ⟨S1024x180, .f32⟩
  | .hbm, ⟨7, _⟩ => ⟨S1024x180, .f32⟩
  | .hbm, ⟨8, _⟩ => ⟨S1024x180, .f32⟩
  | .hbm, ⟨9, _⟩ => ⟨S1024x180, .f32⟩
  | .hbm, ⟨10, _⟩ => ⟨S1024x180, .f32⟩
  | .local _ .vmem, ⟨0, _⟩ => ⟨S512x180, .f32⟩
  | .local _ .vmem, ⟨1, _⟩ => ⟨S512x180, .f32⟩
  | .local _ .vmem, ⟨2, _⟩ => ⟨S512x180, .f32⟩
  | .local _ .vmem, ⟨3, _⟩ => ⟨S512x180, .f32⟩
  | .local _ .vmem, ⟨4, _⟩ => ⟨S512x180, .f32⟩
  | .local _ .vmem, ⟨5, _⟩ => ⟨S512x180, .f32⟩
  | .local _ .vmem, ⟨6, _⟩ => ⟨S512x180, .f32⟩
  | .local _ .vmem, ⟨7, _⟩ => ⟨S512x180, .f32⟩
  | .local _ .vmem, ⟨8, _⟩ => ⟨S512x180, .f32⟩
  | .local _ .vmem, ⟨9, _⟩ => ⟨S512x180, .f32⟩
  | .local _ .vmem, ⟨10, _⟩ => ⟨S512x180, .f32⟩
  | .local _ .vmem, ⟨11, _⟩ => ⟨S512x180, .f32⟩
  | .local _ .vmem, ⟨12, _⟩ => ⟨S512x180, .f32⟩
  | .local _ .vmem, ⟨13, _⟩ => ⟨S512x180, .f32⟩
  | _, _ => ⟨S1x1024x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x180 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x180 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x180 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x180 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x180 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x180 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x180 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel47Ideal.lean ====
abbrev S1x1024x180 : Shape := ⟨3, ![1, 1024, 180]⟩
abbrev S1024x180 : Shape := ⟨2, ![1024, 180]⟩
abbrev S512x180 : Shape := ⟨2, ![512, 180]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x180, .f32⟩
  | .hbm, ⟨1, _⟩ => ⟨S1x1024x180, .f32⟩
  | .hbm, ⟨2, _⟩ => ⟨S1x1024x180, .f32⟩
  | .hbm, ⟨3, _⟩ => ⟨S1x1024x180, .f32⟩
  | .hbm, ⟨4, _⟩ => ⟨S1024x180, .f32⟩
  | .hbm, ⟨5, _⟩ => ⟨S1024x180, .f32⟩
  | .hbm, ⟨6, _⟩ => ⟨S1024x180, .f32⟩
  | .hbm, ⟨7, _⟩ => ⟨S1024x180, .f32⟩
  | .hbm, ⟨8, _⟩ => ⟨S1024x180, .f32⟩
  | .hbm, ⟨9, _⟩ => ⟨S1024x180, .f32⟩
  | .hbm, ⟨10, _⟩ => ⟨S1024x180, .f32⟩
  | .local _ .vmem, ⟨0, _⟩ => ⟨S512x180, .f32⟩
  | .local _ .vmem, ⟨1, _⟩ => ⟨S512x180, .f32⟩
  | .local _ .vmem, ⟨2, _⟩ => ⟨S512x180, .f32⟩
  | .local _ .vmem, ⟨3, _⟩ => ⟨S512x180, .f32⟩
  | .local _ .vmem, ⟨4, _⟩ => ⟨S512x180, .f32⟩
  | .local _ .vmem, ⟨5, _⟩ => ⟨S512x180, .f32⟩
  | .local _ .vmem, ⟨6, _⟩ => ⟨S512x180, .f32⟩
  | .local _ .vmem, ⟨7, _⟩ => ⟨S512x180, .f32⟩
  | .local _ .vmem, ⟨8, _⟩ => ⟨S512x180, .f32⟩
  | .local _ .vmem, ⟨9, _⟩ => ⟨S512x180, .f32⟩
  | .local _ .vmem, ⟨10, _⟩ => ⟨S512x180, .f32⟩
  | .local _ .vmem, ⟨11, _⟩ => ⟨S512x180, .f32⟩
  | .local _ .vmem, ⟨12, _⟩ => ⟨S512x180, .f32⟩
  | .local _ .vmem, ⟨13, _⟩ => ⟨S512x180, .f32⟩
  | _, _ => ⟨S1x1024x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x180 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x180 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x180 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x180 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x180 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x180 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x180 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference47Ideal.lean ====
abbrev S1x1024x180 : Shape := ⟨3, ![1, 1024, 180]⟩
abbrev S_ : Shape := ⟨0, ![]⟩
abbrev S1024x180 : Shape := ⟨2, ![1024, 180]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x180, .f32⟩
  | .hbm, ⟨1, _⟩ => ⟨S1x1024x180, .f32⟩
  | .hbm, ⟨2, _⟩ => ⟨S1x1024x180, .f32⟩
  | .hbm, ⟨3, _⟩ => ⟨S1x1024x180, .f32⟩
  | .hbm, ⟨4, _⟩ => ⟨S_, .f32⟩
  | .hbm, ⟨5, _⟩ => ⟨S1x1024x180, .f32⟩
  | .hbm, ⟨6, _⟩ => ⟨S1x1024x180, .f32⟩
  | .hbm, ⟨7, _⟩ => ⟨S_, .f32⟩
  | .hbm, ⟨8, _⟩ => ⟨S1x1024x180, .f32⟩
  | .hbm, ⟨9, _⟩ => ⟨S1x1024x180, .f32⟩
  | .hbm, ⟨10, _⟩ => ⟨S1x1024x180, .f32⟩
  | .hbm, ⟨11, _⟩ => ⟨S_, .f32⟩
  | .hbm, ⟨12, _⟩ => ⟨S1x1024x180, .f32⟩
  | .hbm, ⟨13, _⟩ => ⟨S1x1024x180, .f32⟩
  | .hbm, ⟨14, _⟩ => ⟨S1x1024x180, .f32⟩
  | .hbm, ⟨15, _⟩ => ⟨S_, .f32⟩
  | .hbm, ⟨16, _⟩ => ⟨S1x1024x180, .f32⟩
  | .hbm, ⟨17, _⟩ => ⟨S1x1024x180, .f32⟩
  | .hbm, ⟨18, _⟩ => ⟨S1x1024x180, .f32⟩
  | .hbm, ⟨19, _⟩ => ⟨S_, .f32⟩
  | .hbm, ⟨20, _⟩ => ⟨S1x1024x180, .f32⟩
  | .hbm, ⟨21, _⟩ => ⟨S1x1024x180, .f32⟩
  | .hbm, ⟨22, _⟩ => ⟨S_, .f32⟩
  | .hbm, ⟨23, _⟩ => ⟨S1x1024x180, .f32⟩
  | .hbm, ⟨24, _⟩ => ⟨S1x1024x180, .f32⟩
  | .hbm, ⟨25, _⟩ => ⟨S1x1024x180, .f32⟩
  | .hbm, ⟨26, _⟩ => ⟨S_, .f32⟩
  | .hbm, ⟨27, _⟩ => ⟨S1x1024x180, .f32⟩
  | .hbm, ⟨28, _⟩ => ⟨S1x1024x180, .f32⟩
  | .hbm, ⟨29, _⟩ => ⟨S1x1024x180, .f32⟩
  | .hbm, ⟨30, _⟩ => ⟨S_, .f32⟩
  | .hbm, ⟨31, _⟩ => ⟨S1x1024x180, .f32⟩
  | .hbm, ⟨32, _⟩ => ⟨S1x1024x180, .f32⟩
  | .hbm, ⟨33, _⟩ => ⟨S1x1024x180, .f32⟩
  | .hbm, ⟨34, _⟩ => ⟨S_, .f32⟩
  | .hbm, ⟨35, _⟩ => ⟨S1x1024x180, .f32⟩
  | .hbm, ⟨36, _⟩ => ⟨S1x1024x180, .f32⟩
  | .hbm, ⟨37, _⟩ => ⟨S1024x180, .f32⟩
  | .hbm, ⟨38, _⟩ => ⟨S1024x180, .f32⟩
  | .hbm, ⟨39, _⟩ => ⟨S1024x180, .f32⟩
  | _, _ => ⟨S1x1024x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel48.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel48Ideal.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference48Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel49.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel49Ideal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference49Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel50.lean ====
abbrev S1x256x96 : Shape := ⟨3, ![1, 256, 96]⟩
abbrev S256x96 : Shape := ⟨2, ![256, 96]⟩

abbrev nBuf : Space → Nat
  | .hbm => 11
  | .vmem => 7
  | .smem => 0
  | _ => 0

abbrev bufTy : (tb : Table) → Fin (tcTables nBuf tb) → BufTy
  | .hbm, ⟨0, _⟩ => ⟨S1x256x96, .f32⟩
  | .hbm, ⟨1, _⟩ => ⟨S1x256x96, .f32⟩
  | .hbm, ⟨2, _⟩ => ⟨S1x256x96, .f32⟩
  | .hbm, ⟨3, _⟩ => ⟨S1x256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .hbm, ⟨8, _⟩ => ⟨S256x96, .f32⟩
  | .hbm, ⟨9, _⟩ => ⟨S256x96, .f32⟩
  | .hbm, ⟨10, _⟩ => ⟨S256x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | _, _ => ⟨S1x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel50Ideal.lean ====
abbrev S1x256x96 : Shape := ⟨3, ![1, 256, 96]⟩
abbrev S256x96 : Shape := ⟨2, ![256, 96]⟩

abbrev nBuf : Space → Nat
  | .hbm => 11
  | .vmem => 7
  | .smem => 0
  | _ => 0

abbrev bufTy : (tb : Table) → Fin (tcTables nBuf tb) → BufTy
  | .hbm, ⟨0, _⟩ => ⟨S1x256x96, .f32⟩
  | .hbm, ⟨1, _⟩ => ⟨S1x256x96, .f32⟩
  | .hbm, ⟨2, _⟩ => ⟨S1x256x96, .f32⟩
  | .hbm, ⟨3, _⟩ => ⟨S1x256x96, .f32⟩
  | .hbm, ⟨4, _⟩ => ⟨S256x96, .f32⟩
  | .hbm, ⟨5, _⟩ => ⟨S256x96, .f32⟩
  | .hbm, ⟨6, _⟩ => ⟨S256x96, .f32⟩
  | .hbm, ⟨7, _⟩ => ⟨S256x96, .f32⟩
  | .hbm, ⟨8, _⟩ => ⟨S256x96, .f32⟩
  | .hbm, ⟨9, _⟩ => ⟨S256x96, .f32⟩
  | .hbm, ⟨10, _⟩ => ⟨S256x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | _, _ => ⟨S1x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference50Ideal.lean ====
abbrev S1x256x96 : Shape := ⟨3, ![1, 256, 96]⟩
abbrev S_ : Shape := ⟨0, ![]⟩
abbrev S256x96 : Shape := ⟨2, ![256, 96]⟩

abbrev nBuf : Space → Nat
  | .hbm => 40
  | .vmem => 0
  | .smem => 0
  | _ => 0

abbrev bufTy : (tb : Table) → Fin (tcTables nBuf tb) → BufTy
  | .hbm, ⟨0, _⟩ => ⟨S1x256x96, .f32⟩
  | .hbm, ⟨1, _⟩ => ⟨S1x256x96, .f32⟩
  | .hbm, ⟨2, _⟩ => ⟨S1x256x96, .f32⟩
  | .hbm, ⟨3, _⟩ => ⟨S1x256x96, .f32⟩
  | .hbm, ⟨4, _⟩ => ⟨S_, .f32⟩
  | .hbm, ⟨5, _⟩ => ⟨S1x256x96, .f32⟩
  | .hbm, ⟨6, _⟩ => ⟨S1x256x96, .f32⟩
  | .hbm, ⟨7, _⟩ => ⟨S_, .f32⟩
  | .hbm, ⟨8, _⟩ => ⟨S1x256x96, .f32⟩
  | .hbm, ⟨9, _⟩ => ⟨S1x256x96, .f32⟩
  | .hbm, ⟨10, _⟩ => ⟨S1x256x96, .f32⟩
  | .hbm, ⟨11, _⟩ => ⟨S_, .f32⟩
  | .hbm, ⟨12, _⟩ => ⟨S1x256x96, .f32⟩
  | .hbm, ⟨13, _⟩ => ⟨S1x256x96, .f32⟩
  | .hbm, ⟨14, _⟩ => ⟨S1x256x96, .f32⟩
  | .hbm, ⟨15, _⟩ => ⟨S_, .f32⟩
  | .hbm, ⟨16, _⟩ => ⟨S1x256x96, .f32⟩
  | .hbm, ⟨17, _⟩ => ⟨S1x256x96, .f32⟩
  | .hbm, ⟨18, _⟩ => ⟨S1x256x96, .f32⟩
  | .hbm, ⟨19, _⟩ => ⟨S_, .f32⟩
  | .hbm, ⟨20, _⟩ => ⟨S1x256x96, .f32⟩
  | .hbm, ⟨21, _⟩ => ⟨S1x256x96, .f32⟩
  | .hbm, ⟨22, _⟩ => ⟨S_, .f32⟩
  | .hbm, ⟨23, _⟩ => ⟨S1x256x96, .f32⟩
  | .hbm, ⟨24, _⟩ => ⟨S1x256x96, .f32⟩
  | .hbm, ⟨25, _⟩ => ⟨S1x256x96, .f32⟩
  | .hbm, ⟨26, _⟩ => ⟨S_, .f32⟩
  | .hbm, ⟨27, _⟩ => ⟨S1x256x96, .f32⟩
  | .hbm, ⟨28, _⟩ => ⟨S1x256x96, .f32⟩
  | .hbm, ⟨29, _⟩ => ⟨S1x256x96, .f32⟩
  | .hbm, ⟨30, _⟩ => ⟨S_, .f32⟩
  | .hbm, ⟨31, _⟩ => ⟨S1x256x96, .f32⟩
  | .hbm, ⟨32, _⟩ => ⟨S1x256x96, .f32⟩
  | .hbm, ⟨33, _⟩ => ⟨S1x256x96, .f32⟩
  | .hbm, ⟨34, _⟩ => ⟨S_, .f32⟩
  | .hbm, ⟨35, _⟩ => ⟨S1x256x96, .f32⟩
  | .hbm, ⟨36, _⟩ => ⟨S1x256x96, .f32⟩
  | .hbm, ⟨37, _⟩ => ⟨S256x96, .f32⟩
  | .hbm, ⟨38, _⟩ => ⟨S256x96, .f32⟩
  | .hbm, ⟨39, _⟩ => ⟨S256x96, .f32⟩
  | _, _ => ⟨S1x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel51.lean ====
abbrev S1x128x128 : Shape := ⟨3, ![1, 128, 128]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x128x128, .f32⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel51Ideal.lean ====
abbrev S1x128x128 : Shape := ⟨3, ![1, 128, 128]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x128x128, .f32⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference51Ideal.lean ====
abbrev S1x128x128 : Shape := ⟨3, ![1, 128, 128]⟩
abbrev S_ : Shape := ⟨0, ![]⟩
abbrev S128x128 : Shape := ⟨2, ![128, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x128x128, .f32⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S_, .f32⟩
  | .hbm, ⟨5, _⟩ => ⟨S1x128x128, .f32⟩
  | .hbm, ⟨6, _⟩ => ⟨S1x128x128, .f32⟩
  | .hbm, ⟨7, _⟩ => ⟨S_, .f32⟩
  | .hbm, ⟨8, _⟩ => ⟨S1x128x128, .f32⟩
  | .hbm, ⟨9, _⟩ => ⟨S1x128x128, .f32⟩
  | .hbm, ⟨10, _⟩ => ⟨S1x128x128, .f32⟩
  | .hbm, ⟨11, _⟩ => ⟨S_, .f32⟩
  | .hbm, ⟨12, _⟩ => ⟨S1x128x128, .f32⟩
  | .hbm, ⟨13, _⟩ => ⟨S1x128x128, .f32⟩
  | .hbm, ⟨14, _⟩ => ⟨S1x128x128, .f32⟩
  | .hbm, ⟨15, _⟩ => ⟨S_, .f32⟩
  | .hbm, ⟨16, _⟩ => ⟨S1x128x128, .f32⟩
  | .hbm, ⟨17, _⟩ => ⟨S1x128x128, .f32⟩
  | .hbm, ⟨18, _⟩ => ⟨S1x128x128, .f32⟩
  | .hbm, ⟨19, _⟩ => ⟨S_, .f32⟩
  | .hbm, ⟨20, _⟩ => ⟨S1x128x128, .f32⟩
  | .hbm, ⟨21, _⟩ => ⟨S1x128x128, .f32⟩
  | .hbm, ⟨22, _⟩ => ⟨S_, .f32⟩
  | .hbm, ⟨23, _⟩ => ⟨S1x128x128, .f32⟩
  | .hbm, ⟨24, _⟩ => ⟨S1x128x128, .f32⟩
  | .hbm, ⟨25, _⟩ => ⟨S1x128x128, .f32⟩
  | .hbm, ⟨26, _⟩ => ⟨S_, .f32⟩
  | .hbm, ⟨27, _⟩ => ⟨S1x128x128, .f32⟩
  | .hbm, ⟨28, _⟩ => ⟨S1x128x128, .f32⟩
  | .hbm, ⟨29, _⟩ => ⟨S1x128x128, .f32⟩
  | .hbm, ⟨30, _⟩ => ⟨S_, .f32⟩
  | .hbm, ⟨31, _⟩ => ⟨S1x128x128, .f32⟩
  | .hbm, ⟨32, _⟩ => ⟨S1x128x128, .f32⟩
  | .hbm, ⟨33, _⟩ => ⟨S1x128x128, .f32⟩
  | .hbm, ⟨34, _⟩ => ⟨S_, .f32⟩
  | .hbm, ⟨35, _⟩ => ⟨S1x128x128, .f32⟩
  | .hbm, ⟨36, _⟩ => ⟨S1x128x128, .f32⟩
  | .hbm, ⟨37, _⟩ => ⟨S128x128, .f32⟩
  | .hbm, ⟨38, _⟩ => ⟨S128x128, .f32⟩
  | .hbm, ⟨39, _⟩ => ⟨S128x128, .f32⟩
  | _, _ => ⟨S1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel52.lean ====
abbrev S1x31x64 : Shape := ⟨3, ![1, 31, 64]⟩
abbrev S31x64 : Shape := ⟨2, ![31, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x31x64, .f32⟩
  | .hbm, ⟨1, _⟩ => ⟨S1x31x64, .f32⟩
  | .hbm, ⟨2, _⟩ => ⟨S1x31x64, .f32⟩
  | .hbm, ⟨3, _⟩ => ⟨S1x31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .hbm, ⟨8, _⟩ => ⟨S31x64, .f32⟩
  | .hbm, ⟨9, _⟩ => ⟨S31x64, .f32⟩
  | .hbm, ⟨10, _⟩ => ⟨S31x64, .f32⟩
  | .local _ .vmem, ⟨0, _⟩ => ⟨S31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | _, _ => ⟨S1x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference52Ideal.lean ====
abbrev S1x31x64 : Shape := ⟨3, ![1, 31, 64]⟩
abbrev S_ : Shape := ⟨0, ![]⟩
abbrev S31x64 : Shape := ⟨2, ![31, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x31x64, .f32⟩
  | .hbm, ⟨1, _⟩ => ⟨S1x31x64, .f32⟩
  | .hbm, ⟨2, _⟩ => ⟨S1x31x64, .f32⟩
  | .hbm, ⟨3, _⟩ => ⟨S1x31x64, .f32⟩
  | .hbm, ⟨4, _⟩ => ⟨S_, .f32⟩
  | .hbm, ⟨5, _⟩ => ⟨S1x31x64, .f32⟩
  | .hbm, ⟨6, _⟩ => ⟨S1x31x64, .f32⟩
  | .hbm, ⟨7, _⟩ => ⟨S_, .f32⟩
  | .hbm, ⟨8, _⟩ => ⟨S1x31x64, .f32⟩
  | .hbm, ⟨9, _⟩ => ⟨S1x31x64, .f32⟩
  | .hbm, ⟨10, _⟩ => ⟨S1x31x64, .f32⟩
  | .hbm, ⟨11, _⟩ => ⟨S_, .f32⟩
  | .hbm, ⟨12, _⟩ => ⟨S1x31x64, .f32⟩
  | .hbm, ⟨13, _⟩ => ⟨S1x31x64, .f32⟩
  | .hbm, ⟨14, _⟩ => ⟨S1x31x64, .f32⟩
  | .hbm, ⟨15, _⟩ => ⟨S_, .f32⟩
  | .hbm, ⟨16, _⟩ => ⟨S1x31x64, .f32⟩
  | .hbm, ⟨17, _⟩ => ⟨S1x31x64, .f32⟩
  | .hbm, ⟨18, _⟩ => ⟨S1x31x64, .f32⟩
  | .hbm, ⟨19, _⟩ => ⟨S_, .f32⟩
  | .hbm, ⟨20, _⟩ => ⟨S1x31x64, .f32⟩
  | .hbm, ⟨21, _⟩ => ⟨S1x31x64, .f32⟩
  | .hbm, ⟨22, _⟩ => ⟨S_, .f32⟩
  | .hbm, ⟨23, _⟩ => ⟨S1x31x64, .f32⟩
  | .hbm, ⟨24, _⟩ => ⟨S1x31x64, .f32⟩
  | .hbm, ⟨25, _⟩ => ⟨S1x31x64, .f32⟩
  | .hbm, ⟨26, _⟩ => ⟨S_, .f32⟩
  | .hbm, ⟨27, _⟩ => ⟨S1x31x64, .f32⟩
  | .hbm, ⟨28, _⟩ => ⟨S1x31x64, .f32⟩
  | .hbm, ⟨29, _⟩ => ⟨S1x31x64, .f32⟩
  | .hbm, ⟨30, _⟩ => ⟨S_, .f32⟩
  | .hbm, ⟨31, _⟩ => ⟨S1x31x64, .f32⟩
  | .hbm, ⟨32, _⟩ => ⟨S1x31x64, .f32⟩
  | .hbm, ⟨33, _⟩ => ⟨S1x31x64, .f32⟩
  | .hbm, ⟨34, _⟩ => ⟨S_, .f32⟩
  | .hbm, ⟨35, _⟩ => ⟨S1x31x64, .f32⟩
  | .hbm, ⟨36, _⟩ => ⟨S1x31x64, .f32⟩
  | .hbm, ⟨37, _⟩ => ⟨S31x64, .f32⟩
  | .hbm, ⟨38, _⟩ => ⟨S31x64, .f32⟩
  | .hbm, ⟨39, _⟩ => ⟨S31x64, .f32⟩
  | _, _ => ⟨S1x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel53.lean ====
abbrev S2x2048x512 : Shape := ⟨3, ![2, 2048, 512]⟩
abbrev S32x512 : Shape := ⟨2, ![32, 512]⟩
abbrev S_ : Shape := ⟨0, ![]⟩
abbrev S2x2080x512 : Shape := ⟨3, ![2, 2080, 512]⟩
abbrev S1x2080x512 : Shape := ⟨3, ![1, 2080, 512]⟩
abbrev S1x256x512 : Shape := ⟨3, ![1, 256, 512]⟩
abbrev S1x64x512 : Shape := ⟨3, ![1, 64, 512]⟩
abbrev S64x512 : Shape := ⟨2, ![64, 512]⟩
abbrev S1x512 : Shape := ⟨2, ![1, 512]⟩
abbrev S56x512 : Shape := ⟨2, ![56, 512]⟩
abbrev S1x32x512 : Shape := ⟨3, ![1, 32, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x512, .f32⟩
  | .hbm, ⟨1, _⟩ => ⟨S32x512, .f32⟩
  | .hbm, ⟨2, _⟩ => ⟨S_, .i32⟩
  | .hbm, ⟨3, _⟩ => ⟨S_, .f32⟩
  | .hbm, ⟨4, _⟩ => ⟨S2x2080x512, .f32⟩
  | .hbm, ⟨5, _⟩ => ⟨S2x2048x512, .f32⟩
  | .local _ .vmem, ⟨0, _⟩ => ⟨S1x2080x512, .f32⟩
  | .local _ .vmem, ⟨1, _⟩ => ⟨S1x2080x512, .f32⟩
  | .local _ .vmem, ⟨2, _⟩ => ⟨S32x512, .f32⟩
  | .local _ .vmem, ⟨3, _⟩ => ⟨S1x256x512, .f32⟩
  | .local _ .vmem, ⟨4, _⟩ => ⟨S1x256x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) (c0_i32 : BitVec 32) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : BitVec 32 := Scalar.addi v1 c0_i32
  let v3 : Index := Scalar.indexCast v2
  let c0_0 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2080x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference53Ideal.lean ====
abbrev S2x2048x512 : Shape := ⟨3, ![2, 2048, 512]⟩
abbrev S32x512 : Shape := ⟨2, ![32, 512]⟩
abbrev S_ : Shape := ⟨0, ![]⟩
abbrev S2x15x512 : Shape := ⟨3, ![2, 15, 512]⟩
abbrev S2x2078x512 : Shape := ⟨3, ![2, 2078, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 229
  | .vmem => 0
  | .smem => 0
  | _ => 0

abbrev hbmTy0_0 (i : Nat) : BufTy := match i % 128 with
  | 0 => ⟨S2x2048x512, .f32⟩
  | 1 => ⟨S32x512, .f32⟩
  | 2 => ⟨S_, .f32⟩
  | 3 => ⟨S2x15x512, .f32⟩
  | 4 => ⟨S2x2078x512, .f32⟩
  | 5 => ⟨S2x2048x512, .f32⟩
  | 6 => ⟨S1x512, .f32⟩
  | 7 => ⟨S512, .f32⟩
  | 8 => ⟨S1x1x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S2x2048x512, .f32⟩
  | 15 => ⟨S1x512, .f32⟩
  | 16 => ⟨S512, .f32⟩
  | 17 => ⟨S1x1x512, .f32⟩
  | 18 => ⟨S2x2048x512, .f32⟩
  | 19 => ⟨S2x2048x512, .f32⟩
  | 20 => ⟨S2x2048x512, .f32⟩
  | 21 => ⟨S2x2048x512, .f32⟩
  | 22 => ⟨S1x512, .f32⟩
  | 23 => ⟨S512, .f32⟩
  | 24 => ⟨S1x1x512, .f32⟩
  | 25 => ⟨S2x2048x512, .f32⟩
  | 26 => ⟨S2x2048x512, .f32⟩
  | 27 => ⟨S2x2048x512, .f32⟩
  | 28 => ⟨S2x2048x512, .f32⟩
  | 29 => ⟨S1x512, .f32⟩
  | 30 => ⟨S512, .f32⟩
  | 31 => ⟨S1x1x512, .f32⟩
  | 32 => ⟨S2x2048x512, .f32⟩
  | 33 => ⟨S2x2048x512, .f32⟩
  | 34 => ⟨S2x2048x512, .f32⟩
  | 35 => ⟨S2x2048x512, .f32⟩
  | 36 => ⟨S1x512, .f32⟩
  | 37 => ⟨S512, .f32⟩
  | 38 => ⟨S1x1x512, .f32⟩
  | 39 => ⟨S2x2048x512, .f32⟩
  | 40 => ⟨S2x2048x512, .f32⟩
  | 41 => ⟨S2x2048x512, .f32⟩
  | 42 => ⟨S2x2048x512, .f32⟩
  | 43 => ⟨S1x512, .f32⟩
  | 44 => ⟨S512, .f32⟩
  | 45 => ⟨S1x1x512, .f32⟩
  | 46 => ⟨S2x2048x512, .f32⟩
  | 47 => ⟨S2x2048x512, .f32⟩
  | 48 => ⟨S2x2048x512, .f32⟩
  | 49 => ⟨S2x2048x512, .f32⟩
  | 50 => ⟨S1x512, .f32⟩
  | 51 => ⟨S512, .f32⟩
  | 52 => ⟨S1x1x512, .f32⟩
  | 53 => ⟨S2x2048x512, .f32⟩
  | 54 => ⟨S2x2048x512, .f32⟩
  | 55 => ⟨S2x2048x512, .f32⟩
  | 56 => ⟨S2x2048x512, .f32⟩
  | 57 => ⟨S1x512, .f32⟩
  | 58 => ⟨S512, .f32⟩
  | 59 => ⟨S1x1x512, .f32⟩
  | 60 => ⟨S2x2048x512, .f32⟩
  | 61 => ⟨S2x2048x512, .f32⟩
  | 62 => ⟨S2x2048x512, .f32⟩
  | 63 => ⟨S2x2048x512, .f32⟩
  | 64 => ⟨S1x512, .f32⟩
  | 65 => ⟨S512, .f32⟩
  | 66 => ⟨S1x1x512, .f32⟩
  | 67 => ⟨S2x2048x512, .f32⟩
  | 68 => ⟨S2x2048x512, .f32⟩
  | 69 => ⟨S2x2048x512, .f32⟩
  | 70 => ⟨S2x2048x512, .f32⟩
  | 71 => ⟨S1x512, .f32⟩
  | 72 => ⟨S512, .f32⟩
  | 73 => ⟨S1x1x512, .f32⟩
  | 74 => ⟨S2x2048x512, .f32⟩
  | 75 => ⟨S2x2048x512, .f32⟩
  | 76 => ⟨S2x2048x512, .f32⟩
  | 77 => ⟨S2x2048x512, .f32⟩
  | 78 => ⟨S1x512, .f32⟩
  | 79 => ⟨S512, .f32⟩
  | 80 => ⟨S1x1x512, .f32⟩
  | 81 => ⟨S2x2048x512, .f32⟩
  | 82 => ⟨S2x2048x512, .f32⟩
  | 83 => ⟨S2x2048x512, .f32⟩
  | 84 => ⟨S2x2048x512, .f32⟩
  | 85 => ⟨S1x512, .f32⟩
  | 86 => ⟨S512, .f32⟩
  | 87 => ⟨S1x1x512, .f32⟩
  | 88 => ⟨S2x2048x512, .f32⟩
  | 89 => ⟨S2x2048x512, .f32⟩
  | 90 => ⟨S2x2048x512, .f32⟩
  | 91 => ⟨S2x2048x512, .f32⟩
  | 92 => ⟨S1x512, .f32⟩
  | 93 => ⟨S512, .f32⟩
  | 94 => ⟨S1x1x512, .f32⟩
  | 95 => ⟨S2x2048x512, .f32⟩
  | 96 => ⟨S2x2048x512, .f32⟩
  | 97 => ⟨S2x2048x512, .f32⟩
  | 98 => ⟨S2x2048x512, .f32⟩
  | 99 => ⟨S1x512, .f32⟩
  | 100 => ⟨S512, .f32⟩
  | 101 => ⟨S1x1x512, .f32⟩
  | 102 => ⟨S2x2048x512, .f32⟩
  | 103 => ⟨S2x2048x512, .f32⟩
  | 104 => ⟨S2x2048x512, .f32⟩
  | 105 => ⟨S2x2048x512, .f32⟩
  | 106 => ⟨S1x512, .f32⟩
  | 107 => ⟨S512, .f32⟩
  | 108 => ⟨S1x1x512, .f32⟩
  | 109 => ⟨S2x2048x512, .f32⟩
  | 110 => ⟨S2x2048x512, .f32⟩
  | 111 => ⟨S2x2048x512, .f32⟩
  | 112 => ⟨S2x2048x512, .f32⟩
  | 113 => ⟨S1x512, .f32⟩
  | 114 => ⟨S512, .f32⟩
  | 115 => ⟨S1x1x512, .f32⟩
  | 116 => ⟨S2x2048x512, .f32⟩
  | 117 => ⟨S2x2048x512, .f32⟩
  | 118 => ⟨S2x2048x512, .f32⟩
  | 119 => ⟨S2x2048x512, .f32⟩
  | 120 => ⟨S1x512, .f32⟩
  | 121 => ⟨S512, .f32⟩
  | 122 => ⟨S1x1x512, .f32⟩
  | 123 => ⟨S2x2048x512, .f32⟩
  | 124 => ⟨S2x2048x512, .f32⟩
  | 125 => ⟨S2x2048x512, .f32⟩
  | 126 => ⟨S2x2048x512, .f32⟩
  | 127 => ⟨S1x512, .f32⟩
  | _ => ⟨S2x2048x512, .f32⟩

abbrev hbmTy0_1 (i : Nat) : BufTy := match i % 128 with
  | 0 => ⟨S512, .f32⟩
  | 1 => ⟨S1x1x512, .f32⟩
  | 2 => ⟨S2x2048x512, .f32⟩
  | 3 => ⟨S2x2048x512, .f32⟩
  | 4 => ⟨S2x2048x512, .f32⟩
  | 5 => ⟨S2x2048x512, .f32⟩
  | 6 => ⟨S1x512, .f32⟩
  | 7 => ⟨S512, .f32⟩
  | 8 => ⟨S1x1x512, .f32⟩
  | 9 => ⟨S2x2048x512, .f32⟩
  | 10 => ⟨S2x2048x512, .f32⟩
  | 11 => ⟨S2x2048x512, .f32⟩
  | 12 => ⟨S2x2048x512, .f32⟩
  | 13 => ⟨S1x512, .f32⟩
  | 14 => ⟨S512, .f32⟩
  | 15 => ⟨S1x1x512, .f32⟩
  | 16 => ⟨S2x2048x512, .f32⟩
  | 17 => ⟨S2x2048x512, .f32⟩
  | 18 => ⟨S2x2048x512, .f32⟩
  | 19 => ⟨S2x2048x512, .f32⟩
  | 20 => ⟨S1x512, .f32⟩
  | 21 => ⟨S512, .f32⟩
  | 22 => ⟨S1x1x512, .f32⟩
  | 23 => ⟨S2x2048x512, .f32⟩
  | 24 => ⟨S2x2048x512, .f32⟩
  | 25 => ⟨S2x2048x512, .f32⟩
  | 26 => ⟨S2x2048x512, .f32⟩
  | 27 => ⟨S1x512, .f32⟩
  | 28 => ⟨S512, .f32⟩
  | 29 => ⟨S1x1x512, .f32⟩
  | 30 => ⟨S2x2048x512, .f32⟩
  | 31 => ⟨S2x2048x512, .f32⟩
  | 32 => ⟨S2x2048x512, .f32⟩
  | 33 => ⟨S2x2048x512, .f32⟩
  | 34 => ⟨S1x512, .f32⟩
  | 35 => ⟨S512, .f32⟩
  | 36 => ⟨S1x1x512, .f32⟩
  | 37 => ⟨S2x2048x512, .f32⟩
  | 38 => ⟨S2x2048x512, .f32⟩
  | 39 => ⟨S2x2048x512, .f32⟩
  | 40 => ⟨S2x2048x512, .f32⟩
  | 41 => ⟨S1x512, .f32⟩
  | 42 => ⟨S512, .f32⟩
  | 43 => ⟨S1x1x512, .f32⟩
  | 44 => ⟨S2x2048x512, .f32⟩
  | 45 => ⟨S2x2048x512, .f32⟩
  | 46 => ⟨S2x2048x512, .f32⟩
  | 47 => ⟨S2x2048x512, .f32⟩
  | 48 => ⟨S1x512, .f32⟩
  | 49 => ⟨S512, .f32⟩
  | 50 => ⟨S1x1x512, .f32⟩
  | 51 => ⟨S2x2048x512, .f32⟩
  | 52 => ⟨S2x2048x512, .f32⟩
  | 53 => ⟨S2x2048x512, .f32⟩
  | 54 => ⟨S2x2048x512, .f32⟩
  | 55 => ⟨S1x512, .f32⟩
  | 56 => ⟨S512, .f32⟩
  | 57 => ⟨S1x1x512, .f32⟩
  | 58 => ⟨S2x2048x512, .f32⟩
  | 59 => ⟨S2x2048x512, .f32⟩
  | 60 => ⟨S2x2048x512, .f32⟩
  | 61 => ⟨S2x2048x512, .f32⟩
  | 62 => ⟨S1x512, .f32⟩
  | 63 => ⟨S512, .f32⟩
  | 64 => ⟨S1x1x512, .f32⟩
  | 65 => ⟨S2x2048x512, .f32⟩
  | 66 => ⟨S2x2048x512, .f32⟩
  | 67 => ⟨S2x2048x512, .f32⟩
  | 68 => ⟨S2x2048x512, .f32⟩
  | 69 => ⟨S1x512, .f32⟩
  | 70 => ⟨S512, .f32⟩
  | 71 => ⟨S1x1x512, .f32⟩
  | 72 => ⟨S2x2048x512, .f32⟩
  | 73 => ⟨S2x2048x512, .f32⟩
  | 74 => ⟨S2x2048x512, .f32⟩
  | 75 => ⟨S2x2048x512, .f32⟩
  | 76 => ⟨S1x512, .f32⟩
  | 77 => ⟨S512, .f32⟩
  | 78 => ⟨S1x1x512, .f32⟩
  | 79 => ⟨S2x2048x512, .f32⟩
  | 80 => ⟨S2x2048x512, .f32⟩
  | 81 => ⟨S2x2048x512, .f32⟩
  | 82 => ⟨S2x2048x512, .f32⟩
  | 83 => ⟨S1x512, .f32⟩
  | 84 => ⟨S512, .f32⟩
  | 85 => ⟨S1x1x512, .f32⟩
  | 86 => ⟨S2x2048x512, .f32⟩
  | 87 => ⟨S2x2048x512, .f32⟩
  | 88 => ⟨S2x2048x512, .f32⟩
  | 89 => ⟨S2x2048x512, .f32⟩
  | 90 => ⟨S1x512, .f32⟩
  | 91 => ⟨S512, .f32⟩
  | 92 => ⟨S1x1x512, .f32⟩
  | 93 => ⟨S2x2048x512, .f32⟩
  | 94 => ⟨S2x2048x512, .f32⟩
  | 95 => ⟨S2x2048x512, .f32⟩
  | 96 => ⟨S1x512, .f32⟩
  | 97 => ⟨S512, .f32⟩
  | 98 => ⟨S1x1x512, .f32⟩
  | 99 => ⟨S2x2048x512, .f32⟩
  | 100 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩
abbrev main_v222 : Ref sig .tc := ⟨.hbm, 226, rfl⟩
abbrev main_v223 : Ref sig .tc := ⟨.hbm, 227, rfl⟩
abbrev main_v224 : Ref sig .tc := ⟨.hbm, 228, rfl⟩

abbrev nD : Nat := 1
abbrev τ : Topo := Topo.v7x

variable {F : FTy → Type} [FloatOps F]
-- ==== Kernel54.lean ====
abbrev S2x2048x512 : Shape := ⟨3, ![2, 2048, 512]⟩
abbrev S32x512 : Shape := ⟨2, ![32, 512]⟩
abbrev S31x512 : Shape := ⟨2, ![31, 512]⟩
abbrev S1x512 : Shape := ⟨2, ![1, 512]⟩
abbrev S_ : Shape := ⟨0, ![]⟩
abbrev S2x2080x512 : Shape := ⟨3, ![2, 2080, 512]⟩
abbrev S1x2080x512 : Shape := ⟨3, ![1, 2080, 512]⟩
abbrev S1x256x512 : Shape := ⟨3, ![1, 256, 512]⟩
abbrev S1x64x512 : Shape := ⟨3, ![1, 64, 512]⟩
abbrev S64x512 : Shape := ⟨2, ![64, 512]⟩
abbrev S56x512 : Shape := ⟨2, ![56, 512]⟩
abbrev S1x32x512 : Shape := ⟨3, ![1, 32, 512]⟩

abbrev nBuf : Space → Nat
  | .hbm => 12
  | .vmem => 5
  | .smem => 0
  | _ => 0

abbrev bufTy : (tb : Table) → Fin (tcTables nBuf tb) → BufTy
  | .hbm, ⟨0, _⟩ => ⟨S2x2048x512, .f32⟩
  | .hbm, ⟨1, _⟩ => ⟨S32x512, .f32⟩
  | .hbm, ⟨2, _⟩ => ⟨S31x512, .f32⟩
  | .hbm, ⟨3, _⟩ => ⟨S31x512, .f32⟩
  | .hbm, ⟨4, _⟩ => ⟨S1x512, .f32⟩
  | .hbm, ⟨5, _⟩ => ⟨S_, .f32⟩
  | .hbm, ⟨6, _⟩ => ⟨S1x512, .f32⟩
  | .hbm, ⟨7, _⟩ => ⟨S32x512, .f32⟩
  | .hbm, ⟨8, _⟩ => ⟨S_, .i32⟩
  | .hbm, ⟨9, _⟩ => ⟨S_, .f32⟩
  | .hbm, ⟨10, _⟩ => ⟨S2x2080x512, .f32⟩
  | .hbm, ⟨11, _⟩ => ⟨S2x2048x512, .f32⟩
  | .local _ .vmem, ⟨0, _⟩ => ⟨S1x2080x512, .f32⟩
  | .local _ .vmem, ⟨1, _⟩ => ⟨S1x2080x512, .f32⟩
  | .local _ .vmem, ⟨2, _⟩ => ⟨S32x512, .f32⟩
  | .local _ .vmem, ⟨3, _⟩ => ⟨S1x256x512, .f32⟩
  | .local _ .vmem, ⟨4, _⟩ => ⟨S1x256x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) (c0_i32 : BitVec 32) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : BitVec 32 := Scalar.addi v1 c0_i32
  let v3 : Index := Scalar.indexCast v2
  let c0_0 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2080x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference54Ideal.lean ====
abbrev S2x2048x512 : Shape := ⟨3, ![2, 2048, 512]⟩
abbrev S32x512 : Shape := ⟨2, ![32, 512]⟩
abbrev S_ : Shape := ⟨0, ![]⟩
abbrev S2x15x512 : Shape := ⟨3, ![2, 15, 512]⟩
abbrev S2x2078x512 : Shape := ⟨3, ![2, 2078, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 394
  | .vmem => 0
  | .smem => 0
  | _ => 0

abbrev hbmTy0_0 (i : Nat) : BufTy := match i % 128 with
  | 0 => ⟨S2x2048x512, .f32⟩
  | 1 => ⟨S32x512, .f32⟩
  | 2 => ⟨S_, .f32⟩
  | 3 => ⟨S2x2048x512, .f32⟩
  | 4 => ⟨S_, .f32⟩
  | 5 => ⟨S2x15x512, .f32⟩
  | 6 => ⟨S2x2078x512, .f32⟩
  | 7 => ⟨S_, .f32⟩
  | 8 => ⟨S2x15x512, .f32⟩
  | 9 => ⟨S_, .f32⟩
  | 10 => ⟨S2x15x512, .f32⟩
  | 11 => ⟨S2x2048x512, .f32⟩
  | 12 => ⟨S1x512, .f32⟩
  | 13 => ⟨S512, .f32⟩
  | 14 => ⟨S1x1x512, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S2x2048x512, .f32⟩
  | 21 => ⟨S1x512, .f32⟩
  | 22 => ⟨S512, .f32⟩
  | 23 => ⟨S1x1x512, .f32⟩
  | 24 => ⟨S2x2048x512, .f32⟩
  | 25 => ⟨S2x2048x512, .f32⟩
  | 26 => ⟨S2x2048x512, .f32⟩
  | 27 => ⟨S2x2048x512, .f32⟩
  | 28 => ⟨S1x512, .f32⟩
  | 29 => ⟨S512, .f32⟩
  | 30 => ⟨S1x1x512, .f32⟩
  | 31 => ⟨S2x2048x512, .f32⟩
  | 32 => ⟨S2x2048x512, .f32⟩
  | 33 => ⟨S2x2048x512, .f32⟩
  | 34 => ⟨S2x2048x512, .f32⟩
  | 35 => ⟨S1x512, .f32⟩
  | 36 => ⟨S512, .f32⟩
  | 37 => ⟨S1x1x512, .f32⟩
  | 38 => ⟨S2x2048x512, .f32⟩
  | 39 => ⟨S2x2048x512, .f32⟩
  | 40 => ⟨S2x2048x512, .f32⟩
  | 41 => ⟨S2x2048x512, .f32⟩
  | 42 => ⟨S1x512, .f32⟩
  | 43 => ⟨S512, .f32⟩
  | 44 => ⟨S1x1x512, .f32⟩
  | 45 => ⟨S2x2048x512, .f32⟩
  | 46 => ⟨S2x2048x512, .f32⟩
  | 47 => ⟨S2x2048x512, .f32⟩
  | 48 => ⟨S2x2048x512, .f32⟩
  | 49 => ⟨S1x512, .f32⟩
  | 50 => ⟨S512, .f32⟩
  | 51 => ⟨S1x1x512, .f32⟩
  | 52 => ⟨S2x2048x512, .f32⟩
  | 53 => ⟨S2x2048x512, .f32⟩
  | 54 => ⟨S2x2048x512, .f32⟩
  | 55 => ⟨S2x2048x512, .f32⟩
  | 56 => ⟨S1x512, .f32⟩
  | 57 => ⟨S512, .f32⟩
  | 58 => ⟨S1x1x512, .f32⟩
  | 59 => ⟨S2x2048x512, .f32⟩
  | 60 => ⟨S2x2048x512, .f32⟩
  | 61 => ⟨S2x2048x512, .f32⟩
  | 62 => ⟨S2x2048x512, .f32⟩
  | 63 => ⟨S1x512, .f32⟩
  | 64 => ⟨S512, .f32⟩
  | 65 => ⟨S1x1x512, .f32⟩
  | 66 => ⟨S2x2048x512, .f32⟩
  | 67 => ⟨S2x2048x512, .f32⟩
  | 68 => ⟨S2x2048x512, .f32⟩
  | 69 => ⟨S2x2048x512, .f32⟩
  | 70 => ⟨S1x512, .f32⟩
  | 71 => ⟨S512, .f32⟩
  | 72 => ⟨S1x1x512, .f32⟩
  | 73 => ⟨S2x2048x512, .f32⟩
  | 74 => ⟨S2x2048x512, .f32⟩
  | 75 => ⟨S2x2048x512, .f32⟩
  | 76 => ⟨S2x2048x512, .f32⟩
  | 77 => ⟨S1x512, .f32⟩
  | 78 => ⟨S512, .f32⟩
  | 79 => ⟨S1x1x512, .f32⟩
  | 80 => ⟨S2x2048x512, .f32⟩
  | 81 => ⟨S2x2048x512, .f32⟩
  | 82 => ⟨S2x2048x512, .f32⟩
  | 83 => ⟨S2x2048x512, .f32⟩
  | 84 => ⟨S1x512, .f32⟩
  | 85 => ⟨S512, .f32⟩
  | 86 => ⟨S1x1x512, .f32⟩
  | 87 => ⟨S2x2048x512, .f32⟩
  | 88 => ⟨S2x2048x512, .f32⟩
  | 89 => ⟨S2x2048x512, .f32⟩
  | 90 => ⟨S2x2048x512, .f32⟩
  | 91 => ⟨S1x512, .f32⟩
  | 92 => ⟨S512, .f32⟩
  | 93 => ⟨S1x1x512, .f32⟩
  | 94 => ⟨S2x2048x512, .f32⟩
  | 95 => ⟨S2x2048x512, .f32⟩
  | 96 => ⟨S2x2048x512, .f32⟩
  | 97 => ⟨S2x2048x512, .f32⟩
  | 98 => ⟨S1x512, .f32⟩
  | 99 => ⟨S512, .f32⟩
  | 100 => ⟨S1x1x512, .f32⟩
  | 101 => ⟨S2x2048x512, .f32⟩
  | 102 => ⟨S2x2048x512, .f32⟩
  | 103 => ⟨S2x2048x512, .f32⟩
  | 104 => ⟨S2x2048x512, .f32⟩
  | 105 => ⟨S1x512, .f32⟩
  | 106 => ⟨S512, .f32⟩
  | 107 => ⟨S1x1x512, .f32⟩
  | 108 => ⟨S2x2048x512, .f32⟩
  | 109 => ⟨S2x2048x512, .f32⟩
  | 110 => ⟨S2x2048x512, .f32⟩
  | 111 => ⟨S2x2048x512, .f32⟩
  | 112 => ⟨S1x512, .f32⟩
  | 113 => ⟨S512, .f32⟩
  | 114 => ⟨S1x1x512, .f32⟩
  | 115 => ⟨S2x2048x512, .f32⟩
  | 116 => ⟨S2x2048x512, .f32⟩
  | 117 => ⟨S2x2048x512, .f32⟩
  | 118 => ⟨S2x2048x512, .f32⟩
  | 119 => ⟨S1x512, .f32⟩
  | 120 => ⟨S512, .f32⟩
  | 121 => ⟨S1x1x512, .f32⟩
  | 122 => ⟨S2x2048x512, .f32⟩
  | 123 => ⟨S2x2048x512, .f32⟩
  | 124 => ⟨S2x2048x512, .f32⟩
  | 125 => ⟨S2x2048x512, .f32⟩
  | 126 => ⟨S1x512, .f32⟩
  | 127 => ⟨S512, .f32⟩
  | _ => ⟨S2x2048x512, .f32⟩

abbrev hbmTy0_1 (i : Nat) : BufTy := match i % 128 with
  | 0 => ⟨S1x1x512, .f32⟩
  | 1 => ⟨S2x2048x512, .f32⟩
  | 2 => ⟨S2x2048x512, .f32⟩
  | 3 => ⟨S2x2048x512, .f32⟩
  | 4 => ⟨S2x2048x512, .f32⟩
  | 5 => ⟨S1x512, .f32⟩
  | 6 => ⟨S512, .f32⟩
  | 7 => ⟨S1x1x512, .f32⟩
  | 8 => ⟨S2x2048x512, .f32⟩
  | 9 => ⟨S2x2048x512, .f32⟩
  | 10 => ⟨S2x2048x512, .f32⟩
  | 11 => ⟨S2x2048x512, .f32⟩
  | 12 => ⟨S1x512, .f32⟩
  | 13 => ⟨S512, .f32⟩
  | 14 => ⟨S1x1x512, .f32⟩
  | 15 => ⟨S2x2048x512, .f32⟩
  | 16 => ⟨S2x2048x512, .f32⟩
  | 17 => ⟨S2x2048x512, .f32⟩
  | 18 => ⟨S2x2048x512, .f32⟩
  | 19 => ⟨S1x512, .f32⟩
  | 20 => ⟨S512, .f32⟩
  | 21 => ⟨S1x1x512, .f32⟩
  | 22 => ⟨S2x2048x512, .f32⟩
  | 23 => ⟨S2x2048x512, .f32⟩
  | 24 => ⟨S2x2048x512, .f32⟩
  | 25 => ⟨S2x2048x512, .f32⟩
  | 26 => ⟨S1x512, .f32⟩
  | 27 => ⟨S512, .f32⟩
  | 28 => ⟨S1x1x512, .f32⟩
  | 29 => ⟨S2x2048x512, .f32⟩
  | 30 => ⟨S2x2048x512, .f32⟩
  | 31 => ⟨S2x2048x512, .f32⟩
  | 32 => ⟨S2x2048x512, .f32⟩
  | 33 => ⟨S1x512, .f32⟩
  | 34 => ⟨S512, .f32⟩
  | 35 => ⟨S1x1x512, .f32⟩
  | 36 => ⟨S2x2048x512, .f32⟩
  | 37 => ⟨S2x2048x512, .f32⟩
  | 38 => ⟨S2x2048x512, .f32⟩
  | 39 => ⟨S2x2048x512, .f32⟩
  | 40 => ⟨S1x512, .f32⟩
  | 41 => ⟨S512, .f32⟩
  | 42 => ⟨S1x1x512, .f32⟩
  | 43 => ⟨S2x2048x512, .f32⟩
  | 44 => ⟨S2x2048x512, .f32⟩
  | 45 => ⟨S2x2048x512, .f32⟩
  | 46 => ⟨S2x2048x512, .f32⟩
  | 47 => ⟨S1x512, .f32⟩
  | 48 => ⟨S512, .f32⟩
  | 49 => ⟨S1x1x512, .f32⟩
  | 50 => ⟨S2x2048x512, .f32⟩
  | 51 => ⟨S2x2048x512, .f32⟩
  | 52 => ⟨S2x2048x512, .f32⟩
  | 53 => ⟨S2x2048x512, .f32⟩
  | 54 => ⟨S1x512, .f32⟩
  | 55 => ⟨S512, .f32⟩
  | 56 => ⟨S1x1x512, .f32⟩
  | 57 => ⟨S2x2048x512, .f32⟩
  | 58 => ⟨S2x2048x512, .f32⟩
  | 59 => ⟨S2x2048x512, .f32⟩
  | 60 => ⟨S2x2048x512, .f32⟩
  | 61 => ⟨S1x512, .f32⟩
  | 62 => ⟨S512, .f32⟩
  | 63 => ⟨S1x1x512, .f32⟩
  | 64 => ⟨S2x2048x512, .f32⟩
  | 65 => ⟨S2x2048x512, .f32⟩
  | 66 => ⟨S2x2048x512, .f32⟩
  | 67 => ⟨S2x2048x512, .f32⟩
  | 68 => ⟨S1x512, .f32⟩
  | 69 => ⟨S512, .f32⟩
  | 70 => ⟨S1x1x512, .f32⟩
  | 71 => ⟨S2x2048x512, .f32⟩
  | 72 => ⟨S2x2048x512, .f32⟩
  | 73 => ⟨S2x2048x512, .f32⟩
  | 74 => ⟨S2x2048x512, .f32⟩
  | 75 => ⟨S1x512, .f32⟩
  | 76 => ⟨S512, .f32⟩
  | 77 => ⟨S1x1x512, .f32⟩
  | 78 => ⟨S2x2048x512, .f32⟩
  | 79 => ⟨S2x2048x512, .f32⟩
  | 80 => ⟨S2x2048x512, .f32⟩
  | 81 => ⟨S2x2048x512, .f32⟩
  | 82 => ⟨S1x512, .f32⟩
  | 83 => ⟨S512, .f32⟩
  | 84 => ⟨S1x1x512, .f32⟩
  | 85 => ⟨S2x2048x512, .f32⟩
  | 86 => ⟨S2x2048x512, .f32⟩
  | 87 => ⟨S2x2048x512, .f32⟩
  | 88 => ⟨S2x2048x512, .f32⟩
  | 89 => ⟨S1x512, .f32⟩
  | 90 => ⟨S512, .f32⟩
  | 91 => ⟨S1x1x512, .f32⟩
  | 92 => ⟨S2x2048x512, .f32⟩
  | 93 => ⟨S2x2048x512, .f32⟩
  | 94 => ⟨S2x2048x512, .f32⟩
  | 95 => ⟨S2x2048x512, .f32⟩
  | 96 => ⟨S1x512, .f32⟩
  | 97 => ⟨S512, .f32⟩
  | 98 => ⟨S1x1x512, .f32⟩
  | 99 => ⟨S2x2048x512, .f32⟩
  | 100 => ⟨S2x2048x512, .f32⟩
  | 101 => ⟨S2x2048x512, .f32⟩
  | 102 => ⟨S1x512, .f32⟩
  | 103 => ⟨S512, .f32⟩
  | 104 => ⟨S1x1x512, .f32⟩
  | 105 => ⟨S2x2048x512, .f32⟩
  | 106 => ⟨S2x2048x512, .f32⟩
  | 107 => ⟨S2x2048x512, .f32⟩
  | 108 => ⟨S2x2048x512, .f32⟩
  | 109 => ⟨S2x2048x512, .f32⟩
  | 110 => ⟨S2x2048x512, .f32⟩
  | 111 => ⟨S_, .f32⟩
  | 112 => ⟨S2x2078x512, .f32⟩
  | 113 => ⟨S2x2048x512, .f32⟩
  | 114 => ⟨S2x2048x512, .f32⟩
  | 115 => ⟨S_, .f32⟩
  | 116 => ⟨S2x2078x512, .f32⟩
  | 117 => ⟨S2x2078x512, .f32⟩
  | 118 => ⟨S2x2048x512, .f32⟩
  | 119 => ⟨S2x2048x512, .f32⟩
  | 120 => ⟨S_, .f32⟩
  | 121 => ⟨S2x2078x512, .f32⟩
  | 122 => ⟨S2x2078x512, .f32⟩
  | 123 => ⟨S2x2048x512, .f32⟩
  | 124 => ⟨S2x2048x512, .f32⟩
  | 125 => ⟨S_, .f32⟩
  | 126 => ⟨S2x2078x512, .f32⟩
  | 127 => ⟨S2x2078x512, .f32⟩
  | _ => ⟨S2x2048x512, .f32⟩

abbrev hbmTy0_2 (i : Nat) : BufTy := match i % 128 with
  | 0 => ⟨S2x2048x512, .f32⟩
  | 1 => ⟨S2x2048x512, .f32⟩
  | 2 => ⟨S_, .f32⟩
  | 3 => ⟨S2x2078x512, .f32⟩
  | 4 => ⟨S2x2078x512, .f32⟩
  | 5 => ⟨S2x2048x512, .f32⟩
  | 6 => ⟨S2x2048x512, .f32⟩
  | 7 => ⟨S_, .f32⟩
  | 8 => ⟨S2x2078x512, .f32⟩
  | 9 => ⟨S2x2078x512, .f32⟩
  | 10 => ⟨S2x2048x512, .f32⟩
  | 11 => ⟨S2x2048x512, .f32⟩
  | 12 => ⟨S_, .f32⟩
  | 13 => ⟨S2x2078x512, .f32⟩
  | 14 => ⟨S2x2078x512, .f32⟩
  | 15 => ⟨S2x2048x512, .f32⟩
  | 16 => ⟨S2x2048x512, .f32⟩
  | 17 => ⟨S_, .f32⟩
  | 18 => ⟨S2x2078x512, .f32⟩
  | 19 => ⟨S2x2078x512, .f32⟩
  | 20 => ⟨S2x2048x512, .f32⟩
  | 21 => ⟨S2x2048x512, .f32⟩
  | 22 => ⟨S_, .f32⟩
  | 23 => ⟨S2x2078x512, .f32⟩
  | 24 => ⟨S2x2078x512, .f32⟩
  | 25 => ⟨S2x2048x512, .f32⟩
  | 26 => ⟨S2x2048x512, .f32⟩
  | 27 => ⟨S_, .f32⟩
  | 28 => ⟨S2x2078x512, .f32⟩
  | 29 => ⟨S2x2078x512, .f32⟩
  | 30 => ⟨S2x2048x512, .f32⟩
  | 31 => ⟨S2x2048x512, .f32⟩
  | 32 => ⟨S_, .f32⟩
  | 33 => ⟨S2x2078x512, .f32⟩
  | 34 => ⟨S2x2078x512, .f32⟩
  | 35 => ⟨S2x2048x512, .f32⟩
  | 36 => ⟨S2x2048x512, .f32⟩
  | 37 => ⟨S_, .f32⟩
  | 38 => ⟨S2x2078x512, .f32⟩
  | 39 => ⟨S2x2078x512, .f32⟩
  | 40 => ⟨S2x2048x512, .f32⟩
  | 41 => ⟨S2x2048x512, .f32⟩
  | 42 => ⟨S_, .f32⟩
  | 43 => ⟨S2x2078x512, .f32⟩
  | 44 => ⟨S2x2078x512, .f32⟩
  | 45 => ⟨S2x2048x512, .f32⟩
  | 46 => ⟨S2x2048x512, .f32⟩
  | 47 => ⟨S_, .f32⟩
  | 48 => ⟨S2x2078x512, .f32⟩
  | 49 => ⟨S2x2078x512, .f32⟩
  | 50 => ⟨S2x2048x512, .f32⟩
  | 51 => ⟨S2x2048x512, .f32⟩
  | 52 => ⟨S_, .f32⟩
  | 53 => ⟨S2x2078x512, .f32⟩
  | 54 => ⟨S2x2078x512, .f32⟩
  | 55 => ⟨S2x2048x512, .f32⟩
  | 56 => ⟨S2x2048x512, .f32⟩
  | 57 => ⟨S_, .f32⟩
  | 58 => ⟨S2x2078x512, .f32⟩
  | 59 => ⟨S2x2078x512, .f32⟩
  | 60 => ⟨S2x2048x512, .f32⟩
  | 61 => ⟨S2x2048x512, .f32⟩
  | 62 => ⟨S_, .f32⟩
  | 63 => ⟨S2x2078x512, .f32⟩
  | 64 => ⟨S2x2078x512, .f32⟩
  | 65 => ⟨S2x2048x512, .f32⟩
  | 66 => ⟨S2x2048x512, .f32⟩
  | 67 => ⟨S_, .f32⟩
  | 68 => ⟨S2x2078x512, .f32⟩
  | 69 => ⟨S2x2078x512, .f32⟩
  | 70 => ⟨S2x2048x512, .f32⟩
  | 71 => ⟨S2x2048x512, .f32⟩
  | 72 => ⟨S_, .f32⟩
  | 73 => ⟨S2x2078x512, .f32⟩
  | 74 => ⟨S2x2078x512, .f32⟩
  | 75 => ⟨S2x2048x512, .f32⟩
  | 76 => ⟨S2x2048x512, .f32⟩
  | 77 => ⟨S_, .f32⟩
  | 78 => ⟨S2x2078x512, .f32⟩
  | 79 => ⟨S2x2078x512, .f32⟩
  | 80 => ⟨S2x2048x512, .f32⟩
  | 81 => ⟨S2x2048x512, .f32⟩
  | 82 => ⟨S_, .f32⟩
  | 83 => ⟨S2x2078x512, .f32⟩
  | 84 => ⟨S2x2078x512, .f32⟩
  | 85 => ⟨S2x2048x512, .f32⟩
  | 86 => ⟨S2x2048x512, .f32⟩
  | 87 => ⟨S_, .f32⟩
  | 88 => ⟨S2x2078x512, .f32⟩
  | 89 => ⟨S2x2078x512, .f32⟩
  | 90 => ⟨S2x2048x512, .f32⟩
  | 91 => ⟨S2x2048x512, .f32⟩
  | 92 => ⟨S_, .f32⟩
  | 93 => ⟨S2x2078x512, .f32⟩
  | 94 => ⟨S2x2078x512, .f32⟩
  | 95 => ⟨S2x2048x512, .f32⟩
  | 96 => ⟨S2x2048x512, .f32⟩
  | 97 => ⟨S_, .f32⟩
  | 98 => ⟨S2x2078x512, .f32⟩
  | 99 => ⟨S2x2078x512, .f32⟩
  | 100 => ⟨S2x2048x512, .f32⟩
  | 101 => ⟨S2x2048x512, .f32⟩
  | 102 => ⟨S_, .f32⟩
  | 103 => ⟨S2x2078x512, .f32⟩
  | 104 => ⟨S2x2078x512, .f32⟩
  | 105 => ⟨S2x2048x512, .f32⟩
  | 106 => ⟨S2x2048x512, .f32⟩
  | 107 => ⟨S_, .f32⟩
  | 108 => ⟨S2x2078x512, .f32⟩
  | 109 => ⟨S2x2078x512, .f32⟩
  | 110 => ⟨S2x2048x512, .f32⟩
  | 111 => ⟨S2x2048x512, .f32⟩
  | 112 => ⟨S_, .f32⟩
  | 113 => ⟨S2x2078x512, .f32⟩
  | 114 => ⟨S2x2078x512, .f32⟩
  | 115 => ⟨S2x2048x512, .f32⟩
  | 116 => ⟨S2x2048x512, .f32⟩
  | 117 => ⟨S_, .f32⟩
  | 118 => ⟨S2x2078x512, .f32⟩
  | 119 => ⟨S2x2078x512, .f32⟩
  | 120 => ⟨S2x2048x512, .f32⟩
  | 121 => ⟨S2x2048x512, .f32⟩
  | 122 => ⟨S_, .f32⟩
  | 123 => ⟨S2x2078x512, .f32⟩
  | 124 => ⟨S2x2078x512, .f32⟩
  | 125 => ⟨S2x2048x512, .f32⟩
  | 126 => ⟨S2x2048x512, .f32⟩
  | 127 => ⟨S_, .f32⟩
  | _ => ⟨S2x2048x512, .f32⟩

abbrev hbmTy0_3 (i : Nat) : BufTy := match i % 128 with
  | 0 => ⟨S2x2078x512, .f32⟩
  | 1 => ⟨S2x2078x512, .f32⟩
  | 2 => ⟨S2x2048x512, .f32⟩
  | 3 => ⟨S2x2048x512, .f32⟩
  | 4 => ⟨S_, .f32⟩
  | 5 => ⟨S2x2078x512, .f32⟩
  | 6 => ⟨S2x2078x512, .f32⟩
  | 7 => ⟨S2x15x512, .f32⟩
  | 8 => ⟨S2x2048x512, .f32⟩
  | 9 => ⟨S2x15x512, .f32⟩
  | _ => ⟨S2x2048x512, .f32⟩

abbrev hbmTy (i : Nat) : BufTy := match i / 128 with
  | 0 => hbmTy0_0 i
  | 1 => hbmTy0_1 i
  | 2 => hbmTy0_2 i
  | 3 => hbmTy0_3 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_cst_4 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_cst_5 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_cst_6 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_cst_7 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_cst_8 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_cst_9 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_cst_10 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_11 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_cst_12 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_cst_13 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_cst_14 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_cst_15 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_cst_16 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_cst_17 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_cst_18 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_cst_19 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_cst_20 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_cst_21 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_cst_22 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_cst_23 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev main_cst_24 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_cst_25 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_cst_26 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_cst_27 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_cst_28 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_cst_29 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_cst_30 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_cst_31 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_cst_32 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_cst_33 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_cst_34 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩

abbrev nD : Nat := 1
abbrev τ : Topo := Topo.v7x

variable {F : FTy → Type} [FloatOps F]
-- ==== Proof.Products.lean ====
/-
  What the calls that multiply matrices have in common.
-/
module
public import Idealize.ShloMosaic.Lib.Pointwise
public import Idealize.ShloMosaic.Lib.Pipeline.ValueKit
public import Idealize.ShloMosaic.Lib.Claim
@[expose] public section

namespace Cert.Products

/-- The activation's derivative is a multiple of `max x 0`, so that its mask changes nothing, even of an infinite cotangent. -/
theorem mask (a b x : EReal) : (if 0 < x then a * (b * max x 0) else 0) = a * (b * max x 0) := by
  split_ifs with h
  · rfl
  · rw [max_eq_right (not_lt.1 h), mul_zero, mul_zero]

end Cert.Products
end
-- ==== Proof.Mlp0.lean ====
/-
  The calls of the first layer's MLP, its backward pass and then its forward pass, each against its reference.
-/
module
public import proofs.«01_k».proof.Defs
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Products
@[expose] public section
set_option maxRecDepth 16384
noncomputable section
open Idealize.ShloMosaic Idealize.ShloMosaic.TcCoe Idealize.SL.Sem

/-! ## The gradient before the activation -/

namespace Cert.Kernel3Ideal.Product
open Cert.Kernel3Ideal Cert.Kernel3Ideal.Gen Cert.Kernel3Ideal.Value Cert.Reference3Ideal.Read

variable (m : (ℓ : Loc nD τ sig) → Buf (Elt Ideal) ℓ)

/-- The block that each window has at each grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The result array is the reference's. -/
theorem final (c : Dev nD) : (dats m 0 c).arrAt 3 cfg0.N = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out
  pointwise [k0_pay1, val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16]
  rw [Cert.Products.mask]
  blk_point [iblk, V, idx t]

/-- The call computes what the reference computes. -/
theorem algebraic : Cert.algebraic_Kernel3Ideal_Reference3Ideal := by
  intro m g m' g' _ hagree
  refine ⟨fun c => (dats m 0 c).arrAt 3 cfg0.N, run_blocks m g,
    (θ_run Cert.Reference3Ideal.defs _ _).mono (fun r h c => ?_) (Cert.Reference3Ideal.Value.run (F := Ideal) m' g')⟩
  obtain ⟨a0, a1, a2⟩ := hagree c
  obtain ⟨h0, hargs⟩ := h c
  refine ⟨h0.trans ?_, hargs⟩
  · rw [val_main_v16_eq, a0, a1, a2]
    exact (final m c).symm

/-- The reference terminates and leaves its arguments. -/
theorem frame_reference : Cert.quiescent_Reference3Ideal := fun m g _ =>
  (θ_run Cert.Reference3Ideal.defs _ _).mono (fun _ h => ⟨fun c => (h c).2, funext fun s => match s with
    | ⟨_, .reg x⟩ => x.elim0
    | ⟨_, .dma x⟩ => x.elim0⟩) (Cert.Reference3Ideal.Value.run (F := Ideal) m g)

end Cert.Kernel3Ideal.Product

/-! ## The gradient of the second weight -/

namespace Cert.Kernel4Ideal.Product
open Cert.Kernel4Ideal Cert.Kernel4Ideal.Gen Cert.Kernel4Ideal.Value Cert.Reference4Ideal.Read

variable (m : (ℓ : Loc nD τ sig) → Buf (Elt Ideal) ℓ)

/-- The block that each window has at each grid point. -/
theorem idx : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The accumulator at a run's first point: that point's product. -/
theorem acc_first (c : Dev nD) (t : Fin cfg0.N) (h : t.val % 3 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 3 = 0) (j) :
    (outsAt0 m c t.val t.isLt).2 j = (outsAt0 m c (t.val - 1) (Nat.lt_of_le_of_lt (Nat.sub_le _ _) t.isLt)).2 j + k0_pay1 (iblk m c 0 t) (iblk m c 1 t) j := by
  by_cases h2 : t.val % 3 = 2
  · rw [outsAt0_C m c t h (by omega) h2]; frame_out
    pointwise [k0_pay3]
    exact congrArg (· + _) (congrFun (Memref.IsWhole.read_unread _ _) _)
  · rw [outsAt0_B m c t h (by omega) h2]; frame_out
    pointwise [k0_pay3]
    exact congrArg (· + _) (congrFun (Memref.IsWhole.read_unread _ _) _)

/-- The result array is the reference's: a run's last point writes the accumulator. -/
theorem final (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have h : t.val % 3 = 2 := (flush0_2 t).mp hf
  have hl : (outsAt0 m c t.val t.isLt).1 y = (outsAt0 m c t.val t.isLt).2 y := by
    rw [outsAt0_C m c t (by omega) (by omega) (by omega)]; frame_out
    pointwise [k0_pay4]
  blk_simp
  rw [after0_2, hl, Pipeline.eq_sum_fin_of_reset_step_apply_of_flush (fun n h => (outsAt0 m c n h).2) 3 (fun _ => 0) _ (acc_first m c) (acc_next m c) t h _, zero_add]
  pointwise [k0_pay1, val_main_cst, val_main_v0, val_main_v1, val_main_v2, val_main_v3, val_main_v4, val_main_v5, val_main_v6, val_main_v7, val_main_v8]
  refine Fin.sum_mul_add_congr fun s k hk => ?_
  rw [mul_comm]
  blk_point [iblk, V, idx t, idx ⟨_, Pipeline.run_point_lt_of_flush t h s⟩]

/-- The call computes what the reference computes. -/
theorem algebraic : Cert.algebraic_Kernel4Ideal_Reference4Ideal := by
  intro m g m' g' _ hagree
  refine ⟨fun c => (dats m 0 c).arrAt 2 cfg0.N, run_blocks m g,
    (θ_run Cert.Reference4Ideal.defs _ _).mono (fun r h c => ?_) (Cert.Reference4Ideal.Value.run (F := Ideal) m' g')⟩
  obtain ⟨a0, a1⟩ := hagree c
  obtain ⟨h0, hargs⟩ := h c
  refine ⟨h0.trans ?_, hargs⟩
  · rw [val_main_v8_eq, a0, a1]
    exact (final m c).symm

/-- The reference terminates and leaves its arguments. -/
theorem frame_reference : Cert.quiescent_Reference4Ideal := fun m g _ =>
  (θ_run Cert.Reference4Ideal.defs _ _).mono (fun _ h => ⟨fun c => (h c).2, funext fun s => match s with
    | ⟨_, .reg x⟩ => x.elim0
    | ⟨_, .dma x⟩ => x.elim0⟩) (Cert.Reference4Ideal.Value.run (F := Ideal) m g)

end Cert.Kernel4Ideal.Product

/-! ## The gradient of the first weight, transposed -/

namespace Cert.Kernel5Ideal.Product
open Cert.Kernel5Ideal Cert.Kernel5Ideal.Gen Cert.Kernel5Ideal.Value Cert.Reference5Ideal.Read

variable (m : (ℓ : Loc nD τ sig) → Buf (Elt Ideal) ℓ)

/-- The block that each window has at each grid point. -/
theorem idx : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The accumulator at a run's first point: that point's product. -/
theorem acc_first (c : Dev nD) (t : Fin cfg0.N) (h : t.val % 3 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 3 = 0) (j) :
    (outsAt0 m c t.val t.isLt).2 j = (outsAt0 m c (t.val - 1) (Nat.lt_of_le_of_lt (Nat.sub_le _ _) t.isLt)).2 j + k0_pay1 (iblk m c 0 t) (iblk m c 1 t) j := by
  by_cases h2 : t.val % 3 = 2
  · rw [outsAt0_C m c t h (by omega) h2]; frame_out
    pointwise [k0_pay3]
    exact congrArg (· + _) (congrFun (Memref.IsWhole.read_unread _ _) _)
  · rw [outsAt0_B m c t h (by omega) h2]; frame_out
    pointwise [k0_pay3]
    exact congrArg (· + _) (congrFun (Memref.IsWhole.read_unread _ _) _)

/-- The result array is the reference's: a run's last point writes the accumulator. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have h : t.val % 3 = 2 := (flush0_2 t).mp hf
  have hl : (outsAt0 m c t.val t.isLt).1 y = (outsAt0 m c t.val t.isLt).2 y := by
    rw [outsAt0_C m c t (by omega) (by omega) (by omega)]; frame_out
    pointwise [k0_pay4]
  blk_simp
  rw [after0_2, hl, Pipeline.eq_sum_fin_of_reset_step_apply_of_flush (fun n h => (outsAt0 m c n h).2) 3 (fun _ => 0) _ (acc_first m c) (acc_next m c) t h _, zero_add]
  pointwise [k0_pay1, val_main_cst, val_main_v0, val_main_v1, val_main_v2, val_main_v3, val_main_v4, val_main_v5, val_main_v6, val_main_v7, val_main_v8, val_main_v9]
  refine Fin.sum_mul_add_congr fun s k hk => ?_
  blk_point [iblk, V, idx t, idx ⟨_, Pipeline.run_point_lt_of_flush t h s⟩]

/-- The call computes what the reference computes. -/
theorem algebraic : Cert.algebraic_Kernel5Ideal_Reference5Ideal := by
  intro m g m' g' _ hagree
  refine ⟨fun c => (dats m 0 c).arrAt 2 cfg0.N, run_blocks m g,
    (θ_run Cert.Reference5Ideal.defs _ _).mono (fun r h c => ?_) (Cert.Reference5Ideal.Value.run (F := Ideal) m' g')⟩
  obtain ⟨a0, a1⟩ := hagree c
  obtain ⟨h0, hargs⟩ := h c
  refine ⟨h0.trans ?_, hargs⟩
  · rw [val_main_v9_eq, a0, a1]
    exact (final m c).symm

/-- The reference terminates and leaves its arguments. -/
theorem frame_reference : Cert.quiescent_Reference5Ideal := fun m g _ =>
  (θ_run Cert.Reference5Ideal.defs _ _).mono (fun _ h => ⟨fun c => (h c).2, funext fun s => match s with
    | ⟨_, .reg x⟩ => x.elim0
    | ⟨_, .dma x⟩ => x.elim0⟩) (Cert.Reference5Ideal.Value.run (F := Ideal) m g)

end Cert.Kernel5Ideal.Product

/-! ## The gradient of the input -/

namespace Cert.Kernel6Ideal.Product
open Cert.Kernel6Ideal Cert.Kernel6Ideal.Gen Cert.Kernel6Ideal.Value Cert.Reference6Ideal.Read

variable (m : (ℓ : Loc nD τ sig) → Buf (Elt Ideal) ℓ)

/-- The block that each window has at each grid point. -/
theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_cst, val_main_v0, val_main_v1, val_main_v2, val_main_v3, val_main_v4, val_main_v5, val_main_v6, val_main_v7, val_main_v8]
  refine Fin.sum_mul_add_congr fun s k hk => ?_
  blk_point [iblk, V, idx t, idx ⟨_, Pipeline.run_point_lt_of_flush t h s⟩]

/-- The call computes what the reference computes. -/
theorem algebraic : Cert.algebraic_Kernel6Ideal_Reference6Ideal := by
  intro m g m' g' _ hagree
  refine ⟨fun c => (dats m 0 c).arrAt 2 cfg0.N, run_blocks m g,
    (θ_run Cert.Reference6Ideal.defs _ _).mono (fun r h c => ?_) (Cert.Reference6Ideal.Value.run (F := Ideal) m' g')⟩
  obtain ⟨a0, a1⟩ := hagree c
  obtain ⟨h0, hargs⟩ := h c
  refine ⟨h0.trans ?_, hargs⟩
  · rw [val_main_v8_eq, a0, a1]
    exact (final m c).symm

/-- The reference terminates and leaves its arguments. -/
theorem frame_reference : Cert.quiescent_Reference6Ideal := fun m g _ =>
  (θ_run Cert.Reference6Ideal.defs _ _).mono (fun _ h => ⟨fun c => (h c).2, funext fun s => match s with
    | ⟨_, .reg x⟩ => x.elim0
    | ⟨_, .dma x⟩ => x.elim0⟩) (Cert.Reference6Ideal.Value.run (F := Ideal) m g)

end Cert.Kernel6Ideal.Product

/-! ## The first product, and its activation -/

namespace Cert.Kernel7Ideal.Product
open Cert.Kernel7Ideal Cert.Kernel7Ideal.Gen Cert.Kernel7Ideal.Value Cert.Reference7Ideal.Read

variable (m : (ℓ : Loc nD τ sig) → Buf (Elt Ideal) ℓ)

/-- The block that each window has at each grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The result array is the reference's. -/
theorem final2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t _ y => ?_
  blk_simp; rw [after0_2]; frame_out
  pointwise [k0_pay1, k0_pay2, val_main_v0, val_main_v1, val_main_v2, val_main_v3, val_main_call0_cst, val_main_call0_v0, val_main_v4, val_main_v5, val_main_v6, val_main_v7]
  blk_point [iblk, V, idx t]

/-- The result array is the reference's. -/
theorem final3 (c : Dev nD) : (dats m 0 c).arrAt 3 cfg0.N = val_main_v7 (F := Ideal) (m ((c : Thread nD τ).loc main_arg0)) (m ((c : Thread nD τ).loc main_arg1)) := by
  refine (dats m 0 c).arrAt_eq_of_covers 3 _ (by decide +kernel) fun t _ y => ?_
  blk_simp; rw [after0_3]; frame_out
  pointwise [k0_pay1, k0_pay3, val_main_v0, val_main_v1, val_main_v2, val_main_v3, val_main_call0_cst, val_main_call0_v0, val_main_v4, val_main_v5, val_main_v6, val_main_v7]
  blk_point [iblk, V, idx t]

/-- The call computes what the reference computes. -/
theorem algebraic : Cert.algebraic_Kernel7Ideal_Reference7Ideal := by
  intro m g m' g' _ hagree
  refine ⟨fun c => (dats m 0 c).arrAt 2 cfg0.N, fun c => (dats m 0 c).arrAt 3 cfg0.N, run_blocks m g,
    (θ_run Cert.Reference7Ideal.defs _ _).mono (fun r h c => ?_) (Cert.Reference7Ideal.Value.run (F := Ideal) m' g')⟩
  obtain ⟨a0, a1⟩ := hagree c
  obtain ⟨h0, h1, hargs⟩ := h c
  refine ⟨h0.trans ?_, h1.trans ?_, hargs⟩
  · rw [val_main_v6_eq, a0, a1]
    exact (final2 m c).symm
  · rw [val_main_v7_eq, a0, a1]
    exact (final3 m c).symm

/-- The reference terminates and leaves its arguments. -/
theorem frame_reference : Cert.quiescent_Reference7Ideal := fun m g _ =>
  (θ_run Cert.Reference7Ideal.defs _ _).mono (fun _ h => ⟨fun c => (h c).2.2, funext fun s => match s with
    | ⟨_, .reg x⟩ => x.elim0
    | ⟨_, .dma x⟩ => x.elim0⟩) (Cert.Reference7Ideal.Value.run (F := Ideal) m g)

end Cert.Kernel7Ideal.Product

/-! ## The second product -/

namespace Cert.Kernel8Ideal.Product
open Cert.Kernel8Ideal Cert.Kernel8Ideal.Gen Cert.Kernel8Ideal.Value Cert.Reference8Ideal.Read

variable (m : (ℓ : Loc nD τ sig) → Buf (Elt Ideal) ℓ)

/-- The block that each window has at each grid point. -/
theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_v0, val_main_v1, val_main_v2, val_main_v3]
  refine Fin.sum_mul_add_congr fun s k hk => ?_
  blk_point [iblk, V, idx t, idx ⟨_, Pipeline.run_point_lt_of_flush t h s⟩]

/-- The call computes what the reference computes. -/
theorem algebraic : Cert.algebraic_Kernel8Ideal_Reference8Ideal := by
  intro m g m' g' _ hagree
  refine ⟨fun c => (dats m 0 c).arrAt 2 cfg0.N, run_blocks m g,
    (θ_run Cert.Reference8Ideal.defs _ _).mono (fun r h c => ?_) (Cert.Reference8Ideal.Value.run (F := Ideal) m' g')⟩
  obtain ⟨a0, a1⟩ := hagree c
  obtain ⟨h0, hargs⟩ := h c
  refine ⟨h0.trans ?_, hargs⟩
  · rw [val_main_v3_eq, a0, a1]
    exact (final m c).symm

/-- The reference terminates and leaves its arguments. -/
theorem frame_reference : Cert.quiescent_Reference8Ideal := fun m g _ =>
  (θ_run Cert.Reference8Ideal.defs _ _).mono (fun _ h => ⟨fun c => (h c).2, funext fun s => match s with
    | ⟨_, .reg x⟩ => x.elim0
    | ⟨_, .dma x⟩ => x.elim0⟩) (Cert.Reference8Ideal.Value.run (F := Ideal) m g)

end Cert.Kernel8Ideal.Product

end
-- ==== Proof.Mlp1.lean ====
/-
  The calls of the second layer's MLP, its backward pass and then its forward pass, each against its reference.
-/
module
public import proofs.«01_k».proof.Defs
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Products
@[expose] public section
set_option maxRecDepth 16384
noncomputable section
open Idealize.ShloMosaic Idealize.ShloMosaic.TcCoe Idealize.SL.Sem

/-! ## The gradient before the activation -/

namespace Cert.Kernel9Ideal.Product
open Cert.Kernel9Ideal Cert.Kernel9Ideal.Gen Cert.Kernel9Ideal.Value Cert.Reference9Ideal.Read

variable (m : (ℓ : Loc nD τ sig) → Buf (Elt Ideal) ℓ)

/-- The block that each window has at each grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The result array is the reference's. -/
theorem final (c : Dev nD) : (dats m 0 c).arrAt 3 cfg0.N = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out
  pointwise [k0_pay1, val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16]
  rw [Cert.Products.mask]
  blk_point [iblk, V, idx t]

/-- The call computes what the reference computes. -/
theorem algebraic : Cert.algebraic_Kernel9Ideal_Reference9Ideal := by
  intro m g m' g' _ hagree
  refine ⟨fun c => (dats m 0 c).arrAt 3 cfg0.N, run_blocks m g,
    (θ_run Cert.Reference9Ideal.defs _ _).mono (fun r h c => ?_) (Cert.Reference9Ideal.Value.run (F := Ideal) m' g')⟩
  obtain ⟨a0, a1, a2⟩ := hagree c
  obtain ⟨h0, hargs⟩ := h c
  refine ⟨h0.trans ?_, hargs⟩
  · rw [val_main_v16_eq, a0, a1, a2]
    exact (final m c).symm

/-- The reference terminates and leaves its arguments. -/
theorem frame_reference : Cert.quiescent_Reference9Ideal := fun m g _ =>
  (θ_run Cert.Reference9Ideal.defs _ _).mono (fun _ h => ⟨fun c => (h c).2, funext fun s => match s with
    | ⟨_, .reg x⟩ => x.elim0
    | ⟨_, .dma x⟩ => x.elim0⟩) (Cert.Reference9Ideal.Value.run (F := Ideal) m g)

end Cert.Kernel9Ideal.Product

/-! ## The gradient of the second weight -/

namespace Cert.Kernel10Ideal.Product
open Cert.Kernel10Ideal Cert.Kernel10Ideal.Gen Cert.Kernel10Ideal.Value Cert.Reference10Ideal.Read

variable (m : (ℓ : Loc nD τ sig) → Buf (Elt Ideal) ℓ)

/-- The block that each window has at each grid point. -/
theorem idx : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_cst, val_main_v0, val_main_v1, val_main_v2, val_main_v3, val_main_v4, val_main_v5, val_main_v6, val_main_v7, val_main_v8]
  refine Fin.sum_mul_add_congr fun s k hk => ?_
  rw [mul_comm]
  blk_point [iblk, V, idx t, idx ⟨_, Pipeline.run_point_lt_of_flush t h s⟩]

/-- The call computes what the reference computes. -/
theorem algebraic : Cert.algebraic_Kernel10Ideal_Reference10Ideal := by
  intro m g m' g' _ hagree
  refine ⟨fun c => (dats m 0 c).arrAt 2 cfg0.N, run_blocks m g,
    (θ_run Cert.Reference10Ideal.defs _ _).mono (fun r h c => ?_) (Cert.Reference10Ideal.Value.run (F := Ideal) m' g')⟩
  obtain ⟨a0, a1⟩ := hagree c
  obtain ⟨h0, hargs⟩ := h c
  refine ⟨h0.trans ?_, hargs⟩
  · rw [val_main_v8_eq, a0, a1]
    exact (final m c).symm

/-- The reference terminates and leaves its arguments. -/
theorem frame_reference : Cert.quiescent_Reference10Ideal := fun m g _ =>
  (θ_run Cert.Reference10Ideal.defs _ _).mono (fun _ h => ⟨fun c => (h c).2, funext fun s => match s with
    | ⟨_, .reg x⟩ => x.elim0
    | ⟨_, .dma x⟩ => x.elim0⟩) (Cert.Reference10Ideal.Value.run (F := Ideal) m g)

end Cert.Kernel10Ideal.Product

/-! ## The gradient of the first weight, transposed -/

namespace Cert.Kernel11Ideal.Product
open Cert.Kernel11Ideal Cert.Kernel11Ideal.Gen Cert.Kernel11Ideal.Value Cert.Reference11Ideal.Read

variable (m : (ℓ : Loc nD τ sig) → Buf (Elt Ideal) ℓ)

/-- The block that each window has at each grid point. -/
theorem idx : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_cst, val_main_v0, val_main_v1, val_main_v2, val_main_v3, val_main_v4, val_main_v5, val_main_v6, val_main_v7, val_main_v8, val_main_v9]
  refine Fin.sum_mul_add_congr fun s k hk => ?_
  blk_point [iblk, V, idx t, idx ⟨_, Pipeline.run_point_lt_of_flush t h s⟩]

/-- The call computes what the reference computes. -/
theorem algebraic : Cert.algebraic_Kernel11Ideal_Reference11Ideal := by
  intro m g m' g' _ hagree
  refine ⟨fun c => (dats m 0 c).arrAt 2 cfg0.N, run_blocks m g,
    (θ_run Cert.Reference11Ideal.defs _ _).mono (fun r h c => ?_) (Cert.Reference11Ideal.Value.run (F := Ideal) m' g')⟩
  obtain ⟨a0, a1⟩ := hagree c
  obtain ⟨h0, hargs⟩ := h c
  refine ⟨h0.trans ?_, hargs⟩
  · rw [val_main_v9_eq, a0, a1]
    exact (final m c).symm

/-- The reference terminates and leaves its arguments. -/
theorem frame_reference : Cert.quiescent_Reference11Ideal := fun m g _ =>
  (θ_run Cert.Reference11Ideal.defs _ _).mono (fun _ h => ⟨fun c => (h c).2, funext fun s => match s with
    | ⟨_, .reg x⟩ => x.elim0
    | ⟨_, .dma x⟩ => x.elim0⟩) (Cert.Reference11Ideal.Value.run (F := Ideal) m g)

end Cert.Kernel11Ideal.Product

/-! ## The gradient of the input -/

namespace Cert.Kernel12Ideal.Product
open Cert.Kernel12Ideal Cert.Kernel12Ideal.Gen Cert.Kernel12Ideal.Value Cert.Reference12Ideal.Read

variable (m : (ℓ : Loc nD τ sig) → Buf (Elt Ideal) ℓ)

/-- The block that each window has at each grid point. -/
theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_cst, val_main_v0, val_main_v1, val_main_v2, val_main_v3, val_main_v4, val_main_v5, val_main_v6, val_main_v7, val_main_v8]
  refine Fin.sum_mul_add_congr fun s k hk => ?_
  blk_point [iblk, V, idx t, idx ⟨_, Pipeline.run_point_lt_of_flush t h s⟩]

/-- The call computes what the reference computes. -/
theorem algebraic : Cert.algebraic_Kernel12Ideal_Reference12Ideal := by
  intro m g m' g' _ hagree
  refine ⟨fun c => (dats m 0 c).arrAt 2 cfg0.N, run_blocks m g,
    (θ_run Cert.Reference12Ideal.defs _ _).mono (fun r h c => ?_) (Cert.Reference12Ideal.Value.run (F := Ideal) m' g')⟩
  obtain ⟨a0, a1⟩ := hagree c
  obtain ⟨h0, hargs⟩ := h c
  refine ⟨h0.trans ?_, hargs⟩
  · rw [val_main_v8_eq, a0, a1]
    exact (final m c).symm

/-- The reference terminates and leaves its arguments. -/
theorem frame_reference : Cert.quiescent_Reference12Ideal := fun m g _ =>
  (θ_run Cert.Reference12Ideal.defs _ _).mono (fun _ h => ⟨fun c => (h c).2, funext fun s => match s with
    | ⟨_, .reg x⟩ => x.elim0
    | ⟨_, .dma x⟩ => x.elim0⟩) (Cert.Reference12Ideal.Value.run (F := Ideal) m g)

end Cert.Kernel12Ideal.Product

/-! ## The first product, and its activation -/

namespace Cert.Kernel13Ideal.Product
open Cert.Kernel13Ideal Cert.Kernel13Ideal.Gen Cert.Kernel13Ideal.Value Cert.Reference13Ideal.Read

variable (m : (ℓ : Loc nD τ sig) → Buf (Elt Ideal) ℓ)

/-- The block that each window has at each grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The result array is the reference's. -/
theorem final2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t _ y => ?_
  blk_simp; rw [after0_2]; frame_out
  pointwise [k0_pay1, k0_pay2, val_main_v0, val_main_v1, val_main_v2, val_main_v3, val_main_call0_cst, val_main_call0_v0, val_main_v4, val_main_v5, val_main_v6, val_main_v7]
  blk_point [iblk, V, idx t]

/-- The result array is the reference's. -/
theorem final3 (c : Dev nD) : (dats m 0 c).arrAt 3 cfg0.N = val_main_v7 (F := Ideal) (m ((c : Thread nD τ).loc main_arg0)) (m ((c : Thread nD τ).loc main_arg1)) := by
  refine (dats m 0 c).arrAt_eq_of_covers 3 _ (by decide +kernel) fun t _ y => ?_
  blk_simp; rw [after0_3]; frame_out
  pointwise [k0_pay1, k0_pay3, val_main_v0, val_main_v1, val_main_v2, val_main_v3, val_main_call0_cst, val_main_call0_v0, val_main_v4, val_main_v5, val_main_v6, val_main_v7]
  blk_point [iblk, V, idx t]

/-- The call computes what the reference computes. -/
theorem algebraic : Cert.algebraic_Kernel13Ideal_Reference13Ideal := by
  intro m g m' g' _ hagree
  refine ⟨fun c => (dats m 0 c).arrAt 2 cfg0.N, fun c => (dats m 0 c).arrAt 3 cfg0.N, run_blocks m g,
    (θ_run Cert.Reference13Ideal.defs _ _).mono (fun r h c => ?_) (Cert.Reference13Ideal.Value.run (F := Ideal) m' g')⟩
  obtain ⟨a0, a1⟩ := hagree c
  obtain ⟨h0, h1, hargs⟩ := h c
  refine ⟨h0.trans ?_, h1.trans ?_, hargs⟩
  · rw [val_main_v6_eq, a0, a1]
    exact (final2 m c).symm
  · rw [val_main_v7_eq, a0, a1]
    exact (final3 m c).symm

/-- The reference terminates and leaves its arguments. -/
theorem frame_reference : Cert.quiescent_Reference13Ideal := fun m g _ =>
  (θ_run Cert.Reference13Ideal.defs _ _).mono (fun _ h => ⟨fun c => (h c).2.2, funext fun s => match s with
    | ⟨_, .reg x⟩ => x.elim0
    | ⟨_, .dma x⟩ => x.elim0⟩) (Cert.Reference13Ideal.Value.run (F := Ideal) m g)

end Cert.Kernel13Ideal.Product

/-! ## The second product -/

namespace Cert.Kernel14Ideal.Product
open Cert.Kernel14Ideal Cert.Kernel14Ideal.Gen Cert.Kernel14Ideal.Value Cert.Reference14Ideal.Read

variable (m : (ℓ : Loc nD τ sig) → Buf (Elt Ideal) ℓ)

/-- The block that each window has at each grid point. -/
theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- The accumulator at a run's first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at a later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: a run's last point writes the accumulator. -/
theorem final (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_v0, val_main_v1, val_main_v2, val_main_v3]
  refine Fin.sum_mul_add_congr fun s k hk => ?_
  blk_point [iblk, V, idx t, idx ⟨_, Pipeline.run_point_lt_of_flush t h s⟩]

/-- The call computes what the reference computes. -/
theorem algebraic : Cert.algebraic_Kernel14Ideal_Reference14Ideal := by
  intro m g m' g' _ hagree
  refine ⟨fun c => (dats m 0 c).arrAt 2 cfg0.N, run_blocks m g,
    (θ_run Cert.Reference14Ideal.defs _ _).mono (fun r h c => ?_) (Cert.Reference14Ideal.Value.run (F := Ideal) m' g')⟩
  obtain ⟨a0, a1⟩ := hagree c
  obtain ⟨h0, hargs⟩ := h c
  refine ⟨h0.trans ?_, hargs⟩
  · rw [val_main_v3_eq, a0, a1]
    exact (final m c).symm

/-- The reference terminates and leaves its arguments. -/
theorem frame_reference : Cert.quiescent_Reference14Ideal := fun m g _ =>
  (θ_run Cert.Reference14Ideal.defs _ _).mono (fun _ h => ⟨fun c => (h c).2, funext fun s => match s with
    | ⟨_, .reg x⟩ => x.elim0
    | ⟨_, .dma x⟩ => x.elim0⟩) (Cert.Reference14Ideal.Value.run (F := Ideal) m g)

end Cert.Kernel14Ideal.Product

end
-- ==== Proof.Mix0.lean ====
/-
  The projections of the first layer, each call against its reference.
-/
module
public import proofs.«01_k».proof.Defs
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Products
@[expose] public section
set_option maxRecDepth 16384
noncomputable section
open Idealize.ShloMosaic Idealize.ShloMosaic.TcCoe Idealize.SL.Sem

/-! ## The input projections: the products -/

namespace Cert.Kernel15Ideal.Product
open Cert.Kernel15Ideal Cert.Kernel15Ideal.Gen Cert.Kernel15Ideal.Value Cert.Reference15Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-- The result array is the reference's. -/
theorem final6 (c : Dev nD) : (dats m 0 c).arrAt 6 cfg0.N = val_main_v5 (F := Ideal) (m ((c : Thread nD τ).loc main_arg0)) (m ((c : Thread nD τ).loc main_arg1)) := by
  refine (dats m 0 c).arrAt_eq_of_covers 6 _ (by decide +kernel) fun t _ y => ?_
  blk_simp; rw [after0_6]; frame_out
  pointwise [k0_pay1, val_main_v0, val_main_v1, val_main_v2, val_main_v3, val_main_v4, val_main_v5, val_main_v6, val_main_v7, val_main_v8, val_main_v9]
  blk_point [iblk, V, idx t]

/-- The result array is the reference's. -/
theorem final7 (c : Dev nD) : (dats m 0 c).arrAt 7 cfg0.N = val_main_v6 (F := Ideal) (m ((c : Thread nD τ).loc main_arg0)) (m ((c : Thread nD τ).loc main_arg1)) := by
  refine (dats m 0 c).arrAt_eq_of_covers 7 _ (by decide +kernel) fun t _ y => ?_
  blk_simp; rw [after0_7]; frame_out
  pointwise [k0_pay2, val_main_v0, val_main_v1, val_main_v2, val_main_v3, val_main_v4, val_main_v5, val_main_v6, val_main_v7, val_main_v8, val_main_v9]
  blk_point [iblk, V, idx t]

/-- The result array is the reference's. -/
theorem final8 (c : Dev nD) : (dats m 0 c).arrAt 8 cfg0.N = val_main_v7 (F := Ideal) (m ((c : Thread nD τ).loc main_arg0)) (m ((c : Thread nD τ).loc main_arg1)) := by
  refine (dats m 0 c).arrAt_eq_of_covers 8 _ (by decide +kernel) fun t _ y => ?_
  blk_simp; rw [after0_8]; frame_out
  pointwise [k0_pay3, val_main_v0, val_main_v1, val_main_v2, val_main_v3, val_main_v4, val_main_v5, val_main_v6, val_main_v7, val_main_v8, val_main_v9]
  blk_point [iblk, V, idx t]

/-- The result array is the reference's. -/
theorem final9 (c : Dev nD) : (dats m 0 c).arrAt 9 cfg0.N = val_main_v8 (F := Ideal) (m ((c : Thread nD τ).loc main_arg0)) (m ((c : Thread nD τ).loc main_arg1)) := by
  refine (dats m 0 c).arrAt_eq_of_covers 9 _ (by decide +kernel) fun t _ y => ?_
  blk_simp; rw [after0_9]; frame_out
  pointwise [k0_pay4, val_main_v0, val_main_v1, val_main_v2, val_main_v3, val_main_v4, val_main_v5, val_main_v6, val_main_v7, val_main_v8, val_main_v9]
  blk_point [iblk, V, idx t]

/-- The result array is the reference's. -/
theorem final10 (c : Dev nD) : (dats m 0 c).arrAt 10 cfg0.N = val_main_v9 (F := Ideal) (m ((c : Thread nD τ).loc main_arg0)) (m ((c : Thread nD τ).loc main_arg1)) := by
  refine (dats m 0 c).arrAt_eq_of_covers 10 _ (by decide +kernel) fun t _ y => ?_
  blk_simp; rw [after0_10]; frame_out
  pointwise [k0_pay5, val_main_v0, val_main_v1, val_main_v2, val_main_v3, val_main_v4, val_main_v5, val_main_v6, val_main_v7, val_main_v8, val_main_v9]
  blk_point [iblk, V, idx t]

/-- The call computes what the reference computes. -/
theorem algebraic : Cert.algebraic_Kernel15Ideal_Reference15Ideal := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, run_blocks m g,
    (θ_run Cert.Reference15Ideal.defs _ _).mono (fun r h c => ?_) (Cert.Reference15Ideal.Value.run (F := Ideal) m' g')⟩
  obtain ⟨a0, a1⟩ := hagree c
  obtain ⟨h0, h1, h2, h3, h4, hargs⟩ := h c
  refine ⟨h0.trans ?_, h1.trans ?_, h2.trans ?_, h3.trans ?_, h4.trans ?_, hargs⟩
  · rw [val_main_v5_eq, a0, a1]
    exact (final6 m c).symm
  · rw [val_main_v6_eq, a0, a1]
    exact (final7 m c).symm
  · rw [val_main_v7_eq, a0, a1]
    exact (final8 m c).symm
  · rw [val_main_v8_eq, a0, a1]
    exact (final9 m c).symm
  · rw [val_main_v9_eq, a0, a1]
    exact (final10 m c).symm

/-- The reference terminates and leaves its arguments. -/
theorem frame_reference : Cert.quiescent_Reference15Ideal := fun m g _ =>
  (θ_run Cert.Reference15Ideal.defs _ _).mono (fun _ h => ⟨fun c => (h c).2.2.2.2.2, funext fun s => match s with
    | ⟨_, .reg x⟩ => x.elim0
    | ⟨_, .dma x⟩ => x.elim0⟩) (Cert.Reference15Ideal.Value.run (F := Ideal) m g)

end Cert.Kernel15Ideal.Product

/-! ## The input projections: the gradient of the input -/

namespace Cert.Kernel16Ideal.Product
open Cert.Kernel16Ideal Cert.Kernel16Ideal.Gen Cert.Kernel16Ideal.Value Cert.Reference16Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

/-- The reference at an index: the sum of one product for each part of the contracted axis. -/
theorem read (x0 : FVec Ideal Cert.Reference16Ideal.S4608x512 .bf16) (x1 : FVec Ideal Cert.Reference16Ideal.S4608x128 .bf16) (x2 : FVec Ideal Cert.Reference16Ideal.S4608x128 .bf16) (x3 : FVec Ideal Cert.Reference16Ideal.S4608x512 .bf16) (x4 : FVec Ideal Cert.Reference16Ideal.S4608x512 .bf16) (x5 : FVec Ideal Cert.Reference16Ideal.S1792x1024 .bf16) (j : Cert.Reference16Ideal.S4608x1024.Idx) :
    val_main_v14 (F := Ideal) x0 x1 x2 x3 x4 x5 j = ∑ k : Fin 512, x0 (ix2 (j 0) k) * x5 (ix2 ⟨k.val, by omega⟩ (j 1))
      + ∑ k : Fin 128, x1 (ix2 (j 0) k) * x5 (ix2 ⟨512 + k.val, by omega⟩ (j 1))
      + ∑ k : Fin 128, x2 (ix2 (j 0) k) * x5 (ix2 ⟨512 + (128 + k.val), by omega⟩ (j 1))
      + ∑ k : Fin 512, x3 (ix2 (j 0) k) * x5 (ix2 ⟨512 + (128 + (128 + k.val)), by omega⟩ (j 1))
      + ∑ k : Fin 512, x4 (ix2 (j 0) k) * x5 (ix2 ⟨512 + (128 + (128 + (512 + k.val))), by omega⟩ (j 1)) := by
  idx_vars j
  pointwise [val_main_cst, val_main_v0, val_main_v1, val_main_v2, val_main_v3, val_main_v4, val_main_v5, val_main_v6, val_main_v7, val_main_v8, val_main_v9, val_main_v10, val_main_v11, val_main_v12, val_main_v13, val_main_v14, sumSplitAll]
  simp only [add_assoc]

/-- The result array is the reference's. -/
theorem final (c : Dev nD) : (dats m 0 c).arrAt 10 cfg0.N = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp; rw [after0_10, read]; frame_out
  pointwise [k0_pay1]
  blk_point [iblk, V, idx t]

/-- The call computes what the reference computes. -/
theorem algebraic : Cert.algebraic_Kernel16Ideal_Reference16Ideal := by
  intro m g m' g' _ hagree
  refine ⟨fun c => (dats m 0 c).arrAt 10 cfg0.N, run_blocks m g,
    (θ_run Cert.Reference16Ideal.defs _ _).mono (fun r h c => ?_) (Cert.Reference16Ideal.Value.run (F := Ideal) m' g')⟩
  obtain ⟨a0, a1, a2, a3, a4, a5⟩ := hagree c
  obtain ⟨h0, hargs⟩ := h c
  refine ⟨h0.trans ?_, hargs⟩
  · rw [val_main_v14_eq, a0, a1, a2, a3, a4, a5]
    exact (final m c).symm

/-- The reference terminates and leaves its arguments. -/
theorem frame_reference : Cert.quiescent_Reference16Ideal := fun m g _ =>
  (θ_run Cert.Reference16Ideal.defs _ _).mono (fun _ h => ⟨fun c => (h c).2, funext fun s => match s with
    | ⟨_, .reg x⟩ => x.elim0
    | ⟨_, .dma x⟩ => x.elim0⟩) (Cert.Reference16Ideal.Value.run (F := Ideal) m g)

end Cert.Kernel16Ideal.Product

/-! ## The input projections: the gradients of the weights -/

namespace Cert.Kernel17Ideal.Product
open Cert.Kernel17Ideal Cert.Kernel17Ideal.Gen Cert.Kernel17Ideal.Value Cert.Reference17Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

/-- Result 1 of the reference at an index. -/
theorem read1 (x0 : FVec Ideal Cert.Reference17Ideal.S4608x512 .bf16) (x1 : FVec Ideal Cert.Reference17Ideal.S4608x128 .bf16) (x2 : FVec Ideal Cert.Reference17Ideal.S4608x128 .bf16) (x3 : FVec Ideal Cert.Reference17Ideal.S4608x512 .bf16) (x4 : FVec Ideal Cert.Reference17Ideal.S4608x512 .bf16) (x5 : FVec Ideal Cert.Reference17Ideal.S4608x1024 .bf16) (j : Cert.Reference17Ideal.S512x1024.Idx) :
    val_main_v16 (F := Ideal) x0 x1 x2 x3 x4 x5 j = ∑ k : Fin 4608, x0 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]

/-- Accumulator 1 at the first point: that point's product. -/
theorem acc1_first (c : Dev nD) (t : Fin cfg0.N) (h : t.val % 6 = 0) (j) :
    (outsAt0 m c t.val t.isLt).2.2.2.2.2.1 j = 0 + k0_pay1 (iblk m c 0 t) (iblk m c 1 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay2]

/-- Accumulator 1 at a later point: the point before, and that point's product. -/
theorem acc1_next (c : Dev nD) (t : Fin cfg0.N) (h : ¬t.val % 6 = 0) (j) :
    (outsAt0 m c t.val t.isLt).2.2.2.2.2.1 j = (outsAt0 m c (t.val - 1) (Nat.lt_of_le_of_lt (Nat.sub_le _ _) t.isLt)).2.2.2.2.2.1 j + k0_pay1 (iblk m c 0 t) (iblk m c 1 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay3]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay3]
    exact congrArg (· + _) (congrFun (Memref.IsWhole.read_unread _ _) _)

/-- The result array is the reference's: the last point writes the accumulator. -/
theorem final6 (c : Dev nD) : (dats m 0 c).arrAt 6 cfg0.N = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h : t.val % 6 = 5 := (flush0_6 t).mp hf
  have hl : (outsAt0 m c t.val t.isLt).1 y = (outsAt0 m c t.val t.isLt).2.2.2.2.2.1 y := by
    rw [outsAt0_C m c t (by omega) (by omega) (by omega) (by omega) (by omega) (by omega) (by omega) (by omega) (by omega) (by omega) (by omega) (by omega) (by omega) (by omega) (by omega)]; frame_out
    pointwise [k0_pay4]
  blk_simp
  rw [after0_6, hl, Pipeline.eq_sum_fin_of_reset_step_apply_of_flush (fun n h => (outsAt0 m c n h).2.2.2.2.2.1) 6 (fun _ => 0) _ (acc1_first m c) (acc1_next m c) t h _, zero_add, read1]
  pointwise [k0_pay1]
  refine Fin.sum_mul_add_congr fun s k hk => ?_
  blk_point [iblk, V, idx t, idx ⟨_, Pipeline.run_point_lt_of_flush t h s⟩]

/-- Result 2 of the reference at an index. -/
theorem read2 (x0 : FVec Ideal Cert.Reference17Ideal.S4608x512 .bf16) (x1 : FVec Ideal Cert.Reference17Ideal.S4608x128 .bf16) (x2 : FVec Ideal Cert.Reference17Ideal.S4608x128 .bf16) (x3 : FVec Ideal Cert.Reference17Ideal.S4608x512 .bf16) (x4 : FVec Ideal Cert.Reference17Ideal.S4608x512 .bf16) (x5 : FVec Ideal Cert.Reference17Ideal.S4608x1024 .bf16) (j : Cert.Reference17Ideal.S128x1024.Idx) :
    val_main_v17 (F := Ideal) x0 x1 x2 x3 x4 x5 j = ∑ k : Fin 4608, x1 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]

/-- Accumulator 2 at the first point: that point's product. -/
theorem acc2_first (c : Dev nD) (t : Fin cfg0.N) (h : t.val % 6 = 0) (j) :
    (outsAt0 m c t.val t.isLt).2.2.2.2.2.2.1 j = 0 + k0_pay5 (iblk m c 0 t) (iblk m c 2 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay6]

/-- Accumulator 2 at a later point: the point before, and that point's product. -/
theorem acc2_next (c : Dev nD) (t : Fin cfg0.N) (h : ¬t.val % 6 = 0) (j) :
    (outsAt0 m c t.val t.isLt).2.2.2.2.2.2.1 j = (outsAt0 m c (t.val - 1) (Nat.lt_of_le_of_lt (Nat.sub_le _ _) t.isLt)).2.2.2.2.2.2.1 j + k0_pay5 (iblk m c 0 t) (iblk m c 2 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay7]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay7]
    exact congrArg (· + _) (congrFun (Memref.IsWhole.read_unread _ _) _)

/-- The result array is the reference's: the last point writes the accumulator. -/
theorem final7 (c : Dev nD) : (dats m 0 c).arrAt 7 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h : t.val % 6 = 5 := (flush0_7 t).mp hf
  have hl : (outsAt0 m c t.val t.isLt).2.1 y = (outsAt0 m c t.val t.isLt).2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay8]
  blk_simp
  rw [after0_7, hl, Pipeline.eq_sum_fin_of_reset_step_apply_of_flush (fun n h => (outsAt0 m c n h).2.2.2.2.2.2.1) 6 (fun _ => 0) _ (acc2_first m c) (acc2_next m c) t h _, zero_add, read2]
  pointwise [k0_pay5]
  refine Fin.sum_mul_add_congr fun s k hk => ?_
  blk_point [iblk, V, idx t, idx ⟨_, Pipeline.run_point_lt_of_flush t h s⟩]

/-- Result 3 of the reference at an index. -/
theorem read3 (x0 : FVec Ideal Cert.Reference17Ideal.S4608x512 .bf16) (x1 : FVec Ideal Cert.Reference17Ideal.S4608x128 .bf16) (x2 : FVec Ideal Cert.Reference17Ideal.S4608x128 .bf16) (x3 : FVec Ideal Cert.Reference17Ideal.S4608x512 .bf16) (x4 : FVec Ideal Cert.Reference17Ideal.S4608x512 .bf16) (x5 : FVec Ideal Cert.Reference17Ideal.S4608x1024 .bf16) (j : Cert.Reference17Ideal.S128x1024.Idx) :
    val_main_v18 (F := Ideal) x0 x1 x2 x3 x4 x5 j = ∑ k : Fin 4608, x2 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 3 at the first point: that point's product. -/
theorem acc3_first (c : Dev nD) (t : Fin cfg0.N) (h : t.val % 6 = 0) (j) :
    (outsAt0 m c t.val t.isLt).2.2.2.2.2.2.2.1 j = 0 + k0_pay9 (iblk m c 0 t) (iblk m c 3 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay10]

/-- Accumulator 3 at a later point: the point before, and that point's product. -/
theorem acc3_next (c : Dev nD) (t : Fin cfg0.N) (h : ¬t.val % 6 = 0) (j) :
    (outsAt0 m c t.val t.isLt).2.2.2.2.2.2.2.1 j = (outsAt0 m c (t.val - 1) (Nat.lt_of_le_of_lt (Nat.sub_le _ _) t.isLt)).2.2.2.2.2.2.2.1 j + k0_pay9 (iblk m c 0 t) (iblk m c 3 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay11]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay11]
    exact congrArg (· + _) (congrFun (Memref.IsWhole.read_unread _ _) _)

/-- The result array is the reference's: the last point writes the accumulator. -/
theorem final8 (c : Dev nD) : (dats m 0 c).arrAt 8 cfg0.N = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have h : t.val % 6 = 5 := (flush0_8 t).mp hf
  have hl : (outsAt0 m c t.val t.isLt).2.2.1 y = (outsAt0 m c t.val t.isLt).2.2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay12]
  blk_simp
  rw [after0_8, hl, Pipeline.eq_sum_fin_of_reset_step_apply_of_flush (fun n h => (outsAt0 m c n h).2.2.2.2.2.2.2.1) 6 (fun _ => 0) _ (acc3_first m c) (acc3_next m c) t h _, zero_add, read3]
  pointwise [k0_pay9]
  refine Fin.sum_mul_add_congr fun s k hk => ?_
  blk_point [iblk, V, idx t, idx ⟨_, Pipeline.run_point_lt_of_flush t h s⟩]

/-- Result 4 of the reference at an index. -/
theorem read4 (x0 : FVec Ideal Cert.Reference17Ideal.S4608x512 .bf16) (x1 : FVec Ideal Cert.Reference17Ideal.S4608x128 .bf16) (x2 : FVec Ideal Cert.Reference17Ideal.S4608x128 .bf16) (x3 : FVec Ideal Cert.Reference17Ideal.S4608x512 .bf16) (x4 : FVec Ideal Cert.Reference17Ideal.S4608x512 .bf16) (x5 : FVec Ideal Cert.Reference17Ideal.S4608x1024 .bf16) (j : Cert.Reference17Ideal.S512x1024.Idx) :
    val_main_v19 (F := Ideal) x0 x1 x2 x3 x4 x5 j = ∑ k : Fin 4608, x3 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 4 at the first point: that point's product. -/
theorem acc4_first (c : Dev nD) (t : Fin cfg0.N) (h : t.val % 6 = 0) (j) :
    (outsAt0 m c t.val t.isLt).2.2.2.2.2.2.2.2.1 j = 0 + k0_pay13 (iblk m c 0 t) (iblk m c 4 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay14]

/-- Accumulator 4 at a later point: the point before, and that point's product. -/
theorem acc4_next (c : Dev nD) (t : Fin cfg0.N) (h : ¬t.val % 6 = 0) (j) :
    (outsAt0 m c t.val t.isLt).2.2.2.2.2.2.2.2.1 j = (outsAt0 m c (t.val - 1) (Nat.lt_of_le_of_lt (Nat.sub_le _ _) t.isLt)).2.2.2.2.2.2.2.2.1 j + k0_pay13 (iblk m c 0 t) (iblk m c 4 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay15]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay15]
    exact congrArg (· + _) (congrFun (Memref.IsWhole.read_unread _ _) _)

/-- The result array is the reference's: the last point writes the accumulator. -/
theorem final9 (c : Dev nD) : (dats m 0 c).arrAt 9 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have h : t.val % 6 = 5 := (flush0_9 t).mp hf
  have hl : (outsAt0 m c t.val t.isLt).2.2.2.1 y = (outsAt0 m c t.val t.isLt).2.2.2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay16]
  blk_simp
  rw [after0_9, hl, Pipeline.eq_sum_fin_of_reset_step_apply_of_flush (fun n h => (outsAt0 m c n h).2.2.2.2.2.2.2.2.1) 6 (fun _ => 0) _ (acc4_first m c) (acc4_next m c) t h _, zero_add, read4]
  pointwise [k0_pay13]
  refine Fin.sum_mul_add_congr fun s k hk => ?_
  blk_point [iblk, V, idx t, idx ⟨_, Pipeline.run_point_lt_of_flush t h s⟩]

/-- Result 5 of the reference at an index. -/
theorem read5 (x0 : FVec Ideal Cert.Reference17Ideal.S4608x512 .bf16) (x1 : FVec Ideal Cert.Reference17Ideal.S4608x128 .bf16) (x2 : FVec Ideal Cert.Reference17Ideal.S4608x128 .bf16) (x3 : FVec Ideal Cert.Reference17Ideal.S4608x512 .bf16) (x4 : FVec Ideal Cert.Reference17Ideal.S4608x512 .bf16) (x5 : FVec Ideal Cert.Reference17Ideal.S4608x1024 .bf16) (j : Cert.Reference17Ideal.S512x1024.Idx) :
    val_main_v20 (F := Ideal) x0 x1 x2 x3 x4 x5 j = ∑ k : Fin 4608, x4 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 5 at the first point: that point's product. -/
theorem acc5_first (c : Dev nD) (t : Fin cfg0.N) (h : t.val % 6 = 0) (j) :
    (outsAt0 m c t.val t.isLt).2.2.2.2.2.2.2.2.2 j = 0 + k0_pay17 (iblk m c 0 t) (iblk m c 5 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay18]

/-- Accumulator 5 at a later point: the point before, and that point's product. -/
theorem acc5_next (c : Dev nD) (t : Fin cfg0.N) (h : ¬t.val % 6 = 0) (j) :
    (outsAt0 m c t.val t.isLt).2.2.2.2.2.2.2.2.2 j = (outsAt0 m c (t.val - 1) (Nat.lt_of_le_of_lt (Nat.sub_le _ _) t.isLt)).2.2.2.2.2.2.2.2.2 j + k0_pay17 (iblk m c 0 t) (iblk m c 5 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay19]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay19]
    exact congrArg (· + _) (congrFun (Memref.IsWhole.read_unread _ _) _)

/-- The result array is the reference's: the last point writes the accumulator. -/
theorem final10 (c : Dev nD) : (dats m 0 c).arrAt 10 cfg0.N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have h : t.val % 6 = 5 := (flush0_10 t).mp hf
  have hl : (outsAt0 m c t.val t.isLt).2.2.2.2.1 y = (outsAt0 m c t.val t.isLt).2.2.2.2.2.2.2.2.2 y := by
    rw [outsAt0_C m c t (by omega) (by omega) (by omega) (by omega) (by omega) (by omega) (by omega) (by omega) (by omega) (by omega) (by omega) (by omega) (by omega) (by omega) (by omega)]; frame_out
    pointwise [k0_pay20]
  blk_simp
  rw [after0_10, hl, Pipeline.eq_sum_fin_of_reset_step_apply_of_flush (fun n h => (outsAt0 m c n h).2.2.2.2.2.2.2.2.2) 6 (fun _ => 0) _ (acc5_first m c) (acc5_next m c) t h _, zero_add, read5]
  pointwise [k0_pay17]
  refine Fin.sum_mul_add_congr fun s k hk => ?_
  blk_point [iblk, V, idx t, idx ⟨_, Pipeline.run_point_lt_of_flush t h s⟩]

/-- The call computes what the reference computes. -/
theorem algebraic : Cert.algebraic_Kernel17Ideal_Reference17Ideal := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, run_blocks m g,
    (θ_run Cert.Reference17Ideal.defs _ _).mono (fun r h c => ?_) (Cert.Reference17Ideal.Value.run (F := Ideal) m' g')⟩
  obtain ⟨a0, a1, a2, a3, a4, a5, a6⟩ := hagree c
  obtain ⟨h0, h1, h2, h3, h4, hargs⟩ := h c
  refine ⟨h0.trans ?_, h1.trans ?_, h2.trans ?_, h3.trans ?_, h4.trans ?_, hargs⟩
  · rw [val_main_v16_eq, a0, a1, a2, a3, a4, a5]
    exact (final6 m c).symm
  · rw [val_main_v17_eq, a0, a1, a2, a3, a4, a5]
    exact (final7 m c).symm
  · rw [val_main_v18_eq, a0, a1, a2, a3, a4, a5]
    exact (final8 m c).symm
  · rw [val_main_v19_eq, a0, a1, a2, a3, a4, a5]
    exact (final9 m c).symm
  · rw [val_main_v20_eq, a0, a1, a2, a3, a4, a5]
    exact (final10 m c).symm

/-- The reference terminates and leaves its arguments. -/
theorem frame_reference : Cert.quiescent_Reference17Ideal := fun m g _ =>
  (θ_run Cert.Reference17Ideal.defs _ _).mono (fun _ h => ⟨fun c => (h c).2.2.2.2.2, funext fun s => match s with
    | ⟨_, .reg x⟩ => x.elim0
    | ⟨_, .dma x⟩ => x.elim0⟩) (Cert.Reference17Ideal.Value.run (F := Ideal) m g)

end Cert.Kernel17Ideal.Product

/-! ## The output projection: the product -/

namespace Cert.Kernel21Ideal.Product
open Cert.Kernel21Ideal Cert.Kernel21Ideal.Gen Cert.Kernel21Ideal.Value Cert.Reference21Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- The result array is the reference's. -/
theorem final (c : Dev nD) : (dats m 0 c).arrAt 4 cfg0.N = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  pointwise [k0_pay1, val_main_v0, val_main_v1, val_main_v2, val_main_v3, val_main_v4]
  blk_point [iblk, V, idx t]

/-- The call computes what the reference computes. -/
theorem algebraic : Cert.algebraic_Kernel21Ideal_Reference21Ideal := by
  intro m g m' g' _ hagree
  refine ⟨fun c => (dats m 0 c).arrAt 4 cfg0.N, run_blocks m g,
    (θ_run Cert.Reference21Ideal.defs _ _).mono (fun r h c => ?_) (Cert.Reference21Ideal.Value.run (F := Ideal) m' g')⟩
  obtain ⟨a0, a1, a2⟩ := hagree c
  obtain ⟨h0, hargs⟩ := h c
  refine ⟨h0.trans ?_, hargs⟩
  · rw [val_main_v4_eq, a0, a1, a2]
    exact (final m c).symm

/-- The reference terminates and leaves its arguments. -/
theorem frame_reference : Cert.quiescent_Reference21Ideal := fun m g _ =>
  (θ_run Cert.Reference21Ideal.defs _ _).mono (fun _ h => ⟨fun c => (h c).2, funext fun s => match s with
    | ⟨_, .reg x⟩ => x.elim0
    | ⟨_, .dma x⟩ => x.elim0⟩) (Cert.Reference21Ideal.Value.run (F := Ideal) m g)

end Cert.Kernel21Ideal.Product

/-! ## The output projection: the gradients of the two inputs -/

namespace Cert.Kernel22Ideal.Product
open Cert.Kernel22Ideal Cert.Kernel22Ideal.Gen Cert.Kernel22Ideal.Value Cert.Reference22Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The result array is the reference's. -/
theorem final3 (c : Dev nD) : (dats m 0 c).arrAt 3 cfg0.N = val_main_v9 (F := Ideal) (m ((c : Thread nD τ).loc main_arg0)) (m ((c : Thread nD τ).loc main_arg1)) := by
  refine (dats m 0 c).arrAt_eq_of_covers 3 _ (by decide +kernel) fun t _ y => ?_
  blk_simp; rw [after0_3]; frame_out
  pointwise [k0_pay1, val_main_cst, val_main_v0, val_main_v1, val_main_v2, val_main_v3, val_main_v4, val_main_v5, val_main_v6, val_main_v7, val_main_v8, val_main_v9, val_main_v10]
  blk_point [iblk, V, idx t]

/-- The result array is the reference's. -/
theorem final4 (c : Dev nD) : (dats m 0 c).arrAt 4 cfg0.N = val_main_v10 (F := Ideal) (m ((c : Thread nD τ).loc main_arg0)) (m ((c : Thread nD τ).loc main_arg1)) := by
  refine (dats m 0 c).arrAt_eq_of_covers 4 _ (by decide +kernel) fun t _ y => ?_
  blk_simp; rw [after0_4]; frame_out
  pointwise [k0_pay2, val_main_cst, val_main_v0, val_main_v1, val_main_v2, val_main_v3, val_main_v4, val_main_v5, val_main_v6, val_main_v7, val_main_v8, val_main_v9, val_main_v10]
  blk_point [iblk, V, idx t]

/-- The call computes what the reference computes. -/
theorem algebraic : Cert.algebraic_Kernel22Ideal_Reference22Ideal := by
  intro m g m' g' _ hagree
  refine ⟨fun c => (dats m 0 c).arrAt 3 cfg0.N, fun c => (dats m 0 c).arrAt 4 cfg0.N, run_blocks m g,
    (θ_run Cert.Reference22Ideal.defs _ _).mono (fun r h c => ?_) (Cert.Reference22Ideal.Value.run (F := Ideal) m' g')⟩
  obtain ⟨a0, a1⟩ := hagree c
  obtain ⟨h0, h1, hargs⟩ := h c
  refine ⟨h0.trans ?_, h1.trans ?_, hargs⟩
  · rw [val_main_v9_eq, a0, a1]
    exact (final3 m c).symm
  · rw [val_main_v10_eq, a0, a1]
    exact (final4 m c).symm

/-- The reference terminates and leaves its arguments. -/
theorem frame_reference : Cert.quiescent_Reference22Ideal := fun m g _ =>
  (θ_run Cert.Reference22Ideal.defs _ _).mono (fun _ h => ⟨fun c => (h c).2.2, funext fun s => match s with
    | ⟨_, .reg x⟩ => x.elim0
    | ⟨_, .dma x⟩ => x.elim0⟩) (Cert.Reference22Ideal.Value.run (F := Ideal) m g)

end Cert.Kernel22Ideal.Product

/-! ## The output projection: the gradients of the two parts of the weight -/

namespace Cert.Kernel23Ideal.Product
open Cert.Kernel23Ideal Cert.Kernel23Ideal.Gen Cert.Kernel23Ideal.Value Cert.Reference23Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0] :=
  (by decide +kernel : ∀ t : Fin grid0.N, _)

/-- Result 1 of the reference at an index. -/
theorem read1 (x0 : FVec Ideal Cert.Reference23Ideal.S4608x512 .bf16) (x1 : FVec Ideal Cert.Reference23Ideal.S4608x512 .bf16) (x2 : FVec Ideal Cert.Reference23Ideal.S4608x1024 .bf16) (j : Cert.Reference23Ideal.S512x1024.Idx) :
    val_main_v9 (F := Ideal) x0 x1 x2 j = ∑ k : Fin 4608, x0 (ix2 k (j 0)) * x2 (ix2 k (j 1)) := by
  idx_vars j
  pointwise! [val_main_v0, val_main_v1, val_main_v2, val_main_v3, val_main_v4, val_main_v5, val_main_v6, val_main_v7, val_main_v8, val_main_v9, val_main_v10]

/-- Accumulator 1 at the first point: that point's product. -/
theorem acc1_first (c : Dev nD) (t : Fin cfg0.N) (h : t.val % 6 = 0) (j) :
    (outsAt0 m c t.val t.isLt).2.2.1 j = 0 + k0_pay1 (iblk m c 0 t) (iblk m c 1 t) j := by
  have ht : t.val < 6 := t.isLt
  rw [outsAt0_A m c t (by omega) (by omega) (by omega) (by omega) (by omega) (by omega)]; frame_out
  pointwise [k0_pay2]

/-- Accumulator 1 at a later point: the point before, and that point's product. -/
theorem acc1_next (c : Dev nD) (t : Fin cfg0.N) (h : ¬t.val % 6 = 0) (j) :
    (outsAt0 m c t.val t.isLt).2.2.1 j = (outsAt0 m c (t.val - 1) (Nat.lt_of_le_of_lt (Nat.sub_le _ _) t.isLt)).2.2.1 j + k0_pay1 (iblk m c 0 t) (iblk m c 1 t) j := by
  by_cases h2 : t.val % 6 = 5
  · rw [outsAt0_C m c t (by omega) (by omega) (by omega) (by omega) (by omega) (by omega)]; frame_out
    pointwise [k0_pay3]
    exact congrArg (· + _) (congrFun (Memref.IsWhole.read_unread _ _) _)
  · rw [outsAt0_B m c t (by omega) (by omega) (by omega) (by omega) (by omega) (by omega)]; frame_out
    pointwise [k0_pay3]
    exact congrArg (· + _) (congrFun (Memref.IsWhole.read_unread _ _) _)

/-- The result array is the reference's: the last point writes the accumulator. -/
theorem final3 (c : Dev nD) : (dats m 0 c).arrAt 3 cfg0.N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 6 = 5 := (flush0_3 t).mp hf
  have hl : (outsAt0 m c t.val t.isLt).1 y = (outsAt0 m c t.val t.isLt).2.2.1 y := by
    rw [outsAt0_C m c t (by omega) (by omega) (by omega) (by omega) (by omega) (by omega)]; frame_out
    pointwise [k0_pay4]
  blk_simp
  rw [after0_3, hl, Pipeline.eq_sum_fin_of_reset_step_apply_of_flush (fun n h => (outsAt0 m c n h).2.2.1) 6 (fun _ => 0) _ (acc1_first m c) (acc1_next m c) t h _, zero_add, read1]
  pointwise [k0_pay1]
  refine Fin.sum_mul_add_congr fun s k hk => ?_
  blk_point [iblk, V, idx t, idx ⟨_, Pipeline.run_point_lt_of_flush t h s⟩]

/-- Result 2 of the reference at an index. -/
theorem read2 (x0 : FVec Ideal Cert.Reference23Ideal.S4608x512 .bf16) (x1 : FVec Ideal Cert.Reference23Ideal.S4608x512 .bf16) (x2 : FVec Ideal Cert.Reference23Ideal.S4608x1024 .bf16) (j : Cert.Reference23Ideal.S512x1024.Idx) :
    val_main_v10 (F := Ideal) x0 x1 x2 j = ∑ k : Fin 4608, x1 (ix2 k (j 0)) * x2 (ix2 k (j 1)) := by
  idx_vars j
  pointwise! [val_main_v0, val_main_v1, val_main_v2, val_main_v3, val_main_v4, val_main_v5, val_main_v6, val_main_v7, val_main_v8, val_main_v9, val_main_v10]

/-- Accumulator 2 at the first point: that point's product. -/
theorem acc2_first (c : Dev nD) (t : Fin cfg0.N) (h : t.val % 6 = 0) (j) :
    (outsAt0 m c t.val t.isLt).2.2.2 j = 0 + k0_pay5 (iblk m c 0 t) (iblk m c 2 t) j := by
  have ht : t.val < 6 := t.isLt
  rw [outsAt0_A m c t (by omega) (by omega) (by omega) (by omega) (by omega) (by omega)]; frame_out
  pointwise [k0_pay6]

/-- Accumulator 2 at a later point: the point before, and that point's product. -/
theorem acc2_next (c : Dev nD) (t : Fin cfg0.N) (h : ¬t.val % 6 = 0) (j) :
    (outsAt0 m c t.val t.isLt).2.2.2 j = (outsAt0 m c (t.val - 1) (Nat.lt_of_le_of_lt (Nat.sub_le _ _) t.isLt)).2.2.2 j + k0_pay5 (iblk m c 0 t) (iblk m c 2 t) j := by
  by_cases h2 : t.val % 6 = 5
  · rw [outsAt0_C m c t (by omega) (by omega) (by omega) (by omega) (by omega) (by omega)]; frame_out
    pointwise [k0_pay7]
    exact congrArg (· + _) (congrFun (Memref.IsWhole.read_unread _ _) _)
  · rw [outsAt0_B m c t (by omega) (by omega) (by omega) (by omega) (by omega) (by omega)]; frame_out
    pointwise [k0_pay7]
    exact congrArg (· + _) (congrFun (Memref.IsWhole.read_unread _ _) _)

/-- The result array is the reference's: the last point writes the accumulator. -/
theorem final4 (c : Dev nD) : (dats m 0 c).arrAt 4 cfg0.N = val_main_v10 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h : t.val % 6 = 5 := (flush0_4 t).mp hf
  have hl : (outsAt0 m c t.val t.isLt).2.1 y = (outsAt0 m c t.val t.isLt).2.2.2 y := by
    rw [outsAt0_C m c t (by omega) (by omega) (by omega) (by omega) (by omega) (by omega)]; frame_out
    pointwise [k0_pay8]
  blk_simp
  rw [after0_4, hl, Pipeline.eq_sum_fin_of_reset_step_apply_of_flush (fun n h => (outsAt0 m c n h).2.2.2) 6 (fun _ => 0) _ (acc2_first m c) (acc2_next m c) t h _, zero_add, read2]
  pointwise [k0_pay5]
  refine Fin.sum_mul_add_congr fun s k hk => ?_
  blk_point [iblk, V, idx t, idx ⟨_, Pipeline.run_point_lt_of_flush t h s⟩]

/-- The call computes what the reference computes. -/
theorem algebraic : Cert.algebraic_Kernel23Ideal_Reference23Ideal := by
  intro m g m' g' _ hagree
  refine ⟨fun c => (dats m 0 c).arrAt 3 cfg0.N, fun c => (dats m 0 c).arrAt 4 cfg0.N, run_blocks m g,
    (θ_run Cert.Reference23Ideal.defs _ _).mono (fun r h c => ?_) (Cert.Reference23Ideal.Value.run (F := Ideal) m' g')⟩
  obtain ⟨a0, a1, a2, a3⟩ := hagree c
  obtain ⟨h0, h1, hargs⟩ := h c
  refine ⟨h0.trans ?_, h1.trans ?_, hargs⟩
  · rw [val_main_v9_eq, a0, a1, a2]
    exact (final3 m c).symm
  · rw [val_main_v10_eq, a0, a1, a2]
    exact (final4 m c).symm

/-- The reference terminates and leaves its arguments. -/
theorem frame_reference : Cert.quiescent_Reference23Ideal := fun m g _ =>
  (θ_run Cert.Reference23Ideal.defs _ _).mono (fun _ h => ⟨fun c => (h c).2.2, funext fun s => match s with
    | ⟨_, .reg x⟩ => x.elim0
    | ⟨_, .dma x⟩ => x.elim0⟩) (Cert.Reference23Ideal.Value.run (F := Ideal) m g)

end Cert.Kernel23Ideal.Product

end
-- ==== Proof.Padded.lean ====
/-
  The weight of the shared key, which the host pads with rows of zeros: 128 rows for 32.
-/
module
public import proofs.«01_k».proof.Proof.Products
@[expose] public section
set_option maxRecDepth 16384
noncomputable section
open Idealize.ShloMosaic Idealize.ShloMosaic.TcCoe Idealize.SL.Sem

namespace Cert.Products

/-- The 32 rows of the weight that make the shared key, among the 128 rows that the call multiplies; the other rows are zero. -/
def padded (w : FVec Ideal ⟨2, ![1440, 1024]⟩ .bf16) (k : Fin 128) (j : Fin 1024) : EReal :=
  if h : 64 ≤ k.val ∧ k.val < 96 then w (ix2 ⟨320 + k.val, by omega⟩ j) else 0

theorem padded_inside (w) (k : Fin 32) (j) : padded w ⟨64 + k.val, by omega⟩ j = w (ix2 ⟨256 + (128 + k.val), by omega⟩ j) := by
  unfold padded
  rw [dif_pos ⟨by simp, by simp; omega⟩]
  exact congrArg w (by idx_ext)

theorem padded_outside (w) (k : Fin 128) (j) (h : k.val < 64 ∨ 96 ≤ k.val) : padded w k j = 0 :=
  dif_neg (by omega)

/-- A sum over the 128 rows is the sum over the 32. -/
theorem sum_padded (w) (f : Fin 128 → EReal) (j) :
    ∑ k, f k * padded w k j = ∑ k : Fin 32, f ⟨64 + k.val, by omega⟩ * w (ix2 ⟨256 + (128 + k.val), by omega⟩ j) := by
  rw [Fin.sum_univ_two_halves 64 64 rfl, Fin.sum_univ_two_halves 32 32 rfl fun k : Fin 64 => f ⟨64 + k.val, by omega⟩ * padded w ⟨64 + k.val, by omega⟩ j]
  rw [Finset.sum_eq_zero fun k _ => by rw [padded_outside w _ j (.inl k.isLt), mul_zero],
    zero_add]
  refine (congrArg₂ (· + ·) (Finset.sum_congr rfl fun k _ => congrArg _ (padded_inside w k j)) (Finset.sum_eq_zero fun k _ => ?_)).trans (add_zero _)
  rw [padded_outside w _ j (.inr (by show 96 ≤ 64 + (32 + k.val); omega)), mul_zero]

end Cert.Products

end
-- ==== Proof.Mix1.lean ====
/-
  The projections of the second layer, each call against its reference.
-/
module
public import proofs.«01_k».proof.Defs
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Padded
public import proofs.«01_k».proof.Proof.Products
@[expose] public section
set_option maxRecDepth 16384
noncomputable section
open Idealize.ShloMosaic Idealize.ShloMosaic.TcCoe Idealize.SL.Sem

/-! ## The input projections: the products -/

namespace Cert.Kernel18Ideal.Product
open Cert.Kernel18Ideal Cert.Kernel18Ideal.Gen Cert.Kernel18Ideal.Value Cert.Reference18Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-- The other parts of the weight as the host cuts them. -/
theorem parts (c : Dev nD) : (∀ i : S256x1024.Idx, (V m c main_v0 : FVec Ideal S256x1024 .bf16) i = (m ((c : Thread nD τ).loc main_arg1) : FVec Ideal S1440x1024 .bf16) (ix2 ⟨(i 0).val, by have h : (i 0).val < 256 := (i 0).isLt; omega⟩ (i 1))) ∧
      (∀ i : S128x1024.Idx, (V m c main_v1 : FVec Ideal S128x1024 .bf16) i = (m ((c : Thread nD τ).loc main_arg1) : FVec Ideal S1440x1024 .bf16) (ix2 ⟨256 + (i 0).val, by have h : (i 0).val < 128 := (i 0).isLt; omega⟩ (i 1))) ∧
      (∀ i : S512x1024.Idx, (V m c main_v3 : FVec Ideal S512x1024 .bf16) i = (m ((c : Thread nD τ).loc main_arg1) : FVec Ideal S1440x1024 .bf16) (ix2 ⟨416 + (i 0).val, by have h : (i 0).val < 512 := (i 0).isLt; omega⟩ (i 1))) ∧
      (∀ i : S512x1024.Idx, (V m c main_v4 : FVec Ideal S512x1024 .bf16) i = (m ((c : Thread nD τ).loc main_arg1) : FVec Ideal S1440x1024 .bf16) (ix2 ⟨928 + (i 0).val, by have h : (i 0).val < 512 := (i 0).isLt; omega⟩ (i 1))) :=
  ⟨fun i => (congrFun (show (V m c main_v0 : FVec Ideal S256x1024 .bf16) = extractStridedSlice S256x1024 ![0, 0] (m ((c : Thread nD τ).loc main_arg1) : FVec Ideal S1440x1024 .bf16) slices_S1440x1024_S256x1024_0_0 from rfl) i).trans (by pointwise []),
    fun i => (congrFun (show (V m c main_v1 : FVec Ideal S128x1024 .bf16) = extractStridedSlice S128x1024 ![256, 0] (m ((c : Thread nD τ).loc main_arg1) : FVec Ideal S1440x1024 .bf16) slices_S1440x1024_S128x1024_256_0 from rfl) i).trans (by pointwise []),
    fun i => (congrFun (show (V m c main_v3 : FVec Ideal S512x1024 .bf16) = extractStridedSlice S512x1024 ![416, 0] (m ((c : Thread nD τ).loc main_arg1) : FVec Ideal S1440x1024 .bf16) slices_S1440x1024_S512x1024_416_0 from rfl) i).trans (by pointwise []),
    fun i => (congrFun (show (V m c main_v4 : FVec Ideal S512x1024 .bf16) = extractStridedSlice S512x1024 ![928, 0] (m ((c : Thread nD τ).loc main_arg1) : FVec Ideal S1440x1024 .bf16) slices_S1440x1024_S512x1024_928_0 from rfl) i).trans (by pointwise [])⟩

/-- The rows as the host pads them. -/
theorem entry (c : Dev nD) (k : Fin 128) (j : Fin 1024) : (V m c main_v5 : FVec Ideal S128x1024 .bf16) (ix2 k j) = Products.padded (m ((c : Thread nD τ).loc main_arg1)) k j := by
  have h : (V m c main_v5 : FVec Ideal S128x1024 .bf16) = pad S128x1024 ![64, 0] ![32, 0] ![0, 0] (extractStridedSlice S32x1024 ![384, 0] (m ((c : Thread nD τ).loc main_arg1) : FVec Ideal S1440x1024 .bf16) slices_S1440x1024_S32x1024_384_0) (sitofp .bf16 (constantI S_ 32 0#32) : FVec Ideal S_ .bf16) pads_S32x1024_S128x1024_64320_000 h_S_ := by rfl
  rw [h]
  pointwise [Products.padded]
  split_ifs <;> first | omega | exact congrArg _ (by idx_ext) | simp [FloatOps.sitofp]

/-- The block of the padded rows. -/
theorem weight (c : Dev nD) (t : Fin cfg0.N) (k : Fin 128) (j : Fin 1024) : (iblk m c 3 t : FVec Ideal S128x1024 .bf16) (ix2 k j) = Products.padded (m ((c : Thread nD τ).loc main_arg1)) k j := by
  rw [← entry]
  blk_point [iblk, idx t]

/-- The result array is the reference's. -/
theorem final6 (c : Dev nD) : (dats m 0 c).arrAt 6 cfg0.N = val_main_v5 (F := Ideal) (m ((c : Thread nD τ).loc main_arg0)) (m ((c : Thread nD τ).loc main_arg1)) := by
  refine (dats m 0 c).arrAt_eq_of_covers 6 _ (by decide +kernel) fun t _ y => ?_
  blk_simp; rw [after0_6]; frame_out
  pointwise [k0_pay1, val_main_v0, val_main_v1, val_main_v2, val_main_v3, val_main_v4, val_main_v5, val_main_v6, val_main_v7, val_main_v8, val_main_v9, val_main_cst, val_main_v10, val_main_cst_0, val_main_v11, val_main_v12]
  blk_point [iblk, parts m c, V_main_arg0, idx t]

/-- The result array is the reference's. -/
theorem final7 (c : Dev nD) : (dats m 0 c).arrAt 7 cfg0.N = val_main_v6 (F := Ideal) (m ((c : Thread nD τ).loc main_arg0)) (m ((c : Thread nD τ).loc main_arg1)) := by
  refine (dats m 0 c).arrAt_eq_of_covers 7 _ (by decide +kernel) fun t _ y => ?_
  blk_simp; rw [after0_7]; frame_out
  pointwise [k0_pay2, val_main_v0, val_main_v1, val_main_v2, val_main_v3, val_main_v4, val_main_v5, val_main_v6, val_main_v7, val_main_v8, val_main_v9, val_main_cst, val_main_v10, val_main_cst_0, val_main_v11, val_main_v12]
  blk_point [iblk, parts m c, V_main_arg0, idx t]

/-- The result array is the reference's. -/
theorem final9 (c : Dev nD) : (dats m 0 c).arrAt 9 cfg0.N = val_main_v8 (F := Ideal) (m ((c : Thread nD τ).loc main_arg0)) (m ((c : Thread nD τ).loc main_arg1)) := by
  refine (dats m 0 c).arrAt_eq_of_covers 9 _ (by decide +kernel) fun t _ y => ?_
  blk_simp; rw [after0_9]; frame_out
  pointwise [k0_pay4, val_main_v0, val_main_v1, val_main_v2, val_main_v3, val_main_v4, val_main_v5, val_main_v6, val_main_v7, val_main_v8, val_main_v9, val_main_cst, val_main_v10, val_main_cst_0, val_main_v11, val_main_v12]
  blk_point [iblk, parts m c, V_main_arg0, idx t]

/-- The result array is the reference's. -/
theorem final10 (c : Dev nD) : (dats m 0 c).arrAt 10 cfg0.N = val_main_v9 (F := Ideal) (m ((c : Thread nD τ).loc main_arg0)) (m ((c : Thread nD τ).loc main_arg1)) := by
  refine (dats m 0 c).arrAt_eq_of_covers 10 _ (by decide +kernel) fun t _ y => ?_
  blk_simp; rw [after0_10]; frame_out
  pointwise [k0_pay5, val_main_v0, val_main_v1, val_main_v2, val_main_v3, val_main_v4, val_main_v5, val_main_v6, val_main_v7, val_main_v8, val_main_v9, val_main_cst, val_main_v10, val_main_cst_0, val_main_v11, val_main_v12]
  blk_point [iblk, parts m c, V_main_arg0, idx t]

/-- The third result of the reference at an index. -/
theorem read (x0 : FVec Ideal Cert.Reference18Ideal.S4608x1024 .bf16) (x1 : FVec Ideal Cert.Reference18Ideal.S1440x1024 .bf16) (j : Cert.Reference18Ideal.S4608x128.Idx) :
    val_main_v12 (F := Ideal) x0 x1 j = ∑ k : Fin 1024, x0 (ix2 (j 0) k) * Products.padded x1 (j 1) k := by
  idx_vars j
  pointwise [val_main_v0, val_main_v1, val_main_v2, val_main_v3, val_main_v4, val_main_v5, val_main_v6, val_main_v7, val_main_v8, val_main_v9, val_main_cst, val_main_v10, val_main_cst_0, val_main_v11, val_main_v12, Products.padded]
  split_ifs <;> first | omega | (simp; done) | (refine Finset.sum_congr rfl fun k _ => congrArg (x0 _ * ·) ?_; rw [dif_pos ⟨by omega, by omega⟩]; exact congrArg x1 (by idx_ext))

/-- The result array is the reference's. -/
theorem final8 (c : Dev nD) : (dats m 0 c).arrAt 8 cfg0.N = val_main_v12 (F := Ideal) (m ((c : Thread nD τ).loc main_arg0)) (m ((c : Thread nD τ).loc main_arg1)) := by
  refine (dats m 0 c).arrAt_eq_of_covers 8 _ (by decide +kernel) fun t _ y => ?_
  blk_simp; rw [after0_8, read]; frame_out
  pointwise [k0_pay3, weight]
  refine Finset.sum_congr (M := EReal) rfl fun k _ => Ideal.mul_congr ?_ (congrArg (fun a => Products.padded _ a k) (Fin.ext ?_))
  · blk_point [iblk, parts m c, V_main_arg0, idx t]
  · blk_point [idx t]

/-- The call computes what the reference computes. -/
theorem algebraic : Cert.algebraic_Kernel18Ideal_Reference18Ideal := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, run_blocks m g,
    (θ_run Cert.Reference18Ideal.defs _ _).mono (fun r h c => ?_) (Cert.Reference18Ideal.Value.run (F := Ideal) m' g')⟩
  obtain ⟨a0, a1⟩ := hagree c
  obtain ⟨h0, h1, h2, h3, h4, hargs⟩ := h c
  refine ⟨h0.trans ?_, h1.trans ?_, h2.trans ?_, h3.trans ?_, h4.trans ?_, hargs⟩
  · rw [val_main_v5_eq, a0, a1]
    exact (final6 m c).symm
  · rw [val_main_v6_eq, a0, a1]
    exact (final7 m c).symm
  · rw [val_main_v12_eq, a0, a1]
    exact (final8 m c).symm
  · rw [val_main_v8_eq, a0, a1]
    exact (final9 m c).symm
  · rw [val_main_v9_eq, a0, a1]
    exact (final10 m c).symm

/-- The reference terminates and leaves its arguments. -/
theorem frame_reference : Cert.quiescent_Reference18Ideal := fun m g _ =>
  (θ_run Cert.Reference18Ideal.defs _ _).mono (fun _ h => ⟨fun c => (h c).2.2.2.2.2, funext fun s => match s with
    | ⟨_, .reg x⟩ => x.elim0
    | ⟨_, .dma x⟩ => x.elim0⟩) (Cert.Reference18Ideal.Value.run (F := Ideal) m g)

end Cert.Kernel18Ideal.Product

/-! ## The input projections: the gradient of the input -/

namespace Cert.Kernel19Ideal.Product
open Cert.Kernel19Ideal Cert.Kernel19Ideal.Gen Cert.Kernel19Ideal.Value Cert.Reference19Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

/-- The other parts of the weight as the host cuts them. -/
theorem parts (c : Dev nD) : (∀ i : S256x1024.Idx, (V m c main_v0 : FVec Ideal S256x1024 .bf16) i = (m ((c : Thread nD τ).loc main_arg5) : FVec Ideal S1440x1024 .bf16) (ix2 ⟨(i 0).val, by have h : (i 0).val < 256 := (i 0).isLt; omega⟩ (i 1))) ∧
      (∀ i : S128x1024.Idx, (V m c main_v1 : FVec Ideal S128x1024 .bf16) i = (m ((c : Thread nD τ).loc main_arg5) : FVec Ideal S1440x1024 .bf16) (ix2 ⟨256 + (i 0).val, by have h : (i 0).val < 128 := (i 0).isLt; omega⟩ (i 1))) ∧
      (∀ i : S512x1024.Idx, (V m c main_v3 : FVec Ideal S512x1024 .bf16) i = (m ((c : Thread nD τ).loc main_arg5) : FVec Ideal S1440x1024 .bf16) (ix2 ⟨416 + (i 0).val, by have h : (i 0).val < 512 := (i 0).isLt; omega⟩ (i 1))) ∧
      (∀ i : S512x1024.Idx, (V m c main_v4 : FVec Ideal S512x1024 .bf16) i = (m ((c : Thread nD τ).loc main_arg5) : FVec Ideal S1440x1024 .bf16) (ix2 ⟨928 + (i 0).val, by have h : (i 0).val < 512 := (i 0).isLt; omega⟩ (i 1))) :=
  ⟨fun i => (congrFun (show (V m c main_v0 : FVec Ideal S256x1024 .bf16) = extractStridedSlice S256x1024 ![0, 0] (m ((c : Thread nD τ).loc main_arg5) : FVec Ideal S1440x1024 .bf16) slices_S1440x1024_S256x1024_0_0 from rfl) i).trans (by pointwise []),
    fun i => (congrFun (show (V m c main_v1 : FVec Ideal S128x1024 .bf16) = extractStridedSlice S128x1024 ![256, 0] (m ((c : Thread nD τ).loc main_arg5) : FVec Ideal S1440x1024 .bf16) slices_S1440x1024_S128x1024_256_0 from rfl) i).trans (by pointwise []),
    fun i => (congrFun (show (V m c main_v3 : FVec Ideal S512x1024 .bf16) = extractStridedSlice S512x1024 ![416, 0] (m ((c : Thread nD τ).loc main_arg5) : FVec Ideal S1440x1024 .bf16) slices_S1440x1024_S512x1024_416_0 from rfl) i).trans (by pointwise []),
    fun i => (congrFun (show (V m c main_v4 : FVec Ideal S512x1024 .bf16) = extractStridedSlice S512x1024 ![928, 0] (m ((c : Thread nD τ).loc main_arg5) : FVec Ideal S1440x1024 .bf16) slices_S1440x1024_S512x1024_928_0 from rfl) i).trans (by pointwise [])⟩

/-- The rows as the host pads them. -/
theorem entry (c : Dev nD) (k : Fin 128) (j : Fin 1024) : (V m c main_v5 : FVec Ideal S128x1024 .bf16) (ix2 k j) = Products.padded (m ((c : Thread nD τ).loc main_arg5)) k j := by
  have h : (V m c main_v5 : FVec Ideal S128x1024 .bf16) = pad S128x1024 ![64, 0] ![32, 0] ![0, 0] (extractStridedSlice S32x1024 ![384, 0] (m ((c : Thread nD τ).loc main_arg5) : FVec Ideal S1440x1024 .bf16) slices_S1440x1024_S32x1024_384_0) (sitofp .bf16 (constantI S_ 32 0#32) : FVec Ideal S_ .bf16) pads_S32x1024_S128x1024_64320_000 h_S_ := by rfl
  rw [h]
  pointwise [Products.padded]
  split_ifs <;> first | omega | exact congrArg _ (by idx_ext) | simp [FloatOps.sitofp]

/-- The block of the padded rows. -/
theorem weight (c : Dev nD) (t : Fin cfg0.N) (k : Fin 128) (j : Fin 1024) : (iblk m c 7 t : FVec Ideal S128x1024 .bf16) (ix2 k j) = Products.padded (m ((c : Thread nD τ).loc main_arg5)) k j := by
  rw [← entry]
  blk_point [iblk, idx t]

/-- The reference at an index: the sum of one product for each part of the contracted axis. -/
theorem read (x0 : FVec Ideal Cert.Reference19Ideal.S4608x256 .bf16) (x1 : FVec Ideal Cert.Reference19Ideal.S4608x128 .bf16) (x2 : FVec Ideal Cert.Reference19Ideal.S4608x128 .bf16) (x3 : FVec Ideal Cert.Reference19Ideal.S4608x512 .bf16) (x4 : FVec Ideal Cert.Reference19Ideal.S4608x512 .bf16) (x5 : FVec Ideal Cert.Reference19Ideal.S1440x1024 .bf16) (j : Cert.Reference19Ideal.S4608x1024.Idx) :
    val_main_v22 (F := Ideal) x0 x1 x2 x3 x4 x5 j = ∑ k : Fin 256, x0 (ix2 (j 0) k) * x5 (ix2 ⟨k.val, by omega⟩ (j 1))
      + ∑ k : Fin 128, x1 (ix2 (j 0) k) * x5 (ix2 ⟨256 + k.val, by omega⟩ (j 1))
      + ∑ k : Fin 128, x2 (ix2 (j 0) k) * Products.padded x5 k (j 1)
      + ∑ k : Fin 512, x3 (ix2 (j 0) k) * x5 (ix2 ⟨256 + (128 + (32 + k.val)), by omega⟩ (j 1))
      + ∑ k : Fin 512, x4 (ix2 (j 0) k) * x5 (ix2 ⟨256 + (128 + (32 + (512 + k.val))), by omega⟩ (j 1)) := by
  idx_vars j
  pointwise [val_main_cst, val_main_v0, val_main_v1, val_main_v2, val_main_v3, val_main_v4, val_main_v5, val_main_v6, val_main_v7, val_main_v8, val_main_v9, val_main_v10, val_main_cst_0, val_main_v11, val_main_cst_1, val_main_v12, val_main_v13, val_main_cst_2, val_main_v14, val_main_cst_3, val_main_v15, val_main_v16, val_main_v17, val_main_v18, val_main_v19, val_main_v20, val_main_v21, val_main_v22, sumSplitAll]
  rw [Products.sum_padded]
  simp only [add_assoc]

/-- The result array is the reference's. -/
theorem final (c : Dev nD) : (dats m 0 c).arrAt 10 cfg0.N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp; rw [after0_10, read]; frame_out
  pointwise [k0_pay1, weight]
  refine Ideal.add_congr (Ideal.add_congr (Ideal.add_congr (Ideal.add_congr ?_ ?_) ?_) ?_) ?_
  on_goal 3 => refine Finset.sum_congr (M := EReal) rfl fun k _ => Ideal.mul_congr ?_ (congrArg (Products.padded _ k) (Fin.ext ?_))
  all_goals blk_point [iblk, parts m c, V_main_arg0, V_main_arg1, V_main_arg2, V_main_arg3, V_main_arg4, idx t]

/-- The call computes what the reference computes. -/
theorem algebraic : Cert.algebraic_Kernel19Ideal_Reference19Ideal := by
  intro m g m' g' _ hagree
  refine ⟨fun c => (dats m 0 c).arrAt 10 cfg0.N, run_blocks m g,
    (θ_run Cert.Reference19Ideal.defs _ _).mono (fun r h c => ?_) (Cert.Reference19Ideal.Value.run (F := Ideal) m' g')⟩
  obtain ⟨a0, a1, a2, a3, a4, a5⟩ := hagree c
  obtain ⟨h0, hargs⟩ := h c
  refine ⟨h0.trans ?_, hargs⟩
  · rw [val_main_v22_eq, a0, a1, a2, a3, a4, a5]
    exact (final m c).symm

/-- The reference terminates and leaves its arguments. -/
theorem frame_reference : Cert.quiescent_Reference19Ideal := fun m g _ =>
  (θ_run Cert.Reference19Ideal.defs _ _).mono (fun _ h => ⟨fun c => (h c).2, funext fun s => match s with
    | ⟨_, .reg x⟩ => x.elim0
    | ⟨_, .dma x⟩ => x.elim0⟩) (Cert.Reference19Ideal.Value.run (F := Ideal) m g)

end Cert.Kernel19Ideal.Product

/-! ## The input projections: the gradients of the weights -/

namespace Cert.Kernel20Ideal.Product
open Cert.Kernel20Ideal Cert.Kernel20Ideal.Gen Cert.Kernel20Ideal.Value Cert.Reference20Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

/-- Result 1 of the reference at an index. -/
theorem read1 (x0 : FVec Ideal Cert.Reference20Ideal.S4608x256 .bf16) (x1 : FVec Ideal Cert.Reference20Ideal.S4608x128 .bf16) (x2 : FVec Ideal Cert.Reference20Ideal.S4608x128 .bf16) (x3 : FVec Ideal Cert.Reference20Ideal.S4608x512 .bf16) (x4 : FVec Ideal Cert.Reference20Ideal.S4608x512 .bf16) (x5 : FVec Ideal Cert.Reference20Ideal.S4608x1024 .bf16) (j : Cert.Reference20Ideal.S256x1024.Idx) :
    val_main_v16 (F := Ideal) x0 x1 x2 x3 x4 x5 j = ∑ k : Fin 4608, x0 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]

/-- Accumulator 1 at the first point: that point's product. -/
theorem acc1_first (c : Dev nD) (t : Fin cfg0.N) (h : t.val % 6 = 0) (j) :
    (outsAt0 m c t.val t.isLt).2.2.2.2.2.1 j = 0 + k0_pay1 (iblk m c 0 t) (iblk m c 1 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay2]

/-- Accumulator 1 at a later point: the point before, and that point's product. -/
theorem acc1_next (c : Dev nD) (t : Fin cfg0.N) (h : ¬t.val % 6 = 0) (j) :
    (outsAt0 m c t.val t.isLt).2.2.2.2.2.1 j = (outsAt0 m c (t.val - 1) (Nat.lt_of_le_of_lt (Nat.sub_le _ _) t.isLt)).2.2.2.2.2.1 j + k0_pay1 (iblk m c 0 t) (iblk m c 1 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay3]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay3]
    exact congrArg (· + _) (congrFun (Memref.IsWhole.read_unread _ _) _)

/-- The result array is the reference's: the last point writes the accumulator. -/
theorem final6 (c : Dev nD) : (dats m 0 c).arrAt 6 cfg0.N = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h : t.val % 6 = 5 := (flush0_6 t).mp hf
  have hl : (outsAt0 m c t.val t.isLt).1 y = (outsAt0 m c t.val t.isLt).2.2.2.2.2.1 y := by
    rw [outsAt0_C m c t (by omega) (by omega) (by omega) (by omega) (by omega) (by omega) (by omega) (by omega) (by omega) (by omega) (by omega) (by omega) (by omega) (by omega) (by omega)]; frame_out
    pointwise [k0_pay4]
  blk_simp
  rw [after0_6, hl, Pipeline.eq_sum_fin_of_reset_step_apply_of_flush (fun n h => (outsAt0 m c n h).2.2.2.2.2.1) 6 (fun _ => 0) _ (acc1_first m c) (acc1_next m c) t h _, zero_add, read1]
  pointwise [k0_pay1]
  refine Fin.sum_mul_add_congr fun s k hk => ?_
  blk_point [iblk, V, idx t, idx ⟨_, Pipeline.run_point_lt_of_flush t h s⟩]

/-- Result 2 of the reference at an index. -/
theorem read2 (x0 : FVec Ideal Cert.Reference20Ideal.S4608x256 .bf16) (x1 : FVec Ideal Cert.Reference20Ideal.S4608x128 .bf16) (x2 : FVec Ideal Cert.Reference20Ideal.S4608x128 .bf16) (x3 : FVec Ideal Cert.Reference20Ideal.S4608x512 .bf16) (x4 : FVec Ideal Cert.Reference20Ideal.S4608x512 .bf16) (x5 : FVec Ideal Cert.Reference20Ideal.S4608x1024 .bf16) (j : Cert.Reference20Ideal.S128x1024.Idx) :
    val_main_v17 (F := Ideal) x0 x1 x2 x3 x4 x5 j = ∑ k : Fin 4608, x1 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]

/-- Accumulator 2 at the first point: that point's product. -/
theorem acc2_first (c : Dev nD) (t : Fin cfg0.N) (h : t.val % 6 = 0) (j) :
    (outsAt0 m c t.val t.isLt).2.2.2.2.2.2.1 j = 0 + k0_pay5 (iblk m c 0 t) (iblk m c 2 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay6]

/-- Accumulator 2 at a later point: the point before, and that point's product. -/
theorem acc2_next (c : Dev nD) (t : Fin cfg0.N) (h : ¬t.val % 6 = 0) (j) :
    (outsAt0 m c t.val t.isLt).2.2.2.2.2.2.1 j = (outsAt0 m c (t.val - 1) (Nat.lt_of_le_of_lt (Nat.sub_le _ _) t.isLt)).2.2.2.2.2.2.1 j + k0_pay5 (iblk m c 0 t) (iblk m c 2 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay7]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay7]
    exact congrArg (· + _) (congrFun (Memref.IsWhole.read_unread _ _) _)

/-- The result array is the reference's: the last point writes the accumulator. -/
theorem final7 (c : Dev nD) : (dats m 0 c).arrAt 7 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h : t.val % 6 = 5 := (flush0_7 t).mp hf
  have hl : (outsAt0 m c t.val t.isLt).2.1 y = (outsAt0 m c t.val t.isLt).2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay8]
  blk_simp
  rw [after0_7, hl, Pipeline.eq_sum_fin_of_reset_step_apply_of_flush (fun n h => (outsAt0 m c n h).2.2.2.2.2.2.1) 6 (fun _ => 0) _ (acc2_first m c) (acc2_next m c) t h _, zero_add, read2]
  pointwise [k0_pay5]
  refine Fin.sum_mul_add_congr fun s k hk => ?_
  blk_point [iblk, V, idx t, idx ⟨_, Pipeline.run_point_lt_of_flush t h s⟩]

/-- Result 3 of the reference at an index. -/
theorem read3 (x0 : FVec Ideal Cert.Reference20Ideal.S4608x256 .bf16) (x1 : FVec Ideal Cert.Reference20Ideal.S4608x128 .bf16) (x2 : FVec Ideal Cert.Reference20Ideal.S4608x128 .bf16) (x3 : FVec Ideal Cert.Reference20Ideal.S4608x512 .bf16) (x4 : FVec Ideal Cert.Reference20Ideal.S4608x512 .bf16) (x5 : FVec Ideal Cert.Reference20Ideal.S4608x1024 .bf16) (j : Cert.Reference20Ideal.S128x1024.Idx) :
    val_main_v18 (F := Ideal) x0 x1 x2 x3 x4 x5 j = ∑ k : Fin 4608, x2 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 3 at the first point: that point's product. -/
theorem acc3_first (c : Dev nD) (t : Fin cfg0.N) (h : t.val % 6 = 0) (j) :
    (outsAt0 m c t.val t.isLt).2.2.2.2.2.2.2.1 j = 0 + k0_pay9 (iblk m c 0 t) (iblk m c 3 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay10]

/-- Accumulator 3 at a later point: the point before, and that point's product. -/
theorem acc3_next (c : Dev nD) (t : Fin cfg0.N) (h : ¬t.val % 6 = 0) (j) :
    (outsAt0 m c t.val t.isLt).2.2.2.2.2.2.2.1 j = (outsAt0 m c (t.val - 1) (Nat.lt_of_le_of_lt (Nat.sub_le _ _) t.isLt)).2.2.2.2.2.2.2.1 j + k0_pay9 (iblk m c 0 t) (iblk m c 3 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay11]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay11]
    exact congrArg (· + _) (congrFun (Memref.IsWhole.read_unread _ _) _)

/-- The result array is the reference's: the last point writes the accumulator. -/
theorem final8 (c : Dev nD) : (dats m 0 c).arrAt 8 cfg0.N = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have h : t.val % 6 = 5 := (flush0_8 t).mp hf
  have hl : (outsAt0 m c t.val t.isLt).2.2.1 y = (outsAt0 m c t.val t.isLt).2.2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay12]
  blk_simp
  rw [after0_8, hl, Pipeline.eq_sum_fin_of_reset_step_apply_of_flush (fun n h => (outsAt0 m c n h).2.2.2.2.2.2.2.1) 6 (fun _ => 0) _ (acc3_first m c) (acc3_next m c) t h _, zero_add, read3]
  pointwise [k0_pay9]
  refine Fin.sum_mul_add_congr fun s k hk => ?_
  blk_point [iblk, V, idx t, idx ⟨_, Pipeline.run_point_lt_of_flush t h s⟩]

/-- Result 4 of the reference at an index. -/
theorem read4 (x0 : FVec Ideal Cert.Reference20Ideal.S4608x256 .bf16) (x1 : FVec Ideal Cert.Reference20Ideal.S4608x128 .bf16) (x2 : FVec Ideal Cert.Reference20Ideal.S4608x128 .bf16) (x3 : FVec Ideal Cert.Reference20Ideal.S4608x512 .bf16) (x4 : FVec Ideal Cert.Reference20Ideal.S4608x512 .bf16) (x5 : FVec Ideal Cert.Reference20Ideal.S4608x1024 .bf16) (j : Cert.Reference20Ideal.S512x1024.Idx) :
    val_main_v19 (F := Ideal) x0 x1 x2 x3 x4 x5 j = ∑ k : Fin 4608, x3 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 4 at the first point: that point's product. -/
theorem acc4_first (c : Dev nD) (t : Fin cfg0.N) (h : t.val % 6 = 0) (j) :
    (outsAt0 m c t.val t.isLt).2.2.2.2.2.2.2.2.1 j = 0 + k0_pay13 (iblk m c 0 t) (iblk m c 4 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay14]

/-- Accumulator 4 at a later point: the point before, and that point's product. -/
theorem acc4_next (c : Dev nD) (t : Fin cfg0.N) (h : ¬t.val % 6 = 0) (j) :
    (outsAt0 m c t.val t.isLt).2.2.2.2.2.2.2.2.1 j = (outsAt0 m c (t.val - 1) (Nat.lt_of_le_of_lt (Nat.sub_le _ _) t.isLt)).2.2.2.2.2.2.2.2.1 j + k0_pay13 (iblk m c 0 t) (iblk m c 4 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay15]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay15]
    exact congrArg (· + _) (congrFun (Memref.IsWhole.read_unread _ _) _)

/-- The result array is the reference's: the last point writes the accumulator. -/
theorem final9 (c : Dev nD) : (dats m 0 c).arrAt 9 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have h : t.val % 6 = 5 := (flush0_9 t).mp hf
  have hl : (outsAt0 m c t.val t.isLt).2.2.2.1 y = (outsAt0 m c t.val t.isLt).2.2.2.2.2.2.2.2.1 y := by
    rw [outsAt0_C m c t (by omega) (by omega) (by omega) (by omega) (by omega) (by omega) (by omega) (by omega) (by omega) (by omega) (by omega) (by omega) (by omega) (by omega) (by omega)]; frame_out
    pointwise [k0_pay16]
  blk_simp
  rw [after0_9, hl, Pipeline.eq_sum_fin_of_reset_step_apply_of_flush (fun n h => (outsAt0 m c n h).2.2.2.2.2.2.2.2.1) 6 (fun _ => 0) _ (acc4_first m c) (acc4_next m c) t h _, zero_add, read4]
  pointwise [k0_pay13]
  refine Fin.sum_mul_add_congr fun s k hk => ?_
  blk_point [iblk, V, idx t, idx ⟨_, Pipeline.run_point_lt_of_flush t h s⟩]

/-- Result 5 of the reference at an index. -/
theorem read5 (x0 : FVec Ideal Cert.Reference20Ideal.S4608x256 .bf16) (x1 : FVec Ideal Cert.Reference20Ideal.S4608x128 .bf16) (x2 : FVec Ideal Cert.Reference20Ideal.S4608x128 .bf16) (x3 : FVec Ideal Cert.Reference20Ideal.S4608x512 .bf16) (x4 : FVec Ideal Cert.Reference20Ideal.S4608x512 .bf16) (x5 : FVec Ideal Cert.Reference20Ideal.S4608x1024 .bf16) (j : Cert.Reference20Ideal.S512x1024.Idx) :
    val_main_v20 (F := Ideal) x0 x1 x2 x3 x4 x5 j = ∑ k : Fin 4608, x4 (ix2 k (j 0)) * x5 (ix2 k (j 1)) := by
  idx_vars j
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20]
  refine Finset.sum_congr rfl fun k _ => congrArg (· * _) ?_
  split_ifs <;> first | omega | exact congrArg _ (by idx_ext)

/-- Accumulator 5 at the first point: that point's product. -/
theorem acc5_first (c : Dev nD) (t : Fin cfg0.N) (h : t.val % 6 = 0) (j) :
    (outsAt0 m c t.val t.isLt).2.2.2.2.2.2.2.2.2 j = 0 + k0_pay17 (iblk m c 0 t) (iblk m c 5 t) j := by
  have ht : t.val < 6 := t.isLt
  rw [outsAt0_A m c t (by omega) (by omega) (by omega) (by omega) (by omega) (by omega) (by omega) (by omega) (by omega) (by omega) (by omega) (by omega) (by omega) (by omega) (by omega)]; frame_out
  pointwise [k0_pay18]

/-- Accumulator 5 at a later point: the point before, and that point's product. -/
theorem acc5_next (c : Dev nD) (t : Fin cfg0.N) (h : ¬t.val % 6 = 0) (j) :
    (outsAt0 m c t.val t.isLt).2.2.2.2.2.2.2.2.2 j = (outsAt0 m c (t.val - 1) (Nat.lt_of_le_of_lt (Nat.sub_le _ _) t.isLt)).2.2.2.2.2.2.2.2.2 j + k0_pay17 (iblk m c 0 t) (iblk m c 5 t) j := by
  by_cases h2 : t.val % 6 = 5
  · rw [outsAt0_C m c t (by omega) (by omega) (by omega) (by omega) (by omega) (by omega) (by omega) (by omega) (by omega) (by omega) (by omega) (by omega) (by omega) (by omega) (by omega)]; frame_out
    pointwise [k0_pay19]
    exact congrArg (· + _) (congrFun (Memref.IsWhole.read_unread _ _) _)
  · rw [outsAt0_B m c t (by omega) (by omega) (by omega) (by omega) (by omega) (by omega) (by omega) (by omega) (by omega) (by omega) (by omega) (by omega) (by omega) (by omega) (by omega)]; frame_out
    pointwise [k0_pay19]
    exact congrArg (· + _) (congrFun (Memref.IsWhole.read_unread _ _) _)

/-- The result array is the reference's: the last point writes the accumulator. -/
theorem final10 (c : Dev nD) : (dats m 0 c).arrAt 10 cfg0.N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have h : t.val % 6 = 5 := (flush0_10 t).mp hf
  have hl : (outsAt0 m c t.val t.isLt).2.2.2.2.1 y = (outsAt0 m c t.val t.isLt).2.2.2.2.2.2.2.2.2 y := by
    rw [outsAt0_C m c t (by omega) (by omega) (by omega) (by omega) (by omega) (by omega) (by omega) (by omega) (by omega) (by omega) (by omega) (by omega) (by omega) (by omega) (by omega)]; frame_out
    pointwise [k0_pay20]
  blk_simp
  rw [after0_10, hl, Pipeline.eq_sum_fin_of_reset_step_apply_of_flush (fun n h => (outsAt0 m c n h).2.2.2.2.2.2.2.2.2) 6 (fun _ => 0) _ (acc5_first m c) (acc5_next m c) t h _, zero_add, read5]
  pointwise [k0_pay17]
  refine Fin.sum_mul_add_congr fun s k hk => ?_
  blk_point [iblk, V, idx t, idx ⟨_, Pipeline.run_point_lt_of_flush t h s⟩]

/-- The call computes what the reference computes. -/
theorem algebraic : Cert.algebraic_Kernel20Ideal_Reference20Ideal := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, run_blocks m g,
    (θ_run Cert.Reference20Ideal.defs _ _).mono (fun r h c => ?_) (Cert.Reference20Ideal.Value.run (F := Ideal) m' g')⟩
  obtain ⟨a0, a1, a2, a3, a4, a5, a6⟩ := hagree c
  obtain ⟨h0, h1, h2, h3, h4, hargs⟩ := h c
  refine ⟨h0.trans ?_, h1.trans ?_, h2.trans ?_, h3.trans ?_, h4.trans ?_, hargs⟩
  · rw [val_main_v16_eq, a0, a1, a2, a3, a4, a5]
    exact (final6 m c).symm
  · rw [val_main_v17_eq, a0, a1, a2, a3, a4, a5]
    exact (final7 m c).symm
  · rw [val_main_v18_eq, a0, a1, a2, a3, a4, a5]
    exact (final8 m c).symm
  · rw [val_main_v19_eq, a0, a1, a2, a3, a4, a5]
    exact (final9 m c).symm
  · rw [val_main_v20_eq, a0, a1, a2, a3, a4, a5]
    exact (final10 m c).symm

/-- The reference terminates and leaves its arguments. -/
theorem frame_reference : Cert.quiescent_Reference20Ideal := fun m g _ =>
  (θ_run Cert.Reference20Ideal.defs _ _).mono (fun _ h => ⟨fun c => (h c).2.2.2.2.2, funext fun s => match s with
    | ⟨_, .reg x⟩ => x.elim0
    | ⟨_, .dma x⟩ => x.elim0⟩) (Cert.Reference20Ideal.Value.run (F := Ideal) m g)

end Cert.Kernel20Ideal.Product

/-! ## The output projection: the product -/

namespace Cert.Kernel24Ideal.Product
open Cert.Kernel24Ideal Cert.Kernel24Ideal.Gen Cert.Kernel24Ideal.Value Cert.Reference24Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- The result array is the reference's. -/
theorem final (c : Dev nD) : (dats m 0 c).arrAt 4 cfg0.N = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  pointwise [k0_pay1, val_main_v0, val_main_v1, val_main_v2, val_main_v3, val_main_v4]
  blk_point [iblk, V, idx t]

/-- The call computes what the reference computes. -/
theorem algebraic : Cert.algebraic_Kernel24Ideal_Reference24Ideal := by
  intro m g m' g' _ hagree
  refine ⟨fun c => (dats m 0 c).arrAt 4 cfg0.N, run_blocks m g,
    (θ_run Cert.Reference24Ideal.defs _ _).mono (fun r h c => ?_) (Cert.Reference24Ideal.Value.run (F := Ideal) m' g')⟩
  obtain ⟨a0, a1, a2⟩ := hagree c
  obtain ⟨h0, hargs⟩ := h c
  refine ⟨h0.trans ?_, hargs⟩
  · rw [val_main_v4_eq, a0, a1, a2]
    exact (final m c).symm

/-- The reference terminates and leaves its arguments. -/
theorem frame_reference : Cert.quiescent_Reference24Ideal := fun m g _ =>
  (θ_run Cert.Reference24Ideal.defs _ _).mono (fun _ h => ⟨fun c => (h c).2, funext fun s => match s with
    | ⟨_, .reg x⟩ => x.elim0
    | ⟨_, .dma x⟩ => x.elim0⟩) (Cert.Reference24Ideal.Value.run (F := Ideal) m g)

end Cert.Kernel24Ideal.Product

/-! ## The output projection: the gradients of the two inputs -/

namespace Cert.Kernel25Ideal.Product
open Cert.Kernel25Ideal Cert.Kernel25Ideal.Gen Cert.Kernel25Ideal.Value Cert.Reference25Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The result array is the reference's. -/
theorem final3 (c : Dev nD) : (dats m 0 c).arrAt 3 cfg0.N = val_main_v9 (F := Ideal) (m ((c : Thread nD τ).loc main_arg0)) (m ((c : Thread nD τ).loc main_arg1)) := by
  refine (dats m 0 c).arrAt_eq_of_covers 3 _ (by decide +kernel) fun t _ y => ?_
  blk_simp; rw [after0_3]; frame_out
  pointwise [k0_pay1, val_main_cst, val_main_v0, val_main_v1, val_main_v2, val_main_v3, val_main_v4, val_main_v5, val_main_v6, val_main_v7, val_main_v8, val_main_v9, val_main_v10]
  blk_point [iblk, V, idx t]

/-- The result array is the reference's. -/
theorem final4 (c : Dev nD) : (dats m 0 c).arrAt 4 cfg0.N = val_main_v10 (F := Ideal) (m ((c : Thread nD τ).loc main_arg0)) (m ((c : Thread nD τ).loc main_arg1)) := by
  refine (dats m 0 c).arrAt_eq_of_covers 4 _ (by decide +kernel) fun t _ y => ?_
  blk_simp; rw [after0_4]; frame_out
  pointwise [k0_pay2, val_main_cst, val_main_v0, val_main_v1, val_main_v2, val_main_v3, val_main_v4, val_main_v5, val_main_v6, val_main_v7, val_main_v8, val_main_v9, val_main_v10]
  blk_point [iblk, V, idx t]

/-- The call computes what the reference computes. -/
theorem algebraic : Cert.algebraic_Kernel25Ideal_Reference25Ideal := by
  intro m g m' g' _ hagree
  refine ⟨fun c => (dats m 0 c).arrAt 3 cfg0.N, fun c => (dats m 0 c).arrAt 4 cfg0.N, run_blocks m g,
    (θ_run Cert.Reference25Ideal.defs _ _).mono (fun r h c => ?_) (Cert.Reference25Ideal.Value.run (F := Ideal) m' g')⟩
  obtain ⟨a0, a1⟩ := hagree c
  obtain ⟨h0, h1, hargs⟩ := h c
  refine ⟨h0.trans ?_, h1.trans ?_, hargs⟩
  · rw [val_main_v9_eq, a0, a1]
    exact (final3 m c).symm
  · rw [val_main_v10_eq, a0, a1]
    exact (final4 m c).symm

/-- The reference terminates and leaves its arguments. -/
theorem frame_reference : Cert.quiescent_Reference25Ideal := fun m g _ =>
  (θ_run Cert.Reference25Ideal.defs _ _).mono (fun _ h => ⟨fun c => (h c).2.2, funext fun s => match s with
    | ⟨_, .reg x⟩ => x.elim0
    | ⟨_, .dma x⟩ => x.elim0⟩) (Cert.Reference25Ideal.Value.run (F := Ideal) m g)

end Cert.Kernel25Ideal.Product

/-! ## The output projection: the gradients of the two parts of the weight -/

namespace Cert.Kernel26Ideal.Product
open Cert.Kernel26Ideal Cert.Kernel26Ideal.Gen Cert.Kernel26Ideal.Value Cert.Reference26Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0] :=
  (by decide +kernel : ∀ t : Fin grid0.N, _)

/-- Result 1 of the reference at an index. -/
theorem read1 (x0 : FVec Ideal Cert.Reference26Ideal.S4096x512 .bf16) (x1 : FVec Ideal Cert.Reference26Ideal.S4096x512 .bf16) (x2 : FVec Ideal Cert.Reference26Ideal.S4096x1024 .bf16) (j : Cert.Reference26Ideal.S512x1024.Idx) :
    val_main_v9 (F := Ideal) x0 x1 x2 j = ∑ k : Fin 4096, x0 (ix2 k (j 0)) * x2 (ix2 k (j 1)) := by
  idx_vars j
  pointwise! [val_main_v0, val_main_v1, val_main_v2, val_main_v3, val_main_v4, val_main_v5, val_main_v6, val_main_v7, val_main_v8, val_main_v9, val_main_v10]

/-- Accumulator 1 at the first point: that point's product. -/
theorem acc1_first (c : Dev nD) (t : Fin cfg0.N) (h : t.val % 8 = 0) (j) :
    (outsAt0 m c t.val t.isLt).2.2.1 j = 0 + k0_pay1 (iblk m c 0 t) (iblk m c 1 t) j := by
  have ht : t.val < 8 := t.isLt
  rw [outsAt0_A m c t (by omega) (by omega) (by omega) (by omega) (by omega) (by omega)]; frame_out
  pointwise [k0_pay2]

/-- Accumulator 1 at a later point: the point before, and that point's product. -/
theorem acc1_next (c : Dev nD) (t : Fin cfg0.N) (h : ¬t.val % 8 = 0) (j) :
    (outsAt0 m c t.val t.isLt).2.2.1 j = (outsAt0 m c (t.val - 1) (Nat.lt_of_le_of_lt (Nat.sub_le _ _) t.isLt)).2.2.1 j + k0_pay1 (iblk m c 0 t) (iblk m c 1 t) j := by
  by_cases h2 : t.val % 8 = 7
  · rw [outsAt0_C m c t (by omega) (by omega) (by omega) (by omega) (by omega) (by omega)]; frame_out
    pointwise [k0_pay3]
    exact congrArg (· + _) (congrFun (Memref.IsWhole.read_unread _ _) _)
  · rw [outsAt0_B m c t (by omega) (by omega) (by omega) (by omega) (by omega) (by omega)]; frame_out
    pointwise [k0_pay3]
    exact congrArg (· + _) (congrFun (Memref.IsWhole.read_unread _ _) _)

/-- The result array is the reference's: the last point writes the accumulator. -/
theorem final3 (c : Dev nD) : (dats m 0 c).arrAt 3 cfg0.N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 8 = 7 := (flush0_3 t).mp hf
  have hl : (outsAt0 m c t.val t.isLt).1 y = (outsAt0 m c t.val t.isLt).2.2.1 y := by
    rw [outsAt0_C m c t (by omega) (by omega) (by omega) (by omega) (by omega) (by omega)]; frame_out
    pointwise [k0_pay4]
  blk_simp
  rw [after0_3, hl, Pipeline.eq_sum_fin_of_reset_step_apply_of_flush (fun n h => (outsAt0 m c n h).2.2.1) 8 (fun _ => 0) _ (acc1_first m c) (acc1_next m c) t h _, zero_add, read1]
  pointwise [k0_pay1]
  refine Fin.sum_mul_add_congr fun s k hk => ?_
  blk_point [iblk, V, idx t, idx ⟨_, Pipeline.run_point_lt_of_flush t h s⟩]

/-- Result 2 of the reference at an index. -/
theorem read2 (x0 : FVec Ideal Cert.Reference26Ideal.S4096x512 .bf16) (x1 : FVec Ideal Cert.Reference26Ideal.S4096x512 .bf16) (x2 : FVec Ideal Cert.Reference26Ideal.S4096x1024 .bf16) (j : Cert.Reference26Ideal.S512x1024.Idx) :
    val_main_v10 (F := Ideal) x0 x1 x2 j = ∑ k : Fin 4096, x1 (ix2 k (j 0)) * x2 (ix2 k (j 1)) := by
  idx_vars j
  pointwise! [val_main_v0, val_main_v1, val_main_v2, val_main_v3, val_main_v4, val_main_v5, val_main_v6, val_main_v7, val_main_v8, val_main_v9, val_main_v10]

/-- Accumulator 2 at the first point: that point's product. -/
theorem acc2_first (c : Dev nD) (t : Fin cfg0.N) (h : t.val % 8 = 0) (j) :
    (outsAt0 m c t.val t.isLt).2.2.2 j = 0 + k0_pay5 (iblk m c 0 t) (iblk m c 2 t) j := by
  have ht : t.val < 8 := t.isLt
  rw [outsAt0_A m c t (by omega) (by omega) (by omega) (by omega) (by omega) (by omega)]; frame_out
  pointwise [k0_pay6]

/-- Accumulator 2 at a later point: the point before, and that point's product. -/
theorem acc2_next (c : Dev nD) (t : Fin cfg0.N) (h : ¬t.val % 8 = 0) (j) :
    (outsAt0 m c t.val t.isLt).2.2.2 j = (outsAt0 m c (t.val - 1) (Nat.lt_of_le_of_lt (Nat.sub_le _ _) t.isLt)).2.2.2 j + k0_pay5 (iblk m c 0 t) (iblk m c 2 t) j := by
  by_cases h2 : t.val % 8 = 7
  · rw [outsAt0_C m c t (by omega) (by omega) (by omega) (by omega) (by omega) (by omega)]; frame_out
    pointwise [k0_pay7]
    exact congrArg (· + _) (congrFun (Memref.IsWhole.read_unread _ _) _)
  · rw [outsAt0_B m c t (by omega) (by omega) (by omega) (by omega) (by omega) (by omega)]; frame_out
    pointwise [k0_pay7]
    exact congrArg (· + _) (congrFun (Memref.IsWhole.read_unread _ _) _)

/-- The result array is the reference's: the last point writes the accumulator. -/
theorem final4 (c : Dev nD) : (dats m 0 c).arrAt 4 cfg0.N = val_main_v10 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h : t.val % 8 = 7 := (flush0_4 t).mp hf
  have hl : (outsAt0 m c t.val t.isLt).2.1 y = (outsAt0 m c t.val t.isLt).2.2.2 y := by
    rw [outsAt0_C m c t (by omega) (by omega) (by omega) (by omega) (by omega) (by omega)]; frame_out
    pointwise [k0_pay8]
  blk_simp
  rw [after0_4, hl, Pipeline.eq_sum_fin_of_reset_step_apply_of_flush (fun n h => (outsAt0 m c n h).2.2.2) 8 (fun _ => 0) _ (acc2_first m c) (acc2_next m c) t h _, zero_add, read2]
  pointwise [k0_pay5]
  refine Fin.sum_mul_add_congr fun s k hk => ?_
  blk_point [iblk, V, idx t, idx ⟨_, Pipeline.run_point_lt_of_flush t h s⟩]

/-- The call computes what the reference computes. -/
theorem algebraic : Cert.algebraic_Kernel26Ideal_Reference26Ideal := by
  intro m g m' g' _ hagree
  refine ⟨fun c => (dats m 0 c).arrAt 3 cfg0.N, fun c => (dats m 0 c).arrAt 4 cfg0.N, run_blocks m g,
    (θ_run Cert.Reference26Ideal.defs _ _).mono (fun r h c => ?_) (Cert.Reference26Ideal.Value.run (F := Ideal) m' g')⟩
  obtain ⟨a0, a1, a2, a3⟩ := hagree c
  obtain ⟨h0, h1, hargs⟩ := h c
  refine ⟨h0.trans ?_, h1.trans ?_, hargs⟩
  · rw [val_main_v9_eq, a0, a1, a2]
    exact (final3 m c).symm
  · rw [val_main_v10_eq, a0, a1, a2]
    exact (final4 m c).symm

/-- The reference terminates and leaves its arguments. -/
theorem frame_reference : Cert.quiescent_Reference26Ideal := fun m g _ =>
  (θ_run Cert.Reference26Ideal.defs _ _).mono (fun _ h => ⟨fun c => (h c).2.2, funext fun s => match s with
    | ⟨_, .reg x⟩ => x.elim0
    | ⟨_, .dma x⟩ => x.elim0⟩) (Cert.Reference26Ideal.Value.run (F := Ideal) m g)

end Cert.Kernel26Ideal.Product

end
-- ==== Proof.Attention.lean ====
module

public import Mathlib.Analysis.SpecialFunctions.Log.Basic
public import Mathlib.Algebra.BigOperators.Fin
public import Mathlib.Data.EReal.Operations

/-!
# Grouped-query attention over the real numbers

The mathematics both programs compute, on arrays of reals given as functions of a sample, a row and a column. There are
two groups `j` of four query heads `g` of 64 lanes each; a group shares one head of keys and values. Rows 0 … 255 are
context rows, and a context row sees the context rows alone; every other row sees all 2304.

`prob` is the softmax of a row's scores, `out` and `lse` are what the forward pass keeps, and `dq`, `dk`, `dv` are the
gradients for a cotangent `ct` of `out`.
-/

@[expose] public section

namespace Cert.Gqa

open Finset

/-- The column of lane `d` of query head `g` of group `j`. -/
def qcol (j g d : ℕ) : ℕ := (j * 4 + g) * 64 + d

/-- The column of lane `d` of the keys or values of group `j`. -/
def kcol (j d : ℕ) : ℕ := j * 64 + d

variable (q k v ct : ℕ → ℕ → ℕ → ℝ)

/-- The product of a query row and a key row. -/
noncomputable def score (b j g i n : ℕ) : ℝ := ∑ d : Fin 64, q b i (qcol j g d) * k b n (kcol j d)

/-- The unnormalised weight of key row `n` for query row `i`: zero where the row does not see it. -/
noncomputable def weight (b j g i n : ℕ) : ℝ :=
  if i < 256 ∧ 256 ≤ n then 0 else Real.exp (score q k b j g i n * (1 / 8))

/-- The sum of a row's weights. -/
noncomputable def total (b j g i : ℕ) : ℝ := ∑ n : Fin 2304, weight q k b j g i n

/-- The softmax of a row's scores. -/
noncomputable def prob (b j g i n : ℕ) : ℝ := weight q k b j g i n / total q k b j g i

/-- The attention's output. -/
noncomputable def out (b j g i d : ℕ) : ℝ := ∑ n : Fin 2304, prob q k b j g i n * v b n (kcol j d)

/-- The logarithm, in base 2, of a row's sum of exponentials. -/
noncomputable def lse (b j g i : ℕ) : ℝ := Real.log (total q k b j g i) * (Real.log 2)⁻¹

/-- The gradient at a probability. -/
noncomputable def dprob (b j g i n : ℕ) : ℝ := ∑ d : Fin 64, ct b i (qcol j g d) * v b n (kcol j d)

/-- The mean of a row's `dprob`, by the row's probabilities. -/
noncomputable def mean (b j g i : ℕ) : ℝ := ∑ n : Fin 2304, prob q k b j g i n * dprob v ct b j g i n

/-- The gradient at a scaled score. -/
noncomputable def dscore (b j g i n : ℕ) : ℝ := prob q k b j g i n * (dprob v ct b j g i n - mean q k v ct b j g i)

/-- The gradient of the queries. -/
noncomputable def dq (b j g i d : ℕ) : ℝ := (∑ n : Fin 2304, dscore q k v ct b j g i n * k b n (kcol j d)) * (1 / 8)

/-- A query row's part of the gradient of the keys. -/
noncomputable def dkRow (b j g i n d : ℕ) : ℝ := dscore q k v ct b j g i n * q b i (qcol j g d) * (1 / 8)

/-- A query row's part of the gradient of the values. -/
noncomputable def dvRow (b j g i n d : ℕ) : ℝ := prob q k b j g i n * ct b i (qcol j g d)

/-- The gradient of the keys: the group's heads and all query rows summed. -/
noncomputable def dk (b j n d : ℕ) : ℝ := ∑ g : Fin 4, ∑ i : Fin 2304, dkRow q k v ct b j g i n d

/-- The gradient of the values. -/
noncomputable def dv (b j n d : ℕ) : ℝ := ∑ g : Fin 4, ∑ i : Fin 2304, dvRow q k ct b j g i n d

/-! ## The rows a row sees -/

/-- A sum over all rows whose terms vanish past the context is the sum over the context. -/
theorem sum_ctx (f : ℕ → ℝ) (h : ∀ n, 256 ≤ n → f n = 0) : ∑ n : Fin 2304, f n = ∑ n : Fin 256, f n := by
  rw [← Finset.sum_range f, ← Finset.sum_range f]
  refine (Finset.sum_subset (fun x hx => ?_) fun x _ hx => h x ?_).symm
  · simp only [Finset.mem_range] at hx ⊢; omega
  · simpa using hx

/-- All rows are the context rows and the rows past them. -/
theorem sum_split (f : ℕ → ℝ) : ∑ n : Fin 2304, f n = ∑ n : Fin 256, f n + ∑ n : Fin 2048, f (256 + n) := by
  rw [← Finset.sum_range f, ← Finset.sum_range f, ← Finset.sum_range fun n => f (256 + n)]
  exact Finset.sum_range_add f 256 2048

theorem weight_ctx {b j g i n : ℕ} (hi : i < 256) (hn : 256 ≤ n) : weight q k b j g i n = 0 := if_pos ⟨hi, hn⟩

theorem weight_seen {b j g i n : ℕ} (h : 256 ≤ i ∨ n < 256) :
    weight q k b j g i n = Real.exp (score q k b j g i n * (1 / 8)) := if_neg (by omega)

theorem prob_ctx {b j g i n : ℕ} (hi : i < 256) (hn : 256 ≤ n) : prob q k b j g i n = 0 := by
  rw [prob, weight_ctx q k hi hn, zero_div]

theorem dscore_ctx {b j g i n : ℕ} (hi : i < 256) (hn : 256 ≤ n) : dscore q k v ct b j g i n = 0 := by
  rw [dscore, prob_ctx q k hi hn, zero_mul]

theorem weight_nonneg (b j g i n : ℕ) : 0 ≤ weight q k b j g i n := by
  unfold weight; split_ifs
  · exact le_rfl
  · exact (Real.exp_pos _).le

theorem total_pos (b j g i : ℕ) : 0 < total q k b j g i := by
  refine Finset.sum_pos' (fun n _ => weight_nonneg q k _ _ _ _ _) ⟨0, Finset.mem_univ _, ?_⟩
  rw [weight_seen q k (Or.inr (by decide))]
  exact Real.exp_pos _

theorem dkRow_ctx {b j g i n : ℕ} (d : ℕ) (hi : i < 256) (hn : 256 ≤ n) : dkRow q k v ct b j g i n d = 0 := by
  rw [dkRow, dscore_ctx q k v ct hi hn, zero_mul, zero_mul]

theorem dvRow_ctx {b j g i n : ℕ} (d : ℕ) (hi : i < 256) (hn : 256 ≤ n) : dvRow q k ct b j g i n d = 0 := by
  rw [dvRow, prob_ctx q k hi hn, zero_mul]

/-- The rows past the context, and, for a key row of the context, the context rows: all the rows that see it. -/
theorem sum_parts (f : ℕ → ℕ → ℝ) (n : ℕ) (h : ∀ g i, i < 256 → 256 ≤ n → f g i = 0) :
    ((∑ g : Fin 4, ∑ i : Fin 2048, f g (256 + i)) + if n < 256 then ∑ g : Fin 4, ∑ i : Fin 256, f g i else 0) =
      ∑ g : Fin 4, ∑ i : Fin 2304, f g i := by
  simp only [sum_split, Finset.sum_add_distrib]
  split_ifs with hn
  · exact add_comm _ _
  · rw [Finset.sum_eq_zero (s := Finset.univ) (f := fun g : Fin 4 => ∑ i : Fin 256, f g i), add_comm]
    exact fun g _ => Finset.sum_eq_zero fun i _ => h g i i.2 (not_lt.1 hn)

/-- The mean is the product of the output row with the cotangent row. -/
theorem mean_eq (b j g i : ℕ) :
    mean q k v ct b j g i = ∑ d : Fin 64, ct b i (qcol j g d) * out q k v b j g i d := by
  simp only [mean, out, dprob, Finset.mul_sum]
  rw [Finset.sum_comm]
  exact Finset.sum_congr rfl fun d _ => Finset.sum_congr rfl fun n _ => by ring

/-! ## A row's softmax, as a program computes it

A program works on the rows `Fin N` a query row sees, after subtracting a number `m` from each scaled score. -/

section row
variable {N : ℕ} (s : Fin N → ℝ) (m : ℝ)

theorem exp_shift (n : Fin N) : Real.exp (s n - m) = Real.exp (s n) * Real.exp (-m) := by
  rw [← Real.exp_add]; ring_nf

theorem sum_exp_shift : ∑ n, Real.exp (s n - m) = (∑ n, Real.exp (s n)) * Real.exp (-m) := by
  rw [Finset.sum_mul]; exact Finset.sum_congr rfl fun n _ => exp_shift s m n

theorem softmax_shift (n : Fin N) :
    Real.exp (s n - m) / ∑ l, Real.exp (s l - m) = Real.exp (s n) / ∑ l, Real.exp (s l) := by
  rw [exp_shift, sum_exp_shift, mul_div_mul_right _ _ (Real.exp_pos _).ne']

theorem sum_exp_pos (h : 0 < N) : 0 < ∑ n, Real.exp (s n - m) :=
  Finset.sum_pos (fun _ _ => Real.exp_pos _) ⟨⟨0, h⟩, Finset.mem_univ _⟩

theorem log_shift (h : 0 < N) : m + Real.log (∑ n, Real.exp (s n - m)) = Real.log (∑ n, Real.exp (s n)) := by
  have h0 : 0 < ∑ n, Real.exp (s n) := Finset.sum_pos (fun _ _ => Real.exp_pos _) ⟨⟨0, h⟩, Finset.mem_univ _⟩
  rw [sum_exp_shift, Real.log_mul h0.ne' (Real.exp_pos _).ne', Real.log_exp]; ring

/-- The gradient of a row's softmax through the quotient rule, `e` being the weights and `z` their sum. -/
theorem softmax_grad (e d : Fin N → ℝ) (z : ℝ) (hz : z ≠ 0) (n : Fin N) :
    (d n * (1 / z) + -∑ l, d l * (1 * (1 / (z * z))) * e l) * e n = e n / z * (d n - ∑ l, e l / z * d l) := by
  have h : ∑ l, d l * (1 * (1 / (z * z))) * e l = (∑ l, e l / z * d l) * (1 / z) := by
    rw [Finset.sum_mul]; exact Finset.sum_congr rfl fun l _ => by field_simp
  rw [h]; field_simp; ring

/-- The same, with the quotients written as quotients. -/
theorem softmax_quot (e d : Fin N → ℝ) (z : ℝ) (hz : z ≠ 0) (n : Fin N) :
    (d n / z + -∑ l, d l * (1 / (z * z)) * e l) * e n = e n / z * (d n - ∑ l, e l / z * d l) := by
  rw [← softmax_grad e d z hz n]
  simp only [one_mul, mul_one_div]

end row

/-! ## Extended reals -/

theorem coe_sum {ι : Type} (t : Finset ι) (f : ι → ℝ) : ∑ n ∈ t, (f n : EReal) = ((∑ n ∈ t, f n : ℝ) : EReal) := by
  classical
  induction t using Finset.induction_on with
  | empty => simp
  | insert a t ha ih => rw [Finset.sum_insert ha, Finset.sum_insert ha, ih, EReal.coe_add]

/-- The greatest of finitely many reals, at least one, is a real. -/
theorem fold_max_coe {N : ℕ} (hN : 0 < N) (f : Fin N → ℝ) :
    ∃ m : ℝ, (Finset.univ.fold max (⊥ : EReal) fun n => (f n : EReal)) = m := by
  have h : ∀ t : Finset (Fin N), t.Nonempty → ∃ m : ℝ, (t.fold max (⊥ : EReal) fun n => (f n : EReal)) = m := by
    intro t ht
    classical
    induction ht using Finset.Nonempty.cons_induction with
    | singleton a => exact ⟨f a, by simp⟩
    | cons a t ha _ ih =>
      obtain ⟨m, hm⟩ := ih
      refine ⟨max (f a) m, ?_⟩
      rw [Finset.fold_cons, hm]
      exact (EReal.coe_strictMono.monotone.map_max).symm
  exact h _ ⟨⟨0, hN⟩, Finset.mem_univ _⟩

end Cert.Gqa
-- ==== Proof.Constants.lean ====
module

public import Idealize.ShloMosaic.PureOps.Ideal.Laws
public import proofs.«01_k».proof.Proof.Attention

/-!
# Constants and quotients over the extended reals
-/

@[expose] public section

namespace Cert.Gqa

open Idealize.ShloMosaic

/-- The float `0.125` is an eighth. -/
theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]
  norm_num

/-- The float `-∞` is the least extended real. -/
theorem ofBits_bot : Ideal.ofBits .f32 0xFF800000#32 = ⊥ := by
  simp [Ideal.ofBits, Ideal.ieee]

/-- A quotient of reals. -/
theorem div_coe_coe {y : ℝ} (h : y ≠ 0) (x : ℝ) : Ideal.div (x : EReal) (y : EReal) = ((x / y : ℝ) : EReal) := by
  rw [Ideal.div_coe h, ← EReal.coe_mul, mul_one_div]

/-- The logarithm of a positive real. -/
theorem log_coe_pos {x : ℝ} (h : 0 < x) : Ideal.log (x : EReal) = ((Real.log x : ℝ) : EReal) := by
  rw [Ideal.log_coe, if_neg (not_le.2 h)]

end Cert.Gqa
-- ==== Proof.Head.lean ====
/-
  The arithmetic of one head of the attention's backward block, read to the reals.

  A block holds 256 query rows. Its first row is row `r` of the sample. The block of the context
  rows (`r = 0`) looks at the first 256 keys, every other block at all 2304. Section `Context`
  treats the first, section `Full` the second: the same operations at two shapes.

  `Head` says what the tiles a head loads hold: its columns of the queries, of the forward output and
  of the cotangent, and its logarithms. From it follow the entries of the probabilities, of the
  score gradients, and of the products that go into the three results.
-/
module
public import proofs.«01_k».proof.Proof.Attention
public import proofs.«01_k».proof.Proof.Constants
public import proofs.«01_k».proof.Proof.Gen.KernelIdeal.Skeleton
public import Idealize.ShloMosaic.Lib.Pointwise
@[expose] public section
set_option maxRecDepth 16384
noncomputable section
namespace Cert.KernelIdeal.Backward
open Idealize.ShloMosaic Idealize.ShloMosaic.TcCoe Idealize.SL.Sem
open Cert.KernelIdeal Cert.KernelIdeal.Gen Cert.Gqa
variable (q k v ct : ℕ → ℕ → ℕ → ℝ)

/-- What the four tiles of query head (j, g) hold in the block of sample `b` that starts at row `r`. -/
structure Head (b j g r : ℕ) (a o e : FVec Ideal S256x64 .bf16) (l : Vec Ideal S1x1x256x1 .f32) : Prop where
  query : ∀ (i : Fin 256) (d : Fin 64), a (ix2 i d) = ((q b (r + i) (qcol j g d) : ℝ) : EReal)
  output : ∀ (i : Fin 256) (d : Fin 64), o (ix2 i d) = ((out q k v b j g (r + i) d : ℝ) : EReal)
  cotangent : ∀ (i : Fin 256) (d : Fin 64), e (ix2 i d) = ((ct b (r + i) (qcol j g d) : ℝ) : EReal)
  log : ∀ i : Fin 256, l (ix4 0 0 i 0) = ((lse q k b j g (r + i) : ℝ) : EReal)

/-- A tile that holds the forward output of query head (j, g). -/
def outTile (b j g r : ℕ) : FVec Ideal S256x64 .bf16 :=
  fun i => ((out q k v b j g (r + (i 0).val) (i 1).val : ℝ) : EReal)

/-- The value of the kernel's named factor of the queries. -/
theorem scale_value : (Named.named κ "log2e_scale" 0x3E38AA3B#32 : Ideal .f32) = (((Real.log 2)⁻¹ * 8⁻¹ : ℝ) : EReal) :=
  IdealRules.named_const.ideal_named_scalar _ _ _ _ rfl

/-- The value of the kernel's named factor of the key gradients. -/
theorem ln2_value : (Named.named κ "ln2" 0x3F317218#32 : Ideal .f32) = ((Real.log 2 : ℝ) : EReal) :=
  IdealRules.named_const.ideal_named_scalar _ _ _ _ rfl

/-- A probability out of the scaled score and the saved base-two logarithm. -/
theorem prob_eq {b j g i n : ℕ} (h : 256 ≤ i ∨ n < 256) :
    Real.rpow 2 ((∑ d : Fin 64, q b i (qcol j g d) * ((Real.log 2)⁻¹ * 8⁻¹) * k b n (kcol j d)) - lse q k b j g i) =
      prob q k b j g i n := by
  have hl : Real.log 2 ≠ 0 := (Real.log_pos one_lt_two).ne'
  have e : (∑ d : Fin 64, q b i (qcol j g d) * ((Real.log 2)⁻¹ * 8⁻¹) * k b n (kcol j d)) =
      (Real.log 2)⁻¹ * (score q k b j g i n * (1 / 8)) := by
    unfold score
    rw [Finset.sum_mul, Finset.mul_sum]
    exact Finset.sum_congr rfl fun d _ => by ring
  have r (x : ℝ) : Real.rpow 2 x = Real.exp (Real.log 2 * x) := Real.rpow_def_of_pos two_pos x
  have p := total_pos q k b j g i
  rw [r, e, lse, mul_sub, mul_inv_cancel_left₀ hl, mul_comm (Real.log (total q k b j g i)), mul_inv_cancel_left₀ hl,
    Real.exp_sub, Real.exp_log p, prob, weight_seen q k h]

/-- The scaled queries. -/
def scaled (a : FVec Ideal S256x64 .bf16) : FVec Ideal S256x64 .bf16 :=
  truncf .bf16 (mulf (extf .f32 a bitsLt_bf16_f32) (broadcast S256x64 (Named.named κ "log2e_scale" 0x3E38AA3B#32))) bitsLt_bf16_f32

/-- Row by row, the cotangent times the forward output. -/
def means (o e : FVec Ideal S256x64 .bf16) : FVec Ideal S256x1 .f32 :=
  shapeCast S256x1 (multiReduction .add [1] S256 (mulf (extf .f32 e bitsLt_bf16_f32) (extf .f32 o bitsLt_bf16_f32)) 0x00000000#32 reduces_S256x64_S256 (.inl rfl) rfl) shapeCasts_S256_S256x1

variable {q k v ct}
variable {b j g r : ℕ} {a o e : FVec Ideal S256x64 .bf16} {l : Vec Ideal S1x1x256x1 .f32}

theorem scaled_at (h : Head q k v ct b j g r a o e l) (i : Fin 256) (d : Fin 64) :
    scaled a (ix2 i d) = ((q b (r + i) (qcol j g d) * ((Real.log 2)⁻¹ * 8⁻¹) : ℝ) : EReal) := by
  unfold scaled
  pointwise [h.query i d, scale_value]
  rw [← EReal.coe_mul]

theorem means_at (h : Head q k v ct b j g r a o e l) (i : Fin 256) :
    means o e (ix2 i 0) = ((mean q k v ct b j g (r + i) : ℝ) : EReal) := by
  rw [mean_eq, ← coe_sum]
  unfold means
  pointwise [h.output, h.cotangent, ← EReal.coe_mul]

/-! ## The block of the context rows -/
namespace Context

/-- The probabilities. -/
def probs (kk : FVec Ideal S256x64 .bf16) (a : FVec Ideal S256x64 .bf16) (l : Vec Ideal S1x1x256x1 .f32) : FVec Ideal S256x256 .f32 :=
  exp2 (subf (matmul dot_S256x64_S256x64_S256x256_1_1_0_0_n_n none (scaled a) kk (constant S256x256 .f32 0x00000000#32))
    (broadcastTo S256x256 (shapeCast S256x1 l shapeCasts_S1x1x256x1_S256x1) broadcasts_S256x1_S256x256))

/-- The gradients of the scores. -/
def grads (kk vv : FVec Ideal S256x64 .bf16) (a o e : FVec Ideal S256x64 .bf16) (l : Vec Ideal S1x1x256x1 .f32) : FVec Ideal S256x256 .bf16 :=
  truncf .bf16 (mulf (probs kk a l)
    (subf (matmul dot_S256x64_S256x64_S256x256_1_1_0_0_n_n none e vv (constant S256x256 .f32 0x00000000#32))
      (broadcastTo S256x256 (means o e) broadcasts_S256x1_S256x256))) bitsLt_bf16_f32

/-- The head's columns of the query gradient. -/
def dqTile (kk vv : FVec Ideal S256x64 .bf16) (a o e : FVec Ideal S256x64 .bf16) (l : Vec Ideal S1x1x256x1 .f32) : FVec Ideal S256x64 .bf16 :=
  truncf .bf16 (mulf (matmul dot_S256x256_S256x64_S256x64_1_0_0_1_n_n none (grads kk vv a o e l) kk (constant S256x64 .f32 0x00000000#32))
    (broadcast S256x64 (Scalar.ofBits .f32 0x3E000000#32))) bitsLt_bf16_f32

/-- The head's part of the key gradient. -/
def dkTile (kk vv : FVec Ideal S256x64 .bf16) (a o e : FVec Ideal S256x64 .bf16) (l : Vec Ideal S1x1x256x1 .f32) : FVec Ideal S256x64 .f32 :=
  matmul dot_S256x256_S256x64_S256x64_0_0_1_1_n_n none (grads kk vv a o e l) (scaled a) (constant S256x64 .f32 0x00000000#32)

/-- The head's part of the value gradient. -/
def dvTile (kk : FVec Ideal S256x64 .bf16) (a e : FVec Ideal S256x64 .bf16) (l : Vec Ideal S1x1x256x1 .f32) : FVec Ideal S256x64 .f32 :=
  matmul dot_S256x256_S256x64_S256x64_0_0_1_1_n_n none (truncf .bf16 (probs kk a l) bitsLt_bf16_f32) e (constant S256x64 .f32 0x00000000#32)

variable {kk vv : FVec Ideal S256x64 .bf16}

theorem probs_at (hr : r = 0) (h : Head q k v ct b j g r a o e l)
    (hk : ∀ (n : Fin 256) (d : Fin 64), kk (ix2 n d) = ((k b n (kcol j d) : ℝ) : EReal)) (i : Fin 256) (n : Fin 256) :
    probs kk a l (ix2 i n) = ((prob q k b j g (r + i) n : ℝ) : EReal) := by
  rw [← prob_eq q k (i := r + i) (n := n) (by omega)]
  unfold probs
  pointwise [scaled_at h, hk, h.log, ← EReal.coe_mul, coe_sum, ← EReal.coe_sub]
  exact Ideal.exp2_coe _

theorem grads_at (hr : r = 0) (h : Head q k v ct b j g r a o e l)
    (hk : ∀ (n : Fin 256) (d : Fin 64), kk (ix2 n d) = ((k b n (kcol j d) : ℝ) : EReal))
    (hv : ∀ (n : Fin 256) (d : Fin 64), vv (ix2 n d) = ((v b n (kcol j d) : ℝ) : EReal)) (i : Fin 256) (n : Fin 256) :
    grads kk vv a o e l (ix2 i n) = ((dscore q k v ct b j g (r + i) n : ℝ) : EReal) := by
  unfold grads
  pointwise [probs_at hr h hk, hv, h.cotangent, means_at h, ← EReal.coe_mul, coe_sum, ← EReal.coe_sub]
  rfl

theorem dqTile_at (hr : r = 0) (h : Head q k v ct b j g r a o e l)
    (hk : ∀ (n : Fin 256) (d : Fin 64), kk (ix2 n d) = ((k b n (kcol j d) : ℝ) : EReal))
    (hv : ∀ (n : Fin 256) (d : Fin 64), vv (ix2 n d) = ((v b n (kcol j d) : ℝ) : EReal)) (i : Fin 256) (d : Fin 64) :
    dqTile kk vv a o e l (ix2 i d) = ((dq q k v ct b j g (r + i) d : ℝ) : EReal) := by
  have s : dq q k v ct b j g (r + i) d = (∑ n : Fin 256, dscore q k v ct b j g (r + i) n * k b n (kcol j d)) * (1 / 8) := by
    unfold dq
    rw [sum_ctx (fun n => dscore q k v ct b j g (r + i) n * k b n (kcol j d))]
    intro n hn
    show dscore q k v ct b j g (r + i) n * _ = 0
    rw [dscore_ctx q k v ct (by omega) hn, zero_mul]
  rw [s]
  unfold dqTile
  pointwise [grads_at hr h hk hv, hk, ← EReal.coe_mul, coe_sum, ofBits_eighth]

theorem dkTile_at (hr : r = 0) (h : Head q k v ct b j g r a o e l)
    (hk : ∀ (n : Fin 256) (d : Fin 64), kk (ix2 n d) = ((k b n (kcol j d) : ℝ) : EReal))
    (hv : ∀ (n : Fin 256) (d : Fin 64), vv (ix2 n d) = ((v b n (kcol j d) : ℝ) : EReal)) (n : Fin 256) (d : Fin 64) :
    dkTile kk vv a o e l (ix2 n d) = (((∑ i : Fin 256, dkRow q k v ct b j g (r + i) n d) * (Real.log 2)⁻¹ : ℝ) : EReal) := by
  have s : (∑ i : Fin 256, dkRow q k v ct b j g (r + i) n d) * (Real.log 2)⁻¹ =
      ∑ i : Fin 256, dscore q k v ct b j g (r + i) n * (q b (r + i) (qcol j g d) * ((Real.log 2)⁻¹ * 8⁻¹)) := by
    rw [Finset.sum_mul]
    exact Finset.sum_congr rfl fun i _ => by unfold dkRow; ring
  rw [s, ← coe_sum]
  unfold dkTile
  pointwise [grads_at hr h hk hv, scaled_at h, ← EReal.coe_mul]

theorem dvTile_at (hr : r = 0) (h : Head q k v ct b j g r a o e l)
    (hk : ∀ (n : Fin 256) (d : Fin 64), kk (ix2 n d) = ((k b n (kcol j d) : ℝ) : EReal)) (n : Fin 256) (d : Fin 64) :
    dvTile kk a e l (ix2 n d) = ((∑ i : Fin 256, dvRow q k ct b j g (r + i) n d : ℝ) : EReal) := by
  rw [← coe_sum]
  unfold dvTile
  pointwise [probs_at hr h hk, h.cotangent, ← EReal.coe_mul]
  rfl

/-- A key head's part of the key gradient: its four query heads, added in order. -/
def dkGroup (kk vv : FVec Ideal S256x64 .bf16) (a0 a1 a2 a3 o0 o1 o2 o3 e0 e1 e2 e3 : FVec Ideal S256x64 .bf16) (l0 l1 l2 l3 : Vec Ideal S1x1x256x1 .f32) : FVec Ideal S256x64 .f32 :=
  addf (addf (addf (dkTile kk vv a0 o0 e0 l0) (dkTile kk vv a1 o1 e1 l1)) (dkTile kk vv a2 o2 e2 l2)) (dkTile kk vv a3 o3 e3 l3)

/-- A key head's part of the value gradient: its four query heads, added in order. -/
def dvGroup (kk : FVec Ideal S256x64 .bf16) (a0 a1 a2 a3 e0 e1 e2 e3 : FVec Ideal S256x64 .bf16) (l0 l1 l2 l3 : Vec Ideal S1x1x256x1 .f32) : FVec Ideal S256x64 .f32 :=
  addf (addf (addf (dvTile kk a0 e0 l0) (dvTile kk a1 e1 l1)) (dvTile kk a2 e2 l2)) (dvTile kk a3 e3 l3)

theorem dkGroup_at (hr : r = 0) {a0 a1 a2 a3 o0 o1 o2 o3 e0 e1 e2 e3 : FVec Ideal S256x64 .bf16} {l0 l1 l2 l3 : Vec Ideal S1x1x256x1 .f32}
    (h0 : Head q k v ct b j 0 r a0 o0 e0 l0)
    (h1 : Head q k v ct b j 1 r a1 o1 e1 l1)
    (h2 : Head q k v ct b j 2 r a2 o2 e2 l2)
    (h3 : Head q k v ct b j 3 r a3 o3 e3 l3)
    (hk : ∀ (n : Fin 256) (d : Fin 64), kk (ix2 n d) = ((k b n (kcol j d) : ℝ) : EReal))
    (hv : ∀ (n : Fin 256) (d : Fin 64), vv (ix2 n d) = ((v b n (kcol j d) : ℝ) : EReal)) (n : Fin 256) (d : Fin 64) :
    dkGroup kk vv a0 a1 a2 a3 o0 o1 o2 o3 e0 e1 e2 e3 l0 l1 l2 l3 (ix2 n d) =
      (((∑ g : Fin 4, ∑ i : Fin 256, dkRow q k v ct b j g (r + i) n d) * (Real.log 2)⁻¹ : ℝ) : EReal) := by
  unfold dkGroup
  pointwise [dkTile_at hr h0 hk hv, dkTile_at hr h1 hk hv, dkTile_at hr h2 hk hv, dkTile_at hr h3 hk hv, ← EReal.coe_add]
  rw [Fin.sum_univ_four, add_mul, add_mul, add_mul]
  rfl

theorem dvGroup_at (hr : r = 0) {a0 a1 a2 a3 o0 o1 o2 o3 e0 e1 e2 e3 : FVec Ideal S256x64 .bf16} {l0 l1 l2 l3 : Vec Ideal S1x1x256x1 .f32}
    (h0 : Head q k v ct b j 0 r a0 o0 e0 l0)
    (h1 : Head q k v ct b j 1 r a1 o1 e1 l1)
    (h2 : Head q k v ct b j 2 r a2 o2 e2 l2)
    (h3 : Head q k v ct b j 3 r a3 o3 e3 l3)
    (hk : ∀ (n : Fin 256) (d : Fin 64), kk (ix2 n d) = ((k b n (kcol j d) : ℝ) : EReal)) (n : Fin 256) (d : Fin 64) :
    dvGroup kk a0 a1 a2 a3 e0 e1 e2 e3 l0 l1 l2 l3 (ix2 n d) =
      ((∑ g : Fin 4, ∑ i : Fin 256, dvRow q k ct b j g (r + i) n d : ℝ) : EReal) := by
  unfold dvGroup
  pointwise [dvTile_at hr h0 hk, dvTile_at hr h1 hk, dvTile_at hr h2 hk, dvTile_at hr h3 hk, ← EReal.coe_add]
  rw [Fin.sum_univ_four]
  rfl

end Context

/-! ## Every other block -/
namespace Full

/-- The probabilities. -/
def probs (kk : FVec Ideal S2304x64 .bf16) (a : FVec Ideal S256x64 .bf16) (l : Vec Ideal S1x1x256x1 .f32) : FVec Ideal S256x2304 .f32 :=
  exp2 (subf (matmul dot_S256x64_S2304x64_S256x2304_1_1_0_0_n_n none (scaled a) kk (constant S256x2304 .f32 0x00000000#32))
    (broadcastTo S256x2304 (shapeCast S256x1 l shapeCasts_S1x1x256x1_S256x1) broadcasts_S256x1_S256x2304))

/-- The gradients of the scores. -/
def grads (kk vv : FVec Ideal S2304x64 .bf16) (a o e : FVec Ideal S256x64 .bf16) (l : Vec Ideal S1x1x256x1 .f32) : FVec Ideal S256x2304 .bf16 :=
  truncf .bf16 (mulf (probs kk a l)
    (subf (matmul dot_S256x64_S2304x64_S256x2304_1_1_0_0_n_n none e vv (constant S256x2304 .f32 0x00000000#32))
      (broadcastTo S256x2304 (means o e) broadcasts_S256x1_S256x2304))) bitsLt_bf16_f32

/-- The head's columns of the query gradient. -/
def dqTile (kk vv : FVec Ideal S2304x64 .bf16) (a o e : FVec Ideal S256x64 .bf16) (l : Vec Ideal S1x1x256x1 .f32) : FVec Ideal S256x64 .bf16 :=
  truncf .bf16 (mulf (matmul dot_S256x2304_S2304x64_S256x64_1_0_0_1_n_n none (grads kk vv a o e l) kk (constant S256x64 .f32 0x00000000#32))
    (broadcast S256x64 (Scalar.ofBits .f32 0x3E000000#32))) bitsLt_bf16_f32

/-- The head's part of the key gradient. -/
def dkTile (kk vv : FVec Ideal S2304x64 .bf16) (a o e : FVec Ideal S256x64 .bf16) (l : Vec Ideal S1x1x256x1 .f32) : FVec Ideal S2304x64 .f32 :=
  matmul dot_S256x2304_S256x64_S2304x64_0_0_1_1_n_n none (grads kk vv a o e l) (scaled a) (constant S2304x64 .f32 0x00000000#32)

/-- The head's part of the value gradient. -/
def dvTile (kk : FVec Ideal S2304x64 .bf16) (a e : FVec Ideal S256x64 .bf16) (l : Vec Ideal S1x1x256x1 .f32) : FVec Ideal S2304x64 .f32 :=
  matmul dot_S256x2304_S256x64_S2304x64_0_0_1_1_n_n none (truncf .bf16 (probs kk a l) bitsLt_bf16_f32) e (constant S2304x64 .f32 0x00000000#32)

variable {kk vv : FVec Ideal S2304x64 .bf16}

theorem probs_at (hr : 256 ≤ r) (h : Head q k v ct b j g r a o e l)
    (hk : ∀ (n : Fin 2304) (d : Fin 64), kk (ix2 n d) = ((k b n (kcol j d) : ℝ) : EReal)) (i : Fin 256) (n : Fin 2304) :
    probs kk a l (ix2 i n) = ((prob q k b j g (r + i) n : ℝ) : EReal) := by
  rw [← prob_eq q k (i := r + i) (n := n) (by omega)]
  unfold probs
  pointwise [scaled_at h, hk, h.log, ← EReal.coe_mul, coe_sum, ← EReal.coe_sub]
  exact Ideal.exp2_coe _

theorem grads_at (hr : 256 ≤ r) (h : Head q k v ct b j g r a o e l)
    (hk : ∀ (n : Fin 2304) (d : Fin 64), kk (ix2 n d) = ((k b n (kcol j d) : ℝ) : EReal))
    (hv : ∀ (n : Fin 2304) (d : Fin 64), vv (ix2 n d) = ((v b n (kcol j d) : ℝ) : EReal)) (i : Fin 256) (n : Fin 2304) :
    grads kk vv a o e l (ix2 i n) = ((dscore q k v ct b j g (r + i) n : ℝ) : EReal) := by
  unfold grads
  pointwise [probs_at hr h hk, hv, h.cotangent, means_at h, ← EReal.coe_mul, coe_sum, ← EReal.coe_sub]
  rfl

theorem dqTile_at (hr : 256 ≤ r) (h : Head q k v ct b j g r a o e l)
    (hk : ∀ (n : Fin 2304) (d : Fin 64), kk (ix2 n d) = ((k b n (kcol j d) : ℝ) : EReal))
    (hv : ∀ (n : Fin 2304) (d : Fin 64), vv (ix2 n d) = ((v b n (kcol j d) : ℝ) : EReal)) (i : Fin 256) (d : Fin 64) :
    dqTile kk vv a o e l (ix2 i d) = ((dq q k v ct b j g (r + i) d : ℝ) : EReal) := by
  unfold dq
  unfold dqTile
  pointwise [grads_at hr h hk hv, hk, ← EReal.coe_mul, coe_sum, ofBits_eighth]

theorem dkTile_at (hr : 256 ≤ r) (h : Head q k v ct b j g r a o e l)
    (hk : ∀ (n : Fin 2304) (d : Fin 64), kk (ix2 n d) = ((k b n (kcol j d) : ℝ) : EReal))
    (hv : ∀ (n : Fin 2304) (d : Fin 64), vv (ix2 n d) = ((v b n (kcol j d) : ℝ) : EReal)) (n : Fin 2304) (d : Fin 64) :
    dkTile kk vv a o e l (ix2 n d) = (((∑ i : Fin 256, dkRow q k v ct b j g (r + i) n d) * (Real.log 2)⁻¹ : ℝ) : EReal) := by
  have s : (∑ i : Fin 256, dkRow q k v ct b j g (r + i) n d) * (Real.log 2)⁻¹ =
      ∑ i : Fin 256, dscore q k v ct b j g (r + i) n * (q b (r + i) (qcol j g d) * ((Real.log 2)⁻¹ * 8⁻¹)) := by
    rw [Finset.sum_mul]
    exact Finset.sum_congr rfl fun i _ => by unfold dkRow; ring
  rw [s, ← coe_sum]
  unfold dkTile
  pointwise [grads_at hr h hk hv, scaled_at h, ← EReal.coe_mul]

theorem dvTile_at (hr : 256 ≤ r) (h : Head q k v ct b j g r a o e l)
    (hk : ∀ (n : Fin 2304) (d : Fin 64), kk (ix2 n d) = ((k b n (kcol j d) : ℝ) : EReal)) (n : Fin 2304) (d : Fin 64) :
    dvTile kk a e l (ix2 n d) = ((∑ i : Fin 256, dvRow q k ct b j g (r + i) n d : ℝ) : EReal) := by
  rw [← coe_sum]
  unfold dvTile
  pointwise [probs_at hr h hk, h.cotangent, ← EReal.coe_mul]
  rfl

/-- A key head's part of the key gradient: its four query heads, added in order. -/
def dkGroup (kk vv : FVec Ideal S2304x64 .bf16) (a0 a1 a2 a3 o0 o1 o2 o3 e0 e1 e2 e3 : FVec Ideal S256x64 .bf16) (l0 l1 l2 l3 : Vec Ideal S1x1x256x1 .f32) : FVec Ideal S2304x64 .f32 :=
  addf (addf (addf (dkTile kk vv a0 o0 e0 l0) (dkTile kk vv a1 o1 e1 l1)) (dkTile kk vv a2 o2 e2 l2)) (dkTile kk vv a3 o3 e3 l3)

/-- A key head's part of the value gradient: its four query heads, added in order. -/
def dvGroup (kk : FVec Ideal S2304x64 .bf16) (a0 a1 a2 a3 e0 e1 e2 e3 : FVec Ideal S256x64 .bf16) (l0 l1 l2 l3 : Vec Ideal S1x1x256x1 .f32) : FVec Ideal S2304x64 .f32 :=
  addf (addf (addf (dvTile kk a0 e0 l0) (dvTile kk a1 e1 l1)) (dvTile kk a2 e2 l2)) (dvTile kk a3 e3 l3)

theorem dkGroup_at (hr : 256 ≤ r) {a0 a1 a2 a3 o0 o1 o2 o3 e0 e1 e2 e3 : FVec Ideal S256x64 .bf16} {l0 l1 l2 l3 : Vec Ideal S1x1x256x1 .f32}
    (h0 : Head q k v ct b j 0 r a0 o0 e0 l0)
    (h1 : Head q k v ct b j 1 r a1 o1 e1 l1)
    (h2 : Head q k v ct b j 2 r a2 o2 e2 l2)
    (h3 : Head q k v ct b j 3 r a3 o3 e3 l3)
    (hk : ∀ (n : Fin 2304) (d : Fin 64), kk (ix2 n d) = ((k b n (kcol j d) : ℝ) : EReal))
    (hv : ∀ (n : Fin 2304) (d : Fin 64), vv (ix2 n d) = ((v b n (kcol j d) : ℝ) : EReal)) (n : Fin 2304) (d : Fin 64) :
    dkGroup kk vv a0 a1 a2 a3 o0 o1 o2 o3 e0 e1 e2 e3 l0 l1 l2 l3 (ix2 n d) =
      (((∑ g : Fin 4, ∑ i : Fin 256, dkRow q k v ct b j g (r + i) n d) * (Real.log 2)⁻¹ : ℝ) : EReal) := by
  unfold dkGroup
  pointwise [dkTile_at hr h0 hk hv, dkTile_at hr h1 hk hv, dkTile_at hr h2 hk hv, dkTile_at hr h3 hk hv, ← EReal.coe_add]
  rw [Fin.sum_univ_four, add_mul, add_mul, add_mul]
  rfl

theorem dvGroup_at (hr : 256 ≤ r) {a0 a1 a2 a3 o0 o1 o2 o3 e0 e1 e2 e3 : FVec Ideal S256x64 .bf16} {l0 l1 l2 l3 : Vec Ideal S1x1x256x1 .f32}
    (h0 : Head q k v ct b j 0 r a0 o0 e0 l0)
    (h1 : Head q k v ct b j 1 r a1 o1 e1 l1)
    (h2 : Head q k v ct b j 2 r a2 o2 e2 l2)
    (h3 : Head q k v ct b j 3 r a3 o3 e3 l3)
    (hk : ∀ (n : Fin 2304) (d : Fin 64), kk (ix2 n d) = ((k b n (kcol j d) : ℝ) : EReal)) (n : Fin 2304) (d : Fin 64) :
    dvGroup kk a0 a1 a2 a3 e0 e1 e2 e3 l0 l1 l2 l3 (ix2 n d) =
      ((∑ g : Fin 4, ∑ i : Fin 256, dvRow q k ct b j g (r + i) n d : ℝ) : EReal) := by
  unfold dvGroup
  pointwise [dvTile_at hr h0 hk, dvTile_at hr h1 hk, dvTile_at hr h2 hk, dvTile_at hr h3 hk, ← EReal.coe_add]
  rw [Fin.sum_univ_four]
  rfl

end Full

end Cert.KernelIdeal.Backward
-- ==== Proof.Blocks.lean ====
/-
  What one grid point of the attention's backward kernel leaves: its block of the query gradient, and the two
  accumulators of the key and value gradients. The kernel has three kinds of points: the first of a sample (the
  context rows; it sets the accumulators), the middle ones, and the last (it also writes the accumulators back).
-/
module
public import proofs.«01_k».proof.Proof.Head
public import proofs.«01_k».proof.Proof.Gen.KernelIdeal.Value
public import Idealize.ShloMosaic.Lib.Pipeline.ValueKit
@[expose] public section
set_option maxRecDepth 16384
noncomputable section
namespace Cert.KernelIdeal.Backward
open Idealize.ShloMosaic Idealize.ShloMosaic.TcCoe Idealize.SL.Sem
open Cert.KernelIdeal Cert.KernelIdeal.Gen Cert.Gqa

/-- Eight heads' columns side by side. -/
theorem heads_at (G : ℕ → ℕ → ℕ → ℕ → ℝ) (f0 f1 f2 f3 f4 f5 f6 f7 : FVec Ideal S256x64 .bf16)
    (h0 : ∀ (i : Fin 256) (d : Fin 64), f0 (ix2 i d) = ((G 0 0 i d : ℝ) : EReal))
    (h1 : ∀ (i : Fin 256) (d : Fin 64), f1 (ix2 i d) = ((G 0 1 i d : ℝ) : EReal))
    (h2 : ∀ (i : Fin 256) (d : Fin 64), f2 (ix2 i d) = ((G 0 2 i d : ℝ) : EReal))
    (h3 : ∀ (i : Fin 256) (d : Fin 64), f3 (ix2 i d) = ((G 0 3 i d : ℝ) : EReal))
    (h4 : ∀ (i : Fin 256) (d : Fin 64), f4 (ix2 i d) = ((G 1 0 i d : ℝ) : EReal))
    (h5 : ∀ (i : Fin 256) (d : Fin 64), f5 (ix2 i d) = ((G 1 1 i d : ℝ) : EReal))
    (h6 : ∀ (i : Fin 256) (d : Fin 64), f6 (ix2 i d) = ((G 1 2 i d : ℝ) : EReal))
    (h7 : ∀ (i : Fin 256) (d : Fin 64), f7 (ix2 i d) = ((G 1 3 i d : ℝ) : EReal)) (i : Fin 256) (c : Fin 512) :
    shapeCast S1x256x512 (concatenate S256x512 1 [⟨S256x64, f0⟩, ⟨S256x64, f1⟩, ⟨S256x64, f2⟩, ⟨S256x64, f3⟩, ⟨S256x64, f4⟩, ⟨S256x64, f5⟩, ⟨S256x64, f6⟩, ⟨S256x64, f7⟩] concatenates_S256x64_S256x64_S256x64_S256x64_S256x64_S256x64_S256x64_S256x64_S256x512_d1) shapeCasts_S256x512_S1x256x512 (ix3 0 i c) =
      ((G (c / 256) (c / 64 % 4) i (c % 64) : ℝ) : EReal) := by
  have hc := c.isLt
  pointwise [h0, h1, h2, h3, h4, h5, h6, h7]
  have key (j g e : ℕ) (hj : c.val / 256 = j) (hg : c.val / 64 % 4 = g) (he : c.val % 64 = e) :
      ((G j g i e : ℝ) : EReal) = ((G (c / 256) (c / 64 % 4) i (c % 64) : ℝ) : EReal) := by subst hj hg he; rfl
  split_ifs <;> exact key _ _ _ (by omega) (by omega) (by omega)

/-- What a context block adds to the first 256 rows of an accumulator. -/
theorem add_ctx (A : ℕ → ℕ → ℝ) (G : ℕ → ℕ → ℕ → ℝ) (acc : FVec Ideal S256x128 .f32) (f0 f1 : FVec Ideal S256x64 .f32)
    (ha : ∀ (n : Fin 256) (c : Fin 128), acc (ix2 n c) = ((A n c : ℝ) : EReal))
    (h0 : ∀ (n : Fin 256) (d : Fin 64), f0 (ix2 n d) = ((G 0 n d : ℝ) : EReal))
    (h1 : ∀ (n : Fin 256) (d : Fin 64), f1 (ix2 n d) = ((G 1 n d : ℝ) : EReal)) (n : Fin 256) (c : Fin 128) :
    shapeCast S256x128 (addf acc (concatenate S256x128 1 [⟨S256x64, f0⟩, ⟨S256x64, f1⟩] concatenates_S256x64_S256x64_S256x128_d1)) shapeCasts_S256x128_S256x128 (ix2 n c) =
      ((A n c + G (c / 64) n (c % 64) : ℝ) : EReal) := by
  have hc := c.isLt
  rw [EReal.coe_add]
  pointwise [ha, h0, h1]
  have key (j e : ℕ) (hj : c.val / 64 = j) (he : c.val % 64 = e) :
      ((G j n e : ℝ) : EReal) = ((G (c / 64) n (c % 64) : ℝ) : EReal) := by subst hj he; rfl
  congr 1
  split_ifs <;> exact key _ _ (by omega) (by omega)

/-- What every other block adds to an accumulator. -/
theorem add_full (A : ℕ → ℕ → ℝ) (G : ℕ → ℕ → ℕ → ℝ) (acc : FVec Ideal S2304x128 .f32) (f0 f1 : FVec Ideal S2304x64 .f32)
    (ha : ∀ (n : Fin 2304) (c : Fin 128), acc (ix2 n c) = ((A n c : ℝ) : EReal))
    (h0 : ∀ (n : Fin 2304) (d : Fin 64), f0 (ix2 n d) = ((G 0 n d : ℝ) : EReal))
    (h1 : ∀ (n : Fin 2304) (d : Fin 64), f1 (ix2 n d) = ((G 1 n d : ℝ) : EReal)) (n : Fin 2304) (c : Fin 128) :
    shapeCast S2304x128 (addf acc (concatenate S2304x128 1 [⟨S2304x64, f0⟩, ⟨S2304x64, f1⟩] concatenates_S2304x64_S2304x64_S2304x128_d1)) shapeCasts_S2304x128_S2304x128 (ix2 n c) =
      ((A n c + G (c / 64) n (c % 64) : ℝ) : EReal) := by
  have hc := c.isLt
  rw [EReal.coe_add]
  pointwise [ha, h0, h1]
  have key (j e : ℕ) (hj : c.val / 64 = j) (he : c.val % 64 = e) :
      ((G j n e : ℝ) : EReal) = ((G (c / 64) n (c % 64) : ℝ) : EReal) := by subst hj he; rfl
  congr 1
  split_ifs <;> exact key _ _ (by omega) (by omega)

variable (q k v ct : ℕ → ℕ → ℕ → ℝ)
/-- What the blocks staged for the rows `r …` of sample `b` hold. -/
structure Blocks (b r : ℕ) (x0 x3 x5 : Vec Ideal S1x256x512 .bf16) (x1 x2 : Vec Ideal S1x2304x128 .bf16) (x4 : Vec Ideal S1x8x256x1 .f32) : Prop where
  query : ∀ (i : Fin 256) (c : Fin 512), x0 (ix3 0 i c) = ((q b (r + i) c : ℝ) : EReal)
  key : ∀ (n : Fin 2304) (c : Fin 128), x1 (ix3 0 n c) = ((k b n c : ℝ) : EReal)
  value : ∀ (n : Fin 2304) (c : Fin 128), x2 (ix3 0 n c) = ((v b n c : ℝ) : EReal)
  output : ∀ (i : Fin 256) (c : Fin 512), x3 (ix3 0 i c) = ((out q k v b (c / 256) (c / 64 % 4) (r + i) (c % 64) : ℝ) : EReal)
  log : ∀ (h : Fin 8) (i : Fin 256), x4 (ix4 0 h i 0) = ((lse q k b (h / 4) (h % 4) (r + i) : ℝ) : EReal)
  cotangent : ∀ (i : Fin 256) (c : Fin 512), x5 (ix3 0 i c) = ((ct b (r + i) c : ℝ) : EReal)

variable (m : (ℓ : Loc nD τ sig) → Buf (Elt Ideal) ℓ)
variable {q k v ct}

/-- The first 256 rows of an accumulator, when they were stored last. -/
theorem rows_in (w : FVec Ideal S256x128 .f32) (L : List (View.Piece (Elt Ideal) S2304x128 .f32)) (n : Fin 2304) (c : Fin 128) (hn : n.val < 256) :
    View.canon ((⟨Rect.unit (s := S2304x128) ![0, 0] S256x128.size inb_S2304x128_S256x128_0_0, w⟩ : View.Piece (Elt Ideal) S2304x128 .f32) :: L) (ix2 n c) =
      w (ix2 ⟨n.val, hn⟩ c) := by
  have e : (ix2 n c : S2304x128.Idx) = (Rect.unit (s := S2304x128) ![0, 0] S256x128.size inb_S2304x128_S256x128_0_0).emb (ix2 ⟨n.val, hn⟩ c) := by
    funext a
    apply Fin.ext
    match a with
    | ⟨0, _⟩ => show n.val = 0 + 1 * n.val; omega
    | ⟨1, _⟩ => show c.val = 0 + 1 * c.val; omega
  rw [e]
  exact View.canon_cons_emb (Rect.unit (s := S2304x128) ![0, 0] S256x128.size inb_S2304x128_S256x128_0_0) w L _

/-- The other rows of an accumulator, when its first 256 were stored last. -/
theorem rows_out (w : FVec Ideal S256x128 .f32) (L : List (View.Piece (Elt Ideal) S2304x128 .f32)) (n : Fin 2304) (c : Fin 128) (hn : ¬ n.val < 256) :
    View.canon ((⟨Rect.unit (s := S2304x128) ![0, 0] S256x128.size inb_S2304x128_S256x128_0_0, w⟩ : View.Piece (Elt Ideal) S2304x128 .f32) :: L) (ix2 n c) =
      View.canon L (ix2 n c) := by
  refine View.canon_cons_of_not_mem _ L fun h => hn ?_
  have h0 := (Rect.mem_set_unit (s := S2304x128) (off := ![0, 0]) (size := S256x128.size) (inb := inb_S2304x128_S256x128_0_0)).1 h 0
  have : n.val < 0 + 256 := h0.2
  omega

theorem zero1 (y : S2304x128.Idx) : (k0_pay1 (F := Ideal)) y = 0 := by
  have e : y = ix2 (y 0) (y 1) := by
    funext a
    match a with
    | ⟨0, _⟩ => rfl
    | ⟨1, _⟩ => rfl
  rw [e]
  pointwise [k0_pay1]

theorem zero2 (y : S2304x128.Idx) : (k0_pay2 (F := Ideal)) y = 0 := by
  have e : y = ix2 (y 0) (y 1) := by
    funext a
    match a with
    | ⟨0, _⟩ => rfl
    | ⟨1, _⟩ => rfl
  rw [e]
  pointwise [k0_pay2]

/-- The first rows of an accumulator read back after it was set to zero. -/
theorem zeros {κ : Kind} {sp : Space} (v : View sig κ sp S2304x128 .f32) (w : FVec Ideal S2304x128 .f32) (hw : ∀ y, w y = 0) (x : S256x128.Idx) :
    v.readCov [(⟨Rect.unit (s := S2304x128) ![0, 0] S2304x128.size inb_S2304x128_S2304x128_0_0, w⟩ : View.Piece (Elt Ideal) S2304x128 .f32)]
      (Rect.unit (s := S2304x128) ![0, 0] S256x128.size inb_S2304x128_S256x128_0_0).toLoadRect x = ((0 : ℝ) : EReal) := by
  rw [View.readCov_eq_canon', View.canon_cons_unit_lit _ _ _ (by decide)]
  exact (hw _).trans EReal.coe_zero.symm

theorem flush_dk (w : FVec Ideal S2304x128 .f32) (x : ℝ) (n : Fin 2304) (e : Fin 128) (h : w (ix2 n e) = ((x : ℝ) : EReal)) :
    k0_pay5 (F := Ideal) w (ix3 0 n e) = ((x * Real.log 2 : ℝ) : EReal) := by
  rw [EReal.coe_mul]
  pointwise [k0_pay5, h, ln2_value]

theorem flush_dv (w : FVec Ideal S2304x128 .f32) (x : ℝ) (n : Fin 2304) (e : Fin 128) (h : w (ix2 n e) = ((x : ℝ) : EReal)) :
    k0_pay6 (F := Ideal) w (ix3 0 n e) = ((x : ℝ) : EReal) := by
  pointwise [k0_pay6, h]

set_option maxHeartbeats 1600000 in
theorem dq_A {b r : ℕ} (c : Dev nD) (t : Fin cfg0.N) (h0 : t.val % 9 = 0) (h1 : t.val % 9 = 0) (h2 : ¬1 ≤ t.val % 9) (h3 : ¬t.val % 9 = 8)
    (hr : r = 0) (hB : Blocks q k v ct b r (iblk m c 0 t) (iblk m c 3 t) (iblk m c 5 t) (iblk m c 1 t) (iblk m c 2 t) (iblk m c 4 t)) (i : Fin 256) (e : Fin 512) :
    (outsAt0 m c t.val t.isLt).1 (ix3 0 i e) = ((dq q k v ct b (e / 256) (e / 64 % 4) (r + i) (e % 64) : ℝ) : EReal) := by
  rw [outsAt0_A m c t h0 h1 h2 h3]
  frame_out
  refine heads_at (fun j g i d => dq q k v ct b j g (r + i) d) _ _ _ _ _ _ _ _ ?_ ?_ ?_ ?_ ?_ ?_ ?_ ?_ i e
  all_goals
    intro i d
    refine Context.dqTile_at hr (Head.mk ?_ ?_ ?_ ?_) ?_ ?_ i d
  all_goals
    intros
    pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
  all_goals
    congr 2 <;> (try simp only [qcol, kcol]) <;> omega

set_option maxHeartbeats 1600000 in
theorem dk_A {b r : ℕ} (c : Dev nD) (t : Fin cfg0.N) (h0 : t.val % 9 = 0) (h1 : t.val % 9 = 0) (h2 : ¬1 ≤ t.val % 9) (h3 : ¬t.val % 9 = 8)
    (hr : r = 0) (hB : Blocks q k v ct b r (iblk m c 0 t) (iblk m c 3 t) (iblk m c 5 t) (iblk m c 1 t) (iblk m c 2 t) (iblk m c 4 t)) (n : Fin 2304) (e : Fin 128) :
    (outsAt0 m c t.val t.isLt).2.2.2.1 (ix2 n e) = (((∑ g : Fin 4, ∑ i : Fin 256, dkRow q k v ct b (e / 64) g (r + i) n (e % 64)) * (Real.log 2)⁻¹ : ℝ) : EReal) := by
  rw [outsAt0_A m c t h0 h1 h2 h3]
  frame_out
  by_cases hn : n.val < 256
  · refine (rows_in _ _ n e hn).trans ?_
    have ha := add_ctx (fun _ _ => 0) (fun j n d => (∑ g : Fin 4, ∑ i : Fin 256, dkRow q k v ct b j g (r + i) n d) * (Real.log 2)⁻¹)
    simp only [zero_add] at ha
    refine ha _ _ _ ?_ ?_ ?_ ⟨n.val, hn⟩ e
    · intro n e
      exact zeros _ _ zero1 _
    all_goals
      intro n d
      refine Context.dkGroup_at hr (Head.mk ?_ ?_ ?_ ?_) (Head.mk ?_ ?_ ?_ ?_) (Head.mk ?_ ?_ ?_ ?_) (Head.mk ?_ ?_ ?_ ?_) ?_ ?_ n d
    all_goals
      intros
      pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
    all_goals
      congr 2 <;> (try simp only [qcol, kcol]) <;> omega
  · refine (rows_out _ _ n e hn).trans ?_
    rw [View.canon_cons_unit_lit _ _ _ (by decide)]
    refine (zero1 _).trans ?_
    rw [Finset.sum_eq_zero fun g _ => Finset.sum_eq_zero fun i _ => dkRow_ctx q k v ct _ (by omega) (by omega)]
    simp

set_option maxHeartbeats 1600000 in
theorem dv_A {b r : ℕ} (c : Dev nD) (t : Fin cfg0.N) (h0 : t.val % 9 = 0) (h1 : t.val % 9 = 0) (h2 : ¬1 ≤ t.val % 9) (h3 : ¬t.val % 9 = 8)
    (hr : r = 0) (hB : Blocks q k v ct b r (iblk m c 0 t) (iblk m c 3 t) (iblk m c 5 t) (iblk m c 1 t) (iblk m c 2 t) (iblk m c 4 t)) (n : Fin 2304) (e : Fin 128) :
    (outsAt0 m c t.val t.isLt).2.2.2.2 (ix2 n e) = ((∑ g : Fin 4, ∑ i : Fin 256, dvRow q k ct b (e / 64) g (r + i) n (e % 64) : ℝ) : EReal) := by
  rw [outsAt0_A m c t h0 h1 h2 h3]
  frame_out
  by_cases hn : n.val < 256
  · refine (rows_in _ _ n e hn).trans ?_
    have ha := add_ctx (fun _ _ => 0) (fun j n d => ∑ g : Fin 4, ∑ i : Fin 256, dvRow q k ct b j g (r + i) n d)
    simp only [zero_add] at ha
    refine ha _ _ _ ?_ ?_ ?_ ⟨n.val, hn⟩ e
    · intro n e
      exact zeros _ _ zero2 _
    · intro n d
      refine Context.dvGroup_at (v := v) (o0 := outTile q k v b 0 0 r) (o1 := outTile q k v b 0 1 r) (o2 := outTile q k v b 0 2 r) (o3 := outTile q k v b 0 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
      all_goals
        intros
        pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
      all_goals
        congr 2 <;> (try simp only [qcol, kcol]) <;> omega
    · intro n d
      refine Context.dvGroup_at (v := v) (o0 := outTile q k v b 1 0 r) (o1 := outTile q k v b 1 1 r) (o2 := outTile q k v b 1 2 r) (o3 := outTile q k v b 1 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
      all_goals
        intros
        pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
      all_goals
        congr 2 <;> (try simp only [qcol, kcol]) <;> omega
  · refine (rows_out _ _ n e hn).trans ?_
    rw [View.canon_cons_unit_lit _ _ _ (by decide)]
    refine (zero2 _).trans ?_
    rw [Finset.sum_eq_zero fun g _ => Finset.sum_eq_zero fun i _ => dvRow_ctx q k ct _ (by omega) (by omega)]
    simp

set_option maxHeartbeats 1600000 in
theorem dq_B {b r : ℕ} (c : Dev nD) (t : Fin cfg0.N) (h0 : ¬t.val % 9 = 0) (h1 : ¬t.val % 9 = 0) (h2 : 1 ≤ t.val % 9) (h3 : ¬t.val % 9 = 8)
    (hr : 256 ≤ r) (hB : Blocks q k v ct b r (iblk m c 0 t) (iblk m c 3 t) (iblk m c 5 t) (iblk m c 1 t) (iblk m c 2 t) (iblk m c 4 t)) (i : Fin 256) (e : Fin 512) :
    (outsAt0 m c t.val t.isLt).1 (ix3 0 i e) = ((dq q k v ct b (e / 256) (e / 64 % 4) (r + i) (e % 64) : ℝ) : EReal) := by
  rw [outsAt0_B m c t h0 h1 h2 h3]
  frame_out
  refine heads_at (fun j g i d => dq q k v ct b j g (r + i) d) _ _ _ _ _ _ _ _ ?_ ?_ ?_ ?_ ?_ ?_ ?_ ?_ i e
  all_goals
    intro i d
    refine Full.dqTile_at hr (Head.mk ?_ ?_ ?_ ?_) ?_ ?_ i d
  all_goals
    intros
    pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
  all_goals
    congr 2 <;> (try simp only [qcol, kcol]) <;> omega

set_option maxHeartbeats 1600000 in
theorem dk_B {b r : ℕ} (c : Dev nD) (t : Fin cfg0.N) (h0 : ¬t.val % 9 = 0) (h1 : ¬t.val % 9 = 0) (h2 : 1 ≤ t.val % 9) (h3 : ¬t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.1 (ix2 n e) = ((A n e : ℝ) : EReal)) (n : Fin 2304) (e : Fin 128) :
    (outsAt0 m c t.val t.isLt).2.2.2.1 (ix2 n e) = ((A n e + (∑ g : Fin 4, ∑ i : Fin 256, dkRow q k v ct b (e / 64) g (r + i) n (e % 64)) * (Real.log 2)⁻¹ : ℝ) : EReal) := by
  rw [outsAt0_B m c t h0 h1 h2 h3]
  frame_out
  refine add_full A (fun j n d => (∑ g : Fin 4, ∑ i : Fin 256, dkRow q k v ct b j g (r + i) n d) * (Real.log 2)⁻¹) _ _ _ ?_ ?_ ?_ n e
  · intro n e
    refine (congrFun (Memref.IsWhole.read_unread _ _) _).trans (hp n e)
  all_goals
    intro n d
    refine Full.dkGroup_at hr (Head.mk ?_ ?_ ?_ ?_) (Head.mk ?_ ?_ ?_ ?_) (Head.mk ?_ ?_ ?_ ?_) (Head.mk ?_ ?_ ?_ ?_) ?_ ?_ n d
  all_goals
    intros
    pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
  all_goals
    congr 2 <;> (try simp only [qcol, kcol]) <;> omega

set_option maxHeartbeats 1600000 in
theorem dv_B {b r : ℕ} (c : Dev nD) (t : Fin cfg0.N) (h0 : ¬t.val % 9 = 0) (h1 : ¬t.val % 9 = 0) (h2 : 1 ≤ t.val % 9) (h3 : ¬t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.2 (ix2 n e) = ((A n e : ℝ) : EReal)) (n : Fin 2304) (e : Fin 128) :
    (outsAt0 m c t.val t.isLt).2.2.2.2 (ix2 n e) = ((A n e + ∑ g : Fin 4, ∑ i : Fin 256, dvRow q k ct b (e / 64) g (r + i) n (e % 64) : ℝ) : EReal) := by
  rw [outsAt0_B m c t h0 h1 h2 h3]
  frame_out
  refine add_full A (fun j n d => ∑ g : Fin 4, ∑ i : Fin 256, dvRow q k ct b j g (r + i) n d) _ _ _ ?_ ?_ ?_ n e
  · intro n e
    refine (congrFun (Memref.IsWhole.read_unread _ _) _).trans (hp n e)
  · intro n d
    refine Full.dvGroup_at (v := v) (o0 := outTile q k v b 0 0 r) (o1 := outTile q k v b 0 1 r) (o2 := outTile q k v b 0 2 r) (o3 := outTile q k v b 0 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
    all_goals
      intros
      pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
    all_goals
      congr 2 <;> (try simp only [qcol, kcol]) <;> omega
  · intro n d
    refine Full.dvGroup_at (v := v) (o0 := outTile q k v b 1 0 r) (o1 := outTile q k v b 1 1 r) (o2 := outTile q k v b 1 2 r) (o3 := outTile q k v b 1 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
    all_goals
      intros
      pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
    all_goals
      congr 2 <;> (try simp only [qcol, kcol]) <;> omega

set_option maxHeartbeats 1600000 in
theorem dq_C {b r : ℕ} (c : Dev nD) (t : Fin cfg0.N) (h0 : ¬t.val % 9 = 0) (h1 : ¬t.val % 9 = 0) (h2 : 1 ≤ t.val % 9) (h3 : t.val % 9 = 8)
    (hr : 256 ≤ r) (hB : Blocks q k v ct b r (iblk m c 0 t) (iblk m c 3 t) (iblk m c 5 t) (iblk m c 1 t) (iblk m c 2 t) (iblk m c 4 t)) (i : Fin 256) (e : Fin 512) :
    (outsAt0 m c t.val t.isLt).1 (ix3 0 i e) = ((dq q k v ct b (e / 256) (e / 64 % 4) (r + i) (e % 64) : ℝ) : EReal) := by
  rw [outsAt0_C m c t h0 h1 h2 h3]
  frame_out
  refine heads_at (fun j g i d => dq q k v ct b j g (r + i) d) _ _ _ _ _ _ _ _ ?_ ?_ ?_ ?_ ?_ ?_ ?_ ?_ i e
  all_goals
    intro i d
    refine Full.dqTile_at hr (Head.mk ?_ ?_ ?_ ?_) ?_ ?_ i d
  all_goals
    intros
    pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
  all_goals
    congr 2 <;> (try simp only [qcol, kcol]) <;> omega

set_option maxHeartbeats 1600000 in
theorem dk_C {b r : ℕ} (c : Dev nD) (t : Fin cfg0.N) (h0 : ¬t.val % 9 = 0) (h1 : ¬t.val % 9 = 0) (h2 : 1 ≤ t.val % 9) (h3 : t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.1 (ix2 n e) = ((A n e : ℝ) : EReal)) (n : Fin 2304) (e : Fin 128) :
    (outsAt0 m c t.val t.isLt).2.2.2.1 (ix2 n e) = ((A n e + (∑ g : Fin 4, ∑ i : Fin 256, dkRow q k v ct b (e / 64) g (r + i) n (e % 64)) * (Real.log 2)⁻¹ : ℝ) : EReal) := by
  rw [outsAt0_C m c t h0 h1 h2 h3]
  frame_out
  refine add_full A (fun j n d => (∑ g : Fin 4, ∑ i : Fin 256, dkRow q k v ct b j g (r + i) n d) * (Real.log 2)⁻¹) _ _ _ ?_ ?_ ?_ n e
  · intro n e
    refine (congrFun (Memref.IsWhole.read_unread _ _) _).trans (hp n e)
  all_goals
    intro n d
    refine Full.dkGroup_at hr (Head.mk ?_ ?_ ?_ ?_) (Head.mk ?_ ?_ ?_ ?_) (Head.mk ?_ ?_ ?_ ?_) (Head.mk ?_ ?_ ?_ ?_) ?_ ?_ n d
  all_goals
    intros
    pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
  all_goals
    congr 2 <;> (try simp only [qcol, kcol]) <;> omega

set_option maxHeartbeats 1600000 in
theorem dv_C {b r : ℕ} (c : Dev nD) (t : Fin cfg0.N) (h0 : ¬t.val % 9 = 0) (h1 : ¬t.val % 9 = 0) (h2 : 1 ≤ t.val % 9) (h3 : t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.2 (ix2 n e) = ((A n e : ℝ) : EReal)) (n : Fin 2304) (e : Fin 128) :
    (outsAt0 m c t.val t.isLt).2.2.2.2 (ix2 n e) = ((A n e + ∑ g : Fin 4, ∑ i : Fin 256, dvRow q k ct b (e / 64) g (r + i) n (e % 64) : ℝ) : EReal) := by
  rw [outsAt0_C m c t h0 h1 h2 h3]
  frame_out
  refine add_full A (fun j n d => ∑ g : Fin 4, ∑ i : Fin 256, dvRow q k ct b j g (r + i) n d) _ _ _ ?_ ?_ ?_ n e
  · intro n e
    refine (congrFun (Memref.IsWhole.read_unread _ _) _).trans (hp n e)
  · intro n d
    refine Full.dvGroup_at (v := v) (o0 := outTile q k v b 0 0 r) (o1 := outTile q k v b 0 1 r) (o2 := outTile q k v b 0 2 r) (o3 := outTile q k v b 0 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
    all_goals
      intros
      pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
    all_goals
      congr 2 <;> (try simp only [qcol, kcol]) <;> omega
  · intro n d
    refine Full.dvGroup_at (v := v) (o0 := outTile q k v b 1 0 r) (o1 := outTile q k v b 1 1 r) (o2 := outTile q k v b 1 2 r) (o3 := outTile q k v b 1 3 r) hr (Head.mk ?_ (fun _ _ => rfl) ?_ ?_) (Head.mk ?_ (fun _ _ => rfl) ?_ ?_) (Head.mk ?_ (fun _ _ => rfl) ?_ ?_) (Head.mk ?_ (fun _ _ => rfl) ?_ ?_) ?_ n d
    all_goals
      intros
      pointwise [k0_pay7, k0_pay8, k0_pay9, k0_pay10, k0_pay11, k0_pay16, k0_pay19, k0_pay26, k0_pay33, k0_pay40, k0_pay41, k0_pay42, k0_pay49, k0_pay50, k0_pay57, k0_pay59, k0_pay65, k0_pay73, k0_pay74, k0_pay75, k0_pay76, k0_pay77, k0_pay82, k0_pay85, k0_pay92, k0_pay99, k0_pay106, k0_pay107, k0_pay108, k0_pay115, k0_pay116, k0_pay123, k0_pay125, k0_pay131, hB.query, hB.output, hB.cotangent, hB.log, hB.key, hB.value]
    all_goals
      congr 2 <;> (try simp only [qcol, kcol]) <;> omega

set_option maxHeartbeats 1600000 in
theorem dk_last {b r : ℕ} (c : Dev nD) (t : Fin cfg0.N) (h0 : ¬t.val % 9 = 0) (h1 : ¬t.val % 9 = 0) (h2 : 1 ≤ t.val % 9) (h3 : t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.1 (ix2 n e) = ((A n e : ℝ) : EReal)) (n : Fin 2304) (e : Fin 128) :
    (outsAt0 m c t.val t.isLt).2.1 (ix3 0 n e) = (((A n e + (∑ g : Fin 4, ∑ i : Fin 256, dkRow q k v ct b (e / 64) g (r + i) n (e % 64)) * (Real.log 2)⁻¹) * Real.log 2 : ℝ) : EReal) := by
  have key := dk_C m c t h0 h1 h2 h3 hr hB A p hp n e
  rw [outsAt0_C m c t h0 h1 h2 h3] at key ⊢
  frame_out at key
  frame_out
  exact flush_dk _ _ n e key

set_option maxHeartbeats 1600000 in
theorem dv_last {b r : ℕ} (c : Dev nD) (t : Fin cfg0.N) (h0 : ¬t.val % 9 = 0) (h1 : ¬t.val % 9 = 0) (h2 : 1 ≤ t.val % 9) (h3 : t.val % 9 = 8)
    (hr : 256 ≤ r) (hB : Blocks q k v ct b r (iblk m c 0 t) (iblk m c 3 t) (iblk m c 5 t) (iblk m c 1 t) (iblk m c 2 t) (iblk m c 4 t)) (A : ℕ → ℕ → ℝ) (p : t.val - 1 < cfg0.N)
    (hp : ∀ (n : Fin 2304) (e : Fin 128), (outsAt0 m c (t.val - 1) p).2.2.2.2 (ix2 n e) = ((A n e : ℝ) : EReal)) (n : Fin 2304) (e : Fin 128) :
    (outsAt0 m c t.val t.isLt).2.2.1 (ix3 0 n e) = ((A n e + ∑ g : Fin 4, ∑ i : Fin 256, dvRow q k ct b (e / 64) g (r + i) n (e % 64) : ℝ) : EReal) := by
  have key := dv_C m c t h0 h1 h2 h3 hr hB A p hp n e
  rw [outsAt0_C m c t h0 h1 h2 h3] at key ⊢
  frame_out at key
  frame_out
  exact flush_dv _ _ n e key

end Cert.KernelIdeal.Backward
-- ==== Proof.Saved.lean ====
module

public import proofs.«01_k».proof.Proof.Constants
public import proofs.«01_k».proof.Proof.Gen.Reference2Ideal.Read
public import Idealize.ShloMosaic.Lib.Pointwise

/-!
# What the forward pass keeps, read at an index

The operations of the host program that computes the attention's output and each row's logarithm, one after another, as
the real mathematics of `Attention.lean`, for arguments whose elements are reals.
-/

@[expose] public section

set_option maxRecDepth 16384

noncomputable section

namespace Cert.Reference2Ideal.Saved

open Idealize.ShloMosaic Idealize.ShloMosaic.TcCoe Idealize.SL.Sem
open Cert.Reference2Ideal Cert.Reference2Ideal.Gen Cert.Reference2Ideal.Read Cert.Gqa

variable (q k v : ℕ → ℕ → ℕ → ℝ)
  (x0 : FVec Ideal S2x2304x512 .bf16) (x1 x2 : FVec Ideal S2x2304x128 .bf16)
  (h0 : ∀ (b : Fin 2) (i : Fin 2304) (c : Fin 512), x0 (ix3 b i c) = ((q b i c : ℝ) : EReal))
  (h1 : ∀ (b : Fin 2) (i : Fin 2304) (c : Fin 128), x1 (ix3 b i c) = ((k b i c : ℝ) : EReal))
  (h2 : ∀ (b : Fin 2) (i : Fin 2304) (c : Fin 128), x2 (ix3 b i c) = ((v b i c : ℝ) : EReal))

include h0 in
theorem queries (b : Fin 2) (j : Fin 2) (g : Fin 4) (i : Fin 2304) (d : Fin 64) :
    val_main_v1 (F := Ideal) x0 (ix5 b j g i d) = ((q b i (qcol j g d) : ℝ) : EReal) := by
  pointwise [val_main_v1, val_main_v0]
  rw [h0]
  congr 2
  unfold qcol; simp only; omega

include h1 in
theorem keys (b : Fin 2) (j : Fin 2) (n : Fin 2304) (d : Fin 64) :
    val_main_v3 (F := Ideal) x1 (ix4 b j n d) = ((k b n (kcol j d) : ℝ) : EReal) := by
  pointwise [val_main_v3, val_main_v2]
  rw [h1]
  rfl

include h2 in
theorem values (b : Fin 2) (j : Fin 2) (n : Fin 2304) (d : Fin 64) :
    val_main_v5 (F := Ideal) x2 (ix4 b j n d) = ((v b n (kcol j d) : ℝ) : EReal) := by
  pointwise [val_main_v5, val_main_v4]
  rw [h2]
  rfl

/-! ## The context rows -/

include h0 h1 in
theorem scores_ctx (b : Fin 2) (j : Fin 2) (g : Fin 4) (i : Fin 256) (n : Fin 256) :
    val_main_v11 (F := Ideal) x0 x1 (ix5 b j g i n) = ((score q k b j g i n * (1 / 8) : ℝ) : EReal) := by
  pointwise [val_main_v11, val_main_v10, val_main_cst, val_main_v9, val_main_v6, val_main_v7, queries q x0 h0,
    keys k x1 h1]
  rw [ofBits_eighth]
  simp only [← EReal.coe_mul, coe_sum]
  rfl

include h0 h1 in
theorem top_ctx (b : Fin 2) (j : Fin 2) (g : Fin 4) (i : Fin 256) : ∃ m : ℝ,
    val_main_v12 (F := Ideal) x0 x1 (ix4 b j g i) = (m : EReal) := by
  pointwise [val_main_v12, val_main_cst_0, scores_ctx q k x0 x1 h0 h1]
  rw [ofBits_bot]
  exact fold_max_coe (by decide) _

include h0 h1 in
theorem rows_ctx (b : Fin 2) (j : Fin 2) (g : Fin 4) (i : Fin 256) : ∃ m : ℝ,
    val_main_v13 (F := Ideal) x0 x1 (ix5 b j g i 0) = (m : EReal) ∧
    (∀ n : Fin 256, val_main_v16 (F := Ideal) x0 x1 (ix5 b j g i n) =
      ((Real.exp (score q k b j g i n * (1 / 8) - m) : ℝ) : EReal)) ∧
    val_main_v18 (F := Ideal) x0 x1 (ix5 b j g i 0) =
      ((∑ n : Fin 256, Real.exp (score q k b j g i n * (1 / 8) - m) : ℝ) : EReal) := by
  obtain ⟨m, hm⟩ := top_ctx q k x0 x1 h0 h1 b j g i
  have he : ∀ n : Fin 256, val_main_v16 (F := Ideal) x0 x1 (ix5 b j g i n) =
      ((Real.exp (score q k b j g i n * (1 / 8) - m) : ℝ) : EReal) := by
    intro n
    pointwise [val_main_v16, val_main_v15, val_main_v14, val_main_v13, hm, scores_ctx q k x0 x1 h0 h1]
    rw [← EReal.coe_sub, Ideal.exp_coe]
  refine ⟨m, ?_, he, ?_⟩
  · pointwise [val_main_v13, hm]
  · pointwise [val_main_v18, val_main_v17, val_main_cst_1, he]
    rw [coe_sum]

theorem total_ctx (b j g : ℕ) (i : Fin 256) :
    ∑ n : Fin 256, Real.exp (score q k b j g i n * (1 / 8)) = total q k b j g i := by
  rw [total, sum_ctx (weight q k b j g i) fun n hn => weight_ctx q k i.2 hn]
  exact Finset.sum_congr rfl fun n _ => (weight_seen q k (Or.inr n.2)).symm

include h0 h1 in
theorem probs_ctx (b : Fin 2) (j : Fin 2) (g : Fin 4) (i : Fin 256) (n : Fin 256) :
    val_main_v21 (F := Ideal) x0 x1 (ix5 b j g i n) = ((prob q k b j g i n : ℝ) : EReal) := by
  obtain ⟨m, -, he, hs⟩ := rows_ctx q k x0 x1 h0 h1 b j g i
  pointwise [val_main_v21, val_main_v20, val_main_v19, he, hs]
  rw [div_coe_coe (sum_exp_pos (fun n : Fin 256 => score q k b j g i n * (1 / 8)) m (by decide)).ne',
    softmax_shift (fun n : Fin 256 => score q k b j g i n * (1 / 8)), total_ctx, prob, weight_seen q k (Or.inr n.2)]

include h0 h1 h2 in
theorem out_ctx (b : Fin 2) (j : Fin 2) (g : Fin 4) (i : Fin 256) (d : Fin 64) :
    val_main_v22 (F := Ideal) x0 x1 x2 (ix5 b j g i d) = ((out q k v b j g i d : ℝ) : EReal) := by
  pointwise [val_main_v22, val_main_v8, probs_ctx q k x0 x1 h0 h1, values v x2 h2]
  simp only [← EReal.coe_mul, coe_sum]
  rw [out, sum_ctx (fun n => prob q k b j g i n * v b n (kcol j d)) fun n hn => by rw [prob_ctx q k i.2 hn, zero_mul]]

include h0 h1 in
theorem log_ctx (b : Fin 2) (j : Fin 2) (g : Fin 4) (i : Fin 256) :
    val_main_v24 (F := Ideal) x0 x1 (ix5 b j g i 0) = ((Real.log (total q k b j g i) : ℝ) : EReal) := by
  obtain ⟨m, hm, -, hs⟩ := rows_ctx q k x0 x1 h0 h1 b j g i
  have hp := sum_exp_pos (fun n : Fin 256 => score q k b j g i n * (1 / 8)) m (by decide)
  have hl := log_shift (fun n : Fin 256 => score q k b j g i n * (1 / 8)) m (by decide)
  rw [total_ctx] at hl
  generalize (∑ n : Fin 256, Real.exp (score q k b j g i n * (1 / 8) - m)) = z at hs hp hl
  rw [val_main_v24_apply, hm, val_main_v23_apply, hs]
  show (m : EReal) + Ideal.log (z : EReal) = _
  rw [log_coe_pos hp, ← EReal.coe_add, hl]

/-! ## The other rows -/

include h0 h1 in
theorem scores_lat (b : Fin 2) (j : Fin 2) (g : Fin 4) (i : Fin 2048) (n : Fin 2304) :
    val_main_v28 (F := Ideal) x0 x1 (ix5 b j g i n) = ((score q k b j g (256 + i) n * (1 / 8) : ℝ) : EReal) := by
  pointwise [val_main_v28, val_main_v27, val_main_cst_2, val_main_v26, val_main_v25, queries q x0 h0,
    keys k x1 h1]
  rw [ofBits_eighth]
  simp only [← EReal.coe_mul, coe_sum]
  rfl

include h0 h1 in
theorem top_lat (b : Fin 2) (j : Fin 2) (g : Fin 4) (i : Fin 2048) : ∃ m : ℝ,
    val_main_v29 (F := Ideal) x0 x1 (ix4 b j g i) = (m : EReal) := by
  pointwise [val_main_v29, val_main_cst_3, scores_lat q k x0 x1 h0 h1]
  rw [ofBits_bot]
  exact fold_max_coe (by decide) _

include h0 h1 in
theorem rows_lat (b : Fin 2) (j : Fin 2) (g : Fin 4) (i : Fin 2048) : ∃ m : ℝ,
    val_main_v30 (F := Ideal) x0 x1 (ix5 b j g i 0) = (m : EReal) ∧
    (∀ n : Fin 2304, val_main_v33 (F := Ideal) x0 x1 (ix5 b j g i n) =
      ((Real.exp (score q k b j g (256 + i) n * (1 / 8) - m) : ℝ) : EReal)) ∧
    val_main_v35 (F := Ideal) x0 x1 (ix5 b j g i 0) =
      ((∑ n : Fin 2304, Real.exp (score q k b j g (256 + i) n * (1 / 8) - m) : ℝ) : EReal) := by
  obtain ⟨m, hm⟩ := top_lat q k x0 x1 h0 h1 b j g i
  have he : ∀ n : Fin 2304, val_main_v33 (F := Ideal) x0 x1 (ix5 b j g i n) =
      ((Real.exp (score q k b j g (256 + i) n * (1 / 8) - m) : ℝ) : EReal) := by
    intro n
    pointwise [val_main_v33, val_main_v32, val_main_v31, val_main_v30, hm, scores_lat q k x0 x1 h0 h1]
    rw [← EReal.coe_sub, Ideal.exp_coe]
  refine ⟨m, ?_, he, ?_⟩
  · pointwise [val_main_v30, hm]
  · pointwise [val_main_v35, val_main_v34, val_main_cst_4, he]
    rw [coe_sum]

theorem total_lat (b j g : ℕ) (i : Fin 2048) :
    ∑ n : Fin 2304, Real.exp (score q k b j g (256 + i) n * (1 / 8)) = total q k b j g (256 + i) := by
  exact Finset.sum_congr rfl fun n _ => (weight_seen q k (Or.inl (Nat.le_add_right _ _))).symm

include h0 h1 in
theorem probs_lat (b : Fin 2) (j : Fin 2) (g : Fin 4) (i : Fin 2048) (n : Fin 2304) :
    val_main_v38 (F := Ideal) x0 x1 (ix5 b j g i n) = ((prob q k b j g (256 + i) n : ℝ) : EReal) := by
  obtain ⟨m, -, he, hs⟩ := rows_lat q k x0 x1 h0 h1 b j g i
  pointwise [val_main_v38, val_main_v37, val_main_v36, he, hs]
  rw [div_coe_coe (sum_exp_pos (fun n : Fin 2304 => score q k b j g (256 + i) n * (1 / 8)) m (by decide)).ne',
    softmax_shift (fun n : Fin 2304 => score q k b j g (256 + i) n * (1 / 8)), total_lat, prob, weight_seen q k (Or.inl (Nat.le_add_right _ _))]

include h0 h1 h2 in
theorem out_lat (b : Fin 2) (j : Fin 2) (g : Fin 4) (i : Fin 2048) (d : Fin 64) :
    val_main_v39 (F := Ideal) x0 x1 x2 (ix5 b j g i d) = ((out q k v b j g (256 + i) d : ℝ) : EReal) := by
  pointwise [val_main_v39, probs_lat q k x0 x1 h0 h1, values v x2 h2]
  simp only [← EReal.coe_mul, coe_sum]
  rfl

include h0 h1 in
theorem log_lat (b : Fin 2) (j : Fin 2) (g : Fin 4) (i : Fin 2048) :
    val_main_v41 (F := Ideal) x0 x1 (ix5 b j g i 0) = ((Real.log (total q k b j g (256 + i)) : ℝ) : EReal) := by
  obtain ⟨m, hm, -, hs⟩ := rows_lat q k x0 x1 h0 h1 b j g i
  have hp := sum_exp_pos (fun n : Fin 2304 => score q k b j g (256 + i) n * (1 / 8)) m (by decide)
  have hl := log_shift (fun n : Fin 2304 => score q k b j g (256 + i) n * (1 / 8)) m (by decide)
  rw [total_lat] at hl
  generalize (∑ n : Fin 2304, Real.exp (score q k b j g (256 + i) n * (1 / 8) - m)) = z at hs hp hl
  rw [val_main_v41_apply, hm, val_main_v40_apply, hs]
  show (m : EReal) + Ideal.log (z : EReal) = _
  rw [log_coe_pos hp, ← EReal.coe_add, hl]

/-! ## The two results -/

include h0 h1 h2 in
theorem out_eq (b : Fin 2) (j : Fin 2) (g : Fin 4) (i : Fin 2304) (d : Fin 64) :
    val_main_v42 (F := Ideal) x0 x1 x2 (ix5 b j g i d) = ((out q k v b j g i d : ℝ) : EReal) := by
  pointwise [val_main_v42]
  by_cases h : (i : ℕ) < 256
  · rw [dif_pos h]
    exact out_ctx q k v x0 x1 x2 h0 h1 h2 b j g ⟨i, h⟩ d
  · rw [dif_neg h]
    have e := out_lat q k v x0 x1 x2 h0 h1 h2 b j g ⟨i - 256, by omega⟩ d
    simp only [Nat.add_sub_cancel' (not_lt.1 h)] at e
    exact e

include h0 h1 in
theorem log_eq (b : Fin 2) (j : Fin 2) (g : Fin 4) (i : Fin 2304) :
    val_main_v44 (F := Ideal) x0 x1 (ix5 b j g i 0) = ((Real.log (total q k b j g i) : ℝ) : EReal) := by
  pointwise [val_main_v44]
  by_cases h : (i : ℕ) < 256
  · rw [dif_pos h]
    exact log_ctx q k x0 x1 h0 h1 b j g ⟨i, h⟩
  · rw [dif_neg h]
    have e := log_lat q k x0 x1 h0 h1 b j g ⟨i - 256, by omega⟩
    simp only [Nat.add_sub_cancel' (not_lt.1 h)] at e
    exact e

include h0 h1 h2 in
/-- The output kept, at column `c` of a row. -/
theorem saved_out (b : Fin 2) (i : Fin 2304) (c : Fin 512) :
    val_main_v51 (F := Ideal) x0 x1 x2 (ix3 b i c) =
      ((out q k v b (c / 256) (c / 64 % 4) i (c % 64) : ℝ) : EReal) := by
  rw [val_main_v51_apply, val_main_v50_apply, val_main_v43_apply]
  have hb := b.2
  have hi := i.2
  have hc := c.2
  have e : idx_main_v43 (idx_main_v50 (ix3 b i c)) =
      ix5 b ⟨(c : ℕ) / 256, by omega⟩ ⟨(c : ℕ) / 64 % 4, by omega⟩ i ⟨(c : ℕ) % 64, by omega⟩ := by
    funext a
    apply Fin.ext
    match a with
    | ⟨0, _⟩ => show (((b : ℕ) * 2304 + i) * 512 + c) / 1179648 = b; omega
    | ⟨1, _⟩ => show (((b : ℕ) * 2304 + i) * 512 + c) / 256 % 2 = (c : ℕ) / 256; omega
    | ⟨2, _⟩ => show (((b : ℕ) * 2304 + i) * 512 + c) / 64 % 4 = (c : ℕ) / 64 % 4; omega
    | ⟨3, _⟩ => show (((b : ℕ) * 2304 + i) * 512 + c) / 512 % 2304 = i; omega
    | ⟨4, _⟩ => show (((b : ℕ) * 2304 + i) * 512 + c) % 64 = (c : ℕ) % 64; omega
  rw [e, out_eq q k v x0 x1 x2 h0 h1 h2]
  rfl

include h0 h1 in
/-- The logarithm kept, of head `h` of a row. -/
theorem saved_lse (b : Fin 2) (h : Fin 8) (i : Fin 2304) :
    val_main_v49 (F := Ideal) x0 x1 (ix4 b h i 0) = ((lse q k b (h / 4) (h % 4) i : ℝ) : EReal) := by
  pointwise [val_main_v49, val_main_v48, val_main_v47, val_main_v46, val_main_v45, val_main_cst_5]
  rw [log_eq q k x0 x1 h0 h1]
  show Ideal.div _ (Ideal.log (Ideal.ofBits .f32 0x40000000#32)) = _
  rw [ofBits_two, log_coe_pos two_pos, div_coe_coe (Real.log_pos one_lt_two).ne']
  rfl

end Cert.Reference2Ideal.Saved
-- ==== Proof.Staged.lean ====
/-
  The backward kernel, from one grid point to its results: what the staged blocks hold, the accumulators over a
  sample's nine points, and the three result arrays.
-/
module
public import proofs.«01_k».proof.Proof.Blocks
public import proofs.«01_k».proof.Proof.Saved
public import Idealize.ShloMosaic.Lib.Claim
@[expose] public section
set_option maxRecDepth 16384
noncomputable section
namespace Cert.KernelIdeal.Backward
open Idealize.ShloMosaic Idealize.ShloMosaic.TcCoe Idealize.SL.Sem
open Cert.KernelIdeal Cert.KernelIdeal.Gen Cert.Gqa
variable (m : (ℓ : Loc nD τ sig) → Buf (Elt Ideal) ℓ) (c : Dev nD)

/-- The forward output the kernel reads is the reference's. -/
theorem entry_output : V m c main_v51 = Cert.Reference2Ideal.Read.val_main_v51 (F := Ideal) (m ((c.tc : Thread nD τ).loc main_arg0)) (m ((c.tc : Thread nD τ).loc main_arg1)) (m ((c.tc : Thread nD τ).loc main_arg2)) := by
  entry_read
  rfl

/-- The logarithms the kernel reads are the reference's. -/
theorem entry_log : V m c main_v49 = Cert.Reference2Ideal.Read.val_main_v49 (F := Ideal) (m ((c.tc : Thread nD τ).loc main_arg0)) (m ((c.tc : Thread nD τ).loc main_arg1)) := by
  entry_read
  rfl

/-- Every window's block index, as numbers. -/
theorem idx : ∀ t : Fin cfg0.N, win0_0.index t = ![t.val / 9, t.val % 9, 0]
    ∧ win0_1.index t = ![t.val / 9, 0, 0]
    ∧ win0_2.index t = ![t.val / 9, 0, 0]
    ∧ win0_3.index t = ![t.val / 9, t.val % 9, 0]
    ∧ win0_4.index t = ![t.val / 9, 0, t.val % 9, 0]
    ∧ win0_5.index t = ![t.val / 9, t.val % 9, 0] := by
  decide +kernel

theorem point_lt (t : Fin cfg0.N) : t.val < 18 := Gen.N_0 ▸ t.isLt

variable {q k v ct : ℕ → ℕ → ℕ → ℝ}

/-- What the arguments hold. -/
structure Args (q k v ct : ℕ → ℕ → ℕ → ℝ) (x0 x3 : Vec Ideal S2x2304x512 .bf16) (x1 x2 : Vec Ideal S2x2304x128 .bf16) : Prop where
  query : ∀ (b : Fin 2) (i : Fin 2304) (e : Fin 512), x0 (ix3 b i e) = ((q b i e : ℝ) : EReal)
  cotangent : ∀ (b : Fin 2) (i : Fin 2304) (e : Fin 512), x3 (ix3 b i e) = ((ct b i e : ℝ) : EReal)
  key : ∀ (b : Fin 2) (i : Fin 2304) (e : Fin 128), x1 (ix3 b i e) = ((k b i e : ℝ) : EReal)
  value : ∀ (b : Fin 2) (i : Fin 2304) (e : Fin 128), x2 (ix3 b i e) = ((v b i e : ℝ) : EReal)

variable {m c}

/-- Window 0's block of an array. -/
theorem read_rows0 (A : Buf (Elt Ideal) ((c.tc : Thread nD τ).loc main_arg0)) (t : Fin cfg0.N) (hb : t.val / 9 < 2) (i : Fin 256) (hi : 256 * (t.val % 9) + i.val < 2304) (e : Fin 512) :
    ((cfg0.win 0).blk t).view.read (Elt Ideal) A (ix3 0 i e) = A (ix3 ⟨t.val / 9, hb⟩ ⟨256 * (t.val % 9) + i, hi⟩ e) := by
  blk_ext [idx t]

/-- Window 3's block of an array. -/
theorem read_rows3 (A : Buf (Elt Ideal) ((c.tc : Thread nD τ).loc main_v51)) (t : Fin cfg0.N) (hb : t.val / 9 < 2) (i : Fin 256) (hi : 256 * (t.val % 9) + i.val < 2304) (e : Fin 512) :
    ((cfg0.win 3).blk t).view.read (Elt Ideal) A (ix3 0 i e) = A (ix3 ⟨t.val / 9, hb⟩ ⟨256 * (t.val % 9) + i, hi⟩ e) := by
  blk_ext [idx t]

/-- Window 5's block of an array. -/
theorem read_rows5 (A : Buf (Elt Ideal) ((c.tc : Thread nD τ).loc main_arg3)) (t : Fin cfg0.N) (hb : t.val / 9 < 2) (i : Fin 256) (hi : 256 * (t.val % 9) + i.val < 2304) (e : Fin 512) :
    ((cfg0.win 5).blk t).view.read (Elt Ideal) A (ix3 0 i e) = A (ix3 ⟨t.val / 9, hb⟩ ⟨256 * (t.val % 9) + i, hi⟩ e) := by
  blk_ext [idx t]

/-- Window 1's block of an array. -/
theorem read_rows1 (A : Buf (Elt Ideal) ((c.tc : Thread nD τ).loc main_arg1)) (t : Fin cfg0.N) (hb : t.val / 9 < 2) (n : Fin 2304) (e : Fin 128) :
    ((cfg0.win 1).blk t).view.read (Elt Ideal) A (ix3 0 n e) = A (ix3 ⟨t.val / 9, hb⟩ n e) := by
  blk_ext [idx t]

/-- Window 2's block of an array. -/
theorem read_rows2 (A : Buf (Elt Ideal) ((c.tc : Thread nD τ).loc main_arg2)) (t : Fin cfg0.N) (hb : t.val / 9 < 2) (n : Fin 2304) (e : Fin 128) :
    ((cfg0.win 2).blk t).view.read (Elt Ideal) A (ix3 0 n e) = A (ix3 ⟨t.val / 9, hb⟩ n e) := by
  blk_ext [idx t]

/-- Window 4's block of an array. -/
theorem read_rows4 (A : Buf (Elt Ideal) ((c.tc : Thread nD τ).loc main_v49)) (t : Fin cfg0.N) (hb : t.val / 9 < 2) (h : Fin 8) (i : Fin 256) (hi : 256 * (t.val % 9) + i.val < 2304) :
    ((cfg0.win 4).blk t).view.read (Elt Ideal) A (ix4 0 h i 0) = A (ix4 ⟨t.val / 9, hb⟩ h ⟨256 * (t.val % 9) + i, hi⟩ 0) := by
  blk_ext [idx t]

/-- The blocks staged for a grid point. -/
theorem blocks (h : Args q k v ct (m ((c.tc : Thread nD τ).loc main_arg0)) (m ((c.tc : Thread nD τ).loc main_arg3)) (m ((c.tc : Thread nD τ).loc main_arg1)) (m ((c.tc : Thread nD τ).loc main_arg2)))
    (t : Fin cfg0.N) : Blocks q k v ct (t.val / 9) (256 * (t.val % 9)) (iblk m c 0 t) (iblk m c 3 t) (iblk m c 5 t) (iblk m c 1 t) (iblk m c 2 t) (iblk m c 4 t) := by
  have ht := point_lt t
  have hb : t.val / 9 < 2 := by omega
  refine ⟨fun i e => ?_, fun n e => ?_, fun n e => ?_, fun i e => ?_, fun h' i => ?_, fun i e => ?_⟩
  · exact (read_rows0 (V m c main_arg0) t hb i (by omega) e).trans ((congrFun (V_main_arg0 m c) _).trans (h.query _ _ _))
  · exact (read_rows1 (V m c main_arg1) t hb n e).trans ((congrFun (V_main_arg1 m c) _).trans (h.key _ _ _))
  · exact (read_rows2 (V m c main_arg2) t hb n e).trans ((congrFun (V_main_arg2 m c) _).trans (h.value _ _ _))
  · exact (read_rows3 (V m c main_v51) t hb i (by omega) e).trans ((congrFun (entry_output m c) _).trans (Cert.Reference2Ideal.Saved.saved_out q k v _ _ _ h.query h.key h.value _ _ _))
  · exact (read_rows4 (V m c main_v49) t hb h' i (by omega)).trans ((congrFun (entry_log m c) _).trans (Cert.Reference2Ideal.Saved.saved_lse q k _ _ h.query h.key _ _ _))
  · exact (read_rows5 (V m c main_arg3) t hb i (by omega) e).trans ((congrFun (V_main_arg3 m c) _).trans (h.cotangent _ _ _))

end Cert.KernelIdeal.Backward
end
-- ==== Proof.Results.lean ====
/-
  The backward kernel's results: the accumulators over a sample's nine points, and the three result arrays.
-/
module
public import proofs.«01_k».proof.Proof.Staged
@[expose] public section
set_option maxRecDepth 16384
noncomputable section
namespace Cert.KernelIdeal.Backward
open Idealize.ShloMosaic Idealize.ShloMosaic.TcCoe Idealize.SL.Sem
open Cert.KernelIdeal Cert.KernelIdeal.Gen Cert.KernelIdeal.Value Cert.Gqa

/-- A sum over the first rows, continued by 256 more. -/
theorem rows_add (f : ℕ → ℕ → ℝ) (r : ℕ) :
    (∑ g : Fin 4, ∑ i ∈ Finset.range (r + 256), f g i) = (∑ g : Fin 4, ∑ i ∈ Finset.range r, f g i) + ∑ g : Fin 4, ∑ i : Fin 256, f g (r + i) := by
  rw [← Finset.sum_add_distrib]
  refine Finset.sum_congr rfl fun g _ => ?_
  rw [Finset.sum_range_add, Finset.sum_range (n := 256)]

/-- The first 256 rows. -/
theorem rows_first (f : ℕ → ℕ → ℝ) : (∑ g : Fin 4, ∑ i ∈ Finset.range 256, f g i) = ∑ g : Fin 4, ∑ i : Fin 256, f g (0 + i) := by
  refine Finset.sum_congr rfl fun g _ => ?_
  rw [Finset.sum_range]
  simp only [Nat.zero_add]

/-- All rows. -/
theorem rows_all (f : ℕ → ℕ → ℝ) : (∑ g : Fin 4, ∑ i ∈ Finset.range 2304, f g i) = ∑ g : Fin 4, ∑ i : Fin 2304, f g i :=
  Finset.sum_congr rfl fun g _ => Finset.sum_range _

variable (m : (ℓ : Loc nD τ sig) → Buf (Elt Ideal) ℓ) (c : Dev nD)
variable {q k v ct : ℕ → ℕ → ℕ → ℝ}
variable (h : Args q k v ct (m ((c.tc : Thread nD τ).loc main_arg0)) (m ((c.tc : Thread nD τ).loc main_arg3)) (m ((c.tc : Thread nD τ).loc main_arg1)) (m ((c.tc : Thread nD τ).loc main_arg2)))
include h

/-- The blocks staged for point `s` of sample `b`. -/
theorem blocks_at (b s t : ℕ) (hs : s < 9) (ht : t = 9 * b + s) (p : t < cfg0.N) :
    Blocks q k v ct b (256 * s) (iblk m c 0 ⟨t, p⟩) (iblk m c 3 ⟨t, p⟩) (iblk m c 5 ⟨t, p⟩) (iblk m c 1 ⟨t, p⟩) (iblk m c 2 ⟨t, p⟩) (iblk m c 4 ⟨t, p⟩) := by
  have hB := blocks h ⟨t, p⟩
  rwa [show (⟨t, p⟩ : Fin cfg0.N).val / 9 = b by dsimp only; omega, show (⟨t, p⟩ : Fin cfg0.N).val % 9 = s by dsimp only; omega] at hB

/-- The key accumulator after point `s` of sample `b`: the rows so far, times the base-2 scale. -/
theorem acc_dk (b s t : ℕ) (hs : s < 9) (ht : t = 9 * b + s) (p : t < cfg0.N) (n : Fin 2304) (e : Fin 128) :
    (outsAt0 m c t p).2.2.2.1 (ix2 n e) =
      (((∑ g : Fin 4, ∑ i ∈ Finset.range (256 * (s + 1)), dkRow q k v ct b (e / 64) g i n (e % 64)) * (Real.log 2)⁻¹ : ℝ) : EReal) := by
  induction s generalizing t n e with
  | zero =>
    rw [show 256 * (0 + 1) = 256 from rfl, rows_first fun g i => dkRow q k v ct b (e / 64) g i n (e % 64)]
    exact dk_A m c ⟨t, p⟩ (by dsimp only; omega) (by dsimp only; omega) (by dsimp only; omega) (by dsimp only; omega) (by omega) (blocks_at m c h b 0 t hs ht p) n e
  | succ s ih =>
    rw [show 256 * (s + 1 + 1) = 256 * (s + 1) + 256 by omega, rows_add fun g i => dkRow q k v ct b (e / 64) g i n (e % 64), add_mul]
    have hp := ih (t - 1) (by omega) (by omega) (by omega)
    by_cases hl : s + 1 = 8
    · exact dk_C m c ⟨t, p⟩ (by dsimp only; omega) (by dsimp only; omega) (by dsimp only; omega) (by dsimp only; omega) (by omega) (blocks_at m c h b (s + 1) t hs ht p)
        (fun n e => (∑ g : Fin 4, ∑ i ∈ Finset.range (256 * (s + 1)), dkRow q k v ct b (e / 64) g i n (e % 64)) * (Real.log 2)⁻¹) _ hp n e
    · exact dk_B m c ⟨t, p⟩ (by dsimp only; omega) (by dsimp only; omega) (by dsimp only; omega) (by dsimp only; omega) (by omega) (blocks_at m c h b (s + 1) t hs ht p)
        (fun n e => (∑ g : Fin 4, ∑ i ∈ Finset.range (256 * (s + 1)), dkRow q k v ct b (e / 64) g i n (e % 64)) * (Real.log 2)⁻¹) _ hp n e

/-- The value accumulator after point `s` of sample `b`: the rows so far. -/
theorem acc_dv (b s t : ℕ) (hs : s < 9) (ht : t = 9 * b + s) (p : t < cfg0.N) (n : Fin 2304) (e : Fin 128) :
    (outsAt0 m c t p).2.2.2.2 (ix2 n e) =
      ((∑ g : Fin 4, ∑ i ∈ Finset.range (256 * (s + 1)), dvRow q k ct b (e / 64) g i n (e % 64) : ℝ) : EReal) := by
  induction s generalizing t n e with
  | zero =>
    rw [show 256 * (0 + 1) = 256 from rfl, rows_first fun g i => dvRow q k ct b (e / 64) g i n (e % 64)]
    exact dv_A m c ⟨t, p⟩ (by dsimp only; omega) (by dsimp only; omega) (by dsimp only; omega) (by dsimp only; omega) (by omega) (blocks_at m c h b 0 t hs ht p) n e
  | succ s ih =>
    rw [show 256 * (s + 1 + 1) = 256 * (s + 1) + 256 by omega, rows_add fun g i => dvRow q k ct b (e / 64) g i n (e % 64)]
    have hp := ih (t - 1) (by omega) (by omega) (by omega)
    by_cases hl : s + 1 = 8
    · exact dv_C m c ⟨t, p⟩ (by dsimp only; omega) (by dsimp only; omega) (by dsimp only; omega) (by dsimp only; omega) (by omega) (blocks_at m c h b (s + 1) t hs ht p)
        (fun n e => ∑ g : Fin 4, ∑ i ∈ Finset.range (256 * (s + 1)), dvRow q k ct b (e / 64) g i n (e % 64)) _ hp n e
    · exact dv_B m c ⟨t, p⟩ (by dsimp only; omega) (by dsimp only; omega) (by dsimp only; omega) (by dsimp only; omega) (by omega) (blocks_at m c h b (s + 1) t hs ht p)
        (fun n e => ∑ g : Fin 4, ∑ i ∈ Finset.range (256 * (s + 1)), dvRow q k ct b (e / 64) g i n (e % 64)) _ hp n e

/-- The query gradient's block, written at every point. -/
theorem block_dq (b s t : ℕ) (hs : s < 9) (ht : t = 9 * b + s) (p : t < cfg0.N) (i : Fin 256) (e : Fin 512) :
    (outsAt0 m c t p).1 (ix3 0 i e) = ((dq q k v ct b (e / 256) (e / 64 % 4) (256 * s + i) (e % 64) : ℝ) : EReal) := by
  have hB := blocks_at m c h b s t hs ht p
  by_cases h0 : s = 0
  · exact dq_A m c ⟨t, p⟩ (by dsimp only; omega) (by dsimp only; omega) (by dsimp only; omega) (by dsimp only; omega) (by omega) hB i e
  · by_cases hl : s = 8
    · exact dq_C m c ⟨t, p⟩ (by dsimp only; omega) (by dsimp only; omega) (by dsimp only; omega) (by dsimp only; omega) (by omega) hB i e
    · exact dq_B m c ⟨t, p⟩ (by dsimp only; omega) (by dsimp only; omega) (by dsimp only; omega) (by dsimp only; omega) (by omega) hB i e

/-- The key gradient's block, written at a sample's last point. -/
theorem block_dk (b t : ℕ) (ht : t = 9 * b + 8) (p : t < cfg0.N) (n : Fin 2304) (e : Fin 128) :
    (outsAt0 m c t p).2.1 (ix3 0 n e) = ((dk q k v ct b (e / 64) n (e % 64) : ℝ) : EReal) := by
  have hl : Real.log 2 ≠ 0 := (Real.log_pos (by norm_num)).ne'
  refine (dk_last m c ⟨t, p⟩ (by dsimp only; omega) (by dsimp only; omega) (by dsimp only; omega) (by dsimp only; omega) (by omega) (blocks_at m c h b 8 t (by omega) ht p)
    (fun n e => (∑ g : Fin 4, ∑ i ∈ Finset.range (256 * 8), dkRow q k v ct b (e / 64) g i n (e % 64)) * (Real.log 2)⁻¹) _
    (acc_dk m c h b 7 (t - 1) (by omega) (by omega) (by omega)) n e).trans ?_
  congr 1
  rw [← add_mul, mul_assoc, inv_mul_cancel₀ hl, mul_one, ← rows_add fun g i => dkRow q k v ct b (e / 64) g i n (e % 64)]
  exact rows_all fun g i => dkRow q k v ct b (e / 64) g i n (e % 64)

/-- The value gradient's block. -/
theorem block_dv (b t : ℕ) (ht : t = 9 * b + 8) (p : t < cfg0.N) (n : Fin 2304) (e : Fin 128) :
    (outsAt0 m c t p).2.2.1 (ix3 0 n e) = ((dv q k ct b (e / 64) n (e % 64) : ℝ) : EReal) := by
  refine (dv_last m c ⟨t, p⟩ (by dsimp only; omega) (by dsimp only; omega) (by dsimp only; omega) (by dsimp only; omega) (by omega) (blocks_at m c h b 8 t (by omega) ht p)
    (fun n e => ∑ g : Fin 4, ∑ i ∈ Finset.range (256 * 8), dvRow q k ct b (e / 64) g i n (e % 64)) _
    (acc_dv m c h b 7 (t - 1) (by omega) (by omega) (by omega)) n e).trans ?_
  congr 1
  rw [← rows_add fun g i => dvRow q k ct b (e / 64) g i n (e % 64)]
  exact rows_all fun g i => dvRow q k ct b (e / 64) g i n (e % 64)

/-- The query gradient. -/
theorem result_dq (b : Fin 2) (i : Fin 2304) (e : Fin 512) :
    G6 m c (ix3 b i e) = ((dq q k v ct b (e / 256) (e / 64 % 4) i (e % 64) : ℝ) : EReal) := by
  have hp : pt6Of (ix3 b i e) = 9 * b.val + i.val / 256 := by
    show 9 * (b.val / 1 - 0) + 1 * (i.val / 256 - 0) + 1 * (e.val / 512 - 0) = _
    omega
  have hlt : pt6Of (ix3 b i e) < cfg0.N := by
    rw [hp]; refine lt_of_lt_of_eq ?_ N_0.symm; omega
  have hloc : loc6Of (ix3 b i e) = ix3 0 ⟨i.val % 256, by omega⟩ e := by
    funext a
    apply Fin.ext
    match a with
    | ⟨0, _⟩ => show b.val % 1 = 0; omega
    | ⟨1, _⟩ => rfl
    | ⟨2, _⟩ => show e.val % 512 = e.val; omega
  unfold G6
  rw [dif_pos hlt, ← outsAt0_sweep m c _ hlt, hloc, block_dq m c h b (i.val / 256) _ (by omega) hp hlt]
  dsimp only
  rw [show 256 * (i.val / 256) + i.val % 256 = i.val by omega]

/-- The key gradient. -/
theorem result_dk (b : Fin 2) (n : Fin 2304) (e : Fin 128) :
    G7 m c (ix3 b n e) = ((dk q k v ct b (e / 64) n (e % 64) : ℝ) : EReal) := by
  have hp : pt7Of (ix3 b n e) = 9 * b.val + 8 := by
    show 9 * (1 * (b.val / 1 - 0) + 1 * (n.val / 2304 - 0) + 1 * (e.val / 128 - 0)) + 8 = _
    omega
  have hlt : pt7Of (ix3 b n e) < cfg0.N := by
    rw [hp]; refine lt_of_lt_of_eq ?_ N_0.symm; omega
  have hloc : loc7Of (ix3 b n e) = ix3 0 n e := by
    funext a
    apply Fin.ext
    match a with
    | ⟨0, _⟩ => show b.val % 1 = 0; omega
    | ⟨1, _⟩ => show n.val % 2304 = n.val; omega
    | ⟨2, _⟩ => show e.val % 128 = e.val; omega
  unfold G7
  rw [dif_pos hlt, ← outsAt0_sweep m c _ hlt, hloc, block_dk m c h b _ hp hlt]

/-- The value gradient. -/
theorem result_dv (b : Fin 2) (n : Fin 2304) (e : Fin 128) :
    G8 m c (ix3 b n e) = ((dv q k ct b (e / 64) n (e % 64) : ℝ) : EReal) := by
  have hp : pt8Of (ix3 b n e) = 9 * b.val + 8 := by
    show 9 * (1 * (b.val / 1 - 0) + 1 * (n.val / 2304 - 0) + 1 * (e.val / 128 - 0)) + 8 = _
    omega
  have hlt : pt8Of (ix3 b n e) < cfg0.N := by
    rw [hp]; refine lt_of_lt_of_eq ?_ N_0.symm; omega
  have hloc : loc8Of (ix3 b n e) = ix3 0 n e := by
    funext a
    apply Fin.ext
    match a with
    | ⟨0, _⟩ => show b.val % 1 = 0; omega
    | ⟨1, _⟩ => show n.val % 2304 = n.val; omega
    | ⟨2, _⟩ => show e.val % 128 = e.val; omega
  unfold G8
  rw [dif_pos hlt, ← outsAt0_sweep m c _ hlt, hloc, block_dv m c h b _ hp hlt]
end Cert.KernelIdeal.Backward
end
-- ==== Proof.Gradients.lean ====
module

public import proofs.«01_k».proof.Proof.Constants
public import proofs.«01_k».proof.Proof.Gen.ReferenceIdeal.Read
public import Idealize.ShloMosaic.Lib.Pointwise

/-!
# The reference's gradients, read at an index

The operations of the reference, one after another, as the real mathematics of `Attention.lean`, for arguments whose
elements are reals. The context rows and the rows past them are two computations; the results add them.
-/

@[expose] public section

set_option maxRecDepth 16384

noncomputable section

namespace Cert.ReferenceIdeal.Gradients

open Idealize.ShloMosaic Idealize.ShloMosaic.TcCoe Idealize.SL.Sem
open Cert.ReferenceIdeal Cert.ReferenceIdeal.Gen Cert.ReferenceIdeal.Read Cert.Gqa

variable (q k v ct : ℕ → ℕ → ℕ → ℝ)
  (x0 x3 : FVec Ideal S2x2304x512 .bf16) (x1 x2 : FVec Ideal S2x2304x128 .bf16)
  (h0 : ∀ (b : Fin 2) (i : Fin 2304) (c : Fin 512), x0 (ix3 b i c) = ((q b i c : ℝ) : EReal))
  (h1 : ∀ (b : Fin 2) (i : Fin 2304) (c : Fin 128), x1 (ix3 b i c) = ((k b i c : ℝ) : EReal))
  (h2 : ∀ (b : Fin 2) (i : Fin 2304) (c : Fin 128), x2 (ix3 b i c) = ((v b i c : ℝ) : EReal))
  (h3 : ∀ (b : Fin 2) (i : Fin 2304) (c : Fin 512), x3 (ix3 b i c) = ((ct b i c : ℝ) : EReal))

include h0 in
theorem queries (b : Fin 2) (j : Fin 2) (g : Fin 4) (i : Fin 2304) (d : Fin 64) :
    val_main_v4 (F := Ideal) x0 (ix5 b j g i d) = ((q b i (qcol j g d) : ℝ) : EReal) := by
  pointwise [val_main_v4, val_main_v3, val_main_v0]
  rw [h0]
  congr 2
  unfold qcol; simp only; omega

include h1 in
theorem keys (b : Fin 2) (j : Fin 2) (n : Fin 2304) (d : Fin 64) :
    val_main_v6 (F := Ideal) x1 (ix4 b j n d) = ((k b n (kcol j d) : ℝ) : EReal) := by
  pointwise [val_main_v6, val_main_v5, val_main_v1]
  rw [h1]
  rfl

include h2 in
theorem values (b : Fin 2) (j : Fin 2) (n : Fin 2304) (d : Fin 64) :
    val_main_v8 (F := Ideal) x2 (ix4 b j n d) = ((v b n (kcol j d) : ℝ) : EReal) := by
  pointwise [val_main_v8, val_main_v7, val_main_v2]
  rw [h2]
  rfl

include h3 in
theorem cotangents (b : Fin 2) (j : Fin 2) (g : Fin 4) (i : Fin 2304) (d : Fin 64) :
    val_main_v87 (F := Ideal) x3 (ix5 b j g i d) = ((ct b i (qcol j g d) : ℝ) : EReal) := by
  pointwise [val_main_v87, val_main_v86, val_main_v85]
  rw [h3]
  congr 2
  unfold qcol; simp only; omega

/-! ## The context rows -/

include h0 in
theorem queries_ctx (b : Fin 2) (j : Fin 2) (g : Fin 4) (i : Fin 256) (d : Fin 64) :
    val_main_v9 (F := Ideal) x0 (ix5 b j g i d) = ((q b i (qcol j g d) : ℝ) : EReal) := by
  pointwise [val_main_v9, queries q x0 h0]

include h3 in
theorem cotangents_ctx (b : Fin 2) (j : Fin 2) (g : Fin 4) (i : Fin 256) (d : Fin 64) :
    val_main_v88 (F := Ideal) x3 (ix5 b j g i d) = ((ct b i (qcol j g d) : ℝ) : EReal) := by
  pointwise [val_main_v88, cotangents ct x3 h3]

include h1 in
theorem keys_ctx (b : Fin 2) (j : Fin 2) (n : Fin 256) (d : Fin 64) :
    val_main_v10 (F := Ideal) x1 (ix4 b j n d) = ((k b n (kcol j d) : ℝ) : EReal) := by
  pointwise [val_main_v10, keys k x1 h1]

include h2 in
theorem values_ctx (b : Fin 2) (j : Fin 2) (n : Fin 256) (d : Fin 64) :
    val_main_v11 (F := Ideal) x2 (ix4 b j n d) = ((v b n (kcol j d) : ℝ) : EReal) := by
  pointwise [val_main_v11, values v x2 h2]

include h0 h1 in
theorem scores_ctx (b : Fin 2) (j : Fin 2) (g : Fin 4) (i : Fin 256) (n : Fin 256) :
    val_main_v14 (F := Ideal) x0 x1 (ix5 b j g i n) = ((score q k b j g i n * (1 / 8) : ℝ) : EReal) := by
  pointwise [val_main_v14, val_main_v13, val_main_cst, val_main_v12, queries_ctx q x0 h0, keys_ctx k x1 h1]
  rw [ofBits_eighth]
  simp only [← EReal.coe_mul, coe_sum]
  rfl

include h0 h1 in
theorem top_ctx (b : Fin 2) (j : Fin 2) (g : Fin 4) (i : Fin 256) : ∃ m : ℝ,
    val_main_v22 (F := Ideal) x0 x1 (ix4 b j g i) = (m : EReal) := by
  have e : ∃ m : ℝ, val_main_v15 (F := Ideal) x0 x1 (ix4 b j g i) = (m : EReal) := by
    pointwise [val_main_v15, val_main_cst_0, scores_ctx q k x0 x1 h0 h1]
    rw [ofBits_bot]
    exact fold_max_coe (by decide) _
  obtain ⟨m, hm⟩ := e
  refine ⟨m, ?_⟩
  rw [val_main_v22_apply, hm]
  pointwise [val_main_v21, val_main_cst_2]
  show max (Ideal.ofBits .f32 0xFF800000#32) (m : EReal) = m
  rw [ofBits_bot]
  exact max_eq_right bot_le

include h0 h1 in
/-- The weights, against a common factor, and their sum. -/
theorem rows_ctx (b : Fin 2) (j : Fin 2) (g : Fin 4) (i : Fin 256) : ∃ m : ℝ,
    (∀ n : Fin 256, val_main_v35 (F := Ideal) x0 x1 (ix5 b j g i n) =
      ((Real.exp (score q k b j g i n * (1 / 8) - m) : ℝ) : EReal)) ∧
    val_main_v37 (F := Ideal) x0 x1 (ix5 b j g i 0) =
      ((∑ n : Fin 256, Real.exp (score q k b j g i n * (1 / 8) - m) : ℝ) : EReal) := by
  obtain ⟨m, hm⟩ := top_ctx q k x0 x1 h0 h1 b j g i
  have he : ∀ n : Fin 256, val_main_v35 (F := Ideal) x0 x1 (ix5 b j g i n) =
      ((Real.exp (score q k b j g i n * (1 / 8) - m) : ℝ) : EReal) := by
    intro n
    pointwise [val_main_v35, val_main_v34, val_main_v33, val_main_v32, hm, scores_ctx q k x0 x1 h0 h1]
    rw [← EReal.coe_sub, Ideal.exp_coe]
  refine ⟨m, he, ?_⟩
  pointwise [val_main_v37, val_main_v36, val_main_cst_8, he]
  rw [coe_sum]

theorem total_ctx (b j g : ℕ) (i : Fin 256) :
    ∑ n : Fin 256, Real.exp (score q k b j g i n * (1 / 8)) = total q k b j g i := by
  rw [total, sum_ctx (weight q k b j g i) fun n hn => weight_ctx q k i.2 hn]
  exact Finset.sum_congr rfl fun n _ => (weight_seen q k (Or.inr n.2)).symm

/-- A row's probability, as the quotient of what `rows_ctx` names. -/
theorem quot_ctx (b j g : ℕ) (i : Fin 256) (m : ℝ) (n : Fin 256) :
    Real.exp (score q k b j g i n * (1 / 8) - m) /
      ∑ l : Fin 256, Real.exp (score q k b j g i l * (1 / 8) - m) = prob q k b j g i n := by
  rw [softmax_shift (fun n : Fin 256 => score q k b j g i n * (1 / 8)), total_ctx, prob,
    weight_seen q k (Or.inr n.2)]

include h0 h1 in
theorem probs_ctx (b : Fin 2) (j : Fin 2) (g : Fin 4) (i : Fin 256) (n : Fin 256) :
    val_main_v44 (F := Ideal) x0 x1 (ix5 b j g i n) = ((prob q k b j g i n : ℝ) : EReal) := by
  obtain ⟨m, he, hs⟩ := rows_ctx q k x0 x1 h0 h1 b j g i
  pointwise [val_main_v44, val_main_v43, val_main_v39, val_main_v38, he, hs]
  rw [div_coe_coe (sum_exp_pos (fun n : Fin 256 => score q k b j g i n * (1 / 8)) m (by decide)).ne', quot_ctx]

include h2 h3 in
theorem dprobs_ctx (b : Fin 2) (j : Fin 2) (g : Fin 4) (i : Fin 256) (n : Fin 256) :
    val_main_v116 (F := Ideal) x2 x3 (ix5 b j g i n) = ((dprob v ct b j g i n : ℝ) : EReal) := by
  pointwise [val_main_v116, val_main_v115, val_main_v114, cotangents_ctx ct x3 h3, values_ctx v x2 h2]
  simp only [← EReal.coe_mul, coe_sum]
  rfl

include h0 h1 h2 h3 in
theorem dscores_ctx (b : Fin 2) (j : Fin 2) (g : Fin 4) (i : Fin 256) (n : Fin 256) :
    val_main_v130 (F := Ideal) x0 x1 x2 x3 (ix5 b j g i n) =
      ((dscore q k v ct b j g i n * (1 / 8) : ℝ) : EReal) := by
  obtain ⟨m, he, hs⟩ := rows_ctx q k x0 x1 h0 h1 b j g i
  have hz := (sum_exp_pos (fun n : Fin 256 => score q k b j g i n * (1 / 8)) m (by decide)).ne'
  have hp := quot_ctx q k b j g i m
  generalize (∑ n : Fin 256, Real.exp (score q k b j g i n * (1 / 8) - m)) = z at hs hz hp
  have hg := softmax_quot (fun n : Fin 256 => Real.exp (score q k b j g i n * (1 / 8) - m))
    (fun n : Fin 256 => dprob v ct b j g i n) z hz n
  have ha : val_main_v120 (F := Ideal) x0 x1 x2 x3 (ix4 b j g i) =
      ((∑ l : Fin 256, dprob v ct b j g i l * (1 / (z * z)) * Real.exp (score q k b j g i l * (1 / 8) - m) : ℝ)
        : EReal) := by
    pointwise [val_main_v120, val_main_cst_25, val_main_v119, val_main_v118, val_main_v117, val_main_v42, val_main_v41, val_main_cst_9,
      val_main_v40, he, hs, dprobs_ctx v ct x3 x2 h2 h3]
    rw [← EReal.coe_one, ← EReal.coe_mul, div_coe_coe (mul_ne_zero hz hz)]
    simp only [← EReal.coe_mul, coe_sum]
  have hb : val_main_v125 (F := Ideal) x0 x1 x2 x3 (ix4 b j g i) =
      ((-∑ l : Fin 256, dprob v ct b j g i l * (1 / (z * z)) * Real.exp (score q k b j g i l * (1 / 8) - m) : ℝ)
        : EReal) := by
    pointwise [val_main_v125, val_main_cst_26, val_main_v122, val_main_v121, ha]
    simp only [Finset.univ_unique, Finset.sum_singleton, EReal.coe_neg]
  pointwise [val_main_v130, val_main_v129, val_main_cst_27, val_main_v128, val_main_v127, val_main_v126, val_main_v124, val_main_v123,
    hb, he, hs, dprobs_ctx v ct x3 x2 h2 h3]
  rw [div_coe_coe hz, ofBits_eighth, ← EReal.coe_add, ← EReal.coe_mul, ← EReal.coe_mul, hg]
  simp only [hp]
  rw [dscore, mean, sum_ctx (fun n => prob q k b j g i n * dprob v ct b j g i n) fun n hn => by rw [prob_ctx q k i.2 hn, zero_mul]]

/-! ### Products -/

include h0 h1 h2 h3 in
theorem dq_ctx (b : Fin 2) (j : Fin 2) (g : Fin 4) (i : Fin 256) (d : Fin 64) :
    val_main_v132 (F := Ideal) x0 x1 x2 x3 (ix5 b j g i d) = ((dq q k v ct b j g i d : ℝ) : EReal) := by
  pointwise [val_main_v132, dscores_ctx q k v ct x0 x3 x1 x2 h0 h1 h2 h3, keys_ctx k x1 h1]
  simp only [← EReal.coe_mul, coe_sum]
  rw [dq, Finset.sum_mul, sum_ctx (fun n => dscore q k v ct b j g i n * k b n (kcol j d) * (1 / 8)) fun n hn => by
    rw [dscore_ctx q k v ct i.2 hn, zero_mul, zero_mul]]
  exact congrArg _ (Finset.sum_congr rfl fun n _ => by ring)

include h0 h1 h2 h3 in
theorem dk_ctx (b : Fin 2) (j : Fin 2) (n : Fin 256) (d : Fin 64) :
    val_main_v131 (F := Ideal) x0 x1 x2 x3 (ix4 b j n d) =
      ((∑ g : Fin 4, ∑ i : Fin 256, dkRow q k v ct b j g i n d : ℝ) : EReal) := by
  pointwise [val_main_v131, dscores_ctx q k v ct x0 x3 x1 x2 h0 h1 h2 h3, queries_ctx q x0 h0]
  simp only [← EReal.coe_mul, coe_sum]
  exact congrArg _ (Finset.sum_congr rfl fun g _ => Finset.sum_congr rfl fun i _ => by unfold dkRow; ring)

include h0 h1 h3 in
theorem dv_ctx (b : Fin 2) (j : Fin 2) (n : Fin 256) (d : Fin 64) :
    val_main_v113 (F := Ideal) x0 x1 x3 (ix4 b j n d) =
      ((∑ g : Fin 4, ∑ i : Fin 256, dvRow q k ct b j g i n d : ℝ) : EReal) := by
  pointwise [val_main_v113, val_main_v112, probs_ctx q k x0 x1 h0 h1, cotangents_ctx ct x3 h3]
  simp only [← EReal.coe_mul, coe_sum]
  exact congrArg _ (Finset.sum_congr rfl fun g _ => Finset.sum_congr rfl fun i _ => by unfold dvRow; ring)

/-! ## The other rows -/

include h0 in
theorem queries_lat (b : Fin 2) (j : Fin 2) (g : Fin 4) (i : Fin 2048) (d : Fin 64) :
    val_main_v46 (F := Ideal) x0 (ix5 b j g i d) = ((q b (256 + i) (qcol j g d) : ℝ) : EReal) := by
  pointwise [val_main_v46, queries q x0 h0]

include h3 in
theorem cotangents_lat (b : Fin 2) (j : Fin 2) (g : Fin 4) (i : Fin 2048) (d : Fin 64) :
    val_main_v89 (F := Ideal) x3 (ix5 b j g i d) = ((ct b (256 + i) (qcol j g d) : ℝ) : EReal) := by
  pointwise [val_main_v89, cotangents ct x3 h3]

include h0 h1 in
theorem scores_lat (b : Fin 2) (j : Fin 2) (g : Fin 4) (i : Fin 2048) (n : Fin 2304) :
    val_main_v49 (F := Ideal) x0 x1 (ix5 b j g i n) = ((score q k b j g (256 + i) n * (1 / 8) : ℝ) : EReal) := by
  pointwise [val_main_v49, val_main_v48, val_main_cst_10, val_main_v47, queries_lat q x0 h0, keys k x1 h1]
  rw [ofBits_eighth]
  simp only [← EReal.coe_mul, coe_sum]
  rfl

include h0 h1 in
theorem top_lat (b : Fin 2) (j : Fin 2) (g : Fin 4) (i : Fin 2048) : ∃ m : ℝ,
    val_main_v57 (F := Ideal) x0 x1 (ix4 b j g i) = (m : EReal) := by
  have e : ∃ m : ℝ, val_main_v50 (F := Ideal) x0 x1 (ix4 b j g i) = (m : EReal) := by
    pointwise [val_main_v50, val_main_cst_11, scores_lat q k x0 x1 h0 h1]
    rw [ofBits_bot]
    exact fold_max_coe (by decide) _
  obtain ⟨m, hm⟩ := e
  refine ⟨m, ?_⟩
  rw [val_main_v57_apply, hm]
  pointwise [val_main_v56, val_main_cst_13]
  show max (Ideal.ofBits .f32 0xFF800000#32) (m : EReal) = m
  rw [ofBits_bot]
  exact max_eq_right bot_le

include h0 h1 in
/-- The weights, against a common factor, and their sum. -/
theorem rows_lat (b : Fin 2) (j : Fin 2) (g : Fin 4) (i : Fin 2048) : ∃ m : ℝ,
    (∀ n : Fin 2304, val_main_v70 (F := Ideal) x0 x1 (ix5 b j g i n) =
      ((Real.exp (score q k b j g (256 + i) n * (1 / 8) - m) : ℝ) : EReal)) ∧
    val_main_v72 (F := Ideal) x0 x1 (ix5 b j g i 0) =
      ((∑ n : Fin 2304, Real.exp (score q k b j g (256 + i) n * (1 / 8) - m) : ℝ) : EReal) := by
  obtain ⟨m, hm⟩ := top_lat q k x0 x1 h0 h1 b j g i
  have he : ∀ n : Fin 2304, val_main_v70 (F := Ideal) x0 x1 (ix5 b j g i n) =
      ((Real.exp (score q k b j g (256 + i) n * (1 / 8) - m) : ℝ) : EReal) := by
    intro n
    pointwise [val_main_v70, val_main_v69, val_main_v68, val_main_v67, hm, scores_lat q k x0 x1 h0 h1]
    rw [← EReal.coe_sub, Ideal.exp_coe]
  refine ⟨m, he, ?_⟩
  pointwise [val_main_v72, val_main_v71, val_main_cst_19, he]
  rw [coe_sum]

theorem total_lat (b j g : ℕ) (i : Fin 2048) :
    ∑ n : Fin 2304, Real.exp (score q k b j g (256 + i) n * (1 / 8)) = total q k b j g (256 + i) := by
  exact Finset.sum_congr rfl fun n _ => (weight_seen q k (Or.inl (Nat.le_add_right _ _))).symm

/-- A row's probability, as the quotient of what `rows_lat` names. -/
theorem quot_lat (b j g : ℕ) (i : Fin 2048) (m : ℝ) (n : Fin 2304) :
    Real.exp (score q k b j g (256 + i) n * (1 / 8) - m) /
      ∑ l : Fin 2304, Real.exp (score q k b j g (256 + i) l * (1 / 8) - m) = prob q k b j g (256 + i) n := by
  rw [softmax_shift (fun n : Fin 2304 => score q k b j g (256 + i) n * (1 / 8)), total_lat, prob,
    weight_seen q k (Or.inl (Nat.le_add_right _ _))]

include h0 h1 in
theorem probs_lat (b : Fin 2) (j : Fin 2) (g : Fin 4) (i : Fin 2048) (n : Fin 2304) :
    val_main_v79 (F := Ideal) x0 x1 (ix5 b j g i n) = ((prob q k b j g (256 + i) n : ℝ) : EReal) := by
  obtain ⟨m, he, hs⟩ := rows_lat q k x0 x1 h0 h1 b j g i
  pointwise [val_main_v79, val_main_v78, val_main_v74, val_main_v73, he, hs]
  rw [div_coe_coe (sum_exp_pos (fun n : Fin 2304 => score q k b j g (256 + i) n * (1 / 8)) m (by decide)).ne', quot_lat]

include h2 h3 in
theorem dprobs_lat (b : Fin 2) (j : Fin 2) (g : Fin 4) (i : Fin 2048) (n : Fin 2304) :
    val_main_v94 (F := Ideal) x2 x3 (ix5 b j g i n) = ((dprob v ct b j g (256 + i) n : ℝ) : EReal) := by
  pointwise [val_main_v94, val_main_v93, val_main_v92, cotangents_lat ct x3 h3, values v x2 h2]
  simp only [← EReal.coe_mul, coe_sum]
  rfl

include h0 h1 h2 h3 in
theorem dscores_lat (b : Fin 2) (j : Fin 2) (g : Fin 4) (i : Fin 2048) (n : Fin 2304) :
    val_main_v108 (F := Ideal) x0 x1 x2 x3 (ix5 b j g i n) =
      ((dscore q k v ct b j g (256 + i) n * (1 / 8) : ℝ) : EReal) := by
  obtain ⟨m, he, hs⟩ := rows_lat q k x0 x1 h0 h1 b j g i
  have hz := (sum_exp_pos (fun n : Fin 2304 => score q k b j g (256 + i) n * (1 / 8)) m (by decide)).ne'
  have hp := quot_lat q k b j g i m
  generalize (∑ n : Fin 2304, Real.exp (score q k b j g (256 + i) n * (1 / 8) - m)) = z at hs hz hp
  have hg := softmax_quot (fun n : Fin 2304 => Real.exp (score q k b j g (256 + i) n * (1 / 8) - m))
    (fun n : Fin 2304 => dprob v ct b j g (256 + i) n) z hz n
  have ha : val_main_v98 (F := Ideal) x0 x1 x2 x3 (ix4 b j g i) =
      ((∑ l : Fin 2304, dprob v ct b j g (256 + i) l * (1 / (z * z)) * Real.exp (score q k b j g (256 + i) l * (1 / 8) - m) : ℝ)
        : EReal) := by
    pointwise [val_main_v98, val_main_cst_21, val_main_v97, val_main_v96, val_main_v95, val_main_v77, val_main_v76, val_main_cst_20,
      val_main_v75, he, hs, dprobs_lat v ct x3 x2 h2 h3]
    rw [← EReal.coe_one, ← EReal.coe_mul, div_coe_coe (mul_ne_zero hz hz)]
    simp only [← EReal.coe_mul, coe_sum]
  have hb : val_main_v103 (F := Ideal) x0 x1 x2 x3 (ix4 b j g i) =
      ((-∑ l : Fin 2304, dprob v ct b j g (256 + i) l * (1 / (z * z)) * Real.exp (score q k b j g (256 + i) l * (1 / 8) - m) : ℝ)
        : EReal) := by
    pointwise [val_main_v103, val_main_cst_22, val_main_v100, val_main_v99, ha]
    simp only [Finset.univ_unique, Finset.sum_singleton, EReal.coe_neg]
  pointwise [val_main_v108, val_main_v107, val_main_cst_23, val_main_v106, val_main_v105, val_main_v104, val_main_v102, val_main_v101,
    hb, he, hs, dprobs_lat v ct x3 x2 h2 h3]
  rw [div_coe_coe hz, ofBits_eighth, ← EReal.coe_add, ← EReal.coe_mul, ← EReal.coe_mul, hg]
  simp only [hp]
  rfl

/-! ### Products -/

include h0 h1 h2 h3 in
theorem dq_lat (b : Fin 2) (j : Fin 2) (g : Fin 4) (i : Fin 2048) (d : Fin 64) :
    val_main_v110 (F := Ideal) x0 x1 x2 x3 (ix5 b j g i d) = ((dq q k v ct b j g (256 + i) d : ℝ) : EReal) := by
  pointwise [val_main_v110, dscores_lat q k v ct x0 x3 x1 x2 h0 h1 h2 h3, keys k x1 h1]
  simp only [← EReal.coe_mul, coe_sum]
  rw [dq, Finset.sum_mul]
  exact congrArg _ (Finset.sum_congr rfl fun n _ => by ring)

include h0 h1 h2 h3 in
theorem dk_lat (b : Fin 2) (j : Fin 2) (n : Fin 2304) (d : Fin 64) :
    val_main_v109 (F := Ideal) x0 x1 x2 x3 (ix4 b j n d) =
      ((∑ g : Fin 4, ∑ i : Fin 2048, dkRow q k v ct b j g (256 + i) n d : ℝ) : EReal) := by
  pointwise [val_main_v109, dscores_lat q k v ct x0 x3 x1 x2 h0 h1 h2 h3, queries_lat q x0 h0]
  simp only [← EReal.coe_mul, coe_sum]
  exact congrArg _ (Finset.sum_congr rfl fun g _ => Finset.sum_congr rfl fun i _ => by unfold dkRow; ring)

include h0 h1 h3 in
theorem dv_lat (b : Fin 2) (j : Fin 2) (n : Fin 2304) (d : Fin 64) :
    val_main_v91 (F := Ideal) x0 x1 x3 (ix4 b j n d) =
      ((∑ g : Fin 4, ∑ i : Fin 2048, dvRow q k ct b j g (256 + i) n d : ℝ) : EReal) := by
  pointwise [val_main_v91, val_main_v90, probs_lat q k x0 x1 h0 h1, cotangents_lat ct x3 h3]
  simp only [← EReal.coe_mul, coe_sum]
  exact congrArg _ (Finset.sum_congr rfl fun g _ => Finset.sum_congr rfl fun i _ => by unfold dvRow; ring)

/-! ## The results -/

include h0 h1 h2 h3 in
theorem dq_eq (b : Fin 2) (j : Fin 2) (g : Fin 4) (i : Fin 2304) (d : Fin 64) :
    val_main_v138 (F := Ideal) x0 x1 x2 x3 (ix5 b j g i d) = ((dq q k v ct b j g i d : ℝ) : EReal) := by
  have ec := dq_ctx q k v ct x0 x3 x1 x2 h0 h1 h2 h3 b j g
  have el := dq_lat q k v ct x0 x3 x1 x2 h0 h1 h2 h3 b j g
  unfold val_main_v138 val_main_v137 val_main_v111
  generalize val_main_v132 (F := Ideal) x0 x1 x2 x3 = y at ec ⊢
  generalize val_main_v110 (F := Ideal) x0 x1 x2 x3 = w at el ⊢
  pointwise [val_main_cst_30, val_main_cst_24, ec, el]
  by_cases h : (i : ℕ) < 256
  · rw [dif_neg (by omega), dif_pos h, zero_add]
  · rw [dif_pos (by omega), dif_neg h, add_zero, Nat.add_sub_cancel' (not_lt.1 h)]

include h0 h1 h2 h3 in
theorem dk_eq (b : Fin 2) (j : Fin 2) (n : Fin 2304) (d : Fin 64) :
    val_main_v136 (F := Ideal) x0 x1 x2 x3 (ix4 b j n d) = ((dk q k v ct b j n d : ℝ) : EReal) := by
  have ec := dk_ctx q k v ct x0 x3 x1 x2 h0 h1 h2 h3 b j
  have el := dk_lat q k v ct x0 x3 x1 x2 h0 h1 h2 h3 b j n d
  unfold val_main_v136 val_main_v135
  generalize val_main_v131 (F := Ideal) x0 x1 x2 x3 = y at ec ⊢
  generalize val_main_v109 (F := Ideal) x0 x1 x2 x3 = w at el ⊢
  pointwise [val_main_cst_29, ec, el]
  simp only [dk]
  rw [← sum_parts (fun g i => dkRow q k v ct b j g i n d) n fun g i hi hn => dkRow_ctx q k v ct _ hi hn]
  by_cases h : (n : ℕ) < 256
  · rw [dif_pos h, if_pos h, EReal.coe_add]
  · rw [dif_neg h, if_neg h, add_zero, add_zero]

include h0 h1 h3 in
theorem dv_eq (b : Fin 2) (j : Fin 2) (n : Fin 2304) (d : Fin 64) :
    val_main_v134 (F := Ideal) x0 x1 x3 (ix4 b j n d) = ((dv q k ct b j n d : ℝ) : EReal) := by
  have ec := dv_ctx q k ct x0 x3 x1 h0 h1 h3 b j
  have el := dv_lat q k ct x0 x3 x1 h0 h1 h3 b j n d
  unfold val_main_v134 val_main_v133
  generalize val_main_v113 (F := Ideal) x0 x1 x3 = y at ec ⊢
  generalize val_main_v91 (F := Ideal) x0 x1 x3 = w at el ⊢
  pointwise [val_main_cst_28, ec, el]
  simp only [dv]
  rw [← sum_parts (fun g i => dvRow q k ct b j g i n d) n fun g i hi hn => dvRow_ctx q k ct _ hi hn]
  by_cases h : (n : ℕ) < 256
  · rw [dif_pos h, if_pos h, EReal.coe_add]
  · rw [dif_neg h, if_neg h, add_zero, add_zero]

include h0 h1 h2 h3 in
/-- The gradient of the queries, at column `c` of a row. -/
theorem grad_queries (b : Fin 2) (i : Fin 2304) (c : Fin 512) :
    val_main_v147 (F := Ideal) x0 x1 x2 x3 (ix3 b i c) =
      ((dq q k v ct b (c / 256) (c / 64 % 4) i (c % 64) : ℝ) : EReal) := by
  rw [val_main_v147_apply, val_main_v144_apply, val_main_v143_apply]
  have hb := b.2
  have hi := i.2
  have hc := c.2
  have e : idx_main_v143 (idx_main_v144 (ix3 b i c)) =
      ix5 b ⟨(c : ℕ) / 256, by omega⟩ ⟨(c : ℕ) / 64 % 4, by omega⟩ i ⟨(c : ℕ) % 64, by omega⟩ := by
    funext a
    apply Fin.ext
    match a with
    | ⟨0, _⟩ => show (((b : ℕ) * 2304 + i) * 512 + c) / 1179648 = b; omega
    | ⟨1, _⟩ => show (((b : ℕ) * 2304 + i) * 512 + c) / 256 % 2 = (c : ℕ) / 256; omega
    | ⟨2, _⟩ => show (((b : ℕ) * 2304 + i) * 512 + c) / 64 % 4 = (c : ℕ) / 64 % 4; omega
    | ⟨3, _⟩ => show (((b : ℕ) * 2304 + i) * 512 + c) / 512 % 2304 = i; omega
    | ⟨4, _⟩ => show (((b : ℕ) * 2304 + i) * 512 + c) % 64 = (c : ℕ) % 64; omega
  rw [e, dq_eq q k v ct x0 x3 x1 x2 h0 h1 h2 h3]
  rfl

include h0 h1 h2 h3 in
/-- The gradient of the keys, at column `c` of a row. -/
theorem grad_keys (b : Fin 2) (n : Fin 2304) (c : Fin 128) :
    val_main_v146 (F := Ideal) x0 x1 x2 x3 (ix3 b n c) = ((dk q k v ct b (c / 64) n (c % 64) : ℝ) : EReal) := by
  rw [val_main_v146_apply, val_main_v142_apply, val_main_v141_apply]
  have hb := b.2
  have hn := n.2
  have hc := c.2
  have e : idx_main_v141 (idx_main_v142 (ix3 b n c)) =
      ix4 b ⟨(c : ℕ) / 64, by omega⟩ n ⟨(c : ℕ) % 64, by omega⟩ := by
    funext a
    apply Fin.ext
    match a with
    | ⟨0, _⟩ => show (((b : ℕ) * 2304 + n) * 128 + c) / 294912 = b; omega
    | ⟨1, _⟩ => show (((b : ℕ) * 2304 + n) * 128 + c) / 64 % 2 = (c : ℕ) / 64; omega
    | ⟨2, _⟩ => show (((b : ℕ) * 2304 + n) * 128 + c) / 128 % 2304 = n; omega
    | ⟨3, _⟩ => show (((b : ℕ) * 2304 + n) * 128 + c) % 64 = (c : ℕ) % 64; omega
  rw [e, dk_eq q k v ct x0 x3 x1 x2 h0 h1 h2 h3]
  rfl

include h0 h1 h3 in
/-- The gradient of the values, at column `c` of a row. -/
theorem grad_values (b : Fin 2) (n : Fin 2304) (c : Fin 128) :
    val_main_v145 (F := Ideal) x0 x1 x3 (ix3 b n c) = ((dv q k ct b (c / 64) n (c % 64) : ℝ) : EReal) := by
  rw [val_main_v145_apply, val_main_v140_apply, val_main_v139_apply]
  have hb := b.2
  have hn := n.2
  have hc := c.2
  have e : idx_main_v139 (idx_main_v140 (ix3 b n c)) =
      ix4 b ⟨(c : ℕ) / 64, by omega⟩ n ⟨(c : ℕ) % 64, by omega⟩ := by
    funext a
    apply Fin.ext
    match a with
    | ⟨0, _⟩ => show (((b : ℕ) * 2304 + n) * 128 + c) / 294912 = b; omega
    | ⟨1, _⟩ => show (((b : ℕ) * 2304 + n) * 128 + c) / 64 % 2 = (c : ℕ) / 64; omega
    | ⟨2, _⟩ => show (((b : ℕ) * 2304 + n) * 128 + c) / 128 % 2304 = n; omega
    | ⟨3, _⟩ => show (((b : ℕ) * 2304 + n) * 128 + c) % 64 = (c : ℕ) % 64; omega
  rw [e, dv_eq q k ct x0 x3 x1 h0 h1 h3]
  rfl

end Cert.ReferenceIdeal.Gradients
-- ==== Proof.Finite.lean ====
/-
  The precondition of the backward call, element by element: an array whose entries all have an absolute value below infinity
  holds real numbers.
-/
module
public import proofs.«01_k».proof.Proof.Gen.Pre_finite
public import Idealize.ShloMosaic.Lib.ReduceAll
public import Idealize.ShloMosaic.Lib.Pointwise
@[expose] public section
noncomputable section
namespace Cert.Gqa
open Idealize.ShloMosaic Idealize.SL.Sem

/-- The 16-bit float `∞` is the greatest extended real. -/
theorem ofBits_top : Ideal.ofBits .bf16 0x7F80#16 = ⊤ := by
  simp [Ideal.ofBits, Ideal.ieee]

/-- An extended real of absolute value below infinity is a real. -/
theorem real_of_below (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

/-- An array of reals, read as a function of three numbers. -/
theorem rows_of_real {n c : ℕ} (x : FVec Ideal ⟨3, ![2, n, c]⟩ .bf16) (h : ∀ i, ∃ r : ℝ, x i = (r : EReal)) :
    ∃ f : ℕ → ℕ → ℕ → ℝ, ∀ (b : Fin 2) (i : Fin n) (j : Fin c), x (ix3 b i j) = ((f b i j : ℝ) : EReal) := by
  choose f hf using h
  refine ⟨fun b i j => if hb : b < 2 ∧ i < n ∧ j < c then f (ix3 ⟨b, hb.1⟩ ⟨i, hb.2.1⟩ ⟨j, hb.2.2⟩) else 0, fun b i j => ?_⟩
  rw [hf]
  dsimp only
  rw [dif_pos ⟨b.isLt, i.isLt, j.isLt⟩]

/-- The bits of a conjunction. -/
theorem both_one {x y : BitVec 1} (h : IntOp.andi x y = 1#1) : x = 1#1 ∧ y = 1#1 := IntOp.andi_eq_one.1 h

end Cert.Gqa

namespace Cert.Pre_finite
open Idealize.ShloMosaic Idealize.SL.Sem Cert.Gqa

instance : Subsingleton S_.Idx := ⟨fun a b => funext fun i => i.elim0⟩

/-- The precondition of the backward call: four arrays of reals. -/
theorem real (x0 : FVec Ideal S2x2304x512 .bf16) (x1 x2 : FVec Ideal S2x2304x128 .bf16) (x3 : FVec Ideal S2x2304x512 .bf16)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h (fun a => a.elim0)
  obtain ⟨h0, h4⟩ := both_one h0
  obtain ⟨h0, h3⟩ := both_one h0
  obtain ⟨h1, h2⟩ := both_one h0
  have key {s : Shape} (x : FVec Ideal s .bf16) (y : EReal) (hy : y = ⊤) (i : s.Idx) (e : Ideal.cmp .olt (max (x i : EReal) (-(x i : EReal))) y = 1#1) :
      ∃ r : ℝ, x i = (r : EReal) := real_of_below _ (hy ▸ e)
  exact ⟨fun i => key x0 _ ofBits_top i (Host.reduce_andi_all _ _ _ _ _ h1 i), fun i => key x1 _ ofBits_top i (Host.reduce_andi_all _ _ _ _ _ h2 i),
    fun i => key x2 _ ofBits_top i (Host.reduce_andi_all _ _ _ _ _ h3 i), fun i => key x3 _ ofBits_top i (Host.reduce_andi_all _ _ _ _ _ h4 i)⟩

end Cert.Pre_finite
end
-- ==== Proof.Compare.lean ====
module
public import proofs.«01_k».proof.Defs
public import proofs.«01_k».proof.Proof.Results
public import proofs.«01_k».proof.Proof.Gradients
public import proofs.«01_k».proof.Proof.Finite
public import Idealize.ShloMosaic.Lib.Claim
@[expose] public section
noncomputable section
namespace Cert.Proof
open Idealize.ShloMosaic Idealize.SL.Sem

/-- Two arrays equal at every triple of coordinates. -/
theorem ext3 {n0 n1 n2 : ℕ} {α : Type} (x y : (⟨3, ![n0, n1, n2]⟩ : Shape).Idx → α) (h : ∀ (a : Fin n0) (b : Fin n1) (c : Fin n2), x (ix3 a b c) = y (ix3 a b c)) : x = y := by
  funext i
  have e : i = ix3 (i 0) (i 1) (i 2) := by
    funext a
    match a with
    | ⟨0, _⟩ => rfl
    | ⟨1, _⟩ => rfl
    | ⟨2, _⟩ => rfl
  rw [e]
  exact h _ _ _

/-- The backward kernel computes the reference's gradients, for real arguments. -/
theorem algebraic_backward : Cert.algebraic_KernelIdeal_ReferenceIdeal_pre_finite := by
  intro m g m' g' hpre hagree
  refine ⟨Cert.KernelIdeal.Value.G6 m, Cert.KernelIdeal.Value.G7 m, Cert.KernelIdeal.Value.G8 m, Cert.KernelIdeal.Value.run (F := Ideal) m g,
    (θ_run Cert.ReferenceIdeal.defs _ _).mono (fun r h c => ?_) (Cert.ReferenceIdeal.Value.run (F := Ideal) m' g')⟩
  obtain ⟨a0, a1, a2, a3⟩ := hagree c
  obtain ⟨r0, r1, r2, r3⟩ := Cert.Pre_finite.real _ _ _ _ (hpre c)
  obtain ⟨q, hq⟩ := Cert.Gqa.rows_of_real _ r0
  obtain ⟨k, hk⟩ := Cert.Gqa.rows_of_real _ r1
  obtain ⟨v, hv⟩ := Cert.Gqa.rows_of_real _ r2
  obtain ⟨ct, hct⟩ := Cert.Gqa.rows_of_real _ r3
  have hA : Cert.KernelIdeal.Backward.Args q k v ct (m (c.tc.loc Cert.KernelIdeal.main_arg0)) (m (c.tc.loc Cert.KernelIdeal.main_arg3)) (m (c.tc.loc Cert.KernelIdeal.main_arg1)) (m (c.tc.loc Cert.KernelIdeal.main_arg2)) :=
    ⟨hq, hct, hk, hv⟩
  obtain ⟨h0, h1, h2, hargs⟩ := h c
  refine ⟨h0.trans ?_, h1.trans ?_, h2.trans ?_, hargs⟩
  · rw [Cert.ReferenceIdeal.Read.val_main_v147_eq, a0, a1, a2, a3]
    exact ext3 _ _ fun b i e => (Cert.ReferenceIdeal.Gradients.grad_queries q k v ct _ _ _ _ hq hk hv hct b i e).trans (Cert.KernelIdeal.Backward.result_dq m c hA b i e).symm
  · rw [Cert.ReferenceIdeal.Read.val_main_v146_eq, a0, a1, a2, a3]
    exact ext3 _ _ fun b i e => (Cert.ReferenceIdeal.Gradients.grad_keys q k v ct _ _ _ _ hq hk hv hct b i e).trans (Cert.KernelIdeal.Backward.result_dk m c hA b i e).symm
  · rw [Cert.ReferenceIdeal.Read.val_main_v145_eq, a0, a1, a3]
    exact ext3 _ _ fun b i e => (Cert.ReferenceIdeal.Gradients.grad_values q k ct _ _ _ hq hk hct b i e).trans (Cert.KernelIdeal.Backward.result_dv m c hA b i e).symm

end Cert.Proof
end
-- ==== Proof.Lanes.lean ====
/-
  The weights that expand the latents, whose rows the host spreads over 128 lanes per head.
-/
module
public import proofs.«01_k».proof.Proof.Products
@[expose] public section
set_option maxRecDepth 16384
noncomputable section
open Idealize.ShloMosaic Idealize.ShloMosaic.TcCoe Idealize.SL.Sem

namespace Cert.Products

/-- Eight heads of 128 lanes: the first `n` lanes of a head are the weight's rows from `off` on within the head's `per` rows,
the other lanes are zero. -/
def lanes (R J per off n : ℕ) (h : 7 * per + off + n ≤ R) (w : FVec Ideal ⟨2, ![R, J]⟩ .bf16) (k : Fin 1024) (j : Fin J) : EReal :=
  if hk : k.val % 128 < n then
    w (ix2 ⟨k.val / 128 * per + off + k.val % 128, by
      have := Nat.mul_le_mul_right per (show k.val / 128 ≤ 7 by omega); omega⟩ j)
  else 0

/-- A sum over the 1024 lanes is one over each head's rows. -/
theorem sum_lanes (R J per off n r : ℕ) (hn : n + r = 128) (h : 7 * per + off + n ≤ R) (w : FVec Ideal ⟨2, ![R, J]⟩ .bf16)
    (f : Fin 1024 → EReal) (j : Fin J) :
    ∑ k, f k * lanes R J per off n h w k j =
      ∑ a : Fin 8, ∑ b : Fin n, f ⟨a.val * 128 + b.val, by omega⟩ *
        w (ix2 ⟨a.val * per + off + b.val, by have := Nat.mul_le_mul_right per (show a.val ≤ 7 by omega); omega⟩ j) := by
  rw [Fin.sum_univ_tiles 8 128 rfl]
  refine Finset.sum_congr rfl fun a _ => ?_
  rw [Fin.sum_univ_two_halves n r hn]
  refine (congrArg₂ (· + ·) (Finset.sum_congr rfl fun b _ => congrArg _ ?_) (Finset.sum_eq_zero fun b _ => ?_)).trans (add_zero _)
  · have e : (a.val * 128 + b.val) / 128 = a.val := by omega
    have e' : (a.val * 128 + b.val) % 128 = b.val := by omega
    unfold lanes
    rw [dif_pos (by show (a.val * 128 + b.val) % 128 < n; omega)]
    exact congrArg (fun l => w (ix2 l j)) (Fin.ext (by show (a.val * 128 + b.val) / 128 * per + off + (a.val * 128 + b.val) % 128 = _; rw [e, e']))
  · unfold lanes
    rw [dif_neg (by show ¬(a.val * 128 + (n + b.val)) % 128 < n; omega), mul_zero]

/-- The host's array of eight heads with 96 rows each, padded to 128 lanes, at an index. -/
theorem spread96 (p : FVec Ideal ⟨3, ![8, 96, 256]⟩ .bf16) (v : FVec Ideal ⟨0, ![]⟩ .bf16) (hp) (h0) (hs) (k : Fin 1024) (j : Fin 256) :
    (shapeCast ⟨2, ![1024, 256]⟩ (pad ⟨3, ![8, 128, 256]⟩ ![0, 0, 0] ![0, 32, 0] ![0, 0, 0] p v hp h0) hs : FVec Ideal ⟨2, ![1024, 256]⟩ .bf16) (ix2 k j) =
      if h : k.val % 128 < 96 then p (ix3 ⟨k.val / 128, by omega⟩ ⟨k.val % 128, h⟩ j) else v (Shape.Idx.first h0) := by
  have e : ∀ q : FVec Ideal ⟨3, ![8, 128, 256]⟩ .bf16, (shapeCast ⟨2, ![1024, 256]⟩ q hs : FVec Ideal ⟨2, ![1024, 256]⟩ .bf16) (ix2 k j) = q (ix3 ⟨k.val / 128, by omega⟩ ⟨k.val % 128, by omega⟩ j) :=
    fun q => by pointwise []
  rw [e]
  pointwise []
  split_ifs <;> first | omega | rfl

/-- The same with 64 rows each. -/
theorem spread64 (p : FVec Ideal ⟨3, ![8, 64, 128]⟩ .bf16) (v : FVec Ideal ⟨0, ![]⟩ .bf16) (hp) (h0) (hs) (k : Fin 1024) (j : Fin 128) :
    (shapeCast ⟨2, ![1024, 128]⟩ (pad ⟨3, ![8, 128, 128]⟩ ![0, 0, 0] ![0, 64, 0] ![0, 0, 0] p v hp h0) hs : FVec Ideal ⟨2, ![1024, 128]⟩ .bf16) (ix2 k j) =
      if h : k.val % 128 < 64 then p (ix3 ⟨k.val / 128, by omega⟩ ⟨k.val % 128, h⟩ j) else v (Shape.Idx.first h0) := by
  have e : ∀ q : FVec Ideal ⟨3, ![8, 128, 128]⟩ .bf16, (shapeCast ⟨2, ![1024, 128]⟩ q hs : FVec Ideal ⟨2, ![1024, 128]⟩ .bf16) (ix2 k j) = q (ix3 ⟨k.val / 128, by omega⟩ ⟨k.val % 128, by omega⟩ j) :=
    fun q => by pointwise []
  rw [e]
  pointwise []
  split_ifs <;> first | omega | rfl

/-- The zero that the host pads with. -/
theorem zero_word (i : (⟨0, ![]⟩ : Shape).Idx) : (sitofp .bf16 (constantI ⟨0, ![]⟩ 32 0#32) : FVec Ideal ⟨0, ![]⟩ .bf16) i = 0 := by
  pointwise []
  simp [FloatOps.sitofp]

/-- The weight of the queries as the host spreads it. -/
theorem spread_rows (w : FVec Ideal ⟨2, ![768, 256]⟩ .bf16) (hw) (hp) (h0) (hs) (h) (k : Fin 1024) (j : Fin 256) :
    (shapeCast ⟨2, ![1024, 256]⟩ (pad ⟨3, ![8, 128, 256]⟩ ![0, 0, 0] ![0, 32, 0] ![0, 0, 0] (shapeCast ⟨3, ![8, 96, 256]⟩ w hw : FVec Ideal ⟨3, ![8, 96, 256]⟩ .bf16)
      (sitofp .bf16 (constantI ⟨0, ![]⟩ 32 0#32) : FVec Ideal ⟨0, ![]⟩ .bf16) hp h0) hs : FVec Ideal ⟨2, ![1024, 256]⟩ .bf16) (ix2 k j) = lanes 768 256 96 0 96 h w k j := by
  have e : ∀ (a : Fin 8) (b : Fin 96), (shapeCast ⟨3, ![8, 96, 256]⟩ w hw : FVec Ideal ⟨3, ![8, 96, 256]⟩ .bf16) (ix3 a b j) = w (ix2 ⟨a.val * 96 + b.val, by omega⟩ j) :=
    fun a b => by pointwise []
  rw [spread96, zero_word]
  unfold lanes
  split_ifs
  · rw [e]
    exact congrArg w (by idx_ext)
  · rfl

/-- The keys' rows of a weight as the host spreads them. -/
theorem spread_keys (w : FVec Ideal ⟨2, ![1024, 128]⟩ .bf16) (hw) (hc) (hp) (h0) (hs) (h) (k : Fin 1024) (j : Fin 128) :
    (shapeCast ⟨2, ![1024, 128]⟩ (pad ⟨3, ![8, 128, 128]⟩ ![0, 0, 0] ![0, 64, 0] ![0, 0, 0]
      (extractStridedSlice ⟨3, ![8, 64, 128]⟩ ![0, 0, 0] (shapeCast ⟨3, ![8, 128, 128]⟩ w hw : FVec Ideal ⟨3, ![8, 128, 128]⟩ .bf16) hc : FVec Ideal ⟨3, ![8, 64, 128]⟩ .bf16)
      (sitofp .bf16 (constantI ⟨0, ![]⟩ 32 0#32) : FVec Ideal ⟨0, ![]⟩ .bf16) hp h0) hs : FVec Ideal ⟨2, ![1024, 128]⟩ .bf16) (ix2 k j) = lanes 1024 128 128 0 64 h w k j := by
  have e : ∀ (a : Fin 8) (b : Fin 64), (extractStridedSlice ⟨3, ![8, 64, 128]⟩ ![0, 0, 0] (shapeCast ⟨3, ![8, 128, 128]⟩ w hw : FVec Ideal ⟨3, ![8, 128, 128]⟩ .bf16) hc : FVec Ideal ⟨3, ![8, 64, 128]⟩ .bf16) (ix3 a b j) = w (ix2 ⟨a.val * 128 + b.val, by omega⟩ j) :=
    fun a b => by pointwise []
  rw [spread64, zero_word]
  unfold lanes
  split_ifs
  · rw [e]
    exact congrArg w (by idx_ext)
  · rfl

/-- The values' rows of a weight as the host spreads them. -/
theorem spread_values (w : FVec Ideal ⟨2, ![1024, 128]⟩ .bf16) (hw) (hc) (hp) (h0) (hs) (h) (k : Fin 1024) (j : Fin 128) :
    (shapeCast ⟨2, ![1024, 128]⟩ (pad ⟨3, ![8, 128, 128]⟩ ![0, 0, 0] ![0, 64, 0] ![0, 0, 0]
      (extractStridedSlice ⟨3, ![8, 64, 128]⟩ ![0, 64, 0] (shapeCast ⟨3, ![8, 128, 128]⟩ w hw : FVec Ideal ⟨3, ![8, 128, 128]⟩ .bf16) hc : FVec Ideal ⟨3, ![8, 64, 128]⟩ .bf16)
      (sitofp .bf16 (constantI ⟨0, ![]⟩ 32 0#32) : FVec Ideal ⟨0, ![]⟩ .bf16) hp h0) hs : FVec Ideal ⟨2, ![1024, 128]⟩ .bf16) (ix2 k j) = lanes 1024 128 128 64 64 h w k j := by
  have e : ∀ (a : Fin 8) (b : Fin 64), (extractStridedSlice ⟨3, ![8, 64, 128]⟩ ![0, 64, 0] (shapeCast ⟨3, ![8, 128, 128]⟩ w hw : FVec Ideal ⟨3, ![8, 128, 128]⟩ .bf16) hc : FVec Ideal ⟨3, ![8, 64, 128]⟩ .bf16) (ix3 a b j) = w (ix2 ⟨a.val * 128 + 64 + b.val, by omega⟩ j) :=
    fun a b => by pointwise []; exact congrArg w (by idx_ext)
  rw [spread64, zero_word]
  unfold lanes
  split_ifs
  · rw [e]
  · rfl

end Cert.Products

end
-- ==== Proof.Expand.lean ====
/-
  The products that expand the latents of the latent attention, each call against its reference.
-/
module
public import proofs.«01_k».proof.Defs
public import proofs.«01_k».proof.Proof.Gen.Kernel29Ideal.Value
public import proofs.«01_k».proof.Proof.Gen.Reference29Ideal.Read
public import proofs.«01_k».proof.Proof.Gen.Kernel30Ideal.Value
public import proofs.«01_k».proof.Proof.Gen.Reference30Ideal.Read
public import proofs.«01_k».proof.Proof.Gen.Kernel31Ideal.Value
public import proofs.«01_k».proof.Proof.Gen.Reference31Ideal.Read
public import proofs.«01_k».proof.Proof.Gen.Kernel32Ideal.Value
public import proofs.«01_k».proof.Proof.Gen.Reference32Ideal.Read
public import proofs.«01_k».proof.Proof.Gen.Kernel33Ideal.Value
public import proofs.«01_k».proof.Proof.Gen.Reference33Ideal.Read
public import proofs.«01_k».proof.Proof.Gen.Kernel34Ideal.Value
public import proofs.«01_k».proof.Proof.Gen.Reference34Ideal.Read
public import proofs.«01_k».proof.Proof.Lanes
@[expose] public section
set_option maxRecDepth 16384
noncomputable section
open Idealize.ShloMosaic Idealize.ShloMosaic.TcCoe Idealize.SL.Sem

/-! ## The queries: the product -/

namespace Cert.Kernel29Ideal.Product
open Cert.Kernel29Ideal Cert.Kernel29Ideal.Gen Cert.Kernel29Ideal.Value Cert.Reference29Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The weight as the host spreads it over the lanes. -/
theorem entry (c : Dev nD) (k : Fin 1024) (j : Fin 256) : (V m c main_v2 : FVec Ideal S1024x256 .bf16) (ix2 k j) = Products.lanes 768 256 96 0 96 (by norm_num) (m ((c : Thread nD τ).loc main_arg1)) k j := by
  have h : (V m c main_v2 : FVec Ideal S1024x256 .bf16) = shapeCast S1024x256 (pad S8x128x256 ![0, 0, 0] ![0, 32, 0] ![0, 0, 0] (shapeCast S8x96x256 (m ((c : Thread nD τ).loc main_arg1) : FVec Ideal S768x256 .bf16) shapeCasts_S768x256_S8x96x256) (sitofp .bf16 (constantI S_ 32 0#32) : FVec Ideal S_ .bf16) pads_S8x96x256_S8x128x256_000_0320_000 h_S_) shapeCasts_S8x128x256_S1024x256 := by rfl
  rw [h]
  exact Products.spread_rows _ _ _ _ _ _ k j

/-- The block of the spread weight. -/
theorem weight (c : Dev nD) (t : Fin cfg0.N) (k : Fin 1024) (j : Fin 256) : (iblk m c 1 t : FVec Ideal S1024x256 .bf16) (ix2 k j) = Products.lanes 768 256 96 0 96 (by norm_num) (m ((c : Thread nD τ).loc main_arg1)) k j := by
  rw [← entry]
  blk_point [iblk, idx t]

/-- The reference at an index. -/
theorem read (x0 : FVec Ideal Cert.Reference29Ideal.S4096x256 .bf16) (x1 : FVec Ideal Cert.Reference29Ideal.S768x256 .bf16) (j : Cert.Reference29Ideal.S4096x1024.Idx) :
    val_main_v8 (F := Ideal) x0 x1 j = ∑ k : Fin 256, x0 (ix2 (j 0) k) * Products.lanes 768 256 96 0 96 (by norm_num) x1 (j 1) k := by
  idx_vars j
  pointwise [val_main_v0, val_main_v1, val_main_v2, val_main_v3, val_main_v4, val_main_v5, val_main_cst, val_main_v6, val_main_v7, val_main_v8, Products.lanes]
  split_ifs <;> first | omega | (simp; done) | (refine Finset.sum_congr rfl fun k _ => Ideal.mul_congr ?_ ?_ <;> exact congrArg _ (by idx_ext))

/-- The result array is the reference's. -/
theorem final (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t _ y => ?_
  blk_simp; rw [after0_2, read]; frame_out
  pointwise [k0_pay1, weight]
  refine Finset.sum_congr (M := EReal) rfl fun k _ => Ideal.mul_congr ?_ (congrArg (fun a => Products.lanes 768 256 96 0 96 _ _ a k) (Fin.ext ?_))
  · blk_point [iblk, V_main_arg0, idx t]
  · blk_point [idx t]

/-- The call computes what the reference computes. -/
theorem algebraic : Cert.algebraic_Kernel29Ideal_Reference29Ideal := by
  intro m g m' g' _ hagree
  refine ⟨fun c => (dats m 0 c).arrAt 2 cfg0.N, run_blocks m g,
    (θ_run Cert.Reference29Ideal.defs _ _).mono (fun r h c => ?_) (Cert.Reference29Ideal.Value.run (F := Ideal) m' g')⟩
  obtain ⟨a0, a1⟩ := hagree c
  obtain ⟨h0, hargs⟩ := h c
  refine ⟨h0.trans ?_, hargs⟩
  · rw [val_main_v8_eq, a0, a1]
    exact (final m c).symm

/-- The reference terminates and leaves its arguments. -/
theorem frame_reference : Cert.quiescent_Reference29Ideal := fun m g _ =>
  (θ_run Cert.Reference29Ideal.defs _ _).mono (fun _ h => ⟨fun c => (h c).2, funext fun s => match s with
    | ⟨_, .reg x⟩ => x.elim0
    | ⟨_, .dma x⟩ => x.elim0⟩) (Cert.Reference29Ideal.Value.run (F := Ideal) m g)

end Cert.Kernel29Ideal.Product

/-! ## The queries: the gradient of the latent -/

namespace Cert.Kernel30Ideal.Product
open Cert.Kernel30Ideal Cert.Kernel30Ideal.Gen Cert.Kernel30Ideal.Value Cert.Reference30Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The weight as the host spreads it over the lanes. -/
theorem entry (c : Dev nD) (k : Fin 1024) (j : Fin 256) : (V m c main_v2 : FVec Ideal S1024x256 .bf16) (ix2 k j) = Products.lanes 768 256 96 0 96 (by norm_num) (m ((c : Thread nD τ).loc main_arg1)) k j := by
  have h : (V m c main_v2 : FVec Ideal S1024x256 .bf16) = shapeCast S1024x256 (pad S8x128x256 ![0, 0, 0] ![0, 32, 0] ![0, 0, 0] (shapeCast S8x96x256 (m ((c : Thread nD τ).loc main_arg1) : FVec Ideal S768x256 .bf16) shapeCasts_S768x256_S8x96x256) (sitofp .bf16 (constantI S_ 32 0#32) : FVec Ideal S_ .bf16) pads_S8x96x256_S8x128x256_000_0320_000 h_S_) shapeCasts_S8x128x256_S1024x256 := by rfl
  rw [h]
  exact Products.spread_rows _ _ _ _ _ _ k j

/-- The block of the spread weight. -/
theorem weight (c : Dev nD) (t : Fin cfg0.N) (k : Fin 1024) (j : Fin 256) : (iblk m c 1 t : FVec Ideal S1024x256 .bf16) (ix2 k j) = Products.lanes 768 256 96 0 96 (by norm_num) (m ((c : Thread nD τ).loc main_arg1)) k j := by
  rw [← entry]
  blk_point [iblk, idx t]

/-- The reference at an index: the sum over each head's rows is one over the lanes. -/
theorem read (x0 : FVec Ideal Cert.Reference30Ideal.S4096x1024 .bf16) (x1 : FVec Ideal Cert.Reference30Ideal.S768x256 .bf16) (j : Cert.Reference30Ideal.S4096x256.Idx) :
    val_main_v17 (F := Ideal) x0 x1 j = ∑ k : Fin 1024, x0 (ix2 (j 0) k) * Products.lanes 768 256 96 0 96 (by norm_num) x1 k (j 1) := by
  idx_vars j
  rw [Products.sum_lanes 768 256 96 0 96 32 rfl]
  pointwise [val_main_v1, val_main_v3, val_main_v11, val_main_v12, val_main_v14, val_main_v15, val_main_v16, val_main_v17]
  rw [Fin.sum_univ_tiles 8 96 rfl]
  refine Finset.sum_congr rfl fun a _ => Finset.sum_congr rfl fun b _ => Ideal.mul_congr ?_ ?_ <;> exact congrArg _ (by idx_ext)

/-- The result array is the reference's. -/
theorem final (c : Dev nD) : (dats m 0 c).arrAt 2 cfg0.N = val_main_v17 (F := Ideal) (m ((c : Thread nD τ).loc main_arg0)) (m ((c : Thread nD τ).loc main_arg1)) := by
  refine (dats m 0 c).arrAt_eq_of_covers 2 _ (by decide +kernel) fun t _ y => ?_
  blk_simp; rw [after0_2, read]; frame_out
  pointwise [k0_pay1, weight]
  refine Finset.sum_congr (M := EReal) rfl fun k _ => Ideal.mul_congr ?_ (congrArg (Products.lanes 768 256 96 0 96 _ _ k) (Fin.ext ?_))
  all_goals blk_point [iblk, V_main_arg0, idx t]

/-- The call computes what the reference computes. -/
theorem algebraic : Cert.algebraic_Kernel30Ideal_Reference30Ideal := by
  intro m g m' g' _ hagree
  refine ⟨fun c => (dats m 0 c).arrAt 2 cfg0.N, run_blocks m g,
    (θ_run Cert.Reference30Ideal.defs _ _).mono (fun r h c => ?_) (Cert.Reference30Ideal.Value.run (F := Ideal) m' g')⟩
  obtain ⟨a0, a1⟩ := hagree c
  obtain ⟨h0, hargs⟩ := h c
  refine ⟨h0.trans ?_, hargs⟩
  · rw [val_main_v17_eq, a0, a1]
    exact (final m c).symm

/-- The reference terminates and leaves its arguments. -/
theorem frame_reference : Cert.quiescent_Reference30Ideal := fun m g _ =>
  (θ_run Cert.Reference30Ideal.defs _ _).mono (fun _ h => ⟨fun c => (h c).2, funext fun s => match s with
    | ⟨_, .reg x⟩ => x.elim0
    | ⟨_, .dma x⟩ => x.elim0⟩) (Cert.Reference30Ideal.Value.run (F := Ideal) m g)

end Cert.Kernel30Ideal.Product

/-! ## The queries: the gradient of the weight -/

namespace Cert.Kernel31Ideal.Product
open Cert.Kernel31Ideal Cert.Kernel31Ideal.Gen Cert.Kernel31Ideal.Value Cert.Reference31Ideal.Read

variable (m : (ℓ : Loc nD τ sig) → Buf (Elt Ideal) ℓ)

/-- The block that each window has at each grid point. -/
theorem idx : ∀ t : Fin cfg0.N, win0_0.index t = ![t.val % 2, 0]
    ∧ win0_1.index t = ![t.val % 2, 0]
    ∧ win0_2.index t = ![0, 0] :=
  (by decide +kernel : ∀ t : Fin grid0.N, _)

/-- The accumulator at the first point: that point's product. -/
theorem acc_first (c : Dev nD) (t : Fin cfg0.N) (h : t.val % 2 = 0) (j) :
    (outsAt0 m c t.val t.isLt).2 j = 0 + k0_pay1 (iblk m c 0 t) (iblk m c 1 t) j := by
  rw [outsAt0_A m c t h (by omega) (by omega)]; frame_out
  pointwise [k0_pay2]

/-- The accumulator at the later point: the point before, and that point's product. -/
theorem acc_next (c : Dev nD) (t : Fin cfg0.N) (h : ¬t.val % 2 = 0) (j) :
    (outsAt0 m c t.val t.isLt).2 j = (outsAt0 m c (t.val - 1) (Nat.lt_of_le_of_lt (Nat.sub_le _ _) t.isLt)).2 j + k0_pay1 (iblk m c 0 t) (iblk m c 1 t) j := by
  rw [outsAt0_B m c t h (by omega) (by omega)]; frame_out
  pointwise [k0_pay3]
  exact congrArg (· + _) (congrFun (Memref.IsWhole.read_unread _ _) _)

/-- The result array is the reference's: the last point writes the accumulator. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  have hl : (outsAt0 m c t.val t.isLt).1 y = (outsAt0 m c t.val t.isLt).2 y := by
    rw [outsAt0_B m c t (by omega) (by omega) (by omega)]; frame_out
    pointwise [k0_pay4]
  blk_simp
  rw [after0_2, hl, Pipeline.eq_sum_fin_of_reset_step_apply_of_flush (fun n h => (outsAt0 m c n h).2) 2 (fun _ => 0) _ (acc_first m c) (acc_next m c) t h _, zero_add]
  pointwise [k0_pay1, val_main_v1, val_main_v5, val_main_v6, val_main_v7, val_main_v8, val_main_v9]
  refine Fin.sum_mul_add_congr fun s k hk => ?_
  blk_point [iblk, V, idx t, idx ⟨_, Pipeline.run_point_lt_of_flush t h s⟩]

/-- The call computes what the reference computes. -/
theorem algebraic : Cert.algebraic_Kernel31Ideal_Reference31Ideal := by
  intro m g m' g' _ hagree
  refine ⟨fun c => (dats m 0 c).arrAt 2 cfg0.N, run_blocks m g,
    (θ_run Cert.Reference31Ideal.defs _ _).mono (fun r h c => ?_) (Cert.Reference31Ideal.Value.run (F := Ideal) m' g')⟩
  obtain ⟨a0, a1⟩ := hagree c
  obtain ⟨h0, hargs⟩ := h c
  refine ⟨h0.trans ?_, hargs⟩
  · rw [val_main_v9_eq, a0, a1]
    exact (final m c).symm

/-- The reference terminates and leaves its arguments. -/
theorem frame_reference : Cert.quiescent_Reference31Ideal := fun m g _ =>
  (θ_run Cert.Reference31Ideal.defs _ _).mono (fun _ h => ⟨fun c => (h c).2, funext fun s => match s with
    | ⟨_, .reg x⟩ => x.elim0
    | ⟨_, .dma x⟩ => x.elim0⟩) (Cert.Reference31Ideal.Value.run (F := Ideal) m g)

end Cert.Kernel31Ideal.Product

/-! ## The keys and the values: the products -/

namespace Cert.Kernel32Ideal.Product
open Cert.Kernel32Ideal Cert.Kernel32Ideal.Gen Cert.Kernel32Ideal.Value Cert.Reference32Ideal.Read

variable (m : (ℓ : Loc nD τ sig) → Buf (Elt Ideal) ℓ)

/-- The block that each window has at each grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The keys' rows of the weight as the host spreads them over the lanes. -/
theorem entry1 (c : Dev nD) (k : Fin 1024) (j : Fin 128) : (V m c main_v3 : FVec Ideal S1024x128 .bf16) (ix2 k j) = Products.lanes 1024 128 128 0 64 (by norm_num) (m ((c : Thread nD τ).loc main_arg1)) k j := by
  have h : (V m c main_v3 : FVec Ideal S1024x128 .bf16) = shapeCast S1024x128 (pad S8x128x128 ![0, 0, 0] ![0, 64, 0] ![0, 0, 0] (extractStridedSlice S8x64x128 ![0, 0, 0] (shapeCast S8x128x128 (m ((c : Thread nD τ).loc main_arg1) : FVec Ideal S1024x128 .bf16) shapeCasts_S1024x128_S8x128x128) slices_S8x128x128_S8x64x128_0_0_0) (sitofp .bf16 (constantI S_ 32 0#32) : FVec Ideal S_ .bf16) pads_S8x64x128_S8x128x128_000_0640_000 h_S_) shapeCasts_S8x128x128_S1024x128 := by rfl
  rw [h]
  exact Products.spread_keys _ _ _ _ _ _ _ k j

/-- The block of the keys' rows. -/
theorem weight1 (c : Dev nD) (t : Fin cfg0.N) (k : Fin 1024) (j : Fin 128) : (iblk m c 1 t : FVec Ideal S1024x128 .bf16) (ix2 k j) = Products.lanes 1024 128 128 0 64 (by norm_num) (m ((c : Thread nD τ).loc main_arg1)) k j := by
  rw [← entry1]
  blk_point [iblk, idx t]

/-- The values' rows of the weight as the host spreads them over the lanes. -/
theorem entry2 (c : Dev nD) (k : Fin 1024) (j : Fin 128) : (V m c main_v6 : FVec Ideal S1024x128 .bf16) (ix2 k j) = Products.lanes 1024 128 128 64 64 (by norm_num) (m ((c : Thread nD τ).loc main_arg1)) k j := by
  have h : (V m c main_v6 : FVec Ideal S1024x128 .bf16) = shapeCast S1024x128 (pad S8x128x128 ![0, 0, 0] ![0, 64, 0] ![0, 0, 0] (extractStridedSlice S8x64x128 ![0, 64, 0] (shapeCast S8x128x128 (m ((c : Thread nD τ).loc main_arg1) : FVec Ideal S1024x128 .bf16) shapeCasts_S1024x128_S8x128x128) slices_S8x128x128_S8x64x128_0_64_0) (sitofp .bf16 (constantI S_ 32 0#32) : FVec Ideal S_ .bf16) pads_S8x64x128_S8x128x128_000_0640_000 h_S_) shapeCasts_S8x128x128_S1024x128 := by rfl
  rw [h]
  exact Products.spread_values _ _ _ _ _ _ _ k j

/-- The block of the values' rows. -/
theorem weight2 (c : Dev nD) (t : Fin cfg0.N) (k : Fin 1024) (j : Fin 128) : (iblk m c 2 t : FVec Ideal S1024x128 .bf16) (ix2 k j) = Products.lanes 1024 128 128 64 64 (by norm_num) (m ((c : Thread nD τ).loc main_arg1)) k j := by
  rw [← entry2]
  blk_point [iblk, idx t]

/-- The first result of the reference at an index. -/
theorem read1 (x0 : FVec Ideal Cert.Reference32Ideal.S4608x128 .bf16) (x1 : FVec Ideal Cert.Reference32Ideal.S1024x128 .bf16) (j : Cert.Reference32Ideal.S4608x1024.Idx) :
    val_main_v10 (F := Ideal) x0 x1 j = ∑ k : Fin 128, x0 (ix2 (j 0) k) * Products.lanes 1024 128 128 0 64 (by norm_num) x1 (j 1) k := by
  idx_vars j
  pointwise [val_main_v0, val_main_v1, val_main_v2, val_main_v3, val_main_v4, val_main_v5, val_main_v6, val_main_cst, val_main_v8, val_main_v9, val_main_v10, Products.lanes]
  split_ifs <;> first | omega | (simp; done) | (refine Finset.sum_congr rfl fun k _ => Ideal.mul_congr ?_ ?_ <;> exact congrArg _ (by idx_ext))

/-- The second result of the reference at an index. -/
theorem read2 (x0 : FVec Ideal Cert.Reference32Ideal.S4608x128 .bf16) (x1 : FVec Ideal Cert.Reference32Ideal.S1024x128 .bf16) (j : Cert.Reference32Ideal.S4608x1024.Idx) :
    val_main_v13 (F := Ideal) x0 x1 j = ∑ k : Fin 128, x0 (ix2 (j 0) k) * Products.lanes 1024 128 128 64 64 (by norm_num) x1 (j 1) k := by
  idx_vars j
  pointwise [val_main_v0, val_main_v1, val_main_v2, val_main_v3, val_main_v4, val_main_v5, val_main_v7, val_main_cst_0, val_main_v11, val_main_v12, val_main_v13, Products.lanes]
  split_ifs <;> first | omega | (simp; done) | (refine Finset.sum_congr rfl fun k _ => Ideal.mul_congr ?_ ?_ <;> exact congrArg _ (by idx_ext))

/-- The result array is the reference's. -/
theorem final3 (c : Dev nD) : (dats m 0 c).arrAt 3 cfg0.N = val_main_v10 (F := Ideal) (m ((c : Thread nD τ).loc main_arg0)) (m ((c : Thread nD τ).loc main_arg1)) := by
  refine (dats m 0 c).arrAt_eq_of_covers 3 _ (by decide +kernel) fun t _ y => ?_
  blk_simp; rw [after0_3, read1]; frame_out
  pointwise [k0_pay1, weight1]
  refine Finset.sum_congr (M := EReal) rfl fun k _ => Ideal.mul_congr ?_ (congrArg (fun a => Products.lanes 1024 128 128 0 64 _ _ a k) (Fin.ext ?_))
  · blk_point [iblk, V_main_arg0, idx t]
  · blk_point [idx t]

/-- The result array is the reference's. -/
theorem final4 (c : Dev nD) : (dats m 0 c).arrAt 4 cfg0.N = val_main_v13 (F := Ideal) (m ((c : Thread nD τ).loc main_arg0)) (m ((c : Thread nD τ).loc main_arg1)) := by
  refine (dats m 0 c).arrAt_eq_of_covers 4 _ (by decide +kernel) fun t _ y => ?_
  blk_simp; rw [after0_4, read2]; frame_out
  pointwise [k0_pay2, weight2]
  refine Finset.sum_congr (M := EReal) rfl fun k _ => Ideal.mul_congr ?_ (congrArg (fun a => Products.lanes 1024 128 128 64 64 _ _ a k) (Fin.ext ?_))
  · blk_point [iblk, V_main_arg0, idx t]
  · blk_point [idx t]

/-- The call computes what the reference computes. -/
theorem algebraic : Cert.algebraic_Kernel32Ideal_Reference32Ideal := by
  intro m g m' g' _ hagree
  refine ⟨fun c => (dats m 0 c).arrAt 3 cfg0.N, fun c => (dats m 0 c).arrAt 4 cfg0.N, run_blocks m g,
    (θ_run Cert.Reference32Ideal.defs _ _).mono (fun r h c => ?_) (Cert.Reference32Ideal.Value.run (F := Ideal) m' g')⟩
  obtain ⟨a0, a1⟩ := hagree c
  obtain ⟨h0, h1, hargs⟩ := h c
  refine ⟨h0.trans ?_, h1.trans ?_, hargs⟩
  · rw [val_main_v10_eq, a0, a1]
    exact (final3 m c).symm
  · rw [val_main_v13_eq, a0, a1]
    exact (final4 m c).symm

/-- The reference terminates and leaves its arguments. -/
theorem frame_reference : Cert.quiescent_Reference32Ideal := fun m g _ =>
  (θ_run Cert.Reference32Ideal.defs _ _).mono (fun _ h => ⟨fun c => (h c).2.2, funext fun s => match s with
    | ⟨_, .reg x⟩ => x.elim0
    | ⟨_, .dma x⟩ => x.elim0⟩) (Cert.Reference32Ideal.Value.run (F := Ideal) m g)

end Cert.Kernel32Ideal.Product

/-! ## The keys and the values: the gradient of the latent -/

namespace Cert.Kernel33Ideal.Product
open Cert.Kernel33Ideal Cert.Kernel33Ideal.Gen Cert.Kernel33Ideal.Value Cert.Reference33Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- The keys' rows of the weight as the host spreads them over the lanes. -/
theorem entry1 (c : Dev nD) (k : Fin 1024) (j : Fin 128) : (V m c main_v3 : FVec Ideal S1024x128 .bf16) (ix2 k j) = Products.lanes 1024 128 128 0 64 (by norm_num) (m ((c : Thread nD τ).loc main_arg2)) k j := by
  have h : (V m c main_v3 : FVec Ideal S1024x128 .bf16) = shapeCast S1024x128 (pad S8x128x128 ![0, 0, 0] ![0, 64, 0] ![0, 0, 0] (extractStridedSlice S8x64x128 ![0, 0, 0] (shapeCast S8x128x128 (m ((c : Thread nD τ).loc main_arg2) : FVec Ideal S1024x128 .bf16) shapeCasts_S1024x128_S8x128x128) slices_S8x128x128_S8x64x128_0_0_0) (sitofp .bf16 (constantI S_ 32 0#32) : FVec Ideal S_ .bf16) pads_S8x64x128_S8x128x128_000_0640_000 h_S_) shapeCasts_S8x128x128_S1024x128 := by rfl
  rw [h]
  exact Products.spread_keys _ _ _ _ _ _ _ k j

/-- The block of the keys' rows. -/
theorem weight1 (c : Dev nD) (t : Fin cfg0.N) (k : Fin 1024) (j : Fin 128) : (iblk m c 2 t : FVec Ideal S1024x128 .bf16) (ix2 k j) = Products.lanes 1024 128 128 0 64 (by norm_num) (m ((c : Thread nD τ).loc main_arg2)) k j := by
  rw [← entry1]
  blk_point [iblk, idx t]

/-- The values' rows of the weight as the host spreads them over the lanes. -/
theorem entry2 (c : Dev nD) (k : Fin 1024) (j : Fin 128) : (V m c main_v6 : FVec Ideal S1024x128 .bf16) (ix2 k j) = Products.lanes 1024 128 128 64 64 (by norm_num) (m ((c : Thread nD τ).loc main_arg2)) k j := by
  have h : (V m c main_v6 : FVec Ideal S1024x128 .bf16) = shapeCast S1024x128 (pad S8x128x128 ![0, 0, 0] ![0, 64, 0] ![0, 0, 0] (extractStridedSlice S8x64x128 ![0, 64, 0] (shapeCast S8x128x128 (m ((c : Thread nD τ).loc main_arg2) : FVec Ideal S1024x128 .bf16) shapeCasts_S1024x128_S8x128x128) slices_S8x128x128_S8x64x128_0_64_0) (sitofp .bf16 (constantI S_ 32 0#32) : FVec Ideal S_ .bf16) pads_S8x64x128_S8x128x128_000_0640_000 h_S_) shapeCasts_S8x128x128_S1024x128 := by rfl
  rw [h]
  exact Products.spread_values _ _ _ _ _ _ _ k j

/-- The block of the values' rows. -/
theorem weight2 (c : Dev nD) (t : Fin cfg0.N) (k : Fin 1024) (j : Fin 128) : (iblk m c 3 t : FVec Ideal S1024x128 .bf16) (ix2 k j) = Products.lanes 1024 128 128 64 64 (by norm_num) (m ((c : Thread nD τ).loc main_arg2)) k j := by
  rw [← entry2]
  blk_point [iblk, idx t]

/-- The reference at an index: a head's 128 rows of the weight are those of its key and those of its value. -/
theorem read (x0 : FVec Ideal Cert.Reference33Ideal.S4608x1024 .bf16) (x1 : FVec Ideal Cert.Reference33Ideal.S4608x1024 .bf16) (x2 : FVec Ideal Cert.Reference33Ideal.S1024x128 .bf16) (j : Cert.Reference33Ideal.S4608x128.Idx) :
    val_main_v27 (F := Ideal) x0 x1 x2 j = ∑ k : Fin 1024, x0 (ix2 (j 0) k) * Products.lanes 1024 128 128 0 64 (by norm_num) x2 k (j 1)
      + ∑ k : Fin 1024, x1 (ix2 (j 0) k) * Products.lanes 1024 128 128 64 64 (by norm_num) x2 k (j 1) := by
  idx_vars j
  rw [Products.sum_lanes 1024 128 128 0 64 64 rfl, Products.sum_lanes 1024 128 128 64 64 64 rfl, ← Finset.sum_add_distrib]
  pointwise [val_main_v1, val_main_v3, val_main_v17, val_main_v18, val_main_v20, val_main_v21, val_main_v23, val_main_v24, val_main_v25, val_main_v26, val_main_v27]
  rw [Fin.sum_univ_tiles 8 128 rfl]
  refine Finset.sum_congr rfl fun a _ => ?_
  rw [Fin.sum_univ_two_halves 64 64 rfl]
  refine Ideal.add_congr ?_ ?_ <;> refine Finset.sum_congr rfl fun b _ => Ideal.mul_congr ?_ (congrArg x2 (by idx_ext))
  · rw [dif_pos (by show (a.val * 128 + b.val) % 128 < 64; omega)]
  · rw [dif_neg (by show ¬(a.val * 128 + (64 + b.val)) % 128 < 64; omega)]
    exact congrArg x1 (by idx_ext)

/-- The result array is the reference's. -/
theorem final (c : Dev nD) : (dats m 0 c).arrAt 4 cfg0.N = val_main_v27 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4, read]; frame_out
  pointwise [k0_pay1, weight1, weight2]
  refine Ideal.add_congr ?_ ?_ <;> refine Finset.sum_congr (M := EReal) rfl fun k _ => Ideal.mul_congr ?_ (congrArg (Products.lanes 1024 128 128 _ 64 _ _ k) (Fin.ext ?_))
  all_goals blk_point [iblk, V_main_arg0, V_main_arg1, idx t]

/-- The call computes what the reference computes. -/
theorem algebraic : Cert.algebraic_Kernel33Ideal_Reference33Ideal := by
  intro m g m' g' _ hagree
  refine ⟨fun c => (dats m 0 c).arrAt 4 cfg0.N, run_blocks m g,
    (θ_run Cert.Reference33Ideal.defs _ _).mono (fun r h c => ?_) (Cert.Reference33Ideal.Value.run (F := Ideal) m' g')⟩
  obtain ⟨a0, a1, a2⟩ := hagree c
  obtain ⟨h0, hargs⟩ := h c
  refine ⟨h0.trans ?_, hargs⟩
  · rw [val_main_v27_eq, a0, a1, a2]
    exact (final m c).symm

/-- The reference terminates and leaves its arguments. -/
theorem frame_reference : Cert.quiescent_Reference33Ideal := fun m g _ =>
  (θ_run Cert.Reference33Ideal.defs _ _).mono (fun _ h => ⟨fun c => (h c).2, funext fun s => match s with
    | ⟨_, .reg x⟩ => x.elim0
    | ⟨_, .dma x⟩ => x.elim0⟩) (Cert.Reference33Ideal.Value.run (F := Ideal) m g)

end Cert.Kernel33Ideal.Product

/-! ## The keys and the values: the gradients of the weights -/

namespace Cert.Kernel34Ideal.Product
open Cert.Kernel34Ideal Cert.Kernel34Ideal.Gen Cert.Kernel34Ideal.Value Cert.Reference34Ideal.Read

variable (m : (ℓ : Loc nD τ sig) → Buf (Elt Ideal) ℓ)

/-- The block that each window has at each grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0] :=
  (by decide +kernel : ∀ t : Fin grid0.N, _)

/-- Result 1 of the reference at an index. -/
theorem read1 (x0 : FVec Ideal Cert.Reference34Ideal.S4608x1024 .bf16) (x2 : FVec Ideal Cert.Reference34Ideal.S4608x128 .bf16) (j : Cert.Reference34Ideal.S1024x128.Idx) :
    val_main_v17 (F := Ideal) x0 x2 j = ∑ k : Fin 4608, x0 (ix2 k (j 0)) * x2 (ix2 k (j 1)) := by
  idx_vars j
  pointwise [val_main_v1, val_main_v13, val_main_v14, val_main_v15, val_main_v16, val_main_v17]

/-- Accumulator 1 at the first point: that point's product. -/
theorem acc1_first (c : Dev nD) (t : Fin cfg0.N) (h : t.val % 6 = 0) (j) :
    (outsAt0 m c t.val t.isLt).2.2.1 j = 0 + k0_pay1 (iblk m c 0 t) (iblk m c 1 t) j := by
  have ht : t.val < 6 := t.isLt
  rw [outsAt0_A m c t (by omega) (by omega) (by omega) (by omega) (by omega) (by omega)]; frame_out
  pointwise [k0_pay2]

/-- Accumulator 1 at a later point: the point before, and that point's product. -/
theorem acc1_next (c : Dev nD) (t : Fin cfg0.N) (h : ¬t.val % 6 = 0) (j) :
    (outsAt0 m c t.val t.isLt).2.2.1 j = (outsAt0 m c (t.val - 1) (Nat.lt_of_le_of_lt (Nat.sub_le _ _) t.isLt)).2.2.1 j + k0_pay1 (iblk m c 0 t) (iblk m c 1 t) j := by
  by_cases h2 : t.val % 6 = 5
  · rw [outsAt0_C m c t (by omega) (by omega) (by omega) (by omega) (by omega) (by omega)]; frame_out
    pointwise [k0_pay3]
    exact congrArg (· + _) (congrFun (Memref.IsWhole.read_unread _ _) _)
  · rw [outsAt0_B m c t (by omega) (by omega) (by omega) (by omega) (by omega) (by omega)]; frame_out
    pointwise [k0_pay3]
    exact congrArg (· + _) (congrFun (Memref.IsWhole.read_unread _ _) _)

/-- The result array is the reference's: the last point writes the accumulator. -/
theorem final3 (c : Dev nD) : (dats m 0 c).arrAt 3 cfg0.N = val_main_v17 (F := Ideal) (m ((c : Thread nD τ).loc main_arg0)) (m ((c : Thread nD τ).loc main_arg2)) := by
  refine (dats m 0 c).arrAt_eq_of_covers 3 _ (by decide +kernel) fun t hf y => ?_
  have h : t.val % 6 = 5 := (flush0_3 t).mp hf
  have hl : (outsAt0 m c t.val t.isLt).1 y = (outsAt0 m c t.val t.isLt).2.2.1 y := by
    rw [outsAt0_C m c t (by omega) (by omega) (by omega) (by omega) (by omega) (by omega)]; frame_out
    pointwise [k0_pay4]
  blk_simp
  rw [after0_3, hl, Pipeline.eq_sum_fin_of_reset_step_apply_of_flush (fun n h => (outsAt0 m c n h).2.2.1) 6 (fun _ => 0) _ (acc1_first m c) (acc1_next m c) t h _, zero_add, read1]
  pointwise [k0_pay1]
  refine Fin.sum_mul_add_congr fun s k hk => ?_
  blk_point [iblk, V, idx t, idx ⟨_, Pipeline.run_point_lt_of_flush t h s⟩]

/-- Result 2 of the reference at an index. -/
theorem read2 (x1 : FVec Ideal Cert.Reference34Ideal.S4608x1024 .bf16) (x2 : FVec Ideal Cert.Reference34Ideal.S4608x128 .bf16) (j : Cert.Reference34Ideal.S1024x128.Idx) :
    val_main_v18 (F := Ideal) x1 x2 j = ∑ k : Fin 4608, x1 (ix2 k (j 0)) * x2 (ix2 k (j 1)) := by
  idx_vars j
  pointwise [val_main_v5, val_main_v9, val_main_v10, val_main_v11, val_main_v12, val_main_v18]

/-- Accumulator 2 at the first point: that point's product. -/
theorem acc2_first (c : Dev nD) (t : Fin cfg0.N) (h : t.val % 6 = 0) (j) :
    (outsAt0 m c t.val t.isLt).2.2.2 j = 0 + k0_pay5 (iblk m c 0 t) (iblk m c 2 t) j := by
  have ht : t.val < 6 := t.isLt
  rw [outsAt0_A m c t (by omega) (by omega) (by omega) (by omega) (by omega) (by omega)]; frame_out
  pointwise [k0_pay6]

/-- Accumulator 2 at a later point: the point before, and that point's product. -/
theorem acc2_next (c : Dev nD) (t : Fin cfg0.N) (h : ¬t.val % 6 = 0) (j) :
    (outsAt0 m c t.val t.isLt).2.2.2 j = (outsAt0 m c (t.val - 1) (Nat.lt_of_le_of_lt (Nat.sub_le _ _) t.isLt)).2.2.2 j + k0_pay5 (iblk m c 0 t) (iblk m c 2 t) j := by
  by_cases h2 : t.val % 6 = 5
  · rw [outsAt0_C m c t (by omega) (by omega) (by omega) (by omega) (by omega) (by omega)]; frame_out
    pointwise [k0_pay7]
    exact congrArg (· + _) (congrFun (Memref.IsWhole.read_unread _ _) _)
  · rw [outsAt0_B m c t (by omega) (by omega) (by omega) (by omega) (by omega) (by omega)]; frame_out
    pointwise [k0_pay7]
    exact congrArg (· + _) (congrFun (Memref.IsWhole.read_unread _ _) _)

/-- The result array is the reference's: the last point writes the accumulator. -/
theorem final4 (c : Dev nD) : (dats m 0 c).arrAt 4 cfg0.N = val_main_v18 (F := Ideal) (m ((c : Thread nD τ).loc main_arg1)) (m ((c : Thread nD τ).loc main_arg2)) := by
  refine (dats m 0 c).arrAt_eq_of_covers 4 _ (by decide +kernel) fun t hf y => ?_
  have h : t.val % 6 = 5 := (flush0_4 t).mp hf
  have hl : (outsAt0 m c t.val t.isLt).2.1 y = (outsAt0 m c t.val t.isLt).2.2.2 y := by
    rw [outsAt0_C m c t (by omega) (by omega) (by omega) (by omega) (by omega) (by omega)]; frame_out
    pointwise [k0_pay8]
  blk_simp
  rw [after0_4, hl, Pipeline.eq_sum_fin_of_reset_step_apply_of_flush (fun n h => (outsAt0 m c n h).2.2.2) 6 (fun _ => 0) _ (acc2_first m c) (acc2_next m c) t h _, zero_add, read2]
  pointwise [k0_pay5]
  refine Fin.sum_mul_add_congr fun s k hk => ?_
  blk_point [iblk, V, idx t, idx ⟨_, Pipeline.run_point_lt_of_flush t h s⟩]

/-- The call computes what the reference computes. -/
theorem algebraic : Cert.algebraic_Kernel34Ideal_Reference34Ideal := by
  intro m g m' g' _ hagree
  refine ⟨fun c => (dats m 0 c).arrAt 3 cfg0.N, fun c => (dats m 0 c).arrAt 4 cfg0.N, run_blocks m g,
    (θ_run Cert.Reference34Ideal.defs _ _).mono (fun r h c => ?_) (Cert.Reference34Ideal.Value.run (F := Ideal) m' g')⟩
  obtain ⟨a0, a1, a2⟩ := hagree c
  obtain ⟨h0, h1, hargs⟩ := h c
  refine ⟨h0.trans ?_, h1.trans ?_, hargs⟩
  · rw [val_main_v17_eq, a0, a2]
    exact (final3 m c).symm
  · rw [val_main_v18_eq, a1, a2]
    exact (final4 m c).symm

/-- The reference terminates and leaves its arguments. -/
theorem frame_reference : Cert.quiescent_Reference34Ideal := fun m g _ =>
  (θ_run Cert.Reference34Ideal.defs _ _).mono (fun _ h => ⟨fun c => (h c).2.2, funext fun s => match s with
    | ⟨_, .reg x⟩ => x.elim0
    | ⟨_, .dma x⟩ => x.elim0⟩) (Cert.Reference34Ideal.Value.run (F := Ideal) m g)

end Cert.Kernel34Ideal.Product

end
-- ==== Proof.Latent.lean ====
module

public import proofs.«01_k».proof.Proof.Constants

/-!
# Latent attention over the real numbers

The mathematics both programs compute, on arrays of reals given as functions of a sample, a row and a column. There are
eight heads `h` of 128 lanes each. A key of a head is its own part `kn` plus a part `kr` that all heads share; a value is
the first 64 lanes of its head. The 2048 query rows see all 2304 key rows.

`prob` is the softmax of a row's scores, `out` and `lse` are what the forward pass keeps, and `dq`, `dkn`, `dkr`, `dv` are
the gradients for a cotangent `ct` of `out`.
-/

@[expose] public section

namespace Cert.Mla

open Finset Idealize.ShloMosaic Cert.Gqa

/-- The factor of the scores: the float nearest to the reciprocal of the square root of 96. -/
noncomputable def scale : ℝ := 3424635 / 33554432

theorem ofBits_scale : Ideal.ofBits .f32 0x3DD105EC#32 = ((scale : ℝ) : EReal) := by
  unfold scale
  simp [Ideal.ofBits, Ideal.ieee, -EReal.coe_mul]
  norm_num

/-- The column of lane `d` of head `h`: of its queries, of its keys and of its values. -/
def lane (h d : ℕ) : ℕ := h * 128 + d

/-- The column of lane `d` of head `h` of the outputs. -/
def olane (h d : ℕ) : ℕ := h * 64 + d

variable (q kn kr v ct : ℕ → ℕ → ℕ → ℝ)

/-- A key of a head. -/
def key (b h n d : ℕ) : ℝ := kn b n (lane h d) + kr b n d

/-- The product of a query row and a key row. -/
noncomputable def score (b h i n : ℕ) : ℝ := ∑ d : Fin 128, q b i (lane h d) * key kn kr b h n d

/-- The unnormalised weight of key row `n` for query row `i`. -/
noncomputable def weight (b h i n : ℕ) : ℝ := Real.exp (score q kn kr b h i n * scale)

/-- The sum of a row's weights. -/
noncomputable def total (b h i : ℕ) : ℝ := ∑ n : Fin 2304, weight q kn kr b h i n

/-- The softmax of a row's scores. -/
noncomputable def prob (b h i n : ℕ) : ℝ := weight q kn kr b h i n / total q kn kr b h i

/-- The attention's output. -/
noncomputable def out (b h i d : ℕ) : ℝ := ∑ n : Fin 2304, prob q kn kr b h i n * v b n (lane h d)

/-- The logarithm, in base 2, of a row's sum of exponentials. -/
noncomputable def lse (b h i : ℕ) : ℝ := Real.log (total q kn kr b h i) * (Real.log 2)⁻¹

/-- The gradient at a probability. -/
noncomputable def dprob (b h i n : ℕ) : ℝ := ∑ d : Fin 64, ct b i (olane h d) * v b n (lane h d)

/-- The mean of a row's `dprob`, by the row's probabilities. -/
noncomputable def mean (b h i : ℕ) : ℝ := ∑ n : Fin 2304, prob q kn kr b h i n * dprob v ct b h i n

/-- The gradient at a scaled score. -/
noncomputable def dscore (b h i n : ℕ) : ℝ := prob q kn kr b h i n * (dprob v ct b h i n - mean q kn kr v ct b h i)

/-- The gradient of the queries. -/
noncomputable def dq (b h i d : ℕ) : ℝ := (∑ n : Fin 2304, dscore q kn kr v ct b h i n * key kn kr b h n d) * scale

/-- A query row's part of the gradient of a key. -/
noncomputable def dkRow (b h i n d : ℕ) : ℝ := dscore q kn kr v ct b h i n * q b i (lane h d) * scale

/-- A query row's part of the gradient of a value: the lanes past the 64th have none. -/
noncomputable def dvRow (b h i n d : ℕ) : ℝ := if d < 64 then prob q kn kr b h i n * ct b i (olane h d) else 0

/-- The gradient of a head's own part of the keys. -/
noncomputable def dkn (b h n d : ℕ) : ℝ := ∑ i : Fin 2048, dkRow q kn kr v ct b h i n d

/-- The gradient of the part all heads share. -/
noncomputable def dkr (b n d : ℕ) : ℝ := ∑ h : Fin 8, dkn q kn kr v ct b h n d

/-- The gradient of the values. -/
noncomputable def dv (b h n d : ℕ) : ℝ := ∑ i : Fin 2048, dvRow q kn kr ct b h i n d

theorem total_pos (b h i : ℕ) : 0 < total q kn kr b h i :=
  Finset.sum_pos (fun _ _ => Real.exp_pos _) ⟨⟨0, by decide⟩, Finset.mem_univ _⟩

/-- The mean is the product of the output row with the cotangent row. -/
theorem mean_eq (b h i : ℕ) :
    mean q kn kr v ct b h i = ∑ d : Fin 64, ct b i (olane h d) * out q kn kr v b h i d := by
  simp only [mean, out, dprob, Finset.mul_sum]
  rw [Finset.sum_comm]
  exact Finset.sum_congr rfl fun d _ => Finset.sum_congr rfl fun n _ => by ring

/-- A row's probability, as the quotient of its weights against a common factor. -/
theorem quot (b h i : ℕ) (m : ℝ) (n : Fin 2304) :
    Real.exp (score q kn kr b h i n * scale - m) / ∑ l : Fin 2304, Real.exp (score q kn kr b h i l * scale - m) =
      prob q kn kr b h i n := by
  rw [softmax_shift (fun n : Fin 2304 => score q kn kr b h i n * scale)]
  rfl

/-- The logarithm of a row's total, against the same factor. -/
theorem log_quot (b h i : ℕ) (m : ℝ) :
    m + Real.log (∑ l : Fin 2304, Real.exp (score q kn kr b h i l * scale - m)) = Real.log (total q kn kr b h i) :=
  log_shift (fun n : Fin 2304 => score q kn kr b h i n * scale) m (by decide)

/-- A probability out of the scaled score and the saved base-two logarithm. -/
theorem prob_eq (b h i n : ℕ) :
    Real.rpow 2 ((∑ d : Fin 128, q b i (lane h d) * ((Real.log 2)⁻¹ * scale) * key kn kr b h n d) - lse q kn kr b h i) =
      prob q kn kr b h i n := by
  have hl : Real.log 2 ≠ 0 := (Real.log_pos one_lt_two).ne'
  have e : (∑ d : Fin 128, q b i (lane h d) * ((Real.log 2)⁻¹ * scale) * key kn kr b h n d) =
      (Real.log 2)⁻¹ * (score q kn kr b h i n * scale) := by
    unfold score
    rw [Finset.sum_mul, Finset.mul_sum]
    exact Finset.sum_congr rfl fun d _ => by ring
  have r (x : ℝ) : Real.rpow 2 x = Real.exp (Real.log 2 * x) := Real.rpow_def_of_pos two_pos x
  have p := total_pos q kn kr b h i
  rw [r, e, lse, mul_sub, mul_inv_cancel_left₀ hl, mul_comm (Real.log (total q kn kr b h i)), mul_inv_cancel_left₀ hl,
    Real.exp_sub, Real.exp_log p, prob, weight]

end Cert.Mla
-- ==== Proof.LatentHead.lean ====
module

public import proofs.«01_k».proof.Proof.Latent
public import proofs.«01_k».proof.Proof.Gen.Kernel27Ideal.Skeleton
public import Idealize.ShloMosaic.Lib.Pointwise

/-!
# One head of the latent attention's backward block, read to the reals

A block holds 256 query rows, from row `r` of sample `b` on, and treats two heads. `Head` says what the tiles hold that it
loads for one of them. From it follow the entries of the probabilities, of the score gradients, and of the products that
go into the four results. The program writes the same operations for each of the two heads; the tiles below are defined by
one of the two, and the `_first` and `_second` lemmas say that the other is the same.
-/

@[expose] public section

set_option maxRecDepth 16384

noncomputable section

namespace Cert.Kernel27Ideal.Latent

open Idealize.ShloMosaic Idealize.ShloMosaic.TcCoe Idealize.SL.Sem
open Cert.Kernel27Ideal Cert.Kernel27Ideal.Gen Cert.Mla
open Cert.Gqa hiding score weight total prob out lse dprob mean dscore dq dkRow dvRow dv total_pos mean_eq

variable (q kn kr v ct : ℕ → ℕ → ℕ → ℝ)

/-- What the tiles of head `h` hold in the block of sample `b` that starts at row `r`. -/
structure Head (b h r : ℕ) (a : Vec Ideal S1x256x128 .bf16) (k0 ks : Vec Ideal S1x2304x128 .bf16)
    (w : Vec Ideal S1x2304x64 .bf16) (e o : Vec Ideal S1x256x64 .bf16) (l : Vec Ideal S1x1x256x1 .f32) : Prop where
  query : ∀ (i : Fin 256) (d : Fin 128), a (ix3 0 i d) = ((q b (r + i) (lane h d) : ℝ) : EReal)
  own : ∀ (n : Fin 2304) (d : Fin 128), k0 (ix3 0 n d) = ((kn b n (lane h d) : ℝ) : EReal)
  shared : ∀ (n : Fin 2304) (d : Fin 128), ks (ix3 0 n d) = ((kr b n d : ℝ) : EReal)
  value : ∀ (n : Fin 2304) (d : Fin 64), w (ix3 0 n d) = ((v b n (lane h d) : ℝ) : EReal)
  cotangent : ∀ (i : Fin 256) (d : Fin 64), e (ix3 0 i d) = ((ct b (r + i) (olane h d) : ℝ) : EReal)
  output : ∀ (i : Fin 256) (d : Fin 64), o (ix3 0 i d) = ((out q kn kr v b h (r + i) d : ℝ) : EReal)
  log : ∀ i : Fin 256, l (ix4 0 0 i 0) = ((lse q kn kr b h (r + i) : ℝ) : EReal)

/-- The value of the kernel's named factor of the queries. -/
theorem scale96_value :
    (Named.named κ "log2e_scale96" 0x3E16C740#32 : Ideal .f32) = (((Real.log 2)⁻¹ * scale : ℝ) : EReal) := by
  have e : (Named.named κ "log2e_scale96" 0x3E16C740#32 : Ideal .f32) =
      (((Real.log 2)⁻¹ * (3424635 * 33554432⁻¹) : ℝ) : EReal) :=
    IdealRules.named_const.ideal_named_scalar _ _ _ _ rfl
  rw [e, scale, div_eq_mul_inv]

/-- The value of the kernel's named factor of the key gradients. -/
theorem ln2_value : (Named.named κ "ln2" 0x3F317218#32 : Ideal .f32) = ((Real.log 2 : ℝ) : EReal) :=
  IdealRules.named_const.ideal_named_scalar _ _ _ _ rfl

/-- The keys of a head. -/
def keys (k0 ks : Vec Ideal S1x2304x128 .bf16) : FVec Ideal S2304x128 .bf16 := k0_pay21 k0 ks

/-- The scaled queries. -/
def scaled (a : Vec Ideal S1x256x128 .bf16) : FVec Ideal S256x128 .bf16 := k0_pay24 a

/-- The probabilities. -/
def probs (a : Vec Ideal S1x256x128 .bf16) (k0 ks : Vec Ideal S1x2304x128 .bf16) (l : Vec Ideal S1x1x256x1 .f32) :
    FVec Ideal S256x2304 .f32 := k0_pay25 (keys k0 ks) a l

/-- The gradients of the scores. -/
def grads (a : Vec Ideal S1x256x128 .bf16) (k0 ks : Vec Ideal S1x2304x128 .bf16) (w : Vec Ideal S1x2304x64 .bf16)
    (e o : Vec Ideal S1x256x64 .bf16) (l : Vec Ideal S1x1x256x1 .f32) : FVec Ideal S256x2304 .bf16 :=
  k0_pay26 (keys k0 ks) (k0_pay22 w) (k0_pay23 e) a l o

/-- The head's columns of the query gradient. -/
def dqTile (a : Vec Ideal S1x256x128 .bf16) (k0 ks : Vec Ideal S1x2304x128 .bf16) (w : Vec Ideal S1x2304x64 .bf16)
    (e o : Vec Ideal S1x256x64 .bf16) (l : Vec Ideal S1x1x256x1 .f32) : FVec Ideal S256x128 .bf16 :=
  truncf .bf16 (mulf (matmul dot_S256x2304_S2304x128_S256x128_1_0_0_1_n_n none (grads a k0 ks w e o l) (keys k0 ks)
    (constant S256x128 .f32 0x00000000#32)) (broadcast S256x128 (Scalar.ofBits .f32 0x3DD105EC#32))) bitsLt_bf16_f32

/-- The head's part of the key gradient. -/
def dkTile (a : Vec Ideal S1x256x128 .bf16) (k0 ks : Vec Ideal S1x2304x128 .bf16) (w : Vec Ideal S1x2304x64 .bf16)
    (e o : Vec Ideal S1x256x64 .bf16) (l : Vec Ideal S1x1x256x1 .f32) : FVec Ideal S2304x128 .f32 :=
  k0_pay27 (keys k0 ks) (k0_pay22 w) (k0_pay23 e) a l o

/-- The head's part of the value gradient. -/
def dvTile (a : Vec Ideal S1x256x128 .bf16) (k0 ks : Vec Ideal S1x2304x128 .bf16)
    (e : Vec Ideal S1x256x64 .bf16) (l : Vec Ideal S1x1x256x1 .f32) : FVec Ideal S2304x128 .f32 :=
  k0_pay28 (keys k0 ks) (k0_pay23 e) a l

theorem dq_first (a : Vec Ideal S1x256x128 .bf16) (k0 ks : Vec Ideal S1x2304x128 .bf16) (w : Vec Ideal S1x2304x64 .bf16)
    (e o : Vec Ideal S1x256x64 .bf16) (l : Vec Ideal S1x1x256x1 .f32) :
    k0_pay18 (k0_pay10 k0 ks) (k0_pay11 w) (k0_pay12 e) (k0_pay14 k0 ks a) (k0_pay15 l) o = dqTile a k0 ks w e o l := rfl

theorem dk_first (a : Vec Ideal S1x256x128 .bf16) (k0 ks : Vec Ideal S1x2304x128 .bf16) (w : Vec Ideal S1x2304x64 .bf16)
    (e o : Vec Ideal S1x256x64 .bf16) (l : Vec Ideal S1x1x256x1 .f32) :
    k0_pay19 (k0_pay11 w) (k0_pay12 e) (k0_pay13 a) (k0_pay14 k0 ks a) (k0_pay15 l) o = dkTile a k0 ks w e o l := rfl

theorem dv_first (a : Vec Ideal S1x256x128 .bf16) (k0 ks : Vec Ideal S1x2304x128 .bf16)
    (e : Vec Ideal S1x256x64 .bf16) (l : Vec Ideal S1x1x256x1 .f32) :
    k0_pay20 (k0_pay12 e) (k0_pay14 k0 ks a) (k0_pay15 l) = dvTile a k0 ks e l := rfl

/-- Two heads' columns of the query gradient side by side. -/
def pair (f g : FVec Ideal S256x128 .bf16) : FVec Ideal S1x256x256 .bf16 :=
  shapeCast S1x256x256 (concatenate S256x256 1 [⟨S256x128, f⟩, ⟨S256x128, g⟩] concatenates_S256x128_S256x128_S256x256_d1)
    shapeCasts_S256x256_S1x256x256

theorem dq_second (f : FVec Ideal S256x128 .bf16) (a : Vec Ideal S1x256x128 .bf16) (k0 ks : Vec Ideal S1x2304x128 .bf16)
    (w : Vec Ideal S1x2304x64 .bf16) (e o : Vec Ideal S1x256x64 .bf16) (l : Vec Ideal S1x1x256x1 .f32) :
    k0_pay29 f (k0_pay21 k0 ks) (k0_pay22 w) (k0_pay23 e) a l o = pair f (dqTile a k0 ks w e o l) := rfl

variable {q kn kr v ct}
variable {b h r : ℕ} {a : Vec Ideal S1x256x128 .bf16} {k0 ks : Vec Ideal S1x2304x128 .bf16}
  {w : Vec Ideal S1x2304x64 .bf16} {e o : Vec Ideal S1x256x64 .bf16} {l : Vec Ideal S1x1x256x1 .f32}

theorem keys_at (hd : Head q kn kr v ct b h r a k0 ks w e o l) (n : Fin 2304) (d : Fin 128) :
    keys k0 ks (ix2 n d) = ((key kn kr b h n d : ℝ) : EReal) := by
  unfold keys
  pointwise [k0_pay21, hd.own, hd.shared]
  rw [← EReal.coe_add]
  rfl

theorem scaled_at (hd : Head q kn kr v ct b h r a k0 ks w e o l) (i : Fin 256) (d : Fin 128) :
    scaled a (ix2 i d) = ((q b (r + i) (lane h d) * ((Real.log 2)⁻¹ * scale) : ℝ) : EReal) := by
  unfold scaled
  pointwise [k0_pay24, hd.query, scale96_value]
  rw [← EReal.coe_mul]

theorem scaled_def (a : Vec Ideal S1x256x128 .bf16) : k0_pay24 a = scaled a := rfl

theorem probs_at (hd : Head q kn kr v ct b h r a k0 ks w e o l) (i : Fin 256) (n : Fin 2304) :
    probs a k0 ks l (ix2 i n) = ((prob q kn kr b h (r + i) n : ℝ) : EReal) := by
  rw [← prob_eq]
  unfold probs k0_pay25
  rw [scaled_def]
  pointwise [scaled_at hd, keys_at hd, hd.log, ← EReal.coe_mul, coe_sum, ← EReal.coe_sub]
  exact Ideal.exp2_coe _

theorem probs_def (a : Vec Ideal S1x256x128 .bf16) (k0 ks : Vec Ideal S1x2304x128 .bf16) (l : Vec Ideal S1x1x256x1 .f32) :
    k0_pay25 (keys k0 ks) a l = probs a k0 ks l := rfl

theorem grads_at (hd : Head q kn kr v ct b h r a k0 ks w e o l) (i : Fin 256) (n : Fin 2304) :
    grads a k0 ks w e o l (ix2 i n) = ((dscore q kn kr v ct b h (r + i) n : ℝ) : EReal) := by
  rw [dscore, mean_eq]
  unfold grads k0_pay26
  rw [probs_def]
  pointwise [probs_at hd, k0_pay22, k0_pay23, hd.value, hd.cotangent, hd.output, ← EReal.coe_mul, coe_sum,
    ← EReal.coe_sub]
  rfl

theorem grads_def (a : Vec Ideal S1x256x128 .bf16) (k0 ks : Vec Ideal S1x2304x128 .bf16) (w : Vec Ideal S1x2304x64 .bf16)
    (e o : Vec Ideal S1x256x64 .bf16) (l : Vec Ideal S1x1x256x1 .f32) :
    k0_pay26 (keys k0 ks) (k0_pay22 w) (k0_pay23 e) a l o = grads a k0 ks w e o l := rfl

theorem dqTile_at (hd : Head q kn kr v ct b h r a k0 ks w e o l) (i : Fin 256) (d : Fin 128) :
    dqTile a k0 ks w e o l (ix2 i d) = ((dq q kn kr v ct b h (r + i) d : ℝ) : EReal) := by
  unfold dq dqTile
  pointwise [grads_at hd, keys_at hd, ← EReal.coe_mul, coe_sum, ofBits_scale]

theorem dkTile_at (hd : Head q kn kr v ct b h r a k0 ks w e o l) (n : Fin 2304) (d : Fin 128) :
    dkTile a k0 ks w e o l (ix2 n d) = ((∑ i : Fin 256, dkRow q kn kr v ct b h (r + i) n d : ℝ) : EReal) := by
  have hl : Real.log 2 ≠ 0 := (Real.log_pos one_lt_two).ne'
  have s : ∑ i : Fin 256, dkRow q kn kr v ct b h (r + i) n d =
      (∑ i : Fin 256, dscore q kn kr v ct b h (r + i) n * (q b (r + i) (lane h d) * ((Real.log 2)⁻¹ * scale))) *
        Real.log 2 := by
    rw [Finset.sum_mul]
    refine Finset.sum_congr rfl fun i _ => ?_
    unfold dkRow
    field_simp
  rw [s, EReal.coe_mul, ← coe_sum]
  unfold dkTile k0_pay27
  rw [grads_def, scaled_def]
  pointwise [grads_at hd, scaled_at hd, ln2_value, ← EReal.coe_mul]

theorem dvTile_at (hd : Head q kn kr v ct b h r a k0 ks w e o l) (n : Fin 2304) (d : Fin 128) :
    dvTile a k0 ks e l (ix2 n d) = ((∑ i : Fin 256, dvRow q kn kr ct b h (r + i) n d : ℝ) : EReal) := by
  unfold dvTile k0_pay28
  rw [probs_def]
  pointwise [probs_at hd, k0_pay23, hd.cotangent, ← EReal.coe_mul, coe_sum]
  by_cases h64 : (d : ℕ) < 64
  · rw [dif_pos h64]
    exact congrArg _ (Finset.sum_congr rfl fun i _ => (if_pos h64).symm)
  · have z : ∑ i : Fin 256, dvRow q kn kr ct b h (r + i) n d = 0 := Finset.sum_eq_zero fun i _ => if_neg h64
    rw [dif_neg h64, z, EReal.coe_zero]

end Cert.Kernel27Ideal.Latent
-- ==== Proof.LatentBlocks.lean ====
module

public import proofs.«01_k».proof.Proof.LatentHead
public import proofs.«01_k».proof.Proof.Gen.Kernel27Ideal.Value
public import Idealize.ShloMosaic.Lib.Pipeline.ValueKit

/-!
# What one grid point of the latent attention's backward kernel leaves

A point treats the heads `2 * g` and `2 * g + 1` for 256 query rows: it writes its block of the query gradient and adds to
three accumulators. Those of the keys' own parts and of the values start anew with each pair of heads and are written out
at its last rows; that of the shared part starts with each sample and is written out at its end.
-/

@[expose] public section

set_option maxRecDepth 16384

noncomputable section

namespace Cert.Kernel27Ideal.Latent

open Idealize.ShloMosaic Idealize.ShloMosaic.TcCoe Idealize.SL.Sem
open Cert.Kernel27Ideal Cert.Kernel27Ideal.Gen Cert.Mla
open Cert.Gqa hiding score weight total prob out lse dprob mean dscore dq dkRow dvRow dv total_pos mean_eq

variable (q kn kr v ct : ℕ → ℕ → ℕ → ℝ)

/-- What the blocks staged for the rows `r …` of sample `b` and the `g`-th pair of heads hold. -/
structure Blocks (b g r : ℕ) (x0 : Vec Ideal S1x256x256 .bf16) (x1 : Vec Ideal S1x2304x256 .bf16)
    (x2 : Vec Ideal S1x2304x128 .bf16) (x3 : Vec Ideal S1x2304x256 .bf16) (x4 : Vec Ideal S1x256x128 .bf16)
    (x5 : Vec Ideal S1x2x256x1 .f32) (x6 : Vec Ideal S1x256x128 .bf16) : Prop where
  query : ∀ (i : Fin 256) (c : Fin 256), x0 (ix3 0 i c) = ((q b (r + i) (256 * g + c) : ℝ) : EReal)
  own : ∀ (n : Fin 2304) (c : Fin 256), x1 (ix3 0 n c) = ((kn b n (256 * g + c) : ℝ) : EReal)
  shared : ∀ (n : Fin 2304) (c : Fin 128), x2 (ix3 0 n c) = ((kr b n c : ℝ) : EReal)
  value : ∀ (n : Fin 2304) (c : Fin 256), x3 (ix3 0 n c) = ((v b n (256 * g + c) : ℝ) : EReal)
  output : ∀ (i : Fin 256) (c : Fin 128), x4 (ix3 0 i c) = ((out q kn kr v b (2 * g + c / 64) (r + i) (c % 64) : ℝ) : EReal)
  log : ∀ (u : Fin 2) (i : Fin 256), x5 (ix4 0 u i 0) = ((lse q kn kr b (2 * g + u) (r + i) : ℝ) : EReal)
  cotangent : ∀ (i : Fin 256) (c : Fin 128), x6 (ix3 0 i c) = ((ct b (r + i) (128 * g + c) : ℝ) : EReal)

/-! ## The tiles of the two heads -/

def a0 (x : Vec Ideal S1x256x256 .bf16) : Vec Ideal S1x256x128 .bf16 :=
  View.ld x (Rect.unit (s := S1x256x256) ![0, 0, 0] S1x256x128.size inb_S1x256x256_S1x256x128_0_0_0)
def a1 (x : Vec Ideal S1x256x256 .bf16) : Vec Ideal S1x256x128 .bf16 :=
  View.ld x (Rect.unit (s := S1x256x256) ![0, 0, 128] S1x256x128.size inb_S1x256x256_S1x256x128_0_0_128)
def k0 (x : Vec Ideal S1x2304x256 .bf16) : Vec Ideal S1x2304x128 .bf16 :=
  View.ld x (Rect.unit (s := S1x2304x256) ![0, 0, 0] S1x2304x128.size inb_S1x2304x256_S1x2304x128_0_0_0)
def k1 (x : Vec Ideal S1x2304x256 .bf16) : Vec Ideal S1x2304x128 .bf16 :=
  View.ld x (Rect.unit (s := S1x2304x256) ![0, 0, 128] S1x2304x128.size inb_S1x2304x256_S1x2304x128_0_0_128)
def w0 (x : Vec Ideal S1x2304x256 .bf16) : Vec Ideal S1x2304x64 .bf16 :=
  View.ld x (Rect.unit (s := S1x2304x256) ![0, 0, 0] S1x2304x64.size inb_S1x2304x256_S1x2304x64_0_0_0)
def w1 (x : Vec Ideal S1x2304x256 .bf16) : Vec Ideal S1x2304x64 .bf16 :=
  View.ld x (Rect.unit (s := S1x2304x256) ![0, 0, 128] S1x2304x64.size inb_S1x2304x256_S1x2304x64_0_0_128)
def o0 (x : Vec Ideal S1x256x128 .bf16) : Vec Ideal S1x256x64 .bf16 :=
  View.ld x (Rect.unit (s := S1x256x128) ![0, 0, 0] S1x256x64.size inb_S1x256x128_S1x256x64_0_0_0)
def o1 (x : Vec Ideal S1x256x128 .bf16) : Vec Ideal S1x256x64 .bf16 :=
  View.ld x (Rect.unit (s := S1x256x128) ![0, 0, 64] S1x256x64.size inb_S1x256x128_S1x256x64_0_0_64)
def l0 (x : Vec Ideal S1x2x256x1 .f32) : Vec Ideal S1x1x256x1 .f32 :=
  View.ld x (Rect.unit (s := S1x2x256x1) ![0, 0, 0, 0] S1x1x256x1.size inb_S1x2x256x1_S1x1x256x1_0_0_0_0)
def l1 (x : Vec Ideal S1x2x256x1 .f32) : Vec Ideal S1x1x256x1 .f32 :=
  View.ld x (Rect.unit (s := S1x2x256x1) ![0, 1, 0, 0] S1x1x256x1.size inb_S1x2x256x1_S1x1x256x1_0_1_0_0)

/-- The block of the query gradient. -/
def dqBlock (x0 : Vec Ideal S1x256x256 .bf16) (x1 : Vec Ideal S1x2304x256 .bf16)
    (x2 : Vec Ideal S1x2304x128 .bf16) (x3 : Vec Ideal S1x2304x256 .bf16) (x4 : Vec Ideal S1x256x128 .bf16)
    (x5 : Vec Ideal S1x2x256x1 .f32) (x6 : Vec Ideal S1x256x128 .bf16) : FVec Ideal S1x256x256 .bf16 :=
  pair (dqTile (a0 x0) (k0 x1) x2 (w0 x3) (o0 x6) (o0 x4) (l0 x5)) (dqTile (a1 x0) (k1 x1) x2 (w1 x3) (o1 x6) (o1 x4) (l1 x5))

/-- The accumulator of the keys' own parts, over what it held. -/
def dkBlock (x0 : Vec Ideal S1x256x256 .bf16) (x1 : Vec Ideal S1x2304x256 .bf16)
    (x2 : Vec Ideal S1x2304x128 .bf16) (x3 : Vec Ideal S1x2304x256 .bf16) (x4 : Vec Ideal S1x256x128 .bf16)
    (x5 : Vec Ideal S1x2x256x1 .f32) (x6 : Vec Ideal S1x256x128 .bf16) (acc : Vec Ideal S2304x256 .f32) :
    FVec Ideal S2304x256 .f32 :=
  k0_pay1 (dkTile (a0 x0) (k0 x1) x2 (w0 x3) (o0 x6) (o0 x4) (l0 x5))
    (dkTile (a1 x0) (k1 x1) x2 (w1 x3) (o1 x6) (o1 x4) (l1 x5)) acc

/-- The accumulator of the shared part, over what it held. -/
def krBlock (x0 : Vec Ideal S1x256x256 .bf16) (x1 : Vec Ideal S1x2304x256 .bf16)
    (x2 : Vec Ideal S1x2304x128 .bf16) (x3 : Vec Ideal S1x2304x256 .bf16) (x4 : Vec Ideal S1x256x128 .bf16)
    (x5 : Vec Ideal S1x2x256x1 .f32) (x6 : Vec Ideal S1x256x128 .bf16) (acc : Vec Ideal S2304x128 .f32) :
    FVec Ideal S2304x128 .f32 :=
  k0_pay3 (dkTile (a0 x0) (k0 x1) x2 (w0 x3) (o0 x6) (o0 x4) (l0 x5))
    (dkTile (a1 x0) (k1 x1) x2 (w1 x3) (o1 x6) (o1 x4) (l1 x5)) acc

/-- The accumulator of the values, over what it held. -/
def dvBlock (x0 : Vec Ideal S1x256x256 .bf16) (x1 : Vec Ideal S1x2304x256 .bf16)
    (x2 : Vec Ideal S1x2304x128 .bf16) (x5 : Vec Ideal S1x2x256x1 .f32) (x6 : Vec Ideal S1x256x128 .bf16)
    (acc : Vec Ideal S2304x256 .f32) : FVec Ideal S2304x256 .f32 :=
  k0_pay2 (dvTile (a0 x0) (k0 x1) x2 (o0 x6) (l0 x5)) (dvTile (a1 x0) (k1 x1) x2 (o1 x6) (l1 x5)) acc

section Read

variable {q kn kr v ct}
variable {b g r : ℕ} {x0 : Vec Ideal S1x256x256 .bf16} {x1 : Vec Ideal S1x2304x256 .bf16}
    {x2 : Vec Ideal S1x2304x128 .bf16} {x3 : Vec Ideal S1x2304x256 .bf16} {x4 : Vec Ideal S1x256x128 .bf16}
    {x5 : Vec Ideal S1x2x256x1 .f32} {x6 : Vec Ideal S1x256x128 .bf16}

theorem head0 (hB : Blocks q kn kr v ct b g r x0 x1 x2 x3 x4 x5 x6) :
    Head q kn kr v ct b (2 * g + 0) r (a0 x0) (k0 x1) x2 (w0 x3) (o0 x6) (o0 x4) (l0 x5) := by
  refine ⟨fun i d => ?_, fun n d => ?_, hB.shared, fun n d => ?_, fun i d => ?_, fun i d => ?_, fun i => ?_⟩
  all_goals
    pointwise [a0, k0, w0, o0, l0, hB.query, hB.own, hB.value, hB.cotangent, hB.output, hB.log]
  all_goals
    congr 2 <;> (try simp only [lane, olane]) <;> omega

theorem head1 (hB : Blocks q kn kr v ct b g r x0 x1 x2 x3 x4 x5 x6) :
    Head q kn kr v ct b (2 * g + 1) r (a1 x0) (k1 x1) x2 (w1 x3) (o1 x6) (o1 x4) (l1 x5) := by
  refine ⟨fun i d => ?_, fun n d => ?_, hB.shared, fun n d => ?_, fun i d => ?_, fun i d => ?_, fun i => ?_⟩
  all_goals
    pointwise [a1, k1, w1, o1, l1, hB.query, hB.own, hB.value, hB.cotangent, hB.output, hB.log]
  all_goals
    congr 2 <;> (try simp only [lane, olane]) <;> omega

/-- Two heads' columns side by side. -/
theorem pair_at (G : ℕ → ℕ → ℕ → ℝ) (f0 f1 : FVec Ideal S256x128 .bf16)
    (h0 : ∀ (i : Fin 256) (d : Fin 128), f0 (ix2 i d) = ((G 0 i d : ℝ) : EReal))
    (h1 : ∀ (i : Fin 256) (d : Fin 128), f1 (ix2 i d) = ((G 1 i d : ℝ) : EReal)) (i : Fin 256) (c : Fin 256) :
    pair f0 f1 (ix3 0 i c) = ((G (c / 128) i (c % 128) : ℝ) : EReal) := by
  have hc := c.isLt
  unfold pair
  pointwise [h0, h1]
  have key (j e : ℕ) (hj : c.val / 128 = j) (he : c.val % 128 = e) :
      ((G j i e : ℝ) : EReal) = ((G (c / 128) i (c % 128) : ℝ) : EReal) := by subst hj he; rfl
  split_ifs <;> exact key _ _ (by omega) (by omega)

/-- What two heads add to an accumulator that keeps them side by side. -/
theorem add_pair (A : ℕ → ℕ → ℝ) (G : ℕ → ℕ → ℕ → ℝ) (acc : Vec Ideal S2304x256 .f32) (f0 f1 : FVec Ideal S2304x128 .f32)
    (ha : ∀ (n : Fin 2304) (c : Fin 256), acc (ix2 n c) = ((A n c : ℝ) : EReal))
    (h0 : ∀ (n : Fin 2304) (d : Fin 128), f0 (ix2 n d) = ((G 0 n d : ℝ) : EReal))
    (h1 : ∀ (n : Fin 2304) (d : Fin 128), f1 (ix2 n d) = ((G 1 n d : ℝ) : EReal)) (n : Fin 2304) (c : Fin 256) :
    k0_pay1 f0 f1 acc (ix2 n c) = ((A n c + G (c / 128) n (c % 128) : ℝ) : EReal) := by
  have hc := c.isLt
  rw [EReal.coe_add]
  unfold k0_pay1
  pointwise [ha, h0, h1]
  have key (j e : ℕ) (hj : c.val / 128 = j) (he : c.val % 128 = e) :
      ((G j n e : ℝ) : EReal) = ((G (c / 128) n (c % 128) : ℝ) : EReal) := by subst hj he; rfl
  congr 1
  split_ifs <;> exact key _ _ (by omega) (by omega)

/-- What two heads add to an accumulator that sums them. -/
theorem add_sum (A : ℕ → ℕ → ℝ) (G : ℕ → ℕ → ℕ → ℝ) (acc : Vec Ideal S2304x128 .f32) (f0 f1 : FVec Ideal S2304x128 .f32)
    (ha : ∀ (n : Fin 2304) (d : Fin 128), acc (ix2 n d) = ((A n d : ℝ) : EReal))
    (h0 : ∀ (n : Fin 2304) (d : Fin 128), f0 (ix2 n d) = ((G 0 n d : ℝ) : EReal))
    (h1 : ∀ (n : Fin 2304) (d : Fin 128), f1 (ix2 n d) = ((G 1 n d : ℝ) : EReal)) (n : Fin 2304) (d : Fin 128) :
    k0_pay3 f0 f1 acc (ix2 n d) = ((A n d + (G 0 n d + G 1 n d) : ℝ) : EReal) := by
  unfold k0_pay3
  pointwise [ha, h0, h1, ← EReal.coe_add]

theorem dqBlock_at (hB : Blocks q kn kr v ct b g r x0 x1 x2 x3 x4 x5 x6) (i : Fin 256) (c : Fin 256) :
    dqBlock x0 x1 x2 x3 x4 x5 x6 (ix3 0 i c) =
      ((dq q kn kr v ct b (2 * g + c / 128) (r + i) (c % 128) : ℝ) : EReal) :=
  pair_at (fun u i d => dq q kn kr v ct b (2 * g + u) (r + i) d) _ _ (dqTile_at (head0 hB)) (dqTile_at (head1 hB)) i c

theorem dkBlock_at (hB : Blocks q kn kr v ct b g r x0 x1 x2 x3 x4 x5 x6) (A : ℕ → ℕ → ℝ) (acc : Vec Ideal S2304x256 .f32)
    (ha : ∀ (n : Fin 2304) (c : Fin 256), acc (ix2 n c) = ((A n c : ℝ) : EReal)) (n : Fin 2304) (c : Fin 256) :
    dkBlock x0 x1 x2 x3 x4 x5 x6 acc (ix2 n c) =
      ((A n c + ∑ i : Fin 256, dkRow q kn kr v ct b (2 * g + c / 128) (r + i) n (c % 128) : ℝ) : EReal) :=
  add_pair A (fun u n d => ∑ i : Fin 256, dkRow q kn kr v ct b (2 * g + u) (r + i) n d) acc _ _ ha
    (dkTile_at (head0 hB)) (dkTile_at (head1 hB)) n c

theorem krBlock_at (hB : Blocks q kn kr v ct b g r x0 x1 x2 x3 x4 x5 x6) (A : ℕ → ℕ → ℝ) (acc : Vec Ideal S2304x128 .f32)
    (ha : ∀ (n : Fin 2304) (d : Fin 128), acc (ix2 n d) = ((A n d : ℝ) : EReal)) (n : Fin 2304) (d : Fin 128) :
    krBlock x0 x1 x2 x3 x4 x5 x6 acc (ix2 n d) =
      ((A n d + ((∑ i : Fin 256, dkRow q kn kr v ct b (2 * g + 0) (r + i) n d) +
        ∑ i : Fin 256, dkRow q kn kr v ct b (2 * g + 1) (r + i) n d) : ℝ) : EReal) :=
  add_sum A (fun u n d => ∑ i : Fin 256, dkRow q kn kr v ct b (2 * g + u) (r + i) n d) acc _ _ ha
    (dkTile_at (head0 hB)) (dkTile_at (head1 hB)) n d

theorem dvBlock_at (hB : Blocks q kn kr v ct b g r x0 x1 x2 x3 x4 x5 x6) (A : ℕ → ℕ → ℝ) (acc : Vec Ideal S2304x256 .f32)
    (ha : ∀ (n : Fin 2304) (c : Fin 256), acc (ix2 n c) = ((A n c : ℝ) : EReal)) (n : Fin 2304) (c : Fin 256) :
    dvBlock x0 x1 x2 x5 x6 acc (ix2 n c) =
      ((A n c + ∑ i : Fin 256, dvRow q kn kr ct b (2 * g + c / 128) (r + i) n (c % 128) : ℝ) : EReal) :=
  add_pair A (fun u n d => ∑ i : Fin 256, dvRow q kn kr ct b (2 * g + u) (r + i) n d) acc _ _ ha
    (dvTile_at (head0 hB)) (dvTile_at (head1 hB)) n c

theorem zero_own (n : Fin 2304) (c : Fin 256) : k0_pay7 (F := Ideal) (ix2 n c) = ((0 : ℝ) : EReal) := by
  rw [EReal.coe_zero]
  pointwise [k0_pay7]

theorem zero_value (n : Fin 2304) (c : Fin 256) : k0_pay8 (F := Ideal) (ix2 n c) = ((0 : ℝ) : EReal) := by
  rw [EReal.coe_zero]
  pointwise [k0_pay8]

theorem zero_shared (n : Fin 2304) (d : Fin 128) : k0_pay9 (F := Ideal) (ix2 n d) = ((0 : ℝ) : EReal) := by
  rw [EReal.coe_zero]
  pointwise [k0_pay9]

theorem write_own (w : Vec Ideal S2304x256 .f32) (x : EReal) (n : Fin 2304) (c : Fin 256) (h : w (ix2 n c) = x) :
    k0_pay4 (F := Ideal) w (ix3 0 n c) = x := by
  pointwise [k0_pay4, h]

theorem write_value (w : Vec Ideal S2304x256 .f32) (x : EReal) (n : Fin 2304) (c : Fin 256) (h : w (ix2 n c) = x) :
    k0_pay5 (F := Ideal) w (ix3 0 n c) = x := by
  pointwise [k0_pay5, h]

theorem write_shared (w : Vec Ideal S2304x128 .f32) (x : EReal) (n : Fin 2304) (d : Fin 128) (h : w (ix2 n d) = x) :
    k0_pay6 (F := Ideal) w (ix3 0 n d) = x := by
  pointwise [k0_pay6, h]

end Read

/-! ## The points -/

variable (m : (ℓ : Loc nD τ sig) → Buf (Elt Ideal) ℓ) (c : Dev nD) (t : Fin cfg0.N)
variable {q kn kr v ct}

/-- Every point writes its block of the query gradient. -/
theorem point_dq {b g r : ℕ} (hB : Blocks q kn kr v ct b g r (iblk m c 0 t) (iblk m c 1 t) (iblk m c 2 t) (iblk m c 3 t)
    (iblk m c 4 t) (iblk m c 5 t) (iblk m c 6 t)) (i : Fin 256) (e : Fin 256) :
    (outsAt0 m c t.val t.isLt).1 (ix3 0 i e) =
      ((dq q kn kr v ct b (2 * g + e / 128) (r + i) (e % 128) : ℝ) : EReal) := by
  by_cases h0 : t.val % 8 = 0
  · by_cases h1 : t.val % 32 = 0
    · rw [outsAt0_A m c t h0 h1 (by omega) (by omega)]
      frame_out
      exact dqBlock_at hB i e
    · rw [outsAt0_D m c t h0 h1 (by omega) (by omega)]
      frame_out
      exact dqBlock_at hB i e
  · by_cases h2 : t.val % 8 = 7
    · by_cases h3 : t.val % 32 = 31
      · rw [outsAt0_E m c t h0 (by omega) h2 h3]
        frame_out
        exact dqBlock_at hB i e
      · rw [outsAt0_C m c t h0 (by omega) h2 h3]
        frame_out
        exact dqBlock_at hB i e
    · rw [outsAt0_B m c t h0 (by omega) h2 (by omega)]
      frame_out
      exact dqBlock_at hB i e

/-- The accumulator of the keys' own parts, where it starts. -/
theorem own_start (h0 : t.val % 8 = 0) {b g r : ℕ} (hB : Blocks q kn kr v ct b g r (iblk m c 0 t) (iblk m c 1 t)
    (iblk m c 2 t) (iblk m c 3 t) (iblk m c 4 t) (iblk m c 5 t) (iblk m c 6 t)) (n : Fin 2304) (e : Fin 256) :
    (outsAt0 m c t.val t.isLt).2.2.2.2.1 (ix2 n e) =
      ((0 + ∑ i : Fin 256, dkRow q kn kr v ct b (2 * g + e / 128) (r + i) n (e % 128) : ℝ) : EReal) := by
  by_cases h1 : t.val % 32 = 0
  · rw [outsAt0_A m c t h0 h1 (by omega) (by omega)]
    frame_out
    exact dkBlock_at hB (fun _ _ => 0) _ zero_own n e
  · rw [outsAt0_D m c t h0 h1 (by omega) (by omega)]
    frame_out
    exact dkBlock_at hB (fun _ _ => 0) _ zero_own n e

/-- The accumulator of the values, where it starts. -/
theorem value_start (h0 : t.val % 8 = 0) {b g r : ℕ} (hB : Blocks q kn kr v ct b g r (iblk m c 0 t) (iblk m c 1 t)
    (iblk m c 2 t) (iblk m c 3 t) (iblk m c 4 t) (iblk m c 5 t) (iblk m c 6 t)) (n : Fin 2304) (e : Fin 256) :
    (outsAt0 m c t.val t.isLt).2.2.2.2.2.2 (ix2 n e) =
      ((0 + ∑ i : Fin 256, dvRow q kn kr ct b (2 * g + e / 128) (r + i) n (e % 128) : ℝ) : EReal) := by
  by_cases h1 : t.val % 32 = 0
  · rw [outsAt0_A m c t h0 h1 (by omega) (by omega)]
    frame_out
    exact dvBlock_at hB (fun _ _ => 0) _ zero_value n e
  · rw [outsAt0_D m c t h0 h1 (by omega) (by omega)]
    frame_out
    exact dvBlock_at hB (fun _ _ => 0) _ zero_value n e

/-- The accumulator of the shared part, where it starts. -/
theorem shared_start (h1 : t.val % 32 = 0) {b g r : ℕ} (hB : Blocks q kn kr v ct b g r (iblk m c 0 t) (iblk m c 1 t)
    (iblk m c 2 t) (iblk m c 3 t) (iblk m c 4 t) (iblk m c 5 t) (iblk m c 6 t)) (n : Fin 2304) (d : Fin 128) :
    (outsAt0 m c t.val t.isLt).2.2.2.2.2.1 (ix2 n d) =
      ((0 + ((∑ i : Fin 256, dkRow q kn kr v ct b (2 * g + 0) (r + i) n d) +
        ∑ i : Fin 256, dkRow q kn kr v ct b (2 * g + 1) (r + i) n d) : ℝ) : EReal) := by
  rw [outsAt0_A m c t (by omega) h1 (by omega) (by omega)]
  frame_out
  exact krBlock_at hB (fun _ _ => 0) _ zero_shared n d

/-- The accumulator of the keys' own parts, over what the point before left. -/
theorem own_step (h0 : ¬t.val % 8 = 0) {b g r : ℕ} (hB : Blocks q kn kr v ct b g r (iblk m c 0 t) (iblk m c 1 t)
    (iblk m c 2 t) (iblk m c 3 t) (iblk m c 4 t) (iblk m c 5 t) (iblk m c 6 t)) (A : ℕ → ℕ → ℝ) (p : t.val - 1 < cfg0.N)
    (hp : ∀ (n : Fin 2304) (e : Fin 256), (outsAt0 m c (t.val - 1) p).2.2.2.2.1 (ix2 n e) = ((A n e : ℝ) : EReal))
    (n : Fin 2304) (e : Fin 256) :
    (outsAt0 m c t.val t.isLt).2.2.2.2.1 (ix2 n e) =
      ((A n e + ∑ i : Fin 256, dkRow q kn kr v ct b (2 * g + e / 128) (r + i) n (e % 128) : ℝ) : EReal) := by
  by_cases h2 : t.val % 8 = 7
  · by_cases h3 : t.val % 32 = 31
    · rw [outsAt0_E m c t h0 (by omega) h2 h3]
      frame_out
      exact dkBlock_at hB A _ (fun n e => (congrFun (Memref.IsWhole.read_unread _ _) _).trans (hp n e)) n e
    · rw [outsAt0_C m c t h0 (by omega) h2 h3]
      frame_out
      exact dkBlock_at hB A _ (fun n e => (congrFun (Memref.IsWhole.read_unread _ _) _).trans (hp n e)) n e
  · rw [outsAt0_B m c t h0 (by omega) h2 (by omega)]
    frame_out
    exact dkBlock_at hB A _ (fun n e => (congrFun (Memref.IsWhole.read_unread _ _) _).trans (hp n e)) n e

/-- The accumulator of the values, over what the point before left. -/
theorem value_step (h0 : ¬t.val % 8 = 0) {b g r : ℕ} (hB : Blocks q kn kr v ct b g r (iblk m c 0 t) (iblk m c 1 t)
    (iblk m c 2 t) (iblk m c 3 t) (iblk m c 4 t) (iblk m c 5 t) (iblk m c 6 t)) (A : ℕ → ℕ → ℝ) (p : t.val - 1 < cfg0.N)
    (hp : ∀ (n : Fin 2304) (e : Fin 256), (outsAt0 m c (t.val - 1) p).2.2.2.2.2.2 (ix2 n e) = ((A n e : ℝ) : EReal))
    (n : Fin 2304) (e : Fin 256) :
    (outsAt0 m c t.val t.isLt).2.2.2.2.2.2 (ix2 n e) =
      ((A n e + ∑ i : Fin 256, dvRow q kn kr ct b (2 * g + e / 128) (r + i) n (e % 128) : ℝ) : EReal) := by
  by_cases h2 : t.val % 8 = 7
  · by_cases h3 : t.val % 32 = 31
    · rw [outsAt0_E m c t h0 (by omega) h2 h3]
      frame_out
      exact dvBlock_at hB A _ (fun n e => (congrFun (Memref.IsWhole.read_unread _ _) _).trans (hp n e)) n e
    · rw [outsAt0_C m c t h0 (by omega) h2 h3]
      frame_out
      exact dvBlock_at hB A _ (fun n e => (congrFun (Memref.IsWhole.read_unread _ _) _).trans (hp n e)) n e
  · rw [outsAt0_B m c t h0 (by omega) h2 (by omega)]
    frame_out
    exact dvBlock_at hB A _ (fun n e => (congrFun (Memref.IsWhole.read_unread _ _) _).trans (hp n e)) n e

/-- The accumulator of the shared part, over what the point before left. -/
theorem shared_step (h1 : ¬t.val % 32 = 0) {b g r : ℕ} (hB : Blocks q kn kr v ct b g r (iblk m c 0 t) (iblk m c 1 t)
    (iblk m c 2 t) (iblk m c 3 t) (iblk m c 4 t) (iblk m c 5 t) (iblk m c 6 t)) (A : ℕ → ℕ → ℝ) (p : t.val - 1 < cfg0.N)
    (hp : ∀ (n : Fin 2304) (d : Fin 128), (outsAt0 m c (t.val - 1) p).2.2.2.2.2.1 (ix2 n d) = ((A n d : ℝ) : EReal))
    (n : Fin 2304) (d : Fin 128) :
    (outsAt0 m c t.val t.isLt).2.2.2.2.2.1 (ix2 n d) =
      ((A n d + ((∑ i : Fin 256, dkRow q kn kr v ct b (2 * g + 0) (r + i) n d) +
        ∑ i : Fin 256, dkRow q kn kr v ct b (2 * g + 1) (r + i) n d) : ℝ) : EReal) := by
  by_cases h0 : t.val % 8 = 0
  · rw [outsAt0_D m c t h0 h1 (by omega) (by omega)]
    frame_out
    exact krBlock_at hB A _ (fun n e => (congrFun (Memref.IsWhole.read_unread _ _) _).trans (hp n e)) n d
  · by_cases h2 : t.val % 8 = 7
    · by_cases h3 : t.val % 32 = 31
      · rw [outsAt0_E m c t h0 h1 h2 h3]
        frame_out
        exact krBlock_at hB A _ (fun n e => (congrFun (Memref.IsWhole.read_unread _ _) _).trans (hp n e)) n d
      · rw [outsAt0_C m c t h0 h1 h2 h3]
        frame_out
        exact krBlock_at hB A _ (fun n e => (congrFun (Memref.IsWhole.read_unread _ _) _).trans (hp n e)) n d
    · rw [outsAt0_B m c t h0 h1 h2 (by omega)]
      frame_out
      exact krBlock_at hB A _ (fun n e => (congrFun (Memref.IsWhole.read_unread _ _) _).trans (hp n e)) n d

/-- The last rows of a pair of heads write the accumulator of the keys' own parts out. -/
theorem own_out (h2 : t.val % 8 = 7) (n : Fin 2304) (e : Fin 256) :
    (outsAt0 m c t.val t.isLt).2.1 (ix3 0 n e) = (outsAt0 m c t.val t.isLt).2.2.2.2.1 (ix2 n e) := by
  by_cases h3 : t.val % 32 = 31
  · rw [outsAt0_E m c t (by omega) (by omega) h2 h3]
    frame_out
    exact write_own _ _ n e rfl
  · rw [outsAt0_C m c t (by omega) (by omega) h2 h3]
    frame_out
    exact write_own _ _ n e rfl

/-- The last rows of a pair of heads write the accumulator of the values out. -/
theorem value_out (h2 : t.val % 8 = 7) (n : Fin 2304) (e : Fin 256) :
    (outsAt0 m c t.val t.isLt).2.2.2.1 (ix3 0 n e) = (outsAt0 m c t.val t.isLt).2.2.2.2.2.2 (ix2 n e) := by
  by_cases h3 : t.val % 32 = 31
  · rw [outsAt0_E m c t (by omega) (by omega) h2 h3]
    frame_out
    exact write_value _ _ n e rfl
  · rw [outsAt0_C m c t (by omega) (by omega) h2 h3]
    frame_out
    exact write_value _ _ n e rfl

/-- A sample's last point writes the accumulator of the shared part out. -/
theorem shared_out (h3 : t.val % 32 = 31) (n : Fin 2304) (d : Fin 128) :
    (outsAt0 m c t.val t.isLt).2.2.1 (ix3 0 n d) = (outsAt0 m c t.val t.isLt).2.2.2.2.2.1 (ix2 n d) := by
  rw [outsAt0_E m c t (by omega) (by omega) (by omega) h3]
  frame_out
  exact write_shared _ _ n d rfl

end Cert.Kernel27Ideal.Latent
-- ==== Proof.LatentSaved.lean ====
module

public import proofs.«01_k».proof.Proof.Latent
public import proofs.«01_k».proof.Proof.Gen.Reference28Ideal.Read
public import Idealize.ShloMosaic.Lib.Pointwise

/-!
# What the latent attention's forward pass keeps, read at an index

The operations of the host program that computes the output and each row's logarithm, one after another, as the real
mathematics of `Latent.lean`, for arguments whose elements are reals.
-/

@[expose] public section

set_option maxRecDepth 16384

noncomputable section

namespace Cert.Reference28Ideal.Saved

open Idealize.ShloMosaic Idealize.ShloMosaic.TcCoe Idealize.SL.Sem
open Cert.Reference28Ideal Cert.Reference28Ideal.Gen Cert.Reference28Ideal.Read Cert.Mla
open Cert.Gqa hiding score weight total prob out lse dprob mean dscore dq dkRow dvRow dv total_pos mean_eq

variable (q kn kr v : ℕ → ℕ → ℕ → ℝ)
  (x0 : FVec Ideal S2x2048x1024 .bf16) (x1 x3 : FVec Ideal S2x2304x1024 .bf16) (x2 : FVec Ideal S2x2304x128 .bf16)
  (h0 : ∀ (b : Fin 2) (i : Fin 2048) (c : Fin 1024), x0 (ix3 b i c) = ((q b i c : ℝ) : EReal))
  (h1 : ∀ (b : Fin 2) (i : Fin 2304) (c : Fin 1024), x1 (ix3 b i c) = ((kn b i c : ℝ) : EReal))
  (h2 : ∀ (b : Fin 2) (i : Fin 2304) (c : Fin 128), x2 (ix3 b i c) = ((kr b i c : ℝ) : EReal))
  (h3 : ∀ (b : Fin 2) (i : Fin 2304) (c : Fin 1024), x3 (ix3 b i c) = ((v b i c : ℝ) : EReal))

include h0 in
theorem queries (b : Fin 2) (h : Fin 8) (i : Fin 2048) (d : Fin 128) :
    val_main_v10 (F := Ideal) x0 (ix4 b h i d) = ((q b i (lane h d) : ℝ) : EReal) := by
  pointwise [val_main_v10, val_main_v9, val_main_v0]
  rw [h0]
  rfl

include h1 h2 in
theorem keys (b : Fin 2) (h : Fin 8) (n : Fin 2304) (d : Fin 128) :
    val_main_v8 (F := Ideal) x1 x2 (ix4 b h n d) = ((key kn kr b h n d : ℝ) : EReal) := by
  pointwise [val_main_v8, val_main_v7, val_main_v6, val_main_v5, val_main_v4, val_main_v2, val_main_v1]
  rw [h1, h2, ← EReal.coe_add]
  rfl

include h3 in
theorem values (b : Fin 2) (h : Fin 8) (n : Fin 2304) (d : Fin 64) :
    val_main_v13 (F := Ideal) x3 (ix4 b h n d) = ((v b n (lane h d) : ℝ) : EReal) := by
  pointwise [val_main_v13, val_main_v12, val_main_v11, val_main_v3]
  rw [h3]
  rfl

include h0 h1 h2 in
theorem scores (b : Fin 2) (h : Fin 8) (i : Fin 2048) (n : Fin 2304) :
    val_main_v16 (F := Ideal) x0 x1 x2 (ix4 b h i n) = ((score q kn kr b h i n * scale : ℝ) : EReal) := by
  pointwise [val_main_v16, val_main_v15, val_main_cst, val_main_v14, queries q x0 h0, keys kn kr x1 x2 h1 h2]
  rw [ofBits_scale]
  simp only [← EReal.coe_mul, coe_sum]
  rfl

include h0 h1 h2 in
theorem top (b : Fin 2) (h : Fin 8) (i : Fin 2048) : ∃ m : ℝ,
    val_main_v17 (F := Ideal) x0 x1 x2 (ix3 b h i) = (m : EReal) := by
  pointwise [val_main_v17, val_main_cst_0, scores q kn kr x0 x1 x2 h0 h1 h2]
  rw [ofBits_bot]
  exact fold_max_coe (by decide) _

include h0 h1 h2 in
theorem rows (b : Fin 2) (h : Fin 8) (i : Fin 2048) : ∃ m : ℝ,
    val_main_v18 (F := Ideal) x0 x1 x2 (ix4 b h i 0) = (m : EReal) ∧
    (∀ n : Fin 2304, val_main_v21 (F := Ideal) x0 x1 x2 (ix4 b h i n) =
      ((Real.exp (score q kn kr b h i n * scale - m) : ℝ) : EReal)) ∧
    val_main_v23 (F := Ideal) x0 x1 x2 (ix4 b h i 0) =
      ((∑ n : Fin 2304, Real.exp (score q kn kr b h i n * scale - m) : ℝ) : EReal) := by
  obtain ⟨m, hm⟩ := top q kn kr x0 x1 x2 h0 h1 h2 b h i
  have he : ∀ n : Fin 2304, val_main_v21 (F := Ideal) x0 x1 x2 (ix4 b h i n) =
      ((Real.exp (score q kn kr b h i n * scale - m) : ℝ) : EReal) := by
    intro n
    pointwise [val_main_v21, val_main_v20, val_main_v19, val_main_v18, hm, scores q kn kr x0 x1 x2 h0 h1 h2]
    rw [← EReal.coe_sub, Ideal.exp_coe]
  refine ⟨m, ?_, he, ?_⟩
  · pointwise [val_main_v18, hm]
  · pointwise [val_main_v23, val_main_v22, val_main_cst_1, he]
    rw [coe_sum]

include h0 h1 h2 in
theorem probs (b : Fin 2) (h : Fin 8) (i : Fin 2048) (n : Fin 2304) :
    val_main_v25 (F := Ideal) x0 x1 x2 (ix4 b h i n) = ((prob q kn kr b h i n : ℝ) : EReal) := by
  obtain ⟨m, -, he, hs⟩ := rows q kn kr x0 x1 x2 h0 h1 h2 b h i
  pointwise [val_main_v25, val_main_v24, he, hs]
  rw [div_coe_coe (sum_exp_pos (fun n : Fin 2304 => score q kn kr b h i n * scale) m (by decide)).ne', quot]

include h0 h1 h2 h3 in
theorem outs (b : Fin 2) (h : Fin 8) (i : Fin 2048) (d : Fin 64) :
    val_main_v27 (F := Ideal) x0 x1 x2 x3 (ix4 b h i d) = ((out q kn kr v b h i d : ℝ) : EReal) := by
  pointwise [val_main_v27, val_main_v26, probs q kn kr x0 x1 x2 h0 h1 h2, values v x3 h3]
  simp only [← EReal.coe_mul, coe_sum]
  rfl

include h0 h1 h2 in
theorem logs (b : Fin 2) (h : Fin 8) (i : Fin 2048) :
    val_main_v32 (F := Ideal) x0 x1 x2 (ix4 b h i 0) = ((Real.log (total q kn kr b h i) : ℝ) : EReal) := by
  obtain ⟨m, hm, -, hs⟩ := rows q kn kr x0 x1 x2 h0 h1 h2 b h i
  have hp := sum_exp_pos (fun n : Fin 2304 => score q kn kr b h i n * scale) m (by decide)
  have hl := log_quot q kn kr b h i m
  generalize (∑ n : Fin 2304, Real.exp (score q kn kr b h i n * scale - m)) = z at hs hp hl
  rw [val_main_v32_apply, hm, val_main_v31_apply, hs]
  show (m : EReal) + Ideal.log (z : EReal) = _
  rw [log_coe_pos hp, ← EReal.coe_add, hl]

include h0 h1 h2 h3 in
/-- The output kept, at column `c` of a row. -/
theorem saved_out (b : Fin 2) (i : Fin 2048) (c : Fin 512) :
    val_main_v30 (F := Ideal) x0 x1 x2 x3 (ix3 b i c) = ((out q kn kr v b (c / 64) i (c % 64) : ℝ) : EReal) := by
  rw [val_main_v30_apply, val_main_v29_apply, val_main_v28_apply]
  have hb := b.2
  have hi := i.2
  have hc := c.2
  have e : idx_main_v28 (idx_main_v29 (ix3 b i c)) =
      ix4 b ⟨(c : ℕ) / 64, by omega⟩ i ⟨(c : ℕ) % 64, by omega⟩ := by
    funext a
    apply Fin.ext
    match a with
    | ⟨0, _⟩ => show (((b : ℕ) * 2048 + i) * 512 + c) / 1048576 = b; omega
    | ⟨1, _⟩ => show (((b : ℕ) * 2048 + i) * 512 + c) / 64 % 8 = (c : ℕ) / 64; omega
    | ⟨2, _⟩ => show (((b : ℕ) * 2048 + i) * 512 + c) / 512 % 2048 = i; omega
    | ⟨3, _⟩ => show (((b : ℕ) * 2048 + i) * 512 + c) % 64 = (c : ℕ) % 64; omega
  rw [e, outs q kn kr v x0 x1 x3 x2 h0 h1 h2 h3]
  rfl

include h0 h1 h2 in
/-- The logarithm kept, of head `h` of a row. -/
theorem saved_lse (b : Fin 2) (h : Fin 8) (i : Fin 2048) :
    val_main_v36 (F := Ideal) x0 x1 x2 (ix4 b h i 0) = ((lse q kn kr b h i : ℝ) : EReal) := by
  pointwise [val_main_v36, val_main_v35, val_main_v34, val_main_v33, val_main_cst_2]
  rw [logs q kn kr x0 x1 x2 h0 h1 h2]
  show Ideal.div _ (Ideal.log (Ideal.ofBits .f32 0x40000000#32)) = _
  rw [ofBits_two, log_coe_pos two_pos, div_coe_coe (Real.log_pos one_lt_two).ne']
  rfl

end Cert.Reference28Ideal.Saved
-- ==== Proof.LatentStaged.lean ====
module

public import proofs.«01_k».proof.Proof.LatentBlocks
public import proofs.«01_k».proof.Proof.LatentSaved
public import Idealize.ShloMosaic.Lib.Claim

/-!
# The blocks staged for a grid point of the latent attention's backward kernel

Point `32 * b + 8 * g + s` treats the rows `256 * s …` of sample `b` and the `g`-th pair of heads.
-/

@[expose] public section

set_option maxRecDepth 16384

noncomputable section

namespace Cert.Kernel27Ideal.Latent

open Idealize.ShloMosaic Idealize.ShloMosaic.TcCoe Idealize.SL.Sem
open Cert.Kernel27Ideal Cert.Kernel27Ideal.Gen Cert.Mla
open Cert.Gqa hiding score weight total prob out lse dprob mean dscore dq dkRow dvRow dv total_pos mean_eq

variable (m : (ℓ : Loc nD τ sig) → Buf (Elt Ideal) ℓ) (c : Dev nD)

/-- The forward output the kernel reads is the one the forward pass keeps. -/
theorem entry_output : V m c main_v30 = Cert.Reference28Ideal.Read.val_main_v30 (F := Ideal)
    (m ((c.tc : Thread nD τ).loc main_arg0)) (m ((c.tc : Thread nD τ).loc main_arg1))
    (m ((c.tc : Thread nD τ).loc main_arg2)) (m ((c.tc : Thread nD τ).loc main_arg3)) := by
  entry_read
  rfl

/-- The logarithms the kernel reads are the ones the forward pass keeps. -/
theorem entry_log : V m c main_v36 = Cert.Reference28Ideal.Read.val_main_v36 (F := Ideal)
    (m ((c.tc : Thread nD τ).loc main_arg0)) (m ((c.tc : Thread nD τ).loc main_arg1))
    (m ((c.tc : Thread nD τ).loc main_arg2)) := by
  entry_read
  rfl

/-- Every window's block index, as numbers. -/
theorem idx : ∀ t : Fin cfg0.N, win0_0.index t = ![t.val / 32, t.val % 8, t.val / 8 % 4]
    ∧ win0_1.index t = ![t.val / 32, 0, t.val / 8 % 4]
    ∧ win0_2.index t = ![t.val / 32, 0, 0]
    ∧ win0_3.index t = ![t.val / 32, 0, t.val / 8 % 4]
    ∧ win0_4.index t = ![t.val / 32, t.val % 8, t.val / 8 % 4]
    ∧ win0_5.index t = ![t.val / 32, t.val / 8 % 4, t.val % 8, 0]
    ∧ win0_6.index t = ![t.val / 32, t.val % 8, t.val / 8 % 4]
    ∧ win0_7.index t = ![t.val / 32, t.val % 8, t.val / 8 % 4]
    ∧ win0_8.index t = ![t.val / 32, 0, t.val / 8 % 4]
    ∧ win0_9.index t = ![t.val / 32, 0, 0]
    ∧ win0_10.index t = ![t.val / 32, 0, t.val / 8 % 4] := by
  decide +kernel

theorem point_lt (t : Fin cfg0.N) : t.val < 64 := Gen.N_0 ▸ t.isLt

variable {q kn kr v ct : ℕ → ℕ → ℕ → ℝ}

/-- What the arguments hold. -/
structure Args (q kn kr v ct : ℕ → ℕ → ℕ → ℝ) (x0 : Vec Ideal S2x2048x1024 .bf16) (x1 : Vec Ideal S2x2304x1024 .bf16)
    (x2 : Vec Ideal S2x2304x128 .bf16) (x3 : Vec Ideal S2x2304x1024 .bf16) (x4 : Vec Ideal S2x2048x512 .bf16) : Prop where
  query : ∀ (b : Fin 2) (i : Fin 2048) (e : Fin 1024), x0 (ix3 b i e) = ((q b i e : ℝ) : EReal)
  own : ∀ (b : Fin 2) (i : Fin 2304) (e : Fin 1024), x1 (ix3 b i e) = ((kn b i e : ℝ) : EReal)
  shared : ∀ (b : Fin 2) (i : Fin 2304) (e : Fin 128), x2 (ix3 b i e) = ((kr b i e : ℝ) : EReal)
  value : ∀ (b : Fin 2) (i : Fin 2304) (e : Fin 1024), x3 (ix3 b i e) = ((v b i e : ℝ) : EReal)
  cotangent : ∀ (b : Fin 2) (i : Fin 2048) (e : Fin 512), x4 (ix3 b i e) = ((ct b i e : ℝ) : EReal)

variable {m c}

section Read

variable (t : Fin cfg0.N) (hb : t.val / 32 < 2)

/-- Window 0's block of an array. -/
theorem read_rows0 (A : Buf (Elt Ideal) ((c.tc : Thread nD τ).loc main_arg0)) (i : Fin 256)
    (hi : 256 * (t.val % 8) + i.val < 2048) (e : Fin 256) (he : 256 * (t.val / 8 % 4) + e.val < 1024) :
    ((cfg0.win 0).blk t).view.read (Elt Ideal) A (ix3 0 i e) =
      A (ix3 ⟨t.val / 32, hb⟩ ⟨256 * (t.val % 8) + i, hi⟩ ⟨256 * (t.val / 8 % 4) + e, he⟩) := by
  blk_ext [idx t]

/-- Window 1's block of an array. -/
theorem read_rows1 (A : Buf (Elt Ideal) ((c.tc : Thread nD τ).loc main_arg1)) (n : Fin 2304) (e : Fin 256)
    (he : 256 * (t.val / 8 % 4) + e.val < 1024) :
    ((cfg0.win 1).blk t).view.read (Elt Ideal) A (ix3 0 n e) =
      A (ix3 ⟨t.val / 32, hb⟩ n ⟨256 * (t.val / 8 % 4) + e, he⟩) := by
  blk_ext [idx t]

/-- Window 2's block of an array. -/
theorem read_rows2 (A : Buf (Elt Ideal) ((c.tc : Thread nD τ).loc main_arg2)) (n : Fin 2304) (e : Fin 128) :
    ((cfg0.win 2).blk t).view.read (Elt Ideal) A (ix3 0 n e) = A (ix3 ⟨t.val / 32, hb⟩ n e) := by
  blk_ext [idx t]

/-- Window 3's block of an array. -/
theorem read_rows3 (A : Buf (Elt Ideal) ((c.tc : Thread nD τ).loc main_arg3)) (n : Fin 2304) (e : Fin 256)
    (he : 256 * (t.val / 8 % 4) + e.val < 1024) :
    ((cfg0.win 3).blk t).view.read (Elt Ideal) A (ix3 0 n e) =
      A (ix3 ⟨t.val / 32, hb⟩ n ⟨256 * (t.val / 8 % 4) + e, he⟩) := by
  blk_ext [idx t]

/-- Window 4's block of an array. -/
theorem read_rows4 (A : Buf (Elt Ideal) ((c.tc : Thread nD τ).loc main_v30)) (i : Fin 256)
    (hi : 256 * (t.val % 8) + i.val < 2048) (e : Fin 128) (he : 128 * (t.val / 8 % 4) + e.val < 512) :
    ((cfg0.win 4).blk t).view.read (Elt Ideal) A (ix3 0 i e) =
      A (ix3 ⟨t.val / 32, hb⟩ ⟨256 * (t.val % 8) + i, hi⟩ ⟨128 * (t.val / 8 % 4) + e, he⟩) := by
  blk_ext [idx t]

/-- Window 5's block of an array. -/
theorem read_rows5 (A : Buf (Elt Ideal) ((c.tc : Thread nD τ).loc main_v36)) (u : Fin 2)
    (hu : 2 * (t.val / 8 % 4) + u.val < 8) (i : Fin 256) (hi : 256 * (t.val % 8) + i.val < 2048) :
    ((cfg0.win 5).blk t).view.read (Elt Ideal) A (ix4 0 u i 0) =
      A (ix4 ⟨t.val / 32, hb⟩ ⟨2 * (t.val / 8 % 4) + u, hu⟩ ⟨256 * (t.val % 8) + i, hi⟩ 0) := by
  blk_ext [idx t]

/-- Window 6's block of an array. -/
theorem read_rows6 (A : Buf (Elt Ideal) ((c.tc : Thread nD τ).loc main_arg4)) (i : Fin 256)
    (hi : 256 * (t.val % 8) + i.val < 2048) (e : Fin 128) (he : 128 * (t.val / 8 % 4) + e.val < 512) :
    ((cfg0.win 6).blk t).view.read (Elt Ideal) A (ix3 0 i e) =
      A (ix3 ⟨t.val / 32, hb⟩ ⟨256 * (t.val % 8) + i, hi⟩ ⟨128 * (t.val / 8 % 4) + e, he⟩) := by
  blk_ext [idx t]

end Read

/-- The blocks staged for a grid point. -/
theorem blocks (h : Args q kn kr v ct (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))) (t : Fin cfg0.N) :
    Blocks q kn kr v ct (t.val / 32) (t.val / 8 % 4) (256 * (t.val % 8)) (iblk m c 0 t) (iblk m c 1 t) (iblk m c 2 t)
      (iblk m c 3 t) (iblk m c 4 t) (iblk m c 5 t) (iblk m c 6 t) := by
  have ht := point_lt t
  have hb : t.val / 32 < 2 := by omega
  refine ⟨fun i e => ?_, fun n e => ?_, fun n e => ?_, fun n e => ?_, fun i e => ?_, fun u i => ?_, fun i e => ?_⟩
  · exact (read_rows0 t hb (V m c main_arg0) i (by omega) e (by omega)).trans
      ((congrFun (V_main_arg0 m c) _).trans (h.query _ _ _))
  · exact (read_rows1 t hb (V m c main_arg1) n e (by omega)).trans ((congrFun (V_main_arg1 m c) _).trans (h.own _ _ _))
  · exact (read_rows2 t hb (V m c main_arg2) n e).trans ((congrFun (V_main_arg2 m c) _).trans (h.shared _ _ _))
  · exact (read_rows3 t hb (V m c main_arg3) n e (by omega)).trans ((congrFun (V_main_arg3 m c) _).trans (h.value _ _ _))
  · refine (read_rows4 t hb (V m c main_v30) i (by omega) e (by omega)).trans ((congrFun (entry_output m c) _).trans
      ((Cert.Reference28Ideal.Saved.saved_out q kn kr v _ _ _ _ h.query h.own h.shared h.value _ _ _).trans ?_))
    dsimp only
    rw [show (128 * (t.val / 8 % 4) + e.val) / 64 = 2 * (t.val / 8 % 4) + e.val / 64 by omega,
      show (128 * (t.val / 8 % 4) + e.val) % 64 = e.val % 64 by omega]
  · exact (read_rows5 t hb (V m c main_v36) u (by omega) i (by omega)).trans ((congrFun (entry_log m c) _).trans
      (Cert.Reference28Ideal.Saved.saved_lse q kn kr _ _ _ h.query h.own h.shared _ _ _))
  · exact (read_rows6 t hb (V m c main_arg4) i (by omega) e (by omega)).trans
      ((congrFun (V_main_arg4 m c) _).trans (h.cotangent _ _ _))

end Cert.Kernel27Ideal.Latent
-- ==== Proof.LatentResults.lean ====
module

public import proofs.«01_k».proof.Proof.LatentStaged

/-!
# The results of the latent attention's backward kernel

The accumulators over the points that share them, and the four result arrays.
-/

@[expose] public section

set_option maxRecDepth 16384

noncomputable section

namespace Cert.Kernel27Ideal.Latent

open Idealize.ShloMosaic Idealize.ShloMosaic.TcCoe Idealize.SL.Sem
open Cert.Kernel27Ideal Cert.Kernel27Ideal.Gen Cert.Mla
open Cert.Gqa hiding score weight total prob out lse dprob mean dscore dq dkRow dvRow dv total_pos mean_eq

/-- A sum over rows, 256 at a time. -/
theorem rows_sum (f : ℕ → ℝ) (k : ℕ) :
    ∑ s ∈ Finset.range k, ∑ i : Fin 256, f (256 * s + i) = ∑ i ∈ Finset.range (256 * k), f i := by
  induction k with
  | zero => rfl
  | succ k ih => rw [Finset.sum_range_succ, ih, Nat.mul_succ, Finset.sum_range_add, Finset.sum_range (n := 256)]

/-- All 2048 rows. -/
theorem rows_all (f : ℕ → ℝ) : ∑ s ∈ Finset.range (7 + 1), ∑ i : Fin 256, f (256 * s + i) = ∑ i : Fin 2048, f i :=
  (rows_sum f 8).trans (Finset.sum_range _)

/-- A sum over the points of some pairs of heads is one over their heads and rows. -/
theorem heads_sum (f : ℕ → ℕ → ℝ) (k : ℕ) :
    ∑ j ∈ Finset.range (8 * k), ((∑ i : Fin 256, f (2 * (j / 8) + 0) (256 * (j % 8) + i)) +
      ∑ i : Fin 256, f (2 * (j / 8) + 1) (256 * (j % 8) + i)) = ∑ h ∈ Finset.range (2 * k), ∑ i : Fin 2048, f h i := by
  induction k with
  | zero => rfl
  | succ k ih =>
    rw [Nat.mul_succ, Finset.sum_range_add, ih, show 2 * (k + 1) = 2 * k + 1 + 1 by omega, Finset.sum_range_succ (n := 2 * k + 1),
      Finset.sum_range_succ (n := 2 * k), add_assoc]
    congr 1
    rw [← rows_all (f (2 * k)), ← rows_all (f (2 * k + 1)), ← Finset.sum_add_distrib]
    refine Finset.sum_congr rfl fun s hs => ?_
    have h : s < 8 := Finset.mem_range.1 hs
    rw [show (8 * k + s) / 8 = k by omega, show (8 * k + s) % 8 = s by omega]
    rfl

/-- All eight heads. -/
theorem heads_all (f : ℕ → ℕ → ℝ) :
    ∑ j ∈ Finset.range (31 + 1), ((∑ i : Fin 256, f (2 * (j / 8) + 0) (256 * (j % 8) + i)) +
      ∑ i : Fin 256, f (2 * (j / 8) + 1) (256 * (j % 8) + i)) = ∑ h : Fin 8, ∑ i : Fin 2048, f h i :=
  (heads_sum f 4).trans (Finset.sum_range _)

variable (m : (ℓ : Loc nD τ sig) → Buf (Elt Ideal) ℓ) (c : Dev nD)
variable {q kn kr v ct : ℕ → ℕ → ℕ → ℝ}
variable (h : Args q kn kr v ct (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)))
include h

/-- The blocks staged for point `j` of sample `b`. -/
theorem blocks_at (b j t : ℕ) (hj : j < 32) (ht : t = 32 * b + j) (p : t < cfg0.N) :
    Blocks q kn kr v ct b (j / 8) (256 * (j % 8)) (iblk m c 0 ⟨t, p⟩) (iblk m c 1 ⟨t, p⟩) (iblk m c 2 ⟨t, p⟩)
      (iblk m c 3 ⟨t, p⟩) (iblk m c 4 ⟨t, p⟩) (iblk m c 5 ⟨t, p⟩) (iblk m c 6 ⟨t, p⟩) := by
  have hB := blocks h ⟨t, p⟩
  rwa [show (⟨t, p⟩ : Fin cfg0.N).val / 32 = b by dsimp only; omega,
    show (⟨t, p⟩ : Fin cfg0.N).val / 8 % 4 = j / 8 by dsimp only; omega,
    show (⟨t, p⟩ : Fin cfg0.N).val % 8 = j % 8 by dsimp only; omega] at hB

/-- The blocks staged for rows `256 * s …` and the `g`-th pair of heads of sample `b`. -/
theorem blocks_of (b g s t : ℕ) (hg : g < 4) (hs : s < 8) (ht : t = 32 * b + 8 * g + s) (p : t < cfg0.N) :
    Blocks q kn kr v ct b g (256 * s) (iblk m c 0 ⟨t, p⟩) (iblk m c 1 ⟨t, p⟩) (iblk m c 2 ⟨t, p⟩)
      (iblk m c 3 ⟨t, p⟩) (iblk m c 4 ⟨t, p⟩) (iblk m c 5 ⟨t, p⟩) (iblk m c 6 ⟨t, p⟩) := by
  have hB := blocks_at m c h b (8 * g + s) t (by omega) (by omega) p
  rwa [show (8 * g + s) / 8 = g by omega, show (8 * g + s) % 8 = s by omega] at hB

/-- The accumulator of the keys' own parts after the rows up to `256 * (s + 1)`. -/
theorem acc_own (b g s t : ℕ) (hg : g < 4) (hs : s < 8) (ht : t = 32 * b + 8 * g + s) (p : t < cfg0.N)
    (n : Fin 2304) (e : Fin 256) : (outsAt0 m c t p).2.2.2.2.1 (ix2 n e) =
      ((∑ s ∈ Finset.range (s + 1), ∑ i : Fin 256, dkRow q kn kr v ct b (2 * g + e / 128) (256 * s + i) n (e % 128) : ℝ) : EReal) := by
  induction s generalizing t n e with
  | zero =>
    rw [Finset.sum_range_succ, Finset.sum_range_zero]
    exact own_start m c ⟨t, p⟩ (by dsimp only; omega) (blocks_of m c h b g 0 t hg hs ht p) n e
  | succ s ih =>
    rw [Finset.sum_range_succ]
    exact own_step m c ⟨t, p⟩ (by dsimp only; omega) (blocks_of m c h b g (s + 1) t hg hs ht p)
      (fun n e => ∑ s ∈ Finset.range (s + 1), ∑ i : Fin 256, dkRow q kn kr v ct b (2 * g + e / 128) (256 * s + i) n (e % 128))
      _ (ih (t - 1) (by omega) (by omega) (by omega)) n e

/-- The accumulator of the values after the rows up to `256 * (s + 1)`. -/
theorem acc_value (b g s t : ℕ) (hg : g < 4) (hs : s < 8) (ht : t = 32 * b + 8 * g + s) (p : t < cfg0.N)
    (n : Fin 2304) (e : Fin 256) : (outsAt0 m c t p).2.2.2.2.2.2 (ix2 n e) =
      ((∑ s ∈ Finset.range (s + 1), ∑ i : Fin 256, dvRow q kn kr ct b (2 * g + e / 128) (256 * s + i) n (e % 128) : ℝ) : EReal) := by
  induction s generalizing t n e with
  | zero =>
    rw [Finset.sum_range_succ, Finset.sum_range_zero]
    exact value_start m c ⟨t, p⟩ (by dsimp only; omega) (blocks_of m c h b g 0 t hg hs ht p) n e
  | succ s ih =>
    rw [Finset.sum_range_succ]
    exact value_step m c ⟨t, p⟩ (by dsimp only; omega) (blocks_of m c h b g (s + 1) t hg hs ht p)
      (fun n e => ∑ s ∈ Finset.range (s + 1), ∑ i : Fin 256, dvRow q kn kr ct b (2 * g + e / 128) (256 * s + i) n (e % 128))
      _ (ih (t - 1) (by omega) (by omega) (by omega)) n e

/-- The accumulator of the shared part after point `j` of sample `b`. -/
theorem acc_shared (b j t : ℕ) (hj : j < 32) (ht : t = 32 * b + j) (p : t < cfg0.N) (n : Fin 2304) (d : Fin 128) :
    (outsAt0 m c t p).2.2.2.2.2.1 (ix2 n d) =
      ((∑ j ∈ Finset.range (j + 1), ((∑ i : Fin 256, dkRow q kn kr v ct b (2 * (j / 8) + 0) (256 * (j % 8) + i) n d) +
        ∑ i : Fin 256, dkRow q kn kr v ct b (2 * (j / 8) + 1) (256 * (j % 8) + i) n d) : ℝ) : EReal) := by
  induction j generalizing t n d with
  | zero =>
    rw [Finset.sum_range_succ, Finset.sum_range_zero]
    exact shared_start m c ⟨t, p⟩ (by dsimp only; omega) (blocks_at m c h b 0 t hj ht p) n d
  | succ j ih =>
    rw [Finset.sum_range_succ]
    exact shared_step m c ⟨t, p⟩ (by dsimp only; omega) (blocks_at m c h b (j + 1) t hj ht p)
      (fun n d => ∑ j ∈ Finset.range (j + 1), ((∑ i : Fin 256, dkRow q kn kr v ct b (2 * (j / 8) + 0) (256 * (j % 8) + i) n d) +
        ∑ i : Fin 256, dkRow q kn kr v ct b (2 * (j / 8) + 1) (256 * (j % 8) + i) n d))
      _ (ih (t - 1) (by omega) (by omega) (by omega)) n d

/-- The block of the keys' own gradient, written at the last rows of a pair of heads. -/
theorem block_own (b g t : ℕ) (hg : g < 4) (ht : t = 32 * b + 8 * g + 7) (p : t < cfg0.N) (n : Fin 2304) (e : Fin 256) :
    (outsAt0 m c t p).2.1 (ix3 0 n e) = ((dkn q kn kr v ct b (2 * g + e / 128) n (e % 128) : ℝ) : EReal) := by
  refine (own_out m c ⟨t, p⟩ (by dsimp only; omega) n e).trans ((acc_own m c h b g 7 t hg (by omega) ht p n e).trans ?_)
  rw [rows_all fun i => dkRow q kn kr v ct b (2 * g + e / 128) i n (e % 128)]
  rfl

/-- The block of the value gradient. -/
theorem block_value (b g t : ℕ) (hg : g < 4) (ht : t = 32 * b + 8 * g + 7) (p : t < cfg0.N) (n : Fin 2304) (e : Fin 256) :
    (outsAt0 m c t p).2.2.2.1 (ix3 0 n e) = ((dv q kn kr ct b (2 * g + e / 128) n (e % 128) : ℝ) : EReal) := by
  refine (value_out m c ⟨t, p⟩ (by dsimp only; omega) n e).trans ((acc_value m c h b g 7 t hg (by omega) ht p n e).trans ?_)
  rw [rows_all fun i => dvRow q kn kr ct b (2 * g + e / 128) i n (e % 128)]
  rfl

/-- The block of the shared part's gradient, written at a sample's last point. -/
theorem block_shared (b t : ℕ) (ht : t = 32 * b + 31) (p : t < cfg0.N) (n : Fin 2304) (d : Fin 128) :
    (outsAt0 m c t p).2.2.1 (ix3 0 n d) = ((dkr q kn kr v ct b n d : ℝ) : EReal) := by
  refine (shared_out m c ⟨t, p⟩ (by dsimp only; omega) n d).trans ((acc_shared m c h b 31 t (by omega) ht p n d).trans ?_)
  rw [heads_all fun h i => dkRow q kn kr v ct b h i n d]
  rfl

/-! ## The result arrays -/

/-- The query gradient. -/
theorem result_dq : (dats m 0 c).arrAt 7 cfg0.N = fun i : S2x2048x1024.Idx =>
    ((dq q kn kr v ct (i 0) ((i 2 : ℕ) / 128) (i 1) ((i 2 : ℕ) % 128) : ℝ) : EReal) := by
  refine (dats m 0 c).arrAt_eq_of_covers 7 _ (by decide +kernel) fun t hf y => ?_
  have ht := point_lt t
  blk_simp [idx t]
  rw [after0_7]
  obtain ⟨a, i, e, rfl⟩ : ∃ (a : Fin 1) (i : Fin 256) (e : Fin 256), y = ix3 a i e := ⟨y 0, y 1, y 2, by blk_ext⟩
  obtain rfl : a = 0 := Subsingleton.elim _ _
  refine (point_dq m c t (blocks h t) i e).trans ?_
  show _ = ((dq q kn kr v ct (t.val / 32) ((t.val / 8 % 4 * 256 + e.val) / 128) (t.val % 8 * 256 + i.val)
    ((t.val / 8 % 4 * 256 + e.val) % 128) : ℝ) : EReal)
  rw [show (t.val / 8 % 4 * 256 + e.val) / 128 = 2 * (t.val / 8 % 4) + e.val / 128 by omega,
    show (t.val / 8 % 4 * 256 + e.val) % 128 = e.val % 128 by omega, Nat.mul_comm _ 256]

/-- The gradient of the keys' own parts. -/
theorem result_dkn : (dats m 0 c).arrAt 8 cfg0.N = fun i : S2x2304x1024.Idx =>
    ((dkn q kn kr v ct (i 0) ((i 2 : ℕ) / 128) (i 1) ((i 2 : ℕ) % 128) : ℝ) : EReal) := by
  refine (dats m 0 c).arrAt_eq_of_covers 8 _ (by decide +kernel) fun t hf y => ?_
  have ht := point_lt t
  have h7 := (flush0_8 t).1 hf
  blk_simp [idx t]
  rw [after0_8]
  obtain ⟨a, n, e, rfl⟩ : ∃ (a : Fin 1) (n : Fin 2304) (e : Fin 256), y = ix3 a n e := ⟨y 0, y 1, y 2, by blk_ext⟩
  obtain rfl : a = 0 := Subsingleton.elim _ _
  refine (block_own m c h (t.val / 32) (t.val / 8 % 4) t.val (by omega) (by omega) t.isLt n e).trans ?_
  show _ = ((dkn q kn kr v ct (t.val / 32) ((t.val / 8 % 4 * 256 + e.val) / 128) n.val
    ((t.val / 8 % 4 * 256 + e.val) % 128) : ℝ) : EReal)
  rw [show (t.val / 8 % 4 * 256 + e.val) / 128 = 2 * (t.val / 8 % 4) + e.val / 128 by omega,
    show (t.val / 8 % 4 * 256 + e.val) % 128 = e.val % 128 by omega]

/-- The gradient of the part that all heads' keys share. -/
theorem result_dkr : (dats m 0 c).arrAt 9 cfg0.N = fun i : S2x2304x128.Idx =>
    ((dkr q kn kr v ct (i 0) (i 1) (i 2) : ℝ) : EReal) := by
  refine (dats m 0 c).arrAt_eq_of_covers 9 _ (by decide +kernel) fun t hf y => ?_
  have ht := point_lt t
  have h31 := (flush0_9 t).1 hf
  blk_simp [idx t]
  rw [after0_9]
  obtain ⟨a, n, d, rfl⟩ : ∃ (a : Fin 1) (n : Fin 2304) (d : Fin 128), y = ix3 a n d := ⟨y 0, y 1, y 2, by blk_ext⟩
  obtain rfl : a = 0 := Subsingleton.elim _ _
  exact block_shared m c h (t.val / 32) t.val (by omega) t.isLt n d

/-- The value gradient. -/
theorem result_dv : (dats m 0 c).arrAt 10 cfg0.N = fun i : S2x2304x1024.Idx =>
    ((dv q kn kr ct (i 0) ((i 2 : ℕ) / 128) (i 1) ((i 2 : ℕ) % 128) : ℝ) : EReal) := by
  refine (dats m 0 c).arrAt_eq_of_covers 10 _ (by decide +kernel) fun t hf y => ?_
  have ht := point_lt t
  have h7 := (flush0_10 t).1 hf
  blk_simp [idx t]
  rw [after0_10]
  obtain ⟨a, n, e, rfl⟩ : ∃ (a : Fin 1) (n : Fin 2304) (e : Fin 256), y = ix3 a n e := ⟨y 0, y 1, y 2, by blk_ext⟩
  obtain rfl : a = 0 := Subsingleton.elim _ _
  refine (block_value m c h (t.val / 32) (t.val / 8 % 4) t.val (by omega) (by omega) t.isLt n e).trans ?_
  show _ = ((dv q kn kr ct (t.val / 32) ((t.val / 8 % 4 * 256 + e.val) / 128) n.val
    ((t.val / 8 % 4 * 256 + e.val) % 128) : ℝ) : EReal)
  rw [show (t.val / 8 % 4 * 256 + e.val) / 128 = 2 * (t.val / 8 % 4) + e.val / 128 by omega,
    show (t.val / 8 % 4 * 256 + e.val) % 128 = e.val % 128 by omega]

end Cert.Kernel27Ideal.Latent
-- ==== Proof.LatentGradients.lean ====
module

public import proofs.«01_k».proof.Proof.Latent
public import proofs.«01_k».proof.Proof.Gen.Reference27Ideal.Read
public import Idealize.ShloMosaic.Lib.Pointwise

/-!
# The latent attention reference's gradients, read at an index

The operations of the reference, one after another, as the real mathematics of `Latent.lean`, for arguments whose
elements are reals.
-/

@[expose] public section

set_option maxRecDepth 16384

noncomputable section

namespace Cert.Reference27Ideal.Gradients

open Idealize.ShloMosaic Idealize.ShloMosaic.TcCoe Idealize.SL.Sem
open Cert.Reference27Ideal Cert.Reference27Ideal.Gen Cert.Reference27Ideal.Read Cert.Mla
open Cert.Gqa hiding score weight total prob out lse dprob mean dscore dq dkRow dvRow dv total_pos mean_eq

variable (q kn kr v ct : ℕ → ℕ → ℕ → ℝ)
  (x0 : FVec Ideal S2x2048x1024 .bf16) (x1 x3 : FVec Ideal S2x2304x1024 .bf16) (x2 : FVec Ideal S2x2304x128 .bf16)
  (x4 : FVec Ideal S2x2048x512 .bf16)
  (h0 : ∀ (b : Fin 2) (i : Fin 2048) (c : Fin 1024), x0 (ix3 b i c) = ((q b i c : ℝ) : EReal))
  (h1 : ∀ (b : Fin 2) (i : Fin 2304) (c : Fin 1024), x1 (ix3 b i c) = ((kn b i c : ℝ) : EReal))
  (h2 : ∀ (b : Fin 2) (i : Fin 2304) (c : Fin 128), x2 (ix3 b i c) = ((kr b i c : ℝ) : EReal))
  (h3 : ∀ (b : Fin 2) (i : Fin 2304) (c : Fin 1024), x3 (ix3 b i c) = ((v b i c : ℝ) : EReal))
  (h4 : ∀ (b : Fin 2) (i : Fin 2048) (c : Fin 512), x4 (ix3 b i c) = ((ct b i c : ℝ) : EReal))

include h0 in
theorem queries (b : Fin 2) (h : Fin 8) (i : Fin 2048) (d : Fin 128) :
    val_main_v10 (F := Ideal) x0 (ix4 b h i d) = ((q b i (lane h d) : ℝ) : EReal) := by
  pointwise [val_main_v10, val_main_v9, val_main_v0]
  rw [h0]
  rfl

include h1 h2 in
theorem keys (b : Fin 2) (h : Fin 8) (n : Fin 2304) (d : Fin 128) :
    val_main_v8 (F := Ideal) x1 x2 (ix4 b h n d) = ((key kn kr b h n d : ℝ) : EReal) := by
  pointwise [val_main_v8, val_main_v7, val_main_v6, val_main_v5, val_main_v4, val_main_v2, val_main_v1]
  rw [h1, h2, ← EReal.coe_add]
  rfl

include h3 in
theorem values (b : Fin 2) (h : Fin 8) (n : Fin 2304) (d : Fin 64) :
    val_main_v13 (F := Ideal) x3 (ix4 b h n d) = ((v b n (lane h d) : ℝ) : EReal) := by
  pointwise [val_main_v13, val_main_v12, val_main_v11, val_main_v3]
  rw [h3]
  rfl

include h4 in
theorem cotangents (b : Fin 2) (h : Fin 8) (i : Fin 2048) (d : Fin 64) :
    val_main_v53 (F := Ideal) x4 (ix4 b h i d) = ((ct b i (olane h d) : ℝ) : EReal) := by
  pointwise [val_main_v53, val_main_v52, val_main_v51]
  rw [h4]
  rfl

include h0 h1 h2 in
theorem scores (b : Fin 2) (h : Fin 8) (i : Fin 2048) (n : Fin 2304) :
    val_main_v16 (F := Ideal) x0 x1 x2 (ix4 b h i n) = ((score q kn kr b h i n * scale : ℝ) : EReal) := by
  pointwise [val_main_v16, val_main_v15, val_main_cst, val_main_v14, queries q x0 h0, keys kn kr x1 x2 h1 h2]
  rw [ofBits_scale]
  simp only [← EReal.coe_mul, coe_sum]
  rfl

include h0 h1 h2 in
theorem top (b : Fin 2) (h : Fin 8) (i : Fin 2048) : ∃ m : ℝ,
    val_main_v24 (F := Ideal) x0 x1 x2 (ix3 b h i) = (m : EReal) := by
  have e : ∃ m : ℝ, val_main_v17 (F := Ideal) x0 x1 x2 (ix3 b h i) = (m : EReal) := by
    pointwise [val_main_v17, val_main_cst_0, scores q kn kr x0 x1 x2 h0 h1 h2]
    rw [ofBits_bot]
    exact fold_max_coe (by decide) _
  obtain ⟨m, hm⟩ := e
  refine ⟨m, ?_⟩
  rw [val_main_v24_apply, hm]
  pointwise [val_main_v23, val_main_cst_2]
  show max (Ideal.ofBits .f32 0xFF800000#32) (m : EReal) = m
  rw [ofBits_bot]
  exact max_eq_right bot_le

include h0 h1 h2 in
/-- The weights, against a common factor, and their sum. -/
theorem rows (b : Fin 2) (h : Fin 8) (i : Fin 2048) : ∃ m : ℝ,
    (∀ n : Fin 2304, val_main_v37 (F := Ideal) x0 x1 x2 (ix4 b h i n) =
      ((Real.exp (score q kn kr b h i n * scale - m) : ℝ) : EReal)) ∧
    val_main_v39 (F := Ideal) x0 x1 x2 (ix4 b h i 0) =
      ((∑ n : Fin 2304, Real.exp (score q kn kr b h i n * scale - m) : ℝ) : EReal) := by
  obtain ⟨m, hm⟩ := top q kn kr x0 x1 x2 h0 h1 h2 b h i
  have he : ∀ n : Fin 2304, val_main_v37 (F := Ideal) x0 x1 x2 (ix4 b h i n) =
      ((Real.exp (score q kn kr b h i n * scale - m) : ℝ) : EReal) := by
    intro n
    pointwise [val_main_v37, val_main_v36, val_main_v35, val_main_v34, hm, scores q kn kr x0 x1 x2 h0 h1 h2]
    rw [← EReal.coe_sub, Ideal.exp_coe]
  refine ⟨m, he, ?_⟩
  pointwise [val_main_v39, val_main_v38, val_main_cst_8, he]
  rw [coe_sum]

include h0 h1 h2 in
theorem probs (b : Fin 2) (h : Fin 8) (i : Fin 2048) (n : Fin 2304) :
    val_main_v46 (F := Ideal) x0 x1 x2 (ix4 b h i n) = ((prob q kn kr b h i n : ℝ) : EReal) := by
  obtain ⟨m, he, hs⟩ := rows q kn kr x0 x1 x2 h0 h1 h2 b h i
  pointwise [val_main_v46, val_main_v45, val_main_v41, val_main_v40, he, hs]
  rw [div_coe_coe (sum_exp_pos (fun n : Fin 2304 => score q kn kr b h i n * scale) m (by decide)).ne', quot]

include h3 h4 in
theorem dprobs (b : Fin 2) (h : Fin 8) (i : Fin 2048) (n : Fin 2304) :
    val_main_v58 (F := Ideal) x3 x4 (ix4 b h i n) = ((dprob v ct b h i n : ℝ) : EReal) := by
  pointwise [val_main_v58, val_main_v57, val_main_v56, cotangents ct x4 h4, values v x3 h3]
  simp only [← EReal.coe_mul, coe_sum]
  rfl

include h0 h1 h2 h3 h4 in
theorem dscores (b : Fin 2) (h : Fin 8) (i : Fin 2048) (n : Fin 2304) :
    val_main_v72 (F := Ideal) x0 x1 x2 x3 x4 (ix4 b h i n) =
      ((dscore q kn kr v ct b h i n * scale : ℝ) : EReal) := by
  obtain ⟨m, he, hs⟩ := rows q kn kr x0 x1 x2 h0 h1 h2 b h i
  have hz := (sum_exp_pos (fun n : Fin 2304 => score q kn kr b h i n * scale) m (by decide)).ne'
  have hp := quot q kn kr b h i m
  generalize (∑ n : Fin 2304, Real.exp (score q kn kr b h i n * scale - m)) = z at hs hz hp
  have hg := softmax_quot (fun n : Fin 2304 => Real.exp (score q kn kr b h i n * scale - m))
    (fun n : Fin 2304 => dprob v ct b h i n) z hz n
  have ha : val_main_v62 (F := Ideal) x0 x1 x2 x3 x4 (ix3 b h i) =
      ((∑ l : Fin 2304, dprob v ct b h i l * (1 / (z * z)) * Real.exp (score q kn kr b h i l * scale - m) : ℝ)
        : EReal) := by
    pointwise [val_main_v62, val_main_cst_10, val_main_v61, val_main_v60, val_main_v59, val_main_v44, val_main_v43,
      val_main_cst_9, val_main_v42, he, hs, dprobs v ct x3 x4 h3 h4]
    rw [← EReal.coe_one, ← EReal.coe_mul, div_coe_coe (mul_ne_zero hz hz)]
    simp only [← EReal.coe_mul, coe_sum]
  have hb : val_main_v67 (F := Ideal) x0 x1 x2 x3 x4 (ix3 b h i) =
      ((-∑ l : Fin 2304, dprob v ct b h i l * (1 / (z * z)) * Real.exp (score q kn kr b h i l * scale - m) : ℝ)
        : EReal) := by
    pointwise [val_main_v67, val_main_cst_11, val_main_v64, val_main_v63, ha]
    simp only [Finset.univ_unique, Finset.sum_singleton, EReal.coe_neg]
  pointwise [val_main_v72, val_main_v71, val_main_cst_12, val_main_v70, val_main_v69, val_main_v68, val_main_v66,
    val_main_v65, hb, he, hs, dprobs v ct x3 x4 h3 h4]
  rw [div_coe_coe hz, ofBits_scale, ← EReal.coe_add, ← EReal.coe_mul, ← EReal.coe_mul, hg]
  simp only [hp]
  rfl

/-! ## Products -/

include h0 h1 h2 h3 h4 in
theorem dq_eq (b : Fin 2) (h : Fin 8) (i : Fin 2048) (d : Fin 128) :
    val_main_v74 (F := Ideal) x0 x1 x2 x3 x4 (ix4 b h i d) = ((dq q kn kr v ct b h i d : ℝ) : EReal) := by
  pointwise [val_main_v74, dscores q kn kr v ct x0 x1 x3 x2 x4 h0 h1 h2 h3 h4, keys kn kr x1 x2 h1 h2]
  simp only [← EReal.coe_mul, coe_sum]
  rw [dq, Finset.sum_mul]
  exact congrArg _ (Finset.sum_congr rfl fun n _ => by ring)

include h0 h1 h2 h3 h4 in
theorem dk_eq (b : Fin 2) (h : Fin 8) (n : Fin 2304) (d : Fin 128) :
    val_main_v73 (F := Ideal) x0 x1 x2 x3 x4 (ix4 b h n d) = ((dkn q kn kr v ct b h n d : ℝ) : EReal) := by
  pointwise [val_main_v73, dscores q kn kr v ct x0 x1 x3 x2 x4 h0 h1 h2 h3 h4, queries q x0 h0]
  simp only [← EReal.coe_mul, coe_sum]
  exact congrArg _ (Finset.sum_congr rfl fun i _ => by unfold dkRow; ring)

include h0 h1 h2 h4 in
theorem dv_eq (b : Fin 2) (h : Fin 8) (n : Fin 2304) (d : Fin 128) :
    val_main_v75 (F := Ideal) x0 x1 x2 x4 (ix4 b h n d) = ((dv q kn kr ct b h n d : ℝ) : EReal) := by
  have e : ∀ c : Fin 64, val_main_v55 (F := Ideal) x0 x1 x2 x4 (ix4 b h n c) =
      ((∑ i : Fin 2048, prob q kn kr b h i n * ct b i (olane h c) : ℝ) : EReal) := by
    intro c
    pointwise [val_main_v55, val_main_v54, probs q kn kr x0 x1 x2 h0 h1 h2, cotangents ct x4 h4]
    simp only [← EReal.coe_mul, coe_sum]
    exact congrArg _ (Finset.sum_congr rfl fun i _ => by ring)
  unfold val_main_v75
  generalize val_main_v55 (F := Ideal) x0 x1 x2 x4 = y at e ⊢
  pointwise [val_main_cst_13, e]
  by_cases hd : (d : ℕ) < 64
  · rw [dif_pos hd]
    exact congrArg _ (Finset.sum_congr rfl fun i _ => (if_pos hd).symm)
  · have z : dv q kn kr ct b h n d = 0 := Finset.sum_eq_zero fun i _ => if_neg hd
    rw [dif_neg hd, z, EReal.coe_zero]

/-! ## The results -/

include h0 h1 h2 h3 h4 in
/-- The gradient of the queries, at column `c` of a row. -/
theorem grad_queries (b : Fin 2) (i : Fin 2048) (c : Fin 1024) :
    val_main_v88 (F := Ideal) x0 x1 x2 x3 x4 (ix3 b i c) =
      ((dq q kn kr v ct b (c / 128) i (c % 128) : ℝ) : EReal) := by
  rw [val_main_v88_apply, val_main_v79_apply, val_main_v78_apply]
  have hb := b.2
  have hi := i.2
  have hc := c.2
  have e : idx_main_v78 (idx_main_v79 (ix3 b i c)) =
      ix4 b ⟨(c : ℕ) / 128, by omega⟩ i ⟨(c : ℕ) % 128, by omega⟩ := by
    funext a
    apply Fin.ext
    match a with
    | ⟨0, _⟩ => show (((b : ℕ) * 2048 + i) * 1024 + c) / 2097152 = b; omega
    | ⟨1, _⟩ => show (((b : ℕ) * 2048 + i) * 1024 + c) / 128 % 8 = (c : ℕ) / 128; omega
    | ⟨2, _⟩ => show (((b : ℕ) * 2048 + i) * 1024 + c) / 1024 % 2048 = i; omega
    | ⟨3, _⟩ => show (((b : ℕ) * 2048 + i) * 1024 + c) % 128 = (c : ℕ) % 128; omega
  rw [e, dq_eq q kn kr v ct x0 x1 x3 x2 x4 h0 h1 h2 h3 h4]
  rfl

/-- Lane `c % 128` of head `c / 128` is column `c` of a row of the keys and of the values. -/
theorem split (b : Fin 2) (n : Fin 2304) (c : Fin 1024) : idx_main_v83 (idx_main_v84 (ix3 b n c)) =
    ix4 b ⟨(c : ℕ) / 128, by omega⟩ n ⟨(c : ℕ) % 128, by omega⟩ := by
  have hb := b.2
  have hn := n.2
  have hc := c.2
  funext a
  apply Fin.ext
  match a with
  | ⟨0, _⟩ => show (((b : ℕ) * 2304 + n) * 1024 + c) / 2359296 = b; omega
  | ⟨1, _⟩ => show (((b : ℕ) * 2304 + n) * 1024 + c) / 128 % 8 = (c : ℕ) / 128; omega
  | ⟨2, _⟩ => show (((b : ℕ) * 2304 + n) * 1024 + c) / 1024 % 2304 = n; omega
  | ⟨3, _⟩ => show (((b : ℕ) * 2304 + n) * 1024 + c) % 128 = (c : ℕ) % 128; omega

include h0 h1 h2 h3 h4 in
/-- The gradient of the heads' own parts of the keys, at column `c` of a row. -/
theorem grad_keys (b : Fin 2) (n : Fin 2304) (c : Fin 1024) :
    val_main_v87 (F := Ideal) x0 x1 x2 x3 x4 (ix3 b n c) =
      ((dkn q kn kr v ct b (c / 128) n (c % 128) : ℝ) : EReal) := by
  rw [val_main_v87_apply, val_main_v84_apply, val_main_v83_apply]
  rw [split, dk_eq q kn kr v ct x0 x1 x3 x2 x4 h0 h1 h2 h3 h4]
  rfl

include h0 h1 h2 h3 h4 in
/-- The gradient of the part of the keys that all heads share. -/
theorem grad_shared (b : Fin 2) (n : Fin 2304) (d : Fin 128) :
    val_main_v86 (F := Ideal) x0 x1 x2 x3 x4 (ix3 b n d) = ((dkr q kn kr v ct b n d : ℝ) : EReal) := by
  have e : val_main_v80 (F := Ideal) x0 x1 x2 x3 x4 (ix3 b n d) = ((dkr q kn kr v ct b n d : ℝ) : EReal) := by
    pointwise [val_main_v80, val_main_cst_14, dk_eq q kn kr v ct x0 x1 x3 x2 x4 h0 h1 h2 h3 h4]
    rw [coe_sum]
    rfl
  pointwise [val_main_v86, val_main_v82, val_main_cst_15, val_main_v81, e]
  simp only [Finset.univ_unique, Finset.sum_singleton]

include h0 h1 h2 h4 in
/-- The gradient of the values, at column `c` of a row. -/
theorem grad_values (b : Fin 2) (n : Fin 2304) (c : Fin 1024) :
    val_main_v85 (F := Ideal) x0 x1 x2 x4 (ix3 b n c) =
      ((dv q kn kr ct b (c / 128) n (c % 128) : ℝ) : EReal) := by
  rw [val_main_v85_apply, val_main_v77_apply, val_main_v76_apply]
  have e : idx_main_v76 (idx_main_v77 (ix3 b n c)) = ix4 b ⟨(c : ℕ) / 128, by omega⟩ n ⟨(c : ℕ) % 128, by omega⟩ := split b n c
  rw [e, dv_eq q kn kr ct x0 x1 x2 x4 h0 h1 h2 h4]
  rfl

end Cert.Reference27Ideal.Gradients
-- ==== Proof.LatentCompare.lean ====
module

public import proofs.«01_k».proof.Defs
public import proofs.«01_k».proof.Proof.Gen.Pre_mla_finite
public import proofs.«01_k».proof.Proof.Compare
public import proofs.«01_k».proof.Proof.LatentResults
public import proofs.«01_k».proof.Proof.LatentGradients

/-!
# The latent attention's backward kernel computes the reference's gradients

For arguments that hold real numbers, which is what the precondition says.
-/

@[expose] public section

noncomputable section

namespace Cert.Pre_mla_finite

open Idealize.ShloMosaic Idealize.SL.Sem Cert.Gqa

instance : Subsingleton S_.Idx := ⟨fun a b => funext fun i => i.elim0⟩

/-- The precondition of the latent attention's backward call: five arrays of reals. -/
theorem real (x0 : FVec Ideal S2x2048x1024 .bf16) (x1 : FVec Ideal S2x2304x1024 .bf16) (x2 : FVec Ideal S2x2304x128 .bf16)
    (x3 : FVec Ideal S2x2304x1024 .bf16) (x4 : FVec Ideal S2x2048x512 .bf16) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧
      (∀ i, ∃ r : ℝ, x3 i = (r : EReal)) ∧ (∀ i, ∃ r : ℝ, x4 i = (r : EReal)) := by
  have h0 := congrFun h (fun a => a.elim0)
  obtain ⟨h0, h5⟩ := both_one h0
  obtain ⟨h0, h4⟩ := both_one h0
  obtain ⟨h0, h3⟩ := both_one h0
  obtain ⟨h1, h2⟩ := both_one h0
  have key {s : Shape} (x : FVec Ideal s .bf16) (y : EReal) (hy : y = ⊤) (i : s.Idx)
      (e : Ideal.cmp .olt (max (x i : EReal) (-(x i : EReal))) y = 1#1) : ∃ r : ℝ, x i = (r : EReal) := real_of_below _ (hy ▸ e)
  exact ⟨fun i => key x0 _ ofBits_top i (Host.reduce_andi_all _ _ _ _ _ h1 i),
    fun i => key x1 _ ofBits_top i (Host.reduce_andi_all _ _ _ _ _ h2 i),
    fun i => key x2 _ ofBits_top i (Host.reduce_andi_all _ _ _ _ _ h3 i),
    fun i => key x3 _ ofBits_top i (Host.reduce_andi_all _ _ _ _ _ h4 i),
    fun i => key x4 _ ofBits_top i (Host.reduce_andi_all _ _ _ _ _ h5 i)⟩

end Cert.Pre_mla_finite

namespace Cert.Proof

open Idealize.ShloMosaic Idealize.SL.Sem

set_option maxHeartbeats 1600000 in
/-- The latent attention's backward kernel computes the reference's gradients, for real arguments. -/
theorem algebraic_latent : Cert.algebraic_Kernel27Ideal_Reference27Ideal_pre_mla_finite := by
  intro m g m' g' hpre hagree
  refine ⟨fun c => (Cert.Kernel27Ideal.Gen.dats m 0 c).arrAt 7 Cert.Kernel27Ideal.cfg0.N,
    fun c => (Cert.Kernel27Ideal.Gen.dats m 0 c).arrAt 8 Cert.Kernel27Ideal.cfg0.N,
    fun c => (Cert.Kernel27Ideal.Gen.dats m 0 c).arrAt 9 Cert.Kernel27Ideal.cfg0.N,
    fun c => (Cert.Kernel27Ideal.Gen.dats m 0 c).arrAt 10 Cert.Kernel27Ideal.cfg0.N,
    Cert.Kernel27Ideal.Value.run_blocks (F := Ideal) m g,
    (θ_run Cert.Reference27Ideal.defs _ _).mono (fun r h c => ?_) (Cert.Reference27Ideal.Value.run (F := Ideal) m' g')⟩
  obtain ⟨a0, a1, a2, a3, a4⟩ := hagree c
  obtain ⟨r0, r1, r2, r3, r4⟩ := Cert.Pre_mla_finite.real _ _ _ _ _ (hpre c)
  obtain ⟨q, hq⟩ := Cert.Gqa.rows_of_real _ r0
  obtain ⟨kn, hkn⟩ := Cert.Gqa.rows_of_real _ r1
  obtain ⟨kr, hkr⟩ := Cert.Gqa.rows_of_real _ r2
  obtain ⟨v, hv⟩ := Cert.Gqa.rows_of_real _ r3
  obtain ⟨ct, hct⟩ := Cert.Gqa.rows_of_real _ r4
  have hA : Cert.Kernel27Ideal.Latent.Args q kn kr v ct (m (c.tc.loc Cert.Kernel27Ideal.main_arg0))
      (m (c.tc.loc Cert.Kernel27Ideal.main_arg1)) (m (c.tc.loc Cert.Kernel27Ideal.main_arg2))
      (m (c.tc.loc Cert.Kernel27Ideal.main_arg3)) (m (c.tc.loc Cert.Kernel27Ideal.main_arg4)) := ⟨hq, hkn, hkr, hv, hct⟩
  obtain ⟨h0, h1, h2, h3, hargs⟩ := h c
  refine ⟨h0.trans ?_, h1.trans ?_, h2.trans ?_, h3.trans ?_, hargs⟩
  · rw [Cert.Reference27Ideal.Read.val_main_v88_eq, a0, a1, a2, a3, a4]
    exact (ext3 _ _ fun b i e => Cert.Reference27Ideal.Gradients.grad_queries q kn kr v ct _ _ _ _ _ hq hkn hkr hv hct b i e).trans
      (Cert.Kernel27Ideal.Latent.result_dq m c hA).symm
  · rw [Cert.Reference27Ideal.Read.val_main_v87_eq, a0, a1, a2, a3, a4]
    exact (ext3 _ _ fun b i e => Cert.Reference27Ideal.Gradients.grad_keys q kn kr v ct _ _ _ _ _ hq hkn hkr hv hct b i e).trans
      (Cert.Kernel27Ideal.Latent.result_dkn m c hA).symm
  · rw [Cert.Reference27Ideal.Read.val_main_v86_eq, a0, a1, a2, a3, a4]
    exact (ext3 _ _ fun b i e => Cert.Reference27Ideal.Gradients.grad_shared q kn kr v ct _ _ _ _ _ hq hkn hkr hv hct b i e).trans
      (Cert.Kernel27Ideal.Latent.result_dkr m c hA).symm
  · rw [Cert.Reference27Ideal.Read.val_main_v85_eq, a0, a1, a2, a4]
    exact (ext3 _ _ fun b i e => Cert.Reference27Ideal.Gradients.grad_values q kn kr ct _ _ _ _ hq hkn hkr hct b i e).trans
      (Cert.Kernel27Ideal.Latent.result_dv m c hA).symm

end Cert.Proof
-- ==== Proof.Step.lean ====
/-
  The optimiser's step at one element: what each result is of the weight, its gradient and its two moments.
-/
module
public import proofs.«01_k».proof.Proof.Products
@[expose] public section
noncomputable section
open Idealize.ShloMosaic

namespace Cert.Step

/-- The first moment after the step, from the gradient and the moment before. -/
def first (g m : EReal) : EReal := Ideal.ofBits .f32 0x3F666666#32 * m + Ideal.ofBits .f32 0x3DCCCCCD#32 * g

/-- The second moment after the step, likewise. -/
def second (g v : EReal) : EReal := Ideal.ofBits .f32 0x3F7FBE77#32 * v + Ideal.ofBits .f32 0x3A83126F#32 * (g * g)

/-- The weight's change: the first moment over the root of the second, both corrected for the step's number, and the decay. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

theorem first_congr {g m g' m' : EReal} (hg : g = g') (hm : m = m') : first g m = first g' m' := hg ▸ hm ▸ rfl

theorem second_congr {g v g' v' : EReal} (hg : g = g') (hv : v = v') : second g v = second g' v' := hg ▸ hv ▸ rfl

theorem change_congr {w g m v w' g' m' v' : EReal} (hw : w = w') (hg : g = g') (hm : m = m') (hv : v = v') : change w g m v = change w' g' m' v' :=
  hw ▸ hg ▸ hm ▸ hv ▸ rfl

end Cert.Step

end
-- ==== Proof.StepFirst.lean ====
/-
  The optimiser: the weights from `c_ctx` to `ev_w_in`, each call against its reference.
-/
module
public import proofs.«01_k».proof.Defs
public import proofs.«01_k».proof.Proof.Gen.Kernel35Ideal.Value
public import proofs.«01_k».proof.Proof.Gen.Reference35Ideal.Read
public import proofs.«01_k».proof.Proof.Gen.Kernel36Ideal.Value
public import proofs.«01_k».proof.Proof.Gen.Reference36Ideal.Read
public import proofs.«01_k».proof.Proof.Gen.Kernel37Ideal.Value
public import proofs.«01_k».proof.Proof.Gen.Reference37Ideal.Read
public import proofs.«01_k».proof.Proof.Gen.Kernel38Ideal.Value
public import proofs.«01_k».proof.Proof.Gen.Reference38Ideal.Read
public import proofs.«01_k».proof.Proof.Gen.Kernel39Ideal.Value
public import proofs.«01_k».proof.Proof.Gen.Reference39Ideal.Read
public import proofs.«01_k».proof.Proof.Gen.Kernel40Ideal.Value
public import proofs.«01_k».proof.Proof.Gen.Reference40Ideal.Read
public import proofs.«01_k».proof.Proof.Gen.Kernel41Ideal.Value
public import proofs.«01_k».proof.Proof.Gen.Reference41Ideal.Read
public import proofs.«01_k».proof.Proof.Gen.Kernel42Ideal.Value
public import proofs.«01_k».proof.Proof.Gen.Reference42Ideal.Read
public import proofs.«01_k».proof.Proof.Step
@[expose] public section
set_option maxRecDepth 16384
noncomputable section
open Idealize.ShloMosaic Idealize.ShloMosaic.TcCoe Idealize.SL.Sem

/-! ## The moments and changes of `c_ctx` and `final_g` -/

namespace Cert.Kernel35Ideal.Step
open Cert.Kernel35Ideal Cert.Kernel35Ideal.Gen Cert.Kernel35Ideal.Value Cert.Reference35Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S1x1024.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S1x1024.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S1x1024.Idx => Step.second (V m c main_v1 j) (V m c main_v3 j) := by
  rfl

/-- The array of changes is the reference's. -/
theorem final4 (c : Dev nD) : (dats m 0 c).arrAt 4 cfg0.N = fun j : S1x1024.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S1x1024.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S1x1024.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel35Ideal_Reference35Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference35Ideal.defs _ _).mono (fun r h c => ?_) (Cert.Reference35Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference35Ideal := fun m g _ =>
  (θ_run Cert.Reference35Ideal.defs _ _).mono (fun _ h => ⟨fun c => (h c).2.2.2, funext fun s => match s with
    | ⟨_, .reg x⟩ => x.elim0
    | ⟨_, .dma x⟩ => x.elim0⟩) (Cert.Reference35Ideal.Value.run (F := Ideal) m g)

end Cert.Kernel35Ideal.Step

/-! ## The moments and changes of `ada_w` -/

namespace Cert.Kernel36Ideal.Step
open Cert.Kernel36Ideal Cert.Kernel36Ideal.Gen Cert.Kernel36Ideal.Value Cert.Reference36Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S2048x768.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S2048x768.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S2048x768.Idx => Step.second (V m c main_v1 j) (V m c main_v3 j) := by
  rfl

/-- The array of changes is the reference's. -/
theorem final4 (c : Dev nD) : (dats m 0 c).arrAt 4 cfg0.N = fun j : S2048x768.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S2048x768.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S2048x768.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel36Ideal_Reference36Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference36Ideal.defs _ _).mono (fun r h c => ?_) (Cert.Reference36Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference36Ideal := fun m g _ =>
  (θ_run Cert.Reference36Ideal.defs _ _).mono (fun _ h => ⟨fun c => (h c).2.2.2, funext fun s => match s with
    | ⟨_, .reg x⟩ => x.elim0
    | ⟨_, .dma x⟩ => x.elim0⟩) (Cert.Reference36Ideal.Value.run (F := Ideal) m g)

end Cert.Kernel36Ideal.Step

/-! ## The moments and changes of `ada_b` -/

namespace Cert.Kernel37Ideal.Step
open Cert.Kernel37Ideal Cert.Kernel37Ideal.Gen Cert.Kernel37Ideal.Value Cert.Reference37Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v23 (F := Ideal) (m ((c : Thread nD τ).loc main_arg0)) (m ((c : Thread nD τ).loc main_arg1)) (m ((c : Thread nD τ).loc main_arg2)) (m ((c : Thread nD τ).loc main_arg3)) = fun j : S2x6144.Idx => Step.change (V m c main_arg0 j) (V m c main_arg1 j) (V m c main_arg2 j) (V m c main_arg3 j) := by
  rfl

/-- The reference's first moment. -/
theorem read5 (c : Dev nD) : val_main_v4 (F := Ideal) (m ((c : Thread nD τ).loc main_arg1)) (m ((c : Thread nD τ).loc main_arg2)) = fun j : S2x6144.Idx => Step.first (V m c main_arg1 j) (V m c main_arg2 j) := by
  rfl

/-- The reference's second moment. -/
theorem read6 (c : Dev nD) : val_main_v10 (F := Ideal) (m ((c : Thread nD τ).loc main_arg1)) (m ((c : Thread nD τ).loc main_arg3)) = fun j : S2x6144.Idx => Step.second (V m c main_arg1 j) (V m c main_arg3 j) := by
  rfl

/-- The array of changes is the reference's. -/
theorem final4 (c : Dev nD) : (dats m 0 c).arrAt 4 cfg0.N = fun j : S2x6144.Idx => Step.change (V m c main_arg0 j) (V m c main_arg1 j) (V m c main_arg2 j) (V m c main_arg3 j) := by
  refine (dats m 0 c).arrAt_eq_of_covers 4 _ (by decide +kernel) fun t _ y => ?_
  blk_simp; rw [after0_4]; frame_out
  pointwise [k0_pay1, k0_pay2, k0_pay3]
  refine Step.change_congr ?_ ?_ ?_ ?_ <;> blk_point [iblk, idx t]

/-- The array of first moments is the reference's. -/
theorem final5 (c : Dev nD) : (dats m 0 c).arrAt 5 cfg0.N = fun j : S2x6144.Idx => Step.first (V m c main_arg1 j) (V m c main_arg2 j) := by
  refine (dats m 0 c).arrAt_eq_of_covers 5 _ (by decide +kernel) fun t _ y => ?_
  blk_simp; rw [after0_5]; frame_out
  pointwise [k0_pay1, k0_pay2, k0_pay3]
  refine Step.first_congr ?_ ?_ <;> blk_point [iblk, idx t]

/-- The array of second moments is the reference's. -/
theorem final6 (c : Dev nD) : (dats m 0 c).arrAt 6 cfg0.N = fun j : S2x6144.Idx => Step.second (V m c main_arg1 j) (V m c main_arg3 j) := by
  refine (dats m 0 c).arrAt_eq_of_covers 6 _ (by decide +kernel) fun t _ y => ?_
  blk_simp; rw [after0_6]; frame_out
  pointwise [k0_pay1, k0_pay2, k0_pay3]
  refine Step.second_congr ?_ ?_ <;> blk_point [iblk, idx t]

/-- The call computes what the reference computes. -/
theorem algebraic : Cert.algebraic_Kernel37Ideal_Reference37Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference37Ideal.defs _ _).mono (fun r h c => ?_) (Cert.Reference37Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v23_eq, a0, a1, a2, a3]
    exact (read4 m c).trans (final4 m c).symm
  · rw [val_main_v4_eq, a1, a2]
    exact (read5 m c).trans (final5 m c).symm
  · rw [val_main_v10_eq, a1, a3]
    exact (read6 m c).trans (final6 m c).symm

/-- The reference terminates and leaves its arguments. -/
theorem frame_reference : Cert.quiescent_Reference37Ideal := fun m g _ =>
  (θ_run Cert.Reference37Ideal.defs _ _).mono (fun _ h => ⟨fun c => (h c).2.2.2, funext fun s => match s with
    | ⟨_, .reg x⟩ => x.elim0
    | ⟨_, .dma x⟩ => x.elim0⟩) (Cert.Reference37Ideal.Value.run (F := Ideal) m g)

end Cert.Kernel37Ideal.Step

/-! ## The moments and changes of `norm1_g` and `norm2_g` -/

namespace Cert.Kernel38Ideal.Step
open Cert.Kernel38Ideal Cert.Kernel38Ideal.Gen Cert.Kernel38Ideal.Value Cert.Reference38Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v23 (F := Ideal) (m ((c : Thread nD τ).loc main_arg0)) (m ((c : Thread nD τ).loc main_arg1)) (m ((c : Thread nD τ).loc main_arg2)) (m ((c : Thread nD τ).loc main_arg3)) = fun j : S2x1024.Idx => Step.change (V m c main_arg0 j) (V m c main_arg1 j) (V m c main_arg2 j) (V m c main_arg3 j) := by
  rfl

/-- The reference's first moment. -/
theorem read5 (c : Dev nD) : val_main_v4 (F := Ideal) (m ((c : Thread nD τ).loc main_arg1)) (m ((c : Thread nD τ).loc main_arg2)) = fun j : S2x1024.Idx => Step.first (V m c main_arg1 j) (V m c main_arg2 j) := by
  rfl

/-- The reference's second moment. -/
theorem read6 (c : Dev nD) : val_main_v10 (F := Ideal) (m ((c : Thread nD τ).loc main_arg1)) (m ((c : Thread nD τ).loc main_arg3)) = fun j : S2x1024.Idx => Step.second (V m c main_arg1 j) (V m c main_arg3 j) := by
  rfl

/-- The array of changes is the reference's. -/
theorem final4 (c : Dev nD) : (dats m 0 c).arrAt 4 cfg0.N = fun j : S2x1024.Idx => Step.change (V m c main_arg0 j) (V m c main_arg1 j) (V m c main_arg2 j) (V m c main_arg3 j) := by
  refine (dats m 0 c).arrAt_eq_of_covers 4 _ (by decide +kernel) fun t _ y => ?_
  blk_simp; rw [after0_4]; frame_out
  pointwise [k0_pay1, k0_pay2, k0_pay3]
  refine Step.change_congr ?_ ?_ ?_ ?_ <;> blk_point [iblk, idx t]

/-- The array of first moments is the reference's. -/
theorem final5 (c : Dev nD) : (dats m 0 c).arrAt 5 cfg0.N = fun j : S2x1024.Idx => Step.first (V m c main_arg1 j) (V m c main_arg2 j) := by
  refine (dats m 0 c).arrAt_eq_of_covers 5 _ (by decide +kernel) fun t _ y => ?_
  blk_simp; rw [after0_5]; frame_out
  pointwise [k0_pay1, k0_pay2, k0_pay3]
  refine Step.first_congr ?_ ?_ <;> blk_point [iblk, idx t]

/-- The array of second moments is the reference's. -/
theorem final6 (c : Dev nD) : (dats m 0 c).arrAt 6 cfg0.N = fun j : S2x1024.Idx => Step.second (V m c main_arg1 j) (V m c main_arg3 j) := by
  refine (dats m 0 c).arrAt_eq_of_covers 6 _ (by decide +kernel) fun t _ y => ?_
  blk_simp; rw [after0_6]; frame_out
  pointwise [k0_pay1, k0_pay2, k0_pay3]
  refine Step.second_congr ?_ ?_ <;> blk_point [iblk, idx t]

/-- The call computes what the reference computes. -/
theorem algebraic : Cert.algebraic_Kernel38Ideal_Reference38Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference38Ideal.defs _ _).mono (fun r h c => ?_) (Cert.Reference38Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v23_eq, a0, a1, a2, a3]
    exact (read4 m c).trans (final4 m c).symm
  · rw [val_main_v4_eq, a1, a2]
    exact (read5 m c).trans (final5 m c).symm
  · rw [val_main_v10_eq, a1, a3]
    exact (read6 m c).trans (final6 m c).symm

/-- The reference terminates and leaves its arguments. -/
theorem frame_reference : Cert.quiescent_Reference38Ideal := fun m g _ =>
  (θ_run Cert.Reference38Ideal.defs _ _).mono (fun _ h => ⟨fun c => (h c).2.2.2, funext fun s => match s with
    | ⟨_, .reg x⟩ => x.elim0
    | ⟨_, .dma x⟩ => x.elim0⟩) (Cert.Reference38Ideal.Value.run (F := Ideal) m g)

end Cert.Kernel38Ideal.Step

/-! ## The moments and changes of `w_out` -/

namespace Cert.Kernel39Ideal.Step
open Cert.Kernel39Ideal Cert.Kernel39Ideal.Gen Cert.Kernel39Ideal.Value Cert.Reference39Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S256x1024.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S256x1024.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S256x1024.Idx => Step.second (V m c main_v1 j) (V m c main_v3 j) := by
  rfl

/-- The array of changes is the reference's. -/
theorem final4 (c : Dev nD) : (dats m 0 c).arrAt 4 cfg0.N = fun j : S256x1024.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S256x1024.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S256x1024.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel39Ideal_Reference39Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference39Ideal.defs _ _).mono (fun r h c => ?_) (Cert.Reference39Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference39Ideal := fun m g _ =>
  (θ_run Cert.Reference39Ideal.defs _ _).mono (fun _ h => ⟨fun c => (h c).2.2.2, funext fun s => match s with
    | ⟨_, .reg x⟩ => x.elim0
    | ⟨_, .dma x⟩ => x.elim0⟩) (Cert.Reference39Ideal.Value.run (F := Ideal) m g)

end Cert.Kernel39Ideal.Step

/-! ## The moments and changes of `mlp_w1` -/

namespace Cert.Kernel40Ideal.Step
open Cert.Kernel40Ideal Cert.Kernel40Ideal.Gen Cert.Kernel40Ideal.Value Cert.Reference40Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S2048x512.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S2048x512.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S2048x512.Idx => Step.second (V m c main_v1 j) (V m c main_v3 j) := by
  rfl

/-- The array of changes is the reference's. -/
theorem final4 (c : Dev nD) : (dats m 0 c).arrAt 4 cfg0.N = fun j : S2048x512.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S2048x512.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S2048x512.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel40Ideal_Reference40Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference40Ideal.defs _ _).mono (fun r h c => ?_) (Cert.Reference40Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference40Ideal := fun m g _ =>
  (θ_run Cert.Reference40Ideal.defs _ _).mono (fun _ h => ⟨fun c => (h c).2.2.2, funext fun s => match s with
    | ⟨_, .reg x⟩ => x.elim0
    | ⟨_, .dma x⟩ => x.elim0⟩) (Cert.Reference40Ideal.Value.run (F := Ideal) m g)

end Cert.Kernel40Ideal.Step

/-! ## The moments and changes of `mlp_w2` -/

namespace Cert.Kernel41Ideal.Step
open Cert.Kernel41Ideal Cert.Kernel41Ideal.Gen Cert.Kernel41Ideal.Value Cert.Reference41Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S1024x1024.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S1024x1024.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S1024x1024.Idx => Step.second (V m c main_v1 j) (V m c main_v3 j) := by
  rfl

/-- The array of changes is the reference's. -/
theorem final4 (c : Dev nD) : (dats m 0 c).arrAt 4 cfg0.N = fun j : S1024x1024.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S1024x1024.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S1024x1024.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel41Ideal_Reference41Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference41Ideal.defs _ _).mono (fun r h c => ?_) (Cert.Reference41Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference41Ideal := fun m g _ =>
  (θ_run Cert.Reference41Ideal.defs _ _).mono (fun _ h => ⟨fun c => (h c).2.2.2, funext fun s => match s with
    | ⟨_, .reg x⟩ => x.elim0
    | ⟨_, .dma x⟩ => x.elim0⟩) (Cert.Reference41Ideal.Value.run (F := Ideal) m g)

end Cert.Kernel41Ideal.Step

/-! ## The moments and changes of `ev_w_in` -/

namespace Cert.Kernel42Ideal.Step
open Cert.Kernel42Ideal Cert.Kernel42Ideal.Gen Cert.Kernel42Ideal.Value Cert.Reference42Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S1024x224.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S1024x224.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S1024x224.Idx => Step.second (V m c main_v1 j) (V m c main_v3 j) := by
  rfl

/-- The array of changes is the reference's. -/
theorem final4 (c : Dev nD) : (dats m 0 c).arrAt 4 cfg0.N = fun j : S1024x224.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S1024x224.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S1024x224.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel42Ideal_Reference42Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference42Ideal.defs _ _).mono (fun r h c => ?_) (Cert.Reference42Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference42Ideal := fun m g _ =>
  (θ_run Cert.Reference42Ideal.defs _ _).mono (fun _ h => ⟨fun c => (h c).2.2.2, funext fun s => match s with
    | ⟨_, .reg x⟩ => x.elim0
    | ⟨_, .dma x⟩ => x.elim0⟩) (Cert.Reference42Ideal.Value.run (F := Ideal) m g)

end Cert.Kernel42Ideal.Step

end
-- ==== Proof.StepSecond.lean ====
/-
  The optimiser: the remaining weights, each call against its reference.
-/
module
public import proofs.«01_k».proof.Defs
public import proofs.«01_k».proof.Proof.Gen.Kernel43Ideal.Value
public import proofs.«01_k».proof.Proof.Gen.Reference43Ideal.Read
public import proofs.«01_k».proof.Proof.Gen.Kernel44Ideal.Value
public import proofs.«01_k».proof.Proof.Gen.Reference44Ideal.Read
public import proofs.«01_k».proof.Proof.Gen.Kernel45Ideal.Value
public import proofs.«01_k».proof.Proof.Gen.Reference45Ideal.Read
public import proofs.«01_k».proof.Proof.Gen.Kernel46Ideal.Value
public import proofs.«01_k».proof.Proof.Gen.Reference46Ideal.Read
public import proofs.«01_k».proof.Proof.Gen.Kernel47Ideal.Value
public import proofs.«01_k».proof.Proof.Gen.Reference47Ideal.Read
public import proofs.«01_k».proof.Proof.Gen.Kernel48Ideal.Value
public import proofs.«01_k».proof.Proof.Gen.Reference48Ideal.Read
public import proofs.«01_k».proof.Proof.Gen.Kernel49Ideal.Value
public import proofs.«01_k».proof.Proof.Gen.Reference49Ideal.Read
public import proofs.«01_k».proof.Proof.Gen.Kernel50Ideal.Value
public import proofs.«01_k».proof.Proof.Gen.Reference50Ideal.Read
public import proofs.«01_k».proof.Proof.Gen.Kernel51Ideal.Value
public import proofs.«01_k».proof.Proof.Gen.Reference51Ideal.Read
public import proofs.«01_k».proof.Proof.Gen.Kernel52Ideal.Value
public import proofs.«01_k».proof.Proof.Gen.Reference52Ideal.Read
public import proofs.«01_k».proof.Proof.Step
@[expose] public section
set_option maxRecDepth 16384
noncomputable section
open Idealize.ShloMosaic Idealize.ShloMosaic.TcCoe Idealize.SL.Sem

/-! ## The moments and changes of `ev_q_norm_g`, `ev_k_norm_g`, `od_conv_b`, `od_ln_g` and `od_ln_b` -/

namespace Cert.Kernel43Ideal.Step
open Cert.Kernel43Ideal Cert.Kernel43Ideal.Gen Cert.Kernel43Ideal.Value Cert.Reference43Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v23 (F := Ideal) (m ((c : Thread nD τ).loc main_arg0)) (m ((c : Thread nD τ).loc main_arg1)) (m ((c : Thread nD τ).loc main_arg2)) (m ((c : Thread nD τ).loc main_arg3)) = fun j : S1x64.Idx => Step.change (V m c main_arg0 j) (V m c main_arg1 j) (V m c main_arg2 j) (V m c main_arg3 j) := by
  rfl

/-- The reference's first moment. -/
theorem read5 (c : Dev nD) : val_main_v4 (F := Ideal) (m ((c : Thread nD τ).loc main_arg1)) (m ((c : Thread nD τ).loc main_arg2)) = fun j : S1x64.Idx => Step.first (V m c main_arg1 j) (V m c main_arg2 j) := by
  rfl

/-- The reference's second moment. -/
theorem read6 (c : Dev nD) : val_main_v10 (F := Ideal) (m ((c : Thread nD τ).loc main_arg1)) (m ((c : Thread nD τ).loc main_arg3)) = fun j : S1x64.Idx => Step.second (V m c main_arg1 j) (V m c main_arg3 j) := by
  rfl

/-- The array of changes is the reference's. -/
theorem final4 (c : Dev nD) : (dats m 0 c).arrAt 4 cfg0.N = fun j : S1x64.Idx => Step.change (V m c main_arg0 j) (V m c main_arg1 j) (V m c main_arg2 j) (V m c main_arg3 j) := by
  refine (dats m 0 c).arrAt_eq_of_covers 4 _ (by decide +kernel) fun t _ y => ?_
  blk_simp; rw [after0_4]; frame_out
  pointwise [k0_pay1, k0_pay2, k0_pay3]
  refine Step.change_congr ?_ ?_ ?_ ?_ <;> blk_point [iblk, idx t]

/-- The array of first moments is the reference's. -/
theorem final5 (c : Dev nD) : (dats m 0 c).arrAt 5 cfg0.N = fun j : S1x64.Idx => Step.first (V m c main_arg1 j) (V m c main_arg2 j) := by
  refine (dats m 0 c).arrAt_eq_of_covers 5 _ (by decide +kernel) fun t _ y => ?_
  blk_simp; rw [after0_5]; frame_out
  pointwise [k0_pay1, k0_pay2, k0_pay3]
  refine Step.first_congr ?_ ?_ <;> blk_point [iblk, idx t]

/-- The array of second moments is the reference's. -/
theorem final6 (c : Dev nD) : (dats m 0 c).arrAt 6 cfg0.N = fun j : S1x64.Idx => Step.second (V m c main_arg1 j) (V m c main_arg3 j) := by
  refine (dats m 0 c).arrAt_eq_of_covers 6 _ (by decide +kernel) fun t _ y => ?_
  blk_simp; rw [after0_6]; frame_out
  pointwise [k0_pay1, k0_pay2, k0_pay3]
  refine Step.second_congr ?_ ?_ <;> blk_point [iblk, idx t]

/-- The call computes what the reference computes. -/
theorem algebraic : Cert.algebraic_Kernel43Ideal_Reference43Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference43Ideal.defs _ _).mono (fun r h c => ?_) (Cert.Reference43Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v23_eq, a0, a1, a2, a3]
    exact (read4 m c).trans (final4 m c).symm
  · rw [val_main_v4_eq, a1, a2]
    exact (read5 m c).trans (final5 m c).symm
  · rw [val_main_v10_eq, a1, a3]
    exact (read6 m c).trans (final6 m c).symm

/-- The reference terminates and leaves its arguments. -/
theorem frame_reference : Cert.quiescent_Reference43Ideal := fun m g _ =>
  (θ_run Cert.Reference43Ideal.defs _ _).mono (fun _ h => ⟨fun c => (h c).2.2.2, funext fun s => match s with
    | ⟨_, .reg x⟩ => x.elim0
    | ⟨_, .dma x⟩ => x.elim0⟩) (Cert.Reference43Ideal.Value.run (F := Ideal) m g)

end Cert.Kernel43Ideal.Step

/-! ## The moments and changes of `ev_sgu_norm_g` -/

namespace Cert.Kernel44Ideal.Step
open Cert.Kernel44Ideal Cert.Kernel44Ideal.Gen Cert.Kernel44Ideal.Value Cert.Reference44Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S8x64.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S8x64.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S8x64.Idx => Step.second (V m c main_v1 j) (V m c main_v3 j) := by
  rfl

/-- The array of changes is the reference's. -/
theorem final4 (c : Dev nD) : (dats m 0 c).arrAt 4 cfg0.N = fun j : S8x64.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S8x64.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S8x64.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel44Ideal_Reference44Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference44Ideal.defs _ _).mono (fun r h c => ?_) (Cert.Reference44Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference44Ideal := fun m g _ =>
  (θ_run Cert.Reference44Ideal.defs _ _).mono (fun _ h => ⟨fun c => (h c).2.2.2, funext fun s => match s with
    | ⟨_, .reg x⟩ => x.elim0
    | ⟨_, .dma x⟩ => x.elim0⟩) (Cert.Reference44Ideal.Value.run (F := Ideal) m g)

end Cert.Kernel44Ideal.Step

/-! ## The moments and changes of `ev_sgu_w` -/

namespace Cert.Kernel45Ideal.Step
open Cert.Kernel45Ideal Cert.Kernel45Ideal.Gen Cert.Kernel45Ideal.Value Cert.Reference45Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S1024x128.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S1024x128.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S1024x128.Idx => Step.second (V m c main_v1 j) (V m c main_v3 j) := by
  rfl

/-- The array of changes is the reference's. -/
theorem final4 (c : Dev nD) : (dats m 0 c).arrAt 4 cfg0.N = fun j : S1024x128.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S1024x128.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S1024x128.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel45Ideal_Reference45Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference45Ideal.defs _ _).mono (fun r h c => ?_) (Cert.Reference45Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference45Ideal := fun m g _ =>
  (θ_run Cert.Reference45Ideal.defs _ _).mono (fun _ h => ⟨fun c => (h c).2.2.2, funext fun s => match s with
    | ⟨_, .reg x⟩ => x.elim0
    | ⟨_, .dma x⟩ => x.elim0⟩) (Cert.Reference45Ideal.Value.run (F := Ideal) m g)

end Cert.Kernel45Ideal.Step

/-! ## The moments and changes of `ev_sgu_b` -/

namespace Cert.Kernel46Ideal.Step
open Cert.Kernel46Ideal Cert.Kernel46Ideal.Gen Cert.Kernel46Ideal.Value Cert.Reference46Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S8x128.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S8x128.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S8x128.Idx => Step.second (V m c main_v1 j) (V m c main_v3 j) := by
  rfl

/-- The array of changes is the reference's. -/
theorem final4 (c : Dev nD) : (dats m 0 c).arrAt 4 cfg0.N = fun j : S8x128.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S8x128.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S8x128.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel46Ideal_Reference46Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference46Ideal.defs _ _).mono (fun r h c => ?_) (Cert.Reference46Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference46Ideal := fun m g _ =>
  (θ_run Cert.Reference46Ideal.defs _ _).mono (fun _ h => ⟨fun c => (h c).2.2.2, funext fun s => match s with
    | ⟨_, .reg x⟩ => x.elim0
    | ⟨_, .dma x⟩ => x.elim0⟩) (Cert.Reference46Ideal.Value.run (F := Ideal) m g)

end Cert.Kernel46Ideal.Step

/-! ## The moments and changes of `od_w_in` -/

namespace Cert.Kernel47Ideal.Step
open Cert.Kernel47Ideal Cert.Kernel47Ideal.Gen Cert.Kernel47Ideal.Value Cert.Reference47Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S1024x180.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S1024x180.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S1024x180.Idx => Step.second (V m c main_v1 j) (V m c main_v3 j) := by
  rfl

/-- The array of changes is the reference's. -/
theorem final4 (c : Dev nD) : (dats m 0 c).arrAt 4 cfg0.N = fun j : S1024x180.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S1024x180.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S1024x180.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel47Ideal_Reference47Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference47Ideal.defs _ _).mono (fun r h c => ?_) (Cert.Reference47Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference47Ideal := fun m g _ =>
  (θ_run Cert.Reference47Ideal.defs _ _).mono (fun _ h => ⟨fun c => (h c).2.2.2, funext fun s => match s with
    | ⟨_, .reg x⟩ => x.elim0
    | ⟨_, .dma x⟩ => x.elim0⟩) (Cert.Reference47Ideal.Value.run (F := Ideal) m g)

end Cert.Kernel47Ideal.Step

/-! ## The moments and changes of `od_q_norm_g` -/

namespace Cert.Kernel48Ideal.Step
open Cert.Kernel48Ideal Cert.Kernel48Ideal.Gen Cert.Kernel48Ideal.Value Cert.Reference48Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v23 (F := Ideal) (m ((c : Thread nD τ).loc main_arg0)) (m ((c : Thread nD τ).loc main_arg1)) (m ((c : Thread nD τ).loc main_arg2)) (m ((c : Thread nD τ).loc main_arg3)) = fun j : S1x32.Idx => Step.change (V m c main_arg0 j) (V m c main_arg1 j) (V m c main_arg2 j) (V m c main_arg3 j) := by
  rfl

/-- The reference's first moment. -/
theorem read5 (c : Dev nD) : val_main_v4 (F := Ideal) (m ((c : Thread nD τ).loc main_arg1)) (m ((c : Thread nD τ).loc main_arg2)) = fun j : S1x32.Idx => Step.first (V m c main_arg1 j) (V m c main_arg2 j) := by
  rfl

/-- The reference's second moment. -/
theorem read6 (c : Dev nD) : val_main_v10 (F := Ideal) (m ((c : Thread nD τ).loc main_arg1)) (m ((c : Thread nD τ).loc main_arg3)) = fun j : S1x32.Idx => Step.second (V m c main_arg1 j) (V m c main_arg3 j) := by
  rfl

/-- The array of changes is the reference's. -/
theorem final4 (c : Dev nD) : (dats m 0 c).arrAt 4 cfg0.N = fun j : S1x32.Idx => Step.change (V m c main_arg0 j) (V m c main_arg1 j) (V m c main_arg2 j) (V m c main_arg3 j) := by
  refine (dats m 0 c).arrAt_eq_of_covers 4 _ (by decide +kernel) fun t _ y => ?_
  blk_simp; rw [after0_4]; frame_out
  pointwise [k0_pay1, k0_pay2, k0_pay3]
  refine Step.change_congr ?_ ?_ ?_ ?_ <;> blk_point [iblk, idx t]

/-- The array of first moments is the reference's. -/
theorem final5 (c : Dev nD) : (dats m 0 c).arrAt 5 cfg0.N = fun j : S1x32.Idx => Step.first (V m c main_arg1 j) (V m c main_arg2 j) := by
  refine (dats m 0 c).arrAt_eq_of_covers 5 _ (by decide +kernel) fun t _ y => ?_
  blk_simp; rw [after0_5]; frame_out
  pointwise [k0_pay1, k0_pay2, k0_pay3]
  refine Step.first_congr ?_ ?_ <;> blk_point [iblk, idx t]

/-- The array of second moments is the reference's. -/
theorem final6 (c : Dev nD) : (dats m 0 c).arrAt 6 cfg0.N = fun j : S1x32.Idx => Step.second (V m c main_arg1 j) (V m c main_arg3 j) := by
  refine (dats m 0 c).arrAt_eq_of_covers 6 _ (by decide +kernel) fun t _ y => ?_
  blk_simp; rw [after0_6]; frame_out
  pointwise [k0_pay1, k0_pay2, k0_pay3]
  refine Step.second_congr ?_ ?_ <;> blk_point [iblk, idx t]

/-- The call computes what the reference computes. -/
theorem algebraic : Cert.algebraic_Kernel48Ideal_Reference48Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference48Ideal.defs _ _).mono (fun r h c => ?_) (Cert.Reference48Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v23_eq, a0, a1, a2, a3]
    exact (read4 m c).trans (final4 m c).symm
  · rw [val_main_v4_eq, a1, a2]
    exact (read5 m c).trans (final5 m c).symm
  · rw [val_main_v10_eq, a1, a3]
    exact (read6 m c).trans (final6 m c).symm

/-- The reference terminates and leaves its arguments. -/
theorem frame_reference : Cert.quiescent_Reference48Ideal := fun m g _ =>
  (θ_run Cert.Reference48Ideal.defs _ _).mono (fun _ h => ⟨fun c => (h c).2.2.2, funext fun s => match s with
    | ⟨_, .reg x⟩ => x.elim0
    | ⟨_, .dma x⟩ => x.elim0⟩) (Cert.Reference48Ideal.Value.run (F := Ideal) m g)

end Cert.Kernel48Ideal.Step

/-! ## The moments and changes of `od_kv_norm_g` -/

namespace Cert.Kernel49Ideal.Step
open Cert.Kernel49Ideal Cert.Kernel49Ideal.Gen Cert.Kernel49Ideal.Value Cert.Reference49Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v23 (F := Ideal) (m ((c : Thread nD τ).loc main_arg0)) (m ((c : Thread nD τ).loc main_arg1)) (m ((c : Thread nD τ).loc main_arg2)) (m ((c : Thread nD τ).loc main_arg3)) = fun j : S1x128.Idx => Step.change (V m c main_arg0 j) (V m c main_arg1 j) (V m c main_arg2 j) (V m c main_arg3 j) := by
  rfl

/-- The reference's first moment. -/
theorem read5 (c : Dev nD) : val_main_v4 (F := Ideal) (m ((c : Thread nD τ).loc main_arg1)) (m ((c : Thread nD τ).loc main_arg2)) = fun j : S1x128.Idx => Step.first (V m c main_arg1 j) (V m c main_arg2 j) := by
  rfl

/-- The reference's second moment. -/
theorem read6 (c : Dev nD) : val_main_v10 (F := Ideal) (m ((c : Thread nD τ).loc main_arg1)) (m ((c : Thread nD τ).loc main_arg3)) = fun j : S1x128.Idx => Step.second (V m c main_arg1 j) (V m c main_arg3 j) := by
  rfl

/-- The array of changes is the reference's. -/
theorem final4 (c : Dev nD) : (dats m 0 c).arrAt 4 cfg0.N = fun j : S1x128.Idx => Step.change (V m c main_arg0 j) (V m c main_arg1 j) (V m c main_arg2 j) (V m c main_arg3 j) := by
  refine (dats m 0 c).arrAt_eq_of_covers 4 _ (by decide +kernel) fun t _ y => ?_
  blk_simp; rw [after0_4]; frame_out
  pointwise [k0_pay1, k0_pay2, k0_pay3]
  refine Step.change_congr ?_ ?_ ?_ ?_ <;> blk_point [iblk, idx t]

/-- The array of first moments is the reference's. -/
theorem final5 (c : Dev nD) : (dats m 0 c).arrAt 5 cfg0.N = fun j : S1x128.Idx => Step.first (V m c main_arg1 j) (V m c main_arg2 j) := by
  refine (dats m 0 c).arrAt_eq_of_covers 5 _ (by decide +kernel) fun t _ y => ?_
  blk_simp; rw [after0_5]; frame_out
  pointwise [k0_pay1, k0_pay2, k0_pay3]
  refine Step.first_congr ?_ ?_ <;> blk_point [iblk, idx t]

/-- The array of second moments is the reference's. -/
theorem final6 (c : Dev nD) : (dats m 0 c).arrAt 6 cfg0.N = fun j : S1x128.Idx => Step.second (V m c main_arg1 j) (V m c main_arg3 j) := by
  refine (dats m 0 c).arrAt_eq_of_covers 6 _ (by decide +kernel) fun t _ y => ?_
  blk_simp; rw [after0_6]; frame_out
  pointwise [k0_pay1, k0_pay2, k0_pay3]
  refine Step.second_congr ?_ ?_ <;> blk_point [iblk, idx t]

/-- The call computes what the reference computes. -/
theorem algebraic : Cert.algebraic_Kernel49Ideal_Reference49Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference49Ideal.defs _ _).mono (fun r h c => ?_) (Cert.Reference49Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v23_eq, a0, a1, a2, a3]
    exact (read4 m c).trans (final4 m c).symm
  · rw [val_main_v4_eq, a1, a2]
    exact (read5 m c).trans (final5 m c).symm
  · rw [val_main_v10_eq, a1, a3]
    exact (read6 m c).trans (final6 m c).symm

/-- The reference terminates and leaves its arguments. -/
theorem frame_reference : Cert.quiescent_Reference49Ideal := fun m g _ =>
  (θ_run Cert.Reference49Ideal.defs _ _).mono (fun _ h => ⟨fun c => (h c).2.2.2, funext fun s => match s with
    | ⟨_, .reg x⟩ => x.elim0
    | ⟨_, .dma x⟩ => x.elim0⟩) (Cert.Reference49Ideal.Value.run (F := Ideal) m g)

end Cert.Kernel49Ideal.Step

/-! ## The moments and changes of `od_w_uq` -/

namespace Cert.Kernel50Ideal.Step
open Cert.Kernel50Ideal Cert.Kernel50Ideal.Gen Cert.Kernel50Ideal.Value Cert.Reference50Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S256x96.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S256x96.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S256x96.Idx => Step.second (V m c main_v1 j) (V m c main_v3 j) := by
  rfl

/-- The array of changes is the reference's. -/
theorem final4 (c : Dev nD) : (dats m 0 c).arrAt 4 cfg0.N = fun j : S256x96.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S256x96.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S256x96.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel50Ideal_Reference50Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference50Ideal.defs _ _).mono (fun r h c => ?_) (Cert.Reference50Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference50Ideal := fun m g _ =>
  (θ_run Cert.Reference50Ideal.defs _ _).mono (fun _ h => ⟨fun c => (h c).2.2.2, funext fun s => match s with
    | ⟨_, .reg x⟩ => x.elim0
    | ⟨_, .dma x⟩ => x.elim0⟩) (Cert.Reference50Ideal.Value.run (F := Ideal) m g)

end Cert.Kernel50Ideal.Step

/-! ## The moments and changes of `od_w_ukv` -/

namespace Cert.Kernel51Ideal.Step
open Cert.Kernel51Ideal Cert.Kernel51Ideal.Gen Cert.Kernel51Ideal.Value Cert.Reference51Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S128x128.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S128x128.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S128x128.Idx => Step.second (V m c main_v1 j) (V m c main_v3 j) := by
  rfl

/-- The array of changes is the reference's. -/
theorem final4 (c : Dev nD) : (dats m 0 c).arrAt 4 cfg0.N = fun j : S128x128.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S128x128.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S128x128.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel51Ideal_Reference51Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference51Ideal.defs _ _).mono (fun r h c => ?_) (Cert.Reference51Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference51Ideal := fun m g _ =>
  (θ_run Cert.Reference51Ideal.defs _ _).mono (fun _ h => ⟨fun c => (h c).2.2.2, funext fun s => match s with
    | ⟨_, .reg x⟩ => x.elim0
    | ⟨_, .dma x⟩ => x.elim0⟩) (Cert.Reference51Ideal.Value.run (F := Ideal) m g)

end Cert.Kernel51Ideal.Step

/-! ## The moments and changes of `od_conv_w` -/

namespace Cert.Kernel52Ideal.Step
open Cert.Kernel52Ideal Cert.Kernel52Ideal.Gen Cert.Kernel52Ideal.Value Cert.Reference52Ideal.Read

variable (m : (ℓ : Loc nD τ sig) → Buf (Elt Ideal) ℓ)

/-- The block that each window has at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The reference's change of the weight, over the arrays in rows. -/
theorem read4 (c : Dev nD) : val_main_v24 (F := Ideal) (m ((c : Thread nD τ).loc main_arg0)) (m ((c : Thread nD τ).loc main_arg1)) (m ((c : Thread nD τ).loc main_arg2)) (m ((c : Thread nD τ).loc main_arg3)) = fun j : S31x64.Idx => Step.change (V m c main_v0 j) (V m c main_v1 j) (V m c main_v2 j) (V m c main_v3 j) := by
  rfl

/-- The reference's first moment. -/
theorem read5 (c : Dev nD) : val_main_v25 (F := Ideal) (m ((c : Thread nD τ).loc main_arg1)) (m ((c : Thread nD τ).loc main_arg2)) = fun j : S31x64.Idx => Step.first (V m c main_v1 j) (V m c main_v2 j) := by
  rfl

/-- The reference's second moment. -/
theorem read6 (c : Dev nD) : val_main_v26 (F := Ideal) (m ((c : Thread nD τ).loc main_arg1)) (m ((c : Thread nD τ).loc main_arg3)) = fun j : S31x64.Idx => Step.second (V m c main_v1 j) (V m c main_v3 j) := by
  rfl

/-- The array of changes is the reference's. -/
theorem final4 (c : Dev nD) : (dats m 0 c).arrAt 4 cfg0.N = fun j : S31x64.Idx => Step.change (V m c main_v0 j) (V m c main_v1 j) (V m c main_v2 j) (V m c main_v3 j) := by
  refine (dats m 0 c).arrAt_eq_of_covers 4 _ (by decide +kernel) fun t _ y => ?_
  blk_simp; rw [after0_4]; frame_out
  pointwise [k0_pay1, k0_pay2, k0_pay3, k0_pay4]
  refine Step.change_congr ?_ ?_ ?_ ?_ <;> blk_point [iblk, idx t]

/-- The array of first moments is the reference's. -/
theorem final5 (c : Dev nD) : (dats m 0 c).arrAt 5 cfg0.N = fun j : S31x64.Idx => Step.first (V m c main_v1 j) (V m c main_v2 j) := by
  refine (dats m 0 c).arrAt_eq_of_covers 5 _ (by decide +kernel) fun t _ y => ?_
  blk_simp; rw [after0_5]; frame_out
  pointwise [k0_pay1, k0_pay2, k0_pay3, k0_pay4]
  refine Step.first_congr ?_ ?_ <;> blk_point [iblk, idx t]

/-- The array of second moments is the reference's. -/
theorem final6 (c : Dev nD) : (dats m 0 c).arrAt 6 cfg0.N = fun j : S31x64.Idx => Step.second (V m c main_v1 j) (V m c main_v3 j) := by
  refine (dats m 0 c).arrAt_eq_of_covers 6 _ (by decide +kernel) fun t _ y => ?_
  blk_simp; rw [after0_6]; frame_out
  pointwise [k0_pay1, k0_pay2, k0_pay3, k0_pay4]
  refine Step.second_congr ?_ ?_ <;> blk_point [iblk, idx t]

/-- The call computes what the reference computes. -/
theorem algebraic : Cert.algebraic_Kernel52Ideal_Reference52Ideal := by
  intro m g m' g' _ hagree
  refine ⟨fun c => (dats m 0 c).arrAt 4 cfg0.N, fun c => (dats m 0 c).arrAt 5 cfg0.N, fun c => (dats m 0 c).arrAt 6 cfg0.N, run_blocks m g,
    (θ_run Cert.Reference52Ideal.defs _ _).mono (fun r h c => ?_) (Cert.Reference52Ideal.Value.run (F := Ideal) m' g')⟩
  obtain ⟨a0, a1, a2, a3⟩ := hagree c
  obtain ⟨h0, h1, h2, hargs⟩ := h c
  refine ⟨h0.trans ?_, h1.trans ?_, h2.trans ?_, hargs⟩
  · rw [val_main_v24_eq, a0, a1, a2, a3]
    exact (read4 m c).trans (final4 m c).symm
  · rw [val_main_v25_eq, a1, a2]
    exact (read5 m c).trans (final5 m c).symm
  · rw [val_main_v26_eq, a1, a3]
    exact (read6 m c).trans (final6 m c).symm

/-- The reference terminates and leaves its arguments. -/
theorem frame_reference : Cert.quiescent_Reference52Ideal := fun m g _ =>
  (θ_run Cert.Reference52Ideal.defs _ _).mono (fun _ h => ⟨fun c => (h c).2.2.2, funext fun s => match s with
    | ⟨_, .reg x⟩ => x.elim0
    | ⟨_, .dma x⟩ => x.elim0⟩) (Cert.Reference52Ideal.Value.run (F := Ideal) m g)

end Cert.Kernel52Ideal.Step

end
-- ==== Proof.Conv.lean ====
/-
  The depthwise convolution: a sum over 31 taps, in the kernel's order and in the reference's, over rows padded with zeros.
-/
module
public import Idealize.ShloMosaic.Lib.Pipeline.ValueKit
@[expose] public section
set_option maxRecDepth 16384
noncomputable section
open Idealize.ShloMosaic Idealize.ShloMosaic.TcCoe Idealize.SL.Sem

namespace Cert.Conv
/-- A sum over the taps in the kernel's order. -/
theorem taps_sum (b : EReal) (f : Fin 31 → EReal) :
    b + f 0 + f 8 + f 16 + f 24 + f 1 + f 9 + f 17 + f 25 + f 2 + f 10 + f 18 + f 26 + f 3 + f 11 + f 19 + f 27 + f 4 + f 12 + f 20 + f 28
      + f 5 + f 13 + f 21 + f 29 + f 6 + f 14 + f 22 + f 30 + f 7 + f 15 + f 23 = b + ∑ k, f k := by
  simp only [Fin.sum_univ_succ, Fin.sum_univ_zero, add_zero]
  simp only [Fin.succ, Fin.zero_eta]
  show b + f 0 + f 8 + f 16 + f 24 + f 1 + f 9 + f 17 + f 25 + f 2 + f 10 + f 18 + f 26 + f 3 + f 11 + f 19 + f 27 + f 4 + f 12 + f 20 + f 28
      + f 5 + f 13 + f 21 + f 29 + f 6 + f 14 + f 22 + f 30 + f 7 + f 15 + f 23 = b + (f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + f 30))))))))))))))))))))))))))))))
  ac_rfl

/-- The same, tap by tap. -/
theorem taps_congr (f : Fin 31 → EReal) {b b' a0 a8 a16 a24 a1 a9 a17 a25 a2 a10 a18 a26 a3 a11 a19 a27 a4 a12 a20 a28 a5 a13 a21 a29 a6 a14 a22 a30 a7 a15 a23 : EReal} (hb : b' = b)
    (h0 : a0 = f ⟨0, by decide⟩) (h8 : a8 = f ⟨8, by decide⟩) (h16 : a16 = f ⟨16, by decide⟩) (h24 : a24 = f ⟨24, by decide⟩) (h1 : a1 = f ⟨1, by decide⟩) (h9 : a9 = f ⟨9, by decide⟩) (h17 : a17 = f ⟨17, by decide⟩) (h25 : a25 = f ⟨25, by decide⟩) (h2 : a2 = f ⟨2, by decide⟩) (h10 : a10 = f ⟨10, by decide⟩) (h18 : a18 = f ⟨18, by decide⟩) (h26 : a26 = f ⟨26, by decide⟩) (h3 : a3 = f ⟨3, by decide⟩) (h11 : a11 = f ⟨11, by decide⟩) (h19 : a19 = f ⟨19, by decide⟩) (h27 : a27 = f ⟨27, by decide⟩) (h4 : a4 = f ⟨4, by decide⟩) (h12 : a12 = f ⟨12, by decide⟩) (h20 : a20 = f ⟨20, by decide⟩) (h28 : a28 = f ⟨28, by decide⟩) (h5 : a5 = f ⟨5, by decide⟩) (h13 : a13 = f ⟨13, by decide⟩) (h21 : a21 = f ⟨21, by decide⟩) (h29 : a29 = f ⟨29, by decide⟩) (h6 : a6 = f ⟨6, by decide⟩) (h14 : a14 = f ⟨14, by decide⟩) (h22 : a22 = f ⟨22, by decide⟩) (h30 : a30 = f ⟨30, by decide⟩) (h7 : a7 = f ⟨7, by decide⟩) (h15 : a15 = f ⟨15, by decide⟩) (h23 : a23 = f ⟨23, by decide⟩) :
    b' + a0 + a8 + a16 + a24 + a1 + a9 + a17 + a25 + a2 + a10 + a18 + a26 + a3 + a11 + a19 + a27 + a4 + a12 + a20 + a28 + a5 + a13 + a21 + a29 + a6 + a14 + a22 + a30 + a7 + a15 + a23 = b + ∑ k, f k := by
  rw [← taps_sum, hb, h0, h8, h16, h24, h1, h9, h17, h25, h2, h10, h18, h26, h3, h11, h19, h27, h4, h12, h20, h28, h5, h13, h21, h29, h6, h14, h22, h30, h7, h15, h23]; rfl

/-- A sum over the taps in their own order, the bias last. -/
theorem seq_congr (f : Fin 31 → EReal) {b b' a0 a1 a2 a3 a4 a5 a6 a7 a8 a9 a10 a11 a12 a13 a14 a15 a16 a17 a18 a19 a20 a21 a22 a23 a24 a25 a26 a27 a28 a29 a30 : EReal}
    (h0 : a0 = f ⟨0, by decide⟩) (h1 : a1 = f ⟨1, by decide⟩) (h2 : a2 = f ⟨2, by decide⟩) (h3 : a3 = f ⟨3, by decide⟩) (h4 : a4 = f ⟨4, by decide⟩) (h5 : a5 = f ⟨5, by decide⟩) (h6 : a6 = f ⟨6, by decide⟩) (h7 : a7 = f ⟨7, by decide⟩) (h8 : a8 = f ⟨8, by decide⟩) (h9 : a9 = f ⟨9, by decide⟩) (h10 : a10 = f ⟨10, by decide⟩) (h11 : a11 = f ⟨11, by decide⟩) (h12 : a12 = f ⟨12, by decide⟩) (h13 : a13 = f ⟨13, by decide⟩) (h14 : a14 = f ⟨14, by decide⟩) (h15 : a15 = f ⟨15, by decide⟩) (h16 : a16 = f ⟨16, by decide⟩) (h17 : a17 = f ⟨17, by decide⟩) (h18 : a18 = f ⟨18, by decide⟩) (h19 : a19 = f ⟨19, by decide⟩) (h20 : a20 = f ⟨20, by decide⟩) (h21 : a21 = f ⟨21, by decide⟩) (h22 : a22 = f ⟨22, by decide⟩) (h23 : a23 = f ⟨23, by decide⟩) (h24 : a24 = f ⟨24, by decide⟩) (h25 : a25 = f ⟨25, by decide⟩) (h26 : a26 = f ⟨26, by decide⟩) (h27 : a27 = f ⟨27, by decide⟩) (h28 : a28 = f ⟨28, by decide⟩) (h29 : a29 = f ⟨29, by decide⟩) (h30 : a30 = f ⟨30, by decide⟩)
    (hb : b' = b) : a0 + a1 + a2 + a3 + a4 + a5 + a6 + a7 + a8 + a9 + a10 + a11 + a12 + a13 + a14 + a15 + a16 + a17 + a18 + a19 + a20 + a21 + a22 + a23 + a24 + a25 + a26 + a27 + a28 + a29 + a30 + b' = b + ∑ k, f k := by
  rw [← taps_sum, hb, h0, h1, h2, h3, h4, h5, h6, h7, h8, h9, h10, h11, h12, h13, h14, h15, h16, h17, h18, h19, h20, h21, h22, h23, h24, h25, h26, h27, h28, h29, h30]
  show _ = b + f 0 + f 8 + f 16 + f 24 + f 1 + f 9 + f 17 + f 25 + f 2 + f 10 + f 18 + f 26 + f 3 + f 11 + f 19 + f 27 + f 4 + f 12 + f 20 + f 28
      + f 5 + f 13 + f 21 + f 29 + f 6 + f 14 + f 22 + f 30 + f 7 + f 15 + f 23
  show f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + b = _
  ac_rfl

/-- One tap's product. -/
def term (Y : FVec Ideal ⟨3, ![2, 2080, 512]⟩ .f32) (W : FVec Ideal ⟨2, ![32, 512]⟩ .f32) (j : Shape.Idx ⟨3, ![2, 2048, 512]⟩) (k : Fin 31) : EReal :=
  Y (ix3 (j 0) ⟨(j 1).val + k.val, by have h : (j 1).val < 2048 := (j 1).isLt; have := k.isLt; omega⟩ (j 2)) * W (ix2 ⟨k.val, by omega⟩ (j 2))

/-- The convolution of padded rows `Y` with the taps `W`, whose last row is the bias. -/
def conv (Y : FVec Ideal ⟨3, ![2, 2080, 512]⟩ .f32) (W : FVec Ideal ⟨2, ![32, 512]⟩ .f32) (j : Shape.Idx ⟨3, ![2, 2048, 512]⟩) : EReal :=
  W (ix2 31 (j 2)) + ∑ k : Fin 31, term Y W j k

/-- A tap's product at given numbers. -/
theorem term_at (Y : FVec Ideal ⟨3, ![2, 2080, 512]⟩ .f32) (W : FVec Ideal ⟨2, ![32, 512]⟩ .f32) (j : Shape.Idx ⟨3, ![2, 2048, 512]⟩) {n : ℕ} {hn : n < 31}
    {a : ℕ} {ha : a < 2} {b : ℕ} {hb : b < 2080} {d : ℕ} {hd : d < 512} {e : Fin 32} {g : Fin 512}
    (ha' : a = (j 0).val) (hb' : b = (j 1).val + n) (hd' : d = (j 2).val) {w : EReal} (hw : w = W (ix2 e g)) (he : e = ⟨n, by omega⟩) (hg : g.val = (j 2).val) :
    Y (ix3 ⟨a, ha⟩ ⟨b, hb⟩ ⟨d, hd⟩) * w = term Y W j ⟨n, hn⟩ := by
  obtain rfl : g = j 2 := Fin.ext hg
  subst ha' hb' hd' he hw
  rfl

/-- The zero that the host pads with. -/
theorem zero_at (i : Shape.Idx ⟨0, ![]⟩) : sitofp (F := Ideal) .f32 (constantI ⟨0, ![]⟩ 32 0#32) i = (0 : EReal) := by
  pointwise
  show (((0#32).toInt : ℝ) : EReal) = 0
  simp

/-- A tap of the transpose: a padded row times the reversed tap. -/
theorem tap_flip {x : FVec Ideal ⟨3, ![2, 2048, 512]⟩ .f32} {w W : FVec Ideal ⟨2, ![32, 512]⟩ .f32} {Y : FVec Ideal ⟨3, ![2, 2080, 512]⟩ .f32}
    (hY : ∀ (a : Fin 2) (b : Fin 2080) (d : Fin 512), Y (ix3 a b d) = if h : 15 ≤ b.val ∧ b.val < 2063 then x (ix3 a ⟨b.val - 15, by omega⟩ d) else (0 : EReal))
    (hW : ∀ (k : Fin 32) (d : Fin 512), W (ix2 k d) = if h : k.val < 31 then w (ix2 ⟨30 - k.val, by omega⟩ d) else (0 : EReal))
    (j : Shape.Idx ⟨3, ![2, 2048, 512]⟩) {n : ℕ} {hn : n < 31} {q : Prop} [Decidable q] {e : ℕ} {he : q → e < 2048} {k : Fin 32}
    (hq : q ↔ 15 ≤ (j 1).val + n ∧ (j 1).val + n < 2063) (h' : q → e + 15 = (j 1).val + n) (hk : k = ⟨30 - n, by omega⟩) :
    (if h : q then x (ix3 (j 0) ⟨e, he h⟩ (j 2)) * w (ix2 k (j 2)) else (0 : EReal)) = term Y W j ⟨n, hn⟩ := by
  have hj : (j 1).val < 2048 := (j 1).isLt
  refine Eq.trans ?_ (congrArg₂ (· * ·) (hY (j 0) ⟨(j 1).val + n, by omega⟩ (j 2)) ((hW ⟨n, by omega⟩ (j 2)).trans (dif_pos hn))).symm
  subst hk
  by_cases h : q
  · rw [dif_pos h, dif_pos (hq.mp h)]
    have := h' h
    exact congrArg (fun u => x (ix3 (j 0) u (j 2)) * _) (Fin.ext (show e = (j 1).val + n - 15 by omega))
  · rw [dif_neg h, dif_neg fun hp => h (hq.mpr hp), zero_mul]

end Cert.Conv
-- ==== Proof.ConvForward.lean ====
/-
  The convolution's forward call against its reference.
-/
module
public import proofs.«01_k».proof.Defs
public import proofs.«01_k».proof.Proof.Gen.Kernel53Ideal.Value
public import proofs.«01_k».proof.Proof.Gen.Reference53Ideal.Read
public import proofs.«01_k».proof.Proof.Conv
@[expose] public section
set_option maxRecDepth 16384
noncomputable section
open Idealize.ShloMosaic Idealize.ShloMosaic.TcCoe Idealize.SL.Sem

namespace Cert.Kernel53Ideal.Conv
open Cert.Kernel53Ideal Cert.Kernel53Ideal.Gen Cert.Kernel53Ideal.Value Cert.Reference53Ideal.Read Cert.Conv

variable (m : (ℓ : Loc nD τ sig) → Buf (Elt Ideal) ℓ)

/-- The block that each window has at each grid point. -/
theorem idx : ∀ t : Fin cfg0.N, win0_0.index t = ![t.val / 8, 0, 0] ∧ win0_1.index t = ![0, 0] ∧ win0_2.index t = ![t.val / 8, t.val % 8, 0] :=
  (by decide +kernel : ∀ t : Fin grid0.N, _)

/-- The first row of each piece's window. -/
theorem off : ∀ t : Fin cfg0.N, ∀ a ∈ [0, 32, 64, 96, 128, 160, 192, 224], k0_off1 (grid0.coords t) (BitVec.ofNat 32 a) 0 = 0
    ∧ k0_off1 (grid0.coords t) (BitVec.ofNat 32 a) 1 = t.val % 8 * 256 + a ∧ k0_off1 (grid0.coords t) (BitVec.ofNat 32 a) 2 = 0 :=
  (by decide +kernel : ∀ t : Fin grid0.N, _)

set_option maxHeartbeats 4000000 in
/-- The array that the call leaves. -/
theorem final (c : Dev nD) : (dats m 0 c).arrAt 2 cfg0.N = conv (V m c main_v0) (V m c main_arg1) := by
  refine (dats m 0 c).arrAt_eq_of_covers 2 _ (by decide +kernel) fun t _ y => ?_
  have ht : t.val < 16 := t.isLt
  have hY (a : Fin 1) (b : Fin 2080) (d : Fin 512) : iblk m c 0 t (ix3 a b d) = V m c main_v0 (ix3 ⟨t.val / 8, by omega⟩ b d) := by
    blk_point [iblk, idx t]
  have hW (a : Fin 32) (d : Fin 512) : iblk m c 1 t (ix2 a d) = V m c main_arg1 (ix2 a d) := by
    blk_point [iblk, idx t]
  have o (a : ℕ) (ha : a ∈ [0, 32, 64, 96, 128, 160, 192, 224]) := off t a ha
  blk_simp; rw [after0_2]; unfold outsAt0; frame_out
  have hj0 : (((View.whole main_v1).slice (win0_2.rect t)).emb y 0).val = t.val / 8 + y 0 := by blk_simp [idx t] <;> omega
  have hj1 : (((View.whole main_v1).slice (win0_2.rect t)).emb y 1).val = t.val % 8 * 256 + y 1 := by blk_simp [idx t] <;> omega
  have hj2 : (((View.whole main_v1).slice (win0_2.rect t)).emb y 2).val = y 2 := by blk_simp [idx t] <;> omega
  generalize ((View.whole main_v1).slice (win0_2.rect t)).emb y = j at hj0 hj1 hj2 ⊢
  canon_tiles x h
  all_goals
    open_payloads
    pointwise
    simp only [hY, o _ (by decide : 0 ∈ _), o _ (by decide : 32 ∈ _), o _ (by decide : 64 ∈ _), o _ (by decide : 96 ∈ _),
      o _ (by decide : 128 ∈ _), o _ (by decide : 160 ∈ _), o _ (by decide : 192 ∈ _), o _ (by decide : 224 ∈ _)]
    refine taps_congr _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    case refine_1 => exact (hW _ _).trans (congrArg _ (by congr 1; apply Fin.ext; omega))
    all_goals exact term_at _ _ _ (by omega) (by omega) (by omega) (hW _ _) rfl (by omega)

/-- The rows that the host pads. -/
theorem pad_at (x : FVec Ideal S2x2048x512 .f32) (a : Fin 2) (b : Fin 2080) (d : Fin 512) :
    pad S2x2080x512 ![0, 15, 0] ![0, 17, 0] ![0, 0, 0] x (sitofp (F := Ideal) .f32 (constantI S_ 32 0#32)) pads_S2x2048x512_S2x2080x512_000_15170_000 h_S_ (ix3 a b d) =
      if h : 15 ≤ b.val ∧ b.val < 2063 then x (ix3 a ⟨b.val - 15, by omega⟩ d) else (0 : EReal) := by
  pointwise [zero_at]
  split_ifs <;> first | rfl | omega

/-- A row that the kernel reads is a row of the argument, or zero. -/
theorem padded_at (c : Dev nD) (a : Fin 2) (b : Fin 2080) (d : Fin 512) :
    V m c main_v0 (ix3 a b d) = if h : 15 ≤ b.val ∧ b.val < 2063 then m ((c : Thread nD τ).loc main_arg0) (ix3 a ⟨b.val - 15, by omega⟩ d) else (0 : EReal) := by
  have h : (V m c main_v0 : FVec Ideal S2x2080x512 .f32) = pad S2x2080x512 ![0, 15, 0] ![0, 17, 0] ![0, 0, 0] (m ((c : Thread nD τ).loc main_arg0) : FVec Ideal S2x2048x512 .f32) (sitofp (F := Ideal) .f32 (constantI S_ 32 0#32)) pads_S2x2048x512_S2x2080x512_000_15170_000 h_S_ := by rfl
  exact (congrFun h _).trans (pad_at _ a b d)

/-- A row that the reference reads is a row of the argument, or zero. -/
theorem reference_rows (x : FVec Ideal S2x2048x512 .f32) (a : Fin 2) (b : ℕ) (hb : b < 2078) (d : Fin 512) :
    val_main_v1 (F := Ideal) x (ix3 a ⟨b, hb⟩ d) = if h : 15 ≤ b ∧ b < 2063 then x (ix3 a ⟨b - 15, by omega⟩ d) else (0 : EReal) := by
  pointwise [val_main_v1, val_main_v0, val_main_cst]
  split_ifs <;> first | rfl | omega | rw [dif_pos (show 15 ≤ b ∧ b < 2063 by omega)] | rw [dif_neg (show ¬(15 ≤ b ∧ b < 2063) by omega)]

/-- The reference, as a sum over the taps. -/
theorem read (x0 : FVec Ideal S2x2048x512 .f32) (x1 : FVec Ideal S32x512 .f32) (Y : FVec Ideal S2x2080x512 .f32)
    (hY : ∀ (a : Fin 2) (b : ℕ) (hb : b < 2078) (d : Fin 512), val_main_v1 (F := Ideal) x0 (ix3 a ⟨b, hb⟩ d) = Y (ix3 a ⟨b, by omega⟩ d)) :
    val_main_v224 (F := Ideal) x0 x1 = conv Y x1 := by
  funext j
  pointwise [val_main_cst_0, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224]
  refine seq_congr _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ rfl
  all_goals exact (congrArg (· * _) (hY _ _ _ _)).trans (term_at _ _ _ rfl (by omega) rfl rfl rfl rfl)

/-- The call computes what the reference computes. -/
theorem algebraic : Cert.algebraic_Kernel53Ideal_Reference53Ideal := by
  intro m g m' g' _ hagree
  refine ⟨fun c => (dats m 0 c).arrAt 2 cfg0.N, run_blocks m g,
    (θ_run Cert.Reference53Ideal.defs _ _).mono (fun r h c => ?_) (Cert.Reference53Ideal.Value.run (F := Ideal) m' g')⟩
  obtain ⟨a0, a1⟩ := hagree c
  obtain ⟨h0, hargs⟩ := h c
  refine ⟨h0.trans ?_, hargs⟩
  rw [val_main_v224_eq]
  refine (congrArg₂ (val_main_v224 (F := Ideal)) a0 a1).trans ?_
  refine (read _ _ (V m c main_v0) (fun a b hb d => (reference_rows _ a b hb d).trans (padded_at m c a ⟨b, by omega⟩ d).symm)).trans ((congrArg (conv _) (V_main_arg1 m c).symm).trans ?_)
  exact (final m c).symm

/-- The reference terminates and leaves its arguments. -/
theorem frame_reference : Cert.quiescent_Reference53Ideal := fun m g _ =>
  (θ_run Cert.Reference53Ideal.defs _ _).mono (fun _ h => ⟨fun c => (h c).2, funext fun s => match s with
    | ⟨_, .reg x⟩ => x.elim0
    | ⟨_, .dma x⟩ => x.elim0⟩) (Cert.Reference53Ideal.Value.run (F := Ideal) m g)

end Cert.Kernel53Ideal.Conv
-- ==== Proof.ConvBackward.lean ====
/-
  The convolution's call for its input's gradient against its reference.
-/
module
public import proofs.«01_k».proof.Defs
public import proofs.«01_k».proof.Proof.Gen.Kernel54Ideal.Value
public import proofs.«01_k».proof.Proof.Gen.Reference54Ideal.Read
public import proofs.«01_k».proof.Proof.Conv
@[expose] public section
set_option maxRecDepth 16384
noncomputable section
open Idealize.ShloMosaic Idealize.ShloMosaic.TcCoe Idealize.SL.Sem

namespace Cert.Kernel54Ideal.Conv
open Cert.Kernel54Ideal Cert.Kernel54Ideal.Gen Cert.Kernel54Ideal.Value Cert.Reference54Ideal.Read Cert.Conv

variable (m : (ℓ : Loc nD τ sig) → Buf (Elt Ideal) ℓ)

/-- The block that each window has at each grid point. -/
theorem idx : ∀ t : Fin cfg0.N, win0_0.index t = ![t.val / 8, 0, 0] ∧ win0_1.index t = ![0, 0] ∧ win0_2.index t = ![t.val / 8, t.val % 8, 0] :=
  (by decide +kernel : ∀ t : Fin grid0.N, _)

/-- The first row of each piece's window. -/
theorem off : ∀ t : Fin cfg0.N, ∀ a ∈ [0, 32, 64, 96, 128, 160, 192, 224], k0_off1 (grid0.coords t) (BitVec.ofNat 32 a) 0 = 0
    ∧ k0_off1 (grid0.coords t) (BitVec.ofNat 32 a) 1 = t.val % 8 * 256 + a ∧ k0_off1 (grid0.coords t) (BitVec.ofNat 32 a) 2 = 0 :=
  (by decide +kernel : ∀ t : Fin grid0.N, _)

set_option maxHeartbeats 4000000 in
/-- The array that the call leaves. -/
theorem final (c : Dev nD) : (dats m 0 c).arrAt 2 cfg0.N = conv (V m c main_v5) (V m c main_v4) := by
  refine (dats m 0 c).arrAt_eq_of_covers 2 _ (by decide +kernel) fun t _ y => ?_
  have ht : t.val < 16 := t.isLt
  have hY (a : Fin 1) (b : Fin 2080) (d : Fin 512) : iblk m c 0 t (ix3 a b d) = V m c main_v5 (ix3 ⟨t.val / 8, by omega⟩ b d) := by
    blk_point [iblk, idx t]
  have hW (a : Fin 32) (d : Fin 512) : iblk m c 1 t (ix2 a d) = V m c main_v4 (ix2 a d) := by
    blk_point [iblk, idx t]
  have o (a : ℕ) (ha : a ∈ [0, 32, 64, 96, 128, 160, 192, 224]) := off t a ha
  blk_simp; rw [after0_2]; unfold outsAt0; frame_out
  have hj0 : (((View.whole main_v6).slice (win0_2.rect t)).emb y 0).val = t.val / 8 + y 0 := by blk_simp [idx t] <;> omega
  have hj1 : (((View.whole main_v6).slice (win0_2.rect t)).emb y 1).val = t.val % 8 * 256 + y 1 := by blk_simp [idx t] <;> omega
  have hj2 : (((View.whole main_v6).slice (win0_2.rect t)).emb y 2).val = y 2 := by blk_simp [idx t] <;> omega
  generalize ((View.whole main_v6).slice (win0_2.rect t)).emb y = j at hj0 hj1 hj2 ⊢
  canon_tiles x h
  all_goals
    open_payloads
    pointwise
    simp only [hY, o _ (by decide : 0 ∈ _), o _ (by decide : 32 ∈ _), o _ (by decide : 64 ∈ _), o _ (by decide : 96 ∈ _),
      o _ (by decide : 128 ∈ _), o _ (by decide : 160 ∈ _), o _ (by decide : 192 ∈ _), o _ (by decide : 224 ∈ _)]
    refine taps_congr _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    case refine_1 => exact (hW _ _).trans (congrArg _ (by congr 1; apply Fin.ext; omega))
    all_goals exact term_at _ _ _ (by omega) (by omega) (by omega) (hW _ _) rfl (by omega)

/-- The rows that the host pads. -/
theorem pad_at (x : FVec Ideal S2x2048x512 .f32) (a : Fin 2) (b : Fin 2080) (d : Fin 512) :
    pad S2x2080x512 ![0, 15, 0] ![0, 17, 0] ![0, 0, 0] x (sitofp (F := Ideal) .f32 (constantI S_ 32 0#32)) pads_S2x2048x512_S2x2080x512_000_15170_000 h_S_ (ix3 a b d) =
      if h : 15 ≤ b.val ∧ b.val < 2063 then x (ix3 a ⟨b.val - 15, by omega⟩ d) else (0 : EReal) := by
  pointwise [zero_at]
  split_ifs <;> first | rfl | omega

/-- A row that the kernel reads is a row of the argument, or zero. -/
theorem padded_at (c : Dev nD) (a : Fin 2) (b : Fin 2080) (d : Fin 512) :
    V m c main_v5 (ix3 a b d) = if h : 15 ≤ b.val ∧ b.val < 2063 then m ((c : Thread nD τ).loc main_arg0) (ix3 a ⟨b.val - 15, by omega⟩ d) else (0 : EReal) := by
  have h : (V m c main_v5 : FVec Ideal S2x2080x512 .f32) = pad S2x2080x512 ![0, 15, 0] ![0, 17, 0] ![0, 0, 0] (m ((c : Thread nD τ).loc main_arg0) : FVec Ideal S2x2048x512 .f32) (sitofp (F := Ideal) .f32 (constantI S_ 32 0#32)) pads_S2x2048x512_S2x2080x512_000_15170_000 h_S_ := by rfl
  exact (congrFun h _).trans (pad_at _ a b d)

/-- A tap that the kernel reads is a reversed tap of the argument, or zero. -/
theorem flip_at (x : FVec Ideal S32x512 .f32) (k : Fin 32) (d : Fin 512) :
    concatenate S32x512 0 [⟨S31x512, Host.reverse [0] (extractStridedSlice S31x512 ![0, 0] x slices_S32x512_S31x512_0_0)⟩, ⟨S1x512, broadcastInDim S1x512 ![] bcast_S_S1x512 (constant (F := Ideal) S_ .f32 0x00000000#32)⟩] concatenates_S31x512_S1x512_S32x512_d0 (ix2 k d) =
      if h : k.val < 31 then x (ix2 ⟨30 - k.val, by omega⟩ d) else (0 : EReal) := by
  pointwise
  by_cases h : k.val < 31
  · rw [dif_pos h, dif_pos h]
    exact congrArg (fun u => x (ix2 u d)) (Fin.ext (show 31 - (k.val + 1) = 30 - k.val by omega))
  · rw [dif_neg h, dif_neg h]

/-- The kernel's taps. -/
theorem flipped_at (c : Dev nD) (k : Fin 32) (d : Fin 512) :
    V m c main_v4 (ix2 k d) = if h : k.val < 31 then m ((c : Thread nD τ).loc main_arg1) (ix2 ⟨30 - k.val, by omega⟩ d) else (0 : EReal) := by
  have h : (V m c main_v4 : FVec Ideal S32x512 .f32) = concatenate S32x512 0 [⟨S31x512, Host.reverse [0] (extractStridedSlice S31x512 ![0, 0] (m ((c : Thread nD τ).loc main_arg1) : FVec Ideal S32x512 .f32) slices_S32x512_S31x512_0_0)⟩, ⟨S1x512, broadcastInDim S1x512 ![] bcast_S_S1x512 (constant (F := Ideal) S_ .f32 0x00000000#32)⟩] concatenates_S31x512_S1x512_S32x512_d0 := by rfl
  exact (congrFun h _).trans (flip_at _ k d)

/-- The reference, as a sum over the taps. -/
theorem read (x : FVec Ideal S2x2048x512 .f32) (w W : FVec Ideal S32x512 .f32) (Y : FVec Ideal S2x2080x512 .f32)
    (hY : ∀ (a : Fin 2) (b : Fin 2080) (d : Fin 512), Y (ix3 a b d) = if h : 15 ≤ b.val ∧ b.val < 2063 then x (ix3 a ⟨b.val - 15, by omega⟩ d) else (0 : EReal))
    (hW : ∀ (k : Fin 32) (d : Fin 512), W (ix2 k d) = if h : k.val < 31 then w (ix2 ⟨30 - k.val, by omega⟩ d) else (0 : EReal)) :
    val_main_v354 (F := Ideal) x w = conv Y W := by
  funext j
  have hj : (j 1).val < 2048 := (j 1).isLt
  have mid : x j * w (ix2 15 (j 2)) = term Y W j ⟨15, by decide⟩ := by
    refine Eq.trans ?_ (tap_flip hY hW j (q := True) (e := (j 1).val) (he := fun _ => hj) (k := 15) (iff_of_true trivial (by omega)) (fun _ => rfl) rfl)
    rw [dif_pos trivial]
    exact congrArg (fun u => x u * _) (by idx_ext)
  pointwise [val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_v342, val_main_v343, val_main_v344, val_main_v345, val_main_v346, val_main_v347, val_main_v348, val_main_v349, val_main_v350, val_main_v351, val_main_v352, val_main_v353, val_main_v354]
  refine (add_zero _).symm.trans (seq_congr _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ((hW 31 _).trans (dif_neg (by decide))).symm)
  all_goals first | exact mid | exact tap_flip hY hW j (by omega) (by omega) rfl

/-- The call computes what the reference computes. -/
theorem algebraic : Cert.algebraic_Kernel54Ideal_Reference54Ideal := by
  intro m g m' g' _ hagree
  refine ⟨fun c => (dats m 0 c).arrAt 2 cfg0.N, run_blocks m g,
    (θ_run Cert.Reference54Ideal.defs _ _).mono (fun r h c => ?_) (Cert.Reference54Ideal.Value.run (F := Ideal) m' g')⟩
  obtain ⟨a0, a1⟩ := hagree c
  obtain ⟨h0, hargs⟩ := h c
  refine ⟨h0.trans ?_, hargs⟩
  rw [val_main_v354_eq]
  refine (congrArg₂ (val_main_v354 (F := Ideal)) a0 a1).trans ?_
  exact (read _ _ _ _ (padded_at m c) (flipped_at m c)).trans (final m c).symm

/-- The reference terminates and leaves its arguments. -/
theorem frame_reference : Cert.quiescent_Reference54Ideal := fun m g _ =>
  (θ_run Cert.Reference54Ideal.defs _ _).mono (fun _ h => ⟨fun c => (h c).2, funext fun s => match s with
    | ⟨_, .reg x⟩ => x.elim0
    | ⟨_, .dma x⟩ => x.elim0⟩) (Cert.Reference54Ideal.Value.run (F := Ideal) m g)

end Cert.Kernel54Ideal.Conv
-- ==== Proof.BaseTwo.lean ====
module

public import proofs.«01_k».proof.Proof.Attention
public import Mathlib.Analysis.SpecialFunctions.Pow.Real

/-!
# A softmax whose exponentials are powers of two

The scores are scaled by the reciprocal of the natural logarithm of 2, and a common number is taken off each of them
before the powers. Neither the quotients nor the logarithm of the sum depend on that number.
-/

@[expose] public section

noncomputable section

namespace Cert.BaseTwo

open Finset

/-- A power of two as an exponential. -/
theorem pow_eq (x m : ℝ) : Real.rpow 2 ((Real.log 2)⁻¹ * x - m) = Real.exp (x - m * Real.log 2) := by
  have hl : Real.log 2 ≠ 0 := (Real.log_pos one_lt_two).ne'
  refine (Real.rpow_def_of_pos two_pos _).trans ?_
  rw [mul_sub, mul_inv_cancel_left₀ hl, mul_comm (Real.log 2)]

variable {N : ℕ} (s : Fin N → ℝ) (m : ℝ)

theorem sum_pos (h : 0 < N) : 0 < ∑ n, Real.rpow 2 ((Real.log 2)⁻¹ * s n - m) := by
  simp only [pow_eq]
  exact Cert.Gqa.sum_exp_pos s _ h

/-- The weighted mean of `w`. -/
theorem mean_eq (w : Fin N → ℝ) :
    (∑ n, Real.rpow 2 ((Real.log 2)⁻¹ * s n - m) * w n) / ∑ n, Real.rpow 2 ((Real.log 2)⁻¹ * s n - m) =
      ∑ n, Real.exp (s n) / (∑ l, Real.exp (s l)) * w n := by
  simp only [pow_eq]
  rw [div_eq_mul_inv, Finset.sum_mul]
  refine Finset.sum_congr rfl fun n _ => ?_
  rw [← Cert.Gqa.softmax_shift s (m * Real.log 2) n]
  ring

/-- The logarithm, in base 2, of the sum of the exponentials. -/
theorem log_eq (h : 0 < N) :
    m + Real.log (∑ n, Real.rpow 2 ((Real.log 2)⁻¹ * s n - m)) * (Real.log 2)⁻¹ =
      Real.log (∑ n, Real.exp (s n)) * (Real.log 2)⁻¹ := by
  have hl : Real.log 2 ≠ 0 := (Real.log_pos one_lt_two).ne'
  simp only [pow_eq]
  rw [← Cert.Gqa.log_shift s (m * Real.log 2) h, add_mul, mul_assoc, mul_inv_cancel₀ hl, mul_one]

end Cert.BaseTwo
-- ==== Proof.LatentForward.lean ====
module

public import proofs.«01_k».proof.Proof.Latent
public import proofs.«01_k».proof.Proof.BaseTwo
public import proofs.«01_k».proof.Proof.Gen.Kernel28Ideal.Value
public import Idealize.ShloMosaic.Lib.Pointwise
public import Idealize.ShloMosaic.Lib.Pipeline.ValueKit

/-!
# The latent attention's forward kernel, read to the reals

A point holds 256 query rows of a sample, from row `r` on, and treats four heads. For each it takes the scores in base 2,
the powers of two less the row's largest score, and one product of the powers with the values, in which a lane past the
64th holds ones: its 65th column is the row's total.
-/

@[expose] public section

set_option maxRecDepth 16384

noncomputable section

namespace Cert.Kernel28Ideal.Latent

open Idealize.ShloMosaic Idealize.ShloMosaic.TcCoe Idealize.SL.Sem
open Cert.Kernel28Ideal Cert.Kernel28Ideal.Gen Cert.Mla
open Cert.Gqa hiding score weight total prob out lse dprob mean dscore dq dkRow dvRow dv total_pos mean_eq

/-- The value of the kernel's named factor of the queries. -/
theorem scale96_value :
    (Named.named κ "log2e_scale96" 0x3E16C740#32 : Ideal .f32) = (((Real.log 2)⁻¹ * scale : ℝ) : EReal) := by
  have e : (Named.named κ "log2e_scale96" 0x3E16C740#32 : Ideal .f32) =
      (((Real.log 2)⁻¹ * (3424635 * 33554432⁻¹) : ℝ) : EReal) :=
    IdealRules.named_const.ideal_named_scalar _ _ _ _ rfl
  rw [e, scale, div_eq_mul_inv]

/-- The value of the kernel's named factor of the logarithms. -/
theorem log2e_value : (Named.named κ "log2e" 0x3FB8AA3B#32 : Ideal .f32) = (((Real.log 2)⁻¹ : ℝ) : EReal) :=
  IdealRules.named_const.ideal_named_scalar _ _ _ _ rfl

theorem ofBits_one16 : Ideal.ofBits .bf16 0x3F80#16 = ((1 : ℝ) : EReal) := by
  simp [Ideal.ofBits, Ideal.ieee, -EReal.coe_mul]
  norm_num

/-- The lanes that hold values. -/
theorem real_at (n : Fin 2304) (d : Fin 128) : k0_pay2 (ix2 n d) = if (d : ℕ) < 64 then 1#1 else 0#1 := by
  have e : ∀ d : Fin 128, IntOp.cmpi .slt (BitVec.ofNat 32 d.val) 64#32 = if (d : ℕ) < 64 then 1#1 else 0#1 := by decide
  unfold k0_pay2
  pointwise [e]

variable (q kn kr v : ℕ → ℕ → ℕ → ℝ)

/-- What the tiles of head `h` hold in the block of sample `b` that starts at row `r`. -/
structure Head (b h r : ℕ) (a : Vec Ideal S1x256x128 .bf16) (k0 ks w : Vec Ideal S1x2304x128 .bf16) : Prop where
  query : ∀ (i : Fin 256) (d : Fin 128), a (ix3 0 i d) = ((q b (r + i) (lane h d) : ℝ) : EReal)
  own : ∀ (n : Fin 2304) (d : Fin 128), k0 (ix3 0 n d) = ((kn b n (lane h d) : ℝ) : EReal)
  shared : ∀ (n : Fin 2304) (d : Fin 128), ks (ix3 0 n d) = ((kr b n d : ℝ) : EReal)
  value : ∀ (n : Fin 2304) (d : Fin 128), w (ix3 0 n d) = ((v b n (lane h d) : ℝ) : EReal)

variable {q kn kr v}
variable {b h r : ℕ} {a : Vec Ideal S1x256x128 .bf16} {k0 ks w : Vec Ideal S1x2304x128 .bf16}

theorem score_at (hd : Head q kn kr v b h r a k0 ks w) (i : Fin 256) (n : Fin 2304) :
    k0_pay3 k0 ks a (ix2 i n) = (((Real.log 2)⁻¹ * (score q kn kr b h (r + i) n * scale) : ℝ) : EReal) := by
  have e : (Real.log 2)⁻¹ * (score q kn kr b h (r + i) n * scale) =
      ∑ d : Fin 128, q b (r + i) (lane h d) * ((Real.log 2)⁻¹ * scale) * key kn kr b h n d := by
    unfold score
    rw [Finset.sum_mul, Finset.mul_sum]
    exact Finset.sum_congr rfl fun d _ => by ring
  rw [e]
  unfold k0_pay3
  pointwise [hd.query, hd.own, hd.shared, scale96_value, ← EReal.coe_add, ← EReal.coe_mul, coe_sum]
  rfl

theorem top_at (hd : Head q kn kr v b h r a k0 ks w) (i : Fin 256) : ∃ m : ℝ, k0_pay4 k0 ks a (ix2 i 0) = (m : EReal) := by
  unfold k0_pay4
  pointwise [score_at hd]
  rw [ofBits_bot]
  exact fold_max_coe (by decide) _

/-- The powers of a row, against the values and the ones. -/
theorem acc_at (hd : Head q kn kr v b h r a k0 ks w) (i : Fin 256) (m : ℝ) (hm : k0_pay4 k0 ks a (ix2 i 0) = (m : EReal))
    (d : Fin 128) : k0_pay5 k0 ks w a (ix2 i d) =
      ((∑ n : Fin 2304, Real.rpow 2 ((Real.log 2)⁻¹ * (score q kn kr b h (r + i) n * scale) - m) *
        (if (d : ℕ) < 64 then v b n (lane h d) else 1) : ℝ) : EReal) := by
  rw [← coe_sum]
  unfold k0_pay5
  pointwise [score_at hd, hm, hd.value, real_at, ofBits_one16]
  refine Finset.sum_congr rfl fun n _ => ?_
  rw [← EReal.coe_sub, EReal.coe_mul]
  refine congrArg₂ _ (Ideal.exp2_coe _) ?_
  split_ifs <;> rfl

theorem out_at (hd : Head q kn kr v b h r a k0 ks w) (i : Fin 256) (d : Fin 64) :
    k0_pay7 k0 ks w a (ix2 i d) = ((out q kn kr v b h (r + i) d : ℝ) : EReal) := by
  obtain ⟨m, hm⟩ := top_at hd i
  have hp := Cert.BaseTwo.sum_pos (fun n : Fin 2304 => score q kn kr b h (r + i) n * scale) m (by decide)
  have he := Cert.BaseTwo.mean_eq (fun n : Fin 2304 => score q kn kr b h (r + i) n * scale) m (fun n => v b n (lane h d))
  unfold k0_pay7
  pointwise [k0_pay6, acc_at hd i m hm]
  rw [div_coe_coe hp.ne', he]
  rfl

theorem log_at (hd : Head q kn kr v b h r a k0 ks w) (i : Fin 256) :
    k0_pay8 k0 ks w a (ix2 i 0) = ((lse q kn kr b h (r + i) : ℝ) : EReal) := by
  obtain ⟨m, hm⟩ := top_at hd i
  have hp := Cert.BaseTwo.sum_pos (fun n : Fin 2304 => score q kn kr b h (r + i) n * scale) m (by decide)
  have he := Cert.BaseTwo.log_eq (fun n : Fin 2304 => score q kn kr b h (r + i) n * scale) m (by decide)
  unfold k0_pay8
  pointwise [k0_pay6, acc_at hd i m hm, hm, log2e_value]
  rw [log_coe_pos hp, ← EReal.coe_mul, ← EReal.coe_add, he]
  rfl

/-! ## A point's blocks -/

variable (q kn kr v)

/-- What the blocks staged for the rows `r …` of sample `b` and the `g`-th four heads hold. -/
structure Blocks (b g r : ℕ) (x0 : Vec Ideal S1x256x512 .bf16) (x1 : Vec Ideal S1x2304x512 .bf16)
    (x2 : Vec Ideal S1x2304x128 .bf16) (x3 : Vec Ideal S1x2304x512 .bf16) : Prop where
  query : ∀ (i : Fin 256) (c : Fin 512), x0 (ix3 0 i c) = ((q b (r + i) (512 * g + c) : ℝ) : EReal)
  own : ∀ (n : Fin 2304) (c : Fin 512), x1 (ix3 0 n c) = ((kn b n (512 * g + c) : ℝ) : EReal)
  shared : ∀ (n : Fin 2304) (c : Fin 128), x2 (ix3 0 n c) = ((kr b n c : ℝ) : EReal)
  value : ∀ (n : Fin 2304) (c : Fin 512), x3 (ix3 0 n c) = ((v b n (512 * g + c) : ℝ) : EReal)

variable {q kn kr v}
variable {g : ℕ} {x0 : Vec Ideal S1x256x512 .bf16} {x1 : Vec Ideal S1x2304x512 .bf16}
  {x2 : Vec Ideal S1x2304x128 .bf16} {x3 : Vec Ideal S1x2304x512 .bf16}

/-- The tiles of head `u` of the four. -/
theorem head (hB : Blocks q kn kr v b g r x0 x1 x2 x3) (u : ℕ) (hq) (hk) :
    Head q kn kr v b (4 * g + u) r (View.ld x0 (Rect.unit (s := S1x256x512) ![0, 0, 128 * u] S1x256x128.size hq))
      (View.ld x1 (Rect.unit (s := S1x2304x512) ![0, 0, 128 * u] S1x2304x128.size hk)) x2
      (View.ld x3 (Rect.unit (s := S1x2304x512) ![0, 0, 128 * u] S1x2304x128.size hk)) := by
  refine ⟨fun i d => ?_, fun n d => ?_, hB.shared, fun n d => ?_⟩
  all_goals
    pointwise [hB.query, hB.own, hB.value]
  all_goals
    congr 2
    simp only [lane]
    omega

/-- Four heads' columns side by side. -/
def four (f0 f1 f2 f3 : FVec Ideal S256x64 .bf16) : FVec Ideal S1x256x256 .bf16 :=
  k0_pay1 (concatenate S256x256 1 [⟨S256x64, f0⟩, ⟨S256x64, f1⟩, ⟨S256x64, f2⟩, ⟨S256x64, f3⟩]
    concatenates_S256x64_S256x64_S256x64_S256x64_S256x256_d1)

theorem four_at (G : ℕ → ℕ → ℕ → ℝ) (f0 f1 f2 f3 : FVec Ideal S256x64 .bf16)
    (h0 : ∀ (i : Fin 256) (d : Fin 64), f0 (ix2 i d) = ((G 0 i d : ℝ) : EReal))
    (h1 : ∀ (i : Fin 256) (d : Fin 64), f1 (ix2 i d) = ((G 1 i d : ℝ) : EReal))
    (h2 : ∀ (i : Fin 256) (d : Fin 64), f2 (ix2 i d) = ((G 2 i d : ℝ) : EReal))
    (h3 : ∀ (i : Fin 256) (d : Fin 64), f3 (ix2 i d) = ((G 3 i d : ℝ) : EReal)) (i c : Fin 256) :
    four f0 f1 f2 f3 (ix3 0 i c) = ((G (c / 64) i (c % 64) : ℝ) : EReal) := by
  have hc := c.isLt
  unfold four
  pointwise [k0_pay1, h0, h1, h2, h3]
  have key (j e : ℕ) (hj : c.val / 64 = j) (he : c.val % 64 = e) :
      ((G j i e : ℝ) : EReal) = ((G (c / 64) i (c % 64) : ℝ) : EReal) := by subst hj he; rfl
  split_ifs <;> exact key _ _ (by omega) (by omega)

theorem out_second (k0 ks w : Vec Ideal S1x2304x128 .bf16) (a : Vec Ideal S1x256x128 .bf16) :
    k0_pay14 k0_pay2 k0 ks w a = k0_pay7 k0 ks w a := rfl

theorem out_third (k0 ks w : Vec Ideal S1x2304x128 .bf16) (a : Vec Ideal S1x256x128 .bf16) :
    k0_pay21 k0_pay2 k0 ks w a = k0_pay7 k0 ks w a := rfl

theorem four_eq (f0 f1 f2 : FVec Ideal S256x64 .bf16) (k0 ks w : Vec Ideal S1x2304x128 .bf16)
    (a : Vec Ideal S1x256x128 .bf16) :
    k0_pay1 (k0_pay28 k0_pay2 f0 f1 f2 k0 ks w a) = four f0 f1 f2 (k0_pay7 k0 ks w a) := rfl

/-- The block of the outputs. -/
theorem out_block (hB : Blocks q kn kr v b g r x0 x1 x2 x3) (i c : Fin 256) :
    out0_4 x0 x1 x2 x3 (ix3 0 i c) = ((out q kn kr v b (4 * g + c / 64) (r + i) (c % 64) : ℝ) : EReal) := by
  unfold_out out0_4
  frame_out
  rw [out_second, out_third, four_eq]
  exact four_at (fun u i d => out q kn kr v b (4 * g + u) (r + i) d) _ _ _ _
    (out_at (head hB 0 inb_S1x256x512_S1x256x128_0_0_0 inb_S1x2304x512_S1x2304x128_0_0_0))
    (out_at (head hB 1 inb_S1x256x512_S1x256x128_0_0_128 inb_S1x2304x512_S1x2304x128_0_0_128))
    (out_at (head hB 2 inb_S1x256x512_S1x256x128_0_0_256 inb_S1x2304x512_S1x2304x128_0_0_256))
    (out_at (head hB 3 inb_S1x256x512_S1x256x128_0_0_384 inb_S1x2304x512_S1x2304x128_0_0_384)) i c

/-- The block of the logarithms. -/
theorem log_block (hB : Blocks q kn kr v b g r x0 x1 x2 x3) (u : Fin 4) (i : Fin 256) :
    out0_5 x0 x1 x2 x3 (ix4 0 u i 0) = ((lse q kn kr b (4 * g + u) (r + i) : ℝ) : EReal) := by
  have key (k : ℕ) (hq) (hk) (x : S1x1x256x1.Idx) (hu : (u : ℕ) = k + (x 1 : ℕ)) (hi : (i : ℕ) = (x 2 : ℕ)) :
      k0_pay9 (k0_pay8 (View.ld x1 (Rect.unit (s := S1x2304x512) ![0, 0, 128 * k] S1x2304x128.size hk)) x2
        (View.ld x3 (Rect.unit (s := S1x2304x512) ![0, 0, 128 * k] S1x2304x128.size hk))
        (View.ld x0 (Rect.unit (s := S1x256x512) ![0, 0, 128 * k] S1x256x128.size hq))) x =
      ((lse q kn kr b (4 * g + u) (r + i) : ℝ) : EReal) := by
    obtain ⟨a, a', j, z, rfl⟩ : ∃ (a : Fin 1) (a' : Fin 1) (j : Fin 256) (z : Fin 1), x = ix4 a a' j z :=
      ⟨x 0, x 1, x 2, x 3, by blk_ext⟩
    obtain rfl : a = 0 := Subsingleton.elim _ _
    obtain rfl : a' = 0 := Subsingleton.elim _ _
    obtain rfl : z = 0 := Subsingleton.elim _ _
    obtain rfl : i = j := Fin.ext hi
    obtain hu : (u : ℕ) = k := hu
    rw [hu]
    unfold k0_pay9
    pointwise [log_at (head hB k hq hk)]
  have e : View.ld x2 r0_1 = x2 := by
    funext y
    obtain ⟨a, n, d, rfl⟩ : ∃ (a : Fin 1) (n : Fin 2304) (d : Fin 128), y = ix3 a n d := ⟨y 0, y 1, y 2, by blk_ext⟩
    obtain rfl : a = 0 := Subsingleton.elim _ _
    pointwise []
  unfold_out out0_5
  rw [e]
  canon_tiles x h
  · exact key 3 _ _ x h1 h2
  · exact key 2 _ _ x h1 h2
  · exact key 1 _ _ x h1 h2
  · exact key 0 _ _ x (h1.trans (Nat.zero_add _).symm) h2

/-! ## The result arrays -/

/-- Every window's block index, as numbers. -/
theorem idx : ∀ t : Fin cfg0.N, win0_0.index t = ![t.val / 16, t.val % 8, t.val / 8 % 2]
    ∧ win0_1.index t = ![t.val / 16, 0, t.val / 8 % 2]
    ∧ win0_2.index t = ![t.val / 16, 0, 0]
    ∧ win0_3.index t = ![t.val / 16, 0, t.val / 8 % 2]
    ∧ win0_4.index t = ![t.val / 16, t.val % 8, t.val / 8 % 2]
    ∧ win0_5.index t = ![t.val / 16, t.val / 8 % 2, t.val % 8, 0] := by
  decide +kernel

theorem point_lt (t : Fin cfg0.N) : t.val < 32 := Gen.N_0 ▸ t.isLt

/-- What the arguments hold. -/
structure Args (q kn kr v : ℕ → ℕ → ℕ → ℝ) (x0 : Vec Ideal S2x2048x1024 .bf16) (x1 : Vec Ideal S2x2304x1024 .bf16)
    (x2 : Vec Ideal S2x2304x128 .bf16) (x3 : Vec Ideal S2x2304x1024 .bf16) : Prop where
  query : ∀ (b : Fin 2) (i : Fin 2048) (e : Fin 1024), x0 (ix3 b i e) = ((q b i e : ℝ) : EReal)
  own : ∀ (b : Fin 2) (i : Fin 2304) (e : Fin 1024), x1 (ix3 b i e) = ((kn b i e : ℝ) : EReal)
  shared : ∀ (b : Fin 2) (i : Fin 2304) (e : Fin 128), x2 (ix3 b i e) = ((kr b i e : ℝ) : EReal)
  value : ∀ (b : Fin 2) (i : Fin 2304) (e : Fin 1024), x3 (ix3 b i e) = ((v b i e : ℝ) : EReal)

variable {m : (ℓ : Loc nD τ sig) → Buf (Elt Ideal) ℓ} {c : Dev nD}

section Read

variable (t : Fin cfg0.N) (hb : t.val / 16 < 2)

/-- Window 0's block of an array. -/
theorem read_rows0 (A : Buf (Elt Ideal) ((c.tc : Thread nD τ).loc main_arg0)) (i : Fin 256)
    (hi : 256 * (t.val % 8) + i.val < 2048) (e : Fin 512) (he : 512 * (t.val / 8 % 2) + e.val < 1024) :
    ((cfg0.win 0).blk t).view.read (Elt Ideal) A (ix3 0 i e) =
      A (ix3 ⟨t.val / 16, hb⟩ ⟨256 * (t.val % 8) + i, hi⟩ ⟨512 * (t.val / 8 % 2) + e, he⟩) := by
  blk_ext [idx t]

/-- Window 1's block of an array. -/
theorem read_rows1 (A : Buf (Elt Ideal) ((c.tc : Thread nD τ).loc main_arg1)) (n : Fin 2304) (e : Fin 512)
    (he : 512 * (t.val / 8 % 2) + e.val < 1024) :
    ((cfg0.win 1).blk t).view.read (Elt Ideal) A (ix3 0 n e) =
      A (ix3 ⟨t.val / 16, hb⟩ n ⟨512 * (t.val / 8 % 2) + e, he⟩) := by
  blk_ext [idx t]

/-- Window 2's block of an array. -/
theorem read_rows2 (A : Buf (Elt Ideal) ((c.tc : Thread nD τ).loc main_arg2)) (n : Fin 2304) (e : Fin 128) :
    ((cfg0.win 2).blk t).view.read (Elt Ideal) A (ix3 0 n e) = A (ix3 ⟨t.val / 16, hb⟩ n e) := by
  blk_ext [idx t]

/-- Window 3's block of an array. -/
theorem read_rows3 (A : Buf (Elt Ideal) ((c.tc : Thread nD τ).loc main_arg3)) (n : Fin 2304) (e : Fin 512)
    (he : 512 * (t.val / 8 % 2) + e.val < 1024) :
    ((cfg0.win 3).blk t).view.read (Elt Ideal) A (ix3 0 n e) =
      A (ix3 ⟨t.val / 16, hb⟩ n ⟨512 * (t.val / 8 % 2) + e, he⟩) := by
  blk_ext [idx t]

end Read

variable (m c)
variable (hA : Args q kn kr v (m ((c.tc : Thread nD τ).loc main_arg0)) (m ((c.tc : Thread nD τ).loc main_arg1))
  (m ((c.tc : Thread nD τ).loc main_arg2)) (m ((c.tc : Thread nD τ).loc main_arg3)))
include hA

/-- The blocks staged for a grid point. -/
theorem blocks (t : Fin cfg0.N) : Blocks q kn kr v (t.val / 16) (t.val / 8 % 2) (256 * (t.val % 8)) (iblk m c 0 t)
    (iblk m c 1 t) (iblk m c 2 t) (iblk m c 3 t) := by
  have ht := point_lt t
  have hb : t.val / 16 < 2 := by omega
  refine ⟨fun i e => ?_, fun n e => ?_, fun n e => ?_, fun n e => ?_⟩
  · exact (read_rows0 t hb (V m c main_arg0) i (by omega) e (by omega)).trans
      ((congrFun (V_main_arg0 m c) _).trans (hA.query _ _ _))
  · exact (read_rows1 t hb (V m c main_arg1) n e (by omega)).trans ((congrFun (V_main_arg1 m c) _).trans (hA.own _ _ _))
  · exact (read_rows2 t hb (V m c main_arg2) n e).trans ((congrFun (V_main_arg2 m c) _).trans (hA.shared _ _ _))
  · exact (read_rows3 t hb (V m c main_arg3) n e (by omega)).trans ((congrFun (V_main_arg3 m c) _).trans (hA.value _ _ _))

/-- The outputs. -/
theorem result_out : (dats m 0 c).arrAt 4 cfg0.N = fun i : S2x2048x512.Idx =>
    ((out q kn kr v (i 0) ((i 2 : ℕ) / 64) (i 1) ((i 2 : ℕ) % 64) : ℝ) : EReal) := by
  refine (dats m 0 c).arrAt_eq_of_covers 4 _ (by decide +kernel) fun t hf y => ?_
  have ht := point_lt t
  blk_simp [idx t]
  rw [after0_4]
  obtain ⟨a, i, e, rfl⟩ : ∃ (a : Fin 1) (i : Fin 256) (e : Fin 256), y = ix3 a i e := ⟨y 0, y 1, y 2, by blk_ext⟩
  obtain rfl : a = 0 := Subsingleton.elim _ _
  refine (out_block (blocks m c hA t) i e).trans ?_
  show _ = ((out q kn kr v (t.val / 16) ((t.val / 8 % 2 * 256 + e.val) / 64) (t.val % 8 * 256 + i.val)
    ((t.val / 8 % 2 * 256 + e.val) % 64) : ℝ) : EReal)
  rw [show (t.val / 8 % 2 * 256 + e.val) / 64 = 4 * (t.val / 8 % 2) + e.val / 64 by omega,
    show (t.val / 8 % 2 * 256 + e.val) % 64 = e.val % 64 by omega, Nat.mul_comm _ 256]

/-- The logarithms. -/
theorem result_log : (dats m 0 c).arrAt 5 cfg0.N = fun i : S2x8x2048x1.Idx =>
    ((lse q kn kr (i 0) (i 1) (i 2) : ℝ) : EReal) := by
  refine (dats m 0 c).arrAt_eq_of_covers 5 _ (by decide +kernel) fun t hf y => ?_
  have ht := point_lt t
  blk_simp [idx t]
  rw [after0_5]
  obtain ⟨a, u, i, z, rfl⟩ : ∃ (a : Fin 1) (u : Fin 4) (i : Fin 256) (z : Fin 1), y = ix4 a u i z :=
    ⟨y 0, y 1, y 2, y 3, by blk_ext⟩
  obtain rfl : a = 0 := Subsingleton.elim _ _
  obtain rfl : z = 0 := Subsingleton.elim _ _
  refine (log_block (blocks m c hA t) u i).trans ?_
  show _ = ((lse q kn kr (t.val / 16) (t.val / 8 % 2 * 4 + u.val) (t.val % 8 * 256 + i.val) : ℝ) : EReal)
  rw [Nat.mul_comm _ 256, Nat.mul_comm _ 4]

end Cert.Kernel28Ideal.Latent
-- ==== Proof.LatentForwardCompare.lean ====
module

public import proofs.«01_k».proof.Defs
public import proofs.«01_k».proof.Proof.Gen.Pre_mla_finite_rows
public import proofs.«01_k».proof.Proof.Compare
public import proofs.«01_k».proof.Proof.LatentForward
public import proofs.«01_k».proof.Proof.LatentSaved

/-!
# The latent attention's forward kernel computes the reference's outputs and logarithms

For arguments that hold real numbers, which is what the precondition says.
-/

@[expose] public section

noncomputable section

namespace Cert.Pre_mla_finite_rows

open Idealize.ShloMosaic Idealize.SL.Sem Cert.Gqa

instance : Subsingleton S_.Idx := ⟨fun a b => funext fun i => i.elim0⟩

/-- The precondition of the latent attention's forward call: four arrays of reals. -/
theorem real (x0 : FVec Ideal S2x2048x1024 .bf16) (x1 : FVec Ideal S2x2304x1024 .bf16) (x2 : FVec Ideal S2x2304x128 .bf16)
    (x3 : FVec Ideal S2x2304x1024 .bf16) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧
      (∀ i, ∃ r : ℝ, x3 i = (r : EReal)) := by
  have h0 := congrFun h (fun a => a.elim0)
  obtain ⟨h0, h4⟩ := both_one h0
  obtain ⟨h0, h3⟩ := both_one h0
  obtain ⟨h1, h2⟩ := both_one h0
  have key {s : Shape} (x : FVec Ideal s .bf16) (y : EReal) (hy : y = ⊤) (i : s.Idx)
      (e : Ideal.cmp .olt (max (x i : EReal) (-(x i : EReal))) y = 1#1) : ∃ r : ℝ, x i = (r : EReal) := real_of_below _ (hy ▸ e)
  exact ⟨fun i => key x0 _ ofBits_top i (Host.reduce_andi_all _ _ _ _ _ h1 i),
    fun i => key x1 _ ofBits_top i (Host.reduce_andi_all _ _ _ _ _ h2 i),
    fun i => key x2 _ ofBits_top i (Host.reduce_andi_all _ _ _ _ _ h3 i),
    fun i => key x3 _ ofBits_top i (Host.reduce_andi_all _ _ _ _ _ h4 i)⟩

end Cert.Pre_mla_finite_rows

namespace Cert.Proof

open Idealize.ShloMosaic Idealize.SL.Sem

/-- Two arrays of columns equal at every triple of coordinates. -/
theorem ext4 {n0 n1 n2 : ℕ} {α : Type} (x y : (⟨4, ![n0, n1, n2, 1]⟩ : Shape).Idx → α)
    (h : ∀ (a : Fin n0) (b : Fin n1) (c : Fin n2), x (ix4 a b c 0) = y (ix4 a b c 0)) : x = y := by
  funext i
  have e : i = ix4 (i 0) (i 1) (i 2) 0 := by
    funext a
    match a with
    | ⟨0, _⟩ => rfl
    | ⟨1, _⟩ => rfl
    | ⟨2, _⟩ => rfl
    | ⟨3, _⟩ => exact Subsingleton.elim (α := Fin 1) _ _
  rw [e]
  exact h _ _ _

set_option maxHeartbeats 1600000 in
/-- The latent attention's forward kernel computes the reference's outputs and logarithms, for real arguments. -/
theorem algebraic_latent_forward : Cert.algebraic_Kernel28Ideal_Reference28Ideal_pre_mla_finite_rows := by
  intro m g m' g' hpre hagree
  refine ⟨fun c => (Cert.Kernel28Ideal.Gen.dats m 0 c).arrAt 4 Cert.Kernel28Ideal.cfg0.N,
    fun c => (Cert.Kernel28Ideal.Gen.dats m 0 c).arrAt 5 Cert.Kernel28Ideal.cfg0.N,
    Cert.Kernel28Ideal.Value.run_blocks (F := Ideal) m g,
    (θ_run Cert.Reference28Ideal.defs _ _).mono (fun r h c => ?_) (Cert.Reference28Ideal.Value.run (F := Ideal) m' g')⟩
  obtain ⟨a0, a1, a2, a3⟩ := hagree c
  obtain ⟨r0, r1, r2, r3⟩ := Cert.Pre_mla_finite_rows.real _ _ _ _ (hpre c)
  obtain ⟨q, hq⟩ := Cert.Gqa.rows_of_real _ r0
  obtain ⟨kn, hkn⟩ := Cert.Gqa.rows_of_real _ r1
  obtain ⟨kr, hkr⟩ := Cert.Gqa.rows_of_real _ r2
  obtain ⟨v, hv⟩ := Cert.Gqa.rows_of_real _ r3
  have hA : Cert.Kernel28Ideal.Latent.Args q kn kr v (m (c.tc.loc Cert.Kernel28Ideal.main_arg0))
      (m (c.tc.loc Cert.Kernel28Ideal.main_arg1)) (m (c.tc.loc Cert.Kernel28Ideal.main_arg2))
      (m (c.tc.loc Cert.Kernel28Ideal.main_arg3)) := ⟨hq, hkn, hkr, hv⟩
  obtain ⟨h0, h1, hargs⟩ := h c
  refine ⟨h0.trans ?_, h1.trans ?_, hargs⟩
  · rw [Cert.Reference28Ideal.Read.val_main_v30_eq, a0, a1, a2, a3]
    exact (ext3 _ _ fun b i e => Cert.Reference28Ideal.Saved.saved_out q kn kr v _ _ _ _ hq hkn hkr hv b i e).trans
      (Cert.Kernel28Ideal.Latent.result_out m c hA).symm
  · refine (Cert.Reference28Ideal.Read.val_main_v36_eq _ _ _).trans ?_
    rw [a0, a1, a2]
    exact (ext4 _ _ fun b h i => Cert.Reference28Ideal.Saved.saved_lse q kn kr _ _ _ hq hkn hkr b h i).trans
      (Cert.Kernel28Ideal.Latent.result_log m c hA).symm

end Cert.Proof
-- ==== Proof.ForwardHead.lean ====
module

public import proofs.«01_k».proof.Proof.BaseTwo
public import proofs.«01_k».proof.Proof.Constants
public import proofs.«01_k».proof.Proof.Gen.Kernel2Ideal.Skeleton
public import Idealize.ShloMosaic.Lib.Pointwise

/-!
# One head of the grouped-query attention's forward block, read to the reals

A block holds 256 query rows, the first of them row `r` of the sample. The block of the context rows (`r = 0`) looks at the
first 256 keys, every other block at all 2304: section `Context` treats the first, section `Full` the second.

A head takes the scores in base 2, the powers of two less the row's largest score, and one product of the powers with the
values and, in 64 further columns, ones: the 65th column is the row's total.
-/

@[expose] public section

set_option maxRecDepth 16384

noncomputable section

namespace Cert.Gqa

variable (q k v : ℕ → ℕ → ℕ → ℝ) {b j g i N : ℕ}

/-- A row's total, over the `N` rows it sees. -/
theorem total_rows (h : i < 256 ∧ N = 256 ∨ 256 ≤ i ∧ N = 2304) :
    total q k b j g i = ∑ n : Fin N, Real.exp (score q k b j g i n * (1 / 8)) := by
  rcases h with ⟨hi, rfl⟩ | ⟨hi, rfl⟩
  · refine (sum_ctx _ fun n hn => weight_ctx q k hi hn).trans ?_
    exact Finset.sum_congr rfl fun n _ => weight_seen q k (Or.inr n.isLt)
  · exact Finset.sum_congr rfl fun n _ => weight_seen q k (Or.inl hi)

/-- A row's output, over the `N` rows it sees. -/
theorem out_rows (d : ℕ) (h : i < 256 ∧ N = 256 ∨ 256 ≤ i ∧ N = 2304) : out q k v b j g i d =
    ∑ n : Fin N, Real.exp (score q k b j g i n * (1 / 8)) / (∑ l : Fin N, Real.exp (score q k b j g i l * (1 / 8))) *
      v b n (kcol j d) := by
  rw [← total_rows q k h]
  rcases h with ⟨hi, rfl⟩ | ⟨hi, rfl⟩
  · refine (sum_ctx (fun n => prob q k b j g i n * v b n (kcol j d)) fun n hn => ?_).trans ?_
    · rw [prob_ctx q k hi hn, zero_mul]
    · exact Finset.sum_congr rfl fun n _ => by rw [prob, weight_seen q k (Or.inr n.isLt)]
  · exact Finset.sum_congr rfl fun n _ => by rw [prob, weight_seen q k (Or.inl hi)]

end Cert.Gqa

namespace Cert.Kernel2Ideal.Forward

open Idealize.ShloMosaic Idealize.ShloMosaic.TcCoe Idealize.SL.Sem
open Cert.Kernel2Ideal Cert.Kernel2Ideal.Gen Cert.Gqa

/-- The value of the kernel's named factor of the queries. -/
theorem scale_value : (Named.named κ "log2e_scale" 0x3E38AA3B#32 : Ideal .f32) = (((Real.log 2)⁻¹ * 8⁻¹ : ℝ) : EReal) :=
  IdealRules.named_const.ideal_named_scalar _ _ _ _ rfl

/-- The value of the kernel's named factor of the logarithms. -/
theorem log2e_value : (Named.named κ "log2e" 0x3FB8AA3B#32 : Ideal .f32) = (((Real.log 2)⁻¹ : ℝ) : EReal) :=
  IdealRules.named_const.ideal_named_scalar _ _ _ _ rfl

theorem ofBits_one16 : Ideal.ofBits .bf16 0x3F80#16 = ((1 : ℝ) : EReal) := by
  simp [Ideal.ofBits, Ideal.ieee, -EReal.coe_mul]
  norm_num

/-- The head's columns of the output, from its powers against the values and the ones. -/
def outTile (x : FVec Ideal S256x128 .f32) : FVec Ideal S256x64 .bf16 :=
  truncf .bf16 (divf (extractStridedSlice S256x64 ![0, 0] x slices_S256x128_o0_0_S256x64)
    (broadcastTo S256x64 (extractStridedSlice S256x1 ![0, 64] x slices_S256x128_o0_64_S256x1)
      broadcasts_S256x1_S256x64)) bitsLt_bf16_f32

/-- The head's logarithms, from its largest scores and the same product. -/
def logTile (t : FVec Ideal S256x1 .f32) (x : FVec Ideal S256x128 .f32) : FVec Ideal S1x1x256x1 .f32 :=
  shapeCast S1x1x256x1 (addf t (mulf (log (extractStridedSlice S256x1 ![0, 64] x slices_S256x128_o0_64_S256x1))
    (broadcast S256x1 (Named.named κ "log2e" 0x3FB8AA3B#32)))) shapeCasts_S256x1_S1x1x256x1

variable (q k v : ℕ → ℕ → ℕ → ℝ)

/-- What the largest scores `t` and the product `x` hold for query head (j, g), in the block of sample `b` that starts at row
`r` and sees `N` rows. -/
def Powers (b j g r N : ℕ) (t : FVec Ideal S256x1 .f32) (x : FVec Ideal S256x128 .f32) : Prop :=
  ∀ i : Fin 256, ∃ m : ℝ, t (ix2 i 0) = (m : EReal) ∧ ∀ d : Fin 128, x (ix2 i d) =
    ((∑ n : Fin N, Real.rpow 2 ((Real.log 2)⁻¹ * (score q k b j g (r + i) n * (1 / 8)) - m) *
      (if (d : ℕ) < 64 then v b n (kcol j d) else 1) : ℝ) : EReal)

variable {q k v} {b j g r : ℕ}

theorem out_at {N : ℕ} {t : FVec Ideal S256x1 .f32} {x : FVec Ideal S256x128 .f32} (h : Powers q k v b j g r N t x)
    (hN : r = 0 ∧ N = 256 ∨ 256 ≤ r ∧ N = 2304) (i : Fin 256) (d : Fin 64) :
    outTile x (ix2 i d) = ((out q k v b j g (r + i) d : ℝ) : EReal) := by
  obtain ⟨m, -, hx⟩ := h i
  have hp := Cert.BaseTwo.sum_pos (fun n : Fin N => score q k b j g (r + i) n * (1 / 8)) m (by omega)
  have he := Cert.BaseTwo.mean_eq (fun n : Fin N => score q k b j g (r + i) n * (1 / 8)) m (fun n => v b n (kcol j d))
  rw [out_rows q k v d (N := N) (by omega), ← he]
  unfold outTile
  pointwise [hx]
  rw [div_coe_coe hp.ne']

theorem log_at {N : ℕ} {t : FVec Ideal S256x1 .f32} {x : FVec Ideal S256x128 .f32} (h : Powers q k v b j g r N t x)
    (hN : r = 0 ∧ N = 256 ∨ 256 ≤ r ∧ N = 2304) (i : Fin 256) :
    logTile t x (ix4 0 0 i 0) = ((lse q k b j g (r + i) : ℝ) : EReal) := by
  obtain ⟨m, hm, hx⟩ := h i
  have hp := Cert.BaseTwo.sum_pos (fun n : Fin N => score q k b j g (r + i) n * (1 / 8)) m (by omega)
  have he := Cert.BaseTwo.log_eq (fun n : Fin N => score q k b j g (r + i) n * (1 / 8)) m (by omega)
  rw [lse, total_rows q k (N := N) (by omega), ← he]
  unfold logTile
  pointwise [hx, hm, log2e_value]
  rw [log_coe_pos hp, ← EReal.coe_mul, ← EReal.coe_add]

/-- A scaled score in base 2. -/
theorem scaled_eq (i n : ℕ) : ∑ d : Fin 64, q b i (qcol j g d) * ((Real.log 2)⁻¹ * 8⁻¹) * k b n (kcol j d) =
    (Real.log 2)⁻¹ * (score q k b j g i n * (1 / 8)) := by
  unfold score
  rw [Finset.sum_mul, Finset.mul_sum]
  exact Finset.sum_congr rfl fun d _ => by ring

/-! ## The block of the context rows -/
namespace Context

/-- The values and, beside them, ones. -/
def ones (vv : FVec Ideal S256x64 .bf16) : FVec Ideal S256x128 .bf16 :=
  concatenate S256x128 1 [⟨S256x64, vv⟩, ⟨S256x64, broadcast S256x64 (Scalar.ofBits .bf16 0x3F80#16)⟩]
    concatenates_S256x64_S256x64_S256x128_d1

/-- The scores. -/
def scores (kk : FVec Ideal S256x64 .bf16) (a : FVec Ideal S256x64 .bf16) : FVec Ideal S256x256 .f32 :=
  k0_pay1 kk (extf .f32 a bitsLt_bf16_f32) (Named.named κ "log2e_scale" 0x3E38AA3B#32)

/-- Each row's largest score. -/
def tops (kk : FVec Ideal S256x64 .bf16) (a : FVec Ideal S256x64 .bf16) : FVec Ideal S256x1 .f32 :=
  k0_pay2 kk (extf .f32 a bitsLt_bf16_f32) (Named.named κ "log2e_scale" 0x3E38AA3B#32)

/-- The powers against the values and the ones. -/
def acc (kk vv : FVec Ideal S256x64 .bf16) (a : FVec Ideal S256x64 .bf16) : FVec Ideal S256x128 .f32 :=
  k0_pay3 kk (ones vv) (extf .f32 a bitsLt_bf16_f32) (Named.named κ "log2e_scale" 0x3E38AA3B#32)

variable {kk vv : FVec Ideal S256x64 .bf16} {a : FVec Ideal S256x64 .bf16}

theorem ones_at (hv : ∀ (n : Fin 256) (d : Fin 64), vv (ix2 n d) = ((v b n (kcol j d) : ℝ) : EReal)) (n : Fin 256)
    (d : Fin 128) : ones vv (ix2 n d) = (((if (d : ℕ) < 64 then v b n (kcol j d) else 1) : ℝ) : EReal) := by
  unfold ones
  pointwise [hv, ofBits_one16]
  split_ifs <;> rfl

theorem scores_at (ha : ∀ (i : Fin 256) (d : Fin 64), a (ix2 i d) = ((q b (r + i) (qcol j g d) : ℝ) : EReal))
    (hk : ∀ (n : Fin 256) (d : Fin 64), kk (ix2 n d) = ((k b n (kcol j d) : ℝ) : EReal)) (i : Fin 256) (n : Fin 256) :
    scores kk a (ix2 i n) = (((Real.log 2)⁻¹ * (score q k b j g (r + i) n * (1 / 8)) : ℝ) : EReal) := by
  rw [← scaled_eq]
  unfold scores k0_pay1
  pointwise [ha, hk, scale_value, ← EReal.coe_mul, coe_sum]

theorem top_at (ha : ∀ (i : Fin 256) (d : Fin 64), a (ix2 i d) = ((q b (r + i) (qcol j g d) : ℝ) : EReal))
    (hk : ∀ (n : Fin 256) (d : Fin 64), kk (ix2 n d) = ((k b n (kcol j d) : ℝ) : EReal)) (i : Fin 256) :
    ∃ m : ℝ, tops kk a (ix2 i 0) = (m : EReal) := by
  have e : tops kk a = shapeCast S256x1 (multiReduction .maximumf [1] S256 (scores kk a) 0xFF800000#32 reduces_S256x256_S256
    (.inl rfl) rfl) shapeCasts_S256_S256x1 := rfl
  rw [e]
  pointwise [scores_at ha hk]
  rw [ofBits_bot]
  exact fold_max_coe (by decide) _

theorem acc_at (ha : ∀ (i : Fin 256) (d : Fin 64), a (ix2 i d) = ((q b (r + i) (qcol j g d) : ℝ) : EReal))
    (hk : ∀ (n : Fin 256) (d : Fin 64), kk (ix2 n d) = ((k b n (kcol j d) : ℝ) : EReal))
    (hv : ∀ (n : Fin 256) (d : Fin 64), vv (ix2 n d) = ((v b n (kcol j d) : ℝ) : EReal)) :
    Powers q k v b j g r 256 (tops kk a) (acc kk vv a) := by
  intro i
  obtain ⟨m, hm⟩ := top_at ha hk i
  refine ⟨m, hm, fun d => ?_⟩
  have e : acc kk vv a = matmul dot_S256x256_S256x128_S256x128_1_0_0_1_n_n none (truncf .bf16 (exp2 (subf (scores kk a)
    (broadcastTo S256x256 (tops kk a) broadcasts_S256x1_S256x256))) bitsLt_bf16_f32) (ones vv)
    (constant S256x128 .f32 0x00000000#32) := rfl
  rw [e, ← coe_sum]
  pointwise [scores_at ha hk, hm, ones_at hv]
  refine Finset.sum_congr rfl fun n _ => ?_
  rw [← EReal.coe_sub, EReal.coe_mul]
  exact congrArg₂ _ (Ideal.exp2_coe _) rfl

end Context

/-! ## Every other block -/
namespace Full

/-- The values and, beside them, ones. -/
def ones (vv : FVec Ideal S2304x64 .bf16) : FVec Ideal S2304x128 .bf16 :=
  concatenate S2304x128 1 [⟨S2304x64, vv⟩, ⟨S2304x64, broadcast S2304x64 (Scalar.ofBits .bf16 0x3F80#16)⟩]
    concatenates_S2304x64_S2304x64_S2304x128_d1

/-- The scores. -/
def scores (kk : FVec Ideal S2304x64 .bf16) (a : FVec Ideal S256x64 .bf16) : FVec Ideal S256x2304 .f32 :=
  k0_pay7 kk (extf .f32 a bitsLt_bf16_f32) (Named.named κ "log2e_scale" 0x3E38AA3B#32)

/-- Each row's largest score. -/
def tops (kk : FVec Ideal S2304x64 .bf16) (a : FVec Ideal S256x64 .bf16) : FVec Ideal S256x1 .f32 :=
  k0_pay8 kk (extf .f32 a bitsLt_bf16_f32) (Named.named κ "log2e_scale" 0x3E38AA3B#32)

/-- The powers against the values and the ones. -/
def acc (kk vv : FVec Ideal S2304x64 .bf16) (a : FVec Ideal S256x64 .bf16) : FVec Ideal S256x128 .f32 :=
  k0_pay9 kk (ones vv) (extf .f32 a bitsLt_bf16_f32) (Named.named κ "log2e_scale" 0x3E38AA3B#32)

variable {kk vv : FVec Ideal S2304x64 .bf16} {a : FVec Ideal S256x64 .bf16}

theorem ones_at (hv : ∀ (n : Fin 2304) (d : Fin 64), vv (ix2 n d) = ((v b n (kcol j d) : ℝ) : EReal)) (n : Fin 2304)
    (d : Fin 128) : ones vv (ix2 n d) = (((if (d : ℕ) < 64 then v b n (kcol j d) else 1) : ℝ) : EReal) := by
  unfold ones
  pointwise [hv, ofBits_one16]
  split_ifs <;> rfl

theorem scores_at (ha : ∀ (i : Fin 256) (d : Fin 64), a (ix2 i d) = ((q b (r + i) (qcol j g d) : ℝ) : EReal))
    (hk : ∀ (n : Fin 2304) (d : Fin 64), kk (ix2 n d) = ((k b n (kcol j d) : ℝ) : EReal)) (i : Fin 256) (n : Fin 2304) :
    scores kk a (ix2 i n) = (((Real.log 2)⁻¹ * (score q k b j g (r + i) n * (1 / 8)) : ℝ) : EReal) := by
  rw [← scaled_eq]
  unfold scores k0_pay7
  pointwise [ha, hk, scale_value, ← EReal.coe_mul, coe_sum]

theorem top_at (ha : ∀ (i : Fin 256) (d : Fin 64), a (ix2 i d) = ((q b (r + i) (qcol j g d) : ℝ) : EReal))
    (hk : ∀ (n : Fin 2304) (d : Fin 64), kk (ix2 n d) = ((k b n (kcol j d) : ℝ) : EReal)) (i : Fin 256) :
    ∃ m : ℝ, tops kk a (ix2 i 0) = (m : EReal) := by
  have e : tops kk a = shapeCast S256x1 (multiReduction .maximumf [1] S256 (scores kk a) 0xFF800000#32 reduces_S256x2304_S256
    (.inl rfl) rfl) shapeCasts_S256_S256x1 := rfl
  rw [e]
  pointwise [scores_at ha hk]
  rw [ofBits_bot]
  exact fold_max_coe (by decide) _

theorem acc_at (ha : ∀ (i : Fin 256) (d : Fin 64), a (ix2 i d) = ((q b (r + i) (qcol j g d) : ℝ) : EReal))
    (hk : ∀ (n : Fin 2304) (d : Fin 64), kk (ix2 n d) = ((k b n (kcol j d) : ℝ) : EReal))
    (hv : ∀ (n : Fin 2304) (d : Fin 64), vv (ix2 n d) = ((v b n (kcol j d) : ℝ) : EReal)) :
    Powers q k v b j g r 2304 (tops kk a) (acc kk vv a) := by
  intro i
  obtain ⟨m, hm⟩ := top_at ha hk i
  refine ⟨m, hm, fun d => ?_⟩
  have e : acc kk vv a = matmul dot_S256x2304_S2304x128_S256x128_1_0_0_1_n_n none (truncf .bf16 (exp2 (subf (scores kk a)
    (broadcastTo S256x2304 (tops kk a) broadcasts_S256x1_S256x2304))) bitsLt_bf16_f32) (ones vv)
    (constant S256x128 .f32 0x00000000#32) := rfl
  rw [e, ← coe_sum]
  pointwise [scores_at ha hk, hm, ones_at hv]
  refine Finset.sum_congr rfl fun n _ => ?_
  rw [← EReal.coe_sub, EReal.coe_mul]
  exact congrArg₂ _ (Ideal.exp2_coe _) rfl

end Full

end Cert.Kernel2Ideal.Forward
-- ==== Proof.Forward.lean ====
module

public import proofs.«01_k».proof.Proof.ForwardHead
public import proofs.«01_k».proof.Proof.Gen.Kernel2Ideal.Value
public import Idealize.ShloMosaic.Lib.Pointwise
public import Idealize.ShloMosaic.Lib.Pipeline.ValueKit

/-!
# The grouped-query attention's forward kernel, from one grid point to its results

A point holds 256 query rows of a sample, from row `r` on, and treats all eight heads. The first point of a sample sees the
context's keys and values, every other point all of them.
-/

@[expose] public section

set_option maxRecDepth 16384

noncomputable section

namespace Cert.Kernel2Ideal.Forward

open Idealize.ShloMosaic Idealize.ShloMosaic.TcCoe Idealize.SL.Sem
open Cert.Kernel2Ideal Cert.Kernel2Ideal.Gen Cert.Gqa

/-- Eight heads' columns side by side. -/
theorem heads_at (G : ℕ → ℕ → ℕ → ℕ → ℝ) (f0 f1 f2 f3 f4 f5 f6 f7 : FVec Ideal S256x64 .bf16)
    (h0 : ∀ (i : Fin 256) (d : Fin 64), f0 (ix2 i d) = ((G 0 0 i d : ℝ) : EReal))
    (h1 : ∀ (i : Fin 256) (d : Fin 64), f1 (ix2 i d) = ((G 0 1 i d : ℝ) : EReal))
    (h2 : ∀ (i : Fin 256) (d : Fin 64), f2 (ix2 i d) = ((G 0 2 i d : ℝ) : EReal))
    (h3 : ∀ (i : Fin 256) (d : Fin 64), f3 (ix2 i d) = ((G 0 3 i d : ℝ) : EReal))
    (h4 : ∀ (i : Fin 256) (d : Fin 64), f4 (ix2 i d) = ((G 1 0 i d : ℝ) : EReal))
    (h5 : ∀ (i : Fin 256) (d : Fin 64), f5 (ix2 i d) = ((G 1 1 i d : ℝ) : EReal))
    (h6 : ∀ (i : Fin 256) (d : Fin 64), f6 (ix2 i d) = ((G 1 2 i d : ℝ) : EReal))
    (h7 : ∀ (i : Fin 256) (d : Fin 64), f7 (ix2 i d) = ((G 1 3 i d : ℝ) : EReal)) (i : Fin 256) (c : Fin 512) :
    shapeCast S1x256x512 (concatenate S256x512 1 [⟨S256x64, f0⟩, ⟨S256x64, f1⟩, ⟨S256x64, f2⟩, ⟨S256x64, f3⟩, ⟨S256x64, f4⟩,
      ⟨S256x64, f5⟩, ⟨S256x64, f6⟩, ⟨S256x64, f7⟩]
      concatenates_S256x64_S256x64_S256x64_S256x64_S256x64_S256x64_S256x64_S256x64_S256x512_d1)
      shapeCasts_S256x512_S1x256x512 (ix3 0 i c) = ((G (c / 256) (c / 64 % 4) i (c % 64) : ℝ) : EReal) := by
  have hc := c.isLt
  pointwise [h0, h1, h2, h3, h4, h5, h6, h7]
  have key (j g e : ℕ) (hj : c.val / 256 = j) (hg : c.val / 64 % 4 = g) (he : c.val % 64 = e) :
      ((G j g i e : ℝ) : EReal) = ((G (c / 256) (c / 64 % 4) i (c % 64) : ℝ) : EReal) := by subst hj hg he; rfl
  split_ifs <;> exact key _ _ _ (by omega) (by omega) (by omega)

variable (q k v : ℕ → ℕ → ℕ → ℝ)

/-- One head's logarithms among all heads'. -/
theorem log_place {b r : ℕ} (j g : ℕ) (hg : g < 4) (f : FVec Ideal S1x1x256x1 .f32)
    (hf : ∀ i : Fin 256, f (ix4 0 0 i 0) = ((lse q k b j g (r + i) : ℝ) : EReal)) (h : Fin 8) (i : Fin 256)
    (x : S1x1x256x1.Idx) (hh : (h : ℕ) = 4 * j + g + (x 1 : ℕ)) (hi : (i : ℕ) = (x 2 : ℕ)) :
    f x = ((lse q k b (h / 4) (h % 4) (r + i) : ℝ) : EReal) := by
  obtain ⟨a, a', l, z, rfl⟩ : ∃ (a : Fin 1) (a' : Fin 1) (l : Fin 256) (z : Fin 1), x = ix4 a a' l z :=
    ⟨x 0, x 1, x 2, x 3, by blk_ext⟩
  obtain rfl : a = 0 := Subsingleton.elim _ _
  obtain rfl : a' = 0 := Subsingleton.elim _ _
  obtain rfl : z = 0 := Subsingleton.elim _ _
  obtain rfl : i = l := Fin.ext hi
  have hh : (h : ℕ) = 4 * j + g := hh
  rw [hf, show (h : ℕ) / 4 = j by omega, show (h : ℕ) % 4 = g by omega]

/-- What the blocks staged for the rows `r …` of sample `b` hold. -/
structure Blocks (b r : ℕ) (x0 : Vec Ideal S1x256x512 .bf16) (x1 x2 : Vec Ideal S1x2304x128 .bf16) : Prop where
  query : ∀ (i : Fin 256) (c : Fin 512), x0 (ix3 0 i c) = ((q b (r + i) c : ℝ) : EReal)
  key : ∀ (n : Fin 2304) (c : Fin 128), x1 (ix3 0 n c) = ((k b n c : ℝ) : EReal)
  value : ∀ (n : Fin 2304) (c : Fin 128), x2 (ix3 0 n c) = ((v b n c : ℝ) : EReal)

variable {q k v} {m : (ℓ : Loc nD τ sig) → Buf (Elt Ideal) ℓ} {b r : ℕ}

set_option maxHeartbeats 1600000 in
theorem out_A (c : Dev nD) (t : Fin cfg0.N) (h0 : t.val % 9 = 0) (h1 : ¬1 ≤ t.val % 9) (hr : r = 0)
    (hB : Blocks q k v b r (iblk m c 0 t) (iblk m c 1 t) (iblk m c 2 t)) (i : Fin 256) (e : Fin 512) :
    (outsAt0 m c t.val t.isLt).1 (ix3 0 i e) = ((out q k v b (e / 256) (e / 64 % 4) (r + i) (e % 64) : ℝ) : EReal) := by
  rw [outsAt0_A m c t h0 h1]
  frame_out
  refine heads_at (fun j g i d => out q k v b j g (r + i) d) _ _ _ _ _ _ _ _ ?_ ?_ ?_ ?_ ?_ ?_ ?_ ?_ i e
  all_goals
    intro i d
    refine out_at (Context.acc_at ?_ ?_ ?_) (Or.inl ⟨hr, rfl⟩) i d
  all_goals
    intros
    pointwise [k0_pay13, k0_pay14, k0_pay15, k0_pay43, hB.query, hB.key, hB.value]
  all_goals
    congr 2 <;> (try simp only [qcol, kcol]) <;> omega

set_option maxHeartbeats 1600000 in
theorem out_B (c : Dev nD) (t : Fin cfg0.N) (h0 : ¬t.val % 9 = 0) (h1 : 1 ≤ t.val % 9) (hr : 256 ≤ r)
    (hB : Blocks q k v b r (iblk m c 0 t) (iblk m c 1 t) (iblk m c 2 t)) (i : Fin 256) (e : Fin 512) :
    (outsAt0 m c t.val t.isLt).1 (ix3 0 i e) = ((out q k v b (e / 256) (e / 64 % 4) (r + i) (e % 64) : ℝ) : EReal) := by
  rw [outsAt0_B m c t h0 h1]
  frame_out
  refine heads_at (fun j g i d => out q k v b j g (r + i) d) _ _ _ _ _ _ _ _ ?_ ?_ ?_ ?_ ?_ ?_ ?_ ?_ i e
  all_goals
    intro i d
    refine out_at (Full.acc_at ?_ ?_ ?_) (Or.inr ⟨hr, rfl⟩) i d
  all_goals
    intros
    pointwise [k0_pay65, k0_pay66, k0_pay67, k0_pay95, hB.query, hB.key, hB.value]
  all_goals
    congr 2 <;> (try simp only [qcol, kcol]) <;> omega

set_option maxHeartbeats 1600000 in
theorem log_A (c : Dev nD) (t : Fin cfg0.N) (h0 : t.val % 9 = 0) (h1 : ¬1 ≤ t.val % 9) (hr : r = 0)
    (hB : Blocks q k v b r (iblk m c 0 t) (iblk m c 1 t) (iblk m c 2 t)) (h : Fin 8) (i : Fin 256) :
    (outsAt0 m c t.val t.isLt).2 (ix4 0 h i 0) = ((lse q k b (h / 4) (h % 4) (r + i) : ℝ) : EReal) := by
  rw [outsAt0_A m c t h0 h1]
  frame_out
  canon_tiles x hx
  on_goal 1 => refine log_place q k 1 3 (by decide) _ ?_ h i x hx1 hx2
  on_goal 2 => refine log_place q k 1 2 (by decide) _ ?_ h i x hx1 hx2
  on_goal 3 => refine log_place q k 1 1 (by decide) _ ?_ h i x hx1 hx2
  on_goal 4 => refine log_place q k 1 0 (by decide) _ ?_ h i x hx1 hx2
  on_goal 5 => refine log_place q k 0 3 (by decide) _ ?_ h i x hx1 hx2
  on_goal 6 => refine log_place q k 0 2 (by decide) _ ?_ h i x hx1 hx2
  on_goal 7 => refine log_place q k 0 1 (by decide) _ ?_ h i x hx1 hx2
  on_goal 8 => refine log_place q k 0 0 (by decide) _ ?_ h i x (hx1.trans (Nat.zero_add _).symm) hx2
  all_goals
    intro l
    refine log_at (v := v) (Context.acc_at ?_ ?_ ?_) (Or.inl ⟨hr, rfl⟩) l
  all_goals
    intros
    pointwise [k0_pay13, k0_pay14, k0_pay15, k0_pay16, k0_pay23, k0_pay43, k0_pay44, k0_pay64, hB.query, hB.key, hB.value]
  all_goals
    congr 2 <;> (try simp only [qcol, kcol]) <;> omega

set_option maxHeartbeats 1600000 in
theorem log_B (c : Dev nD) (t : Fin cfg0.N) (h0 : ¬t.val % 9 = 0) (h1 : 1 ≤ t.val % 9) (hr : 256 ≤ r)
    (hB : Blocks q k v b r (iblk m c 0 t) (iblk m c 1 t) (iblk m c 2 t)) (h : Fin 8) (i : Fin 256) :
    (outsAt0 m c t.val t.isLt).2 (ix4 0 h i 0) = ((lse q k b (h / 4) (h % 4) (r + i) : ℝ) : EReal) := by
  rw [outsAt0_B m c t h0 h1]
  frame_out
  canon_tiles x hx
  on_goal 1 => refine log_place q k 1 3 (by decide) _ ?_ h i x hx1 hx2
  on_goal 2 => refine log_place q k 1 2 (by decide) _ ?_ h i x hx1 hx2
  on_goal 3 => refine log_place q k 1 1 (by decide) _ ?_ h i x hx1 hx2
  on_goal 4 => refine log_place q k 1 0 (by decide) _ ?_ h i x hx1 hx2
  on_goal 5 => refine log_place q k 0 3 (by decide) _ ?_ h i x hx1 hx2
  on_goal 6 => refine log_place q k 0 2 (by decide) _ ?_ h i x hx1 hx2
  on_goal 7 => refine log_place q k 0 1 (by decide) _ ?_ h i x hx1 hx2
  on_goal 8 => refine log_place q k 0 0 (by decide) _ ?_ h i x (hx1.trans (Nat.zero_add _).symm) hx2
  all_goals
    intro l
    refine log_at (v := v) (Full.acc_at ?_ ?_ ?_) (Or.inr ⟨hr, rfl⟩) l
  all_goals
    intros
    pointwise [k0_pay65, k0_pay66, k0_pay67, k0_pay68, k0_pay75, k0_pay95, k0_pay96, k0_pay116, hB.query, hB.key, hB.value]
  all_goals
    congr 2 <;> (try simp only [qcol, kcol]) <;> omega

/-! ## The result arrays -/

/-- Every window's block index, as numbers. -/
theorem idx : ∀ t : Fin cfg0.N, win0_0.index t = ![t.val / 9, t.val % 9, 0]
    ∧ win0_1.index t = ![t.val / 9, 0, 0]
    ∧ win0_2.index t = ![t.val / 9, 0, 0]
    ∧ win0_3.index t = ![t.val / 9, t.val % 9, 0]
    ∧ win0_4.index t = ![t.val / 9, 0, t.val % 9, 0] := by
  decide +kernel

theorem point_lt (t : Fin cfg0.N) : t.val < 18 := Gen.N_0 ▸ t.isLt

/-- What the arguments hold. -/
structure Args (q k v : ℕ → ℕ → ℕ → ℝ) (x0 : Vec Ideal S2x2304x512 .bf16) (x1 x2 : Vec Ideal S2x2304x128 .bf16) : Prop where
  query : ∀ (b : Fin 2) (i : Fin 2304) (e : Fin 512), x0 (ix3 b i e) = ((q b i e : ℝ) : EReal)
  key : ∀ (b : Fin 2) (i : Fin 2304) (e : Fin 128), x1 (ix3 b i e) = ((k b i e : ℝ) : EReal)
  value : ∀ (b : Fin 2) (i : Fin 2304) (e : Fin 128), x2 (ix3 b i e) = ((v b i e : ℝ) : EReal)

variable {c : Dev nD}

section Read

variable (t : Fin cfg0.N) (hb : t.val / 9 < 2)

/-- Window 0's block of an array. -/
theorem read_rows0 (A : Buf (Elt Ideal) ((c.tc : Thread nD τ).loc main_arg0)) (i : Fin 256)
    (hi : 256 * (t.val % 9) + i.val < 2304) (e : Fin 512) :
    ((cfg0.win 0).blk t).view.read (Elt Ideal) A (ix3 0 i e) =
      A (ix3 ⟨t.val / 9, hb⟩ ⟨256 * (t.val % 9) + i, hi⟩ e) := by
  blk_ext [idx t]

/-- Window 1's block of an array. -/
theorem read_rows1 (A : Buf (Elt Ideal) ((c.tc : Thread nD τ).loc main_arg1)) (n : Fin 2304) (e : Fin 128) :
    ((cfg0.win 1).blk t).view.read (Elt Ideal) A (ix3 0 n e) = A (ix3 ⟨t.val / 9, hb⟩ n e) := by
  blk_ext [idx t]

/-- Window 2's block of an array. -/
theorem read_rows2 (A : Buf (Elt Ideal) ((c.tc : Thread nD τ).loc main_arg2)) (n : Fin 2304) (e : Fin 128) :
    ((cfg0.win 2).blk t).view.read (Elt Ideal) A (ix3 0 n e) = A (ix3 ⟨t.val / 9, hb⟩ n e) := by
  blk_ext [idx t]

end Read

variable (m c)
variable (hA : Args q k v (m ((c.tc : Thread nD τ).loc main_arg0)) (m ((c.tc : Thread nD τ).loc main_arg1))
  (m ((c.tc : Thread nD τ).loc main_arg2)))
include hA

/-- The blocks staged for a grid point. -/
theorem blocks (t : Fin cfg0.N) : Blocks q k v (t.val / 9) (256 * (t.val % 9)) (iblk m c 0 t) (iblk m c 1 t)
    (iblk m c 2 t) := by
  have ht := point_lt t
  have hb : t.val / 9 < 2 := by omega
  refine ⟨fun i e => ?_, fun n e => ?_, fun n e => ?_⟩
  · exact (read_rows0 t hb (V m c main_arg0) i (by omega) e).trans
      ((congrFun (V_main_arg0 m c) _).trans (hA.query _ _ _))
  · exact (read_rows1 t hb (V m c main_arg1) n e).trans ((congrFun (V_main_arg1 m c) _).trans (hA.key _ _ _))
  · exact (read_rows2 t hb (V m c main_arg2) n e).trans ((congrFun (V_main_arg2 m c) _).trans (hA.value _ _ _))

/-- The outputs of a grid point. -/
theorem out_block (t : Fin cfg0.N) (i : Fin 256) (e : Fin 512) : (outsAt0 m c t.val t.isLt).1 (ix3 0 i e) =
    ((out q k v (t.val / 9) (e / 256) (e / 64 % 4) (256 * (t.val % 9) + i) (e % 64) : ℝ) : EReal) := by
  by_cases h0 : t.val % 9 = 0
  · exact out_A c t h0 (by omega) (by omega) (blocks m c hA t) i e
  · exact out_B c t h0 (by omega) (by omega) (blocks m c hA t) i e

/-- The logarithms of a grid point. -/
theorem log_block (t : Fin cfg0.N) (h : Fin 8) (i : Fin 256) : (outsAt0 m c t.val t.isLt).2 (ix4 0 h i 0) =
    ((lse q k (t.val / 9) (h / 4) (h % 4) (256 * (t.val % 9) + i) : ℝ) : EReal) := by
  by_cases h0 : t.val % 9 = 0
  · exact log_A c t h0 (by omega) (by omega) (blocks m c hA t) h i
  · exact log_B c t h0 (by omega) (by omega) (blocks m c hA t) h i

/-- The outputs. -/
theorem result_out : (dats m 0 c).arrAt 3 cfg0.N = fun i : S2x2304x512.Idx =>
    ((out q k v (i 0) ((i 2 : ℕ) / 256) ((i 2 : ℕ) / 64 % 4) (i 1) ((i 2 : ℕ) % 64) : ℝ) : EReal) := by
  refine (dats m 0 c).arrAt_eq_of_covers 3 _ (by decide +kernel) fun t hf y => ?_
  blk_simp [idx t]
  rw [after0_3]
  obtain ⟨a, i, e, rfl⟩ : ∃ (a : Fin 1) (i : Fin 256) (e : Fin 512), y = ix3 a i e := ⟨y 0, y 1, y 2, by blk_ext⟩
  obtain rfl : a = 0 := Subsingleton.elim _ _
  refine (out_block m c hA t i e).trans ?_
  show _ = ((out q k v (t.val / 9) (e.val / 256) (e.val / 64 % 4) (t.val % 9 * 256 + i.val) (e.val % 64) : ℝ) : EReal)
  rw [Nat.mul_comm _ 256]

/-- The logarithms. -/
theorem result_log : (dats m 0 c).arrAt 4 cfg0.N = fun i : S2x8x2304x1.Idx =>
    ((lse q k (i 0) ((i 1 : ℕ) / 4) ((i 1 : ℕ) % 4) (i 2) : ℝ) : EReal) := by
  refine (dats m 0 c).arrAt_eq_of_covers 4 _ (by decide +kernel) fun t hf y => ?_
  blk_simp [idx t]
  rw [after0_4]
  obtain ⟨a, h, i, z, rfl⟩ : ∃ (a : Fin 1) (h : Fin 8) (i : Fin 256) (z : Fin 1), y = ix4 a h i z :=
    ⟨y 0, y 1, y 2, y 3, by blk_ext⟩
  obtain rfl : a = 0 := Subsingleton.elim _ _
  obtain rfl : z = 0 := Subsingleton.elim _ _
  refine (log_block m c hA t h i).trans ?_
  show _ = ((lse q k (t.val / 9) (h.val / 4) (h.val % 4) (t.val % 9 * 256 + i.val) : ℝ) : EReal)
  rw [Nat.mul_comm _ 256]

end Cert.Kernel2Ideal.Forward
-- ==== Proof.ForwardCompare.lean ====
module

public import proofs.«01_k».proof.Defs
public import proofs.«01_k».proof.Proof.Gen.Pre_finite_qkv
public import proofs.«01_k».proof.Proof.LatentForwardCompare
public import proofs.«01_k».proof.Proof.Forward

/-!
# The grouped-query attention's forward kernel computes the reference's outputs and logarithms

For arguments that hold real numbers, which is what the precondition says.
-/

@[expose] public section

noncomputable section

namespace Cert.Pre_finite_qkv

open Idealize.ShloMosaic Idealize.SL.Sem Cert.Gqa

instance : Subsingleton S_.Idx := ⟨fun a b => funext fun i => i.elim0⟩

/-- The precondition of the forward call: three arrays of reals. -/
theorem real (x0 : FVec Ideal S2x2304x512 .bf16) (x1 x2 : FVec Ideal S2x2304x128 .bf16)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  obtain ⟨h0, h3⟩ := both_one h0
  obtain ⟨h1, h2⟩ := both_one h0
  have key {s : Shape} (x : FVec Ideal s .bf16) (y : EReal) (hy : y = ⊤) (i : s.Idx)
      (e : Ideal.cmp .olt (max (x i : EReal) (-(x i : EReal))) y = 1#1) : ∃ r : ℝ, x i = (r : EReal) := real_of_below _ (hy ▸ e)
  exact ⟨fun i => key x0 _ ofBits_top i (Host.reduce_andi_all _ _ _ _ _ h1 i),
    fun i => key x1 _ ofBits_top i (Host.reduce_andi_all _ _ _ _ _ h2 i),
    fun i => key x2 _ ofBits_top i (Host.reduce_andi_all _ _ _ _ _ h3 i)⟩

end Cert.Pre_finite_qkv

namespace Cert.Proof

open Idealize.ShloMosaic Idealize.SL.Sem

set_option maxHeartbeats 1600000 in
/-- The grouped-query attention's forward kernel computes the reference's outputs and logarithms, for real arguments. -/
theorem algebraic_forward : Cert.algebraic_Kernel2Ideal_Reference2Ideal_pre_finite_qkv := by
  intro m g m' g' hpre hagree
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    Cert.Kernel2Ideal.Value.run_blocks (F := Ideal) m g,
    (θ_run Cert.Reference2Ideal.defs _ _).mono (fun r h c => ?_) (Cert.Reference2Ideal.Value.run (F := Ideal) m' g')⟩
  obtain ⟨a0, a1, a2⟩ := hagree c
  obtain ⟨r0, r1, r2⟩ := Cert.Pre_finite_qkv.real _ _ _ (hpre c)
  obtain ⟨q, hq⟩ := Cert.Gqa.rows_of_real _ r0
  obtain ⟨k, hk⟩ := Cert.Gqa.rows_of_real _ r1
  obtain ⟨v, hv⟩ := Cert.Gqa.rows_of_real _ r2
  have hA : Cert.Kernel2Ideal.Forward.Args q k v (m (c.tc.loc Cert.Kernel2Ideal.main_arg0))
      (m (c.tc.loc Cert.Kernel2Ideal.main_arg1)) (m (c.tc.loc Cert.Kernel2Ideal.main_arg2)) := ⟨hq, hk, hv⟩
  obtain ⟨h0, h1, hargs⟩ := h c
  refine ⟨h0.trans ?_, h1.trans ?_, hargs⟩
  · rw [Cert.Reference2Ideal.Read.val_main_v51_eq, a0, a1, a2]
    exact (ext3 _ _ fun b i e => Cert.Reference2Ideal.Saved.saved_out q k v _ _ _ hq hk hv b i e).trans
      (Cert.Kernel2Ideal.Forward.result_out m c hA).symm
  · refine (Cert.Reference2Ideal.Read.val_main_v49_eq _ _).trans ?_
    rw [a0, a1]
    exact (ext4 _ _ fun b h i => Cert.Reference2Ideal.Saved.saved_lse q k _ _ hq hk b h i).trans
      (Cert.Kernel2Ideal.Forward.result_log m c hA).symm

end Cert.Proof
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Read
public import proofs.«01_k».proof.Proof.Gen.KernelIdeal.Value
public import Idealize.ShloMosaic.Adequacy
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Read
public import proofs.«01_k».proof.Proof.Mlp0
public import proofs.«01_k».proof.Proof.Mlp1
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Read
public import proofs.«01_k».proof.Proof.Mix0
public import proofs.«01_k».proof.Proof.Mix1
public import proofs.«01_k».proof.Proof.Gen.Pre_finite
public import proofs.«01_k».proof.Proof.Gen.Pre_finite_qkv
public import proofs.«01_k».proof.Proof.Gen.Pre_mla_finite
public import proofs.«01_k».proof.Proof.Gen.Pre_mla_finite_rows
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Value
public import proofs.«01_k».proof.Proof.Gen.Reference35Ideal
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Value
public import proofs.«01_k».proof.Proof.Gen.Reference36Ideal
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Value
public import proofs.«01_k».proof.Proof.Gen.Reference37Ideal
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Value
public import proofs.«01_k».proof.Proof.Gen.Reference38Ideal
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Value
public import proofs.«01_k».proof.Proof.Gen.Reference39Ideal
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Value
public import proofs.«01_k».proof.Proof.Gen.Reference40Ideal
public import proofs.«01_k».proof.Proof.Gen.Reference40Ideal.Read
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Value
public import proofs.«01_k».proof.Proof.Gen.Reference41Ideal
public import proofs.«01_k».proof.Proof.Gen.Reference41Ideal.Read
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Value
public import proofs.«01_k».proof.Proof.Gen.Reference42Ideal
public import proofs.«01_k».proof.Proof.Gen.Reference42Ideal.Read
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Value
public import proofs.«01_k».proof.Proof.Gen.Reference43Ideal
public import proofs.«01_k».proof.Proof.Gen.Reference43Ideal.Read
public import proofs.«01_k».proof.Proof.Gen.Kernel44
public import proofs.«01_k».proof.Proof.Gen.Kernel44.Frame
public import proofs.«01_k».proof.Proof.Gen.Kernel44Ideal
public import proofs.«01_k».proof.Proof.Gen.Kernel44Ideal.Value
public import proofs.«01_k».proof.Proof.Gen.Reference44Ideal
public import proofs.«01_k».proof.Proof.Gen.Reference44Ideal.Read
public import proofs.«01_k».proof.Proof.Gen.Kernel45
public import proofs.«01_k».proof.Proof.Gen.Kernel45.Frame
public import proofs.«01_k».proof.Proof.Gen.Kernel45Ideal
public import proofs.«01_k».proof.Proof.Gen.Kernel45Ideal.Value
public import proofs.«01_k».proof.Proof.Gen.Reference45Ideal
public import proofs.«01_k».proof.Proof.Gen.Reference45Ideal.Read
public import proofs.«01_k».proof.Proof.Gen.Kernel46
public import proofs.«01_k».proof.Proof.Gen.Kernel46.Frame
public import proofs.«01_k».proof.Proof.Gen.Kernel46Ideal
public import proofs.«01_k».proof.Proof.Gen.Kernel46Ideal.Value
public import proofs.«01_k».proof.Proof.Gen.Reference46Ideal
public import proofs.«01_k».proof.Proof.Gen.Reference46Ideal.Read
public import proofs.«01_k».proof.Proof.Gen.Kernel47
public import proofs.«01_k».proof.Proof.Gen.Kernel47.Frame
public import proofs.«01_k».proof.Proof.Gen.Kernel47Ideal
public import proofs.«01_k».proof.Proof.Gen.Kernel47Ideal.Value
public import proofs.«01_k».proof.Proof.Gen.Reference47Ideal
public import proofs.«01_k».proof.Proof.Gen.Reference47Ideal.Read
public import proofs.«01_k».proof.Proof.Gen.Kernel48
public import proofs.«01_k».proof.Proof.Gen.Kernel48.Frame
public import proofs.«01_k».proof.Proof.Gen.Kernel48Ideal
public import proofs.«01_k».proof.Proof.Gen.Kernel48Ideal.Value
public import proofs.«01_k».proof.Proof.Gen.Reference48Ideal
public import proofs.«01_k».proof.Proof.Gen.Reference48Ideal.Read
public import proofs.«01_k».proof.Proof.Gen.Kernel49
public import proofs.«01_k».proof.Proof.Gen.Kernel49.Frame
public import proofs.«01_k».proof.Proof.Gen.Kernel49Ideal
public import proofs.«01_k».proof.Proof.Gen.Kernel49Ideal.Value
public import proofs.«01_k».proof.Proof.Gen.Reference49Ideal
public import proofs.«01_k».proof.Proof.Gen.Reference49Ideal.Read
public import proofs.«01_k».proof.Proof.Gen.Kernel50
public import proofs.«01_k».proof.Proof.Gen.Kernel50.Frame
public import proofs.«01_k».proof.Proof.Gen.Kernel50Ideal
public import proofs.«01_k».proof.Proof.Gen.Kernel50Ideal.Value
public import proofs.«01_k».proof.Proof.Gen.Reference50Ideal
public import proofs.«01_k».proof.Proof.Gen.Reference50Ideal.Read
public import proofs.«01_k».proof.Proof.Gen.Kernel51
public import proofs.«01_k».proof.Proof.Gen.Kernel51.Frame
public import proofs.«01_k».proof.Proof.Gen.Kernel51Ideal
public import proofs.«01_k».proof.Proof.Gen.Kernel51Ideal.Value
public import proofs.«01_k».proof.Proof.Gen.Reference51Ideal
public import proofs.«01_k».proof.Proof.Gen.Reference51Ideal.Read
public import proofs.«01_k».proof.Proof.Gen.Kernel52
public import proofs.«01_k».proof.Proof.Gen.Kernel52.Frame
public import proofs.«01_k».proof.Proof.Gen.Kernel52Ideal
public import proofs.«01_k».proof.Proof.Gen.Kernel52Ideal.Value
public import proofs.«01_k».proof.Proof.Gen.Reference52Ideal
public import proofs.«01_k».proof.Proof.Gen.Reference52Ideal.Read
public import proofs.«01_k».proof.Proof.Gen.Kernel53
public import proofs.«01_k».proof.Proof.Gen.Kernel53.Frame
public import proofs.«01_k».proof.Proof.Gen.Kernel53Ideal
public import proofs.«01_k».proof.Proof.Gen.Kernel53Ideal.Value
public import proofs.«01_k».proof.Proof.Gen.Reference53Ideal
public import proofs.«01_k».proof.Proof.Gen.Reference53Ideal.Read
public import proofs.«01_k».proof.Proof.Gen.Kernel54
public import proofs.«01_k».proof.Proof.Gen.Kernel54.Frame
public import proofs.«01_k».proof.Proof.Gen.Kernel54Ideal
public import proofs.«01_k».proof.Proof.Gen.Kernel54Ideal.Value
public import proofs.«01_k».proof.Proof.Gen.Reference54Ideal
public import proofs.«01_k».proof.Proof.Gen.Reference54Ideal.Read
public import proofs.«01_k».proof.Proof.Compare
public import proofs.«01_k».proof.Proof.Expand
public import proofs.«01_k».proof.Proof.LatentCompare
public import proofs.«01_k».proof.Proof.StepFirst
public import proofs.«01_k».proof.Proof.StepSecond
public import proofs.«01_k».proof.Proof.ConvForward
public import proofs.«01_k».proof.Proof.ConvBackward
public import proofs.«01_k».proof.Proof.LatentForwardCompare
public import proofs.«01_k».proof.Proof.ForwardCompare
public import Idealize.ShloMosaic.Init
public import Idealize.ShloMosaic.Lib.Claim

@[expose] public section

noncomputable section

namespace Cert.Proof

open Idealize.ShloMosaic Idealize.SL.Sem Cert.Kernel

theorem preserves_backward : Cert.preserves_Kernel_KernelIdeal :=
  ⟨IdealRules.named_const.statement Cert.KernelIdeal.κ "log2e_scale" .f32 0x3E38AA3B#32 _ rfl,
    IdealRules.named_const.statement Cert.KernelIdeal.κ "ln2" .f32 0x3F317218#32 _ rfl⟩

theorem preserves_forward : Cert.preserves_Kernel2_Kernel2Ideal :=
  ⟨IdealRules.named_const.statement Cert.Kernel2Ideal.κ "log2e_scale" .f32 0x3E38AA3B#32 _ rfl,
    IdealRules.named_const.statement Cert.Kernel2Ideal.κ "log2e" .f32 0x3FB8AA3B#32 _ rfl⟩

theorem frame_gradients : Cert.quiescent_ReferenceIdeal := fun m g _ =>
  (θ_run Cert.ReferenceIdeal.defs _ _).mono (fun _ h => ⟨fun c => ⟨(h c).2.2.2.1, (h c).2.2.2.2.1, (h c).2.2.2.2.2.1, (h c).2.2.2.2.2.2⟩, funext fun s => match s with
    | ⟨_, .reg x⟩ => x.elim0
    | ⟨_, .dma x⟩ => x.elim0⟩) (Cert.ReferenceIdeal.Value.run (F := Ideal) m g)

theorem frame_saved : Cert.quiescent_Reference2Ideal := fun m g _ =>
  (θ_run Cert.Reference2Ideal.defs _ _).mono (fun _ h => ⟨fun c => ⟨(h c).2.2.1, (h c).2.2.2.1, (h c).2.2.2.2⟩, funext fun s => match s with
    | ⟨_, .reg x⟩ => x.elim0
    | ⟨_, .dma x⟩ => x.elim0⟩) (Cert.Reference2Ideal.Value.run (F := Ideal) m g)

theorem preserves_latent : Cert.preserves_Kernel27_Kernel27Ideal :=
  ⟨IdealRules.named_const.statement Cert.Kernel27Ideal.κ "log2e_scale96" .f32 0x3E16C740#32 _ rfl,
    IdealRules.named_const.statement Cert.Kernel27Ideal.κ "ln2" .f32 0x3F317218#32 _ rfl⟩

theorem preserves_latent_forward : Cert.preserves_Kernel28_Kernel28Ideal :=
  ⟨IdealRules.named_const.statement Cert.Kernel28Ideal.κ "log2e_scale96" .f32 0x3E16C740#32 _ rfl,
    IdealRules.named_const.statement Cert.Kernel28Ideal.κ "log2e" .f32 0x3FB8AA3B#32 _ rfl⟩

theorem frame_latent_gradients : Cert.quiescent_Reference27Ideal := fun m g _ =>
  (θ_run Cert.Reference27Ideal.defs _ _).mono (fun _ h => ⟨fun c => (h c).2.2.2.2, funext fun s => match s with
    | ⟨_, .reg x⟩ => x.elim0
    | ⟨_, .dma x⟩ => x.elim0⟩) (Cert.Reference27Ideal.Value.run (F := Ideal) m g)

theorem frame_latent_saved : Cert.quiescent_Reference28Ideal := fun m g _ =>
  (θ_run Cert.Reference28Ideal.defs _ _).mono (fun _ h => ⟨fun c => (h c).2.2, funext fun s => match s with
    | ⟨_, .reg x⟩ => x.elim0
    | ⟨_, .dma x⟩ => x.elim0⟩) (Cert.Reference28Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, Cert.Kernel49.Gen.facts, Cert.Kernel49Ideal.Gen.facts, Cert.Reference49Ideal.Gen.facts, Cert.Kernel50.Gen.facts, Cert.Kernel50Ideal.Gen.facts, Cert.Reference50Ideal.Gen.facts, Cert.Kernel51.Gen.facts, Cert.Kernel51Ideal.Gen.facts, Cert.Reference51Ideal.Gen.facts, Cert.Kernel52.Gen.facts, Cert.Kernel52Ideal.Gen.facts, Cert.Reference52Ideal.Gen.facts, Cert.Kernel53.Gen.facts, Cert.Kernel53Ideal.Gen.facts, Cert.Reference53Ideal.Gen.facts, Cert.Kernel54.Gen.facts, Cert.Kernel54Ideal.Gen.facts, Cert.Reference54Ideal.Gen.facts, Cert.Pre_finite.Gen.facts, Cert.Pre_finite_qkv.Gen.facts, Cert.Pre_mla_finite.Gen.facts, Cert.Pre_mla_finite_rows.Gen.facts,
    fun m g _ => Cert.Kernel.Gen.frame m g, fun m g _ => Cert.KernelIdeal.Gen.frame m g, fun m g _ => Cert.KernelIdeal.Gen.frame m g,
    fun m g _ => frame_gradients m g trivial, fun m g _ => frame_gradients m g trivial,
    fun m g _ => Cert.Kernel2.Gen.frame m g, fun m g _ => Cert.Kernel2Ideal.Gen.frame m g, fun m g _ => Cert.Kernel2Ideal.Gen.frame m g,
    fun m g _ => frame_saved m g trivial, fun m g _ => frame_saved m g trivial,
    fun m g _ => Cert.Kernel3.Gen.frame m g, fun m g _ => Cert.Kernel3Ideal.Gen.frame m g, Cert.Kernel3Ideal.Product.frame_reference,
    fun m g _ => Cert.Kernel4.Gen.frame m g, fun m g _ => Cert.Kernel4Ideal.Gen.frame m g, Cert.Kernel4Ideal.Product.frame_reference,
    fun m g _ => Cert.Kernel5.Gen.frame m g, fun m g _ => Cert.Kernel5Ideal.Gen.frame m g, Cert.Kernel5Ideal.Product.frame_reference,
    fun m g _ => Cert.Kernel6.Gen.frame m g, fun m g _ => Cert.Kernel6Ideal.Gen.frame m g, Cert.Kernel6Ideal.Product.frame_reference,
    fun m g _ => Cert.Kernel7.Gen.frame m g, fun m g _ => Cert.Kernel7Ideal.Gen.frame m g, Cert.Kernel7Ideal.Product.frame_reference,
    fun m g _ => Cert.Kernel8.Gen.frame m g, fun m g _ => Cert.Kernel8Ideal.Gen.frame m g, Cert.Kernel8Ideal.Product.frame_reference,
    fun m g _ => Cert.Kernel9.Gen.frame m g, fun m g _ => Cert.Kernel9Ideal.Gen.frame m g, Cert.Kernel9Ideal.Product.frame_reference,
    fun m g _ => Cert.Kernel10.Gen.frame m g, fun m g _ => Cert.Kernel10Ideal.Gen.frame m g, Cert.Kernel10Ideal.Product.frame_reference,
    fun m g _ => Cert.Kernel11.Gen.frame m g, fun m g _ => Cert.Kernel11Ideal.Gen.frame m g, Cert.Kernel11Ideal.Product.frame_reference,
    fun m g _ => Cert.Kernel12.Gen.frame m g, fun m g _ => Cert.Kernel12Ideal.Gen.frame m g, Cert.Kernel12Ideal.Product.frame_reference,
    fun m g _ => Cert.Kernel13.Gen.frame m g, fun m g _ => Cert.Kernel13Ideal.Gen.frame m g, Cert.Kernel13Ideal.Product.frame_reference,
    fun m g _ => Cert.Kernel14.Gen.frame m g, fun m g _ => Cert.Kernel14Ideal.Gen.frame m g, Cert.Kernel14Ideal.Product.frame_reference,
    fun m g _ => Cert.Kernel15.Gen.frame m g, fun m g _ => Cert.Kernel15Ideal.Gen.frame m g, Cert.Kernel15Ideal.Product.frame_reference,
    fun m g _ => Cert.Kernel16.Gen.frame m g, fun m g _ => Cert.Kernel16Ideal.Gen.frame m g, Cert.Kernel16Ideal.Product.frame_reference,
    fun m g _ => Cert.Kernel17.Gen.frame m g, fun m g _ => Cert.Kernel17Ideal.Gen.frame m g, Cert.Kernel17Ideal.Product.frame_reference,
    fun m g _ => Cert.Kernel18.Gen.frame m g, fun m g _ => Cert.Kernel18Ideal.Gen.frame m g, Cert.Kernel18Ideal.Product.frame_reference,
    fun m g _ => Cert.Kernel19.Gen.frame m g, fun m g _ => Cert.Kernel19Ideal.Gen.frame m g, Cert.Kernel19Ideal.Product.frame_reference,
    fun m g _ => Cert.Kernel20.Gen.frame m g, fun m g _ => Cert.Kernel20Ideal.Gen.frame m g, Cert.Kernel20Ideal.Product.frame_reference,
    fun m g _ => Cert.Kernel21.Gen.frame m g, fun m g _ => Cert.Kernel21Ideal.Gen.frame m g, Cert.Kernel21Ideal.Product.frame_reference,
    fun m g _ => Cert.Kernel22.Gen.frame m g, fun m g _ => Cert.Kernel22Ideal.Gen.frame m g, Cert.Kernel22Ideal.Product.frame_reference,
    fun m g _ => Cert.Kernel23.Gen.frame m g, fun m g _ => Cert.Kernel23Ideal.Gen.frame m g, Cert.Kernel23Ideal.Product.frame_reference,
    fun m g _ => Cert.Kernel24.Gen.frame m g, fun m g _ => Cert.Kernel24Ideal.Gen.frame m g, Cert.Kernel24Ideal.Product.frame_reference,
    fun m g _ => Cert.Kernel25.Gen.frame m g, fun m g _ => Cert.Kernel25Ideal.Gen.frame m g, Cert.Kernel25Ideal.Product.frame_reference,
    fun m g _ => Cert.Kernel26.Gen.frame m g, fun m g _ => Cert.Kernel26Ideal.Gen.frame m g, Cert.Kernel26Ideal.Product.frame_reference,
    fun m g _ => Cert.Kernel27.Gen.frame m g, fun m g _ => Cert.Kernel27Ideal.Gen.frame m g, fun m g _ => Cert.Kernel27Ideal.Gen.frame m g,
    fun m g _ => frame_latent_gradients m g trivial, fun m g _ => frame_latent_gradients m g trivial,
    fun m g _ => Cert.Kernel28.Gen.frame m g, fun m g _ => Cert.Kernel28Ideal.Gen.frame m g, fun m g _ => Cert.Kernel28Ideal.Gen.frame m g,
    fun m g _ => frame_latent_saved m g trivial, fun m g _ => frame_latent_saved m g trivial,
    fun m g _ => Cert.Kernel29.Gen.frame m g, fun m g _ => Cert.Kernel29Ideal.Gen.frame m g, Cert.Kernel29Ideal.Product.frame_reference,
    fun m g _ => Cert.Kernel30.Gen.frame m g, fun m g _ => Cert.Kernel30Ideal.Gen.frame m g, Cert.Kernel30Ideal.Product.frame_reference,
    fun m g _ => Cert.Kernel31.Gen.frame m g, fun m g _ => Cert.Kernel31Ideal.Gen.frame m g, Cert.Kernel31Ideal.Product.frame_reference,
    fun m g _ => Cert.Kernel32.Gen.frame m g, fun m g _ => Cert.Kernel32Ideal.Gen.frame m g, Cert.Kernel32Ideal.Product.frame_reference,
    fun m g _ => Cert.Kernel33.Gen.frame m g, fun m g _ => Cert.Kernel33Ideal.Gen.frame m g, Cert.Kernel33Ideal.Product.frame_reference,
    fun m g _ => Cert.Kernel34.Gen.frame m g, fun m g _ => Cert.Kernel34Ideal.Gen.frame m g, Cert.Kernel34Ideal.Product.frame_reference,
    fun m g _ => Cert.Kernel35.Gen.frame m g, fun m g _ => Cert.Kernel35Ideal.Gen.frame m g, Cert.Kernel35Ideal.Step.frame_reference,
    fun m g _ => Cert.Kernel36.Gen.frame m g, fun m g _ => Cert.Kernel36Ideal.Gen.frame m g, Cert.Kernel36Ideal.Step.frame_reference,
    fun m g _ => Cert.Kernel37.Gen.frame m g, fun m g _ => Cert.Kernel37Ideal.Gen.frame m g, Cert.Kernel37Ideal.Step.frame_reference,
    fun m g _ => Cert.Kernel38.Gen.frame m g, fun m g _ => Cert.Kernel38Ideal.Gen.frame m g, Cert.Kernel38Ideal.Step.frame_reference,
    fun m g _ => Cert.Kernel39.Gen.frame m g, fun m g _ => Cert.Kernel39Ideal.Gen.frame m g, Cert.Kernel39Ideal.Step.frame_reference,
    fun m g _ => Cert.Kernel40.Gen.frame m g, fun m g _ => Cert.Kernel40Ideal.Gen.frame m g, Cert.Kernel40Ideal.Step.frame_reference,
    fun m g _ => Cert.Kernel41.Gen.frame m g, fun m g _ => Cert.Kernel41Ideal.Gen.frame m g, Cert.Kernel41Ideal.Step.frame_reference,
    fun m g _ => Cert.Kernel42.Gen.frame m g, fun m g _ => Cert.Kernel42Ideal.Gen.frame m g, Cert.Kernel42Ideal.Step.frame_reference,
    fun m g _ => Cert.Kernel43.Gen.frame m g, fun m g _ => Cert.Kernel43Ideal.Gen.frame m g, Cert.Kernel43Ideal.Step.frame_reference,
    fun m g _ => Cert.Kernel44.Gen.frame m g, fun m g _ => Cert.Kernel44Ideal.Gen.frame m g, Cert.Kernel44Ideal.Step.frame_reference,
    fun m g _ => Cert.Kernel45.Gen.frame m g, fun m g _ => Cert.Kernel45Ideal.Gen.frame m g, Cert.Kernel45Ideal.Step.frame_reference,
    fun m g _ => Cert.Kernel46.Gen.frame m g, fun m g _ => Cert.Kernel46Ideal.Gen.frame m g, Cert.Kernel46Ideal.Step.frame_reference,
    fun m g _ => Cert.Kernel47.Gen.frame m g, fun m g _ => Cert.Kernel47Ideal.Gen.frame m g, Cert.Kernel47Ideal.Step.frame_reference,
    fun m g _ => Cert.Kernel48.Gen.frame m g, fun m g _ => Cert.Kernel48Ideal.Gen.frame m g, Cert.Kernel48Ideal.Step.frame_reference,
    fun m g _ => Cert.Kernel49.Gen.frame m g, fun m g _ => Cert.Kernel49Ideal.Gen.frame m g, Cert.Kernel49Ideal.Step.frame_reference,
    fun m g _ => Cert.Kernel50.Gen.frame m g, fun m g _ => Cert.Kernel50Ideal.Gen.frame m g, Cert.Kernel50Ideal.Step.frame_reference,
    fun m g _ => Cert.Kernel51.Gen.frame m g, fun m g _ => Cert.Kernel51Ideal.Gen.frame m g, Cert.Kernel51Ideal.Step.frame_reference,
    fun m g _ => Cert.Kernel52.Gen.frame m g, fun m g _ => Cert.Kernel52Ideal.Gen.frame m g, Cert.Kernel52Ideal.Step.frame_reference,
    fun m g _ => Cert.Kernel53.Gen.frame m g, fun m g _ => Cert.Kernel53Ideal.Gen.frame m g, Cert.Kernel53Ideal.Conv.frame_reference,
    fun m g _ => Cert.Kernel54.Gen.frame m g, fun m g _ => Cert.Kernel54Ideal.Gen.frame m g, Cert.Kernel54Ideal.Conv.frame_reference,
    preserves_backward, algebraic_backward, preserves_forward, algebraic_forward, trivial, Cert.Kernel3Ideal.Product.algebraic, trivial, Cert.Kernel4Ideal.Product.algebraic, trivial, Cert.Kernel5Ideal.Product.algebraic, trivial, Cert.Kernel6Ideal.Product.algebraic, trivial, Cert.Kernel7Ideal.Product.algebraic, trivial, Cert.Kernel8Ideal.Product.algebraic, trivial, Cert.Kernel9Ideal.Product.algebraic, trivial, Cert.Kernel10Ideal.Product.algebraic, trivial, Cert.Kernel11Ideal.Product.algebraic, trivial, Cert.Kernel12Ideal.Product.algebraic, trivial, Cert.Kernel13Ideal.Product.algebraic, trivial, Cert.Kernel14Ideal.Product.algebraic, trivial, Cert.Kernel15Ideal.Product.algebraic, trivial, Cert.Kernel16Ideal.Product.algebraic, trivial, Cert.Kernel17Ideal.Product.algebraic, trivial, Cert.Kernel18Ideal.Product.algebraic, trivial, Cert.Kernel19Ideal.Product.algebraic, trivial, Cert.Kernel20Ideal.Product.algebraic, trivial, Cert.Kernel21Ideal.Product.algebraic, trivial, Cert.Kernel22Ideal.Product.algebraic, trivial, Cert.Kernel23Ideal.Product.algebraic, trivial, Cert.Kernel24Ideal.Product.algebraic, trivial, Cert.Kernel25Ideal.Product.algebraic, trivial, Cert.Kernel26Ideal.Product.algebraic, preserves_latent, algebraic_latent, preserves_latent_forward, algebraic_latent_forward, trivial, Cert.Kernel29Ideal.Product.algebraic, trivial, Cert.Kernel30Ideal.Product.algebraic, trivial, Cert.Kernel31Ideal.Product.algebraic, trivial, Cert.Kernel32Ideal.Product.algebraic, trivial, Cert.Kernel33Ideal.Product.algebraic, trivial, Cert.Kernel34Ideal.Product.algebraic, trivial, Cert.Kernel35Ideal.Step.algebraic, trivial, Cert.Kernel36Ideal.Step.algebraic, trivial, Cert.Kernel37Ideal.Step.algebraic, trivial, Cert.Kernel38Ideal.Step.algebraic, trivial, Cert.Kernel39Ideal.Step.algebraic, trivial, Cert.Kernel40Ideal.Step.algebraic, trivial, Cert.Kernel41Ideal.Step.algebraic, trivial, Cert.Kernel42Ideal.Step.algebraic, trivial, Cert.Kernel43Ideal.Step.algebraic, trivial, Cert.Kernel44Ideal.Step.algebraic, trivial, Cert.Kernel45Ideal.Step.algebraic, trivial, Cert.Kernel46Ideal.Step.algebraic, trivial, Cert.Kernel47Ideal.Step.algebraic, trivial, Cert.Kernel48Ideal.Step.algebraic, trivial, Cert.Kernel49Ideal.Step.algebraic, trivial, Cert.Kernel50Ideal.Step.algebraic, trivial, Cert.Kernel51Ideal.Step.algebraic, trivial, Cert.Kernel52Ideal.Step.algebraic, trivial, Cert.Kernel53Ideal.Conv.algebraic, trivial, Cert.Kernel54Ideal.Conv.algebraic⟩

end Cert.Proof

end
